-- ==== Defs.lean ====
def Pre_DactK (m : (ℓ : Loc Cert.DactK.nD Cert.DactK.τ Cert.DactK.sig) → Buf (Elt Bits) ℓ) : Prop :=
  True

def Pre_DactKIdeal (m : (ℓ : Loc Cert.DactKIdeal.nD Cert.DactKIdeal.τ Cert.DactKIdeal.sig) → Buf (Elt Ideal) ℓ) : Prop :=
  True

def Pre_DactKIdeal_dact_finite [hPre_dact_finite : Cert.Pre_dact_finite.Facts] (m : (ℓ : Loc Cert.DactKIdeal.nD Cert.DactKIdeal.τ Cert.DactKIdeal.sig) → Buf (Elt Ideal) ℓ) : Prop :=
  ∀ c : Dev Cert.DactKIdeal.nD,
    (Cert.Pre_dact_finite.fn (F := Ideal) (m ((c.tc : Thread Cert.DactKIdeal.nD Cert.DactKIdeal.τ).loc Cert.DactKIdeal.main_arg0)) (m ((c.tc : Thread Cert.DactKIdeal.nD Cert.DactKIdeal.τ).loc Cert.DactKIdeal.main_arg1)) (m ((c.tc : Thread Cert.DactKIdeal.nD Cert.DactKIdeal.τ).loc Cert.DactKIdeal.main_arg2)) (m ((c.tc : Thread Cert.DactKIdeal.nD Cert.DactKIdeal.τ).loc Cert.DactKIdeal.main_arg3))) = (fun _ => 1#1)

def Pre_DactRIdeal (m : (ℓ : Loc Cert.DactRIdeal.nD Cert.DactRIdeal.τ Cert.DactRIdeal.sig) → Buf (Elt Ideal) ℓ) : Prop :=
  True

def Pre_DactRIdeal_dact_finite [hPre_dact_finite : Cert.Pre_dact_finite.Facts] (m : (ℓ : Loc Cert.DactRIdeal.nD Cert.DactRIdeal.τ Cert.DactRIdeal.sig) → Buf (Elt Ideal) ℓ) : Prop :=
  ∀ c : Dev Cert.DactRIdeal.nD,
    (Cert.Pre_dact_finite.fn (F := Ideal) (m ((c.tc : Thread Cert.DactRIdeal.nD Cert.DactRIdeal.τ).loc Cert.DactRIdeal.main_arg0)) (m ((c.tc : Thread Cert.DactRIdeal.nD Cert.DactRIdeal.τ).loc Cert.DactRIdeal.main_arg1)) (m ((c.tc : Thread Cert.DactRIdeal.nD Cert.DactRIdeal.τ).loc Cert.DactRIdeal.main_arg2)) (m ((c.tc : Thread Cert.DactRIdeal.nD Cert.DactRIdeal.τ).loc Cert.DactRIdeal.main_arg3))) = (fun _ => 1#1)

def Pre_ConvK (m : (ℓ : Loc Cert.ConvK.nD Cert.ConvK.τ Cert.ConvK.sig) → Buf (Elt Bits) ℓ) : Prop :=
  True

def Pre_ConvKIdeal (m : (ℓ : Loc Cert.ConvKIdeal.nD Cert.ConvKIdeal.τ Cert.ConvKIdeal.sig) → Buf (Elt Ideal) ℓ) : Prop :=
  True

def Pre_ConvRIdeal (m : (ℓ : Loc Cert.ConvRIdeal.nD Cert.ConvRIdeal.τ Cert.ConvRIdeal.sig) → Buf (Elt Ideal) ℓ) : Prop :=
  True

def Pre_AttbK (m : (ℓ : Loc Cert.AttbK.nD Cert.AttbK.τ Cert.AttbK.sig) → Buf (Elt Bits) ℓ) : Prop :=
  True

def Pre_AttbKIdeal (m : (ℓ : Loc Cert.AttbKIdeal.nD Cert.AttbKIdeal.τ Cert.AttbKIdeal.sig) → Buf (Elt Ideal) ℓ) : Prop :=
  True

def Pre_AttbKIdeal_attb_finite [hPre_attb_finite : Cert.Pre_attb_finite.Facts] (m : (ℓ : Loc Cert.AttbKIdeal.nD Cert.AttbKIdeal.τ Cert.AttbKIdeal.sig) → Buf (Elt Ideal) ℓ) : Prop :=
  ∀ c : Dev Cert.AttbKIdeal.nD,
    (Cert.Pre_attb_finite.fn (F := Ideal) (m ((c.tc : Thread Cert.AttbKIdeal.nD Cert.AttbKIdeal.τ).loc Cert.AttbKIdeal.main_arg0)) (m ((c.tc : Thread Cert.AttbKIdeal.nD Cert.AttbKIdeal.τ).loc Cert.AttbKIdeal.main_arg1)) (m ((c.tc : Thread Cert.AttbKIdeal.nD Cert.AttbKIdeal.τ).loc Cert.AttbKIdeal.main_arg2)) (m ((c.tc : Thread Cert.AttbKIdeal.nD Cert.AttbKIdeal.τ).loc Cert.AttbKIdeal.main_arg3))) = (fun _ => 1#1)

def Pre_AttbRIdeal (m : (ℓ : Loc Cert.AttbRIdeal.nD Cert.AttbRIdeal.τ Cert.AttbRIdeal.sig) → Buf (Elt Ideal) ℓ) : Prop :=
  True

def Pre_AttbRIdeal_attb_finite [hPre_attb_finite : Cert.Pre_attb_finite.Facts] (m : (ℓ : Loc Cert.AttbRIdeal.nD Cert.AttbRIdeal.τ Cert.AttbRIdeal.sig) → Buf (Elt Ideal) ℓ) : Prop :=
  ∀ c : Dev Cert.AttbRIdeal.nD,
    (Cert.Pre_attb_finite.fn (F := Ideal) (m ((c.tc : Thread Cert.AttbRIdeal.nD Cert.AttbRIdeal.τ).loc Cert.AttbRIdeal.main_arg0)) (m ((c.tc : Thread Cert.AttbRIdeal.nD Cert.AttbRIdeal.τ).loc Cert.AttbRIdeal.main_arg1)) (m ((c.tc : Thread Cert.AttbRIdeal.nD Cert.AttbRIdeal.τ).loc Cert.AttbRIdeal.main_arg2)) (m ((c.tc : Thread Cert.AttbRIdeal.nD Cert.AttbRIdeal.τ).loc Cert.AttbRIdeal.main_arg3))) = (fun _ => 1#1)

def Pre_DwoutK (m : (ℓ : Loc Cert.DwoutK.nD Cert.DwoutK.τ Cert.DwoutK.sig) → Buf (Elt Bits) ℓ) : Prop :=
  True

def Pre_DwoutKIdeal (m : (ℓ : Loc Cert.DwoutKIdeal.nD Cert.DwoutKIdeal.τ Cert.DwoutKIdeal.sig) → Buf (Elt Ideal) ℓ) : Prop :=
  True

def Pre_DwoutRIdeal (m : (ℓ : Loc Cert.DwoutRIdeal.nD Cert.DwoutRIdeal.τ Cert.DwoutRIdeal.sig) → Buf (Elt Ideal) ℓ) : Prop :=
  True

def Pre_LossK (m : (ℓ : Loc Cert.LossK.nD Cert.LossK.τ Cert.LossK.sig) → Buf (Elt Bits) ℓ) : Prop :=
  True

def Pre_LossKIdeal (m : (ℓ : Loc Cert.LossKIdeal.nD Cert.LossKIdeal.τ Cert.LossKIdeal.sig) → Buf (Elt Ideal) ℓ) : Prop :=
  True

def Pre_LossKIdeal_loss_finite [hPre_loss_finite : Cert.Pre_loss_finite.Facts] (m : (ℓ : Loc Cert.LossKIdeal.nD Cert.LossKIdeal.τ Cert.LossKIdeal.sig) → Buf (Elt Ideal) ℓ) : Prop :=
  ∀ c : Dev Cert.LossKIdeal.nD,
    (Cert.Pre_loss_finite.fn (F := Ideal) (m ((c.tc : Thread Cert.LossKIdeal.nD Cert.LossKIdeal.τ).loc Cert.LossKIdeal.main_arg0)) (m ((c.tc : Thread Cert.LossKIdeal.nD Cert.LossKIdeal.τ).loc Cert.LossKIdeal.main_arg1)) (m ((c.tc : Thread Cert.LossKIdeal.nD Cert.LossKIdeal.τ).loc Cert.LossKIdeal.main_arg2))) = (fun _ => 1#1)

def Pre_LossRIdeal (m : (ℓ : Loc Cert.LossRIdeal.nD Cert.LossRIdeal.τ Cert.LossRIdeal.sig) → Buf (Elt Ideal) ℓ) : Prop :=
  True

def Pre_LossRIdeal_loss_finite [hPre_loss_finite : Cert.Pre_loss_finite.Facts] (m : (ℓ : Loc Cert.LossRIdeal.nD Cert.LossRIdeal.τ Cert.LossRIdeal.sig) → Buf (Elt Ideal) ℓ) : Prop :=
  ∀ c : Dev Cert.LossRIdeal.nD,
    (Cert.Pre_loss_finite.fn (F := Ideal) (m ((c.tc : Thread Cert.LossRIdeal.nD Cert.LossRIdeal.τ).loc Cert.LossRIdeal.main_arg0)) (m ((c.tc : Thread Cert.LossRIdeal.nD Cert.LossRIdeal.τ).loc Cert.LossRIdeal.main_arg1)) (m ((c.tc : Thread Cert.LossRIdeal.nD Cert.LossRIdeal.τ).loc Cert.LossRIdeal.main_arg2))) = (fun _ => 1#1)

def Pre_FfndhK (m : (ℓ : Loc Cert.FfndhK.nD Cert.FfndhK.τ Cert.FfndhK.sig) → Buf (Elt Bits) ℓ) : Prop :=
  True

def Pre_FfndhKIdeal (m : (ℓ : Loc Cert.FfndhKIdeal.nD Cert.FfndhKIdeal.τ Cert.FfndhKIdeal.sig) → Buf (Elt Ideal) ℓ) : Prop :=
  True

def Pre_FfndhKIdeal_ffndh_finite [hPre_ffndh_finite : Cert.Pre_ffndh_finite.Facts] (m : (ℓ : Loc Cert.FfndhKIdeal.nD Cert.FfndhKIdeal.τ Cert.FfndhKIdeal.sig) → Buf (Elt Ideal) ℓ) : Prop :=
  ∀ c : Dev Cert.FfndhKIdeal.nD,
    (Cert.Pre_ffndh_finite.fn (F := Ideal) (m ((c.tc : Thread Cert.FfndhKIdeal.nD Cert.FfndhKIdeal.τ).loc Cert.FfndhKIdeal.main_arg0)) (m ((c.tc : Thread Cert.FfndhKIdeal.nD Cert.FfndhKIdeal.τ).loc Cert.FfndhKIdeal.main_arg1)) (m ((c.tc : Thread Cert.FfndhKIdeal.nD Cert.FfndhKIdeal.τ).loc Cert.FfndhKIdeal.main_arg2)) (m ((c.tc : Thread Cert.FfndhKIdeal.nD Cert.FfndhKIdeal.τ).loc Cert.FfndhKIdeal.main_arg3)) (m ((c.tc : Thread Cert.FfndhKIdeal.nD Cert.FfndhKIdeal.τ).loc Cert.FfndhKIdeal.main_arg4))) = (fun _ => 1#1)

def Pre_FfndhRIdeal (m : (ℓ : Loc Cert.FfndhRIdeal.nD Cert.FfndhRIdeal.τ Cert.FfndhRIdeal.sig) → Buf (Elt Ideal) ℓ) : Prop :=
  True

def Pre_FfndhRIdeal_ffndh_finite [hPre_ffndh_finite : Cert.Pre_ffndh_finite.Facts] (m : (ℓ : Loc Cert.FfndhRIdeal.nD Cert.FfndhRIdeal.τ Cert.FfndhRIdeal.sig) → Buf (Elt Ideal) ℓ) : Prop :=
  ∀ c : Dev Cert.FfndhRIdeal.nD,
    (Cert.Pre_ffndh_finite.fn (F := Ideal) (m ((c.tc : Thread Cert.FfndhRIdeal.nD Cert.FfndhRIdeal.τ).loc Cert.FfndhRIdeal.main_arg0)) (m ((c.tc : Thread Cert.FfndhRIdeal.nD Cert.FfndhRIdeal.τ).loc Cert.FfndhRIdeal.main_arg1)) (m ((c.tc : Thread Cert.FfndhRIdeal.nD Cert.FfndhRIdeal.τ).loc Cert.FfndhRIdeal.main_arg2)) (m ((c.tc : Thread Cert.FfndhRIdeal.nD Cert.FfndhRIdeal.τ).loc Cert.FfndhRIdeal.main_arg3)) (m ((c.tc : Thread Cert.FfndhRIdeal.nD Cert.FfndhRIdeal.τ).loc Cert.FfndhRIdeal.main_arg4))) = (fun _ => 1#1)

def Pre_EvdhK (m : (ℓ : Loc Cert.EvdhK.nD Cert.EvdhK.τ Cert.EvdhK.sig) → Buf (Elt Bits) ℓ) : Prop :=
  True

def Pre_EvdhKIdeal (m : (ℓ : Loc Cert.EvdhKIdeal.nD Cert.EvdhKIdeal.τ Cert.EvdhKIdeal.sig) → Buf (Elt Ideal) ℓ) : Prop :=
  True

def Pre_EvdhKIdeal_evdh_finite [hPre_evdh_finite : Cert.Pre_evdh_finite.Facts] (m : (ℓ : Loc Cert.EvdhKIdeal.nD Cert.EvdhKIdeal.τ Cert.EvdhKIdeal.sig) → Buf (Elt Ideal) ℓ) : Prop :=
  ∀ c : Dev Cert.EvdhKIdeal.nD,
    (Cert.Pre_evdh_finite.fn (F := Ideal) (m ((c.tc : Thread Cert.EvdhKIdeal.nD Cert.EvdhKIdeal.τ).loc Cert.EvdhKIdeal.main_arg0)) (m ((c.tc : Thread Cert.EvdhKIdeal.nD Cert.EvdhKIdeal.τ).loc Cert.EvdhKIdeal.main_arg1)) (m ((c.tc : Thread Cert.EvdhKIdeal.nD Cert.EvdhKIdeal.τ).loc Cert.EvdhKIdeal.main_arg2)) (m ((c.tc : Thread Cert.EvdhKIdeal.nD Cert.EvdhKIdeal.τ).loc Cert.EvdhKIdeal.main_arg3)) (m ((c.tc : Thread Cert.EvdhKIdeal.nD Cert.EvdhKIdeal.τ).loc Cert.EvdhKIdeal.main_arg4)) (m ((c.tc : Thread Cert.EvdhKIdeal.nD Cert.EvdhKIdeal.τ).loc Cert.EvdhKIdeal.main_arg5)) (m ((c.tc : Thread Cert.EvdhKIdeal.nD Cert.EvdhKIdeal.τ).loc Cert.EvdhKIdeal.main_arg6)) (m ((c.tc : Thread Cert.EvdhKIdeal.nD Cert.EvdhKIdeal.τ).loc Cert.EvdhKIdeal.main_arg7)) (m ((c.tc : Thread Cert.EvdhKIdeal.nD Cert.EvdhKIdeal.τ).loc Cert.EvdhKIdeal.main_arg8)) (m ((c.tc : Thread Cert.EvdhKIdeal.nD Cert.EvdhKIdeal.τ).loc Cert.EvdhKIdeal.main_arg9))) = (fun _ => 1#1)

def Pre_EvdhRIdeal (m : (ℓ : Loc Cert.EvdhRIdeal.nD Cert.EvdhRIdeal.τ Cert.EvdhRIdeal.sig) → Buf (Elt Ideal) ℓ) : Prop :=
  True

def Pre_EvdhRIdeal_evdh_finite [hPre_evdh_finite : Cert.Pre_evdh_finite.Facts] (m : (ℓ : Loc Cert.EvdhRIdeal.nD Cert.EvdhRIdeal.τ Cert.EvdhRIdeal.sig) → Buf (Elt Ideal) ℓ) : Prop :=
  ∀ c : Dev Cert.EvdhRIdeal.nD,
    (Cert.Pre_evdh_finite.fn (F := Ideal) (m ((c.tc : Thread Cert.EvdhRIdeal.nD Cert.EvdhRIdeal.τ).loc Cert.EvdhRIdeal.main_arg0)) (m ((c.tc : Thread Cert.EvdhRIdeal.nD Cert.EvdhRIdeal.τ).loc Cert.EvdhRIdeal.main_arg1)) (m ((c.tc : Thread Cert.EvdhRIdeal.nD Cert.EvdhRIdeal.τ).loc Cert.EvdhRIdeal.main_arg2)) (m ((c.tc : Thread Cert.EvdhRIdeal.nD Cert.EvdhRIdeal.τ).loc Cert.EvdhRIdeal.main_arg3)) (m ((c.tc : Thread Cert.EvdhRIdeal.nD Cert.EvdhRIdeal.τ).loc Cert.EvdhRIdeal.main_arg4)) (m ((c.tc : Thread Cert.EvdhRIdeal.nD Cert.EvdhRIdeal.τ).loc Cert.EvdhRIdeal.main_arg5)) (m ((c.tc : Thread Cert.EvdhRIdeal.nD Cert.EvdhRIdeal.τ).loc Cert.EvdhRIdeal.main_arg6)) (m ((c.tc : Thread Cert.EvdhRIdeal.nD Cert.EvdhRIdeal.τ).loc Cert.EvdhRIdeal.main_arg7)) (m ((c.tc : Thread Cert.EvdhRIdeal.nD Cert.EvdhRIdeal.τ).loc Cert.EvdhRIdeal.main_arg8)) (m ((c.tc : Thread Cert.EvdhRIdeal.nD Cert.EvdhRIdeal.τ).loc Cert.EvdhRIdeal.main_arg9))) = (fun _ => 1#1)

def Pre_OddhK (m : (ℓ : Loc Cert.OddhK.nD Cert.OddhK.τ Cert.OddhK.sig) → Buf (Elt Bits) ℓ) : Prop :=
  True

def Pre_OddhKIdeal (m : (ℓ : Loc Cert.OddhKIdeal.nD Cert.OddhKIdeal.τ Cert.OddhKIdeal.sig) → Buf (Elt Ideal) ℓ) : Prop :=
  True

def Pre_OddhKIdeal_oddh_finite [hPre_oddh_finite : Cert.Pre_oddh_finite.Facts] (m : (ℓ : Loc Cert.OddhKIdeal.nD Cert.OddhKIdeal.τ Cert.OddhKIdeal.sig) → Buf (Elt Ideal) ℓ) : Prop :=
  ∀ c : Dev Cert.OddhKIdeal.nD,
    (Cert.Pre_oddh_finite.fn (F := Ideal) (m ((c.tc : Thread Cert.OddhKIdeal.nD Cert.OddhKIdeal.τ).loc Cert.OddhKIdeal.main_arg0)) (m ((c.tc : Thread Cert.OddhKIdeal.nD Cert.OddhKIdeal.τ).loc Cert.OddhKIdeal.main_arg1)) (m ((c.tc : Thread Cert.OddhKIdeal.nD Cert.OddhKIdeal.τ).loc Cert.OddhKIdeal.main_arg2)) (m ((c.tc : Thread Cert.OddhKIdeal.nD Cert.OddhKIdeal.τ).loc Cert.OddhKIdeal.main_arg3)) (m ((c.tc : Thread Cert.OddhKIdeal.nD Cert.OddhKIdeal.τ).loc Cert.OddhKIdeal.main_arg4))) = (fun _ => 1#1)

def Pre_OddhRIdeal (m : (ℓ : Loc Cert.OddhRIdeal.nD Cert.OddhRIdeal.τ Cert.OddhRIdeal.sig) → Buf (Elt Ideal) ℓ) : Prop :=
  True

def Pre_OddhRIdeal_oddh_finite [hPre_oddh_finite : Cert.Pre_oddh_finite.Facts] (m : (ℓ : Loc Cert.OddhRIdeal.nD Cert.OddhRIdeal.τ Cert.OddhRIdeal.sig) → Buf (Elt Ideal) ℓ) : Prop :=
  ∀ c : Dev Cert.OddhRIdeal.nD,
    (Cert.Pre_oddh_finite.fn (F := Ideal) (m ((c.tc : Thread Cert.OddhRIdeal.nD Cert.OddhRIdeal.τ).loc Cert.OddhRIdeal.main_arg0)) (m ((c.tc : Thread Cert.OddhRIdeal.nD Cert.OddhRIdeal.τ).loc Cert.OddhRIdeal.main_arg1)) (m ((c.tc : Thread Cert.OddhRIdeal.nD Cert.OddhRIdeal.τ).loc Cert.OddhRIdeal.main_arg2)) (m ((c.tc : Thread Cert.OddhRIdeal.nD Cert.OddhRIdeal.τ).loc Cert.OddhRIdeal.main_arg3)) (m ((c.tc : Thread Cert.OddhRIdeal.nD Cert.OddhRIdeal.τ).loc Cert.OddhRIdeal.main_arg4))) = (fun _ => 1#1)

def Pre_QkbK (m : (ℓ : Loc Cert.QkbK.nD Cert.QkbK.τ Cert.QkbK.sig) → Buf (Elt Bits) ℓ) : Prop :=
  True

def Pre_QkbKIdeal (m : (ℓ : Loc Cert.QkbKIdeal.nD Cert.QkbKIdeal.τ Cert.QkbKIdeal.sig) → Buf (Elt Ideal) ℓ) : Prop :=
  True

def Pre_QkbKIdeal_qkb_finite [hPre_qkb_finite : Cert.Pre_qkb_finite.Facts] (m : (ℓ : Loc Cert.QkbKIdeal.nD Cert.QkbKIdeal.τ Cert.QkbKIdeal.sig) → Buf (Elt Ideal) ℓ) : Prop :=
  ∀ c : Dev Cert.QkbKIdeal.nD,
    (Cert.Pre_qkb_finite.fn (F := Ideal) (m ((c.tc : Thread Cert.QkbKIdeal.nD Cert.QkbKIdeal.τ).loc Cert.QkbKIdeal.main_arg0)) (m ((c.tc : Thread Cert.QkbKIdeal.nD Cert.QkbKIdeal.τ).loc Cert.QkbKIdeal.main_arg1)) (m ((c.tc : Thread Cert.QkbKIdeal.nD Cert.QkbKIdeal.τ).loc Cert.QkbKIdeal.main_arg2)) (m ((c.tc : Thread Cert.QkbKIdeal.nD Cert.QkbKIdeal.τ).loc Cert.QkbKIdeal.main_arg3)) (m ((c.tc : Thread Cert.QkbKIdeal.nD Cert.QkbKIdeal.τ).loc Cert.QkbKIdeal.main_arg4))) = (fun _ => 1#1)

def Pre_QkbRIdeal (m : (ℓ : Loc Cert.QkbRIdeal.nD Cert.QkbRIdeal.τ Cert.QkbRIdeal.sig) → Buf (Elt Ideal) ℓ) : Prop :=
  True

def Pre_QkbRIdeal_qkb_finite [hPre_qkb_finite : Cert.Pre_qkb_finite.Facts] (m : (ℓ : Loc Cert.QkbRIdeal.nD Cert.QkbRIdeal.τ Cert.QkbRIdeal.sig) → Buf (Elt Ideal) ℓ) : Prop :=
  ∀ c : Dev Cert.QkbRIdeal.nD,
    (Cert.Pre_qkb_finite.fn (F := Ideal) (m ((c.tc : Thread Cert.QkbRIdeal.nD Cert.QkbRIdeal.τ).loc Cert.QkbRIdeal.main_arg0)) (m ((c.tc : Thread Cert.QkbRIdeal.nD Cert.QkbRIdeal.τ).loc Cert.QkbRIdeal.main_arg1)) (m ((c.tc : Thread Cert.QkbRIdeal.nD Cert.QkbRIdeal.τ).loc Cert.QkbRIdeal.main_arg2)) (m ((c.tc : Thread Cert.QkbRIdeal.nD Cert.QkbRIdeal.τ).loc Cert.QkbRIdeal.main_arg3)) (m ((c.tc : Thread Cert.QkbRIdeal.nD Cert.QkbRIdeal.τ).loc Cert.QkbRIdeal.main_arg4))) = (fun _ => 1#1)

def Pre_AttfK (m : (ℓ : Loc Cert.AttfK.nD Cert.AttfK.τ Cert.AttfK.sig) → Buf (Elt Bits) ℓ) : Prop :=
  True

def Pre_AttfKIdeal (m : (ℓ : Loc Cert.AttfKIdeal.nD Cert.AttfKIdeal.τ Cert.AttfKIdeal.sig) → Buf (Elt Ideal) ℓ) : Prop :=
  True

def Pre_AttfKIdeal_attf_finite [hPre_attf_finite : Cert.Pre_attf_finite.Facts] (m : (ℓ : Loc Cert.AttfKIdeal.nD Cert.AttfKIdeal.τ Cert.AttfKIdeal.sig) → Buf (Elt Ideal) ℓ) : Prop :=
  ∀ c : Dev Cert.AttfKIdeal.nD,
    (Cert.Pre_attf_finite.fn (F := Ideal) (m ((c.tc : Thread Cert.AttfKIdeal.nD Cert.AttfKIdeal.τ).loc Cert.AttfKIdeal.main_arg0)) (m ((c.tc : Thread Cert.AttfKIdeal.nD Cert.AttfKIdeal.τ).loc Cert.AttfKIdeal.main_arg1)) (m ((c.tc : Thread Cert.AttfKIdeal.nD Cert.AttfKIdeal.τ).loc Cert.AttfKIdeal.main_arg2))) = (fun _ => 1#1)

def Pre_AttfRIdeal (m : (ℓ : Loc Cert.AttfRIdeal.nD Cert.AttfRIdeal.τ Cert.AttfRIdeal.sig) → Buf (Elt Ideal) ℓ) : Prop :=
  True

def Pre_AttfRIdeal_attf_finite [hPre_attf_finite : Cert.Pre_attf_finite.Facts] (m : (ℓ : Loc Cert.AttfRIdeal.nD Cert.AttfRIdeal.τ Cert.AttfRIdeal.sig) → Buf (Elt Ideal) ℓ) : Prop :=
  ∀ c : Dev Cert.AttfRIdeal.nD,
    (Cert.Pre_attf_finite.fn (F := Ideal) (m ((c.tc : Thread Cert.AttfRIdeal.nD Cert.AttfRIdeal.τ).loc Cert.AttfRIdeal.main_arg0)) (m ((c.tc : Thread Cert.AttfRIdeal.nD Cert.AttfRIdeal.τ).loc Cert.AttfRIdeal.main_arg1)) (m ((c.tc : Thread Cert.AttfRIdeal.nD Cert.AttfRIdeal.τ).loc Cert.AttfRIdeal.main_arg2))) = (fun _ => 1#1)

def Pre_ConvfK (m : (ℓ : Loc Cert.ConvfK.nD Cert.ConvfK.τ Cert.ConvfK.sig) → Buf (Elt Bits) ℓ) : Prop :=
  True

def Pre_ConvfKIdeal (m : (ℓ : Loc Cert.ConvfKIdeal.nD Cert.ConvfKIdeal.τ Cert.ConvfKIdeal.sig) → Buf (Elt Ideal) ℓ) : Prop :=
  True

def Pre_ConvfRIdeal (m : (ℓ : Loc Cert.ConvfRIdeal.nD Cert.ConvfRIdeal.τ Cert.ConvfRIdeal.sig) → Buf (Elt Ideal) ℓ) : Prop :=
  True

def Pre_FfninK (m : (ℓ : Loc Cert.FfninK.nD Cert.FfninK.τ Cert.FfninK.sig) → Buf (Elt Bits) ℓ) : Prop :=
  True

def Pre_FfninKIdeal (m : (ℓ : Loc Cert.FfninKIdeal.nD Cert.FfninKIdeal.τ Cert.FfninKIdeal.sig) → Buf (Elt Ideal) ℓ) : Prop :=
  True

def Pre_FfninRIdeal (m : (ℓ : Loc Cert.FfninRIdeal.nD Cert.FfninRIdeal.τ Cert.FfninRIdeal.sig) → Buf (Elt Ideal) ℓ) : Prop :=
  True

def Pre_FfnoutK (m : (ℓ : Loc Cert.FfnoutK.nD Cert.FfnoutK.τ Cert.FfnoutK.sig) → Buf (Elt Bits) ℓ) : Prop :=
  True

def Pre_FfnoutKIdeal (m : (ℓ : Loc Cert.FfnoutKIdeal.nD Cert.FfnoutKIdeal.τ Cert.FfnoutKIdeal.sig) → Buf (Elt Ideal) ℓ) : Prop :=
  True

def Pre_FfnoutRIdeal (m : (ℓ : Loc Cert.FfnoutRIdeal.nD Cert.FfnoutRIdeal.τ Cert.FfnoutRIdeal.sig) → Buf (Elt Ideal) ℓ) : Prop :=
  True

def Pre_RmsfK (m : (ℓ : Loc Cert.RmsfK.nD Cert.RmsfK.τ Cert.RmsfK.sig) → Buf (Elt Bits) ℓ) : Prop :=
  True

def Pre_RmsfKIdeal (m : (ℓ : Loc Cert.RmsfKIdeal.nD Cert.RmsfKIdeal.τ Cert.RmsfKIdeal.sig) → Buf (Elt Ideal) ℓ) : Prop :=
  True

def Pre_RmsfRIdeal (m : (ℓ : Loc Cert.RmsfRIdeal.nD Cert.RmsfRIdeal.τ Cert.RmsfRIdeal.sig) → Buf (Elt Ideal) ℓ) : Prop :=
  True

def Pre_QkfK (m : (ℓ : Loc Cert.QkfK.nD Cert.QkfK.τ Cert.QkfK.sig) → Buf (Elt Bits) ℓ) : Prop :=
  True

def Pre_QkfKIdeal (m : (ℓ : Loc Cert.QkfKIdeal.nD Cert.QkfKIdeal.τ Cert.QkfKIdeal.sig) → Buf (Elt Ideal) ℓ) : Prop :=
  True

def Pre_QkfKIdeal_qkf_finite [hPre_qkf_finite : Cert.Pre_qkf_finite.Facts] (m : (ℓ : Loc Cert.QkfKIdeal.nD Cert.QkfKIdeal.τ Cert.QkfKIdeal.sig) → Buf (Elt Ideal) ℓ) : Prop :=
  ∀ c : Dev Cert.QkfKIdeal.nD,
    (Cert.Pre_qkf_finite.fn (F := Ideal) (m ((c.tc : Thread Cert.QkfKIdeal.nD Cert.QkfKIdeal.τ).loc Cert.QkfKIdeal.main_arg0)) (m ((c.tc : Thread Cert.QkfKIdeal.nD Cert.QkfKIdeal.τ).loc Cert.QkfKIdeal.main_arg1)) (m ((c.tc : Thread Cert.QkfKIdeal.nD Cert.QkfKIdeal.τ).loc Cert.QkfKIdeal.main_arg2))) = (fun _ => 1#1)

def Pre_QkfRIdeal (m : (ℓ : Loc Cert.QkfRIdeal.nD Cert.QkfRIdeal.τ Cert.QkfRIdeal.sig) → Buf (Elt Ideal) ℓ) : Prop :=
  True

def Pre_QkfRIdeal_qkf_finite [hPre_qkf_finite : Cert.Pre_qkf_finite.Facts] (m : (ℓ : Loc Cert.QkfRIdeal.nD Cert.QkfRIdeal.τ Cert.QkfRIdeal.sig) → Buf (Elt Ideal) ℓ) : Prop :=
  ∀ c : Dev Cert.QkfRIdeal.nD,
    (Cert.Pre_qkf_finite.fn (F := Ideal) (m ((c.tc : Thread Cert.QkfRIdeal.nD Cert.QkfRIdeal.τ).loc Cert.QkfRIdeal.main_arg0)) (m ((c.tc : Thread Cert.QkfRIdeal.nD Cert.QkfRIdeal.τ).loc Cert.QkfRIdeal.main_arg1)) (m ((c.tc : Thread Cert.QkfRIdeal.nD Cert.QkfRIdeal.τ).loc Cert.QkfRIdeal.main_arg2))) = (fun _ => 1#1)

def Pre_PinK (m : (ℓ : Loc Cert.PinK.nD Cert.PinK.τ Cert.PinK.sig) → Buf (Elt Bits) ℓ) : Prop :=
  True

def Pre_PinKIdeal (m : (ℓ : Loc Cert.PinKIdeal.nD Cert.PinKIdeal.τ Cert.PinKIdeal.sig) → Buf (Elt Ideal) ℓ) : Prop :=
  True

def Pre_PinRIdeal (m : (ℓ : Loc Cert.PinRIdeal.nD Cert.PinRIdeal.τ Cert.PinRIdeal.sig) → Buf (Elt Ideal) ℓ) : Prop :=
  True

def Pre_PoutK (m : (ℓ : Loc Cert.PoutK.nD Cert.PoutK.τ Cert.PoutK.sig) → Buf (Elt Bits) ℓ) : Prop :=
  True

def Pre_PoutKIdeal (m : (ℓ : Loc Cert.PoutKIdeal.nD Cert.PoutKIdeal.τ Cert.PoutKIdeal.sig) → Buf (Elt Ideal) ℓ) : Prop :=
  True

def Pre_PoutRIdeal (m : (ℓ : Loc Cert.PoutRIdeal.nD Cert.PoutRIdeal.τ Cert.PoutRIdeal.sig) → Buf (Elt Ideal) ℓ) : Prop :=
  True

def Pre_DmixK (m : (ℓ : Loc Cert.DmixK.nD Cert.DmixK.τ Cert.DmixK.sig) → Buf (Elt Bits) ℓ) : Prop :=
  True

def Pre_DmixKIdeal (m : (ℓ : Loc Cert.DmixKIdeal.nD Cert.DmixKIdeal.τ Cert.DmixKIdeal.sig) → Buf (Elt Ideal) ℓ) : Prop :=
  True

def Pre_DmixRIdeal (m : (ℓ : Loc Cert.DmixRIdeal.nD Cert.DmixRIdeal.τ Cert.DmixRIdeal.sig) → Buf (Elt Ideal) ℓ) : Prop :=
  True

def Pre_MdwK (m : (ℓ : Loc Cert.MdwK.nD Cert.MdwK.τ Cert.MdwK.sig) → Buf (Elt Bits) ℓ) : Prop :=
  True

def Pre_MdwKIdeal (m : (ℓ : Loc Cert.MdwKIdeal.nD Cert.MdwKIdeal.τ Cert.MdwKIdeal.sig) → Buf (Elt Ideal) ℓ) : Prop :=
  True

def Pre_MdwRIdeal (m : (ℓ : Loc Cert.MdwRIdeal.nD Cert.MdwRIdeal.τ Cert.MdwRIdeal.sig) → Buf (Elt Ideal) ℓ) : Prop :=
  True

def Pre_MdwinK (m : (ℓ : Loc Cert.MdwinK.nD Cert.MdwinK.τ Cert.MdwinK.sig) → Buf (Elt Bits) ℓ) : Prop :=
  True

def Pre_MdwinKIdeal (m : (ℓ : Loc Cert.MdwinKIdeal.nD Cert.MdwinKIdeal.τ Cert.MdwinKIdeal.sig) → Buf (Elt Ideal) ℓ) : Prop :=
  True

def Pre_MdwinRIdeal (m : (ℓ : Loc Cert.MdwinRIdeal.nD Cert.MdwinRIdeal.τ Cert.MdwinRIdeal.sig) → Buf (Elt Ideal) ℓ) : Prop :=
  True

def Pre_FdwinK (m : (ℓ : Loc Cert.FdwinK.nD Cert.FdwinK.τ Cert.FdwinK.sig) → Buf (Elt Bits) ℓ) : Prop :=
  True

def Pre_FdwinKIdeal (m : (ℓ : Loc Cert.FdwinKIdeal.nD Cert.FdwinKIdeal.τ Cert.FdwinKIdeal.sig) → Buf (Elt Ideal) ℓ) : Prop :=
  True

def Pre_FdwinRIdeal (m : (ℓ : Loc Cert.FdwinRIdeal.nD Cert.FdwinRIdeal.τ Cert.FdwinRIdeal.sig) → Buf (Elt Ideal) ℓ) : Prop :=
  True

def Pre_OddfK (m : (ℓ : Loc Cert.OddfK.nD Cert.OddfK.τ Cert.OddfK.sig) → Buf (Elt Bits) ℓ) : Prop :=
  True

def Pre_OddfKIdeal (m : (ℓ : Loc Cert.OddfKIdeal.nD Cert.OddfKIdeal.τ Cert.OddfKIdeal.sig) → Buf (Elt Ideal) ℓ) : Prop :=
  True

def Pre_OddfRIdeal (m : (ℓ : Loc Cert.OddfRIdeal.nD Cert.OddfRIdeal.τ Cert.OddfRIdeal.sig) → Buf (Elt Ideal) ℓ) : Prop :=
  True

def Pre_OddbK (m : (ℓ : Loc Cert.OddbK.nD Cert.OddbK.τ Cert.OddbK.sig) → Buf (Elt Bits) ℓ) : Prop :=
  True

def Pre_OddbKIdeal (m : (ℓ : Loc Cert.OddbKIdeal.nD Cert.OddbKIdeal.τ Cert.OddbKIdeal.sig) → Buf (Elt Ideal) ℓ) : Prop :=
  True

def Pre_OddbRIdeal (m : (ℓ : Loc Cert.OddbRIdeal.nD Cert.OddbRIdeal.τ Cert.OddbRIdeal.sig) → Buf (Elt Ideal) ℓ) : Prop :=
  True

def Pre_AdamK (m : (ℓ : Loc Cert.AdamK.nD Cert.AdamK.τ Cert.AdamK.sig) → Buf (Elt Bits) ℓ) : Prop :=
  True

def Pre_AdamKIdeal (m : (ℓ : Loc Cert.AdamKIdeal.nD Cert.AdamKIdeal.τ Cert.AdamKIdeal.sig) → Buf (Elt Ideal) ℓ) : Prop :=
  True

def Pre_AdamRIdeal (m : (ℓ : Loc Cert.AdamRIdeal.nD Cert.AdamRIdeal.τ Cert.AdamRIdeal.sig) → Buf (Elt Ideal) ℓ) : Prop :=
  True

def Pre_AddsK (m : (ℓ : Loc Cert.AddsK.nD Cert.AddsK.τ Cert.AddsK.sig) → Buf (Elt Bits) ℓ) : Prop :=
  True

def Pre_AddsKIdeal (m : (ℓ : Loc Cert.AddsKIdeal.nD Cert.AddsKIdeal.τ Cert.AddsKIdeal.sig) → Buf (Elt Ideal) ℓ) : Prop :=
  True

def Pre_AddsRIdeal (m : (ℓ : Loc Cert.AddsRIdeal.nD Cert.AddsRIdeal.τ Cert.AddsRIdeal.sig) → Buf (Elt Ideal) ℓ) : Prop :=
  True

def Pre_AddcK (m : (ℓ : Loc Cert.AddcK.nD Cert.AddcK.τ Cert.AddcK.sig) → Buf (Elt Bits) ℓ) : Prop :=
  True

def Pre_AddcKIdeal (m : (ℓ : Loc Cert.AddcKIdeal.nD Cert.AddcKIdeal.τ Cert.AddcKIdeal.sig) → Buf (Elt Ideal) ℓ) : Prop :=
  True

def Pre_AddcRIdeal (m : (ℓ : Loc Cert.AddcRIdeal.nD Cert.AddcRIdeal.τ Cert.AddcRIdeal.sig) → Buf (Elt Ideal) ℓ) : Prop :=
  True

def quiescent_DactK [hDactK : Cert.DactK.Facts] : Prop :=
  ∀ (m : (ℓ : Loc Cert.DactK.nD Cert.DactK.τ Cert.DactK.sig) → Buf (Elt Bits) ℓ) (g : Dev Cert.DactK.nD → PrngReg), Pre_DactK m →
    θ_run (Cert.DactK.defs (F := Bits)) (onTc (τ := Cert.DactK.τ) (Cert.DactK.main (F := Bits))) ⟨m, fun _ => 0, g⟩ (fun r => (∀ c : Dev Cert.DactK.nD,
      r.2.mem ((c.tc : Thread Cert.DactK.nD Cert.DactK.τ).loc Cert.DactK.main_arg0) = m ((c.tc : Thread Cert.DactK.nD Cert.DactK.τ).loc Cert.DactK.main_arg0)
      ∧ r.2.mem ((c.tc : Thread Cert.DactK.nD Cert.DactK.τ).loc Cert.DactK.main_arg1) = m ((c.tc : Thread Cert.DactK.nD Cert.DactK.τ).loc Cert.DactK.main_arg1)
      ∧ r.2.mem ((c.tc : Thread Cert.DactK.nD Cert.DactK.τ).loc Cert.DactK.main_arg2) = m ((c.tc : Thread Cert.DactK.nD Cert.DactK.τ).loc Cert.DactK.main_arg2)
      ∧ r.2.mem ((c.tc : Thread Cert.DactK.nD Cert.DactK.τ).loc Cert.DactK.main_arg3) = m ((c.tc : Thread Cert.DactK.nD Cert.DactK.τ).loc Cert.DactK.main_arg3))
      ∧ r.2.sem = fun _ => 0)

def quiescent_DactKIdeal [hDactKIdeal : Cert.DactKIdeal.Facts] : Prop :=
  ∀ (m : (ℓ : Loc Cert.DactKIdeal.nD Cert.DactKIdeal.τ Cert.DactKIdeal.sig) → Buf (Elt Ideal) ℓ) (g : Dev Cert.DactKIdeal.nD → PrngReg), Pre_DactKIdeal m →
    θ_run (Cert.DactKIdeal.defs (F := Ideal)) (onTc (τ := Cert.DactKIdeal.τ) (Cert.DactKIdeal.main (F := Ideal))) ⟨m, fun _ => 0, g⟩ (fun r => (∀ c : Dev Cert.DactKIdeal.nD,
      r.2.mem ((c.tc : Thread Cert.DactKIdeal.nD Cert.DactKIdeal.τ).loc Cert.DactKIdeal.main_arg0) = m ((c.tc : Thread Cert.DactKIdeal.nD Cert.DactKIdeal.τ).loc Cert.DactKIdeal.main_arg0)
      ∧ r.2.mem ((c.tc : Thread Cert.DactKIdeal.nD Cert.DactKIdeal.τ).loc Cert.DactKIdeal.main_arg1) = m ((c.tc : Thread Cert.DactKIdeal.nD Cert.DactKIdeal.τ).loc Cert.DactKIdeal.main_arg1)
      ∧ r.2.mem ((c.tc : Thread Cert.DactKIdeal.nD Cert.DactKIdeal.τ).loc Cert.DactKIdeal.main_arg2) = m ((c.tc : Thread Cert.DactKIdeal.nD Cert.DactKIdeal.τ).loc Cert.DactKIdeal.main_arg2)
      ∧ r.2.mem ((c.tc : Thread Cert.DactKIdeal.nD Cert.DactKIdeal.τ).loc Cert.DactKIdeal.main_arg3) = m ((c.tc : Thread Cert.DactKIdeal.nD Cert.DactKIdeal.τ).loc Cert.DactKIdeal.main_arg3))
      ∧ r.2.sem = fun _ => 0)

def quiescent_DactKIdeal_pre_dact_finite [hDactKIdeal : Cert.DactKIdeal.Facts] [hPre_dact_finite : Cert.Pre_dact_finite.Facts] : Prop :=
  ∀ (m : (ℓ : Loc Cert.DactKIdeal.nD Cert.DactKIdeal.τ Cert.DactKIdeal.sig) → Buf (Elt Ideal) ℓ) (g : Dev Cert.DactKIdeal.nD → PrngReg), Pre_DactKIdeal_dact_finite m →
    θ_run (Cert.DactKIdeal.defs (F := Ideal)) (onTc (τ := Cert.DactKIdeal.τ) (Cert.DactKIdeal.main (F := Ideal))) ⟨m, fun _ => 0, g⟩ (fun r => (∀ c : Dev Cert.DactKIdeal.nD,
      r.2.mem ((c.tc : Thread Cert.DactKIdeal.nD Cert.DactKIdeal.τ).loc Cert.DactKIdeal.main_arg0) = m ((c.tc : Thread Cert.DactKIdeal.nD Cert.DactKIdeal.τ).loc Cert.DactKIdeal.main_arg0)
      ∧ r.2.mem ((c.tc : Thread Cert.DactKIdeal.nD Cert.DactKIdeal.τ).loc Cert.DactKIdeal.main_arg1) = m ((c.tc : Thread Cert.DactKIdeal.nD Cert.DactKIdeal.τ).loc Cert.DactKIdeal.main_arg1)
      ∧ r.2.mem ((c.tc : Thread Cert.DactKIdeal.nD Cert.DactKIdeal.τ).loc Cert.DactKIdeal.main_arg2) = m ((c.tc : Thread Cert.DactKIdeal.nD Cert.DactKIdeal.τ).loc Cert.DactKIdeal.main_arg2)
      ∧ r.2.mem ((c.tc : Thread Cert.DactKIdeal.nD Cert.DactKIdeal.τ).loc Cert.DactKIdeal.main_arg3) = m ((c.tc : Thread Cert.DactKIdeal.nD Cert.DactKIdeal.τ).loc Cert.DactKIdeal.main_arg3))
      ∧ r.2.sem = fun _ => 0)

def quiescent_DactRIdeal [hDactRIdeal : Cert.DactRIdeal.Facts] : Prop :=
  ∀ (m : (ℓ : Loc Cert.DactRIdeal.nD Cert.DactRIdeal.τ Cert.DactRIdeal.sig) → Buf (Elt Ideal) ℓ) (g : Dev Cert.DactRIdeal.nD → PrngReg), Pre_DactRIdeal m →
    θ_run (Cert.DactRIdeal.defs (F := Ideal)) (onTc (τ := Cert.DactRIdeal.τ) (Cert.DactRIdeal.main (F := Ideal))) ⟨m, fun _ => 0, g⟩ (fun r => (∀ c : Dev Cert.DactRIdeal.nD,
      r.2.mem ((c.tc : Thread Cert.DactRIdeal.nD Cert.DactRIdeal.τ).loc Cert.DactRIdeal.main_arg0) = m ((c.tc : Thread Cert.DactRIdeal.nD Cert.DactRIdeal.τ).loc Cert.DactRIdeal.main_arg0)
      ∧ r.2.mem ((c.tc : Thread Cert.DactRIdeal.nD Cert.DactRIdeal.τ).loc Cert.DactRIdeal.main_arg1) = m ((c.tc : Thread Cert.DactRIdeal.nD Cert.DactRIdeal.τ).loc Cert.DactRIdeal.main_arg1)
      ∧ r.2.mem ((c.tc : Thread Cert.DactRIdeal.nD Cert.DactRIdeal.τ).loc Cert.DactRIdeal.main_arg2) = m ((c.tc : Thread Cert.DactRIdeal.nD Cert.DactRIdeal.τ).loc Cert.DactRIdeal.main_arg2)
      ∧ r.2.mem ((c.tc : Thread Cert.DactRIdeal.nD Cert.DactRIdeal.τ).loc Cert.DactRIdeal.main_arg3) = m ((c.tc : Thread Cert.DactRIdeal.nD Cert.DactRIdeal.τ).loc Cert.DactRIdeal.main_arg3))
      ∧ r.2.sem = fun _ => 0)

def quiescent_DactRIdeal_pre_dact_finite [hDactRIdeal : Cert.DactRIdeal.Facts] [hPre_dact_finite : Cert.Pre_dact_finite.Facts] : Prop :=
  ∀ (m : (ℓ : Loc Cert.DactRIdeal.nD Cert.DactRIdeal.τ Cert.DactRIdeal.sig) → Buf (Elt Ideal) ℓ) (g : Dev Cert.DactRIdeal.nD → PrngReg), Pre_DactRIdeal_dact_finite m →
    θ_run (Cert.DactRIdeal.defs (F := Ideal)) (onTc (τ := Cert.DactRIdeal.τ) (Cert.DactRIdeal.main (F := Ideal))) ⟨m, fun _ => 0, g⟩ (fun r => (∀ c : Dev Cert.DactRIdeal.nD,
      r.2.mem ((c.tc : Thread Cert.DactRIdeal.nD Cert.DactRIdeal.τ).loc Cert.DactRIdeal.main_arg0) = m ((c.tc : Thread Cert.DactRIdeal.nD Cert.DactRIdeal.τ).loc Cert.DactRIdeal.main_arg0)
      ∧ r.2.mem ((c.tc : Thread Cert.DactRIdeal.nD Cert.DactRIdeal.τ).loc Cert.DactRIdeal.main_arg1) = m ((c.tc : Thread Cert.DactRIdeal.nD Cert.DactRIdeal.τ).loc Cert.DactRIdeal.main_arg1)
      ∧ r.2.mem ((c.tc : Thread Cert.DactRIdeal.nD Cert.DactRIdeal.τ).loc Cert.DactRIdeal.main_arg2) = m ((c.tc : Thread Cert.DactRIdeal.nD Cert.DactRIdeal.τ).loc Cert.DactRIdeal.main_arg2)
      ∧ r.2.mem ((c.tc : Thread Cert.DactRIdeal.nD Cert.DactRIdeal.τ).loc Cert.DactRIdeal.main_arg3) = m ((c.tc : Thread Cert.DactRIdeal.nD Cert.DactRIdeal.τ).loc Cert.DactRIdeal.main_arg3))
      ∧ r.2.sem = fun _ => 0)

def quiescent_ConvK [hConvK : Cert.ConvK.Facts] : Prop :=
  ∀ (m : (ℓ : Loc Cert.ConvK.nD Cert.ConvK.τ Cert.ConvK.sig) → Buf (Elt Bits) ℓ) (g : Dev Cert.ConvK.nD → PrngReg), Pre_ConvK m →
    θ_run (Cert.ConvK.defs (F := Bits)) (onTc (τ := Cert.ConvK.τ) (Cert.ConvK.main (F := Bits))) ⟨m, fun _ => 0, g⟩ (fun r => (∀ c : Dev Cert.ConvK.nD,
      r.2.mem ((c.tc : Thread Cert.ConvK.nD Cert.ConvK.τ).loc Cert.ConvK.main_arg0) = m ((c.tc : Thread Cert.ConvK.nD Cert.ConvK.τ).loc Cert.ConvK.main_arg0)
      ∧ r.2.mem ((c.tc : Thread Cert.ConvK.nD Cert.ConvK.τ).loc Cert.ConvK.main_arg1) = m ((c.tc : Thread Cert.ConvK.nD Cert.ConvK.τ).loc Cert.ConvK.main_arg1)
      ∧ r.2.mem ((c.tc : Thread Cert.ConvK.nD Cert.ConvK.τ).loc Cert.ConvK.main_arg2) = m ((c.tc : Thread Cert.ConvK.nD Cert.ConvK.τ).loc Cert.ConvK.main_arg2))
      ∧ r.2.sem = fun _ => 0)

def quiescent_ConvKIdeal [hConvKIdeal : Cert.ConvKIdeal.Facts] : Prop :=
  ∀ (m : (ℓ : Loc Cert.ConvKIdeal.nD Cert.ConvKIdeal.τ Cert.ConvKIdeal.sig) → Buf (Elt Ideal) ℓ) (g : Dev Cert.ConvKIdeal.nD → PrngReg), Pre_ConvKIdeal m →
    θ_run (Cert.ConvKIdeal.defs (F := Ideal)) (onTc (τ := Cert.ConvKIdeal.τ) (Cert.ConvKIdeal.main (F := Ideal))) ⟨m, fun _ => 0, g⟩ (fun r => (∀ c : Dev Cert.ConvKIdeal.nD,
      r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
      ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1)
      ∧ r.2.mem ((c.tc : Thread Cert.ConvKIdeal.nD Cert.ConvKIdeal.τ).loc Cert.ConvKIdeal.main_arg2) = m ((c.tc : Thread Cert.ConvKIdeal.nD Cert.ConvKIdeal.τ).loc Cert.ConvKIdeal.main_arg2))
      ∧ r.2.sem = fun _ => 0)

def quiescent_ConvRIdeal [hConvRIdeal : Cert.ConvRIdeal.Facts] : Prop :=
  ∀ (m : (ℓ : Loc Cert.ConvRIdeal.nD Cert.ConvRIdeal.τ Cert.ConvRIdeal.sig) → Buf (Elt Ideal) ℓ) (g : Dev Cert.ConvRIdeal.nD → PrngReg), Pre_ConvRIdeal m →
    θ_run (Cert.ConvRIdeal.defs (F := Ideal)) (onTc (τ := Cert.ConvRIdeal.τ) (Cert.ConvRIdeal.main (F := Ideal))) ⟨m, fun _ => 0, g⟩ (fun r => (∀ c : Dev Cert.ConvRIdeal.nD,
      r.2.mem ((c.tc : Thread Cert.ConvRIdeal.nD Cert.ConvRIdeal.τ).loc Cert.ConvRIdeal.main_arg0) = m ((c.tc : Thread Cert.ConvRIdeal.nD Cert.ConvRIdeal.τ).loc Cert.ConvRIdeal.main_arg0)
      ∧ r.2.mem ((c.tc : Thread Cert.ConvRIdeal.nD Cert.ConvRIdeal.τ).loc Cert.ConvRIdeal.main_arg1) = m ((c.tc : Thread Cert.ConvRIdeal.nD Cert.ConvRIdeal.τ).loc Cert.ConvRIdeal.main_arg1)
      ∧ r.2.mem ((c.tc : Thread Cert.ConvRIdeal.nD Cert.ConvRIdeal.τ).loc Cert.ConvRIdeal.main_arg2) = m ((c.tc : Thread Cert.ConvRIdeal.nD Cert.ConvRIdeal.τ).loc Cert.ConvRIdeal.main_arg2))
      ∧ r.2.sem = fun _ => 0)

def quiescent_AttbK [hAttbK : Cert.AttbK.Facts] : Prop :=
  ∀ (m : (ℓ : Loc Cert.AttbK.nD Cert.AttbK.τ Cert.AttbK.sig) → Buf (Elt Bits) ℓ) (g : Dev Cert.AttbK.nD → PrngReg), Pre_AttbK m →
    θ_run (Cert.AttbK.defs (F := Bits)) (onTc (τ := Cert.AttbK.τ) (Cert.AttbK.main (F := Bits))) ⟨m, fun _ => 0, g⟩ (fun r => (∀ c : Dev Cert.AttbK.nD,
      r.2.mem ((c.tc : Thread Cert.AttbK.nD Cert.AttbK.τ).loc Cert.AttbK.main_arg0) = m ((c.tc : Thread Cert.AttbK.nD Cert.AttbK.τ).loc Cert.AttbK.main_arg0)
      ∧ r.2.mem ((c.tc : Thread Cert.AttbK.nD Cert.AttbK.τ).loc Cert.AttbK.main_arg1) = m ((c.tc : Thread Cert.AttbK.nD Cert.AttbK.τ).loc Cert.AttbK.main_arg1)
      ∧ r.2.mem ((c.tc : Thread Cert.AttbK.nD Cert.AttbK.τ).loc Cert.AttbK.main_arg2) = m ((c.tc : Thread Cert.AttbK.nD Cert.AttbK.τ).loc Cert.AttbK.main_arg2)
      ∧ r.2.mem ((c.tc : Thread Cert.AttbK.nD Cert.AttbK.τ).loc Cert.AttbK.main_arg3) = m ((c.tc : Thread Cert.AttbK.nD Cert.AttbK.τ).loc Cert.AttbK.main_arg3))
      ∧ r.2.sem = fun _ => 0)

def quiescent_AttbKIdeal [hAttbKIdeal : Cert.AttbKIdeal.Facts] : Prop :=
  ∀ (m : (ℓ : Loc Cert.AttbKIdeal.nD Cert.AttbKIdeal.τ Cert.AttbKIdeal.sig) → Buf (Elt Ideal) ℓ) (g : Dev Cert.AttbKIdeal.nD → PrngReg), Pre_AttbKIdeal m →
    θ_run (Cert.AttbKIdeal.defs (F := Ideal)) (onTc (τ := Cert.AttbKIdeal.τ) (Cert.AttbKIdeal.main (F := Ideal))) ⟨m, fun _ => 0, g⟩ (fun r => (∀ c : Dev Cert.AttbKIdeal.nD,
      r.2.mem ((c.tc : Thread Cert.AttbKIdeal.nD Cert.AttbKIdeal.τ).loc Cert.AttbKIdeal.main_arg0) = m ((c.tc : Thread Cert.AttbKIdeal.nD Cert.AttbKIdeal.τ).loc Cert.AttbKIdeal.main_arg0)
      ∧ r.2.mem ((c.tc : Thread Cert.AttbKIdeal.nD Cert.AttbKIdeal.τ).loc Cert.AttbKIdeal.main_arg1) = m ((c.tc : Thread Cert.AttbKIdeal.nD Cert.AttbKIdeal.τ).loc Cert.AttbKIdeal.main_arg1)
      ∧ r.2.mem ((c.tc : Thread Cert.AttbKIdeal.nD Cert.AttbKIdeal.τ).loc Cert.AttbKIdeal.main_arg2) = m ((c.tc : Thread Cert.AttbKIdeal.nD Cert.AttbKIdeal.τ).loc Cert.AttbKIdeal.main_arg2)
      ∧ r.2.mem ((c.tc : Thread Cert.AttbKIdeal.nD Cert.AttbKIdeal.τ).loc Cert.AttbKIdeal.main_arg3) = m ((c.tc : Thread Cert.AttbKIdeal.nD Cert.AttbKIdeal.τ).loc Cert.AttbKIdeal.main_arg3))
      ∧ r.2.sem = fun _ => 0)

def quiescent_AttbKIdeal_pre_attb_finite [hAttbKIdeal : Cert.AttbKIdeal.Facts] [hPre_attb_finite : Cert.Pre_attb_finite.Facts] : Prop :=
  ∀ (m : (ℓ : Loc Cert.AttbKIdeal.nD Cert.AttbKIdeal.τ Cert.AttbKIdeal.sig) → Buf (Elt Ideal) ℓ) (g : Dev Cert.AttbKIdeal.nD → PrngReg), Pre_AttbKIdeal_attb_finite m →
    θ_run (Cert.AttbKIdeal.defs (F := Ideal)) (onTc (τ := Cert.AttbKIdeal.τ) (Cert.AttbKIdeal.main (F := Ideal))) ⟨m, fun _ => 0, g⟩ (fun r => (∀ c : Dev Cert.AttbKIdeal.nD,
      r.2.mem ((c.tc : Thread Cert.AttbKIdeal.nD Cert.AttbKIdeal.τ).loc Cert.AttbKIdeal.main_arg0) = m ((c.tc : Thread Cert.AttbKIdeal.nD Cert.AttbKIdeal.τ).loc Cert.AttbKIdeal.main_arg0)
      ∧ r.2.mem ((c.tc : Thread Cert.AttbKIdeal.nD Cert.AttbKIdeal.τ).loc Cert.AttbKIdeal.main_arg1) = m ((c.tc : Thread Cert.AttbKIdeal.nD Cert.AttbKIdeal.τ).loc Cert.AttbKIdeal.main_arg1)
      ∧ r.2.mem ((c.tc : Thread Cert.AttbKIdeal.nD Cert.AttbKIdeal.τ).loc Cert.AttbKIdeal.main_arg2) = m ((c.tc : Thread Cert.AttbKIdeal.nD Cert.AttbKIdeal.τ).loc Cert.AttbKIdeal.main_arg2)
      ∧ r.2.mem ((c.tc : Thread Cert.AttbKIdeal.nD Cert.AttbKIdeal.τ).loc Cert.AttbKIdeal.main_arg3) = m ((c.tc : Thread Cert.AttbKIdeal.nD Cert.AttbKIdeal.τ).loc Cert.AttbKIdeal.main_arg3))
      ∧ r.2.sem = fun _ => 0)

def quiescent_AttbRIdeal [hAttbRIdeal : Cert.AttbRIdeal.Facts] : Prop :=
  ∀ (m : (ℓ : Loc Cert.AttbRIdeal.nD Cert.AttbRIdeal.τ Cert.AttbRIdeal.sig) → Buf (Elt Ideal) ℓ) (g : Dev Cert.AttbRIdeal.nD → PrngReg), Pre_AttbRIdeal m →
    θ_run (Cert.AttbRIdeal.defs (F := Ideal)) (onTc (τ := Cert.AttbRIdeal.τ) (Cert.AttbRIdeal.main (F := Ideal))) ⟨m, fun _ => 0, g⟩ (fun r => (∀ c : Dev Cert.AttbRIdeal.nD,
      r.2.mem ((c.tc : Thread Cert.AttbRIdeal.nD Cert.AttbRIdeal.τ).loc Cert.AttbRIdeal.main_arg0) = m ((c.tc : Thread Cert.AttbRIdeal.nD Cert.AttbRIdeal.τ).loc Cert.AttbRIdeal.main_arg0)
      ∧ r.2.mem ((c.tc : Thread Cert.AttbRIdeal.nD Cert.AttbRIdeal.τ).loc Cert.AttbRIdeal.main_arg1) = m ((c.tc : Thread Cert.AttbRIdeal.nD Cert.AttbRIdeal.τ).loc Cert.AttbRIdeal.main_arg1)
      ∧ r.2.mem ((c.tc : Thread Cert.AttbRIdeal.nD Cert.AttbRIdeal.τ).loc Cert.AttbRIdeal.main_arg2) = m ((c.tc : Thread Cert.AttbRIdeal.nD Cert.AttbRIdeal.τ).loc Cert.AttbRIdeal.main_arg2)
      ∧ r.2.mem ((c.tc : Thread Cert.AttbRIdeal.nD Cert.AttbRIdeal.τ).loc Cert.AttbRIdeal.main_arg3) = m ((c.tc : Thread Cert.AttbRIdeal.nD Cert.AttbRIdeal.τ).loc Cert.AttbRIdeal.main_arg3))
      ∧ r.2.sem = fun _ => 0)

def quiescent_AttbRIdeal_pre_attb_finite [hAttbRIdeal : Cert.AttbRIdeal.Facts] [hPre_attb_finite : Cert.Pre_attb_finite.Facts] : Prop :=
  ∀ (m : (ℓ : Loc Cert.AttbRIdeal.nD Cert.AttbRIdeal.τ Cert.AttbRIdeal.sig) → Buf (Elt Ideal) ℓ) (g : Dev Cert.AttbRIdeal.nD → PrngReg), Pre_AttbRIdeal_attb_finite m →
    θ_run (Cert.AttbRIdeal.defs (F := Ideal)) (onTc (τ := Cert.AttbRIdeal.τ) (Cert.AttbRIdeal.main (F := Ideal))) ⟨m, fun _ => 0, g⟩ (fun r => (∀ c : Dev Cert.AttbRIdeal.nD,
      r.2.mem ((c.tc : Thread Cert.AttbRIdeal.nD Cert.AttbRIdeal.τ).loc Cert.AttbRIdeal.main_arg0) = m ((c.tc : Thread Cert.AttbRIdeal.nD Cert.AttbRIdeal.τ).loc Cert.AttbRIdeal.main_arg0)
      ∧ r.2.mem ((c.tc : Thread Cert.AttbRIdeal.nD Cert.AttbRIdeal.τ).loc Cert.AttbRIdeal.main_arg1) = m ((c.tc : Thread Cert.AttbRIdeal.nD Cert.AttbRIdeal.τ).loc Cert.AttbRIdeal.main_arg1)
      ∧ r.2.mem ((c.tc : Thread Cert.AttbRIdeal.nD Cert.AttbRIdeal.τ).loc Cert.AttbRIdeal.main_arg2) = m ((c.tc : Thread Cert.AttbRIdeal.nD Cert.AttbRIdeal.τ).loc Cert.AttbRIdeal.main_arg2)
      ∧ r.2.mem ((c.tc : Thread Cert.AttbRIdeal.nD Cert.AttbRIdeal.τ).loc Cert.AttbRIdeal.main_arg3) = m ((c.tc : Thread Cert.AttbRIdeal.nD Cert.AttbRIdeal.τ).loc Cert.AttbRIdeal.main_arg3))
      ∧ r.2.sem = fun _ => 0)

def quiescent_DwoutK [hDwoutK : Cert.DwoutK.Facts] : Prop :=
  ∀ (m : (ℓ : Loc Cert.DwoutK.nD Cert.DwoutK.τ Cert.DwoutK.sig) → Buf (Elt Bits) ℓ) (g : Dev Cert.DwoutK.nD → PrngReg), Pre_DwoutK m →
    θ_run (Cert.DwoutK.defs (F := Bits)) (onTc (τ := Cert.DwoutK.τ) (Cert.DwoutK.main (F := Bits))) ⟨m, fun _ => 0, g⟩ (fun r => (∀ c : Dev Cert.DwoutK.nD,
      r.2.mem ((c.tc : Thread Cert.DwoutK.nD Cert.DwoutK.τ).loc Cert.DwoutK.main_arg0) = m ((c.tc : Thread Cert.DwoutK.nD Cert.DwoutK.τ).loc Cert.DwoutK.main_arg0)
      ∧ r.2.mem ((c.tc : Thread Cert.DwoutK.nD Cert.DwoutK.τ).loc Cert.DwoutK.main_arg1) = m ((c.tc : Thread Cert.DwoutK.nD Cert.DwoutK.τ).loc Cert.DwoutK.main_arg1)
      ∧ r.2.mem ((c.tc : Thread Cert.DwoutK.nD Cert.DwoutK.τ).loc Cert.DwoutK.main_arg2) = m ((c.tc : Thread Cert.DwoutK.nD Cert.DwoutK.τ).loc Cert.DwoutK.main_arg2)
      ∧ r.2.mem ((c.tc : Thread Cert.DwoutK.nD Cert.DwoutK.τ).loc Cert.DwoutK.main_arg3) = m ((c.tc : Thread Cert.DwoutK.nD Cert.DwoutK.τ).loc Cert.DwoutK.main_arg3))
      ∧ r.2.sem = fun _ => 0)

def quiescent_DwoutKIdeal [hDwoutKIdeal : Cert.DwoutKIdeal.Facts] : Prop :=
  ∀ (m : (ℓ : Loc Cert.DwoutKIdeal.nD Cert.DwoutKIdeal.τ Cert.DwoutKIdeal.sig) → Buf (Elt Ideal) ℓ) (g : Dev Cert.DwoutKIdeal.nD → PrngReg), Pre_DwoutKIdeal m →
    θ_run (Cert.DwoutKIdeal.defs (F := Ideal)) (onTc (τ := Cert.DwoutKIdeal.τ) (Cert.DwoutKIdeal.main (F := Ideal))) ⟨m, fun _ => 0, g⟩ (fun r => (∀ c : Dev Cert.DwoutKIdeal.nD,
      r.2.mem ((c.tc : Thread Cert.DwoutKIdeal.nD Cert.DwoutKIdeal.τ).loc Cert.DwoutKIdeal.main_arg0) = m ((c.tc : Thread Cert.DwoutKIdeal.nD Cert.DwoutKIdeal.τ).loc Cert.DwoutKIdeal.main_arg0)
      ∧ r.2.mem ((c.tc : Thread Cert.DwoutKIdeal.nD Cert.DwoutKIdeal.τ).loc Cert.DwoutKIdeal.main_arg1) = m ((c.tc : Thread Cert.DwoutKIdeal.nD Cert.DwoutKIdeal.τ).loc Cert.DwoutKIdeal.main_arg1)
      ∧ r.2.mem ((c.tc : Thread Cert.DwoutKIdeal.nD Cert.DwoutKIdeal.τ).loc Cert.DwoutKIdeal.main_arg2) = m ((c.tc : Thread Cert.DwoutKIdeal.nD Cert.DwoutKIdeal.τ).loc Cert.DwoutKIdeal.main_arg2)
      ∧ r.2.mem ((c.tc : Thread Cert.DwoutKIdeal.nD Cert.DwoutKIdeal.τ).loc Cert.DwoutKIdeal.main_arg3) = m ((c.tc : Thread Cert.DwoutKIdeal.nD Cert.DwoutKIdeal.τ).loc Cert.DwoutKIdeal.main_arg3))
      ∧ r.2.sem = fun _ => 0)

def quiescent_DwoutRIdeal [hDwoutRIdeal : Cert.DwoutRIdeal.Facts] : Prop :=
  ∀ (m : (ℓ : Loc Cert.DwoutRIdeal.nD Cert.DwoutRIdeal.τ Cert.DwoutRIdeal.sig) → Buf (Elt Ideal) ℓ) (g : Dev Cert.DwoutRIdeal.nD → PrngReg), Pre_DwoutRIdeal m →
    θ_run (Cert.DwoutRIdeal.defs (F := Ideal)) (onTc (τ := Cert.DwoutRIdeal.τ) (Cert.DwoutRIdeal.main (F := Ideal))) ⟨m, fun _ => 0, g⟩ (fun r => (∀ c : Dev Cert.DwoutRIdeal.nD,
      r.2.mem ((c.tc : Thread Cert.DwoutRIdeal.nD Cert.DwoutRIdeal.τ).loc Cert.DwoutRIdeal.main_arg0) = m ((c.tc : Thread Cert.DwoutRIdeal.nD Cert.DwoutRIdeal.τ).loc Cert.DwoutRIdeal.main_arg0)
      ∧ r.2.mem ((c.tc : Thread Cert.DwoutRIdeal.nD Cert.DwoutRIdeal.τ).loc Cert.DwoutRIdeal.main_arg1) = m ((c.tc : Thread Cert.DwoutRIdeal.nD Cert.DwoutRIdeal.τ).loc Cert.DwoutRIdeal.main_arg1)
      ∧ r.2.mem ((c.tc : Thread Cert.DwoutRIdeal.nD Cert.DwoutRIdeal.τ).loc Cert.DwoutRIdeal.main_arg2) = m ((c.tc : Thread Cert.DwoutRIdeal.nD Cert.DwoutRIdeal.τ).loc Cert.DwoutRIdeal.main_arg2)
      ∧ r.2.mem ((c.tc : Thread Cert.DwoutRIdeal.nD Cert.DwoutRIdeal.τ).loc Cert.DwoutRIdeal.main_arg3) = m ((c.tc : Thread Cert.DwoutRIdeal.nD Cert.DwoutRIdeal.τ).loc Cert.DwoutRIdeal.main_arg3))
      ∧ r.2.sem = fun _ => 0)

def quiescent_LossK [hLossK : Cert.LossK.Facts] : Prop :=
  ∀ (m : (ℓ : Loc Cert.LossK.nD Cert.LossK.τ Cert.LossK.sig) → Buf (Elt Bits) ℓ) (g : Dev Cert.LossK.nD → PrngReg), Pre_LossK m →
    θ_run (Cert.LossK.defs (F := Bits)) (onTc (τ := Cert.LossK.τ) (Cert.LossK.main (F := Bits))) ⟨m, fun _ => 0, g⟩ (fun r => (∀ c : Dev Cert.LossK.nD,
      r.2.mem ((c.tc : Thread Cert.LossK.nD Cert.LossK.τ).loc Cert.LossK.main_arg0) = m ((c.tc : Thread Cert.LossK.nD Cert.LossK.τ).loc Cert.LossK.main_arg0)
      ∧ r.2.mem ((c.tc : Thread Cert.LossK.nD Cert.LossK.τ).loc Cert.LossK.main_arg1) = m ((c.tc : Thread Cert.LossK.nD Cert.LossK.τ).loc Cert.LossK.main_arg1)
      ∧ r.2.mem ((c.tc : Thread Cert.LossK.nD Cert.LossK.τ).loc Cert.LossK.main_arg2) = m ((c.tc : Thread Cert.LossK.nD Cert.LossK.τ).loc Cert.LossK.main_arg2))
      ∧ r.2.sem = fun _ => 0)

def quiescent_LossKIdeal [hLossKIdeal : Cert.LossKIdeal.Facts] : Prop :=
  ∀ (m : (ℓ : Loc Cert.LossKIdeal.nD Cert.LossKIdeal.τ Cert.LossKIdeal.sig) → Buf (Elt Ideal) ℓ) (g : Dev Cert.LossKIdeal.nD → PrngReg), Pre_LossKIdeal m →
    θ_run (Cert.LossKIdeal.defs (F := Ideal)) (onTc (τ := Cert.LossKIdeal.τ) (Cert.LossKIdeal.main (F := Ideal))) ⟨m, fun _ => 0, g⟩ (fun r => (∀ c : Dev Cert.LossKIdeal.nD,
      r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
      ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
      ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2))
      ∧ r.2.sem = fun _ => 0)

def quiescent_LossKIdeal_pre_loss_finite [hLossKIdeal : Cert.LossKIdeal.Facts] [hPre_loss_finite : Cert.Pre_loss_finite.Facts] : Prop :=
  ∀ (m : (ℓ : Loc Cert.LossKIdeal.nD Cert.LossKIdeal.τ Cert.LossKIdeal.sig) → Buf (Elt Ideal) ℓ) (g : Dev Cert.LossKIdeal.nD → PrngReg), Pre_LossKIdeal_loss_finite m →
    θ_run (Cert.LossKIdeal.defs (F := Ideal)) (onTc (τ := Cert.LossKIdeal.τ) (Cert.LossKIdeal.main (F := Ideal))) ⟨m, fun _ => 0, g⟩ (fun r => (∀ c : Dev Cert.LossKIdeal.nD,
      r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
      ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
      ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2))
      ∧ r.2.sem = fun _ => 0)

def quiescent_LossRIdeal [hLossRIdeal : Cert.LossRIdeal.Facts] : Prop :=
  ∀ (m : (ℓ : Loc Cert.LossRIdeal.nD Cert.LossRIdeal.τ Cert.LossRIdeal.sig) → Buf (Elt Ideal) ℓ) (g : Dev Cert.LossRIdeal.nD → PrngReg), Pre_LossRIdeal m →
    θ_run (Cert.LossRIdeal.defs (F := Ideal)) (onTc (τ := Cert.LossRIdeal.τ) (Cert.LossRIdeal.main (F := Ideal))) ⟨m, fun _ => 0, g⟩ (fun r => (∀ c : Dev Cert.LossRIdeal.nD,
      r.2.mem ((c.tc : Thread Cert.LossRIdeal.nD Cert.LossRIdeal.τ).loc Cert.LossRIdeal.main_arg0) = m ((c.tc : Thread Cert.LossRIdeal.nD Cert.LossRIdeal.τ).loc Cert.LossRIdeal.main_arg0)
      ∧ r.2.mem ((c.tc : Thread Cert.LossRIdeal.nD Cert.LossRIdeal.τ).loc Cert.LossRIdeal.main_arg1) = m ((c.tc : Thread Cert.LossRIdeal.nD Cert.LossRIdeal.τ).loc Cert.LossRIdeal.main_arg1)
      ∧ r.2.mem ((c.tc : Thread Cert.LossRIdeal.nD Cert.LossRIdeal.τ).loc Cert.LossRIdeal.main_arg2) = m ((c.tc : Thread Cert.LossRIdeal.nD Cert.LossRIdeal.τ).loc Cert.LossRIdeal.main_arg2))
      ∧ r.2.sem = fun _ => 0)

def quiescent_LossRIdeal_pre_loss_finite [hLossRIdeal : Cert.LossRIdeal.Facts] [hPre_loss_finite : Cert.Pre_loss_finite.Facts] : Prop :=
  ∀ (m : (ℓ : Loc Cert.LossRIdeal.nD Cert.LossRIdeal.τ Cert.LossRIdeal.sig) → Buf (Elt Ideal) ℓ) (g : Dev Cert.LossRIdeal.nD → PrngReg), Pre_LossRIdeal_loss_finite m →
    θ_run (Cert.LossRIdeal.defs (F := Ideal)) (onTc (τ := Cert.LossRIdeal.τ) (Cert.LossRIdeal.main (F := Ideal))) ⟨m, fun _ => 0, g⟩ (fun r => (∀ c : Dev Cert.LossRIdeal.nD,
      r.2.mem ((c.tc : Thread Cert.LossRIdeal.nD Cert.LossRIdeal.τ).loc Cert.LossRIdeal.main_arg0) = m ((c.tc : Thread Cert.LossRIdeal.nD Cert.LossRIdeal.τ).loc Cert.LossRIdeal.main_arg0)
      ∧ r.2.mem ((c.tc : Thread Cert.LossRIdeal.nD Cert.LossRIdeal.τ).loc Cert.LossRIdeal.main_arg1) = m ((c.tc : Thread Cert.LossRIdeal.nD Cert.LossRIdeal.τ).loc Cert.LossRIdeal.main_arg1)
      ∧ r.2.mem ((c.tc : Thread Cert.LossRIdeal.nD Cert.LossRIdeal.τ).loc Cert.LossRIdeal.main_arg2) = m ((c.tc : Thread Cert.LossRIdeal.nD Cert.LossRIdeal.τ).loc Cert.LossRIdeal.main_arg2))
      ∧ r.2.sem = fun _ => 0)

def quiescent_FfndhK [hFfndhK : Cert.FfndhK.Facts] : Prop :=
  ∀ (m : (ℓ : Loc Cert.FfndhK.nD Cert.FfndhK.τ Cert.FfndhK.sig) → Buf (Elt Bits) ℓ) (g : Dev Cert.FfndhK.nD → PrngReg), Pre_FfndhK m →
    θ_run (Cert.FfndhK.defs (F := Bits)) (onTc (τ := Cert.FfndhK.τ) (Cert.FfndhK.main (F := Bits))) ⟨m, fun _ => 0, g⟩ (fun r => (∀ c : Dev Cert.FfndhK.nD,
      r.2.mem ((c.tc : Thread Cert.FfndhK.nD Cert.FfndhK.τ).loc Cert.FfndhK.main_arg0) = m ((c.tc : Thread Cert.FfndhK.nD Cert.FfndhK.τ).loc Cert.FfndhK.main_arg0)
      ∧ r.2.mem ((c.tc : Thread Cert.FfndhK.nD Cert.FfndhK.τ).loc Cert.FfndhK.main_arg1) = m ((c.tc : Thread Cert.FfndhK.nD Cert.FfndhK.τ).loc Cert.FfndhK.main_arg1)
      ∧ r.2.mem ((c.tc : Thread Cert.FfndhK.nD Cert.FfndhK.τ).loc Cert.FfndhK.main_arg2) = m ((c.tc : Thread Cert.FfndhK.nD Cert.FfndhK.τ).loc Cert.FfndhK.main_arg2)
      ∧ r.2.mem ((c.tc : Thread Cert.FfndhK.nD Cert.FfndhK.τ).loc Cert.FfndhK.main_arg3) = m ((c.tc : Thread Cert.FfndhK.nD Cert.FfndhK.τ).loc Cert.FfndhK.main_arg3)
      ∧ r.2.mem ((c.tc : Thread Cert.FfndhK.nD Cert.FfndhK.τ).loc Cert.FfndhK.main_arg4) = m ((c.tc : Thread Cert.FfndhK.nD Cert.FfndhK.τ).loc Cert.FfndhK.main_arg4))
      ∧ r.2.sem = fun _ => 0)

def quiescent_FfndhKIdeal [hFfndhKIdeal : Cert.FfndhKIdeal.Facts] : Prop :=
  ∀ (m : (ℓ : Loc Cert.FfndhKIdeal.nD Cert.FfndhKIdeal.τ Cert.FfndhKIdeal.sig) → Buf (Elt Ideal) ℓ) (g : Dev Cert.FfndhKIdeal.nD → PrngReg), Pre_FfndhKIdeal m →
    θ_run (Cert.FfndhKIdeal.defs (F := Ideal)) (onTc (τ := Cert.FfndhKIdeal.τ) (Cert.FfndhKIdeal.main (F := Ideal))) ⟨m, fun _ => 0, g⟩ (fun r => (∀ c : Dev Cert.FfndhKIdeal.nD,
      r.2.mem ((c.tc : Thread Cert.FfndhKIdeal.nD Cert.FfndhKIdeal.τ).loc Cert.FfndhKIdeal.main_arg0) = m ((c.tc : Thread Cert.FfndhKIdeal.nD Cert.FfndhKIdeal.τ).loc Cert.FfndhKIdeal.main_arg0)
      ∧ r.2.mem ((c.tc : Thread Cert.FfndhKIdeal.nD Cert.FfndhKIdeal.τ).loc Cert.FfndhKIdeal.main_arg1) = m ((c.tc : Thread Cert.FfndhKIdeal.nD Cert.FfndhKIdeal.τ).loc Cert.FfndhKIdeal.main_arg1)
      ∧ r.2.mem ((c.tc : Thread Cert.FfndhKIdeal.nD Cert.FfndhKIdeal.τ).loc Cert.FfndhKIdeal.main_arg2) = m ((c.tc : Thread Cert.FfndhKIdeal.nD Cert.FfndhKIdeal.τ).loc Cert.FfndhKIdeal.main_arg2)
      ∧ r.2.mem ((c.tc : Thread Cert.FfndhKIdeal.nD Cert.FfndhKIdeal.τ).loc Cert.FfndhKIdeal.main_arg3) = m ((c.tc : Thread Cert.FfndhKIdeal.nD Cert.FfndhKIdeal.τ).loc Cert.FfndhKIdeal.main_arg3)
      ∧ r.2.mem ((c.tc : Thread Cert.FfndhKIdeal.nD Cert.FfndhKIdeal.τ).loc Cert.FfndhKIdeal.main_arg4) = m ((c.tc : Thread Cert.FfndhKIdeal.nD Cert.FfndhKIdeal.τ).loc Cert.FfndhKIdeal.main_arg4))
      ∧ r.2.sem = fun _ => 0)

def quiescent_FfndhKIdeal_pre_ffndh_finite [hFfndhKIdeal : Cert.FfndhKIdeal.Facts] [hPre_ffndh_finite : Cert.Pre_ffndh_finite.Facts] : Prop :=
  ∀ (m : (ℓ : Loc Cert.FfndhKIdeal.nD Cert.FfndhKIdeal.τ Cert.FfndhKIdeal.sig) → Buf (Elt Ideal) ℓ) (g : Dev Cert.FfndhKIdeal.nD → PrngReg), Pre_FfndhKIdeal_ffndh_finite m →
    θ_run (Cert.FfndhKIdeal.defs (F := Ideal)) (onTc (τ := Cert.FfndhKIdeal.τ) (Cert.FfndhKIdeal.main (F := Ideal))) ⟨m, fun _ => 0, g⟩ (fun r => (∀ c : Dev Cert.FfndhKIdeal.nD,
      r.2.mem ((c.tc : Thread Cert.FfndhKIdeal.nD Cert.FfndhKIdeal.τ).loc Cert.FfndhKIdeal.main_arg0) = m ((c.tc : Thread Cert.FfndhKIdeal.nD Cert.FfndhKIdeal.τ).loc Cert.FfndhKIdeal.main_arg0)
      ∧ r.2.mem ((c.tc : Thread Cert.FfndhKIdeal.nD Cert.FfndhKIdeal.τ).loc Cert.FfndhKIdeal.main_arg1) = m ((c.tc : Thread Cert.FfndhKIdeal.nD Cert.FfndhKIdeal.τ).loc Cert.FfndhKIdeal.main_arg1)
      ∧ r.2.mem ((c.tc : Thread Cert.FfndhKIdeal.nD Cert.FfndhKIdeal.τ).loc Cert.FfndhKIdeal.main_arg2) = m ((c.tc : Thread Cert.FfndhKIdeal.nD Cert.FfndhKIdeal.τ).loc Cert.FfndhKIdeal.main_arg2)
      ∧ r.2.mem ((c.tc : Thread Cert.FfndhKIdeal.nD Cert.FfndhKIdeal.τ).loc Cert.FfndhKIdeal.main_arg3) = m ((c.tc : Thread Cert.FfndhKIdeal.nD Cert.FfndhKIdeal.τ).loc Cert.FfndhKIdeal.main_arg3)
      ∧ r.2.mem ((c.tc : Thread Cert.FfndhKIdeal.nD Cert.FfndhKIdeal.τ).loc Cert.FfndhKIdeal.main_arg4) = m ((c.tc : Thread Cert.FfndhKIdeal.nD Cert.FfndhKIdeal.τ).loc Cert.FfndhKIdeal.main_arg4))
      ∧ r.2.sem = fun _ => 0)

def quiescent_FfndhRIdeal [hFfndhRIdeal : Cert.FfndhRIdeal.Facts] : Prop :=
  ∀ (m : (ℓ : Loc Cert.FfndhRIdeal.nD Cert.FfndhRIdeal.τ Cert.FfndhRIdeal.sig) → Buf (Elt Ideal) ℓ) (g : Dev Cert.FfndhRIdeal.nD → PrngReg), Pre_FfndhRIdeal m →
    θ_run (Cert.FfndhRIdeal.defs (F := Ideal)) (onTc (τ := Cert.FfndhRIdeal.τ) (Cert.FfndhRIdeal.main (F := Ideal))) ⟨m, fun _ => 0, g⟩ (fun r => (∀ c : Dev Cert.FfndhRIdeal.nD,
      r.2.mem ((c.tc : Thread Cert.FfndhRIdeal.nD Cert.FfndhRIdeal.τ).loc Cert.FfndhRIdeal.main_arg0) = m ((c.tc : Thread Cert.FfndhRIdeal.nD Cert.FfndhRIdeal.τ).loc Cert.FfndhRIdeal.main_arg0)
      ∧ r.2.mem ((c.tc : Thread Cert.FfndhRIdeal.nD Cert.FfndhRIdeal.τ).loc Cert.FfndhRIdeal.main_arg1) = m ((c.tc : Thread Cert.FfndhRIdeal.nD Cert.FfndhRIdeal.τ).loc Cert.FfndhRIdeal.main_arg1)
      ∧ r.2.mem ((c.tc : Thread Cert.FfndhRIdeal.nD Cert.FfndhRIdeal.τ).loc Cert.FfndhRIdeal.main_arg2) = m ((c.tc : Thread Cert.FfndhRIdeal.nD Cert.FfndhRIdeal.τ).loc Cert.FfndhRIdeal.main_arg2)
      ∧ r.2.mem ((c.tc : Thread Cert.FfndhRIdeal.nD Cert.FfndhRIdeal.τ).loc Cert.FfndhRIdeal.main_arg3) = m ((c.tc : Thread Cert.FfndhRIdeal.nD Cert.FfndhRIdeal.τ).loc Cert.FfndhRIdeal.main_arg3)
      ∧ r.2.mem ((c.tc : Thread Cert.FfndhRIdeal.nD Cert.FfndhRIdeal.τ).loc Cert.FfndhRIdeal.main_arg4) = m ((c.tc : Thread Cert.FfndhRIdeal.nD Cert.FfndhRIdeal.τ).loc Cert.FfndhRIdeal.main_arg4))
      ∧ r.2.sem = fun _ => 0)

def quiescent_FfndhRIdeal_pre_ffndh_finite [hFfndhRIdeal : Cert.FfndhRIdeal.Facts] [hPre_ffndh_finite : Cert.Pre_ffndh_finite.Facts] : Prop :=
  ∀ (m : (ℓ : Loc Cert.FfndhRIdeal.nD Cert.FfndhRIdeal.τ Cert.FfndhRIdeal.sig) → Buf (Elt Ideal) ℓ) (g : Dev Cert.FfndhRIdeal.nD → PrngReg), Pre_FfndhRIdeal_ffndh_finite m →
    θ_run (Cert.FfndhRIdeal.defs (F := Ideal)) (onTc (τ := Cert.FfndhRIdeal.τ) (Cert.FfndhRIdeal.main (F := Ideal))) ⟨m, fun _ => 0, g⟩ (fun r => (∀ c : Dev Cert.FfndhRIdeal.nD,
      r.2.mem ((c.tc : Thread Cert.FfndhRIdeal.nD Cert.FfndhRIdeal.τ).loc Cert.FfndhRIdeal.main_arg0) = m ((c.tc : Thread Cert.FfndhRIdeal.nD Cert.FfndhRIdeal.τ).loc Cert.FfndhRIdeal.main_arg0)
      ∧ r.2.mem ((c.tc : Thread Cert.FfndhRIdeal.nD Cert.FfndhRIdeal.τ).loc Cert.FfndhRIdeal.main_arg1) = m ((c.tc : Thread Cert.FfndhRIdeal.nD Cert.FfndhRIdeal.τ).loc Cert.FfndhRIdeal.main_arg1)
      ∧ r.2.mem ((c.tc : Thread Cert.FfndhRIdeal.nD Cert.FfndhRIdeal.τ).loc Cert.FfndhRIdeal.main_arg2) = m ((c.tc : Thread Cert.FfndhRIdeal.nD Cert.FfndhRIdeal.τ).loc Cert.FfndhRIdeal.main_arg2)
      ∧ r.2.mem ((c.tc : Thread Cert.FfndhRIdeal.nD Cert.FfndhRIdeal.τ).loc Cert.FfndhRIdeal.main_arg3) = m ((c.tc : Thread Cert.FfndhRIdeal.nD Cert.FfndhRIdeal.τ).loc Cert.FfndhRIdeal.main_arg3)
      ∧ r.2.mem ((c.tc : Thread Cert.FfndhRIdeal.nD Cert.FfndhRIdeal.τ).loc Cert.FfndhRIdeal.main_arg4) = m ((c.tc : Thread Cert.FfndhRIdeal.nD Cert.FfndhRIdeal.τ).loc Cert.FfndhRIdeal.main_arg4))
      ∧ r.2.sem = fun _ => 0)

def quiescent_EvdhK [hEvdhK : Cert.EvdhK.Facts] : Prop :=
  ∀ (m : (ℓ : Loc Cert.EvdhK.nD Cert.EvdhK.τ Cert.EvdhK.sig) → Buf (Elt Bits) ℓ) (g : Dev Cert.EvdhK.nD → PrngReg), Pre_EvdhK m →
    θ_run (Cert.EvdhK.defs (F := Bits)) (onTc (τ := Cert.EvdhK.τ) (Cert.EvdhK.main (F := Bits))) ⟨m, fun _ => 0, g⟩ (fun r => (∀ c : Dev Cert.EvdhK.nD,
      r.2.mem ((c.tc : Thread Cert.EvdhK.nD Cert.EvdhK.τ).loc Cert.EvdhK.main_arg0) = m ((c.tc : Thread Cert.EvdhK.nD Cert.EvdhK.τ).loc Cert.EvdhK.main_arg0)
      ∧ r.2.mem ((c.tc : Thread Cert.EvdhK.nD Cert.EvdhK.τ).loc Cert.EvdhK.main_arg1) = m ((c.tc : Thread Cert.EvdhK.nD Cert.EvdhK.τ).loc Cert.EvdhK.main_arg1)
      ∧ r.2.mem ((c.tc : Thread Cert.EvdhK.nD Cert.EvdhK.τ).loc Cert.EvdhK.main_arg2) = m ((c.tc : Thread Cert.EvdhK.nD Cert.EvdhK.τ).loc Cert.EvdhK.main_arg2)
      ∧ r.2.mem ((c.tc : Thread Cert.EvdhK.nD Cert.EvdhK.τ).loc Cert.EvdhK.main_arg3) = m ((c.tc : Thread Cert.EvdhK.nD Cert.EvdhK.τ).loc Cert.EvdhK.main_arg3)
      ∧ r.2.mem ((c.tc : Thread Cert.EvdhK.nD Cert.EvdhK.τ).loc Cert.EvdhK.main_arg4) = m ((c.tc : Thread Cert.EvdhK.nD Cert.EvdhK.τ).loc Cert.EvdhK.main_arg4)
      ∧ r.2.mem ((c.tc : Thread Cert.EvdhK.nD Cert.EvdhK.τ).loc Cert.EvdhK.main_arg5) = m ((c.tc : Thread Cert.EvdhK.nD Cert.EvdhK.τ).loc Cert.EvdhK.main_arg5)
      ∧ r.2.mem ((c.tc : Thread Cert.EvdhK.nD Cert.EvdhK.τ).loc Cert.EvdhK.main_arg6) = m ((c.tc : Thread Cert.EvdhK.nD Cert.EvdhK.τ).loc Cert.EvdhK.main_arg6)
      ∧ r.2.mem ((c.tc : Thread Cert.EvdhK.nD Cert.EvdhK.τ).loc Cert.EvdhK.main_arg7) = m ((c.tc : Thread Cert.EvdhK.nD Cert.EvdhK.τ).loc Cert.EvdhK.main_arg7)
      ∧ r.2.mem ((c.tc : Thread Cert.EvdhK.nD Cert.EvdhK.τ).loc Cert.EvdhK.main_arg8) = m ((c.tc : Thread Cert.EvdhK.nD Cert.EvdhK.τ).loc Cert.EvdhK.main_arg8)
      ∧ r.2.mem ((c.tc : Thread Cert.EvdhK.nD Cert.EvdhK.τ).loc Cert.EvdhK.main_arg9) = m ((c.tc : Thread Cert.EvdhK.nD Cert.EvdhK.τ).loc Cert.EvdhK.main_arg9))
      ∧ r.2.sem = fun _ => 0)

def quiescent_EvdhKIdeal [hEvdhKIdeal : Cert.EvdhKIdeal.Facts] : Prop :=
  ∀ (m : (ℓ : Loc Cert.EvdhKIdeal.nD Cert.EvdhKIdeal.τ Cert.EvdhKIdeal.sig) → Buf (Elt Ideal) ℓ) (g : Dev Cert.EvdhKIdeal.nD → PrngReg), Pre_EvdhKIdeal m →
    θ_run (Cert.EvdhKIdeal.defs (F := Ideal)) (onTc (τ := Cert.EvdhKIdeal.τ) (Cert.EvdhKIdeal.main (F := Ideal))) ⟨m, fun _ => 0, g⟩ (fun r => (∀ c : Dev Cert.EvdhKIdeal.nD,
      r.2.mem ((c.tc : Thread Cert.EvdhKIdeal.nD Cert.EvdhKIdeal.τ).loc Cert.EvdhKIdeal.main_arg0) = m ((c.tc : Thread Cert.EvdhKIdeal.nD Cert.EvdhKIdeal.τ).loc Cert.EvdhKIdeal.main_arg0)
      ∧ r.2.mem ((c.tc : Thread Cert.EvdhKIdeal.nD Cert.EvdhKIdeal.τ).loc Cert.EvdhKIdeal.main_arg1) = m ((c.tc : Thread Cert.EvdhKIdeal.nD Cert.EvdhKIdeal.τ).loc Cert.EvdhKIdeal.main_arg1)
      ∧ r.2.mem ((c.tc : Thread Cert.EvdhKIdeal.nD Cert.EvdhKIdeal.τ).loc Cert.EvdhKIdeal.main_arg2) = m ((c.tc : Thread Cert.EvdhKIdeal.nD Cert.EvdhKIdeal.τ).loc Cert.EvdhKIdeal.main_arg2)
      ∧ r.2.mem ((c.tc : Thread Cert.EvdhKIdeal.nD Cert.EvdhKIdeal.τ).loc Cert.EvdhKIdeal.main_arg3) = m ((c.tc : Thread Cert.EvdhKIdeal.nD Cert.EvdhKIdeal.τ).loc Cert.EvdhKIdeal.main_arg3)
      ∧ r.2.mem ((c.tc : Thread Cert.EvdhKIdeal.nD Cert.EvdhKIdeal.τ).loc Cert.EvdhKIdeal.main_arg4) = m ((c.tc : Thread Cert.EvdhKIdeal.nD Cert.EvdhKIdeal.τ).loc Cert.EvdhKIdeal.main_arg4)
      ∧ r.2.mem ((c.tc : Thread Cert.EvdhKIdeal.nD Cert.EvdhKIdeal.τ).loc Cert.EvdhKIdeal.main_arg5) = m ((c.tc : Thread Cert.EvdhKIdeal.nD Cert.EvdhKIdeal.τ).loc Cert.EvdhKIdeal.main_arg5)
      ∧ r.2.mem ((c.tc : Thread Cert.EvdhKIdeal.nD Cert.EvdhKIdeal.τ).loc Cert.EvdhKIdeal.main_arg6) = m ((c.tc : Thread Cert.EvdhKIdeal.nD Cert.EvdhKIdeal.τ).loc Cert.EvdhKIdeal.main_arg6)
      ∧ r.2.mem ((c.tc : Thread Cert.EvdhKIdeal.nD Cert.EvdhKIdeal.τ).loc Cert.EvdhKIdeal.main_arg7) = m ((c.tc : Thread Cert.EvdhKIdeal.nD Cert.EvdhKIdeal.τ).loc Cert.EvdhKIdeal.main_arg7)
      ∧ r.2.mem ((c.tc : Thread Cert.EvdhKIdeal.nD Cert.EvdhKIdeal.τ).loc Cert.EvdhKIdeal.main_arg8) = m ((c.tc : Thread Cert.EvdhKIdeal.nD Cert.EvdhKIdeal.τ).loc Cert.EvdhKIdeal.main_arg8)
      ∧ r.2.mem ((c.tc : Thread Cert.EvdhKIdeal.nD Cert.EvdhKIdeal.τ).loc Cert.EvdhKIdeal.main_arg9) = m ((c.tc : Thread Cert.EvdhKIdeal.nD Cert.EvdhKIdeal.τ).loc Cert.EvdhKIdeal.main_arg9))
      ∧ r.2.sem = fun _ => 0)

def quiescent_EvdhKIdeal_pre_evdh_finite [hEvdhKIdeal : Cert.EvdhKIdeal.Facts] [hPre_evdh_finite : Cert.Pre_evdh_finite.Facts] : Prop :=
  ∀ (m : (ℓ : Loc Cert.EvdhKIdeal.nD Cert.EvdhKIdeal.τ Cert.EvdhKIdeal.sig) → Buf (Elt Ideal) ℓ) (g : Dev Cert.EvdhKIdeal.nD → PrngReg), Pre_EvdhKIdeal_evdh_finite m →
    θ_run (Cert.EvdhKIdeal.defs (F := Ideal)) (onTc (τ := Cert.EvdhKIdeal.τ) (Cert.EvdhKIdeal.main (F := Ideal))) ⟨m, fun _ => 0, g⟩ (fun r => (∀ c : Dev Cert.EvdhKIdeal.nD,
      r.2.mem ((c.tc : Thread Cert.EvdhKIdeal.nD Cert.EvdhKIdeal.τ).loc Cert.EvdhKIdeal.main_arg0) = m ((c.tc : Thread Cert.EvdhKIdeal.nD Cert.EvdhKIdeal.τ).loc Cert.EvdhKIdeal.main_arg0)
      ∧ r.2.mem ((c.tc : Thread Cert.EvdhKIdeal.nD Cert.EvdhKIdeal.τ).loc Cert.EvdhKIdeal.main_arg1) = m ((c.tc : Thread Cert.EvdhKIdeal.nD Cert.EvdhKIdeal.τ).loc Cert.EvdhKIdeal.main_arg1)
      ∧ r.2.mem ((c.tc : Thread Cert.EvdhKIdeal.nD Cert.EvdhKIdeal.τ).loc Cert.EvdhKIdeal.main_arg2) = m ((c.tc : Thread Cert.EvdhKIdeal.nD Cert.EvdhKIdeal.τ).loc Cert.EvdhKIdeal.main_arg2)
      ∧ r.2.mem ((c.tc : Thread Cert.EvdhKIdeal.nD Cert.EvdhKIdeal.τ).loc Cert.EvdhKIdeal.main_arg3) = m ((c.tc : Thread Cert.EvdhKIdeal.nD Cert.EvdhKIdeal.τ).loc Cert.EvdhKIdeal.main_arg3)
      ∧ r.2.mem ((c.tc : Thread Cert.EvdhKIdeal.nD Cert.EvdhKIdeal.τ).loc Cert.EvdhKIdeal.main_arg4) = m ((c.tc : Thread Cert.EvdhKIdeal.nD Cert.EvdhKIdeal.τ).loc Cert.EvdhKIdeal.main_arg4)
      ∧ r.2.mem ((c.tc : Thread Cert.EvdhKIdeal.nD Cert.EvdhKIdeal.τ).loc Cert.EvdhKIdeal.main_arg5) = m ((c.tc : Thread Cert.EvdhKIdeal.nD Cert.EvdhKIdeal.τ).loc Cert.EvdhKIdeal.main_arg5)
      ∧ r.2.mem ((c.tc : Thread Cert.EvdhKIdeal.nD Cert.EvdhKIdeal.τ).loc Cert.EvdhKIdeal.main_arg6) = m ((c.tc : Thread Cert.EvdhKIdeal.nD Cert.EvdhKIdeal.τ).loc Cert.EvdhKIdeal.main_arg6)
      ∧ r.2.mem ((c.tc : Thread Cert.EvdhKIdeal.nD Cert.EvdhKIdeal.τ).loc Cert.EvdhKIdeal.main_arg7) = m ((c.tc : Thread Cert.EvdhKIdeal.nD Cert.EvdhKIdeal.τ).loc Cert.EvdhKIdeal.main_arg7)
      ∧ r.2.mem ((c.tc : Thread Cert.EvdhKIdeal.nD Cert.EvdhKIdeal.τ).loc Cert.EvdhKIdeal.main_arg8) = m ((c.tc : Thread Cert.EvdhKIdeal.nD Cert.EvdhKIdeal.τ).loc Cert.EvdhKIdeal.main_arg8)
      ∧ r.2.mem ((c.tc : Thread Cert.EvdhKIdeal.nD Cert.EvdhKIdeal.τ).loc Cert.EvdhKIdeal.main_arg9) = m ((c.tc : Thread Cert.EvdhKIdeal.nD Cert.EvdhKIdeal.τ).loc Cert.EvdhKIdeal.main_arg9))
      ∧ r.2.sem = fun _ => 0)

def quiescent_EvdhRIdeal [hEvdhRIdeal : Cert.EvdhRIdeal.Facts] : Prop :=
  ∀ (m : (ℓ : Loc Cert.EvdhRIdeal.nD Cert.EvdhRIdeal.τ Cert.EvdhRIdeal.sig) → Buf (Elt Ideal) ℓ) (g : Dev Cert.EvdhRIdeal.nD → PrngReg), Pre_EvdhRIdeal m →
    θ_run (Cert.EvdhRIdeal.defs (F := Ideal)) (onTc (τ := Cert.EvdhRIdeal.τ) (Cert.EvdhRIdeal.main (F := Ideal))) ⟨m, fun _ => 0, g⟩ (fun r => (∀ c : Dev Cert.EvdhRIdeal.nD,
      r.2.mem ((c.tc : Thread Cert.EvdhRIdeal.nD Cert.EvdhRIdeal.τ).loc Cert.EvdhRIdeal.main_arg0) = m ((c.tc : Thread Cert.EvdhRIdeal.nD Cert.EvdhRIdeal.τ).loc Cert.EvdhRIdeal.main_arg0)
      ∧ r.2.mem ((c.tc : Thread Cert.EvdhRIdeal.nD Cert.EvdhRIdeal.τ).loc Cert.EvdhRIdeal.main_arg1) = m ((c.tc : Thread Cert.EvdhRIdeal.nD Cert.EvdhRIdeal.τ).loc Cert.EvdhRIdeal.main_arg1)
      ∧ r.2.mem ((c.tc : Thread Cert.EvdhRIdeal.nD Cert.EvdhRIdeal.τ).loc Cert.EvdhRIdeal.main_arg2) = m ((c.tc : Thread Cert.EvdhRIdeal.nD Cert.EvdhRIdeal.τ).loc Cert.EvdhRIdeal.main_arg2)
      ∧ r.2.mem ((c.tc : Thread Cert.EvdhRIdeal.nD Cert.EvdhRIdeal.τ).loc Cert.EvdhRIdeal.main_arg3) = m ((c.tc : Thread Cert.EvdhRIdeal.nD Cert.EvdhRIdeal.τ).loc Cert.EvdhRIdeal.main_arg3)
      ∧ r.2.mem ((c.tc : Thread Cert.EvdhRIdeal.nD Cert.EvdhRIdeal.τ).loc Cert.EvdhRIdeal.main_arg4) = m ((c.tc : Thread Cert.EvdhRIdeal.nD Cert.EvdhRIdeal.τ).loc Cert.EvdhRIdeal.main_arg4)
      ∧ r.2.mem ((c.tc : Thread Cert.EvdhRIdeal.nD Cert.EvdhRIdeal.τ).loc Cert.EvdhRIdeal.main_arg5) = m ((c.tc : Thread Cert.EvdhRIdeal.nD Cert.EvdhRIdeal.τ).loc Cert.EvdhRIdeal.main_arg5)
      ∧ r.2.mem ((c.tc : Thread Cert.EvdhRIdeal.nD Cert.EvdhRIdeal.τ).loc Cert.EvdhRIdeal.main_arg6) = m ((c.tc : Thread Cert.EvdhRIdeal.nD Cert.EvdhRIdeal.τ).loc Cert.EvdhRIdeal.main_arg6)
      ∧ r.2.mem ((c.tc : Thread Cert.EvdhRIdeal.nD Cert.EvdhRIdeal.τ).loc Cert.EvdhRIdeal.main_arg7) = m ((c.tc : Thread Cert.EvdhRIdeal.nD Cert.EvdhRIdeal.τ).loc Cert.EvdhRIdeal.main_arg7)
      ∧ r.2.mem ((c.tc : Thread Cert.EvdhRIdeal.nD Cert.EvdhRIdeal.τ).loc Cert.EvdhRIdeal.main_arg8) = m ((c.tc : Thread Cert.EvdhRIdeal.nD Cert.EvdhRIdeal.τ).loc Cert.EvdhRIdeal.main_arg8)
      ∧ r.2.mem ((c.tc : Thread Cert.EvdhRIdeal.nD Cert.EvdhRIdeal.τ).loc Cert.EvdhRIdeal.main_arg9) = m ((c.tc : Thread Cert.EvdhRIdeal.nD Cert.EvdhRIdeal.τ).loc Cert.EvdhRIdeal.main_arg9))
      ∧ r.2.sem = fun _ => 0)

def quiescent_EvdhRIdeal_pre_evdh_finite [hEvdhRIdeal : Cert.EvdhRIdeal.Facts] [hPre_evdh_finite : Cert.Pre_evdh_finite.Facts] : Prop :=
  ∀ (m : (ℓ : Loc Cert.EvdhRIdeal.nD Cert.EvdhRIdeal.τ Cert.EvdhRIdeal.sig) → Buf (Elt Ideal) ℓ) (g : Dev Cert.EvdhRIdeal.nD → PrngReg), Pre_EvdhRIdeal_evdh_finite m →
    θ_run (Cert.EvdhRIdeal.defs (F := Ideal)) (onTc (τ := Cert.EvdhRIdeal.τ) (Cert.EvdhRIdeal.main (F := Ideal))) ⟨m, fun _ => 0, g⟩ (fun r => (∀ c : Dev Cert.EvdhRIdeal.nD,
      r.2.mem ((c.tc : Thread Cert.EvdhRIdeal.nD Cert.EvdhRIdeal.τ).loc Cert.EvdhRIdeal.main_arg0) = m ((c.tc : Thread Cert.EvdhRIdeal.nD Cert.EvdhRIdeal.τ).loc Cert.EvdhRIdeal.main_arg0)
      ∧ r.2.mem ((c.tc : Thread Cert.EvdhRIdeal.nD Cert.EvdhRIdeal.τ).loc Cert.EvdhRIdeal.main_arg1) = m ((c.tc : Thread Cert.EvdhRIdeal.nD Cert.EvdhRIdeal.τ).loc Cert.EvdhRIdeal.main_arg1)
      ∧ r.2.mem ((c.tc : Thread Cert.EvdhRIdeal.nD Cert.EvdhRIdeal.τ).loc Cert.EvdhRIdeal.main_arg2) = m ((c.tc : Thread Cert.EvdhRIdeal.nD Cert.EvdhRIdeal.τ).loc Cert.EvdhRIdeal.main_arg2)
      ∧ r.2.mem ((c.tc : Thread Cert.EvdhRIdeal.nD Cert.EvdhRIdeal.τ).loc Cert.EvdhRIdeal.main_arg3) = m ((c.tc : Thread Cert.EvdhRIdeal.nD Cert.EvdhRIdeal.τ).loc Cert.EvdhRIdeal.main_arg3)
      ∧ r.2.mem ((c.tc : Thread Cert.EvdhRIdeal.nD Cert.EvdhRIdeal.τ).loc Cert.EvdhRIdeal.main_arg4) = m ((c.tc : Thread Cert.EvdhRIdeal.nD Cert.EvdhRIdeal.τ).loc Cert.EvdhRIdeal.main_arg4)
      ∧ r.2.mem ((c.tc : Thread Cert.EvdhRIdeal.nD Cert.EvdhRIdeal.τ).loc Cert.EvdhRIdeal.main_arg5) = m ((c.tc : Thread Cert.EvdhRIdeal.nD Cert.EvdhRIdeal.τ).loc Cert.EvdhRIdeal.main_arg5)
      ∧ r.2.mem ((c.tc : Thread Cert.EvdhRIdeal.nD Cert.EvdhRIdeal.τ).loc Cert.EvdhRIdeal.main_arg6) = m ((c.tc : Thread Cert.EvdhRIdeal.nD Cert.EvdhRIdeal.τ).loc Cert.EvdhRIdeal.main_arg6)
      ∧ r.2.mem ((c.tc : Thread Cert.EvdhRIdeal.nD Cert.EvdhRIdeal.τ).loc Cert.EvdhRIdeal.main_arg7) = m ((c.tc : Thread Cert.EvdhRIdeal.nD Cert.EvdhRIdeal.τ).loc Cert.EvdhRIdeal.main_arg7)
      ∧ r.2.mem ((c.tc : Thread Cert.EvdhRIdeal.nD Cert.EvdhRIdeal.τ).loc Cert.EvdhRIdeal.main_arg8) = m ((c.tc : Thread Cert.EvdhRIdeal.nD Cert.EvdhRIdeal.τ).loc Cert.EvdhRIdeal.main_arg8)
      ∧ r.2.mem ((c.tc : Thread Cert.EvdhRIdeal.nD Cert.EvdhRIdeal.τ).loc Cert.EvdhRIdeal.main_arg9) = m ((c.tc : Thread Cert.EvdhRIdeal.nD Cert.EvdhRIdeal.τ).loc Cert.EvdhRIdeal.main_arg9))
      ∧ r.2.sem = fun _ => 0)

def quiescent_OddhK [hOddhK : Cert.OddhK.Facts] : Prop :=
  ∀ (m : (ℓ : Loc Cert.OddhK.nD Cert.OddhK.τ Cert.OddhK.sig) → Buf (Elt Bits) ℓ) (g : Dev Cert.OddhK.nD → PrngReg), Pre_OddhK m →
    θ_run (Cert.OddhK.defs (F := Bits)) (onTc (τ := Cert.OddhK.τ) (Cert.OddhK.main (F := Bits))) ⟨m, fun _ => 0, g⟩ (fun r => (∀ c : Dev Cert.OddhK.nD,
      r.2.mem ((c.tc : Thread Cert.OddhK.nD Cert.OddhK.τ).loc Cert.OddhK.main_arg0) = m ((c.tc : Thread Cert.OddhK.nD Cert.OddhK.τ).loc Cert.OddhK.main_arg0)
      ∧ r.2.mem ((c.tc : Thread Cert.OddhK.nD Cert.OddhK.τ).loc Cert.OddhK.main_arg1) = m ((c.tc : Thread Cert.OddhK.nD Cert.OddhK.τ).loc Cert.OddhK.main_arg1)
      ∧ r.2.mem ((c.tc : Thread Cert.OddhK.nD Cert.OddhK.τ).loc Cert.OddhK.main_arg2) = m ((c.tc : Thread Cert.OddhK.nD Cert.OddhK.τ).loc Cert.OddhK.main_arg2)
      ∧ r.2.mem ((c.tc : Thread Cert.OddhK.nD Cert.OddhK.τ).loc Cert.OddhK.main_arg3) = m ((c.tc : Thread Cert.OddhK.nD Cert.OddhK.τ).loc Cert.OddhK.main_arg3)
      ∧ r.2.mem ((c.tc : Thread Cert.OddhK.nD Cert.OddhK.τ).loc Cert.OddhK.main_arg4) = m ((c.tc : Thread Cert.OddhK.nD Cert.OddhK.τ).loc Cert.OddhK.main_arg4))
      ∧ r.2.sem = fun _ => 0)

def quiescent_OddhKIdeal [hOddhKIdeal : Cert.OddhKIdeal.Facts] : Prop :=
  ∀ (m : (ℓ : Loc Cert.OddhKIdeal.nD Cert.OddhKIdeal.τ Cert.OddhKIdeal.sig) → Buf (Elt Ideal) ℓ) (g : Dev Cert.OddhKIdeal.nD → PrngReg), Pre_OddhKIdeal m →
    θ_run (Cert.OddhKIdeal.defs (F := Ideal)) (onTc (τ := Cert.OddhKIdeal.τ) (Cert.OddhKIdeal.main (F := Ideal))) ⟨m, fun _ => 0, g⟩ (fun r => (∀ c : Dev Cert.OddhKIdeal.nD,
      r.2.mem ((c.tc : Thread Cert.OddhKIdeal.nD Cert.OddhKIdeal.τ).loc Cert.OddhKIdeal.main_arg0) = m ((c.tc : Thread Cert.OddhKIdeal.nD Cert.OddhKIdeal.τ).loc Cert.OddhKIdeal.main_arg0)
      ∧ r.2.mem ((c.tc : Thread Cert.OddhKIdeal.nD Cert.OddhKIdeal.τ).loc Cert.OddhKIdeal.main_arg1) = m ((c.tc : Thread Cert.OddhKIdeal.nD Cert.OddhKIdeal.τ).loc Cert.OddhKIdeal.main_arg1)
      ∧ r.2.mem ((c.tc : Thread Cert.OddhKIdeal.nD Cert.OddhKIdeal.τ).loc Cert.OddhKIdeal.main_arg2) = m ((c.tc : Thread Cert.OddhKIdeal.nD Cert.OddhKIdeal.τ).loc Cert.OddhKIdeal.main_arg2)
      ∧ r.2.mem ((c.tc : Thread Cert.OddhKIdeal.nD Cert.OddhKIdeal.τ).loc Cert.OddhKIdeal.main_arg3) = m ((c.tc : Thread Cert.OddhKIdeal.nD Cert.OddhKIdeal.τ).loc Cert.OddhKIdeal.main_arg3)
      ∧ r.2.mem ((c.tc : Thread Cert.OddhKIdeal.nD Cert.OddhKIdeal.τ).loc Cert.OddhKIdeal.main_arg4) = m ((c.tc : Thread Cert.OddhKIdeal.nD Cert.OddhKIdeal.τ).loc Cert.OddhKIdeal.main_arg4))
      ∧ r.2.sem = fun _ => 0)

def quiescent_OddhKIdeal_pre_oddh_finite [hOddhKIdeal : Cert.OddhKIdeal.Facts] [hPre_oddh_finite : Cert.Pre_oddh_finite.Facts] : Prop :=
  ∀ (m : (ℓ : Loc Cert.OddhKIdeal.nD Cert.OddhKIdeal.τ Cert.OddhKIdeal.sig) → Buf (Elt Ideal) ℓ) (g : Dev Cert.OddhKIdeal.nD → PrngReg), Pre_OddhKIdeal_oddh_finite m →
    θ_run (Cert.OddhKIdeal.defs (F := Ideal)) (onTc (τ := Cert.OddhKIdeal.τ) (Cert.OddhKIdeal.main (F := Ideal))) ⟨m, fun _ => 0, g⟩ (fun r => (∀ c : Dev Cert.OddhKIdeal.nD,
      r.2.mem ((c.tc : Thread Cert.OddhKIdeal.nD Cert.OddhKIdeal.τ).loc Cert.OddhKIdeal.main_arg0) = m ((c.tc : Thread Cert.OddhKIdeal.nD Cert.OddhKIdeal.τ).loc Cert.OddhKIdeal.main_arg0)
      ∧ r.2.mem ((c.tc : Thread Cert.OddhKIdeal.nD Cert.OddhKIdeal.τ).loc Cert.OddhKIdeal.main_arg1) = m ((c.tc : Thread Cert.OddhKIdeal.nD Cert.OddhKIdeal.τ).loc Cert.OddhKIdeal.main_arg1)
      ∧ r.2.mem ((c.tc : Thread Cert.OddhKIdeal.nD Cert.OddhKIdeal.τ).loc Cert.OddhKIdeal.main_arg2) = m ((c.tc : Thread Cert.OddhKIdeal.nD Cert.OddhKIdeal.τ).loc Cert.OddhKIdeal.main_arg2)
      ∧ r.2.mem ((c.tc : Thread Cert.OddhKIdeal.nD Cert.OddhKIdeal.τ).loc Cert.OddhKIdeal.main_arg3) = m ((c.tc : Thread Cert.OddhKIdeal.nD Cert.OddhKIdeal.τ).loc Cert.OddhKIdeal.main_arg3)
      ∧ r.2.mem ((c.tc : Thread Cert.OddhKIdeal.nD Cert.OddhKIdeal.τ).loc Cert.OddhKIdeal.main_arg4) = m ((c.tc : Thread Cert.OddhKIdeal.nD Cert.OddhKIdeal.τ).loc Cert.OddhKIdeal.main_arg4))
      ∧ r.2.sem = fun _ => 0)

def quiescent_OddhRIdeal [hOddhRIdeal : Cert.OddhRIdeal.Facts] : Prop :=
  ∀ (m : (ℓ : Loc Cert.OddhRIdeal.nD Cert.OddhRIdeal.τ Cert.OddhRIdeal.sig) → Buf (Elt Ideal) ℓ) (g : Dev Cert.OddhRIdeal.nD → PrngReg), Pre_OddhRIdeal m →
    θ_run (Cert.OddhRIdeal.defs (F := Ideal)) (onTc (τ := Cert.OddhRIdeal.τ) (Cert.OddhRIdeal.main (F := Ideal))) ⟨m, fun _ => 0, g⟩ (fun r => (∀ c : Dev Cert.OddhRIdeal.nD,
      r.2.mem ((c.tc : Thread Cert.OddhRIdeal.nD Cert.OddhRIdeal.τ).loc Cert.OddhRIdeal.main_arg0) = m ((c.tc : Thread Cert.OddhRIdeal.nD Cert.OddhRIdeal.τ).loc Cert.OddhRIdeal.main_arg0)
      ∧ r.2.mem ((c.tc : Thread Cert.OddhRIdeal.nD Cert.OddhRIdeal.τ).loc Cert.OddhRIdeal.main_arg1) = m ((c.tc : Thread Cert.OddhRIdeal.nD Cert.OddhRIdeal.τ).loc Cert.OddhRIdeal.main_arg1)
      ∧ r.2.mem ((c.tc : Thread Cert.OddhRIdeal.nD Cert.OddhRIdeal.τ).loc Cert.OddhRIdeal.main_arg2) = m ((c.tc : Thread Cert.OddhRIdeal.nD Cert.OddhRIdeal.τ).loc Cert.OddhRIdeal.main_arg2)
      ∧ r.2.mem ((c.tc : Thread Cert.OddhRIdeal.nD Cert.OddhRIdeal.τ).loc Cert.OddhRIdeal.main_arg3) = m ((c.tc : Thread Cert.OddhRIdeal.nD Cert.OddhRIdeal.τ).loc Cert.OddhRIdeal.main_arg3)
      ∧ r.2.mem ((c.tc : Thread Cert.OddhRIdeal.nD Cert.OddhRIdeal.τ).loc Cert.OddhRIdeal.main_arg4) = m ((c.tc : Thread Cert.OddhRIdeal.nD Cert.OddhRIdeal.τ).loc Cert.OddhRIdeal.main_arg4))
      ∧ r.2.sem = fun _ => 0)

def quiescent_OddhRIdeal_pre_oddh_finite [hOddhRIdeal : Cert.OddhRIdeal.Facts] [hPre_oddh_finite : Cert.Pre_oddh_finite.Facts] : Prop :=
  ∀ (m : (ℓ : Loc Cert.OddhRIdeal.nD Cert.OddhRIdeal.τ Cert.OddhRIdeal.sig) → Buf (Elt Ideal) ℓ) (g : Dev Cert.OddhRIdeal.nD → PrngReg), Pre_OddhRIdeal_oddh_finite m →
    θ_run (Cert.OddhRIdeal.defs (F := Ideal)) (onTc (τ := Cert.OddhRIdeal.τ) (Cert.OddhRIdeal.main (F := Ideal))) ⟨m, fun _ => 0, g⟩ (fun r => (∀ c : Dev Cert.OddhRIdeal.nD,
      r.2.mem ((c.tc : Thread Cert.OddhRIdeal.nD Cert.OddhRIdeal.τ).loc Cert.OddhRIdeal.main_arg0) = m ((c.tc : Thread Cert.OddhRIdeal.nD Cert.OddhRIdeal.τ).loc Cert.OddhRIdeal.main_arg0)
      ∧ r.2.mem ((c.tc : Thread Cert.OddhRIdeal.nD Cert.OddhRIdeal.τ).loc Cert.OddhRIdeal.main_arg1) = m ((c.tc : Thread Cert.OddhRIdeal.nD Cert.OddhRIdeal.τ).loc Cert.OddhRIdeal.main_arg1)
      ∧ r.2.mem ((c.tc : Thread Cert.OddhRIdeal.nD Cert.OddhRIdeal.τ).loc Cert.OddhRIdeal.main_arg2) = m ((c.tc : Thread Cert.OddhRIdeal.nD Cert.OddhRIdeal.τ).loc Cert.OddhRIdeal.main_arg2)
      ∧ r.2.mem ((c.tc : Thread Cert.OddhRIdeal.nD Cert.OddhRIdeal.τ).loc Cert.OddhRIdeal.main_arg3) = m ((c.tc : Thread Cert.OddhRIdeal.nD Cert.OddhRIdeal.τ).loc Cert.OddhRIdeal.main_arg3)
      ∧ r.2.mem ((c.tc : Thread Cert.OddhRIdeal.nD Cert.OddhRIdeal.τ).loc Cert.OddhRIdeal.main_arg4) = m ((c.tc : Thread Cert.OddhRIdeal.nD Cert.OddhRIdeal.τ).loc Cert.OddhRIdeal.main_arg4))
      ∧ r.2.sem = fun _ => 0)

def quiescent_QkbK [hQkbK : Cert.QkbK.Facts] : Prop :=
  ∀ (m : (ℓ : Loc Cert.QkbK.nD Cert.QkbK.τ Cert.QkbK.sig) → Buf (Elt Bits) ℓ) (g : Dev Cert.QkbK.nD → PrngReg), Pre_QkbK m →
    θ_run (Cert.QkbK.defs (F := Bits)) (onTc (τ := Cert.QkbK.τ) (Cert.QkbK.main (F := Bits))) ⟨m, fun _ => 0, g⟩ (fun r => (∀ c : Dev Cert.QkbK.nD,
      r.2.mem ((c.tc : Thread Cert.QkbK.nD Cert.QkbK.τ).loc Cert.QkbK.main_arg0) = m ((c.tc : Thread Cert.QkbK.nD Cert.QkbK.τ).loc Cert.QkbK.main_arg0)
      ∧ r.2.mem ((c.tc : Thread Cert.QkbK.nD Cert.QkbK.τ).loc Cert.QkbK.main_arg1) = m ((c.tc : Thread Cert.QkbK.nD Cert.QkbK.τ).loc Cert.QkbK.main_arg1)
      ∧ r.2.mem ((c.tc : Thread Cert.QkbK.nD Cert.QkbK.τ).loc Cert.QkbK.main_arg2) = m ((c.tc : Thread Cert.QkbK.nD Cert.QkbK.τ).loc Cert.QkbK.main_arg2)
      ∧ r.2.mem ((c.tc : Thread Cert.QkbK.nD Cert.QkbK.τ).loc Cert.QkbK.main_arg3) = m ((c.tc : Thread Cert.QkbK.nD Cert.QkbK.τ).loc Cert.QkbK.main_arg3)
      ∧ r.2.mem ((c.tc : Thread Cert.QkbK.nD Cert.QkbK.τ).loc Cert.QkbK.main_arg4) = m ((c.tc : Thread Cert.QkbK.nD Cert.QkbK.τ).loc Cert.QkbK.main_arg4))
      ∧ r.2.sem = fun _ => 0)

def quiescent_QkbKIdeal [hQkbKIdeal : Cert.QkbKIdeal.Facts] : Prop :=
  ∀ (m : (ℓ : Loc Cert.QkbKIdeal.nD Cert.QkbKIdeal.τ Cert.QkbKIdeal.sig) → Buf (Elt Ideal) ℓ) (g : Dev Cert.QkbKIdeal.nD → PrngReg), Pre_QkbKIdeal m →
    θ_run (Cert.QkbKIdeal.defs (F := Ideal)) (onTc (τ := Cert.QkbKIdeal.τ) (Cert.QkbKIdeal.main (F := Ideal))) ⟨m, fun _ => 0, g⟩ (fun r => (∀ c : Dev Cert.QkbKIdeal.nD,
      r.2.mem ((c.tc : Thread Cert.QkbKIdeal.nD Cert.QkbKIdeal.τ).loc Cert.QkbKIdeal.main_arg0) = m ((c.tc : Thread Cert.QkbKIdeal.nD Cert.QkbKIdeal.τ).loc Cert.QkbKIdeal.main_arg0)
      ∧ r.2.mem ((c.tc : Thread Cert.QkbKIdeal.nD Cert.QkbKIdeal.τ).loc Cert.QkbKIdeal.main_arg1) = m ((c.tc : Thread Cert.QkbKIdeal.nD Cert.QkbKIdeal.τ).loc Cert.QkbKIdeal.main_arg1)
      ∧ r.2.mem ((c.tc : Thread Cert.QkbKIdeal.nD Cert.QkbKIdeal.τ).loc Cert.QkbKIdeal.main_arg2) = m ((c.tc : Thread Cert.QkbKIdeal.nD Cert.QkbKIdeal.τ).loc Cert.QkbKIdeal.main_arg2)
      ∧ r.2.mem ((c.tc : Thread Cert.QkbKIdeal.nD Cert.QkbKIdeal.τ).loc Cert.QkbKIdeal.main_arg3) = m ((c.tc : Thread Cert.QkbKIdeal.nD Cert.QkbKIdeal.τ).loc Cert.QkbKIdeal.main_arg3)
      ∧ r.2.mem ((c.tc : Thread Cert.QkbKIdeal.nD Cert.QkbKIdeal.τ).loc Cert.QkbKIdeal.main_arg4) = m ((c.tc : Thread Cert.QkbKIdeal.nD Cert.QkbKIdeal.τ).loc Cert.QkbKIdeal.main_arg4))
      ∧ r.2.sem = fun _ => 0)

def quiescent_QkbKIdeal_pre_qkb_finite [hQkbKIdeal : Cert.QkbKIdeal.Facts] [hPre_qkb_finite : Cert.Pre_qkb_finite.Facts] : Prop :=
  ∀ (m : (ℓ : Loc Cert.QkbKIdeal.nD Cert.QkbKIdeal.τ Cert.QkbKIdeal.sig) → Buf (Elt Ideal) ℓ) (g : Dev Cert.QkbKIdeal.nD → PrngReg), Pre_QkbKIdeal_qkb_finite m →
    θ_run (Cert.QkbKIdeal.defs (F := Ideal)) (onTc (τ := Cert.QkbKIdeal.τ) (Cert.QkbKIdeal.main (F := Ideal))) ⟨m, fun _ => 0, g⟩ (fun r => (∀ c : Dev Cert.QkbKIdeal.nD,
      r.2.mem ((c.tc : Thread Cert.QkbKIdeal.nD Cert.QkbKIdeal.τ).loc Cert.QkbKIdeal.main_arg0) = m ((c.tc : Thread Cert.QkbKIdeal.nD Cert.QkbKIdeal.τ).loc Cert.QkbKIdeal.main_arg0)
      ∧ r.2.mem ((c.tc : Thread Cert.QkbKIdeal.nD Cert.QkbKIdeal.τ).loc Cert.QkbKIdeal.main_arg1) = m ((c.tc : Thread Cert.QkbKIdeal.nD Cert.QkbKIdeal.τ).loc Cert.QkbKIdeal.main_arg1)
      ∧ r.2.mem ((c.tc : Thread Cert.QkbKIdeal.nD Cert.QkbKIdeal.τ).loc Cert.QkbKIdeal.main_arg2) = m ((c.tc : Thread Cert.QkbKIdeal.nD Cert.QkbKIdeal.τ).loc Cert.QkbKIdeal.main_arg2)
      ∧ r.2.mem ((c.tc : Thread Cert.QkbKIdeal.nD Cert.QkbKIdeal.τ).loc Cert.QkbKIdeal.main_arg3) = m ((c.tc : Thread Cert.QkbKIdeal.nD Cert.QkbKIdeal.τ).loc Cert.QkbKIdeal.main_arg3)
      ∧ r.2.mem ((c.tc : Thread Cert.QkbKIdeal.nD Cert.QkbKIdeal.τ).loc Cert.QkbKIdeal.main_arg4) = m ((c.tc : Thread Cert.QkbKIdeal.nD Cert.QkbKIdeal.τ).loc Cert.QkbKIdeal.main_arg4))
      ∧ r.2.sem = fun _ => 0)

def quiescent_QkbRIdeal [hQkbRIdeal : Cert.QkbRIdeal.Facts] : Prop :=
  ∀ (m : (ℓ : Loc Cert.QkbRIdeal.nD Cert.QkbRIdeal.τ Cert.QkbRIdeal.sig) → Buf (Elt Ideal) ℓ) (g : Dev Cert.QkbRIdeal.nD → PrngReg), Pre_QkbRIdeal m →
    θ_run (Cert.QkbRIdeal.defs (F := Ideal)) (onTc (τ := Cert.QkbRIdeal.τ) (Cert.QkbRIdeal.main (F := Ideal))) ⟨m, fun _ => 0, g⟩ (fun r => (∀ c : Dev Cert.QkbRIdeal.nD,
      r.2.mem ((c.tc : Thread Cert.QkbRIdeal.nD Cert.QkbRIdeal.τ).loc Cert.QkbRIdeal.main_arg0) = m ((c.tc : Thread Cert.QkbRIdeal.nD Cert.QkbRIdeal.τ).loc Cert.QkbRIdeal.main_arg0)
      ∧ r.2.mem ((c.tc : Thread Cert.QkbRIdeal.nD Cert.QkbRIdeal.τ).loc Cert.QkbRIdeal.main_arg1) = m ((c.tc : Thread Cert.QkbRIdeal.nD Cert.QkbRIdeal.τ).loc Cert.QkbRIdeal.main_arg1)
      ∧ r.2.mem ((c.tc : Thread Cert.QkbRIdeal.nD Cert.QkbRIdeal.τ).loc Cert.QkbRIdeal.main_arg2) = m ((c.tc : Thread Cert.QkbRIdeal.nD Cert.QkbRIdeal.τ).loc Cert.QkbRIdeal.main_arg2)
      ∧ r.2.mem ((c.tc : Thread Cert.QkbRIdeal.nD Cert.QkbRIdeal.τ).loc Cert.QkbRIdeal.main_arg3) = m ((c.tc : Thread Cert.QkbRIdeal.nD Cert.QkbRIdeal.τ).loc Cert.QkbRIdeal.main_arg3)
      ∧ r.2.mem ((c.tc : Thread Cert.QkbRIdeal.nD Cert.QkbRIdeal.τ).loc Cert.QkbRIdeal.main_arg4) = m ((c.tc : Thread Cert.QkbRIdeal.nD Cert.QkbRIdeal.τ).loc Cert.QkbRIdeal.main_arg4))
      ∧ r.2.sem = fun _ => 0)

def quiescent_QkbRIdeal_pre_qkb_finite [hQkbRIdeal : Cert.QkbRIdeal.Facts] [hPre_qkb_finite : Cert.Pre_qkb_finite.Facts] : Prop :=
  ∀ (m : (ℓ : Loc Cert.QkbRIdeal.nD Cert.QkbRIdeal.τ Cert.QkbRIdeal.sig) → Buf (Elt Ideal) ℓ) (g : Dev Cert.QkbRIdeal.nD → PrngReg), Pre_QkbRIdeal_qkb_finite m →
    θ_run (Cert.QkbRIdeal.defs (F := Ideal)) (onTc (τ := Cert.QkbRIdeal.τ) (Cert.QkbRIdeal.main (F := Ideal))) ⟨m, fun _ => 0, g⟩ (fun r => (∀ c : Dev Cert.QkbRIdeal.nD,
      r.2.mem ((c.tc : Thread Cert.QkbRIdeal.nD Cert.QkbRIdeal.τ).loc Cert.QkbRIdeal.main_arg0) = m ((c.tc : Thread Cert.QkbRIdeal.nD Cert.QkbRIdeal.τ).loc Cert.QkbRIdeal.main_arg0)
      ∧ r.2.mem ((c.tc : Thread Cert.QkbRIdeal.nD Cert.QkbRIdeal.τ).loc Cert.QkbRIdeal.main_arg1) = m ((c.tc : Thread Cert.QkbRIdeal.nD Cert.QkbRIdeal.τ).loc Cert.QkbRIdeal.main_arg1)
      ∧ r.2.mem ((c.tc : Thread Cert.QkbRIdeal.nD Cert.QkbRIdeal.τ).loc Cert.QkbRIdeal.main_arg2) = m ((c.tc : Thread Cert.QkbRIdeal.nD Cert.QkbRIdeal.τ).loc Cert.QkbRIdeal.main_arg2)
      ∧ r.2.mem ((c.tc : Thread Cert.QkbRIdeal.nD Cert.QkbRIdeal.τ).loc Cert.QkbRIdeal.main_arg3) = m ((c.tc : Thread Cert.QkbRIdeal.nD Cert.QkbRIdeal.τ).loc Cert.QkbRIdeal.main_arg3)
      ∧ r.2.mem ((c.tc : Thread Cert.QkbRIdeal.nD Cert.QkbRIdeal.τ).loc Cert.QkbRIdeal.main_arg4) = m ((c.tc : Thread Cert.QkbRIdeal.nD Cert.QkbRIdeal.τ).loc Cert.QkbRIdeal.main_arg4))
      ∧ r.2.sem = fun _ => 0)

def quiescent_AttfK [hAttfK : Cert.AttfK.Facts] : Prop :=
  ∀ (m : (ℓ : Loc Cert.AttfK.nD Cert.AttfK.τ Cert.AttfK.sig) → Buf (Elt Bits) ℓ) (g : Dev Cert.AttfK.nD → PrngReg), Pre_AttfK m →
    θ_run (Cert.AttfK.defs (F := Bits)) (onTc (τ := Cert.AttfK.τ) (Cert.AttfK.main (F := Bits))) ⟨m, fun _ => 0, g⟩ (fun r => (∀ c : Dev Cert.AttfK.nD,
      r.2.mem ((c.tc : Thread Cert.AttfK.nD Cert.AttfK.τ).loc Cert.AttfK.main_arg0) = m ((c.tc : Thread Cert.AttfK.nD Cert.AttfK.τ).loc Cert.AttfK.main_arg0)
      ∧ r.2.mem ((c.tc : Thread Cert.AttfK.nD Cert.AttfK.τ).loc Cert.AttfK.main_arg1) = m ((c.tc : Thread Cert.AttfK.nD Cert.AttfK.τ).loc Cert.AttfK.main_arg1)
      ∧ r.2.mem ((c.tc : Thread Cert.AttfK.nD Cert.AttfK.τ).loc Cert.AttfK.main_arg2) = m ((c.tc : Thread Cert.AttfK.nD Cert.AttfK.τ).loc Cert.AttfK.main_arg2))
      ∧ r.2.sem = fun _ => 0)

def quiescent_AttfKIdeal [hAttfKIdeal : Cert.AttfKIdeal.Facts] : Prop :=
  ∀ (m : (ℓ : Loc Cert.AttfKIdeal.nD Cert.AttfKIdeal.τ Cert.AttfKIdeal.sig) → Buf (Elt Ideal) ℓ) (g : Dev Cert.AttfKIdeal.nD → PrngReg), Pre_AttfKIdeal m →
    θ_run (Cert.AttfKIdeal.defs (F := Ideal)) (onTc (τ := Cert.AttfKIdeal.τ) (Cert.AttfKIdeal.main (F := Ideal))) ⟨m, fun _ => 0, g⟩ (fun r => (∀ c : Dev Cert.AttfKIdeal.nD,
      r.2.mem ((c.tc : Thread Cert.AttfKIdeal.nD Cert.AttfKIdeal.τ).loc Cert.AttfKIdeal.main_arg0) = m ((c.tc : Thread Cert.AttfKIdeal.nD Cert.AttfKIdeal.τ).loc Cert.AttfKIdeal.main_arg0)
      ∧ r.2.mem ((c.tc : Thread Cert.AttfKIdeal.nD Cert.AttfKIdeal.τ).loc Cert.AttfKIdeal.main_arg1) = m ((c.tc : Thread Cert.AttfKIdeal.nD Cert.AttfKIdeal.τ).loc Cert.AttfKIdeal.main_arg1)
      ∧ r.2.mem ((c.tc : Thread Cert.AttfKIdeal.nD Cert.AttfKIdeal.τ).loc Cert.AttfKIdeal.main_arg2) = m ((c.tc : Thread Cert.AttfKIdeal.nD Cert.AttfKIdeal.τ).loc Cert.AttfKIdeal.main_arg2))
      ∧ r.2.sem = fun _ => 0)

def quiescent_AttfKIdeal_pre_attf_finite [hAttfKIdeal : Cert.AttfKIdeal.Facts] [hPre_attf_finite : Cert.Pre_attf_finite.Facts] : Prop :=
  ∀ (m : (ℓ : Loc Cert.AttfKIdeal.nD Cert.AttfKIdeal.τ Cert.AttfKIdeal.sig) → Buf (Elt Ideal) ℓ) (g : Dev Cert.AttfKIdeal.nD → PrngReg), Pre_AttfKIdeal_attf_finite m →
    θ_run (Cert.AttfKIdeal.defs (F := Ideal)) (onTc (τ := Cert.AttfKIdeal.τ) (Cert.AttfKIdeal.main (F := Ideal))) ⟨m, fun _ => 0, g⟩ (fun r => (∀ c : Dev Cert.AttfKIdeal.nD,
      r.2.mem ((c.tc : Thread Cert.AttfKIdeal.nD Cert.AttfKIdeal.τ).loc Cert.AttfKIdeal.main_arg0) = m ((c.tc : Thread Cert.AttfKIdeal.nD Cert.AttfKIdeal.τ).loc Cert.AttfKIdeal.main_arg0)
      ∧ r.2.mem ((c.tc : Thread Cert.AttfKIdeal.nD Cert.AttfKIdeal.τ).loc Cert.AttfKIdeal.main_arg1) = m ((c.tc : Thread Cert.AttfKIdeal.nD Cert.AttfKIdeal.τ).loc Cert.AttfKIdeal.main_arg1)
      ∧ r.2.mem ((c.tc : Thread Cert.AttfKIdeal.nD Cert.AttfKIdeal.τ).loc Cert.AttfKIdeal.main_arg2) = m ((c.tc : Thread Cert.AttfKIdeal.nD Cert.AttfKIdeal.τ).loc Cert.AttfKIdeal.main_arg2))
      ∧ r.2.sem = fun _ => 0)

def quiescent_AttfRIdeal [hAttfRIdeal : Cert.AttfRIdeal.Facts] : Prop :=
  ∀ (m : (ℓ : Loc Cert.AttfRIdeal.nD Cert.AttfRIdeal.τ Cert.AttfRIdeal.sig) → Buf (Elt Ideal) ℓ) (g : Dev Cert.AttfRIdeal.nD → PrngReg), Pre_AttfRIdeal m →
    θ_run (Cert.AttfRIdeal.defs (F := Ideal)) (onTc (τ := Cert.AttfRIdeal.τ) (Cert.AttfRIdeal.main (F := Ideal))) ⟨m, fun _ => 0, g⟩ (fun r => (∀ c : Dev Cert.AttfRIdeal.nD,
      r.2.mem ((c.tc : Thread Cert.AttfRIdeal.nD Cert.AttfRIdeal.τ).loc Cert.AttfRIdeal.main_arg0) = m ((c.tc : Thread Cert.AttfRIdeal.nD Cert.AttfRIdeal.τ).loc Cert.AttfRIdeal.main_arg0)
      ∧ r.2.mem ((c.tc : Thread Cert.AttfRIdeal.nD Cert.AttfRIdeal.τ).loc Cert.AttfRIdeal.main_arg1) = m ((c.tc : Thread Cert.AttfRIdeal.nD Cert.AttfRIdeal.τ).loc Cert.AttfRIdeal.main_arg1)
      ∧ r.2.mem ((c.tc : Thread Cert.AttfRIdeal.nD Cert.AttfRIdeal.τ).loc Cert.AttfRIdeal.main_arg2) = m ((c.tc : Thread Cert.AttfRIdeal.nD Cert.AttfRIdeal.τ).loc Cert.AttfRIdeal.main_arg2))
      ∧ r.2.sem = fun _ => 0)

def quiescent_AttfRIdeal_pre_attf_finite [hAttfRIdeal : Cert.AttfRIdeal.Facts] [hPre_attf_finite : Cert.Pre_attf_finite.Facts] : Prop :=
  ∀ (m : (ℓ : Loc Cert.AttfRIdeal.nD Cert.AttfRIdeal.τ Cert.AttfRIdeal.sig) → Buf (Elt Ideal) ℓ) (g : Dev Cert.AttfRIdeal.nD → PrngReg), Pre_AttfRIdeal_attf_finite m →
    θ_run (Cert.AttfRIdeal.defs (F := Ideal)) (onTc (τ := Cert.AttfRIdeal.τ) (Cert.AttfRIdeal.main (F := Ideal))) ⟨m, fun _ => 0, g⟩ (fun r => (∀ c : Dev Cert.AttfRIdeal.nD,
      r.2.mem ((c.tc : Thread Cert.AttfRIdeal.nD Cert.AttfRIdeal.τ).loc Cert.AttfRIdeal.main_arg0) = m ((c.tc : Thread Cert.AttfRIdeal.nD Cert.AttfRIdeal.τ).loc Cert.AttfRIdeal.main_arg0)
      ∧ r.2.mem ((c.tc : Thread Cert.AttfRIdeal.nD Cert.AttfRIdeal.τ).loc Cert.AttfRIdeal.main_arg1) = m ((c.tc : Thread Cert.AttfRIdeal.nD Cert.AttfRIdeal.τ).loc Cert.AttfRIdeal.main_arg1)
      ∧ r.2.mem ((c.tc : Thread Cert.AttfRIdeal.nD Cert.AttfRIdeal.τ).loc Cert.AttfRIdeal.main_arg2) = m ((c.tc : Thread Cert.AttfRIdeal.nD Cert.AttfRIdeal.τ).loc Cert.AttfRIdeal.main_arg2))
      ∧ r.2.sem = fun _ => 0)

def quiescent_ConvfK [hConvfK : Cert.ConvfK.Facts] : Prop :=
  ∀ (m : (ℓ : Loc Cert.ConvfK.nD Cert.ConvfK.τ Cert.ConvfK.sig) → Buf (Elt Bits) ℓ) (g : Dev Cert.ConvfK.nD → PrngReg), Pre_ConvfK m →
    θ_run (Cert.ConvfK.defs (F := Bits)) (onTc (τ := Cert.ConvfK.τ) (Cert.ConvfK.main (F := Bits))) ⟨m, fun _ => 0, g⟩ (fun r => (∀ c : Dev Cert.ConvfK.nD,
      r.2.mem ((c.tc : Thread Cert.ConvfK.nD Cert.ConvfK.τ).loc Cert.ConvfK.main_arg0) = m ((c.tc : Thread Cert.ConvfK.nD Cert.ConvfK.τ).loc Cert.ConvfK.main_arg0)
      ∧ r.2.mem ((c.tc : Thread Cert.ConvfK.nD Cert.ConvfK.τ).loc Cert.ConvfK.main_arg1) = m ((c.tc : Thread Cert.ConvfK.nD Cert.ConvfK.τ).loc Cert.ConvfK.main_arg1))
      ∧ r.2.sem = fun _ => 0)

def quiescent_ConvfKIdeal [hConvfKIdeal : Cert.ConvfKIdeal.Facts] : Prop :=
  ∀ (m : (ℓ : Loc Cert.ConvfKIdeal.nD Cert.ConvfKIdeal.τ Cert.ConvfKIdeal.sig) → Buf (Elt Ideal) ℓ) (g : Dev Cert.ConvfKIdeal.nD → PrngReg), Pre_ConvfKIdeal m →
    θ_run (Cert.ConvfKIdeal.defs (F := Ideal)) (onTc (τ := Cert.ConvfKIdeal.τ) (Cert.ConvfKIdeal.main (F := Ideal))) ⟨m, fun _ => 0, g⟩ (fun r => (∀ c : Dev Cert.ConvfKIdeal.nD,
      r.2.mem ((c.tc : Thread Cert.ConvfKIdeal.nD Cert.ConvfKIdeal.τ).loc Cert.ConvfKIdeal.main_arg0) = m ((c.tc : Thread Cert.ConvfKIdeal.nD Cert.ConvfKIdeal.τ).loc Cert.ConvfKIdeal.main_arg0)
      ∧ r.2.mem ((c.tc : Thread Cert.ConvfKIdeal.nD Cert.ConvfKIdeal.τ).loc Cert.ConvfKIdeal.main_arg1) = m ((c.tc : Thread Cert.ConvfKIdeal.nD Cert.ConvfKIdeal.τ).loc Cert.ConvfKIdeal.main_arg1))
      ∧ r.2.sem = fun _ => 0)

def quiescent_ConvfRIdeal [hConvfRIdeal : Cert.ConvfRIdeal.Facts] : Prop :=
  ∀ (m : (ℓ : Loc Cert.ConvfRIdeal.nD Cert.ConvfRIdeal.τ Cert.ConvfRIdeal.sig) → Buf (Elt Ideal) ℓ) (g : Dev Cert.ConvfRIdeal.nD → PrngReg), Pre_ConvfRIdeal m →
    θ_run (Cert.ConvfRIdeal.defs (F := Ideal)) (onTc (τ := Cert.ConvfRIdeal.τ) (Cert.ConvfRIdeal.main (F := Ideal))) ⟨m, fun _ => 0, g⟩ (fun r => (∀ c : Dev Cert.ConvfRIdeal.nD,
      r.2.mem ((c.tc : Thread Cert.ConvfRIdeal.nD Cert.ConvfRIdeal.τ).loc Cert.ConvfRIdeal.main_arg0) = m ((c.tc : Thread Cert.ConvfRIdeal.nD Cert.ConvfRIdeal.τ).loc Cert.ConvfRIdeal.main_arg0)
      ∧ r.2.mem ((c.tc : Thread Cert.ConvfRIdeal.nD Cert.ConvfRIdeal.τ).loc Cert.ConvfRIdeal.main_arg1) = m ((c.tc : Thread Cert.ConvfRIdeal.nD Cert.ConvfRIdeal.τ).loc Cert.ConvfRIdeal.main_arg1))
      ∧ r.2.sem = fun _ => 0)

def quiescent_FfninK [hFfninK : Cert.FfninK.Facts] : Prop :=
  ∀ (m : (ℓ : Loc Cert.FfninK.nD Cert.FfninK.τ Cert.FfninK.sig) → Buf (Elt Bits) ℓ) (g : Dev Cert.FfninK.nD → PrngReg), Pre_FfninK m →
    θ_run (Cert.FfninK.defs (F := Bits)) (onTc (τ := Cert.FfninK.τ) (Cert.FfninK.main (F := Bits))) ⟨m, fun _ => 0, g⟩ (fun r => (∀ c : Dev Cert.FfninK.nD,
      r.2.mem ((c.tc : Thread Cert.FfninK.nD Cert.FfninK.τ).loc Cert.FfninK.main_arg0) = m ((c.tc : Thread Cert.FfninK.nD Cert.FfninK.τ).loc Cert.FfninK.main_arg0)
      ∧ r.2.mem ((c.tc : Thread Cert.FfninK.nD Cert.FfninK.τ).loc Cert.FfninK.main_arg1) = m ((c.tc : Thread Cert.FfninK.nD Cert.FfninK.τ).loc Cert.FfninK.main_arg1)
      ∧ r.2.mem ((c.tc : Thread Cert.FfninK.nD Cert.FfninK.τ).loc Cert.FfninK.main_arg2) = m ((c.tc : Thread Cert.FfninK.nD Cert.FfninK.τ).loc Cert.FfninK.main_arg2))
      ∧ r.2.sem = fun _ => 0)

def quiescent_FfninKIdeal [hFfninKIdeal : Cert.FfninKIdeal.Facts] : Prop :=
  ∀ (m : (ℓ : Loc Cert.FfninKIdeal.nD Cert.FfninKIdeal.τ Cert.FfninKIdeal.sig) → Buf (Elt Ideal) ℓ) (g : Dev Cert.FfninKIdeal.nD → PrngReg), Pre_FfninKIdeal m →
    θ_run (Cert.FfninKIdeal.defs (F := Ideal)) (onTc (τ := Cert.FfninKIdeal.τ) (Cert.FfninKIdeal.main (F := Ideal))) ⟨m, fun _ => 0, g⟩ (fun r => (∀ c : Dev Cert.FfninKIdeal.nD,
      r.2.mem ((c.tc : Thread Cert.FfninKIdeal.nD Cert.FfninKIdeal.τ).loc Cert.FfninKIdeal.main_arg0) = m ((c.tc : Thread Cert.FfninKIdeal.nD Cert.FfninKIdeal.τ).loc Cert.FfninKIdeal.main_arg0)
      ∧ r.2.mem ((c.tc : Thread Cert.FfninKIdeal.nD Cert.FfninKIdeal.τ).loc Cert.FfninKIdeal.main_arg1) = m ((c.tc : Thread Cert.FfninKIdeal.nD Cert.FfninKIdeal.τ).loc Cert.FfninKIdeal.main_arg1)
      ∧ r.2.mem ((c.tc : Thread Cert.FfninKIdeal.nD Cert.FfninKIdeal.τ).loc Cert.FfninKIdeal.main_arg2) = m ((c.tc : Thread Cert.FfninKIdeal.nD Cert.FfninKIdeal.τ).loc Cert.FfninKIdeal.main_arg2))
      ∧ r.2.sem = fun _ => 0)

def quiescent_FfninRIdeal [hFfninRIdeal : Cert.FfninRIdeal.Facts] : Prop :=
  ∀ (m : (ℓ : Loc Cert.FfninRIdeal.nD Cert.FfninRIdeal.τ Cert.FfninRIdeal.sig) → Buf (Elt Ideal) ℓ) (g : Dev Cert.FfninRIdeal.nD → PrngReg), Pre_FfninRIdeal m →
    θ_run (Cert.FfninRIdeal.defs (F := Ideal)) (onTc (τ := Cert.FfninRIdeal.τ) (Cert.FfninRIdeal.main (F := Ideal))) ⟨m, fun _ => 0, g⟩ (fun r => (∀ c : Dev Cert.FfninRIdeal.nD,
      r.2.mem ((c.tc : Thread Cert.FfninRIdeal.nD Cert.FfninRIdeal.τ).loc Cert.FfninRIdeal.main_arg0) = m ((c.tc : Thread Cert.FfninRIdeal.nD Cert.FfninRIdeal.τ).loc Cert.FfninRIdeal.main_arg0)
      ∧ r.2.mem ((c.tc : Thread Cert.FfninRIdeal.nD Cert.FfninRIdeal.τ).loc Cert.FfninRIdeal.main_arg1) = m ((c.tc : Thread Cert.FfninRIdeal.nD Cert.FfninRIdeal.τ).loc Cert.FfninRIdeal.main_arg1)
      ∧ r.2.mem ((c.tc : Thread Cert.FfninRIdeal.nD Cert.FfninRIdeal.τ).loc Cert.FfninRIdeal.main_arg2) = m ((c.tc : Thread Cert.FfninRIdeal.nD Cert.FfninRIdeal.τ).loc Cert.FfninRIdeal.main_arg2))
      ∧ r.2.sem = fun _ => 0)

def quiescent_FfnoutK [hFfnoutK : Cert.FfnoutK.Facts] : Prop :=
  ∀ (m : (ℓ : Loc Cert.FfnoutK.nD Cert.FfnoutK.τ Cert.FfnoutK.sig) → Buf (Elt Bits) ℓ) (g : Dev Cert.FfnoutK.nD → PrngReg), Pre_FfnoutK m →
    θ_run (Cert.FfnoutK.defs (F := Bits)) (onTc (τ := Cert.FfnoutK.τ) (Cert.FfnoutK.main (F := Bits))) ⟨m, fun _ => 0, g⟩ (fun r => (∀ c : Dev Cert.FfnoutK.nD,
      r.2.mem ((c.tc : Thread Cert.FfnoutK.nD Cert.FfnoutK.τ).loc Cert.FfnoutK.main_arg0) = m ((c.tc : Thread Cert.FfnoutK.nD Cert.FfnoutK.τ).loc Cert.FfnoutK.main_arg0)
      ∧ r.2.mem ((c.tc : Thread Cert.FfnoutK.nD Cert.FfnoutK.τ).loc Cert.FfnoutK.main_arg1) = m ((c.tc : Thread Cert.FfnoutK.nD Cert.FfnoutK.τ).loc Cert.FfnoutK.main_arg1)
      ∧ r.2.mem ((c.tc : Thread Cert.FfnoutK.nD Cert.FfnoutK.τ).loc Cert.FfnoutK.main_arg2) = m ((c.tc : Thread Cert.FfnoutK.nD Cert.FfnoutK.τ).loc Cert.FfnoutK.main_arg2)
      ∧ r.2.mem ((c.tc : Thread Cert.FfnoutK.nD Cert.FfnoutK.τ).loc Cert.FfnoutK.main_arg3) = m ((c.tc : Thread Cert.FfnoutK.nD Cert.FfnoutK.τ).loc Cert.FfnoutK.main_arg3))
      ∧ r.2.sem = fun _ => 0)

def quiescent_FfnoutKIdeal [hFfnoutKIdeal : Cert.FfnoutKIdeal.Facts] : Prop :=
  ∀ (m : (ℓ : Loc Cert.FfnoutKIdeal.nD Cert.FfnoutKIdeal.τ Cert.FfnoutKIdeal.sig) → Buf (Elt Ideal) ℓ) (g : Dev Cert.FfnoutKIdeal.nD → PrngReg), Pre_FfnoutKIdeal m →
    θ_run (Cert.FfnoutKIdeal.defs (F := Ideal)) (onTc (τ := Cert.FfnoutKIdeal.τ) (Cert.FfnoutKIdeal.main (F := Ideal))) ⟨m, fun _ => 0, g⟩ (fun r => (∀ c : Dev Cert.FfnoutKIdeal.nD,
      r.2.mem ((c.tc : Thread Cert.FfnoutKIdeal.nD Cert.FfnoutKIdeal.τ).loc Cert.FfnoutKIdeal.main_arg0) = m ((c.tc : Thread Cert.FfnoutKIdeal.nD Cert.FfnoutKIdeal.τ).loc Cert.FfnoutKIdeal.main_arg0)
      ∧ r.2.mem ((c.tc : Thread Cert.FfnoutKIdeal.nD Cert.FfnoutKIdeal.τ).loc Cert.FfnoutKIdeal.main_arg1) = m ((c.tc : Thread Cert.FfnoutKIdeal.nD Cert.FfnoutKIdeal.τ).loc Cert.FfnoutKIdeal.main_arg1)
      ∧ r.2.mem ((c.tc : Thread Cert.FfnoutKIdeal.nD Cert.FfnoutKIdeal.τ).loc Cert.FfnoutKIdeal.main_arg2) = m ((c.tc : Thread Cert.FfnoutKIdeal.nD Cert.FfnoutKIdeal.τ).loc Cert.FfnoutKIdeal.main_arg2)
      ∧ r.2.mem ((c.tc : Thread Cert.FfnoutKIdeal.nD Cert.FfnoutKIdeal.τ).loc Cert.FfnoutKIdeal.main_arg3) = m ((c.tc : Thread Cert.FfnoutKIdeal.nD Cert.FfnoutKIdeal.τ).loc Cert.FfnoutKIdeal.main_arg3))
      ∧ r.2.sem = fun _ => 0)

def quiescent_FfnoutRIdeal [hFfnoutRIdeal : Cert.FfnoutRIdeal.Facts] : Prop :=
  ∀ (m : (ℓ : Loc Cert.FfnoutRIdeal.nD Cert.FfnoutRIdeal.τ Cert.FfnoutRIdeal.sig) → Buf (Elt Ideal) ℓ) (g : Dev Cert.FfnoutRIdeal.nD → PrngReg), Pre_FfnoutRIdeal m →
    θ_run (Cert.FfnoutRIdeal.defs (F := Ideal)) (onTc (τ := Cert.FfnoutRIdeal.τ) (Cert.FfnoutRIdeal.main (F := Ideal))) ⟨m, fun _ => 0, g⟩ (fun r => (∀ c : Dev Cert.FfnoutRIdeal.nD,
      r.2.mem ((c.tc : Thread Cert.FfnoutRIdeal.nD Cert.FfnoutRIdeal.τ).loc Cert.FfnoutRIdeal.main_arg0) = m ((c.tc : Thread Cert.FfnoutRIdeal.nD Cert.FfnoutRIdeal.τ).loc Cert.FfnoutRIdeal.main_arg0)
      ∧ r.2.mem ((c.tc : Thread Cert.FfnoutRIdeal.nD Cert.FfnoutRIdeal.τ).loc Cert.FfnoutRIdeal.main_arg1) = m ((c.tc : Thread Cert.FfnoutRIdeal.nD Cert.FfnoutRIdeal.τ).loc Cert.FfnoutRIdeal.main_arg1)
      ∧ r.2.mem ((c.tc : Thread Cert.FfnoutRIdeal.nD Cert.FfnoutRIdeal.τ).loc Cert.FfnoutRIdeal.main_arg2) = m ((c.tc : Thread Cert.FfnoutRIdeal.nD Cert.FfnoutRIdeal.τ).loc Cert.FfnoutRIdeal.main_arg2)
      ∧ r.2.mem ((c.tc : Thread Cert.FfnoutRIdeal.nD Cert.FfnoutRIdeal.τ).loc Cert.FfnoutRIdeal.main_arg3) = m ((c.tc : Thread Cert.FfnoutRIdeal.nD Cert.FfnoutRIdeal.τ).loc Cert.FfnoutRIdeal.main_arg3))
      ∧ r.2.sem = fun _ => 0)

def quiescent_RmsfK [hRmsfK : Cert.RmsfK.Facts] : Prop :=
  ∀ (m : (ℓ : Loc Cert.RmsfK.nD Cert.RmsfK.τ Cert.RmsfK.sig) → Buf (Elt Bits) ℓ) (g : Dev Cert.RmsfK.nD → PrngReg), Pre_RmsfK m →
    θ_run (Cert.RmsfK.defs (F := Bits)) (onTc (τ := Cert.RmsfK.τ) (Cert.RmsfK.main (F := Bits))) ⟨m, fun _ => 0, g⟩ (fun r => (∀ c : Dev Cert.RmsfK.nD,
      r.2.mem ((c.tc : Thread Cert.RmsfK.nD Cert.RmsfK.τ).loc Cert.RmsfK.main_arg0) = m ((c.tc : Thread Cert.RmsfK.nD Cert.RmsfK.τ).loc Cert.RmsfK.main_arg0)
      ∧ r.2.mem ((c.tc : Thread Cert.RmsfK.nD Cert.RmsfK.τ).loc Cert.RmsfK.main_arg1) = m ((c.tc : Thread Cert.RmsfK.nD Cert.RmsfK.τ).loc Cert.RmsfK.main_arg1))
      ∧ r.2.sem = fun _ => 0)

def quiescent_RmsfKIdeal [hRmsfKIdeal : Cert.RmsfKIdeal.Facts] : Prop :=
  ∀ (m : (ℓ : Loc Cert.RmsfKIdeal.nD Cert.RmsfKIdeal.τ Cert.RmsfKIdeal.sig) → Buf (Elt Ideal) ℓ) (g : Dev Cert.RmsfKIdeal.nD → PrngReg), Pre_RmsfKIdeal m →
    θ_run (Cert.RmsfKIdeal.defs (F := Ideal)) (onTc (τ := Cert.RmsfKIdeal.τ) (Cert.RmsfKIdeal.main (F := Ideal))) ⟨m, fun _ => 0, g⟩ (fun r => (∀ c : Dev Cert.RmsfKIdeal.nD,
      r.2.mem ((c.tc : Thread Cert.RmsfKIdeal.nD Cert.RmsfKIdeal.τ).loc Cert.RmsfKIdeal.main_arg0) = m ((c.tc : Thread Cert.RmsfKIdeal.nD Cert.RmsfKIdeal.τ).loc Cert.RmsfKIdeal.main_arg0)
      ∧ r.2.mem ((c.tc : Thread Cert.RmsfKIdeal.nD Cert.RmsfKIdeal.τ).loc Cert.RmsfKIdeal.main_arg1) = m ((c.tc : Thread Cert.RmsfKIdeal.nD Cert.RmsfKIdeal.τ).loc Cert.RmsfKIdeal.main_arg1))
      ∧ r.2.sem = fun _ => 0)

def quiescent_RmsfRIdeal [hRmsfRIdeal : Cert.RmsfRIdeal.Facts] : Prop :=
  ∀ (m : (ℓ : Loc Cert.RmsfRIdeal.nD Cert.RmsfRIdeal.τ Cert.RmsfRIdeal.sig) → Buf (Elt Ideal) ℓ) (g : Dev Cert.RmsfRIdeal.nD → PrngReg), Pre_RmsfRIdeal m →
    θ_run (Cert.RmsfRIdeal.defs (F := Ideal)) (onTc (τ := Cert.RmsfRIdeal.τ) (Cert.RmsfRIdeal.main (F := Ideal))) ⟨m, fun _ => 0, g⟩ (fun r => (∀ c : Dev Cert.RmsfRIdeal.nD,
      r.2.mem ((c.tc : Thread Cert.RmsfRIdeal.nD Cert.RmsfRIdeal.τ).loc Cert.RmsfRIdeal.main_arg0) = m ((c.tc : Thread Cert.RmsfRIdeal.nD Cert.RmsfRIdeal.τ).loc Cert.RmsfRIdeal.main_arg0)
      ∧ r.2.mem ((c.tc : Thread Cert.RmsfRIdeal.nD Cert.RmsfRIdeal.τ).loc Cert.RmsfRIdeal.main_arg1) = m ((c.tc : Thread Cert.RmsfRIdeal.nD Cert.RmsfRIdeal.τ).loc Cert.RmsfRIdeal.main_arg1))
      ∧ r.2.sem = fun _ => 0)

def quiescent_QkfK [hQkfK : Cert.QkfK.Facts] : Prop :=
  ∀ (m : (ℓ : Loc Cert.QkfK.nD Cert.QkfK.τ Cert.QkfK.sig) → Buf (Elt Bits) ℓ) (g : Dev Cert.QkfK.nD → PrngReg), Pre_QkfK m →
    θ_run (Cert.QkfK.defs (F := Bits)) (onTc (τ := Cert.QkfK.τ) (Cert.QkfK.main (F := Bits))) ⟨m, fun _ => 0, g⟩ (fun r => (∀ c : Dev Cert.QkfK.nD,
      r.2.mem ((c.tc : Thread Cert.QkfK.nD Cert.QkfK.τ).loc Cert.QkfK.main_arg0) = m ((c.tc : Thread Cert.QkfK.nD Cert.QkfK.τ).loc Cert.QkfK.main_arg0)
      ∧ r.2.mem ((c.tc : Thread Cert.QkfK.nD Cert.QkfK.τ).loc Cert.QkfK.main_arg1) = m ((c.tc : Thread Cert.QkfK.nD Cert.QkfK.τ).loc Cert.QkfK.main_arg1)
      ∧ r.2.mem ((c.tc : Thread Cert.QkfK.nD Cert.QkfK.τ).loc Cert.QkfK.main_arg2) = m ((c.tc : Thread Cert.QkfK.nD Cert.QkfK.τ).loc Cert.QkfK.main_arg2))
      ∧ r.2.sem = fun _ => 0)

def quiescent_QkfKIdeal [hQkfKIdeal : Cert.QkfKIdeal.Facts] : Prop :=
  ∀ (m : (ℓ : Loc Cert.QkfKIdeal.nD Cert.QkfKIdeal.τ Cert.QkfKIdeal.sig) → Buf (Elt Ideal) ℓ) (g : Dev Cert.QkfKIdeal.nD → PrngReg), Pre_QkfKIdeal m →
    θ_run (Cert.QkfKIdeal.defs (F := Ideal)) (onTc (τ := Cert.QkfKIdeal.τ) (Cert.QkfKIdeal.main (F := Ideal))) ⟨m, fun _ => 0, g⟩ (fun r => (∀ c : Dev Cert.QkfKIdeal.nD,
      r.2.mem ((c.tc : Thread Cert.QkfKIdeal.nD Cert.QkfKIdeal.τ).loc Cert.QkfKIdeal.main_arg0) = m ((c.tc : Thread Cert.QkfKIdeal.nD Cert.QkfKIdeal.τ).loc Cert.QkfKIdeal.main_arg0)
      ∧ r.2.mem ((c.tc : Thread Cert.QkfKIdeal.nD Cert.QkfKIdeal.τ).loc Cert.QkfKIdeal.main_arg1) = m ((c.tc : Thread Cert.QkfKIdeal.nD Cert.QkfKIdeal.τ).loc Cert.QkfKIdeal.main_arg1)
      ∧ r.2.mem ((c.tc : Thread Cert.QkfKIdeal.nD Cert.QkfKIdeal.τ).loc Cert.QkfKIdeal.main_arg2) = m ((c.tc : Thread Cert.QkfKIdeal.nD Cert.QkfKIdeal.τ).loc Cert.QkfKIdeal.main_arg2))
      ∧ r.2.sem = fun _ => 0)

def quiescent_QkfKIdeal_pre_qkf_finite [hQkfKIdeal : Cert.QkfKIdeal.Facts] [hPre_qkf_finite : Cert.Pre_qkf_finite.Facts] : Prop :=
  ∀ (m : (ℓ : Loc Cert.QkfKIdeal.nD Cert.QkfKIdeal.τ Cert.QkfKIdeal.sig) → Buf (Elt Ideal) ℓ) (g : Dev Cert.QkfKIdeal.nD → PrngReg), Pre_QkfKIdeal_qkf_finite m →
    θ_run (Cert.QkfKIdeal.defs (F := Ideal)) (onTc (τ := Cert.QkfKIdeal.τ) (Cert.QkfKIdeal.main (F := Ideal))) ⟨m, fun _ => 0, g⟩ (fun r => (∀ c : Dev Cert.QkfKIdeal.nD,
      r.2.mem ((c.tc : Thread Cert.QkfKIdeal.nD Cert.QkfKIdeal.τ).loc Cert.QkfKIdeal.main_arg0) = m ((c.tc : Thread Cert.QkfKIdeal.nD Cert.QkfKIdeal.τ).loc Cert.QkfKIdeal.main_arg0)
      ∧ r.2.mem ((c.tc : Thread Cert.QkfKIdeal.nD Cert.QkfKIdeal.τ).loc Cert.QkfKIdeal.main_arg1) = m ((c.tc : Thread Cert.QkfKIdeal.nD Cert.QkfKIdeal.τ).loc Cert.QkfKIdeal.main_arg1)
      ∧ r.2.mem ((c.tc : Thread Cert.QkfKIdeal.nD Cert.QkfKIdeal.τ).loc Cert.QkfKIdeal.main_arg2) = m ((c.tc : Thread Cert.QkfKIdeal.nD Cert.QkfKIdeal.τ).loc Cert.QkfKIdeal.main_arg2))
      ∧ r.2.sem = fun _ => 0)

def quiescent_QkfRIdeal [hQkfRIdeal : Cert.QkfRIdeal.Facts] : Prop :=
  ∀ (m : (ℓ : Loc Cert.QkfRIdeal.nD Cert.QkfRIdeal.τ Cert.QkfRIdeal.sig) → Buf (Elt Ideal) ℓ) (g : Dev Cert.QkfRIdeal.nD → PrngReg), Pre_QkfRIdeal m →
    θ_run (Cert.QkfRIdeal.defs (F := Ideal)) (onTc (τ := Cert.QkfRIdeal.τ) (Cert.QkfRIdeal.main (F := Ideal))) ⟨m, fun _ => 0, g⟩ (fun r => (∀ c : Dev Cert.QkfRIdeal.nD,
      r.2.mem ((c.tc : Thread Cert.QkfRIdeal.nD Cert.QkfRIdeal.τ).loc Cert.QkfRIdeal.main_arg0) = m ((c.tc : Thread Cert.QkfRIdeal.nD Cert.QkfRIdeal.τ).loc Cert.QkfRIdeal.main_arg0)
      ∧ r.2.mem ((c.tc : Thread Cert.QkfRIdeal.nD Cert.QkfRIdeal.τ).loc Cert.QkfRIdeal.main_arg1) = m ((c.tc : Thread Cert.QkfRIdeal.nD Cert.QkfRIdeal.τ).loc Cert.QkfRIdeal.main_arg1)
      ∧ r.2.mem ((c.tc : Thread Cert.QkfRIdeal.nD Cert.QkfRIdeal.τ).loc Cert.QkfRIdeal.main_arg2) = m ((c.tc : Thread Cert.QkfRIdeal.nD Cert.QkfRIdeal.τ).loc Cert.QkfRIdeal.main_arg2))
      ∧ r.2.sem = fun _ => 0)

def quiescent_QkfRIdeal_pre_qkf_finite [hQkfRIdeal : Cert.QkfRIdeal.Facts] [hPre_qkf_finite : Cert.Pre_qkf_finite.Facts] : Prop :=
  ∀ (m : (ℓ : Loc Cert.QkfRIdeal.nD Cert.QkfRIdeal.τ Cert.QkfRIdeal.sig) → Buf (Elt Ideal) ℓ) (g : Dev Cert.QkfRIdeal.nD → PrngReg), Pre_QkfRIdeal_qkf_finite m →
    θ_run (Cert.QkfRIdeal.defs (F := Ideal)) (onTc (τ := Cert.QkfRIdeal.τ) (Cert.QkfRIdeal.main (F := Ideal))) ⟨m, fun _ => 0, g⟩ (fun r => (∀ c : Dev Cert.QkfRIdeal.nD,
      r.2.mem ((c.tc : Thread Cert.QkfRIdeal.nD Cert.QkfRIdeal.τ).loc Cert.QkfRIdeal.main_arg0) = m ((c.tc : Thread Cert.QkfRIdeal.nD Cert.QkfRIdeal.τ).loc Cert.QkfRIdeal.main_arg0)
      ∧ r.2.mem ((c.tc : Thread Cert.QkfRIdeal.nD Cert.QkfRIdeal.τ).loc Cert.QkfRIdeal.main_arg1) = m ((c.tc : Thread Cert.QkfRIdeal.nD Cert.QkfRIdeal.τ).loc Cert.QkfRIdeal.main_arg1)
      ∧ r.2.mem ((c.tc : Thread Cert.QkfRIdeal.nD Cert.QkfRIdeal.τ).loc Cert.QkfRIdeal.main_arg2) = m ((c.tc : Thread Cert.QkfRIdeal.nD Cert.QkfRIdeal.τ).loc Cert.QkfRIdeal.main_arg2))
      ∧ r.2.sem = fun _ => 0)

def quiescent_PinK [hPinK : Cert.PinK.Facts] : Prop :=
  ∀ (m : (ℓ : Loc Cert.PinK.nD Cert.PinK.τ Cert.PinK.sig) → Buf (Elt Bits) ℓ) (g : Dev Cert.PinK.nD → PrngReg), Pre_PinK m →
    θ_run (Cert.PinK.defs (F := Bits)) (onTc (τ := Cert.PinK.τ) (Cert.PinK.main (F := Bits))) ⟨m, fun _ => 0, g⟩ (fun r => (∀ c : Dev Cert.PinK.nD,
      r.2.mem ((c.tc : Thread Cert.PinK.nD Cert.PinK.τ).loc Cert.PinK.main_arg0) = m ((c.tc : Thread Cert.PinK.nD Cert.PinK.τ).loc Cert.PinK.main_arg0)
      ∧ r.2.mem ((c.tc : Thread Cert.PinK.nD Cert.PinK.τ).loc Cert.PinK.main_arg1) = m ((c.tc : Thread Cert.PinK.nD Cert.PinK.τ).loc Cert.PinK.main_arg1))
      ∧ r.2.sem = fun _ => 0)

def quiescent_PinKIdeal [hPinKIdeal : Cert.PinKIdeal.Facts] : Prop :=
  ∀ (m : (ℓ : Loc Cert.PinKIdeal.nD Cert.PinKIdeal.τ Cert.PinKIdeal.sig) → Buf (Elt Ideal) ℓ) (g : Dev Cert.PinKIdeal.nD → PrngReg), Pre_PinKIdeal m →
    θ_run (Cert.PinKIdeal.defs (F := Ideal)) (onTc (τ := Cert.PinKIdeal.τ) (Cert.PinKIdeal.main (F := Ideal))) ⟨m, fun _ => 0, g⟩ (fun r => (∀ c : Dev Cert.PinKIdeal.nD,
      r.2.mem ((c.tc : Thread Cert.PinKIdeal.nD Cert.PinKIdeal.τ).loc Cert.PinKIdeal.main_arg0) = m ((c.tc : Thread Cert.PinKIdeal.nD Cert.PinKIdeal.τ).loc Cert.PinKIdeal.main_arg0)
      ∧ r.2.mem ((c.tc : Thread Cert.PinKIdeal.nD Cert.PinKIdeal.τ).loc Cert.PinKIdeal.main_arg1) = m ((c.tc : Thread Cert.PinKIdeal.nD Cert.PinKIdeal.τ).loc Cert.PinKIdeal.main_arg1))
      ∧ r.2.sem = fun _ => 0)

def quiescent_PinRIdeal [hPinRIdeal : Cert.PinRIdeal.Facts] : Prop :=
  ∀ (m : (ℓ : Loc Cert.PinRIdeal.nD Cert.PinRIdeal.τ Cert.PinRIdeal.sig) → Buf (Elt Ideal) ℓ) (g : Dev Cert.PinRIdeal.nD → PrngReg), Pre_PinRIdeal m →
    θ_run (Cert.PinRIdeal.defs (F := Ideal)) (onTc (τ := Cert.PinRIdeal.τ) (Cert.PinRIdeal.main (F := Ideal))) ⟨m, fun _ => 0, g⟩ (fun r => (∀ c : Dev Cert.PinRIdeal.nD,
      r.2.mem ((c.tc : Thread Cert.PinRIdeal.nD Cert.PinRIdeal.τ).loc Cert.PinRIdeal.main_arg0) = m ((c.tc : Thread Cert.PinRIdeal.nD Cert.PinRIdeal.τ).loc Cert.PinRIdeal.main_arg0)
      ∧ r.2.mem ((c.tc : Thread Cert.PinRIdeal.nD Cert.PinRIdeal.τ).loc Cert.PinRIdeal.main_arg1) = m ((c.tc : Thread Cert.PinRIdeal.nD Cert.PinRIdeal.τ).loc Cert.PinRIdeal.main_arg1))
      ∧ r.2.sem = fun _ => 0)

def quiescent_PoutK [hPoutK : Cert.PoutK.Facts] : Prop :=
  ∀ (m : (ℓ : Loc Cert.PoutK.nD Cert.PoutK.τ Cert.PoutK.sig) → Buf (Elt Bits) ℓ) (g : Dev Cert.PoutK.nD → PrngReg), Pre_PoutK m →
    θ_run (Cert.PoutK.defs (F := Bits)) (onTc (τ := Cert.PoutK.τ) (Cert.PoutK.main (F := Bits))) ⟨m, fun _ => 0, g⟩ (fun r => (∀ c : Dev Cert.PoutK.nD,
      r.2.mem ((c.tc : Thread Cert.PoutK.nD Cert.PoutK.τ).loc Cert.PoutK.main_arg0) = m ((c.tc : Thread Cert.PoutK.nD Cert.PoutK.τ).loc Cert.PoutK.main_arg0)
      ∧ r.2.mem ((c.tc : Thread Cert.PoutK.nD Cert.PoutK.τ).loc Cert.PoutK.main_arg1) = m ((c.tc : Thread Cert.PoutK.nD Cert.PoutK.τ).loc Cert.PoutK.main_arg1)
      ∧ r.2.mem ((c.tc : Thread Cert.PoutK.nD Cert.PoutK.τ).loc Cert.PoutK.main_arg2) = m ((c.tc : Thread Cert.PoutK.nD Cert.PoutK.τ).loc Cert.PoutK.main_arg2)
      ∧ r.2.mem ((c.tc : Thread Cert.PoutK.nD Cert.PoutK.τ).loc Cert.PoutK.main_arg3) = m ((c.tc : Thread Cert.PoutK.nD Cert.PoutK.τ).loc Cert.PoutK.main_arg3))
      ∧ r.2.sem = fun _ => 0)

def quiescent_PoutKIdeal [hPoutKIdeal : Cert.PoutKIdeal.Facts] : Prop :=
  ∀ (m : (ℓ : Loc Cert.PoutKIdeal.nD Cert.PoutKIdeal.τ Cert.PoutKIdeal.sig) → Buf (Elt Ideal) ℓ) (g : Dev Cert.PoutKIdeal.nD → PrngReg), Pre_PoutKIdeal m →
    θ_run (Cert.PoutKIdeal.defs (F := Ideal)) (onTc (τ := Cert.PoutKIdeal.τ) (Cert.PoutKIdeal.main (F := Ideal))) ⟨m, fun _ => 0, g⟩ (fun r => (∀ c : Dev Cert.PoutKIdeal.nD,
      r.2.mem ((c.tc : Thread Cert.PoutKIdeal.nD Cert.PoutKIdeal.τ).loc Cert.PoutKIdeal.main_arg0) = m ((c.tc : Thread Cert.PoutKIdeal.nD Cert.PoutKIdeal.τ).loc Cert.PoutKIdeal.main_arg0)
      ∧ r.2.mem ((c.tc : Thread Cert.PoutKIdeal.nD Cert.PoutKIdeal.τ).loc Cert.PoutKIdeal.main_arg1) = m ((c.tc : Thread Cert.PoutKIdeal.nD Cert.PoutKIdeal.τ).loc Cert.PoutKIdeal.main_arg1)
      ∧ r.2.mem ((c.tc : Thread Cert.PoutKIdeal.nD Cert.PoutKIdeal.τ).loc Cert.PoutKIdeal.main_arg2) = m ((c.tc : Thread Cert.PoutKIdeal.nD Cert.PoutKIdeal.τ).loc Cert.PoutKIdeal.main_arg2)
      ∧ r.2.mem ((c.tc : Thread Cert.PoutKIdeal.nD Cert.PoutKIdeal.τ).loc Cert.PoutKIdeal.main_arg3) = m ((c.tc : Thread Cert.PoutKIdeal.nD Cert.PoutKIdeal.τ).loc Cert.PoutKIdeal.main_arg3))
      ∧ r.2.sem = fun _ => 0)

def quiescent_PoutRIdeal [hPoutRIdeal : Cert.PoutRIdeal.Facts] : Prop :=
  ∀ (m : (ℓ : Loc Cert.PoutRIdeal.nD Cert.PoutRIdeal.τ Cert.PoutRIdeal.sig) → Buf (Elt Ideal) ℓ) (g : Dev Cert.PoutRIdeal.nD → PrngReg), Pre_PoutRIdeal m →
    θ_run (Cert.PoutRIdeal.defs (F := Ideal)) (onTc (τ := Cert.PoutRIdeal.τ) (Cert.PoutRIdeal.main (F := Ideal))) ⟨m, fun _ => 0, g⟩ (fun r => (∀ c : Dev Cert.PoutRIdeal.nD,
      r.2.mem ((c.tc : Thread Cert.PoutRIdeal.nD Cert.PoutRIdeal.τ).loc Cert.PoutRIdeal.main_arg0) = m ((c.tc : Thread Cert.PoutRIdeal.nD Cert.PoutRIdeal.τ).loc Cert.PoutRIdeal.main_arg0)
      ∧ r.2.mem ((c.tc : Thread Cert.PoutRIdeal.nD Cert.PoutRIdeal.τ).loc Cert.PoutRIdeal.main_arg1) = m ((c.tc : Thread Cert.PoutRIdeal.nD Cert.PoutRIdeal.τ).loc Cert.PoutRIdeal.main_arg1)
      ∧ r.2.mem ((c.tc : Thread Cert.PoutRIdeal.nD Cert.PoutRIdeal.τ).loc Cert.PoutRIdeal.main_arg2) = m ((c.tc : Thread Cert.PoutRIdeal.nD Cert.PoutRIdeal.τ).loc Cert.PoutRIdeal.main_arg2)
      ∧ r.2.mem ((c.tc : Thread Cert.PoutRIdeal.nD Cert.PoutRIdeal.τ).loc Cert.PoutRIdeal.main_arg3) = m ((c.tc : Thread Cert.PoutRIdeal.nD Cert.PoutRIdeal.τ).loc Cert.PoutRIdeal.main_arg3))
      ∧ r.2.sem = fun _ => 0)

def quiescent_DmixK [hDmixK : Cert.DmixK.Facts] : Prop :=
  ∀ (m : (ℓ : Loc Cert.DmixK.nD Cert.DmixK.τ Cert.DmixK.sig) → Buf (Elt Bits) ℓ) (g : Dev Cert.DmixK.nD → PrngReg), Pre_DmixK m →
    θ_run (Cert.DmixK.defs (F := Bits)) (onTc (τ := Cert.DmixK.τ) (Cert.DmixK.main (F := Bits))) ⟨m, fun _ => 0, g⟩ (fun r => (∀ c : Dev Cert.DmixK.nD,
      r.2.mem ((c.tc : Thread Cert.DmixK.nD Cert.DmixK.τ).loc Cert.DmixK.main_arg0) = m ((c.tc : Thread Cert.DmixK.nD Cert.DmixK.τ).loc Cert.DmixK.main_arg0)
      ∧ r.2.mem ((c.tc : Thread Cert.DmixK.nD Cert.DmixK.τ).loc Cert.DmixK.main_arg1) = m ((c.tc : Thread Cert.DmixK.nD Cert.DmixK.τ).loc Cert.DmixK.main_arg1)
      ∧ r.2.mem ((c.tc : Thread Cert.DmixK.nD Cert.DmixK.τ).loc Cert.DmixK.main_arg2) = m ((c.tc : Thread Cert.DmixK.nD Cert.DmixK.τ).loc Cert.DmixK.main_arg2))
      ∧ r.2.sem = fun _ => 0)

def quiescent_DmixKIdeal [hDmixKIdeal : Cert.DmixKIdeal.Facts] : Prop :=
  ∀ (m : (ℓ : Loc Cert.DmixKIdeal.nD Cert.DmixKIdeal.τ Cert.DmixKIdeal.sig) → Buf (Elt Ideal) ℓ) (g : Dev Cert.DmixKIdeal.nD → PrngReg), Pre_DmixKIdeal m →
    θ_run (Cert.DmixKIdeal.defs (F := Ideal)) (onTc (τ := Cert.DmixKIdeal.τ) (Cert.DmixKIdeal.main (F := Ideal))) ⟨m, fun _ => 0, g⟩ (fun r => (∀ c : Dev Cert.DmixKIdeal.nD,
      r.2.mem ((c.tc : Thread Cert.DmixKIdeal.nD Cert.DmixKIdeal.τ).loc Cert.DmixKIdeal.main_arg0) = m ((c.tc : Thread Cert.DmixKIdeal.nD Cert.DmixKIdeal.τ).loc Cert.DmixKIdeal.main_arg0)
      ∧ r.2.mem ((c.tc : Thread Cert.DmixKIdeal.nD Cert.DmixKIdeal.τ).loc Cert.DmixKIdeal.main_arg1) = m ((c.tc : Thread Cert.DmixKIdeal.nD Cert.DmixKIdeal.τ).loc Cert.DmixKIdeal.main_arg1)
      ∧ r.2.mem ((c.tc : Thread Cert.DmixKIdeal.nD Cert.DmixKIdeal.τ).loc Cert.DmixKIdeal.main_arg2) = m ((c.tc : Thread Cert.DmixKIdeal.nD Cert.DmixKIdeal.τ).loc Cert.DmixKIdeal.main_arg2))
      ∧ r.2.sem = fun _ => 0)

def quiescent_DmixRIdeal [hDmixRIdeal : Cert.DmixRIdeal.Facts] : Prop :=
  ∀ (m : (ℓ : Loc Cert.DmixRIdeal.nD Cert.DmixRIdeal.τ Cert.DmixRIdeal.sig) → Buf (Elt Ideal) ℓ) (g : Dev Cert.DmixRIdeal.nD → PrngReg), Pre_DmixRIdeal m →
    θ_run (Cert.DmixRIdeal.defs (F := Ideal)) (onTc (τ := Cert.DmixRIdeal.τ) (Cert.DmixRIdeal.main (F := Ideal))) ⟨m, fun _ => 0, g⟩ (fun r => (∀ c : Dev Cert.DmixRIdeal.nD,
      r.2.mem ((c.tc : Thread Cert.DmixRIdeal.nD Cert.DmixRIdeal.τ).loc Cert.DmixRIdeal.main_arg0) = m ((c.tc : Thread Cert.DmixRIdeal.nD Cert.DmixRIdeal.τ).loc Cert.DmixRIdeal.main_arg0)
      ∧ r.2.mem ((c.tc : Thread Cert.DmixRIdeal.nD Cert.DmixRIdeal.τ).loc Cert.DmixRIdeal.main_arg1) = m ((c.tc : Thread Cert.DmixRIdeal.nD Cert.DmixRIdeal.τ).loc Cert.DmixRIdeal.main_arg1)
      ∧ r.2.mem ((c.tc : Thread Cert.DmixRIdeal.nD Cert.DmixRIdeal.τ).loc Cert.DmixRIdeal.main_arg2) = m ((c.tc : Thread Cert.DmixRIdeal.nD Cert.DmixRIdeal.τ).loc Cert.DmixRIdeal.main_arg2))
      ∧ r.2.sem = fun _ => 0)

def quiescent_MdwK [hMdwK : Cert.MdwK.Facts] : Prop :=
  ∀ (m : (ℓ : Loc Cert.MdwK.nD Cert.MdwK.τ Cert.MdwK.sig) → Buf (Elt Bits) ℓ) (g : Dev Cert.MdwK.nD → PrngReg), Pre_MdwK m →
    θ_run (Cert.MdwK.defs (F := Bits)) (onTc (τ := Cert.MdwK.τ) (Cert.MdwK.main (F := Bits))) ⟨m, fun _ => 0, g⟩ (fun r => (∀ c : Dev Cert.MdwK.nD,
      r.2.mem ((c.tc : Thread Cert.MdwK.nD Cert.MdwK.τ).loc Cert.MdwK.main_arg0) = m ((c.tc : Thread Cert.MdwK.nD Cert.MdwK.τ).loc Cert.MdwK.main_arg0)
      ∧ r.2.mem ((c.tc : Thread Cert.MdwK.nD Cert.MdwK.τ).loc Cert.MdwK.main_arg1) = m ((c.tc : Thread Cert.MdwK.nD Cert.MdwK.τ).loc Cert.MdwK.main_arg1)
      ∧ r.2.mem ((c.tc : Thread Cert.MdwK.nD Cert.MdwK.τ).loc Cert.MdwK.main_arg2) = m ((c.tc : Thread Cert.MdwK.nD Cert.MdwK.τ).loc Cert.MdwK.main_arg2)
      ∧ r.2.mem ((c.tc : Thread Cert.MdwK.nD Cert.MdwK.τ).loc Cert.MdwK.main_arg3) = m ((c.tc : Thread Cert.MdwK.nD Cert.MdwK.τ).loc Cert.MdwK.main_arg3))
      ∧ r.2.sem = fun _ => 0)

def quiescent_MdwKIdeal [hMdwKIdeal : Cert.MdwKIdeal.Facts] : Prop :=
  ∀ (m : (ℓ : Loc Cert.MdwKIdeal.nD Cert.MdwKIdeal.τ Cert.MdwKIdeal.sig) → Buf (Elt Ideal) ℓ) (g : Dev Cert.MdwKIdeal.nD → PrngReg), Pre_MdwKIdeal m →
    θ_run (Cert.MdwKIdeal.defs (F := Ideal)) (onTc (τ := Cert.MdwKIdeal.τ) (Cert.MdwKIdeal.main (F := Ideal))) ⟨m, fun _ => 0, g⟩ (fun r => (∀ c : Dev Cert.MdwKIdeal.nD,
      r.2.mem ((c.tc : Thread Cert.MdwKIdeal.nD Cert.MdwKIdeal.τ).loc Cert.MdwKIdeal.main_arg0) = m ((c.tc : Thread Cert.MdwKIdeal.nD Cert.MdwKIdeal.τ).loc Cert.MdwKIdeal.main_arg0)
      ∧ r.2.mem ((c.tc : Thread Cert.MdwKIdeal.nD Cert.MdwKIdeal.τ).loc Cert.MdwKIdeal.main_arg1) = m ((c.tc : Thread Cert.MdwKIdeal.nD Cert.MdwKIdeal.τ).loc Cert.MdwKIdeal.main_arg1)
      ∧ r.2.mem ((c.tc : Thread Cert.MdwKIdeal.nD Cert.MdwKIdeal.τ).loc Cert.MdwKIdeal.main_arg2) = m ((c.tc : Thread Cert.MdwKIdeal.nD Cert.MdwKIdeal.τ).loc Cert.MdwKIdeal.main_arg2)
      ∧ r.2.mem ((c.tc : Thread Cert.MdwKIdeal.nD Cert.MdwKIdeal.τ).loc Cert.MdwKIdeal.main_arg3) = m ((c.tc : Thread Cert.MdwKIdeal.nD Cert.MdwKIdeal.τ).loc Cert.MdwKIdeal.main_arg3))
      ∧ r.2.sem = fun _ => 0)

def quiescent_MdwRIdeal [hMdwRIdeal : Cert.MdwRIdeal.Facts] : Prop :=
  ∀ (m : (ℓ : Loc Cert.MdwRIdeal.nD Cert.MdwRIdeal.τ Cert.MdwRIdeal.sig) → Buf (Elt Ideal) ℓ) (g : Dev Cert.MdwRIdeal.nD → PrngReg), Pre_MdwRIdeal m →
    θ_run (Cert.MdwRIdeal.defs (F := Ideal)) (onTc (τ := Cert.MdwRIdeal.τ) (Cert.MdwRIdeal.main (F := Ideal))) ⟨m, fun _ => 0, g⟩ (fun r => (∀ c : Dev Cert.MdwRIdeal.nD,
      r.2.mem ((c.tc : Thread Cert.MdwRIdeal.nD Cert.MdwRIdeal.τ).loc Cert.MdwRIdeal.main_arg0) = m ((c.tc : Thread Cert.MdwRIdeal.nD Cert.MdwRIdeal.τ).loc Cert.MdwRIdeal.main_arg0)
      ∧ r.2.mem ((c.tc : Thread Cert.MdwRIdeal.nD Cert.MdwRIdeal.τ).loc Cert.MdwRIdeal.main_arg1) = m ((c.tc : Thread Cert.MdwRIdeal.nD Cert.MdwRIdeal.τ).loc Cert.MdwRIdeal.main_arg1)
      ∧ r.2.mem ((c.tc : Thread Cert.MdwRIdeal.nD Cert.MdwRIdeal.τ).loc Cert.MdwRIdeal.main_arg2) = m ((c.tc : Thread Cert.MdwRIdeal.nD Cert.MdwRIdeal.τ).loc Cert.MdwRIdeal.main_arg2)
      ∧ r.2.mem ((c.tc : Thread Cert.MdwRIdeal.nD Cert.MdwRIdeal.τ).loc Cert.MdwRIdeal.main_arg3) = m ((c.tc : Thread Cert.MdwRIdeal.nD Cert.MdwRIdeal.τ).loc Cert.MdwRIdeal.main_arg3))
      ∧ r.2.sem = fun _ => 0)

def quiescent_MdwinK [hMdwinK : Cert.MdwinK.Facts] : Prop :=
  ∀ (m : (ℓ : Loc Cert.MdwinK.nD Cert.MdwinK.τ Cert.MdwinK.sig) → Buf (Elt Bits) ℓ) (g : Dev Cert.MdwinK.nD → PrngReg), Pre_MdwinK m →
    θ_run (Cert.MdwinK.defs (F := Bits)) (onTc (τ := Cert.MdwinK.τ) (Cert.MdwinK.main (F := Bits))) ⟨m, fun _ => 0, g⟩ (fun r => (∀ c : Dev Cert.MdwinK.nD,
      r.2.mem ((c.tc : Thread Cert.MdwinK.nD Cert.MdwinK.τ).loc Cert.MdwinK.main_arg0) = m ((c.tc : Thread Cert.MdwinK.nD Cert.MdwinK.τ).loc Cert.MdwinK.main_arg0)
      ∧ r.2.mem ((c.tc : Thread Cert.MdwinK.nD Cert.MdwinK.τ).loc Cert.MdwinK.main_arg1) = m ((c.tc : Thread Cert.MdwinK.nD Cert.MdwinK.τ).loc Cert.MdwinK.main_arg1)
      ∧ r.2.mem ((c.tc : Thread Cert.MdwinK.nD Cert.MdwinK.τ).loc Cert.MdwinK.main_arg2) = m ((c.tc : Thread Cert.MdwinK.nD Cert.MdwinK.τ).loc Cert.MdwinK.main_arg2)
      ∧ r.2.mem ((c.tc : Thread Cert.MdwinK.nD Cert.MdwinK.τ).loc Cert.MdwinK.main_arg3) = m ((c.tc : Thread Cert.MdwinK.nD Cert.MdwinK.τ).loc Cert.MdwinK.main_arg3)
      ∧ r.2.mem ((c.tc : Thread Cert.MdwinK.nD Cert.MdwinK.τ).loc Cert.MdwinK.main_arg4) = m ((c.tc : Thread Cert.MdwinK.nD Cert.MdwinK.τ).loc Cert.MdwinK.main_arg4)
      ∧ r.2.mem ((c.tc : Thread Cert.MdwinK.nD Cert.MdwinK.τ).loc Cert.MdwinK.main_arg5) = m ((c.tc : Thread Cert.MdwinK.nD Cert.MdwinK.τ).loc Cert.MdwinK.main_arg5)
      ∧ r.2.mem ((c.tc : Thread Cert.MdwinK.nD Cert.MdwinK.τ).loc Cert.MdwinK.main_arg6) = m ((c.tc : Thread Cert.MdwinK.nD Cert.MdwinK.τ).loc Cert.MdwinK.main_arg6)
      ∧ r.2.mem ((c.tc : Thread Cert.MdwinK.nD Cert.MdwinK.τ).loc Cert.MdwinK.main_arg7) = m ((c.tc : Thread Cert.MdwinK.nD Cert.MdwinK.τ).loc Cert.MdwinK.main_arg7))
      ∧ r.2.sem = fun _ => 0)

def quiescent_MdwinKIdeal [hMdwinKIdeal : Cert.MdwinKIdeal.Facts] : Prop :=
  ∀ (m : (ℓ : Loc Cert.MdwinKIdeal.nD Cert.MdwinKIdeal.τ Cert.MdwinKIdeal.sig) → Buf (Elt Ideal) ℓ) (g : Dev Cert.MdwinKIdeal.nD → PrngReg), Pre_MdwinKIdeal m →
    θ_run (Cert.MdwinKIdeal.defs (F := Ideal)) (onTc (τ := Cert.MdwinKIdeal.τ) (Cert.MdwinKIdeal.main (F := Ideal))) ⟨m, fun _ => 0, g⟩ (fun r => (∀ c : Dev Cert.MdwinKIdeal.nD,
      r.2.mem ((c.tc : Thread Cert.MdwinKIdeal.nD Cert.MdwinKIdeal.τ).loc Cert.MdwinKIdeal.main_arg0) = m ((c.tc : Thread Cert.MdwinKIdeal.nD Cert.MdwinKIdeal.τ).loc Cert.MdwinKIdeal.main_arg0)
      ∧ r.2.mem ((c.tc : Thread Cert.MdwinKIdeal.nD Cert.MdwinKIdeal.τ).loc Cert.MdwinKIdeal.main_arg1) = m ((c.tc : Thread Cert.MdwinKIdeal.nD Cert.MdwinKIdeal.τ).loc Cert.MdwinKIdeal.main_arg1)
      ∧ r.2.mem ((c.tc : Thread Cert.MdwinKIdeal.nD Cert.MdwinKIdeal.τ).loc Cert.MdwinKIdeal.main_arg2) = m ((c.tc : Thread Cert.MdwinKIdeal.nD Cert.MdwinKIdeal.τ).loc Cert.MdwinKIdeal.main_arg2)
      ∧ r.2.mem ((c.tc : Thread Cert.MdwinKIdeal.nD Cert.MdwinKIdeal.τ).loc Cert.MdwinKIdeal.main_arg3) = m ((c.tc : Thread Cert.MdwinKIdeal.nD Cert.MdwinKIdeal.τ).loc Cert.MdwinKIdeal.main_arg3)
      ∧ r.2.mem ((c.tc : Thread Cert.MdwinKIdeal.nD Cert.MdwinKIdeal.τ).loc Cert.MdwinKIdeal.main_arg4) = m ((c.tc : Thread Cert.MdwinKIdeal.nD Cert.MdwinKIdeal.τ).loc Cert.MdwinKIdeal.main_arg4)
      ∧ r.2.mem ((c.tc : Thread Cert.MdwinKIdeal.nD Cert.MdwinKIdeal.τ).loc Cert.MdwinKIdeal.main_arg5) = m ((c.tc : Thread Cert.MdwinKIdeal.nD Cert.MdwinKIdeal.τ).loc Cert.MdwinKIdeal.main_arg5)
      ∧ r.2.mem ((c.tc : Thread Cert.MdwinKIdeal.nD Cert.MdwinKIdeal.τ).loc Cert.MdwinKIdeal.main_arg6) = m ((c.tc : Thread Cert.MdwinKIdeal.nD Cert.MdwinKIdeal.τ).loc Cert.MdwinKIdeal.main_arg6)
      ∧ r.2.mem ((c.tc : Thread Cert.MdwinKIdeal.nD Cert.MdwinKIdeal.τ).loc Cert.MdwinKIdeal.main_arg7) = m ((c.tc : Thread Cert.MdwinKIdeal.nD Cert.MdwinKIdeal.τ).loc Cert.MdwinKIdeal.main_arg7))
      ∧ r.2.sem = fun _ => 0)

def quiescent_MdwinRIdeal [hMdwinRIdeal : Cert.MdwinRIdeal.Facts] : Prop :=
  ∀ (m : (ℓ : Loc Cert.MdwinRIdeal.nD Cert.MdwinRIdeal.τ Cert.MdwinRIdeal.sig) → Buf (Elt Ideal) ℓ) (g : Dev Cert.MdwinRIdeal.nD → PrngReg), Pre_MdwinRIdeal m →
    θ_run (Cert.MdwinRIdeal.defs (F := Ideal)) (onTc (τ := Cert.MdwinRIdeal.τ) (Cert.MdwinRIdeal.main (F := Ideal))) ⟨m, fun _ => 0, g⟩ (fun r => (∀ c : Dev Cert.MdwinRIdeal.nD,
      r.2.mem ((c.tc : Thread Cert.MdwinRIdeal.nD Cert.MdwinRIdeal.τ).loc Cert.MdwinRIdeal.main_arg0) = m ((c.tc : Thread Cert.MdwinRIdeal.nD Cert.MdwinRIdeal.τ).loc Cert.MdwinRIdeal.main_arg0)
      ∧ r.2.mem ((c.tc : Thread Cert.MdwinRIdeal.nD Cert.MdwinRIdeal.τ).loc Cert.MdwinRIdeal.main_arg1) = m ((c.tc : Thread Cert.MdwinRIdeal.nD Cert.MdwinRIdeal.τ).loc Cert.MdwinRIdeal.main_arg1)
      ∧ r.2.mem ((c.tc : Thread Cert.MdwinRIdeal.nD Cert.MdwinRIdeal.τ).loc Cert.MdwinRIdeal.main_arg2) = m ((c.tc : Thread Cert.MdwinRIdeal.nD Cert.MdwinRIdeal.τ).loc Cert.MdwinRIdeal.main_arg2)
      ∧ r.2.mem ((c.tc : Thread Cert.MdwinRIdeal.nD Cert.MdwinRIdeal.τ).loc Cert.MdwinRIdeal.main_arg3) = m ((c.tc : Thread Cert.MdwinRIdeal.nD Cert.MdwinRIdeal.τ).loc Cert.MdwinRIdeal.main_arg3)
      ∧ r.2.mem ((c.tc : Thread Cert.MdwinRIdeal.nD Cert.MdwinRIdeal.τ).loc Cert.MdwinRIdeal.main_arg4) = m ((c.tc : Thread Cert.MdwinRIdeal.nD Cert.MdwinRIdeal.τ).loc Cert.MdwinRIdeal.main_arg4)
      ∧ r.2.mem ((c.tc : Thread Cert.MdwinRIdeal.nD Cert.MdwinRIdeal.τ).loc Cert.MdwinRIdeal.main_arg5) = m ((c.tc : Thread Cert.MdwinRIdeal.nD Cert.MdwinRIdeal.τ).loc Cert.MdwinRIdeal.main_arg5)
      ∧ r.2.mem ((c.tc : Thread Cert.MdwinRIdeal.nD Cert.MdwinRIdeal.τ).loc Cert.MdwinRIdeal.main_arg6) = m ((c.tc : Thread Cert.MdwinRIdeal.nD Cert.MdwinRIdeal.τ).loc Cert.MdwinRIdeal.main_arg6)
      ∧ r.2.mem ((c.tc : Thread Cert.MdwinRIdeal.nD Cert.MdwinRIdeal.τ).loc Cert.MdwinRIdeal.main_arg7) = m ((c.tc : Thread Cert.MdwinRIdeal.nD Cert.MdwinRIdeal.τ).loc Cert.MdwinRIdeal.main_arg7))
      ∧ r.2.sem = fun _ => 0)

def quiescent_FdwinK [hFdwinK : Cert.FdwinK.Facts] : Prop :=
  ∀ (m : (ℓ : Loc Cert.FdwinK.nD Cert.FdwinK.τ Cert.FdwinK.sig) → Buf (Elt Bits) ℓ) (g : Dev Cert.FdwinK.nD → PrngReg), Pre_FdwinK m →
    θ_run (Cert.FdwinK.defs (F := Bits)) (onTc (τ := Cert.FdwinK.τ) (Cert.FdwinK.main (F := Bits))) ⟨m, fun _ => 0, g⟩ (fun r => (∀ c : Dev Cert.FdwinK.nD,
      r.2.mem ((c.tc : Thread Cert.FdwinK.nD Cert.FdwinK.τ).loc Cert.FdwinK.main_arg0) = m ((c.tc : Thread Cert.FdwinK.nD Cert.FdwinK.τ).loc Cert.FdwinK.main_arg0)
      ∧ r.2.mem ((c.tc : Thread Cert.FdwinK.nD Cert.FdwinK.τ).loc Cert.FdwinK.main_arg1) = m ((c.tc : Thread Cert.FdwinK.nD Cert.FdwinK.τ).loc Cert.FdwinK.main_arg1)
      ∧ r.2.mem ((c.tc : Thread Cert.FdwinK.nD Cert.FdwinK.τ).loc Cert.FdwinK.main_arg2) = m ((c.tc : Thread Cert.FdwinK.nD Cert.FdwinK.τ).loc Cert.FdwinK.main_arg2)
      ∧ r.2.mem ((c.tc : Thread Cert.FdwinK.nD Cert.FdwinK.τ).loc Cert.FdwinK.main_arg3) = m ((c.tc : Thread Cert.FdwinK.nD Cert.FdwinK.τ).loc Cert.FdwinK.main_arg3))
      ∧ r.2.sem = fun _ => 0)

def quiescent_FdwinKIdeal [hFdwinKIdeal : Cert.FdwinKIdeal.Facts] : Prop :=
  ∀ (m : (ℓ : Loc Cert.FdwinKIdeal.nD Cert.FdwinKIdeal.τ Cert.FdwinKIdeal.sig) → Buf (Elt Ideal) ℓ) (g : Dev Cert.FdwinKIdeal.nD → PrngReg), Pre_FdwinKIdeal m →
    θ_run (Cert.FdwinKIdeal.defs (F := Ideal)) (onTc (τ := Cert.FdwinKIdeal.τ) (Cert.FdwinKIdeal.main (F := Ideal))) ⟨m, fun _ => 0, g⟩ (fun r => (∀ c : Dev Cert.FdwinKIdeal.nD,
      r.2.mem ((c.tc : Thread Cert.FdwinKIdeal.nD Cert.FdwinKIdeal.τ).loc Cert.FdwinKIdeal.main_arg0) = m ((c.tc : Thread Cert.FdwinKIdeal.nD Cert.FdwinKIdeal.τ).loc Cert.FdwinKIdeal.main_arg0)
      ∧ r.2.mem ((c.tc : Thread Cert.FdwinKIdeal.nD Cert.FdwinKIdeal.τ).loc Cert.FdwinKIdeal.main_arg1) = m ((c.tc : Thread Cert.FdwinKIdeal.nD Cert.FdwinKIdeal.τ).loc Cert.FdwinKIdeal.main_arg1)
      ∧ r.2.mem ((c.tc : Thread Cert.FdwinKIdeal.nD Cert.FdwinKIdeal.τ).loc Cert.FdwinKIdeal.main_arg2) = m ((c.tc : Thread Cert.FdwinKIdeal.nD Cert.FdwinKIdeal.τ).loc Cert.FdwinKIdeal.main_arg2)
      ∧ r.2.mem ((c.tc : Thread Cert.FdwinKIdeal.nD Cert.FdwinKIdeal.τ).loc Cert.FdwinKIdeal.main_arg3) = m ((c.tc : Thread Cert.FdwinKIdeal.nD Cert.FdwinKIdeal.τ).loc Cert.FdwinKIdeal.main_arg3))
      ∧ r.2.sem = fun _ => 0)

def quiescent_FdwinRIdeal [hFdwinRIdeal : Cert.FdwinRIdeal.Facts] : Prop :=
  ∀ (m : (ℓ : Loc Cert.FdwinRIdeal.nD Cert.FdwinRIdeal.τ Cert.FdwinRIdeal.sig) → Buf (Elt Ideal) ℓ) (g : Dev Cert.FdwinRIdeal.nD → PrngReg), Pre_FdwinRIdeal m →
    θ_run (Cert.FdwinRIdeal.defs (F := Ideal)) (onTc (τ := Cert.FdwinRIdeal.τ) (Cert.FdwinRIdeal.main (F := Ideal))) ⟨m, fun _ => 0, g⟩ (fun r => (∀ c : Dev Cert.FdwinRIdeal.nD,
      r.2.mem ((c.tc : Thread Cert.FdwinRIdeal.nD Cert.FdwinRIdeal.τ).loc Cert.FdwinRIdeal.main_arg0) = m ((c.tc : Thread Cert.FdwinRIdeal.nD Cert.FdwinRIdeal.τ).loc Cert.FdwinRIdeal.main_arg0)
      ∧ r.2.mem ((c.tc : Thread Cert.FdwinRIdeal.nD Cert.FdwinRIdeal.τ).loc Cert.FdwinRIdeal.main_arg1) = m ((c.tc : Thread Cert.FdwinRIdeal.nD Cert.FdwinRIdeal.τ).loc Cert.FdwinRIdeal.main_arg1)
      ∧ r.2.mem ((c.tc : Thread Cert.FdwinRIdeal.nD Cert.FdwinRIdeal.τ).loc Cert.FdwinRIdeal.main_arg2) = m ((c.tc : Thread Cert.FdwinRIdeal.nD Cert.FdwinRIdeal.τ).loc Cert.FdwinRIdeal.main_arg2)
      ∧ r.2.mem ((c.tc : Thread Cert.FdwinRIdeal.nD Cert.FdwinRIdeal.τ).loc Cert.FdwinRIdeal.main_arg3) = m ((c.tc : Thread Cert.FdwinRIdeal.nD Cert.FdwinRIdeal.τ).loc Cert.FdwinRIdeal.main_arg3))
      ∧ r.2.sem = fun _ => 0)

def quiescent_OddfK [hOddfK : Cert.OddfK.Facts] : Prop :=
  ∀ (m : (ℓ : Loc Cert.OddfK.nD Cert.OddfK.τ Cert.OddfK.sig) → Buf (Elt Bits) ℓ) (g : Dev Cert.OddfK.nD → PrngReg), Pre_OddfK m →
    θ_run (Cert.OddfK.defs (F := Bits)) (onTc (τ := Cert.OddfK.τ) (Cert.OddfK.main (F := Bits))) ⟨m, fun _ => 0, g⟩ (fun r => (∀ c : Dev Cert.OddfK.nD,
      r.2.mem ((c.tc : Thread Cert.OddfK.nD Cert.OddfK.τ).loc Cert.OddfK.main_arg0) = m ((c.tc : Thread Cert.OddfK.nD Cert.OddfK.τ).loc Cert.OddfK.main_arg0)
      ∧ r.2.mem ((c.tc : Thread Cert.OddfK.nD Cert.OddfK.τ).loc Cert.OddfK.main_arg1) = m ((c.tc : Thread Cert.OddfK.nD Cert.OddfK.τ).loc Cert.OddfK.main_arg1)
      ∧ r.2.mem ((c.tc : Thread Cert.OddfK.nD Cert.OddfK.τ).loc Cert.OddfK.main_arg2) = m ((c.tc : Thread Cert.OddfK.nD Cert.OddfK.τ).loc Cert.OddfK.main_arg2)
      ∧ r.2.mem ((c.tc : Thread Cert.OddfK.nD Cert.OddfK.τ).loc Cert.OddfK.main_arg3) = m ((c.tc : Thread Cert.OddfK.nD Cert.OddfK.τ).loc Cert.OddfK.main_arg3)
      ∧ r.2.mem ((c.tc : Thread Cert.OddfK.nD Cert.OddfK.τ).loc Cert.OddfK.main_arg4) = m ((c.tc : Thread Cert.OddfK.nD Cert.OddfK.τ).loc Cert.OddfK.main_arg4)
      ∧ r.2.mem ((c.tc : Thread Cert.OddfK.nD Cert.OddfK.τ).loc Cert.OddfK.main_arg5) = m ((c.tc : Thread Cert.OddfK.nD Cert.OddfK.τ).loc Cert.OddfK.main_arg5))
      ∧ r.2.sem = fun _ => 0)

def quiescent_OddfKIdeal [hOddfKIdeal : Cert.OddfKIdeal.Facts] : Prop :=
  ∀ (m : (ℓ : Loc Cert.OddfKIdeal.nD Cert.OddfKIdeal.τ Cert.OddfKIdeal.sig) → Buf (Elt Ideal) ℓ) (g : Dev Cert.OddfKIdeal.nD → PrngReg), Pre_OddfKIdeal m →
    θ_run (Cert.OddfKIdeal.defs (F := Ideal)) (onTc (τ := Cert.OddfKIdeal.τ) (Cert.OddfKIdeal.main (F := Ideal))) ⟨m, fun _ => 0, g⟩ (fun r => (∀ c : Dev Cert.OddfKIdeal.nD,
      r.2.mem ((c.tc : Thread Cert.OddfKIdeal.nD Cert.OddfKIdeal.τ).loc Cert.OddfKIdeal.main_arg0) = m ((c.tc : Thread Cert.OddfKIdeal.nD Cert.OddfKIdeal.τ).loc Cert.OddfKIdeal.main_arg0)
      ∧ r.2.mem ((c.tc : Thread Cert.OddfKIdeal.nD Cert.OddfKIdeal.τ).loc Cert.OddfKIdeal.main_arg1) = m ((c.tc : Thread Cert.OddfKIdeal.nD Cert.OddfKIdeal.τ).loc Cert.OddfKIdeal.main_arg1)
      ∧ r.2.mem ((c.tc : Thread Cert.OddfKIdeal.nD Cert.OddfKIdeal.τ).loc Cert.OddfKIdeal.main_arg2) = m ((c.tc : Thread Cert.OddfKIdeal.nD Cert.OddfKIdeal.τ).loc Cert.OddfKIdeal.main_arg2)
      ∧ r.2.mem ((c.tc : Thread Cert.OddfKIdeal.nD Cert.OddfKIdeal.τ).loc Cert.OddfKIdeal.main_arg3) = m ((c.tc : Thread Cert.OddfKIdeal.nD Cert.OddfKIdeal.τ).loc Cert.OddfKIdeal.main_arg3)
      ∧ r.2.mem ((c.tc : Thread Cert.OddfKIdeal.nD Cert.OddfKIdeal.τ).loc Cert.OddfKIdeal.main_arg4) = m ((c.tc : Thread Cert.OddfKIdeal.nD Cert.OddfKIdeal.τ).loc Cert.OddfKIdeal.main_arg4)
      ∧ r.2.mem ((c.tc : Thread Cert.OddfKIdeal.nD Cert.OddfKIdeal.τ).loc Cert.OddfKIdeal.main_arg5) = m ((c.tc : Thread Cert.OddfKIdeal.nD Cert.OddfKIdeal.τ).loc Cert.OddfKIdeal.main_arg5))
      ∧ r.2.sem = fun _ => 0)

def quiescent_OddfRIdeal [hOddfRIdeal : Cert.OddfRIdeal.Facts] : Prop :=
  ∀ (m : (ℓ : Loc Cert.OddfRIdeal.nD Cert.OddfRIdeal.τ Cert.OddfRIdeal.sig) → Buf (Elt Ideal) ℓ) (g : Dev Cert.OddfRIdeal.nD → PrngReg), Pre_OddfRIdeal m →
    θ_run (Cert.OddfRIdeal.defs (F := Ideal)) (onTc (τ := Cert.OddfRIdeal.τ) (Cert.OddfRIdeal.main (F := Ideal))) ⟨m, fun _ => 0, g⟩ (fun r => (∀ c : Dev Cert.OddfRIdeal.nD,
      r.2.mem ((c.tc : Thread Cert.OddfRIdeal.nD Cert.OddfRIdeal.τ).loc Cert.OddfRIdeal.main_arg0) = m ((c.tc : Thread Cert.OddfRIdeal.nD Cert.OddfRIdeal.τ).loc Cert.OddfRIdeal.main_arg0)
      ∧ r.2.mem ((c.tc : Thread Cert.OddfRIdeal.nD Cert.OddfRIdeal.τ).loc Cert.OddfRIdeal.main_arg1) = m ((c.tc : Thread Cert.OddfRIdeal.nD Cert.OddfRIdeal.τ).loc Cert.OddfRIdeal.main_arg1)
      ∧ r.2.mem ((c.tc : Thread Cert.OddfRIdeal.nD Cert.OddfRIdeal.τ).loc Cert.OddfRIdeal.main_arg2) = m ((c.tc : Thread Cert.OddfRIdeal.nD Cert.OddfRIdeal.τ).loc Cert.OddfRIdeal.main_arg2)
      ∧ r.2.mem ((c.tc : Thread Cert.OddfRIdeal.nD Cert.OddfRIdeal.τ).loc Cert.OddfRIdeal.main_arg3) = m ((c.tc : Thread Cert.OddfRIdeal.nD Cert.OddfRIdeal.τ).loc Cert.OddfRIdeal.main_arg3)
      ∧ r.2.mem ((c.tc : Thread Cert.OddfRIdeal.nD Cert.OddfRIdeal.τ).loc Cert.OddfRIdeal.main_arg4) = m ((c.tc : Thread Cert.OddfRIdeal.nD Cert.OddfRIdeal.τ).loc Cert.OddfRIdeal.main_arg4)
      ∧ r.2.mem ((c.tc : Thread Cert.OddfRIdeal.nD Cert.OddfRIdeal.τ).loc Cert.OddfRIdeal.main_arg5) = m ((c.tc : Thread Cert.OddfRIdeal.nD Cert.OddfRIdeal.τ).loc Cert.OddfRIdeal.main_arg5))
      ∧ r.2.sem = fun _ => 0)

def quiescent_OddbK [hOddbK : Cert.OddbK.Facts] : Prop :=
  ∀ (m : (ℓ : Loc Cert.OddbK.nD Cert.OddbK.τ Cert.OddbK.sig) → Buf (Elt Bits) ℓ) (g : Dev Cert.OddbK.nD → PrngReg), Pre_OddbK m →
    θ_run (Cert.OddbK.defs (F := Bits)) (onTc (τ := Cert.OddbK.τ) (Cert.OddbK.main (F := Bits))) ⟨m, fun _ => 0, g⟩ (fun r => (∀ c : Dev Cert.OddbK.nD,
      r.2.mem ((c.tc : Thread Cert.OddbK.nD Cert.OddbK.τ).loc Cert.OddbK.main_arg0) = m ((c.tc : Thread Cert.OddbK.nD Cert.OddbK.τ).loc Cert.OddbK.main_arg0)
      ∧ r.2.mem ((c.tc : Thread Cert.OddbK.nD Cert.OddbK.τ).loc Cert.OddbK.main_arg1) = m ((c.tc : Thread Cert.OddbK.nD Cert.OddbK.τ).loc Cert.OddbK.main_arg1)
      ∧ r.2.mem ((c.tc : Thread Cert.OddbK.nD Cert.OddbK.τ).loc Cert.OddbK.main_arg2) = m ((c.tc : Thread Cert.OddbK.nD Cert.OddbK.τ).loc Cert.OddbK.main_arg2)
      ∧ r.2.mem ((c.tc : Thread Cert.OddbK.nD Cert.OddbK.τ).loc Cert.OddbK.main_arg3) = m ((c.tc : Thread Cert.OddbK.nD Cert.OddbK.τ).loc Cert.OddbK.main_arg3)
      ∧ r.2.mem ((c.tc : Thread Cert.OddbK.nD Cert.OddbK.τ).loc Cert.OddbK.main_arg4) = m ((c.tc : Thread Cert.OddbK.nD Cert.OddbK.τ).loc Cert.OddbK.main_arg4)
      ∧ r.2.mem ((c.tc : Thread Cert.OddbK.nD Cert.OddbK.τ).loc Cert.OddbK.main_arg5) = m ((c.tc : Thread Cert.OddbK.nD Cert.OddbK.τ).loc Cert.OddbK.main_arg5)
      ∧ r.2.mem ((c.tc : Thread Cert.OddbK.nD Cert.OddbK.τ).loc Cert.OddbK.main_arg6) = m ((c.tc : Thread Cert.OddbK.nD Cert.OddbK.τ).loc Cert.OddbK.main_arg6))
      ∧ r.2.sem = fun _ => 0)

def quiescent_OddbKIdeal [hOddbKIdeal : Cert.OddbKIdeal.Facts] : Prop :=
  ∀ (m : (ℓ : Loc Cert.OddbKIdeal.nD Cert.OddbKIdeal.τ Cert.OddbKIdeal.sig) → Buf (Elt Ideal) ℓ) (g : Dev Cert.OddbKIdeal.nD → PrngReg), Pre_OddbKIdeal m →
    θ_run (Cert.OddbKIdeal.defs (F := Ideal)) (onTc (τ := Cert.OddbKIdeal.τ) (Cert.OddbKIdeal.main (F := Ideal))) ⟨m, fun _ => 0, g⟩ (fun r => (∀ c : Dev Cert.OddbKIdeal.nD,
      r.2.mem ((c.tc : Thread Cert.OddbKIdeal.nD Cert.OddbKIdeal.τ).loc Cert.OddbKIdeal.main_arg0) = m ((c.tc : Thread Cert.OddbKIdeal.nD Cert.OddbKIdeal.τ).loc Cert.OddbKIdeal.main_arg0)
      ∧ r.2.mem ((c.tc : Thread Cert.OddbKIdeal.nD Cert.OddbKIdeal.τ).loc Cert.OddbKIdeal.main_arg1) = m ((c.tc : Thread Cert.OddbKIdeal.nD Cert.OddbKIdeal.τ).loc Cert.OddbKIdeal.main_arg1)
      ∧ r.2.mem ((c.tc : Thread Cert.OddbKIdeal.nD Cert.OddbKIdeal.τ).loc Cert.OddbKIdeal.main_arg2) = m ((c.tc : Thread Cert.OddbKIdeal.nD Cert.OddbKIdeal.τ).loc Cert.OddbKIdeal.main_arg2)
      ∧ r.2.mem ((c.tc : Thread Cert.OddbKIdeal.nD Cert.OddbKIdeal.τ).loc Cert.OddbKIdeal.main_arg3) = m ((c.tc : Thread Cert.OddbKIdeal.nD Cert.OddbKIdeal.τ).loc Cert.OddbKIdeal.main_arg3)
      ∧ r.2.mem ((c.tc : Thread Cert.OddbKIdeal.nD Cert.OddbKIdeal.τ).loc Cert.OddbKIdeal.main_arg4) = m ((c.tc : Thread Cert.OddbKIdeal.nD Cert.OddbKIdeal.τ).loc Cert.OddbKIdeal.main_arg4)
      ∧ r.2.mem ((c.tc : Thread Cert.OddbKIdeal.nD Cert.OddbKIdeal.τ).loc Cert.OddbKIdeal.main_arg5) = m ((c.tc : Thread Cert.OddbKIdeal.nD Cert.OddbKIdeal.τ).loc Cert.OddbKIdeal.main_arg5)
      ∧ r.2.mem ((c.tc : Thread Cert.OddbKIdeal.nD Cert.OddbKIdeal.τ).loc Cert.OddbKIdeal.main_arg6) = m ((c.tc : Thread Cert.OddbKIdeal.nD Cert.OddbKIdeal.τ).loc Cert.OddbKIdeal.main_arg6))
      ∧ r.2.sem = fun _ => 0)

def quiescent_OddbRIdeal [hOddbRIdeal : Cert.OddbRIdeal.Facts] : Prop :=
  ∀ (m : (ℓ : Loc Cert.OddbRIdeal.nD Cert.OddbRIdeal.τ Cert.OddbRIdeal.sig) → Buf (Elt Ideal) ℓ) (g : Dev Cert.OddbRIdeal.nD → PrngReg), Pre_OddbRIdeal m →
    θ_run (Cert.OddbRIdeal.defs (F := Ideal)) (onTc (τ := Cert.OddbRIdeal.τ) (Cert.OddbRIdeal.main (F := Ideal))) ⟨m, fun _ => 0, g⟩ (fun r => (∀ c : Dev Cert.OddbRIdeal.nD,
      r.2.mem ((c.tc : Thread Cert.OddbRIdeal.nD Cert.OddbRIdeal.τ).loc Cert.OddbRIdeal.main_arg0) = m ((c.tc : Thread Cert.OddbRIdeal.nD Cert.OddbRIdeal.τ).loc Cert.OddbRIdeal.main_arg0)
      ∧ r.2.mem ((c.tc : Thread Cert.OddbRIdeal.nD Cert.OddbRIdeal.τ).loc Cert.OddbRIdeal.main_arg1) = m ((c.tc : Thread Cert.OddbRIdeal.nD Cert.OddbRIdeal.τ).loc Cert.OddbRIdeal.main_arg1)
      ∧ r.2.mem ((c.tc : Thread Cert.OddbRIdeal.nD Cert.OddbRIdeal.τ).loc Cert.OddbRIdeal.main_arg2) = m ((c.tc : Thread Cert.OddbRIdeal.nD Cert.OddbRIdeal.τ).loc Cert.OddbRIdeal.main_arg2)
      ∧ r.2.mem ((c.tc : Thread Cert.OddbRIdeal.nD Cert.OddbRIdeal.τ).loc Cert.OddbRIdeal.main_arg3) = m ((c.tc : Thread Cert.OddbRIdeal.nD Cert.OddbRIdeal.τ).loc Cert.OddbRIdeal.main_arg3)
      ∧ r.2.mem ((c.tc : Thread Cert.OddbRIdeal.nD Cert.OddbRIdeal.τ).loc Cert.OddbRIdeal.main_arg4) = m ((c.tc : Thread Cert.OddbRIdeal.nD Cert.OddbRIdeal.τ).loc Cert.OddbRIdeal.main_arg4)
      ∧ r.2.mem ((c.tc : Thread Cert.OddbRIdeal.nD Cert.OddbRIdeal.τ).loc Cert.OddbRIdeal.main_arg5) = m ((c.tc : Thread Cert.OddbRIdeal.nD Cert.OddbRIdeal.τ).loc Cert.OddbRIdeal.main_arg5)
      ∧ r.2.mem ((c.tc : Thread Cert.OddbRIdeal.nD Cert.OddbRIdeal.τ).loc Cert.OddbRIdeal.main_arg6) = m ((c.tc : Thread Cert.OddbRIdeal.nD Cert.OddbRIdeal.τ).loc Cert.OddbRIdeal.main_arg6))
      ∧ r.2.sem = fun _ => 0)

def quiescent_AdamK [hAdamK : Cert.AdamK.Facts] : Prop :=
  ∀ (m : (ℓ : Loc Cert.AdamK.nD Cert.AdamK.τ Cert.AdamK.sig) → Buf (Elt Bits) ℓ) (g : Dev Cert.AdamK.nD → PrngReg), Pre_AdamK m →
    θ_run (Cert.AdamK.defs (F := Bits)) (onTc (τ := Cert.AdamK.τ) (Cert.AdamK.main (F := Bits))) ⟨m, fun _ => 0, g⟩ (fun r => (∀ c : Dev Cert.AdamK.nD,
      r.2.mem ((c.tc : Thread Cert.AdamK.nD Cert.AdamK.τ).loc Cert.AdamK.main_arg0) = m ((c.tc : Thread Cert.AdamK.nD Cert.AdamK.τ).loc Cert.AdamK.main_arg0)
      ∧ r.2.mem ((c.tc : Thread Cert.AdamK.nD Cert.AdamK.τ).loc Cert.AdamK.main_arg1) = m ((c.tc : Thread Cert.AdamK.nD Cert.AdamK.τ).loc Cert.AdamK.main_arg1)
      ∧ r.2.mem ((c.tc : Thread Cert.AdamK.nD Cert.AdamK.τ).loc Cert.AdamK.main_arg2) = m ((c.tc : Thread Cert.AdamK.nD Cert.AdamK.τ).loc Cert.AdamK.main_arg2)
      ∧ r.2.mem ((c.tc : Thread Cert.AdamK.nD Cert.AdamK.τ).loc Cert.AdamK.main_arg3) = m ((c.tc : Thread Cert.AdamK.nD Cert.AdamK.τ).loc Cert.AdamK.main_arg3))
      ∧ r.2.sem = fun _ => 0)

def quiescent_AdamKIdeal [hAdamKIdeal : Cert.AdamKIdeal.Facts] : Prop :=
  ∀ (m : (ℓ : Loc Cert.AdamKIdeal.nD Cert.AdamKIdeal.τ Cert.AdamKIdeal.sig) → Buf (Elt Ideal) ℓ) (g : Dev Cert.AdamKIdeal.nD → PrngReg), Pre_AdamKIdeal m →
    θ_run (Cert.AdamKIdeal.defs (F := Ideal)) (onTc (τ := Cert.AdamKIdeal.τ) (Cert.AdamKIdeal.main (F := Ideal))) ⟨m, fun _ => 0, g⟩ (fun r => (∀ c : Dev Cert.AdamKIdeal.nD,
      r.2.mem ((c.tc : Thread Cert.AdamKIdeal.nD Cert.AdamKIdeal.τ).loc Cert.AdamKIdeal.main_arg0) = m ((c.tc : Thread Cert.AdamKIdeal.nD Cert.AdamKIdeal.τ).loc Cert.AdamKIdeal.main_arg0)
      ∧ r.2.mem ((c.tc : Thread Cert.AdamKIdeal.nD Cert.AdamKIdeal.τ).loc Cert.AdamKIdeal.main_arg1) = m ((c.tc : Thread Cert.AdamKIdeal.nD Cert.AdamKIdeal.τ).loc Cert.AdamKIdeal.main_arg1)
      ∧ r.2.mem ((c.tc : Thread Cert.AdamKIdeal.nD Cert.AdamKIdeal.τ).loc Cert.AdamKIdeal.main_arg2) = m ((c.tc : Thread Cert.AdamKIdeal.nD Cert.AdamKIdeal.τ).loc Cert.AdamKIdeal.main_arg2)
      ∧ r.2.mem ((c.tc : Thread Cert.AdamKIdeal.nD Cert.AdamKIdeal.τ).loc Cert.AdamKIdeal.main_arg3) = m ((c.tc : Thread Cert.AdamKIdeal.nD Cert.AdamKIdeal.τ).loc Cert.AdamKIdeal.main_arg3))
      ∧ r.2.sem = fun _ => 0)

def quiescent_AdamRIdeal [hAdamRIdeal : Cert.AdamRIdeal.Facts] : Prop :=
  ∀ (m : (ℓ : Loc Cert.AdamRIdeal.nD Cert.AdamRIdeal.τ Cert.AdamRIdeal.sig) → Buf (Elt Ideal) ℓ) (g : Dev Cert.AdamRIdeal.nD → PrngReg), Pre_AdamRIdeal m →
    θ_run (Cert.AdamRIdeal.defs (F := Ideal)) (onTc (τ := Cert.AdamRIdeal.τ) (Cert.AdamRIdeal.main (F := Ideal))) ⟨m, fun _ => 0, g⟩ (fun r => (∀ c : Dev Cert.AdamRIdeal.nD,
      r.2.mem ((c.tc : Thread Cert.AdamRIdeal.nD Cert.AdamRIdeal.τ).loc Cert.AdamRIdeal.main_arg0) = m ((c.tc : Thread Cert.AdamRIdeal.nD Cert.AdamRIdeal.τ).loc Cert.AdamRIdeal.main_arg0)
      ∧ r.2.mem ((c.tc : Thread Cert.AdamRIdeal.nD Cert.AdamRIdeal.τ).loc Cert.AdamRIdeal.main_arg1) = m ((c.tc : Thread Cert.AdamRIdeal.nD Cert.AdamRIdeal.τ).loc Cert.AdamRIdeal.main_arg1)
      ∧ r.2.mem ((c.tc : Thread Cert.AdamRIdeal.nD Cert.AdamRIdeal.τ).loc Cert.AdamRIdeal.main_arg2) = m ((c.tc : Thread Cert.AdamRIdeal.nD Cert.AdamRIdeal.τ).loc Cert.AdamRIdeal.main_arg2)
      ∧ r.2.mem ((c.tc : Thread Cert.AdamRIdeal.nD Cert.AdamRIdeal.τ).loc Cert.AdamRIdeal.main_arg3) = m ((c.tc : Thread Cert.AdamRIdeal.nD Cert.AdamRIdeal.τ).loc Cert.AdamRIdeal.main_arg3))
      ∧ r.2.sem = fun _ => 0)

def quiescent_AddsK [hAddsK : Cert.AddsK.Facts] : Prop :=
  ∀ (m : (ℓ : Loc Cert.AddsK.nD Cert.AddsK.τ Cert.AddsK.sig) → Buf (Elt Bits) ℓ) (g : Dev Cert.AddsK.nD → PrngReg), Pre_AddsK m →
    θ_run (Cert.AddsK.defs (F := Bits)) (onTc (τ := Cert.AddsK.τ) (Cert.AddsK.main (F := Bits))) ⟨m, fun _ => 0, g⟩ (fun r => (∀ c : Dev Cert.AddsK.nD,
      r.2.mem ((c.tc : Thread Cert.AddsK.nD Cert.AddsK.τ).loc Cert.AddsK.main_arg0) = m ((c.tc : Thread Cert.AddsK.nD Cert.AddsK.τ).loc Cert.AddsK.main_arg0)
      ∧ r.2.mem ((c.tc : Thread Cert.AddsK.nD Cert.AddsK.τ).loc Cert.AddsK.main_arg1) = m ((c.tc : Thread Cert.AddsK.nD Cert.AddsK.τ).loc Cert.AddsK.main_arg1))
      ∧ r.2.sem = fun _ => 0)

def quiescent_AddsKIdeal [hAddsKIdeal : Cert.AddsKIdeal.Facts] : Prop :=
  ∀ (m : (ℓ : Loc Cert.AddsKIdeal.nD Cert.AddsKIdeal.τ Cert.AddsKIdeal.sig) → Buf (Elt Ideal) ℓ) (g : Dev Cert.AddsKIdeal.nD → PrngReg), Pre_AddsKIdeal m →
    θ_run (Cert.AddsKIdeal.defs (F := Ideal)) (onTc (τ := Cert.AddsKIdeal.τ) (Cert.AddsKIdeal.main (F := Ideal))) ⟨m, fun _ => 0, g⟩ (fun r => (∀ c : Dev Cert.AddsKIdeal.nD,
      r.2.mem ((c.tc : Thread Cert.AddsKIdeal.nD Cert.AddsKIdeal.τ).loc Cert.AddsKIdeal.main_arg0) = m ((c.tc : Thread Cert.AddsKIdeal.nD Cert.AddsKIdeal.τ).loc Cert.AddsKIdeal.main_arg0)
      ∧ r.2.mem ((c.tc : Thread Cert.AddsKIdeal.nD Cert.AddsKIdeal.τ).loc Cert.AddsKIdeal.main_arg1) = m ((c.tc : Thread Cert.AddsKIdeal.nD Cert.AddsKIdeal.τ).loc Cert.AddsKIdeal.main_arg1))
      ∧ r.2.sem = fun _ => 0)

def quiescent_AddsRIdeal [hAddsRIdeal : Cert.AddsRIdeal.Facts] : Prop :=
  ∀ (m : (ℓ : Loc Cert.AddsRIdeal.nD Cert.AddsRIdeal.τ Cert.AddsRIdeal.sig) → Buf (Elt Ideal) ℓ) (g : Dev Cert.AddsRIdeal.nD → PrngReg), Pre_AddsRIdeal m →
    θ_run (Cert.AddsRIdeal.defs (F := Ideal)) (onTc (τ := Cert.AddsRIdeal.τ) (Cert.AddsRIdeal.main (F := Ideal))) ⟨m, fun _ => 0, g⟩ (fun r => (∀ c : Dev Cert.AddsRIdeal.nD,
      r.2.mem ((c.tc : Thread Cert.AddsRIdeal.nD Cert.AddsRIdeal.τ).loc Cert.AddsRIdeal.main_arg0) = m ((c.tc : Thread Cert.AddsRIdeal.nD Cert.AddsRIdeal.τ).loc Cert.AddsRIdeal.main_arg0)
      ∧ r.2.mem ((c.tc : Thread Cert.AddsRIdeal.nD Cert.AddsRIdeal.τ).loc Cert.AddsRIdeal.main_arg1) = m ((c.tc : Thread Cert.AddsRIdeal.nD Cert.AddsRIdeal.τ).loc Cert.AddsRIdeal.main_arg1))
      ∧ r.2.sem = fun _ => 0)

def quiescent_AddcK [hAddcK : Cert.AddcK.Facts] : Prop :=
  ∀ (m : (ℓ : Loc Cert.AddcK.nD Cert.AddcK.τ Cert.AddcK.sig) → Buf (Elt Bits) ℓ) (g : Dev Cert.AddcK.nD → PrngReg), Pre_AddcK m →
    θ_run (Cert.AddcK.defs (F := Bits)) (onTc (τ := Cert.AddcK.τ) (Cert.AddcK.main (F := Bits))) ⟨m, fun _ => 0, g⟩ (fun r => (∀ c : Dev Cert.AddcK.nD,
      r.2.mem ((c.tc : Thread Cert.AddcK.nD Cert.AddcK.τ).loc Cert.AddcK.main_arg0) = m ((c.tc : Thread Cert.AddcK.nD Cert.AddcK.τ).loc Cert.AddcK.main_arg0)
      ∧ r.2.mem ((c.tc : Thread Cert.AddcK.nD Cert.AddcK.τ).loc Cert.AddcK.main_arg1) = m ((c.tc : Thread Cert.AddcK.nD Cert.AddcK.τ).loc Cert.AddcK.main_arg1)
      ∧ r.2.mem ((c.tc : Thread Cert.AddcK.nD Cert.AddcK.τ).loc Cert.AddcK.main_arg2) = m ((c.tc : Thread Cert.AddcK.nD Cert.AddcK.τ).loc Cert.AddcK.main_arg2))
      ∧ r.2.sem = fun _ => 0)

def quiescent_AddcKIdeal [hAddcKIdeal : Cert.AddcKIdeal.Facts] : Prop :=
  ∀ (m : (ℓ : Loc Cert.AddcKIdeal.nD Cert.AddcKIdeal.τ Cert.AddcKIdeal.sig) → Buf (Elt Ideal) ℓ) (g : Dev Cert.AddcKIdeal.nD → PrngReg), Pre_AddcKIdeal m →
    θ_run (Cert.AddcKIdeal.defs (F := Ideal)) (onTc (τ := Cert.AddcKIdeal.τ) (Cert.AddcKIdeal.main (F := Ideal))) ⟨m, fun _ => 0, g⟩ (fun r => (∀ c : Dev Cert.AddcKIdeal.nD,
      r.2.mem ((c.tc : Thread Cert.AddcKIdeal.nD Cert.AddcKIdeal.τ).loc Cert.AddcKIdeal.main_arg0) = m ((c.tc : Thread Cert.AddcKIdeal.nD Cert.AddcKIdeal.τ).loc Cert.AddcKIdeal.main_arg0)
      ∧ r.2.mem ((c.tc : Thread Cert.AddcKIdeal.nD Cert.AddcKIdeal.τ).loc Cert.AddcKIdeal.main_arg1) = m ((c.tc : Thread Cert.AddcKIdeal.nD Cert.AddcKIdeal.τ).loc Cert.AddcKIdeal.main_arg1)
      ∧ r.2.mem ((c.tc : Thread Cert.AddcKIdeal.nD Cert.AddcKIdeal.τ).loc Cert.AddcKIdeal.main_arg2) = m ((c.tc : Thread Cert.AddcKIdeal.nD Cert.AddcKIdeal.τ).loc Cert.AddcKIdeal.main_arg2))
      ∧ r.2.sem = fun _ => 0)

def quiescent_AddcRIdeal [hAddcRIdeal : Cert.AddcRIdeal.Facts] : Prop :=
  ∀ (m : (ℓ : Loc Cert.AddcRIdeal.nD Cert.AddcRIdeal.τ Cert.AddcRIdeal.sig) → Buf (Elt Ideal) ℓ) (g : Dev Cert.AddcRIdeal.nD → PrngReg), Pre_AddcRIdeal m →
    θ_run (Cert.AddcRIdeal.defs (F := Ideal)) (onTc (τ := Cert.AddcRIdeal.τ) (Cert.AddcRIdeal.main (F := Ideal))) ⟨m, fun _ => 0, g⟩ (fun r => (∀ c : Dev Cert.AddcRIdeal.nD,
      r.2.mem ((c.tc : Thread Cert.AddcRIdeal.nD Cert.AddcRIdeal.τ).loc Cert.AddcRIdeal.main_arg0) = m ((c.tc : Thread Cert.AddcRIdeal.nD Cert.AddcRIdeal.τ).loc Cert.AddcRIdeal.main_arg0)
      ∧ r.2.mem ((c.tc : Thread Cert.AddcRIdeal.nD Cert.AddcRIdeal.τ).loc Cert.AddcRIdeal.main_arg1) = m ((c.tc : Thread Cert.AddcRIdeal.nD Cert.AddcRIdeal.τ).loc Cert.AddcRIdeal.main_arg1)
      ∧ r.2.mem ((c.tc : Thread Cert.AddcRIdeal.nD Cert.AddcRIdeal.τ).loc Cert.AddcRIdeal.main_arg2) = m ((c.tc : Thread Cert.AddcRIdeal.nD Cert.AddcRIdeal.τ).loc Cert.AddcRIdeal.main_arg2))
      ∧ r.2.sem = fun _ => 0)

def preserves_DactK_DactKIdeal : Prop :=
  True

def algebraic_DactKIdeal_DactRIdeal_pre_dact_finite [hDactKIdeal : Cert.DactKIdeal.Facts] [hDactRIdeal : Cert.DactRIdeal.Facts] [hPre_dact_finite : Cert.Pre_dact_finite.Facts] : Prop :=
  ∀ (m : (ℓ : Loc Cert.DactKIdeal.nD Cert.DactKIdeal.τ Cert.DactKIdeal.sig) → Buf (Elt Ideal) ℓ) (g : Dev Cert.DactKIdeal.nD → PrngReg)
    (m' : (ℓ : Loc Cert.DactRIdeal.nD Cert.DactRIdeal.τ Cert.DactRIdeal.sig) → Buf (Elt Ideal) ℓ) (g' : Dev Cert.DactRIdeal.nD → PrngReg), Pre_DactKIdeal_dact_finite m →
    (∀ c : Dev Cert.DactKIdeal.nD,
      m' ((c.tc : Thread Cert.DactRIdeal.nD Cert.DactRIdeal.τ).loc Cert.DactRIdeal.main_arg0) = m ((c.tc : Thread Cert.DactKIdeal.nD Cert.DactKIdeal.τ).loc Cert.DactKIdeal.main_arg0)
      ∧ m' ((c.tc : Thread Cert.DactRIdeal.nD Cert.DactRIdeal.τ).loc Cert.DactRIdeal.main_arg1) = m ((c.tc : Thread Cert.DactKIdeal.nD Cert.DactKIdeal.τ).loc Cert.DactKIdeal.main_arg1)
      ∧ m' ((c.tc : Thread Cert.DactRIdeal.nD Cert.DactRIdeal.τ).loc Cert.DactRIdeal.main_arg2) = m ((c.tc : Thread Cert.DactKIdeal.nD Cert.DactKIdeal.τ).loc Cert.DactKIdeal.main_arg2)
      ∧ m' ((c.tc : Thread Cert.DactRIdeal.nD Cert.DactRIdeal.τ).loc Cert.DactRIdeal.main_arg3) = m ((c.tc : Thread Cert.DactKIdeal.nD Cert.DactKIdeal.τ).loc Cert.DactKIdeal.main_arg3)) →
    ∃ (v0 : (c : Dev Cert.DactKIdeal.nD) → Buf (Elt Ideal) ((c.tc : Thread Cert.DactKIdeal.nD Cert.DactKIdeal.τ).loc Cert.DactKIdeal.main_v8)),
      θ_run (Cert.DactKIdeal.defs (F := Ideal)) (onTc (τ := Cert.DactKIdeal.τ) (Cert.DactKIdeal.main (F := Ideal))) ⟨m, fun _ => 0, g⟩ (fun r => ∀ c : Dev Cert.DactKIdeal.nD,
          r.2.mem ((c.tc : Thread Cert.DactKIdeal.nD Cert.DactKIdeal.τ).loc Cert.DactKIdeal.main_v8) = v0 c
          ∧ r.2.mem ((c.tc : Thread Cert.DactKIdeal.nD Cert.DactKIdeal.τ).loc Cert.DactKIdeal.main_arg0) = m ((c.tc : Thread Cert.DactKIdeal.nD Cert.DactKIdeal.τ).loc Cert.DactKIdeal.main_arg0)
          ∧ r.2.mem ((c.tc : Thread Cert.DactKIdeal.nD Cert.DactKIdeal.τ).loc Cert.DactKIdeal.main_arg1) = m ((c.tc : Thread Cert.DactKIdeal.nD Cert.DactKIdeal.τ).loc Cert.DactKIdeal.main_arg1)
          ∧ r.2.mem ((c.tc : Thread Cert.DactKIdeal.nD Cert.DactKIdeal.τ).loc Cert.DactKIdeal.main_arg2) = m ((c.tc : Thread Cert.DactKIdeal.nD Cert.DactKIdeal.τ).loc Cert.DactKIdeal.main_arg2)
          ∧ r.2.mem ((c.tc : Thread Cert.DactKIdeal.nD Cert.DactKIdeal.τ).loc Cert.DactKIdeal.main_arg3) = m ((c.tc : Thread Cert.DactKIdeal.nD Cert.DactKIdeal.τ).loc Cert.DactKIdeal.main_arg3))
      ∧ θ_run (Cert.DactRIdeal.defs (F := Ideal)) (onTc (τ := Cert.DactRIdeal.τ) (Cert.DactRIdeal.main (F := Ideal))) ⟨m', fun _ => 0, g'⟩ (fun r => ∀ c : Dev Cert.DactRIdeal.nD,
          r.2.mem ((c.tc : Thread Cert.DactRIdeal.nD Cert.DactRIdeal.τ).loc Cert.DactRIdeal.main_v17) = v0 c
          ∧ r.2.mem ((c.tc : Thread Cert.DactRIdeal.nD Cert.DactRIdeal.τ).loc Cert.DactRIdeal.main_arg0) = m' ((c.tc : Thread Cert.DactRIdeal.nD Cert.DactRIdeal.τ).loc Cert.DactRIdeal.main_arg0)
          ∧ r.2.mem ((c.tc : Thread Cert.DactRIdeal.nD Cert.DactRIdeal.τ).loc Cert.DactRIdeal.main_arg1) = m' ((c.tc : Thread Cert.DactRIdeal.nD Cert.DactRIdeal.τ).loc Cert.DactRIdeal.main_arg1)
          ∧ r.2.mem ((c.tc : Thread Cert.DactRIdeal.nD Cert.DactRIdeal.τ).loc Cert.DactRIdeal.main_arg2) = m' ((c.tc : Thread Cert.DactRIdeal.nD Cert.DactRIdeal.τ).loc Cert.DactRIdeal.main_arg2)
          ∧ r.2.mem ((c.tc : Thread Cert.DactRIdeal.nD Cert.DactRIdeal.τ).loc Cert.DactRIdeal.main_arg3) = m' ((c.tc : Thread Cert.DactRIdeal.nD Cert.DactRIdeal.τ).loc Cert.DactRIdeal.main_arg3))

def preserves_ConvK_ConvKIdeal : Prop :=
  True

def algebraic_ConvKIdeal_ConvRIdeal [hConvKIdeal : Cert.ConvKIdeal.Facts] [hConvRIdeal : Cert.ConvRIdeal.Facts] : Prop :=
  ∀ (m : (ℓ : Loc Cert.ConvKIdeal.nD Cert.ConvKIdeal.τ Cert.ConvKIdeal.sig) → Buf (Elt Ideal) ℓ) (g : Dev Cert.ConvKIdeal.nD → PrngReg)
    (m' : (ℓ : Loc Cert.ConvRIdeal.nD Cert.ConvRIdeal.τ Cert.ConvRIdeal.sig) → Buf (Elt Ideal) ℓ) (g' : Dev Cert.ConvRIdeal.nD → PrngReg), Pre_ConvKIdeal m →
    (∀ c : Dev Cert.ConvKIdeal.nD,
      m' ((c.tc : Thread Cert.ConvRIdeal.nD Cert.ConvRIdeal.τ).loc Cert.ConvRIdeal.main_arg0) = m ((c.tc : Thread Cert.ConvKIdeal.nD Cert.ConvKIdeal.τ).loc Cert.ConvKIdeal.main_arg0)
      ∧ m' ((c.tc : Thread Cert.ConvRIdeal.nD Cert.ConvRIdeal.τ).loc Cert.ConvRIdeal.main_arg1) = m ((c.tc : Thread Cert.ConvKIdeal.nD Cert.ConvKIdeal.τ).loc Cert.ConvKIdeal.main_arg1)
      ∧ m' ((c.tc : Thread Cert.ConvRIdeal.nD Cert.ConvRIdeal.τ).loc Cert.ConvRIdeal.main_arg2) = m ((c.tc : Thread Cert.ConvKIdeal.nD Cert.ConvKIdeal.τ).loc Cert.ConvKIdeal.main_arg2)) →
    ∃ (v0 : (c : Dev Cert.ConvKIdeal.nD) → Buf (Elt Ideal) ((c.tc : Thread Cert.ConvKIdeal.nD Cert.ConvKIdeal.τ).loc Cert.ConvKIdeal.main_v3_0)) (v1 : (c : Dev Cert.ConvKIdeal.nD) → Buf (Elt Ideal) ((c.tc : Thread Cert.ConvKIdeal.nD Cert.ConvKIdeal.τ).loc Cert.ConvKIdeal.main_v3_1)) (v2 : (c : Dev Cert.ConvKIdeal.nD) → Buf (Elt Ideal) ((c.tc : Thread Cert.ConvKIdeal.nD Cert.ConvKIdeal.τ).loc Cert.ConvKIdeal.main_v3_2)) (v3 : (c : Dev Cert.ConvKIdeal.nD) → Buf (Elt Ideal) ((c.tc : Thread Cert.ConvKIdeal.nD Cert.ConvKIdeal.τ).loc Cert.ConvKIdeal.main_v3_3)),
      θ_run (Cert.ConvKIdeal.defs (F := Ideal)) (onTc (τ := Cert.ConvKIdeal.τ) (Cert.ConvKIdeal.main (F := Ideal))) ⟨m, fun _ => 0, g⟩ (fun r => ∀ c : Dev Cert.ConvKIdeal.nD,
          r.2.mem ((c.tc : Thread Cert.ConvKIdeal.nD Cert.ConvKIdeal.τ).loc Cert.ConvKIdeal.main_v3_0) = v0 c
          ∧ r.2.mem ((c.tc : Thread Cert.ConvKIdeal.nD Cert.ConvKIdeal.τ).loc Cert.ConvKIdeal.main_v3_1) = v1 c
          ∧ r.2.mem ((c.tc : Thread Cert.ConvKIdeal.nD Cert.ConvKIdeal.τ).loc Cert.ConvKIdeal.main_v3_2) = v2 c
          ∧ r.2.mem ((c.tc : Thread Cert.ConvKIdeal.nD Cert.ConvKIdeal.τ).loc Cert.ConvKIdeal.main_v3_3) = v3 c
          ∧ r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
          ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1)
          ∧ r.2.mem ((c.tc : Thread Cert.ConvKIdeal.nD Cert.ConvKIdeal.τ).loc Cert.ConvKIdeal.main_arg2) = m ((c.tc : Thread Cert.ConvKIdeal.nD Cert.ConvKIdeal.τ).loc Cert.ConvKIdeal.main_arg2))
      ∧ θ_run (Cert.ConvRIdeal.defs (F := Ideal)) (onTc (τ := Cert.ConvRIdeal.τ) (Cert.ConvRIdeal.main (F := Ideal))) ⟨m', fun _ => 0, g'⟩ (fun r => ∀ c : Dev Cert.ConvRIdeal.nD,
          r.2.mem ((c.tc : Thread Cert.ConvRIdeal.nD Cert.ConvRIdeal.τ).loc Cert.ConvRIdeal.main_v71) = v0 c
          ∧ r.2.mem ((c.tc : Thread Cert.ConvRIdeal.nD Cert.ConvRIdeal.τ).loc Cert.ConvRIdeal.main_v73) = v1 c
          ∧ r.2.mem ((c.tc : Thread Cert.ConvRIdeal.nD Cert.ConvRIdeal.τ).loc Cert.ConvRIdeal.main_v75) = v2 c
          ∧ r.2.mem ((c.tc : Thread Cert.ConvRIdeal.nD Cert.ConvRIdeal.τ).loc Cert.ConvRIdeal.main_v62) = v3 c
          ∧ r.2.mem ((c.tc : Thread Cert.ConvRIdeal.nD Cert.ConvRIdeal.τ).loc Cert.ConvRIdeal.main_arg0) = m' ((c.tc : Thread Cert.ConvRIdeal.nD Cert.ConvRIdeal.τ).loc Cert.ConvRIdeal.main_arg0)
          ∧ r.2.mem ((c.tc : Thread Cert.ConvRIdeal.nD Cert.ConvRIdeal.τ).loc Cert.ConvRIdeal.main_arg1) = m' ((c.tc : Thread Cert.ConvRIdeal.nD Cert.ConvRIdeal.τ).loc Cert.ConvRIdeal.main_arg1)
          ∧ r.2.mem ((c.tc : Thread Cert.ConvRIdeal.nD Cert.ConvRIdeal.τ).loc Cert.ConvRIdeal.main_arg2) = m' ((c.tc : Thread Cert.ConvRIdeal.nD Cert.ConvRIdeal.τ).loc Cert.ConvRIdeal.main_arg2))

def preserves_AttbK_AttbKIdeal : Prop :=
  True

def algebraic_AttbKIdeal_AttbRIdeal_pre_attb_finite [hAttbKIdeal : Cert.AttbKIdeal.Facts] [hAttbRIdeal : Cert.AttbRIdeal.Facts] [hPre_attb_finite : Cert.Pre_attb_finite.Facts] : Prop :=
  ∀ (m : (ℓ : Loc Cert.AttbKIdeal.nD Cert.AttbKIdeal.τ Cert.AttbKIdeal.sig) → Buf (Elt Ideal) ℓ) (g : Dev Cert.AttbKIdeal.nD → PrngReg)
    (m' : (ℓ : Loc Cert.AttbRIdeal.nD Cert.AttbRIdeal.τ Cert.AttbRIdeal.sig) → Buf (Elt Ideal) ℓ) (g' : Dev Cert.AttbRIdeal.nD → PrngReg), Pre_AttbKIdeal_attb_finite m →
    (∀ c : Dev Cert.AttbKIdeal.nD,
      m' ((c.tc : Thread Cert.AttbRIdeal.nD Cert.AttbRIdeal.τ).loc Cert.AttbRIdeal.main_arg0) = m ((c.tc : Thread Cert.AttbKIdeal.nD Cert.AttbKIdeal.τ).loc Cert.AttbKIdeal.main_arg0)
      ∧ m' ((c.tc : Thread Cert.AttbRIdeal.nD Cert.AttbRIdeal.τ).loc Cert.AttbRIdeal.main_arg1) = m ((c.tc : Thread Cert.AttbKIdeal.nD Cert.AttbKIdeal.τ).loc Cert.AttbKIdeal.main_arg1)
      ∧ m' ((c.tc : Thread Cert.AttbRIdeal.nD Cert.AttbRIdeal.τ).loc Cert.AttbRIdeal.main_arg2) = m ((c.tc : Thread Cert.AttbKIdeal.nD Cert.AttbKIdeal.τ).loc Cert.AttbKIdeal.main_arg2)
      ∧ m' ((c.tc : Thread Cert.AttbRIdeal.nD Cert.AttbRIdeal.τ).loc Cert.AttbRIdeal.main_arg3) = m ((c.tc : Thread Cert.AttbKIdeal.nD Cert.AttbKIdeal.τ).loc Cert.AttbKIdeal.main_arg3)) →
    ∃ (v0 : (c : Dev Cert.AttbKIdeal.nD) → Buf (Elt Ideal) ((c.tc : Thread Cert.AttbKIdeal.nD Cert.AttbKIdeal.τ).loc Cert.AttbKIdeal.main_v31_0)) (v1 : (c : Dev Cert.AttbKIdeal.nD) → Buf (Elt Ideal) ((c.tc : Thread Cert.AttbKIdeal.nD Cert.AttbKIdeal.τ).loc Cert.AttbKIdeal.main_v31_1)) (v2 : (c : Dev Cert.AttbKIdeal.nD) → Buf (Elt Ideal) ((c.tc : Thread Cert.AttbKIdeal.nD Cert.AttbKIdeal.τ).loc Cert.AttbKIdeal.main_v31_2)),
      θ_run (Cert.AttbKIdeal.defs (F := Ideal)) (onTc (τ := Cert.AttbKIdeal.τ) (Cert.AttbKIdeal.main (F := Ideal))) ⟨m, fun _ => 0, g⟩ (fun r => ∀ c : Dev Cert.AttbKIdeal.nD,
          r.2.mem ((c.tc : Thread Cert.AttbKIdeal.nD Cert.AttbKIdeal.τ).loc Cert.AttbKIdeal.main_v31_0) = v0 c
          ∧ r.2.mem ((c.tc : Thread Cert.AttbKIdeal.nD Cert.AttbKIdeal.τ).loc Cert.AttbKIdeal.main_v31_1) = v1 c
          ∧ r.2.mem ((c.tc : Thread Cert.AttbKIdeal.nD Cert.AttbKIdeal.τ).loc Cert.AttbKIdeal.main_v31_2) = v2 c
          ∧ r.2.mem ((c.tc : Thread Cert.AttbKIdeal.nD Cert.AttbKIdeal.τ).loc Cert.AttbKIdeal.main_arg0) = m ((c.tc : Thread Cert.AttbKIdeal.nD Cert.AttbKIdeal.τ).loc Cert.AttbKIdeal.main_arg0)
          ∧ r.2.mem ((c.tc : Thread Cert.AttbKIdeal.nD Cert.AttbKIdeal.τ).loc Cert.AttbKIdeal.main_arg1) = m ((c.tc : Thread Cert.AttbKIdeal.nD Cert.AttbKIdeal.τ).loc Cert.AttbKIdeal.main_arg1)
          ∧ r.2.mem ((c.tc : Thread Cert.AttbKIdeal.nD Cert.AttbKIdeal.τ).loc Cert.AttbKIdeal.main_arg2) = m ((c.tc : Thread Cert.AttbKIdeal.nD Cert.AttbKIdeal.τ).loc Cert.AttbKIdeal.main_arg2)
          ∧ r.2.mem ((c.tc : Thread Cert.AttbKIdeal.nD Cert.AttbKIdeal.τ).loc Cert.AttbKIdeal.main_arg3) = m ((c.tc : Thread Cert.AttbKIdeal.nD Cert.AttbKIdeal.τ).loc Cert.AttbKIdeal.main_arg3))
      ∧ θ_run (Cert.AttbRIdeal.defs (F := Ideal)) (onTc (τ := Cert.AttbRIdeal.τ) (Cert.AttbRIdeal.main (F := Ideal))) ⟨m', fun _ => 0, g'⟩ (fun r => ∀ c : Dev Cert.AttbRIdeal.nD,
          r.2.mem ((c.tc : Thread Cert.AttbRIdeal.nD Cert.AttbRIdeal.τ).loc Cert.AttbRIdeal.main_v60) = v0 c
          ∧ r.2.mem ((c.tc : Thread Cert.AttbRIdeal.nD Cert.AttbRIdeal.τ).loc Cert.AttbRIdeal.main_v61) = v1 c
          ∧ r.2.mem ((c.tc : Thread Cert.AttbRIdeal.nD Cert.AttbRIdeal.τ).loc Cert.AttbRIdeal.main_v62) = v2 c
          ∧ r.2.mem ((c.tc : Thread Cert.AttbRIdeal.nD Cert.AttbRIdeal.τ).loc Cert.AttbRIdeal.main_arg0) = m' ((c.tc : Thread Cert.AttbRIdeal.nD Cert.AttbRIdeal.τ).loc Cert.AttbRIdeal.main_arg0)
          ∧ r.2.mem ((c.tc : Thread Cert.AttbRIdeal.nD Cert.AttbRIdeal.τ).loc Cert.AttbRIdeal.main_arg1) = m' ((c.tc : Thread Cert.AttbRIdeal.nD Cert.AttbRIdeal.τ).loc Cert.AttbRIdeal.main_arg1)
          ∧ r.2.mem ((c.tc : Thread Cert.AttbRIdeal.nD Cert.AttbRIdeal.τ).loc Cert.AttbRIdeal.main_arg2) = m' ((c.tc : Thread Cert.AttbRIdeal.nD Cert.AttbRIdeal.τ).loc Cert.AttbRIdeal.main_arg2)
          ∧ r.2.mem ((c.tc : Thread Cert.AttbRIdeal.nD Cert.AttbRIdeal.τ).loc Cert.AttbRIdeal.main_arg3) = m' ((c.tc : Thread Cert.AttbRIdeal.nD Cert.AttbRIdeal.τ).loc Cert.AttbRIdeal.main_arg3))

def preserves_DwoutK_DwoutKIdeal : Prop :=
  True

def algebraic_DwoutKIdeal_DwoutRIdeal [hDwoutKIdeal : Cert.DwoutKIdeal.Facts] [hDwoutRIdeal : Cert.DwoutRIdeal.Facts] : Prop :=
  ∀ (m : (ℓ : Loc Cert.DwoutKIdeal.nD Cert.DwoutKIdeal.τ Cert.DwoutKIdeal.sig) → Buf (Elt Ideal) ℓ) (g : Dev Cert.DwoutKIdeal.nD → PrngReg)
    (m' : (ℓ : Loc Cert.DwoutRIdeal.nD Cert.DwoutRIdeal.τ Cert.DwoutRIdeal.sig) → Buf (Elt Ideal) ℓ) (g' : Dev Cert.DwoutRIdeal.nD → PrngReg), Pre_DwoutKIdeal m →
    (∀ c : Dev Cert.DwoutKIdeal.nD,
      m' ((c.tc : Thread Cert.DwoutRIdeal.nD Cert.DwoutRIdeal.τ).loc Cert.DwoutRIdeal.main_arg0) = m ((c.tc : Thread Cert.DwoutKIdeal.nD Cert.DwoutKIdeal.τ).loc Cert.DwoutKIdeal.main_arg0)
      ∧ m' ((c.tc : Thread Cert.DwoutRIdeal.nD Cert.DwoutRIdeal.τ).loc Cert.DwoutRIdeal.main_arg1) = m ((c.tc : Thread Cert.DwoutKIdeal.nD Cert.DwoutKIdeal.τ).loc Cert.DwoutKIdeal.main_arg1)
      ∧ m' ((c.tc : Thread Cert.DwoutRIdeal.nD Cert.DwoutRIdeal.τ).loc Cert.DwoutRIdeal.main_arg2) = m ((c.tc : Thread Cert.DwoutKIdeal.nD Cert.DwoutKIdeal.τ).loc Cert.DwoutKIdeal.main_arg2)
      ∧ m' ((c.tc : Thread Cert.DwoutRIdeal.nD Cert.DwoutRIdeal.τ).loc Cert.DwoutRIdeal.main_arg3) = m ((c.tc : Thread Cert.DwoutKIdeal.nD Cert.DwoutKIdeal.τ).loc Cert.DwoutKIdeal.main_arg3)) →
    ∃ (v0 : (c : Dev Cert.DwoutKIdeal.nD) → Buf (Elt Ideal) ((c.tc : Thread Cert.DwoutKIdeal.nD Cert.DwoutKIdeal.τ).loc Cert.DwoutKIdeal.main_v7)),
      θ_run (Cert.DwoutKIdeal.defs (F := Ideal)) (onTc (τ := Cert.DwoutKIdeal.τ) (Cert.DwoutKIdeal.main (F := Ideal))) ⟨m, fun _ => 0, g⟩ (fun r => ∀ c : Dev Cert.DwoutKIdeal.nD,
          r.2.mem ((c.tc : Thread Cert.DwoutKIdeal.nD Cert.DwoutKIdeal.τ).loc Cert.DwoutKIdeal.main_v7) = v0 c
          ∧ r.2.mem ((c.tc : Thread Cert.DwoutKIdeal.nD Cert.DwoutKIdeal.τ).loc Cert.DwoutKIdeal.main_arg0) = m ((c.tc : Thread Cert.DwoutKIdeal.nD Cert.DwoutKIdeal.τ).loc Cert.DwoutKIdeal.main_arg0)
          ∧ r.2.mem ((c.tc : Thread Cert.DwoutKIdeal.nD Cert.DwoutKIdeal.τ).loc Cert.DwoutKIdeal.main_arg1) = m ((c.tc : Thread Cert.DwoutKIdeal.nD Cert.DwoutKIdeal.τ).loc Cert.DwoutKIdeal.main_arg1)
          ∧ r.2.mem ((c.tc : Thread Cert.DwoutKIdeal.nD Cert.DwoutKIdeal.τ).loc Cert.DwoutKIdeal.main_arg2) = m ((c.tc : Thread Cert.DwoutKIdeal.nD Cert.DwoutKIdeal.τ).loc Cert.DwoutKIdeal.main_arg2)
          ∧ r.2.mem ((c.tc : Thread Cert.DwoutKIdeal.nD Cert.DwoutKIdeal.τ).loc Cert.DwoutKIdeal.main_arg3) = m ((c.tc : Thread Cert.DwoutKIdeal.nD Cert.DwoutKIdeal.τ).loc Cert.DwoutKIdeal.main_arg3))
      ∧ θ_run (Cert.DwoutRIdeal.defs (F := Ideal)) (onTc (τ := Cert.DwoutRIdeal.τ) (Cert.DwoutRIdeal.main (F := Ideal))) ⟨m', fun _ => 0, g'⟩ (fun r => ∀ c : Dev Cert.DwoutRIdeal.nD,
          r.2.mem ((c.tc : Thread Cert.DwoutRIdeal.nD Cert.DwoutRIdeal.τ).loc Cert.DwoutRIdeal.main_v13) = v0 c
          ∧ r.2.mem ((c.tc : Thread Cert.DwoutRIdeal.nD Cert.DwoutRIdeal.τ).loc Cert.DwoutRIdeal.main_arg0) = m' ((c.tc : Thread Cert.DwoutRIdeal.nD Cert.DwoutRIdeal.τ).loc Cert.DwoutRIdeal.main_arg0)
          ∧ r.2.mem ((c.tc : Thread Cert.DwoutRIdeal.nD Cert.DwoutRIdeal.τ).loc Cert.DwoutRIdeal.main_arg1) = m' ((c.tc : Thread Cert.DwoutRIdeal.nD Cert.DwoutRIdeal.τ).loc Cert.DwoutRIdeal.main_arg1)
          ∧ r.2.mem ((c.tc : Thread Cert.DwoutRIdeal.nD Cert.DwoutRIdeal.τ).loc Cert.DwoutRIdeal.main_arg2) = m' ((c.tc : Thread Cert.DwoutRIdeal.nD Cert.DwoutRIdeal.τ).loc Cert.DwoutRIdeal.main_arg2)
          ∧ r.2.mem ((c.tc : Thread Cert.DwoutRIdeal.nD Cert.DwoutRIdeal.τ).loc Cert.DwoutRIdeal.main_arg3) = m' ((c.tc : Thread Cert.DwoutRIdeal.nD Cert.DwoutRIdeal.τ).loc Cert.DwoutRIdeal.main_arg3))

def preserves_LossK_LossKIdeal : Prop :=
  True

def algebraic_LossKIdeal_LossRIdeal_pre_loss_finite [hLossKIdeal : Cert.LossKIdeal.Facts] [hLossRIdeal : Cert.LossRIdeal.Facts] [hPre_loss_finite : Cert.Pre_loss_finite.Facts] : Prop :=
  ∀ (m : (ℓ : Loc Cert.LossKIdeal.nD Cert.LossKIdeal.τ Cert.LossKIdeal.sig) → Buf (Elt Ideal) ℓ) (g : Dev Cert.LossKIdeal.nD → PrngReg)
    (m' : (ℓ : Loc Cert.LossRIdeal.nD Cert.LossRIdeal.τ Cert.LossRIdeal.sig) → Buf (Elt Ideal) ℓ) (g' : Dev Cert.LossRIdeal.nD → PrngReg), Pre_LossKIdeal_loss_finite m →
    (∀ c : Dev Cert.LossKIdeal.nD,
      m' ((c.tc : Thread Cert.LossRIdeal.nD Cert.LossRIdeal.τ).loc Cert.LossRIdeal.main_arg0) = m ((c.tc : Thread Cert.LossKIdeal.nD Cert.LossKIdeal.τ).loc Cert.LossKIdeal.main_arg0)
      ∧ m' ((c.tc : Thread Cert.LossRIdeal.nD Cert.LossRIdeal.τ).loc Cert.LossRIdeal.main_arg1) = m ((c.tc : Thread Cert.LossKIdeal.nD Cert.LossKIdeal.τ).loc Cert.LossKIdeal.main_arg1)
      ∧ m' ((c.tc : Thread Cert.LossRIdeal.nD Cert.LossRIdeal.τ).loc Cert.LossRIdeal.main_arg2) = m ((c.tc : Thread Cert.LossKIdeal.nD Cert.LossKIdeal.τ).loc Cert.LossKIdeal.main_arg2)) →
    ∃ (v0 : (c : Dev Cert.LossKIdeal.nD) → Buf (Elt Ideal) ((c.tc : Thread Cert.LossKIdeal.nD Cert.LossKIdeal.τ).loc Cert.LossKIdeal.main_v3_0)) (v1 : (c : Dev Cert.LossKIdeal.nD) → Buf (Elt Ideal) ((c.tc : Thread Cert.LossKIdeal.nD Cert.LossKIdeal.τ).loc Cert.LossKIdeal.main_v3_1)) (v2 : (c : Dev Cert.LossKIdeal.nD) → Buf (Elt Ideal) ((c.tc : Thread Cert.LossKIdeal.nD Cert.LossKIdeal.τ).loc Cert.LossKIdeal.main_v3_2)) (v3 : (c : Dev Cert.LossKIdeal.nD) → Buf (Elt Ideal) ((c.tc : Thread Cert.LossKIdeal.nD Cert.LossKIdeal.τ).loc Cert.LossKIdeal.main_v3_3)),
      θ_run (Cert.LossKIdeal.defs (F := Ideal)) (onTc (τ := Cert.LossKIdeal.τ) (Cert.LossKIdeal.main (F := Ideal))) ⟨m, fun _ => 0, g⟩ (fun r => ∀ c : Dev Cert.LossKIdeal.nD,
          r.2.mem ((c.tc : Thread Cert.LossKIdeal.nD Cert.LossKIdeal.τ).loc Cert.LossKIdeal.main_v3_0) = v0 c
          ∧ r.2.mem ((c.tc : Thread Cert.LossKIdeal.nD Cert.LossKIdeal.τ).loc Cert.LossKIdeal.main_v3_1) = v1 c
          ∧ r.2.mem ((c.tc : Thread Cert.LossKIdeal.nD Cert.LossKIdeal.τ).loc Cert.LossKIdeal.main_v3_2) = v2 c
          ∧ r.2.mem ((c.tc : Thread Cert.LossKIdeal.nD Cert.LossKIdeal.τ).loc Cert.LossKIdeal.main_v3_3) = v3 c
          ∧ r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
          ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
          ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2))
      ∧ θ_run (Cert.LossRIdeal.defs (F := Ideal)) (onTc (τ := Cert.LossRIdeal.τ) (Cert.LossRIdeal.main (F := Ideal))) ⟨m', fun _ => 0, g'⟩ (fun r => ∀ c : Dev Cert.LossRIdeal.nD,
          r.2.mem ((c.tc : Thread Cert.LossRIdeal.nD Cert.LossRIdeal.τ).loc Cert.LossRIdeal.main_v51) = v0 c
          ∧ r.2.mem ((c.tc : Thread Cert.LossRIdeal.nD Cert.LossRIdeal.τ).loc Cert.LossRIdeal.main_v52) = v1 c
          ∧ r.2.mem ((c.tc : Thread Cert.LossRIdeal.nD Cert.LossRIdeal.τ).loc Cert.LossRIdeal.main_v53) = v2 c
          ∧ r.2.mem ((c.tc : Thread Cert.LossRIdeal.nD Cert.LossRIdeal.τ).loc Cert.LossRIdeal.main_v54) = v3 c
          ∧ r.2.mem ((c.tc : Thread Cert.LossRIdeal.nD Cert.LossRIdeal.τ).loc Cert.LossRIdeal.main_arg0) = m' ((c.tc : Thread Cert.LossRIdeal.nD Cert.LossRIdeal.τ).loc Cert.LossRIdeal.main_arg0)
          ∧ r.2.mem ((c.tc : Thread Cert.LossRIdeal.nD Cert.LossRIdeal.τ).loc Cert.LossRIdeal.main_arg1) = m' ((c.tc : Thread Cert.LossRIdeal.nD Cert.LossRIdeal.τ).loc Cert.LossRIdeal.main_arg1)
          ∧ r.2.mem ((c.tc : Thread Cert.LossRIdeal.nD Cert.LossRIdeal.τ).loc Cert.LossRIdeal.main_arg2) = m' ((c.tc : Thread Cert.LossRIdeal.nD Cert.LossRIdeal.τ).loc Cert.LossRIdeal.main_arg2))

def preserves_FfndhK_FfndhKIdeal : Prop :=
  True

def algebraic_FfndhKIdeal_FfndhRIdeal_pre_ffndh_finite [hFfndhKIdeal : Cert.FfndhKIdeal.Facts] [hFfndhRIdeal : Cert.FfndhRIdeal.Facts] [hPre_ffndh_finite : Cert.Pre_ffndh_finite.Facts] : Prop :=
  ∀ (m : (ℓ : Loc Cert.FfndhKIdeal.nD Cert.FfndhKIdeal.τ Cert.FfndhKIdeal.sig) → Buf (Elt Ideal) ℓ) (g : Dev Cert.FfndhKIdeal.nD → PrngReg)
    (m' : (ℓ : Loc Cert.FfndhRIdeal.nD Cert.FfndhRIdeal.τ Cert.FfndhRIdeal.sig) → Buf (Elt Ideal) ℓ) (g' : Dev Cert.FfndhRIdeal.nD → PrngReg), Pre_FfndhKIdeal_ffndh_finite m →
    (∀ c : Dev Cert.FfndhKIdeal.nD,
      m' ((c.tc : Thread Cert.FfndhRIdeal.nD Cert.FfndhRIdeal.τ).loc Cert.FfndhRIdeal.main_arg0) = m ((c.tc : Thread Cert.FfndhKIdeal.nD Cert.FfndhKIdeal.τ).loc Cert.FfndhKIdeal.main_arg0)
      ∧ m' ((c.tc : Thread Cert.FfndhRIdeal.nD Cert.FfndhRIdeal.τ).loc Cert.FfndhRIdeal.main_arg1) = m ((c.tc : Thread Cert.FfndhKIdeal.nD Cert.FfndhKIdeal.τ).loc Cert.FfndhKIdeal.main_arg1)
      ∧ m' ((c.tc : Thread Cert.FfndhRIdeal.nD Cert.FfndhRIdeal.τ).loc Cert.FfndhRIdeal.main_arg2) = m ((c.tc : Thread Cert.FfndhKIdeal.nD Cert.FfndhKIdeal.τ).loc Cert.FfndhKIdeal.main_arg2)
      ∧ m' ((c.tc : Thread Cert.FfndhRIdeal.nD Cert.FfndhRIdeal.τ).loc Cert.FfndhRIdeal.main_arg3) = m ((c.tc : Thread Cert.FfndhKIdeal.nD Cert.FfndhKIdeal.τ).loc Cert.FfndhKIdeal.main_arg3)
      ∧ m' ((c.tc : Thread Cert.FfndhRIdeal.nD Cert.FfndhRIdeal.τ).loc Cert.FfndhRIdeal.main_arg4) = m ((c.tc : Thread Cert.FfndhKIdeal.nD Cert.FfndhKIdeal.τ).loc Cert.FfndhKIdeal.main_arg4)) →
    ∃ (v0 : (c : Dev Cert.FfndhKIdeal.nD) → Buf (Elt Ideal) ((c.tc : Thread Cert.FfndhKIdeal.nD Cert.FfndhKIdeal.τ).loc Cert.FfndhKIdeal.main_v9_0)) (v1 : (c : Dev Cert.FfndhKIdeal.nD) → Buf (Elt Ideal) ((c.tc : Thread Cert.FfndhKIdeal.nD Cert.FfndhKIdeal.τ).loc Cert.FfndhKIdeal.main_v9_1)) (v2 : (c : Dev Cert.FfndhKIdeal.nD) → Buf (Elt Ideal) ((c.tc : Thread Cert.FfndhKIdeal.nD Cert.FfndhKIdeal.τ).loc Cert.FfndhKIdeal.main_v9_2)),
      θ_run (Cert.FfndhKIdeal.defs (F := Ideal)) (onTc (τ := Cert.FfndhKIdeal.τ) (Cert.FfndhKIdeal.main (F := Ideal))) ⟨m, fun _ => 0, g⟩ (fun r => ∀ c : Dev Cert.FfndhKIdeal.nD,
          r.2.mem ((c.tc : Thread Cert.FfndhKIdeal.nD Cert.FfndhKIdeal.τ).loc Cert.FfndhKIdeal.main_v9_0) = v0 c
          ∧ r.2.mem ((c.tc : Thread Cert.FfndhKIdeal.nD Cert.FfndhKIdeal.τ).loc Cert.FfndhKIdeal.main_v9_1) = v1 c
          ∧ r.2.mem ((c.tc : Thread Cert.FfndhKIdeal.nD Cert.FfndhKIdeal.τ).loc Cert.FfndhKIdeal.main_v9_2) = v2 c
          ∧ r.2.mem ((c.tc : Thread Cert.FfndhKIdeal.nD Cert.FfndhKIdeal.τ).loc Cert.FfndhKIdeal.main_arg0) = m ((c.tc : Thread Cert.FfndhKIdeal.nD Cert.FfndhKIdeal.τ).loc Cert.FfndhKIdeal.main_arg0)
          ∧ r.2.mem ((c.tc : Thread Cert.FfndhKIdeal.nD Cert.FfndhKIdeal.τ).loc Cert.FfndhKIdeal.main_arg1) = m ((c.tc : Thread Cert.FfndhKIdeal.nD Cert.FfndhKIdeal.τ).loc Cert.FfndhKIdeal.main_arg1)
          ∧ r.2.mem ((c.tc : Thread Cert.FfndhKIdeal.nD Cert.FfndhKIdeal.τ).loc Cert.FfndhKIdeal.main_arg2) = m ((c.tc : Thread Cert.FfndhKIdeal.nD Cert.FfndhKIdeal.τ).loc Cert.FfndhKIdeal.main_arg2)
          ∧ r.2.mem ((c.tc : Thread Cert.FfndhKIdeal.nD Cert.FfndhKIdeal.τ).loc Cert.FfndhKIdeal.main_arg3) = m ((c.tc : Thread Cert.FfndhKIdeal.nD Cert.FfndhKIdeal.τ).loc Cert.FfndhKIdeal.main_arg3)
          ∧ r.2.mem ((c.tc : Thread Cert.FfndhKIdeal.nD Cert.FfndhKIdeal.τ).loc Cert.FfndhKIdeal.main_arg4) = m ((c.tc : Thread Cert.FfndhKIdeal.nD Cert.FfndhKIdeal.τ).loc Cert.FfndhKIdeal.main_arg4))
      ∧ θ_run (Cert.FfndhRIdeal.defs (F := Ideal)) (onTc (τ := Cert.FfndhRIdeal.τ) (Cert.FfndhRIdeal.main (F := Ideal))) ⟨m', fun _ => 0, g'⟩ (fun r => ∀ c : Dev Cert.FfndhRIdeal.nD,
          r.2.mem ((c.tc : Thread Cert.FfndhRIdeal.nD Cert.FfndhRIdeal.τ).loc Cert.FfndhRIdeal.main_v41) = v0 c
          ∧ r.2.mem ((c.tc : Thread Cert.FfndhRIdeal.nD Cert.FfndhRIdeal.τ).loc Cert.FfndhRIdeal.main_v42) = v1 c
          ∧ r.2.mem ((c.tc : Thread Cert.FfndhRIdeal.nD Cert.FfndhRIdeal.τ).loc Cert.FfndhRIdeal.main_v43) = v2 c
          ∧ r.2.mem ((c.tc : Thread Cert.FfndhRIdeal.nD Cert.FfndhRIdeal.τ).loc Cert.FfndhRIdeal.main_arg0) = m' ((c.tc : Thread Cert.FfndhRIdeal.nD Cert.FfndhRIdeal.τ).loc Cert.FfndhRIdeal.main_arg0)
          ∧ r.2.mem ((c.tc : Thread Cert.FfndhRIdeal.nD Cert.FfndhRIdeal.τ).loc Cert.FfndhRIdeal.main_arg1) = m' ((c.tc : Thread Cert.FfndhRIdeal.nD Cert.FfndhRIdeal.τ).loc Cert.FfndhRIdeal.main_arg1)
          ∧ r.2.mem ((c.tc : Thread Cert.FfndhRIdeal.nD Cert.FfndhRIdeal.τ).loc Cert.FfndhRIdeal.main_arg2) = m' ((c.tc : Thread Cert.FfndhRIdeal.nD Cert.FfndhRIdeal.τ).loc Cert.FfndhRIdeal.main_arg2)
          ∧ r.2.mem ((c.tc : Thread Cert.FfndhRIdeal.nD Cert.FfndhRIdeal.τ).loc Cert.FfndhRIdeal.main_arg3) = m' ((c.tc : Thread Cert.FfndhRIdeal.nD Cert.FfndhRIdeal.τ).loc Cert.FfndhRIdeal.main_arg3)
          ∧ r.2.mem ((c.tc : Thread Cert.FfndhRIdeal.nD Cert.FfndhRIdeal.τ).loc Cert.FfndhRIdeal.main_arg4) = m' ((c.tc : Thread Cert.FfndhRIdeal.nD Cert.FfndhRIdeal.τ).loc Cert.FfndhRIdeal.main_arg4))

def preserves_EvdhK_EvdhKIdeal : Prop :=
  True

def algebraic_EvdhKIdeal_EvdhRIdeal_pre_evdh_finite [hEvdhKIdeal : Cert.EvdhKIdeal.Facts] [hEvdhRIdeal : Cert.EvdhRIdeal.Facts] [hPre_evdh_finite : Cert.Pre_evdh_finite.Facts] : Prop :=
  ∀ (m : (ℓ : Loc Cert.EvdhKIdeal.nD Cert.EvdhKIdeal.τ Cert.EvdhKIdeal.sig) → Buf (Elt Ideal) ℓ) (g : Dev Cert.EvdhKIdeal.nD → PrngReg)
    (m' : (ℓ : Loc Cert.EvdhRIdeal.nD Cert.EvdhRIdeal.τ Cert.EvdhRIdeal.sig) → Buf (Elt Ideal) ℓ) (g' : Dev Cert.EvdhRIdeal.nD → PrngReg), Pre_EvdhKIdeal_evdh_finite m →
    (∀ c : Dev Cert.EvdhKIdeal.nD,
      m' ((c.tc : Thread Cert.EvdhRIdeal.nD Cert.EvdhRIdeal.τ).loc Cert.EvdhRIdeal.main_arg0) = m ((c.tc : Thread Cert.EvdhKIdeal.nD Cert.EvdhKIdeal.τ).loc Cert.EvdhKIdeal.main_arg0)
      ∧ m' ((c.tc : Thread Cert.EvdhRIdeal.nD Cert.EvdhRIdeal.τ).loc Cert.EvdhRIdeal.main_arg1) = m ((c.tc : Thread Cert.EvdhKIdeal.nD Cert.EvdhKIdeal.τ).loc Cert.EvdhKIdeal.main_arg1)
      ∧ m' ((c.tc : Thread Cert.EvdhRIdeal.nD Cert.EvdhRIdeal.τ).loc Cert.EvdhRIdeal.main_arg2) = m ((c.tc : Thread Cert.EvdhKIdeal.nD Cert.EvdhKIdeal.τ).loc Cert.EvdhKIdeal.main_arg2)
      ∧ m' ((c.tc : Thread Cert.EvdhRIdeal.nD Cert.EvdhRIdeal.τ).loc Cert.EvdhRIdeal.main_arg3) = m ((c.tc : Thread Cert.EvdhKIdeal.nD Cert.EvdhKIdeal.τ).loc Cert.EvdhKIdeal.main_arg3)
      ∧ m' ((c.tc : Thread Cert.EvdhRIdeal.nD Cert.EvdhRIdeal.τ).loc Cert.EvdhRIdeal.main_arg4) = m ((c.tc : Thread Cert.EvdhKIdeal.nD Cert.EvdhKIdeal.τ).loc Cert.EvdhKIdeal.main_arg4)
      ∧ m' ((c.tc : Thread Cert.EvdhRIdeal.nD Cert.EvdhRIdeal.τ).loc Cert.EvdhRIdeal.main_arg5) = m ((c.tc : Thread Cert.EvdhKIdeal.nD Cert.EvdhKIdeal.τ).loc Cert.EvdhKIdeal.main_arg5)
      ∧ m' ((c.tc : Thread Cert.EvdhRIdeal.nD Cert.EvdhRIdeal.τ).loc Cert.EvdhRIdeal.main_arg6) = m ((c.tc : Thread Cert.EvdhKIdeal.nD Cert.EvdhKIdeal.τ).loc Cert.EvdhKIdeal.main_arg6)
      ∧ m' ((c.tc : Thread Cert.EvdhRIdeal.nD Cert.EvdhRIdeal.τ).loc Cert.EvdhRIdeal.main_arg7) = m ((c.tc : Thread Cert.EvdhKIdeal.nD Cert.EvdhKIdeal.τ).loc Cert.EvdhKIdeal.main_arg7)
      ∧ m' ((c.tc : Thread Cert.EvdhRIdeal.nD Cert.EvdhRIdeal.τ).loc Cert.EvdhRIdeal.main_arg8) = m ((c.tc : Thread Cert.EvdhKIdeal.nD Cert.EvdhKIdeal.τ).loc Cert.EvdhKIdeal.main_arg8)
      ∧ m' ((c.tc : Thread Cert.EvdhRIdeal.nD Cert.EvdhRIdeal.τ).loc Cert.EvdhRIdeal.main_arg9) = m ((c.tc : Thread Cert.EvdhKIdeal.nD Cert.EvdhKIdeal.τ).loc Cert.EvdhKIdeal.main_arg9)) →
    ∃ (v0 : (c : Dev Cert.EvdhKIdeal.nD) → Buf (Elt Ideal) ((c.tc : Thread Cert.EvdhKIdeal.nD Cert.EvdhKIdeal.τ).loc Cert.EvdhKIdeal.main_v15_0)) (v1 : (c : Dev Cert.EvdhKIdeal.nD) → Buf (Elt Ideal) ((c.tc : Thread Cert.EvdhKIdeal.nD Cert.EvdhKIdeal.τ).loc Cert.EvdhKIdeal.main_v15_1)) (v2 : (c : Dev Cert.EvdhKIdeal.nD) → Buf (Elt Ideal) ((c.tc : Thread Cert.EvdhKIdeal.nD Cert.EvdhKIdeal.τ).loc Cert.EvdhKIdeal.main_v15_2)),
      θ_run (Cert.EvdhKIdeal.defs (F := Ideal)) (onTc (τ := Cert.EvdhKIdeal.τ) (Cert.EvdhKIdeal.main (F := Ideal))) ⟨m, fun _ => 0, g⟩ (fun r => ∀ c : Dev Cert.EvdhKIdeal.nD,
          r.2.mem ((c.tc : Thread Cert.EvdhKIdeal.nD Cert.EvdhKIdeal.τ).loc Cert.EvdhKIdeal.main_v15_0) = v0 c
          ∧ r.2.mem ((c.tc : Thread Cert.EvdhKIdeal.nD Cert.EvdhKIdeal.τ).loc Cert.EvdhKIdeal.main_v15_1) = v1 c
          ∧ r.2.mem ((c.tc : Thread Cert.EvdhKIdeal.nD Cert.EvdhKIdeal.τ).loc Cert.EvdhKIdeal.main_v15_2) = v2 c
          ∧ r.2.mem ((c.tc : Thread Cert.EvdhKIdeal.nD Cert.EvdhKIdeal.τ).loc Cert.EvdhKIdeal.main_arg0) = m ((c.tc : Thread Cert.EvdhKIdeal.nD Cert.EvdhKIdeal.τ).loc Cert.EvdhKIdeal.main_arg0)
          ∧ r.2.mem ((c.tc : Thread Cert.EvdhKIdeal.nD Cert.EvdhKIdeal.τ).loc Cert.EvdhKIdeal.main_arg1) = m ((c.tc : Thread Cert.EvdhKIdeal.nD Cert.EvdhKIdeal.τ).loc Cert.EvdhKIdeal.main_arg1)
          ∧ r.2.mem ((c.tc : Thread Cert.EvdhKIdeal.nD Cert.EvdhKIdeal.τ).loc Cert.EvdhKIdeal.main_arg2) = m ((c.tc : Thread Cert.EvdhKIdeal.nD Cert.EvdhKIdeal.τ).loc Cert.EvdhKIdeal.main_arg2)
          ∧ r.2.mem ((c.tc : Thread Cert.EvdhKIdeal.nD Cert.EvdhKIdeal.τ).loc Cert.EvdhKIdeal.main_arg3) = m ((c.tc : Thread Cert.EvdhKIdeal.nD Cert.EvdhKIdeal.τ).loc Cert.EvdhKIdeal.main_arg3)
          ∧ r.2.mem ((c.tc : Thread Cert.EvdhKIdeal.nD Cert.EvdhKIdeal.τ).loc Cert.EvdhKIdeal.main_arg4) = m ((c.tc : Thread Cert.EvdhKIdeal.nD Cert.EvdhKIdeal.τ).loc Cert.EvdhKIdeal.main_arg4)
          ∧ r.2.mem ((c.tc : Thread Cert.EvdhKIdeal.nD Cert.EvdhKIdeal.τ).loc Cert.EvdhKIdeal.main_arg5) = m ((c.tc : Thread Cert.EvdhKIdeal.nD Cert.EvdhKIdeal.τ).loc Cert.EvdhKIdeal.main_arg5)
          ∧ r.2.mem ((c.tc : Thread Cert.EvdhKIdeal.nD Cert.EvdhKIdeal.τ).loc Cert.EvdhKIdeal.main_arg6) = m ((c.tc : Thread Cert.EvdhKIdeal.nD Cert.EvdhKIdeal.τ).loc Cert.EvdhKIdeal.main_arg6)
          ∧ r.2.mem ((c.tc : Thread Cert.EvdhKIdeal.nD Cert.EvdhKIdeal.τ).loc Cert.EvdhKIdeal.main_arg7) = m ((c.tc : Thread Cert.EvdhKIdeal.nD Cert.EvdhKIdeal.τ).loc Cert.EvdhKIdeal.main_arg7)
          ∧ r.2.mem ((c.tc : Thread Cert.EvdhKIdeal.nD Cert.EvdhKIdeal.τ).loc Cert.EvdhKIdeal.main_arg8) = m ((c.tc : Thread Cert.EvdhKIdeal.nD Cert.EvdhKIdeal.τ).loc Cert.EvdhKIdeal.main_arg8)
          ∧ r.2.mem ((c.tc : Thread Cert.EvdhKIdeal.nD Cert.EvdhKIdeal.τ).loc Cert.EvdhKIdeal.main_arg9) = m ((c.tc : Thread Cert.EvdhKIdeal.nD Cert.EvdhKIdeal.τ).loc Cert.EvdhKIdeal.main_arg9))
      ∧ θ_run (Cert.EvdhRIdeal.defs (F := Ideal)) (onTc (τ := Cert.EvdhRIdeal.τ) (Cert.EvdhRIdeal.main (F := Ideal))) ⟨m', fun _ => 0, g'⟩ (fun r => ∀ c : Dev Cert.EvdhRIdeal.nD,
          r.2.mem ((c.tc : Thread Cert.EvdhRIdeal.nD Cert.EvdhRIdeal.τ).loc Cert.EvdhRIdeal.main_v42) = v0 c
          ∧ r.2.mem ((c.tc : Thread Cert.EvdhRIdeal.nD Cert.EvdhRIdeal.τ).loc Cert.EvdhRIdeal.main_v43) = v1 c
          ∧ r.2.mem ((c.tc : Thread Cert.EvdhRIdeal.nD Cert.EvdhRIdeal.τ).loc Cert.EvdhRIdeal.main_v44) = v2 c
          ∧ r.2.mem ((c.tc : Thread Cert.EvdhRIdeal.nD Cert.EvdhRIdeal.τ).loc Cert.EvdhRIdeal.main_arg0) = m' ((c.tc : Thread Cert.EvdhRIdeal.nD Cert.EvdhRIdeal.τ).loc Cert.EvdhRIdeal.main_arg0)
          ∧ r.2.mem ((c.tc : Thread Cert.EvdhRIdeal.nD Cert.EvdhRIdeal.τ).loc Cert.EvdhRIdeal.main_arg1) = m' ((c.tc : Thread Cert.EvdhRIdeal.nD Cert.EvdhRIdeal.τ).loc Cert.EvdhRIdeal.main_arg1)
          ∧ r.2.mem ((c.tc : Thread Cert.EvdhRIdeal.nD Cert.EvdhRIdeal.τ).loc Cert.EvdhRIdeal.main_arg2) = m' ((c.tc : Thread Cert.EvdhRIdeal.nD Cert.EvdhRIdeal.τ).loc Cert.EvdhRIdeal.main_arg2)
          ∧ r.2.mem ((c.tc : Thread Cert.EvdhRIdeal.nD Cert.EvdhRIdeal.τ).loc Cert.EvdhRIdeal.main_arg3) = m' ((c.tc : Thread Cert.EvdhRIdeal.nD Cert.EvdhRIdeal.τ).loc Cert.EvdhRIdeal.main_arg3)
          ∧ r.2.mem ((c.tc : Thread Cert.EvdhRIdeal.nD Cert.EvdhRIdeal.τ).loc Cert.EvdhRIdeal.main_arg4) = m' ((c.tc : Thread Cert.EvdhRIdeal.nD Cert.EvdhRIdeal.τ).loc Cert.EvdhRIdeal.main_arg4)
          ∧ r.2.mem ((c.tc : Thread Cert.EvdhRIdeal.nD Cert.EvdhRIdeal.τ).loc Cert.EvdhRIdeal.main_arg5) = m' ((c.tc : Thread Cert.EvdhRIdeal.nD Cert.EvdhRIdeal.τ).loc Cert.EvdhRIdeal.main_arg5)
          ∧ r.2.mem ((c.tc : Thread Cert.EvdhRIdeal.nD Cert.EvdhRIdeal.τ).loc Cert.EvdhRIdeal.main_arg6) = m' ((c.tc : Thread Cert.EvdhRIdeal.nD Cert.EvdhRIdeal.τ).loc Cert.EvdhRIdeal.main_arg6)
          ∧ r.2.mem ((c.tc : Thread Cert.EvdhRIdeal.nD Cert.EvdhRIdeal.τ).loc Cert.EvdhRIdeal.main_arg7) = m' ((c.tc : Thread Cert.EvdhRIdeal.nD Cert.EvdhRIdeal.τ).loc Cert.EvdhRIdeal.main_arg7)
          ∧ r.2.mem ((c.tc : Thread Cert.EvdhRIdeal.nD Cert.EvdhRIdeal.τ).loc Cert.EvdhRIdeal.main_arg8) = m' ((c.tc : Thread Cert.EvdhRIdeal.nD Cert.EvdhRIdeal.τ).loc Cert.EvdhRIdeal.main_arg8)
          ∧ r.2.mem ((c.tc : Thread Cert.EvdhRIdeal.nD Cert.EvdhRIdeal.τ).loc Cert.EvdhRIdeal.main_arg9) = m' ((c.tc : Thread Cert.EvdhRIdeal.nD Cert.EvdhRIdeal.τ).loc Cert.EvdhRIdeal.main_arg9))

def preserves_OddhK_OddhKIdeal : Prop :=
  True

def algebraic_OddhKIdeal_OddhRIdeal_pre_oddh_finite [hOddhKIdeal : Cert.OddhKIdeal.Facts] [hOddhRIdeal : Cert.OddhRIdeal.Facts] [hPre_oddh_finite : Cert.Pre_oddh_finite.Facts] : Prop :=
  ∀ (m : (ℓ : Loc Cert.OddhKIdeal.nD Cert.OddhKIdeal.τ Cert.OddhKIdeal.sig) → Buf (Elt Ideal) ℓ) (g : Dev Cert.OddhKIdeal.nD → PrngReg)
    (m' : (ℓ : Loc Cert.OddhRIdeal.nD Cert.OddhRIdeal.τ Cert.OddhRIdeal.sig) → Buf (Elt Ideal) ℓ) (g' : Dev Cert.OddhRIdeal.nD → PrngReg), Pre_OddhKIdeal_oddh_finite m →
    (∀ c : Dev Cert.OddhKIdeal.nD,
      m' ((c.tc : Thread Cert.OddhRIdeal.nD Cert.OddhRIdeal.τ).loc Cert.OddhRIdeal.main_arg0) = m ((c.tc : Thread Cert.OddhKIdeal.nD Cert.OddhKIdeal.τ).loc Cert.OddhKIdeal.main_arg0)
      ∧ m' ((c.tc : Thread Cert.OddhRIdeal.nD Cert.OddhRIdeal.τ).loc Cert.OddhRIdeal.main_arg1) = m ((c.tc : Thread Cert.OddhKIdeal.nD Cert.OddhKIdeal.τ).loc Cert.OddhKIdeal.main_arg1)
      ∧ m' ((c.tc : Thread Cert.OddhRIdeal.nD Cert.OddhRIdeal.τ).loc Cert.OddhRIdeal.main_arg2) = m ((c.tc : Thread Cert.OddhKIdeal.nD Cert.OddhKIdeal.τ).loc Cert.OddhKIdeal.main_arg2)
      ∧ m' ((c.tc : Thread Cert.OddhRIdeal.nD Cert.OddhRIdeal.τ).loc Cert.OddhRIdeal.main_arg3) = m ((c.tc : Thread Cert.OddhKIdeal.nD Cert.OddhKIdeal.τ).loc Cert.OddhKIdeal.main_arg3)
      ∧ m' ((c.tc : Thread Cert.OddhRIdeal.nD Cert.OddhRIdeal.τ).loc Cert.OddhRIdeal.main_arg4) = m ((c.tc : Thread Cert.OddhKIdeal.nD Cert.OddhKIdeal.τ).loc Cert.OddhKIdeal.main_arg4)) →
    ∃ (v0 : (c : Dev Cert.OddhKIdeal.nD) → Buf (Elt Ideal) ((c.tc : Thread Cert.OddhKIdeal.nD Cert.OddhKIdeal.τ).loc Cert.OddhKIdeal.main_v6_0)) (v1 : (c : Dev Cert.OddhKIdeal.nD) → Buf (Elt Ideal) ((c.tc : Thread Cert.OddhKIdeal.nD Cert.OddhKIdeal.τ).loc Cert.OddhKIdeal.main_v6_1)) (v2 : (c : Dev Cert.OddhKIdeal.nD) → Buf (Elt Ideal) ((c.tc : Thread Cert.OddhKIdeal.nD Cert.OddhKIdeal.τ).loc Cert.OddhKIdeal.main_v6_2)),
      θ_run (Cert.OddhKIdeal.defs (F := Ideal)) (onTc (τ := Cert.OddhKIdeal.τ) (Cert.OddhKIdeal.main (F := Ideal))) ⟨m, fun _ => 0, g⟩ (fun r => ∀ c : Dev Cert.OddhKIdeal.nD,
          r.2.mem ((c.tc : Thread Cert.OddhKIdeal.nD Cert.OddhKIdeal.τ).loc Cert.OddhKIdeal.main_v6_0) = v0 c
          ∧ r.2.mem ((c.tc : Thread Cert.OddhKIdeal.nD Cert.OddhKIdeal.τ).loc Cert.OddhKIdeal.main_v6_1) = v1 c
          ∧ r.2.mem ((c.tc : Thread Cert.OddhKIdeal.nD Cert.OddhKIdeal.τ).loc Cert.OddhKIdeal.main_v6_2) = v2 c
          ∧ r.2.mem ((c.tc : Thread Cert.OddhKIdeal.nD Cert.OddhKIdeal.τ).loc Cert.OddhKIdeal.main_arg0) = m ((c.tc : Thread Cert.OddhKIdeal.nD Cert.OddhKIdeal.τ).loc Cert.OddhKIdeal.main_arg0)
          ∧ r.2.mem ((c.tc : Thread Cert.OddhKIdeal.nD Cert.OddhKIdeal.τ).loc Cert.OddhKIdeal.main_arg1) = m ((c.tc : Thread Cert.OddhKIdeal.nD Cert.OddhKIdeal.τ).loc Cert.OddhKIdeal.main_arg1)
          ∧ r.2.mem ((c.tc : Thread Cert.OddhKIdeal.nD Cert.OddhKIdeal.τ).loc Cert.OddhKIdeal.main_arg2) = m ((c.tc : Thread Cert.OddhKIdeal.nD Cert.OddhKIdeal.τ).loc Cert.OddhKIdeal.main_arg2)
          ∧ r.2.mem ((c.tc : Thread Cert.OddhKIdeal.nD Cert.OddhKIdeal.τ).loc Cert.OddhKIdeal.main_arg3) = m ((c.tc : Thread Cert.OddhKIdeal.nD Cert.OddhKIdeal.τ).loc Cert.OddhKIdeal.main_arg3)
          ∧ r.2.mem ((c.tc : Thread Cert.OddhKIdeal.nD Cert.OddhKIdeal.τ).loc Cert.OddhKIdeal.main_arg4) = m ((c.tc : Thread Cert.OddhKIdeal.nD Cert.OddhKIdeal.τ).loc Cert.OddhKIdeal.main_arg4))
      ∧ θ_run (Cert.OddhRIdeal.defs (F := Ideal)) (onTc (τ := Cert.OddhRIdeal.τ) (Cert.OddhRIdeal.main (F := Ideal))) ⟨m', fun _ => 0, g'⟩ (fun r => ∀ c : Dev Cert.OddhRIdeal.nD,
          r.2.mem ((c.tc : Thread Cert.OddhRIdeal.nD Cert.OddhRIdeal.τ).loc Cert.OddhRIdeal.main_v41) = v0 c
          ∧ r.2.mem ((c.tc : Thread Cert.OddhRIdeal.nD Cert.OddhRIdeal.τ).loc Cert.OddhRIdeal.main_v42) = v1 c
          ∧ r.2.mem ((c.tc : Thread Cert.OddhRIdeal.nD Cert.OddhRIdeal.τ).loc Cert.OddhRIdeal.main_v43) = v2 c
          ∧ r.2.mem ((c.tc : Thread Cert.OddhRIdeal.nD Cert.OddhRIdeal.τ).loc Cert.OddhRIdeal.main_arg0) = m' ((c.tc : Thread Cert.OddhRIdeal.nD Cert.OddhRIdeal.τ).loc Cert.OddhRIdeal.main_arg0)
          ∧ r.2.mem ((c.tc : Thread Cert.OddhRIdeal.nD Cert.OddhRIdeal.τ).loc Cert.OddhRIdeal.main_arg1) = m' ((c.tc : Thread Cert.OddhRIdeal.nD Cert.OddhRIdeal.τ).loc Cert.OddhRIdeal.main_arg1)
          ∧ r.2.mem ((c.tc : Thread Cert.OddhRIdeal.nD Cert.OddhRIdeal.τ).loc Cert.OddhRIdeal.main_arg2) = m' ((c.tc : Thread Cert.OddhRIdeal.nD Cert.OddhRIdeal.τ).loc Cert.OddhRIdeal.main_arg2)
          ∧ r.2.mem ((c.tc : Thread Cert.OddhRIdeal.nD Cert.OddhRIdeal.τ).loc Cert.OddhRIdeal.main_arg3) = m' ((c.tc : Thread Cert.OddhRIdeal.nD Cert.OddhRIdeal.τ).loc Cert.OddhRIdeal.main_arg3)
          ∧ r.2.mem ((c.tc : Thread Cert.OddhRIdeal.nD Cert.OddhRIdeal.τ).loc Cert.OddhRIdeal.main_arg4) = m' ((c.tc : Thread Cert.OddhRIdeal.nD Cert.OddhRIdeal.τ).loc Cert.OddhRIdeal.main_arg4))

def preserves_QkbK_QkbKIdeal : Prop :=
  True

def algebraic_QkbKIdeal_QkbRIdeal_pre_qkb_finite [hQkbKIdeal : Cert.QkbKIdeal.Facts] [hQkbRIdeal : Cert.QkbRIdeal.Facts] [hPre_qkb_finite : Cert.Pre_qkb_finite.Facts] : Prop :=
  ∀ (m : (ℓ : Loc Cert.QkbKIdeal.nD Cert.QkbKIdeal.τ Cert.QkbKIdeal.sig) → Buf (Elt Ideal) ℓ) (g : Dev Cert.QkbKIdeal.nD → PrngReg)
    (m' : (ℓ : Loc Cert.QkbRIdeal.nD Cert.QkbRIdeal.τ Cert.QkbRIdeal.sig) → Buf (Elt Ideal) ℓ) (g' : Dev Cert.QkbRIdeal.nD → PrngReg), Pre_QkbKIdeal_qkb_finite m →
    (∀ c : Dev Cert.QkbKIdeal.nD,
      m' ((c.tc : Thread Cert.QkbRIdeal.nD Cert.QkbRIdeal.τ).loc Cert.QkbRIdeal.main_arg0) = m ((c.tc : Thread Cert.QkbKIdeal.nD Cert.QkbKIdeal.τ).loc Cert.QkbKIdeal.main_arg0)
      ∧ m' ((c.tc : Thread Cert.QkbRIdeal.nD Cert.QkbRIdeal.τ).loc Cert.QkbRIdeal.main_arg1) = m ((c.tc : Thread Cert.QkbKIdeal.nD Cert.QkbKIdeal.τ).loc Cert.QkbKIdeal.main_arg1)
      ∧ m' ((c.tc : Thread Cert.QkbRIdeal.nD Cert.QkbRIdeal.τ).loc Cert.QkbRIdeal.main_arg2) = m ((c.tc : Thread Cert.QkbKIdeal.nD Cert.QkbKIdeal.τ).loc Cert.QkbKIdeal.main_arg2)
      ∧ m' ((c.tc : Thread Cert.QkbRIdeal.nD Cert.QkbRIdeal.τ).loc Cert.QkbRIdeal.main_arg3) = m ((c.tc : Thread Cert.QkbKIdeal.nD Cert.QkbKIdeal.τ).loc Cert.QkbKIdeal.main_arg3)
      ∧ m' ((c.tc : Thread Cert.QkbRIdeal.nD Cert.QkbRIdeal.τ).loc Cert.QkbRIdeal.main_arg4) = m ((c.tc : Thread Cert.QkbKIdeal.nD Cert.QkbKIdeal.τ).loc Cert.QkbKIdeal.main_arg4)) →
    ∃ (v0 : (c : Dev Cert.QkbKIdeal.nD) → Buf (Elt Ideal) ((c.tc : Thread Cert.QkbKIdeal.nD Cert.QkbKIdeal.τ).loc Cert.QkbKIdeal.main_v66_0)) (v1 : (c : Dev Cert.QkbKIdeal.nD) → Buf (Elt Ideal) ((c.tc : Thread Cert.QkbKIdeal.nD Cert.QkbKIdeal.τ).loc Cert.QkbKIdeal.main_v66_1)) (v2 : (c : Dev Cert.QkbKIdeal.nD) → Buf (Elt Ideal) ((c.tc : Thread Cert.QkbKIdeal.nD Cert.QkbKIdeal.τ).loc Cert.QkbKIdeal.main_v66_2)) (v3 : (c : Dev Cert.QkbKIdeal.nD) → Buf (Elt Ideal) ((c.tc : Thread Cert.QkbKIdeal.nD Cert.QkbKIdeal.τ).loc Cert.QkbKIdeal.main_v66_3)),
      θ_run (Cert.QkbKIdeal.defs (F := Ideal)) (onTc (τ := Cert.QkbKIdeal.τ) (Cert.QkbKIdeal.main (F := Ideal))) ⟨m, fun _ => 0, g⟩ (fun r => ∀ c : Dev Cert.QkbKIdeal.nD,
          r.2.mem ((c.tc : Thread Cert.QkbKIdeal.nD Cert.QkbKIdeal.τ).loc Cert.QkbKIdeal.main_v66_0) = v0 c
          ∧ r.2.mem ((c.tc : Thread Cert.QkbKIdeal.nD Cert.QkbKIdeal.τ).loc Cert.QkbKIdeal.main_v66_1) = v1 c
          ∧ r.2.mem ((c.tc : Thread Cert.QkbKIdeal.nD Cert.QkbKIdeal.τ).loc Cert.QkbKIdeal.main_v66_2) = v2 c
          ∧ r.2.mem ((c.tc : Thread Cert.QkbKIdeal.nD Cert.QkbKIdeal.τ).loc Cert.QkbKIdeal.main_v66_3) = v3 c
          ∧ r.2.mem ((c.tc : Thread Cert.QkbKIdeal.nD Cert.QkbKIdeal.τ).loc Cert.QkbKIdeal.main_arg0) = m ((c.tc : Thread Cert.QkbKIdeal.nD Cert.QkbKIdeal.τ).loc Cert.QkbKIdeal.main_arg0)
          ∧ r.2.mem ((c.tc : Thread Cert.QkbKIdeal.nD Cert.QkbKIdeal.τ).loc Cert.QkbKIdeal.main_arg1) = m ((c.tc : Thread Cert.QkbKIdeal.nD Cert.QkbKIdeal.τ).loc Cert.QkbKIdeal.main_arg1)
          ∧ r.2.mem ((c.tc : Thread Cert.QkbKIdeal.nD Cert.QkbKIdeal.τ).loc Cert.QkbKIdeal.main_arg2) = m ((c.tc : Thread Cert.QkbKIdeal.nD Cert.QkbKIdeal.τ).loc Cert.QkbKIdeal.main_arg2)
          ∧ r.2.mem ((c.tc : Thread Cert.QkbKIdeal.nD Cert.QkbKIdeal.τ).loc Cert.QkbKIdeal.main_arg3) = m ((c.tc : Thread Cert.QkbKIdeal.nD Cert.QkbKIdeal.τ).loc Cert.QkbKIdeal.main_arg3)
          ∧ r.2.mem ((c.tc : Thread Cert.QkbKIdeal.nD Cert.QkbKIdeal.τ).loc Cert.QkbKIdeal.main_arg4) = m ((c.tc : Thread Cert.QkbKIdeal.nD Cert.QkbKIdeal.τ).loc Cert.QkbKIdeal.main_arg4))
      ∧ θ_run (Cert.QkbRIdeal.defs (F := Ideal)) (onTc (τ := Cert.QkbRIdeal.τ) (Cert.QkbRIdeal.main (F := Ideal))) ⟨m', fun _ => 0, g'⟩ (fun r => ∀ c : Dev Cert.QkbRIdeal.nD,
          r.2.mem ((c.tc : Thread Cert.QkbRIdeal.nD Cert.QkbRIdeal.τ).loc Cert.QkbRIdeal.main_v198) = v0 c
          ∧ r.2.mem ((c.tc : Thread Cert.QkbRIdeal.nD Cert.QkbRIdeal.τ).loc Cert.QkbRIdeal.main_v200) = v1 c
          ∧ r.2.mem ((c.tc : Thread Cert.QkbRIdeal.nD Cert.QkbRIdeal.τ).loc Cert.QkbRIdeal.main_v201) = v2 c
          ∧ r.2.mem ((c.tc : Thread Cert.QkbRIdeal.nD Cert.QkbRIdeal.τ).loc Cert.QkbRIdeal.main_v202) = v3 c
          ∧ r.2.mem ((c.tc : Thread Cert.QkbRIdeal.nD Cert.QkbRIdeal.τ).loc Cert.QkbRIdeal.main_arg0) = m' ((c.tc : Thread Cert.QkbRIdeal.nD Cert.QkbRIdeal.τ).loc Cert.QkbRIdeal.main_arg0)
          ∧ r.2.mem ((c.tc : Thread Cert.QkbRIdeal.nD Cert.QkbRIdeal.τ).loc Cert.QkbRIdeal.main_arg1) = m' ((c.tc : Thread Cert.QkbRIdeal.nD Cert.QkbRIdeal.τ).loc Cert.QkbRIdeal.main_arg1)
          ∧ r.2.mem ((c.tc : Thread Cert.QkbRIdeal.nD Cert.QkbRIdeal.τ).loc Cert.QkbRIdeal.main_arg2) = m' ((c.tc : Thread Cert.QkbRIdeal.nD Cert.QkbRIdeal.τ).loc Cert.QkbRIdeal.main_arg2)
          ∧ r.2.mem ((c.tc : Thread Cert.QkbRIdeal.nD Cert.QkbRIdeal.τ).loc Cert.QkbRIdeal.main_arg3) = m' ((c.tc : Thread Cert.QkbRIdeal.nD Cert.QkbRIdeal.τ).loc Cert.QkbRIdeal.main_arg3)
          ∧ r.2.mem ((c.tc : Thread Cert.QkbRIdeal.nD Cert.QkbRIdeal.τ).loc Cert.QkbRIdeal.main_arg4) = m' ((c.tc : Thread Cert.QkbRIdeal.nD Cert.QkbRIdeal.τ).loc Cert.QkbRIdeal.main_arg4))

def preserves_AttfK_AttfKIdeal : Prop :=
  True

def algebraic_AttfKIdeal_AttfRIdeal_pre_attf_finite [hAttfKIdeal : Cert.AttfKIdeal.Facts] [hAttfRIdeal : Cert.AttfRIdeal.Facts] [hPre_attf_finite : Cert.Pre_attf_finite.Facts] : Prop :=
  ∀ (m : (ℓ : Loc Cert.AttfKIdeal.nD Cert.AttfKIdeal.τ Cert.AttfKIdeal.sig) → Buf (Elt Ideal) ℓ) (g : Dev Cert.AttfKIdeal.nD → PrngReg)
    (m' : (ℓ : Loc Cert.AttfRIdeal.nD Cert.AttfRIdeal.τ Cert.AttfRIdeal.sig) → Buf (Elt Ideal) ℓ) (g' : Dev Cert.AttfRIdeal.nD → PrngReg), Pre_AttfKIdeal_attf_finite m →
    (∀ c : Dev Cert.AttfKIdeal.nD,
      m' ((c.tc : Thread Cert.AttfRIdeal.nD Cert.AttfRIdeal.τ).loc Cert.AttfRIdeal.main_arg0) = m ((c.tc : Thread Cert.AttfKIdeal.nD Cert.AttfKIdeal.τ).loc Cert.AttfKIdeal.main_arg0)
      ∧ m' ((c.tc : Thread Cert.AttfRIdeal.nD Cert.AttfRIdeal.τ).loc Cert.AttfRIdeal.main_arg1) = m ((c.tc : Thread Cert.AttfKIdeal.nD Cert.AttfKIdeal.τ).loc Cert.AttfKIdeal.main_arg1)
      ∧ m' ((c.tc : Thread Cert.AttfRIdeal.nD Cert.AttfRIdeal.τ).loc Cert.AttfRIdeal.main_arg2) = m ((c.tc : Thread Cert.AttfKIdeal.nD Cert.AttfKIdeal.τ).loc Cert.AttfKIdeal.main_arg2)) →
    ∃ (v0 : (c : Dev Cert.AttfKIdeal.nD) → Buf (Elt Ideal) ((c.tc : Thread Cert.AttfKIdeal.nD Cert.AttfKIdeal.τ).loc Cert.AttfKIdeal.main_v6_0)) (v1 : (c : Dev Cert.AttfKIdeal.nD) → Buf (Elt Ideal) ((c.tc : Thread Cert.AttfKIdeal.nD Cert.AttfKIdeal.τ).loc Cert.AttfKIdeal.main_v6_1)),
      θ_run (Cert.AttfKIdeal.defs (F := Ideal)) (onTc (τ := Cert.AttfKIdeal.τ) (Cert.AttfKIdeal.main (F := Ideal))) ⟨m, fun _ => 0, g⟩ (fun r => ∀ c : Dev Cert.AttfKIdeal.nD,
          r.2.mem ((c.tc : Thread Cert.AttfKIdeal.nD Cert.AttfKIdeal.τ).loc Cert.AttfKIdeal.main_v6_0) = v0 c
          ∧ r.2.mem ((c.tc : Thread Cert.AttfKIdeal.nD Cert.AttfKIdeal.τ).loc Cert.AttfKIdeal.main_v6_1) = v1 c
          ∧ r.2.mem ((c.tc : Thread Cert.AttfKIdeal.nD Cert.AttfKIdeal.τ).loc Cert.AttfKIdeal.main_arg0) = m ((c.tc : Thread Cert.AttfKIdeal.nD Cert.AttfKIdeal.τ).loc Cert.AttfKIdeal.main_arg0)
          ∧ r.2.mem ((c.tc : Thread Cert.AttfKIdeal.nD Cert.AttfKIdeal.τ).loc Cert.AttfKIdeal.main_arg1) = m ((c.tc : Thread Cert.AttfKIdeal.nD Cert.AttfKIdeal.τ).loc Cert.AttfKIdeal.main_arg1)
          ∧ r.2.mem ((c.tc : Thread Cert.AttfKIdeal.nD Cert.AttfKIdeal.τ).loc Cert.AttfKIdeal.main_arg2) = m ((c.tc : Thread Cert.AttfKIdeal.nD Cert.AttfKIdeal.τ).loc Cert.AttfKIdeal.main_arg2))
      ∧ θ_run (Cert.AttfRIdeal.defs (F := Ideal)) (onTc (τ := Cert.AttfRIdeal.τ) (Cert.AttfRIdeal.main (F := Ideal))) ⟨m', fun _ => 0, g'⟩ (fun r => ∀ c : Dev Cert.AttfRIdeal.nD,
          r.2.mem ((c.tc : Thread Cert.AttfRIdeal.nD Cert.AttfRIdeal.τ).loc Cert.AttfRIdeal.main_v24) = v0 c
          ∧ r.2.mem ((c.tc : Thread Cert.AttfRIdeal.nD Cert.AttfRIdeal.τ).loc Cert.AttfRIdeal.main_v25) = v1 c
          ∧ r.2.mem ((c.tc : Thread Cert.AttfRIdeal.nD Cert.AttfRIdeal.τ).loc Cert.AttfRIdeal.main_arg0) = m' ((c.tc : Thread Cert.AttfRIdeal.nD Cert.AttfRIdeal.τ).loc Cert.AttfRIdeal.main_arg0)
          ∧ r.2.mem ((c.tc : Thread Cert.AttfRIdeal.nD Cert.AttfRIdeal.τ).loc Cert.AttfRIdeal.main_arg1) = m' ((c.tc : Thread Cert.AttfRIdeal.nD Cert.AttfRIdeal.τ).loc Cert.AttfRIdeal.main_arg1)
          ∧ r.2.mem ((c.tc : Thread Cert.AttfRIdeal.nD Cert.AttfRIdeal.τ).loc Cert.AttfRIdeal.main_arg2) = m' ((c.tc : Thread Cert.AttfRIdeal.nD Cert.AttfRIdeal.τ).loc Cert.AttfRIdeal.main_arg2))

def preserves_ConvfK_ConvfKIdeal : Prop :=
  True

def algebraic_ConvfKIdeal_ConvfRIdeal [hConvfKIdeal : Cert.ConvfKIdeal.Facts] [hConvfRIdeal : Cert.ConvfRIdeal.Facts] : Prop :=
  ∀ (m : (ℓ : Loc Cert.ConvfKIdeal.nD Cert.ConvfKIdeal.τ Cert.ConvfKIdeal.sig) → Buf (Elt Ideal) ℓ) (g : Dev Cert.ConvfKIdeal.nD → PrngReg)
    (m' : (ℓ : Loc Cert.ConvfRIdeal.nD Cert.ConvfRIdeal.τ Cert.ConvfRIdeal.sig) → Buf (Elt Ideal) ℓ) (g' : Dev Cert.ConvfRIdeal.nD → PrngReg), Pre_ConvfKIdeal m →
    (∀ c : Dev Cert.ConvfKIdeal.nD,
      m' ((c.tc : Thread Cert.ConvfRIdeal.nD Cert.ConvfRIdeal.τ).loc Cert.ConvfRIdeal.main_arg0) = m ((c.tc : Thread Cert.ConvfKIdeal.nD Cert.ConvfKIdeal.τ).loc Cert.ConvfKIdeal.main_arg0)
      ∧ m' ((c.tc : Thread Cert.ConvfRIdeal.nD Cert.ConvfRIdeal.τ).loc Cert.ConvfRIdeal.main_arg1) = m ((c.tc : Thread Cert.ConvfKIdeal.nD Cert.ConvfKIdeal.τ).loc Cert.ConvfKIdeal.main_arg1)) →
    ∃ (v0 : (c : Dev Cert.ConvfKIdeal.nD) → Buf (Elt Ideal) ((c.tc : Thread Cert.ConvfKIdeal.nD Cert.ConvfKIdeal.τ).loc Cert.ConvfKIdeal.main_v2)),
      θ_run (Cert.ConvfKIdeal.defs (F := Ideal)) (onTc (τ := Cert.ConvfKIdeal.τ) (Cert.ConvfKIdeal.main (F := Ideal))) ⟨m, fun _ => 0, g⟩ (fun r => ∀ c : Dev Cert.ConvfKIdeal.nD,
          r.2.mem ((c.tc : Thread Cert.ConvfKIdeal.nD Cert.ConvfKIdeal.τ).loc Cert.ConvfKIdeal.main_v2) = v0 c
          ∧ r.2.mem ((c.tc : Thread Cert.ConvfKIdeal.nD Cert.ConvfKIdeal.τ).loc Cert.ConvfKIdeal.main_arg0) = m ((c.tc : Thread Cert.ConvfKIdeal.nD Cert.ConvfKIdeal.τ).loc Cert.ConvfKIdeal.main_arg0)
          ∧ r.2.mem ((c.tc : Thread Cert.ConvfKIdeal.nD Cert.ConvfKIdeal.τ).loc Cert.ConvfKIdeal.main_arg1) = m ((c.tc : Thread Cert.ConvfKIdeal.nD Cert.ConvfKIdeal.τ).loc Cert.ConvfKIdeal.main_arg1))
      ∧ θ_run (Cert.ConvfRIdeal.defs (F := Ideal)) (onTc (τ := Cert.ConvfRIdeal.τ) (Cert.ConvfRIdeal.main (F := Ideal))) ⟨m', fun _ => 0, g'⟩ (fun r => ∀ c : Dev Cert.ConvfRIdeal.nD,
          r.2.mem ((c.tc : Thread Cert.ConvfRIdeal.nD Cert.ConvfRIdeal.τ).loc Cert.ConvfRIdeal.main_v30) = v0 c
          ∧ r.2.mem ((c.tc : Thread Cert.ConvfRIdeal.nD Cert.ConvfRIdeal.τ).loc Cert.ConvfRIdeal.main_arg0) = m' ((c.tc : Thread Cert.ConvfRIdeal.nD Cert.ConvfRIdeal.τ).loc Cert.ConvfRIdeal.main_arg0)
          ∧ r.2.mem ((c.tc : Thread Cert.ConvfRIdeal.nD Cert.ConvfRIdeal.τ).loc Cert.ConvfRIdeal.main_arg1) = m' ((c.tc : Thread Cert.ConvfRIdeal.nD Cert.ConvfRIdeal.τ).loc Cert.ConvfRIdeal.main_arg1))

def preserves_FfninK_FfninKIdeal : Prop :=
  True

def algebraic_FfninKIdeal_FfninRIdeal [hFfninKIdeal : Cert.FfninKIdeal.Facts] [hFfninRIdeal : Cert.FfninRIdeal.Facts] : Prop :=
  ∀ (m : (ℓ : Loc Cert.FfninKIdeal.nD Cert.FfninKIdeal.τ Cert.FfninKIdeal.sig) → Buf (Elt Ideal) ℓ) (g : Dev Cert.FfninKIdeal.nD → PrngReg)
    (m' : (ℓ : Loc Cert.FfninRIdeal.nD Cert.FfninRIdeal.τ Cert.FfninRIdeal.sig) → Buf (Elt Ideal) ℓ) (g' : Dev Cert.FfninRIdeal.nD → PrngReg), Pre_FfninKIdeal m →
    (∀ c : Dev Cert.FfninKIdeal.nD,
      m' ((c.tc : Thread Cert.FfninRIdeal.nD Cert.FfninRIdeal.τ).loc Cert.FfninRIdeal.main_arg0) = m ((c.tc : Thread Cert.FfninKIdeal.nD Cert.FfninKIdeal.τ).loc Cert.FfninKIdeal.main_arg0)
      ∧ m' ((c.tc : Thread Cert.FfninRIdeal.nD Cert.FfninRIdeal.τ).loc Cert.FfninRIdeal.main_arg1) = m ((c.tc : Thread Cert.FfninKIdeal.nD Cert.FfninKIdeal.τ).loc Cert.FfninKIdeal.main_arg1)
      ∧ m' ((c.tc : Thread Cert.FfninRIdeal.nD Cert.FfninRIdeal.τ).loc Cert.FfninRIdeal.main_arg2) = m ((c.tc : Thread Cert.FfninKIdeal.nD Cert.FfninKIdeal.τ).loc Cert.FfninKIdeal.main_arg2)) →
    ∃ (v0 : (c : Dev Cert.FfninKIdeal.nD) → Buf (Elt Ideal) ((c.tc : Thread Cert.FfninKIdeal.nD Cert.FfninKIdeal.τ).loc Cert.FfninKIdeal.main_v5_0)) (v1 : (c : Dev Cert.FfninKIdeal.nD) → Buf (Elt Ideal) ((c.tc : Thread Cert.FfninKIdeal.nD Cert.FfninKIdeal.τ).loc Cert.FfninKIdeal.main_v5_1)),
      θ_run (Cert.FfninKIdeal.defs (F := Ideal)) (onTc (τ := Cert.FfninKIdeal.τ) (Cert.FfninKIdeal.main (F := Ideal))) ⟨m, fun _ => 0, g⟩ (fun r => ∀ c : Dev Cert.FfninKIdeal.nD,
          r.2.mem ((c.tc : Thread Cert.FfninKIdeal.nD Cert.FfninKIdeal.τ).loc Cert.FfninKIdeal.main_v5_0) = v0 c
          ∧ r.2.mem ((c.tc : Thread Cert.FfninKIdeal.nD Cert.FfninKIdeal.τ).loc Cert.FfninKIdeal.main_v5_1) = v1 c
          ∧ r.2.mem ((c.tc : Thread Cert.FfninKIdeal.nD Cert.FfninKIdeal.τ).loc Cert.FfninKIdeal.main_arg0) = m ((c.tc : Thread Cert.FfninKIdeal.nD Cert.FfninKIdeal.τ).loc Cert.FfninKIdeal.main_arg0)
          ∧ r.2.mem ((c.tc : Thread Cert.FfninKIdeal.nD Cert.FfninKIdeal.τ).loc Cert.FfninKIdeal.main_arg1) = m ((c.tc : Thread Cert.FfninKIdeal.nD Cert.FfninKIdeal.τ).loc Cert.FfninKIdeal.main_arg1)
          ∧ r.2.mem ((c.tc : Thread Cert.FfninKIdeal.nD Cert.FfninKIdeal.τ).loc Cert.FfninKIdeal.main_arg2) = m ((c.tc : Thread Cert.FfninKIdeal.nD Cert.FfninKIdeal.τ).loc Cert.FfninKIdeal.main_arg2))
      ∧ θ_run (Cert.FfninRIdeal.defs (F := Ideal)) (onTc (τ := Cert.FfninRIdeal.τ) (Cert.FfninRIdeal.main (F := Ideal))) ⟨m', fun _ => 0, g'⟩ (fun r => ∀ c : Dev Cert.FfninRIdeal.nD,
          r.2.mem ((c.tc : Thread Cert.FfninRIdeal.nD Cert.FfninRIdeal.τ).loc Cert.FfninRIdeal.main_v20) = v0 c
          ∧ r.2.mem ((c.tc : Thread Cert.FfninRIdeal.nD Cert.FfninRIdeal.τ).loc Cert.FfninRIdeal.main_v22) = v1 c
          ∧ r.2.mem ((c.tc : Thread Cert.FfninRIdeal.nD Cert.FfninRIdeal.τ).loc Cert.FfninRIdeal.main_arg0) = m' ((c.tc : Thread Cert.FfninRIdeal.nD Cert.FfninRIdeal.τ).loc Cert.FfninRIdeal.main_arg0)
          ∧ r.2.mem ((c.tc : Thread Cert.FfninRIdeal.nD Cert.FfninRIdeal.τ).loc Cert.FfninRIdeal.main_arg1) = m' ((c.tc : Thread Cert.FfninRIdeal.nD Cert.FfninRIdeal.τ).loc Cert.FfninRIdeal.main_arg1)
          ∧ r.2.mem ((c.tc : Thread Cert.FfninRIdeal.nD Cert.FfninRIdeal.τ).loc Cert.FfninRIdeal.main_arg2) = m' ((c.tc : Thread Cert.FfninRIdeal.nD Cert.FfninRIdeal.τ).loc Cert.FfninRIdeal.main_arg2))

def preserves_FfnoutK_FfnoutKIdeal : Prop :=
  True

def algebraic_FfnoutKIdeal_FfnoutRIdeal [hFfnoutKIdeal : Cert.FfnoutKIdeal.Facts] [hFfnoutRIdeal : Cert.FfnoutRIdeal.Facts] : Prop :=
  ∀ (m : (ℓ : Loc Cert.FfnoutKIdeal.nD Cert.FfnoutKIdeal.τ Cert.FfnoutKIdeal.sig) → Buf (Elt Ideal) ℓ) (g : Dev Cert.FfnoutKIdeal.nD → PrngReg)
    (m' : (ℓ : Loc Cert.FfnoutRIdeal.nD Cert.FfnoutRIdeal.τ Cert.FfnoutRIdeal.sig) → Buf (Elt Ideal) ℓ) (g' : Dev Cert.FfnoutRIdeal.nD → PrngReg), Pre_FfnoutKIdeal m →
    (∀ c : Dev Cert.FfnoutKIdeal.nD,
      m' ((c.tc : Thread Cert.FfnoutRIdeal.nD Cert.FfnoutRIdeal.τ).loc Cert.FfnoutRIdeal.main_arg0) = m ((c.tc : Thread Cert.FfnoutKIdeal.nD Cert.FfnoutKIdeal.τ).loc Cert.FfnoutKIdeal.main_arg0)
      ∧ m' ((c.tc : Thread Cert.FfnoutRIdeal.nD Cert.FfnoutRIdeal.τ).loc Cert.FfnoutRIdeal.main_arg1) = m ((c.tc : Thread Cert.FfnoutKIdeal.nD Cert.FfnoutKIdeal.τ).loc Cert.FfnoutKIdeal.main_arg1)
      ∧ m' ((c.tc : Thread Cert.FfnoutRIdeal.nD Cert.FfnoutRIdeal.τ).loc Cert.FfnoutRIdeal.main_arg2) = m ((c.tc : Thread Cert.FfnoutKIdeal.nD Cert.FfnoutKIdeal.τ).loc Cert.FfnoutKIdeal.main_arg2)
      ∧ m' ((c.tc : Thread Cert.FfnoutRIdeal.nD Cert.FfnoutRIdeal.τ).loc Cert.FfnoutRIdeal.main_arg3) = m ((c.tc : Thread Cert.FfnoutKIdeal.nD Cert.FfnoutKIdeal.τ).loc Cert.FfnoutKIdeal.main_arg3)) →
    ∃ (v0 : (c : Dev Cert.FfnoutKIdeal.nD) → Buf (Elt Ideal) ((c.tc : Thread Cert.FfnoutKIdeal.nD Cert.FfnoutKIdeal.τ).loc Cert.FfnoutKIdeal.main_v7)),
      θ_run (Cert.FfnoutKIdeal.defs (F := Ideal)) (onTc (τ := Cert.FfnoutKIdeal.τ) (Cert.FfnoutKIdeal.main (F := Ideal))) ⟨m, fun _ => 0, g⟩ (fun r => ∀ c : Dev Cert.FfnoutKIdeal.nD,
          r.2.mem ((c.tc : Thread Cert.FfnoutKIdeal.nD Cert.FfnoutKIdeal.τ).loc Cert.FfnoutKIdeal.main_v7) = v0 c
          ∧ r.2.mem ((c.tc : Thread Cert.FfnoutKIdeal.nD Cert.FfnoutKIdeal.τ).loc Cert.FfnoutKIdeal.main_arg0) = m ((c.tc : Thread Cert.FfnoutKIdeal.nD Cert.FfnoutKIdeal.τ).loc Cert.FfnoutKIdeal.main_arg0)
          ∧ r.2.mem ((c.tc : Thread Cert.FfnoutKIdeal.nD Cert.FfnoutKIdeal.τ).loc Cert.FfnoutKIdeal.main_arg1) = m ((c.tc : Thread Cert.FfnoutKIdeal.nD Cert.FfnoutKIdeal.τ).loc Cert.FfnoutKIdeal.main_arg1)
          ∧ r.2.mem ((c.tc : Thread Cert.FfnoutKIdeal.nD Cert.FfnoutKIdeal.τ).loc Cert.FfnoutKIdeal.main_arg2) = m ((c.tc : Thread Cert.FfnoutKIdeal.nD Cert.FfnoutKIdeal.τ).loc Cert.FfnoutKIdeal.main_arg2)
          ∧ r.2.mem ((c.tc : Thread Cert.FfnoutKIdeal.nD Cert.FfnoutKIdeal.τ).loc Cert.FfnoutKIdeal.main_arg3) = m ((c.tc : Thread Cert.FfnoutKIdeal.nD Cert.FfnoutKIdeal.τ).loc Cert.FfnoutKIdeal.main_arg3))
      ∧ θ_run (Cert.FfnoutRIdeal.defs (F := Ideal)) (onTc (τ := Cert.FfnoutRIdeal.τ) (Cert.FfnoutRIdeal.main (F := Ideal))) ⟨m', fun _ => 0, g'⟩ (fun r => ∀ c : Dev Cert.FfnoutRIdeal.nD,
          r.2.mem ((c.tc : Thread Cert.FfnoutRIdeal.nD Cert.FfnoutRIdeal.τ).loc Cert.FfnoutRIdeal.main_v6) = v0 c
          ∧ r.2.mem ((c.tc : Thread Cert.FfnoutRIdeal.nD Cert.FfnoutRIdeal.τ).loc Cert.FfnoutRIdeal.main_arg0) = m' ((c.tc : Thread Cert.FfnoutRIdeal.nD Cert.FfnoutRIdeal.τ).loc Cert.FfnoutRIdeal.main_arg0)
          ∧ r.2.mem ((c.tc : Thread Cert.FfnoutRIdeal.nD Cert.FfnoutRIdeal.τ).loc Cert.FfnoutRIdeal.main_arg1) = m' ((c.tc : Thread Cert.FfnoutRIdeal.nD Cert.FfnoutRIdeal.τ).loc Cert.FfnoutRIdeal.main_arg1)
          ∧ r.2.mem ((c.tc : Thread Cert.FfnoutRIdeal.nD Cert.FfnoutRIdeal.τ).loc Cert.FfnoutRIdeal.main_arg2) = m' ((c.tc : Thread Cert.FfnoutRIdeal.nD Cert.FfnoutRIdeal.τ).loc Cert.FfnoutRIdeal.main_arg2)
          ∧ r.2.mem ((c.tc : Thread Cert.FfnoutRIdeal.nD Cert.FfnoutRIdeal.τ).loc Cert.FfnoutRIdeal.main_arg3) = m' ((c.tc : Thread Cert.FfnoutRIdeal.nD Cert.FfnoutRIdeal.τ).loc Cert.FfnoutRIdeal.main_arg3))

def preserves_RmsfK_RmsfKIdeal : Prop :=
  True

def algebraic_RmsfKIdeal_RmsfRIdeal [hRmsfKIdeal : Cert.RmsfKIdeal.Facts] [hRmsfRIdeal : Cert.RmsfRIdeal.Facts] : Prop :=
  ∀ (m : (ℓ : Loc Cert.RmsfKIdeal.nD Cert.RmsfKIdeal.τ Cert.RmsfKIdeal.sig) → Buf (Elt Ideal) ℓ) (g : Dev Cert.RmsfKIdeal.nD → PrngReg)
    (m' : (ℓ : Loc Cert.RmsfRIdeal.nD Cert.RmsfRIdeal.τ Cert.RmsfRIdeal.sig) → Buf (Elt Ideal) ℓ) (g' : Dev Cert.RmsfRIdeal.nD → PrngReg), Pre_RmsfKIdeal m →
    (∀ c : Dev Cert.RmsfKIdeal.nD,
      m' ((c.tc : Thread Cert.RmsfRIdeal.nD Cert.RmsfRIdeal.τ).loc Cert.RmsfRIdeal.main_arg0) = m ((c.tc : Thread Cert.RmsfKIdeal.nD Cert.RmsfKIdeal.τ).loc Cert.RmsfKIdeal.main_arg0)
      ∧ m' ((c.tc : Thread Cert.RmsfRIdeal.nD Cert.RmsfRIdeal.τ).loc Cert.RmsfRIdeal.main_arg1) = m ((c.tc : Thread Cert.RmsfKIdeal.nD Cert.RmsfKIdeal.τ).loc Cert.RmsfKIdeal.main_arg1)) →
    ∃ (v0 : (c : Dev Cert.RmsfKIdeal.nD) → Buf (Elt Ideal) ((c.tc : Thread Cert.RmsfKIdeal.nD Cert.RmsfKIdeal.τ).loc Cert.RmsfKIdeal.main_v2)),
      θ_run (Cert.RmsfKIdeal.defs (F := Ideal)) (onTc (τ := Cert.RmsfKIdeal.τ) (Cert.RmsfKIdeal.main (F := Ideal))) ⟨m, fun _ => 0, g⟩ (fun r => ∀ c : Dev Cert.RmsfKIdeal.nD,
          r.2.mem ((c.tc : Thread Cert.RmsfKIdeal.nD Cert.RmsfKIdeal.τ).loc Cert.RmsfKIdeal.main_v2) = v0 c
          ∧ r.2.mem ((c.tc : Thread Cert.RmsfKIdeal.nD Cert.RmsfKIdeal.τ).loc Cert.RmsfKIdeal.main_arg0) = m ((c.tc : Thread Cert.RmsfKIdeal.nD Cert.RmsfKIdeal.τ).loc Cert.RmsfKIdeal.main_arg0)
          ∧ r.2.mem ((c.tc : Thread Cert.RmsfKIdeal.nD Cert.RmsfKIdeal.τ).loc Cert.RmsfKIdeal.main_arg1) = m ((c.tc : Thread Cert.RmsfKIdeal.nD Cert.RmsfKIdeal.τ).loc Cert.RmsfKIdeal.main_arg1))
      ∧ θ_run (Cert.RmsfRIdeal.defs (F := Ideal)) (onTc (τ := Cert.RmsfRIdeal.τ) (Cert.RmsfRIdeal.main (F := Ideal))) ⟨m', fun _ => 0, g'⟩ (fun r => ∀ c : Dev Cert.RmsfRIdeal.nD,
          r.2.mem ((c.tc : Thread Cert.RmsfRIdeal.nD Cert.RmsfRIdeal.τ).loc Cert.RmsfRIdeal.main_v14) = v0 c
          ∧ r.2.mem ((c.tc : Thread Cert.RmsfRIdeal.nD Cert.RmsfRIdeal.τ).loc Cert.RmsfRIdeal.main_arg0) = m' ((c.tc : Thread Cert.RmsfRIdeal.nD Cert.RmsfRIdeal.τ).loc Cert.RmsfRIdeal.main_arg0)
          ∧ r.2.mem ((c.tc : Thread Cert.RmsfRIdeal.nD Cert.RmsfRIdeal.τ).loc Cert.RmsfRIdeal.main_arg1) = m' ((c.tc : Thread Cert.RmsfRIdeal.nD Cert.RmsfRIdeal.τ).loc Cert.RmsfRIdeal.main_arg1))

def preserves_QkfK_QkfKIdeal : Prop :=
  True

def algebraic_QkfKIdeal_QkfRIdeal_pre_qkf_finite [hQkfKIdeal : Cert.QkfKIdeal.Facts] [hQkfRIdeal : Cert.QkfRIdeal.Facts] [hPre_qkf_finite : Cert.Pre_qkf_finite.Facts] : Prop :=
  ∀ (m : (ℓ : Loc Cert.QkfKIdeal.nD Cert.QkfKIdeal.τ Cert.QkfKIdeal.sig) → Buf (Elt Ideal) ℓ) (g : Dev Cert.QkfKIdeal.nD → PrngReg)
    (m' : (ℓ : Loc Cert.QkfRIdeal.nD Cert.QkfRIdeal.τ Cert.QkfRIdeal.sig) → Buf (Elt Ideal) ℓ) (g' : Dev Cert.QkfRIdeal.nD → PrngReg), Pre_QkfKIdeal_qkf_finite m →
    (∀ c : Dev Cert.QkfKIdeal.nD,
      m' ((c.tc : Thread Cert.QkfRIdeal.nD Cert.QkfRIdeal.τ).loc Cert.QkfRIdeal.main_arg0) = m ((c.tc : Thread Cert.QkfKIdeal.nD Cert.QkfKIdeal.τ).loc Cert.QkfKIdeal.main_arg0)
      ∧ m' ((c.tc : Thread Cert.QkfRIdeal.nD Cert.QkfRIdeal.τ).loc Cert.QkfRIdeal.main_arg1) = m ((c.tc : Thread Cert.QkfKIdeal.nD Cert.QkfKIdeal.τ).loc Cert.QkfKIdeal.main_arg1)
      ∧ m' ((c.tc : Thread Cert.QkfRIdeal.nD Cert.QkfRIdeal.τ).loc Cert.QkfRIdeal.main_arg2) = m ((c.tc : Thread Cert.QkfKIdeal.nD Cert.QkfKIdeal.τ).loc Cert.QkfKIdeal.main_arg2)) →
    ∃ (v0 : (c : Dev Cert.QkfKIdeal.nD) → Buf (Elt Ideal) ((c.tc : Thread Cert.QkfKIdeal.nD Cert.QkfKIdeal.τ).loc Cert.QkfKIdeal.main_v64_0)) (v1 : (c : Dev Cert.QkfKIdeal.nD) → Buf (Elt Ideal) ((c.tc : Thread Cert.QkfKIdeal.nD Cert.QkfKIdeal.τ).loc Cert.QkfKIdeal.main_v64_1)),
      θ_run (Cert.QkfKIdeal.defs (F := Ideal)) (onTc (τ := Cert.QkfKIdeal.τ) (Cert.QkfKIdeal.main (F := Ideal))) ⟨m, fun _ => 0, g⟩ (fun r => ∀ c : Dev Cert.QkfKIdeal.nD,
          r.2.mem ((c.tc : Thread Cert.QkfKIdeal.nD Cert.QkfKIdeal.τ).loc Cert.QkfKIdeal.main_v64_0) = v0 c
          ∧ r.2.mem ((c.tc : Thread Cert.QkfKIdeal.nD Cert.QkfKIdeal.τ).loc Cert.QkfKIdeal.main_v64_1) = v1 c
          ∧ r.2.mem ((c.tc : Thread Cert.QkfKIdeal.nD Cert.QkfKIdeal.τ).loc Cert.QkfKIdeal.main_arg0) = m ((c.tc : Thread Cert.QkfKIdeal.nD Cert.QkfKIdeal.τ).loc Cert.QkfKIdeal.main_arg0)
          ∧ r.2.mem ((c.tc : Thread Cert.QkfKIdeal.nD Cert.QkfKIdeal.τ).loc Cert.QkfKIdeal.main_arg1) = m ((c.tc : Thread Cert.QkfKIdeal.nD Cert.QkfKIdeal.τ).loc Cert.QkfKIdeal.main_arg1)
          ∧ r.2.mem ((c.tc : Thread Cert.QkfKIdeal.nD Cert.QkfKIdeal.τ).loc Cert.QkfKIdeal.main_arg2) = m ((c.tc : Thread Cert.QkfKIdeal.nD Cert.QkfKIdeal.τ).loc Cert.QkfKIdeal.main_arg2))
      ∧ θ_run (Cert.QkfRIdeal.defs (F := Ideal)) (onTc (τ := Cert.QkfRIdeal.τ) (Cert.QkfRIdeal.main (F := Ideal))) ⟨m', fun _ => 0, g'⟩ (fun r => ∀ c : Dev Cert.QkfRIdeal.nD,
          r.2.mem ((c.tc : Thread Cert.QkfRIdeal.nD Cert.QkfRIdeal.τ).loc Cert.QkfRIdeal.main_v104) = v0 c
          ∧ r.2.mem ((c.tc : Thread Cert.QkfRIdeal.nD Cert.QkfRIdeal.τ).loc Cert.QkfRIdeal.main_v106) = v1 c
          ∧ r.2.mem ((c.tc : Thread Cert.QkfRIdeal.nD Cert.QkfRIdeal.τ).loc Cert.QkfRIdeal.main_arg0) = m' ((c.tc : Thread Cert.QkfRIdeal.nD Cert.QkfRIdeal.τ).loc Cert.QkfRIdeal.main_arg0)
          ∧ r.2.mem ((c.tc : Thread Cert.QkfRIdeal.nD Cert.QkfRIdeal.τ).loc Cert.QkfRIdeal.main_arg1) = m' ((c.tc : Thread Cert.QkfRIdeal.nD Cert.QkfRIdeal.τ).loc Cert.QkfRIdeal.main_arg1)
          ∧ r.2.mem ((c.tc : Thread Cert.QkfRIdeal.nD Cert.QkfRIdeal.τ).loc Cert.QkfRIdeal.main_arg2) = m' ((c.tc : Thread Cert.QkfRIdeal.nD Cert.QkfRIdeal.τ).loc Cert.QkfRIdeal.main_arg2))

def preserves_PinK_PinKIdeal : Prop :=
  True

def algebraic_PinKIdeal_PinRIdeal [hPinKIdeal : Cert.PinKIdeal.Facts] [hPinRIdeal : Cert.PinRIdeal.Facts] : Prop :=
  ∀ (m : (ℓ : Loc Cert.PinKIdeal.nD Cert.PinKIdeal.τ Cert.PinKIdeal.sig) → Buf (Elt Ideal) ℓ) (g : Dev Cert.PinKIdeal.nD → PrngReg)
    (m' : (ℓ : Loc Cert.PinRIdeal.nD Cert.PinRIdeal.τ Cert.PinRIdeal.sig) → Buf (Elt Ideal) ℓ) (g' : Dev Cert.PinRIdeal.nD → PrngReg), Pre_PinKIdeal m →
    (∀ c : Dev Cert.PinKIdeal.nD,
      m' ((c.tc : Thread Cert.PinRIdeal.nD Cert.PinRIdeal.τ).loc Cert.PinRIdeal.main_arg0) = m ((c.tc : Thread Cert.PinKIdeal.nD Cert.PinKIdeal.τ).loc Cert.PinKIdeal.main_arg0)
      ∧ m' ((c.tc : Thread Cert.PinRIdeal.nD Cert.PinRIdeal.τ).loc Cert.PinRIdeal.main_arg1) = m ((c.tc : Thread Cert.PinKIdeal.nD Cert.PinKIdeal.τ).loc Cert.PinKIdeal.main_arg1)) →
    ∃ (v0 : (c : Dev Cert.PinKIdeal.nD) → Buf (Elt Ideal) ((c.tc : Thread Cert.PinKIdeal.nD Cert.PinKIdeal.τ).loc Cert.PinKIdeal.main_v3)),
      θ_run (Cert.PinKIdeal.defs (F := Ideal)) (onTc (τ := Cert.PinKIdeal.τ) (Cert.PinKIdeal.main (F := Ideal))) ⟨m, fun _ => 0, g⟩ (fun r => ∀ c : Dev Cert.PinKIdeal.nD,
          r.2.mem ((c.tc : Thread Cert.PinKIdeal.nD Cert.PinKIdeal.τ).loc Cert.PinKIdeal.main_v3) = v0 c
          ∧ r.2.mem ((c.tc : Thread Cert.PinKIdeal.nD Cert.PinKIdeal.τ).loc Cert.PinKIdeal.main_arg0) = m ((c.tc : Thread Cert.PinKIdeal.nD Cert.PinKIdeal.τ).loc Cert.PinKIdeal.main_arg0)
          ∧ r.2.mem ((c.tc : Thread Cert.PinKIdeal.nD Cert.PinKIdeal.τ).loc Cert.PinKIdeal.main_arg1) = m ((c.tc : Thread Cert.PinKIdeal.nD Cert.PinKIdeal.τ).loc Cert.PinKIdeal.main_arg1))
      ∧ θ_run (Cert.PinRIdeal.defs (F := Ideal)) (onTc (τ := Cert.PinRIdeal.τ) (Cert.PinRIdeal.main (F := Ideal))) ⟨m', fun _ => 0, g'⟩ (fun r => ∀ c : Dev Cert.PinRIdeal.nD,
          r.2.mem ((c.tc : Thread Cert.PinRIdeal.nD Cert.PinRIdeal.τ).loc Cert.PinRIdeal.main_v2) = v0 c
          ∧ r.2.mem ((c.tc : Thread Cert.PinRIdeal.nD Cert.PinRIdeal.τ).loc Cert.PinRIdeal.main_arg0) = m' ((c.tc : Thread Cert.PinRIdeal.nD Cert.PinRIdeal.τ).loc Cert.PinRIdeal.main_arg0)
          ∧ r.2.mem ((c.tc : Thread Cert.PinRIdeal.nD Cert.PinRIdeal.τ).loc Cert.PinRIdeal.main_arg1) = m' ((c.tc : Thread Cert.PinRIdeal.nD Cert.PinRIdeal.τ).loc Cert.PinRIdeal.main_arg1))

def preserves_PoutK_PoutKIdeal : Prop :=
  True

def algebraic_PoutKIdeal_PoutRIdeal [hPoutKIdeal : Cert.PoutKIdeal.Facts] [hPoutRIdeal : Cert.PoutRIdeal.Facts] : Prop :=
  ∀ (m : (ℓ : Loc Cert.PoutKIdeal.nD Cert.PoutKIdeal.τ Cert.PoutKIdeal.sig) → Buf (Elt Ideal) ℓ) (g : Dev Cert.PoutKIdeal.nD → PrngReg)
    (m' : (ℓ : Loc Cert.PoutRIdeal.nD Cert.PoutRIdeal.τ Cert.PoutRIdeal.sig) → Buf (Elt Ideal) ℓ) (g' : Dev Cert.PoutRIdeal.nD → PrngReg), Pre_PoutKIdeal m →
    (∀ c : Dev Cert.PoutKIdeal.nD,
      m' ((c.tc : Thread Cert.PoutRIdeal.nD Cert.PoutRIdeal.τ).loc Cert.PoutRIdeal.main_arg0) = m ((c.tc : Thread Cert.PoutKIdeal.nD Cert.PoutKIdeal.τ).loc Cert.PoutKIdeal.main_arg0)
      ∧ m' ((c.tc : Thread Cert.PoutRIdeal.nD Cert.PoutRIdeal.τ).loc Cert.PoutRIdeal.main_arg1) = m ((c.tc : Thread Cert.PoutKIdeal.nD Cert.PoutKIdeal.τ).loc Cert.PoutKIdeal.main_arg1)
      ∧ m' ((c.tc : Thread Cert.PoutRIdeal.nD Cert.PoutRIdeal.τ).loc Cert.PoutRIdeal.main_arg2) = m ((c.tc : Thread Cert.PoutKIdeal.nD Cert.PoutKIdeal.τ).loc Cert.PoutKIdeal.main_arg2)
      ∧ m' ((c.tc : Thread Cert.PoutRIdeal.nD Cert.PoutRIdeal.τ).loc Cert.PoutRIdeal.main_arg3) = m ((c.tc : Thread Cert.PoutKIdeal.nD Cert.PoutKIdeal.τ).loc Cert.PoutKIdeal.main_arg3)) →
    ∃ (v0 : (c : Dev Cert.PoutKIdeal.nD) → Buf (Elt Ideal) ((c.tc : Thread Cert.PoutKIdeal.nD Cert.PoutKIdeal.τ).loc Cert.PoutKIdeal.main_v6)),
      θ_run (Cert.PoutKIdeal.defs (F := Ideal)) (onTc (τ := Cert.PoutKIdeal.τ) (Cert.PoutKIdeal.main (F := Ideal))) ⟨m, fun _ => 0, g⟩ (fun r => ∀ c : Dev Cert.PoutKIdeal.nD,
          r.2.mem ((c.tc : Thread Cert.PoutKIdeal.nD Cert.PoutKIdeal.τ).loc Cert.PoutKIdeal.main_v6) = v0 c
          ∧ r.2.mem ((c.tc : Thread Cert.PoutKIdeal.nD Cert.PoutKIdeal.τ).loc Cert.PoutKIdeal.main_arg0) = m ((c.tc : Thread Cert.PoutKIdeal.nD Cert.PoutKIdeal.τ).loc Cert.PoutKIdeal.main_arg0)
          ∧ r.2.mem ((c.tc : Thread Cert.PoutKIdeal.nD Cert.PoutKIdeal.τ).loc Cert.PoutKIdeal.main_arg1) = m ((c.tc : Thread Cert.PoutKIdeal.nD Cert.PoutKIdeal.τ).loc Cert.PoutKIdeal.main_arg1)
          ∧ r.2.mem ((c.tc : Thread Cert.PoutKIdeal.nD Cert.PoutKIdeal.τ).loc Cert.PoutKIdeal.main_arg2) = m ((c.tc : Thread Cert.PoutKIdeal.nD Cert.PoutKIdeal.τ).loc Cert.PoutKIdeal.main_arg2)
          ∧ r.2.mem ((c.tc : Thread Cert.PoutKIdeal.nD Cert.PoutKIdeal.τ).loc Cert.PoutKIdeal.main_arg3) = m ((c.tc : Thread Cert.PoutKIdeal.nD Cert.PoutKIdeal.τ).loc Cert.PoutKIdeal.main_arg3))
      ∧ θ_run (Cert.PoutRIdeal.defs (F := Ideal)) (onTc (τ := Cert.PoutRIdeal.τ) (Cert.PoutRIdeal.main (F := Ideal))) ⟨m', fun _ => 0, g'⟩ (fun r => ∀ c : Dev Cert.PoutRIdeal.nD,
          r.2.mem ((c.tc : Thread Cert.PoutRIdeal.nD Cert.PoutRIdeal.τ).loc Cert.PoutRIdeal.main_v3) = v0 c
          ∧ r.2.mem ((c.tc : Thread Cert.PoutRIdeal.nD Cert.PoutRIdeal.τ).loc Cert.PoutRIdeal.main_arg0) = m' ((c.tc : Thread Cert.PoutRIdeal.nD Cert.PoutRIdeal.τ).loc Cert.PoutRIdeal.main_arg0)
          ∧ r.2.mem ((c.tc : Thread Cert.PoutRIdeal.nD Cert.PoutRIdeal.τ).loc Cert.PoutRIdeal.main_arg1) = m' ((c.tc : Thread Cert.PoutRIdeal.nD Cert.PoutRIdeal.τ).loc Cert.PoutRIdeal.main_arg1)
          ∧ r.2.mem ((c.tc : Thread Cert.PoutRIdeal.nD Cert.PoutRIdeal.τ).loc Cert.PoutRIdeal.main_arg2) = m' ((c.tc : Thread Cert.PoutRIdeal.nD Cert.PoutRIdeal.τ).loc Cert.PoutRIdeal.main_arg2)
          ∧ r.2.mem ((c.tc : Thread Cert.PoutRIdeal.nD Cert.PoutRIdeal.τ).loc Cert.PoutRIdeal.main_arg3) = m' ((c.tc : Thread Cert.PoutRIdeal.nD Cert.PoutRIdeal.τ).loc Cert.PoutRIdeal.main_arg3))

def preserves_DmixK_DmixKIdeal : Prop :=
  True

def algebraic_DmixKIdeal_DmixRIdeal [hDmixKIdeal : Cert.DmixKIdeal.Facts] [hDmixRIdeal : Cert.DmixRIdeal.Facts] : Prop :=
  ∀ (m : (ℓ : Loc Cert.DmixKIdeal.nD Cert.DmixKIdeal.τ Cert.DmixKIdeal.sig) → Buf (Elt Ideal) ℓ) (g : Dev Cert.DmixKIdeal.nD → PrngReg)
    (m' : (ℓ : Loc Cert.DmixRIdeal.nD Cert.DmixRIdeal.τ Cert.DmixRIdeal.sig) → Buf (Elt Ideal) ℓ) (g' : Dev Cert.DmixRIdeal.nD → PrngReg), Pre_DmixKIdeal m →
    (∀ c : Dev Cert.DmixKIdeal.nD,
      m' ((c.tc : Thread Cert.DmixRIdeal.nD Cert.DmixRIdeal.τ).loc Cert.DmixRIdeal.main_arg0) = m ((c.tc : Thread Cert.DmixKIdeal.nD Cert.DmixKIdeal.τ).loc Cert.DmixKIdeal.main_arg0)
      ∧ m' ((c.tc : Thread Cert.DmixRIdeal.nD Cert.DmixRIdeal.τ).loc Cert.DmixRIdeal.main_arg1) = m ((c.tc : Thread Cert.DmixKIdeal.nD Cert.DmixKIdeal.τ).loc Cert.DmixKIdeal.main_arg1)
      ∧ m' ((c.tc : Thread Cert.DmixRIdeal.nD Cert.DmixRIdeal.τ).loc Cert.DmixRIdeal.main_arg2) = m ((c.tc : Thread Cert.DmixKIdeal.nD Cert.DmixKIdeal.τ).loc Cert.DmixKIdeal.main_arg2)) →
    ∃ (v0 : (c : Dev Cert.DmixKIdeal.nD) → Buf (Elt Ideal) ((c.tc : Thread Cert.DmixKIdeal.nD Cert.DmixKIdeal.τ).loc Cert.DmixKIdeal.main_v3)),
      θ_run (Cert.DmixKIdeal.defs (F := Ideal)) (onTc (τ := Cert.DmixKIdeal.τ) (Cert.DmixKIdeal.main (F := Ideal))) ⟨m, fun _ => 0, g⟩ (fun r => ∀ c : Dev Cert.DmixKIdeal.nD,
          r.2.mem ((c.tc : Thread Cert.DmixKIdeal.nD Cert.DmixKIdeal.τ).loc Cert.DmixKIdeal.main_v3) = v0 c
          ∧ r.2.mem ((c.tc : Thread Cert.DmixKIdeal.nD Cert.DmixKIdeal.τ).loc Cert.DmixKIdeal.main_arg0) = m ((c.tc : Thread Cert.DmixKIdeal.nD Cert.DmixKIdeal.τ).loc Cert.DmixKIdeal.main_arg0)
          ∧ r.2.mem ((c.tc : Thread Cert.DmixKIdeal.nD Cert.DmixKIdeal.τ).loc Cert.DmixKIdeal.main_arg1) = m ((c.tc : Thread Cert.DmixKIdeal.nD Cert.DmixKIdeal.τ).loc Cert.DmixKIdeal.main_arg1)
          ∧ r.2.mem ((c.tc : Thread Cert.DmixKIdeal.nD Cert.DmixKIdeal.τ).loc Cert.DmixKIdeal.main_arg2) = m ((c.tc : Thread Cert.DmixKIdeal.nD Cert.DmixKIdeal.τ).loc Cert.DmixKIdeal.main_arg2))
      ∧ θ_run (Cert.DmixRIdeal.defs (F := Ideal)) (onTc (τ := Cert.DmixRIdeal.τ) (Cert.DmixRIdeal.main (F := Ideal))) ⟨m', fun _ => 0, g'⟩ (fun r => ∀ c : Dev Cert.DmixRIdeal.nD,
          r.2.mem ((c.tc : Thread Cert.DmixRIdeal.nD Cert.DmixRIdeal.τ).loc Cert.DmixRIdeal.main_v4) = v0 c
          ∧ r.2.mem ((c.tc : Thread Cert.DmixRIdeal.nD Cert.DmixRIdeal.τ).loc Cert.DmixRIdeal.main_arg0) = m' ((c.tc : Thread Cert.DmixRIdeal.nD Cert.DmixRIdeal.τ).loc Cert.DmixRIdeal.main_arg0)
          ∧ r.2.mem ((c.tc : Thread Cert.DmixRIdeal.nD Cert.DmixRIdeal.τ).loc Cert.DmixRIdeal.main_arg1) = m' ((c.tc : Thread Cert.DmixRIdeal.nD Cert.DmixRIdeal.τ).loc Cert.DmixRIdeal.main_arg1)
          ∧ r.2.mem ((c.tc : Thread Cert.DmixRIdeal.nD Cert.DmixRIdeal.τ).loc Cert.DmixRIdeal.main_arg2) = m' ((c.tc : Thread Cert.DmixRIdeal.nD Cert.DmixRIdeal.τ).loc Cert.DmixRIdeal.main_arg2))

def preserves_MdwK_MdwKIdeal : Prop :=
  True

def algebraic_MdwKIdeal_MdwRIdeal [hMdwKIdeal : Cert.MdwKIdeal.Facts] [hMdwRIdeal : Cert.MdwRIdeal.Facts] : Prop :=
  ∀ (m : (ℓ : Loc Cert.MdwKIdeal.nD Cert.MdwKIdeal.τ Cert.MdwKIdeal.sig) → Buf (Elt Ideal) ℓ) (g : Dev Cert.MdwKIdeal.nD → PrngReg)
    (m' : (ℓ : Loc Cert.MdwRIdeal.nD Cert.MdwRIdeal.τ Cert.MdwRIdeal.sig) → Buf (Elt Ideal) ℓ) (g' : Dev Cert.MdwRIdeal.nD → PrngReg), Pre_MdwKIdeal m →
    (∀ c : Dev Cert.MdwKIdeal.nD,
      m' ((c.tc : Thread Cert.MdwRIdeal.nD Cert.MdwRIdeal.τ).loc Cert.MdwRIdeal.main_arg0) = m ((c.tc : Thread Cert.MdwKIdeal.nD Cert.MdwKIdeal.τ).loc Cert.MdwKIdeal.main_arg0)
      ∧ m' ((c.tc : Thread Cert.MdwRIdeal.nD Cert.MdwRIdeal.τ).loc Cert.MdwRIdeal.main_arg1) = m ((c.tc : Thread Cert.MdwKIdeal.nD Cert.MdwKIdeal.τ).loc Cert.MdwKIdeal.main_arg1)
      ∧ m' ((c.tc : Thread Cert.MdwRIdeal.nD Cert.MdwRIdeal.τ).loc Cert.MdwRIdeal.main_arg2) = m ((c.tc : Thread Cert.MdwKIdeal.nD Cert.MdwKIdeal.τ).loc Cert.MdwKIdeal.main_arg2)
      ∧ m' ((c.tc : Thread Cert.MdwRIdeal.nD Cert.MdwRIdeal.τ).loc Cert.MdwRIdeal.main_arg3) = m ((c.tc : Thread Cert.MdwKIdeal.nD Cert.MdwKIdeal.τ).loc Cert.MdwKIdeal.main_arg3)) →
    ∃ (v0 : (c : Dev Cert.MdwKIdeal.nD) → Buf (Elt Ideal) ((c.tc : Thread Cert.MdwKIdeal.nD Cert.MdwKIdeal.τ).loc Cert.MdwKIdeal.main_v6)),
      θ_run (Cert.MdwKIdeal.defs (F := Ideal)) (onTc (τ := Cert.MdwKIdeal.τ) (Cert.MdwKIdeal.main (F := Ideal))) ⟨m, fun _ => 0, g⟩ (fun r => ∀ c : Dev Cert.MdwKIdeal.nD,
          r.2.mem ((c.tc : Thread Cert.MdwKIdeal.nD Cert.MdwKIdeal.τ).loc Cert.MdwKIdeal.main_v6) = v0 c
          ∧ r.2.mem ((c.tc : Thread Cert.MdwKIdeal.nD Cert.MdwKIdeal.τ).loc Cert.MdwKIdeal.main_arg0) = m ((c.tc : Thread Cert.MdwKIdeal.nD Cert.MdwKIdeal.τ).loc Cert.MdwKIdeal.main_arg0)
          ∧ r.2.mem ((c.tc : Thread Cert.MdwKIdeal.nD Cert.MdwKIdeal.τ).loc Cert.MdwKIdeal.main_arg1) = m ((c.tc : Thread Cert.MdwKIdeal.nD Cert.MdwKIdeal.τ).loc Cert.MdwKIdeal.main_arg1)
          ∧ r.2.mem ((c.tc : Thread Cert.MdwKIdeal.nD Cert.MdwKIdeal.τ).loc Cert.MdwKIdeal.main_arg2) = m ((c.tc : Thread Cert.MdwKIdeal.nD Cert.MdwKIdeal.τ).loc Cert.MdwKIdeal.main_arg2)
          ∧ r.2.mem ((c.tc : Thread Cert.MdwKIdeal.nD Cert.MdwKIdeal.τ).loc Cert.MdwKIdeal.main_arg3) = m ((c.tc : Thread Cert.MdwKIdeal.nD Cert.MdwKIdeal.τ).loc Cert.MdwKIdeal.main_arg3))
      ∧ θ_run (Cert.MdwRIdeal.defs (F := Ideal)) (onTc (τ := Cert.MdwRIdeal.τ) (Cert.MdwRIdeal.main (F := Ideal))) ⟨m', fun _ => 0, g'⟩ (fun r => ∀ c : Dev Cert.MdwRIdeal.nD,
          r.2.mem ((c.tc : Thread Cert.MdwRIdeal.nD Cert.MdwRIdeal.τ).loc Cert.MdwRIdeal.main_v5) = v0 c
          ∧ r.2.mem ((c.tc : Thread Cert.MdwRIdeal.nD Cert.MdwRIdeal.τ).loc Cert.MdwRIdeal.main_arg0) = m' ((c.tc : Thread Cert.MdwRIdeal.nD Cert.MdwRIdeal.τ).loc Cert.MdwRIdeal.main_arg0)
          ∧ r.2.mem ((c.tc : Thread Cert.MdwRIdeal.nD Cert.MdwRIdeal.τ).loc Cert.MdwRIdeal.main_arg1) = m' ((c.tc : Thread Cert.MdwRIdeal.nD Cert.MdwRIdeal.τ).loc Cert.MdwRIdeal.main_arg1)
          ∧ r.2.mem ((c.tc : Thread Cert.MdwRIdeal.nD Cert.MdwRIdeal.τ).loc Cert.MdwRIdeal.main_arg2) = m' ((c.tc : Thread Cert.MdwRIdeal.nD Cert.MdwRIdeal.τ).loc Cert.MdwRIdeal.main_arg2)
          ∧ r.2.mem ((c.tc : Thread Cert.MdwRIdeal.nD Cert.MdwRIdeal.τ).loc Cert.MdwRIdeal.main_arg3) = m' ((c.tc : Thread Cert.MdwRIdeal.nD Cert.MdwRIdeal.τ).loc Cert.MdwRIdeal.main_arg3))

def preserves_MdwinK_MdwinKIdeal : Prop :=
  True

def algebraic_MdwinKIdeal_MdwinRIdeal [hMdwinKIdeal : Cert.MdwinKIdeal.Facts] [hMdwinRIdeal : Cert.MdwinRIdeal.Facts] : Prop :=
  ∀ (m : (ℓ : Loc Cert.MdwinKIdeal.nD Cert.MdwinKIdeal.τ Cert.MdwinKIdeal.sig) → Buf (Elt Ideal) ℓ) (g : Dev Cert.MdwinKIdeal.nD → PrngReg)
    (m' : (ℓ : Loc Cert.MdwinRIdeal.nD Cert.MdwinRIdeal.τ Cert.MdwinRIdeal.sig) → Buf (Elt Ideal) ℓ) (g' : Dev Cert.MdwinRIdeal.nD → PrngReg), Pre_MdwinKIdeal m →
    (∀ c : Dev Cert.MdwinKIdeal.nD,
      m' ((c.tc : Thread Cert.MdwinRIdeal.nD Cert.MdwinRIdeal.τ).loc Cert.MdwinRIdeal.main_arg0) = m ((c.tc : Thread Cert.MdwinKIdeal.nD Cert.MdwinKIdeal.τ).loc Cert.MdwinKIdeal.main_arg0)
      ∧ m' ((c.tc : Thread Cert.MdwinRIdeal.nD Cert.MdwinRIdeal.τ).loc Cert.MdwinRIdeal.main_arg1) = m ((c.tc : Thread Cert.MdwinKIdeal.nD Cert.MdwinKIdeal.τ).loc Cert.MdwinKIdeal.main_arg1)
      ∧ m' ((c.tc : Thread Cert.MdwinRIdeal.nD Cert.MdwinRIdeal.τ).loc Cert.MdwinRIdeal.main_arg2) = m ((c.tc : Thread Cert.MdwinKIdeal.nD Cert.MdwinKIdeal.τ).loc Cert.MdwinKIdeal.main_arg2)
      ∧ m' ((c.tc : Thread Cert.MdwinRIdeal.nD Cert.MdwinRIdeal.τ).loc Cert.MdwinRIdeal.main_arg3) = m ((c.tc : Thread Cert.MdwinKIdeal.nD Cert.MdwinKIdeal.τ).loc Cert.MdwinKIdeal.main_arg3)
      ∧ m' ((c.tc : Thread Cert.MdwinRIdeal.nD Cert.MdwinRIdeal.τ).loc Cert.MdwinRIdeal.main_arg4) = m ((c.tc : Thread Cert.MdwinKIdeal.nD Cert.MdwinKIdeal.τ).loc Cert.MdwinKIdeal.main_arg4)
      ∧ m' ((c.tc : Thread Cert.MdwinRIdeal.nD Cert.MdwinRIdeal.τ).loc Cert.MdwinRIdeal.main_arg5) = m ((c.tc : Thread Cert.MdwinKIdeal.nD Cert.MdwinKIdeal.τ).loc Cert.MdwinKIdeal.main_arg5)
      ∧ m' ((c.tc : Thread Cert.MdwinRIdeal.nD Cert.MdwinRIdeal.τ).loc Cert.MdwinRIdeal.main_arg6) = m ((c.tc : Thread Cert.MdwinKIdeal.nD Cert.MdwinKIdeal.τ).loc Cert.MdwinKIdeal.main_arg6)
      ∧ m' ((c.tc : Thread Cert.MdwinRIdeal.nD Cert.MdwinRIdeal.τ).loc Cert.MdwinRIdeal.main_arg7) = m ((c.tc : Thread Cert.MdwinKIdeal.nD Cert.MdwinKIdeal.τ).loc Cert.MdwinKIdeal.main_arg7)) →
    ∃ (v0 : (c : Dev Cert.MdwinKIdeal.nD) → Buf (Elt Ideal) ((c.tc : Thread Cert.MdwinKIdeal.nD Cert.MdwinKIdeal.τ).loc Cert.MdwinKIdeal.main_v13)),
      θ_run (Cert.MdwinKIdeal.defs (F := Ideal)) (onTc (τ := Cert.MdwinKIdeal.τ) (Cert.MdwinKIdeal.main (F := Ideal))) ⟨m, fun _ => 0, g⟩ (fun r => ∀ c : Dev Cert.MdwinKIdeal.nD,
          r.2.mem ((c.tc : Thread Cert.MdwinKIdeal.nD Cert.MdwinKIdeal.τ).loc Cert.MdwinKIdeal.main_v13) = v0 c
          ∧ r.2.mem ((c.tc : Thread Cert.MdwinKIdeal.nD Cert.MdwinKIdeal.τ).loc Cert.MdwinKIdeal.main_arg0) = m ((c.tc : Thread Cert.MdwinKIdeal.nD Cert.MdwinKIdeal.τ).loc Cert.MdwinKIdeal.main_arg0)
          ∧ r.2.mem ((c.tc : Thread Cert.MdwinKIdeal.nD Cert.MdwinKIdeal.τ).loc Cert.MdwinKIdeal.main_arg1) = m ((c.tc : Thread Cert.MdwinKIdeal.nD Cert.MdwinKIdeal.τ).loc Cert.MdwinKIdeal.main_arg1)
          ∧ r.2.mem ((c.tc : Thread Cert.MdwinKIdeal.nD Cert.MdwinKIdeal.τ).loc Cert.MdwinKIdeal.main_arg2) = m ((c.tc : Thread Cert.MdwinKIdeal.nD Cert.MdwinKIdeal.τ).loc Cert.MdwinKIdeal.main_arg2)
          ∧ r.2.mem ((c.tc : Thread Cert.MdwinKIdeal.nD Cert.MdwinKIdeal.τ).loc Cert.MdwinKIdeal.main_arg3) = m ((c.tc : Thread Cert.MdwinKIdeal.nD Cert.MdwinKIdeal.τ).loc Cert.MdwinKIdeal.main_arg3)
          ∧ r.2.mem ((c.tc : Thread Cert.MdwinKIdeal.nD Cert.MdwinKIdeal.τ).loc Cert.MdwinKIdeal.main_arg4) = m ((c.tc : Thread Cert.MdwinKIdeal.nD Cert.MdwinKIdeal.τ).loc Cert.MdwinKIdeal.main_arg4)
          ∧ r.2.mem ((c.tc : Thread Cert.MdwinKIdeal.nD Cert.MdwinKIdeal.τ).loc Cert.MdwinKIdeal.main_arg5) = m ((c.tc : Thread Cert.MdwinKIdeal.nD Cert.MdwinKIdeal.τ).loc Cert.MdwinKIdeal.main_arg5)
          ∧ r.2.mem ((c.tc : Thread Cert.MdwinKIdeal.nD Cert.MdwinKIdeal.τ).loc Cert.MdwinKIdeal.main_arg6) = m ((c.tc : Thread Cert.MdwinKIdeal.nD Cert.MdwinKIdeal.τ).loc Cert.MdwinKIdeal.main_arg6)
          ∧ r.2.mem ((c.tc : Thread Cert.MdwinKIdeal.nD Cert.MdwinKIdeal.τ).loc Cert.MdwinKIdeal.main_arg7) = m ((c.tc : Thread Cert.MdwinKIdeal.nD Cert.MdwinKIdeal.τ).loc Cert.MdwinKIdeal.main_arg7))
      ∧ θ_run (Cert.MdwinRIdeal.defs (F := Ideal)) (onTc (τ := Cert.MdwinRIdeal.τ) (Cert.MdwinRIdeal.main (F := Ideal))) ⟨m', fun _ => 0, g'⟩ (fun r => ∀ c : Dev Cert.MdwinRIdeal.nD,
          r.2.mem ((c.tc : Thread Cert.MdwinRIdeal.nD Cert.MdwinRIdeal.τ).loc Cert.MdwinRIdeal.main_v5) = v0 c
          ∧ r.2.mem ((c.tc : Thread Cert.MdwinRIdeal.nD Cert.MdwinRIdeal.τ).loc Cert.MdwinRIdeal.main_arg0) = m' ((c.tc : Thread Cert.MdwinRIdeal.nD Cert.MdwinRIdeal.τ).loc Cert.MdwinRIdeal.main_arg0)
          ∧ r.2.mem ((c.tc : Thread Cert.MdwinRIdeal.nD Cert.MdwinRIdeal.τ).loc Cert.MdwinRIdeal.main_arg1) = m' ((c.tc : Thread Cert.MdwinRIdeal.nD Cert.MdwinRIdeal.τ).loc Cert.MdwinRIdeal.main_arg1)
          ∧ r.2.mem ((c.tc : Thread Cert.MdwinRIdeal.nD Cert.MdwinRIdeal.τ).loc Cert.MdwinRIdeal.main_arg2) = m' ((c.tc : Thread Cert.MdwinRIdeal.nD Cert.MdwinRIdeal.τ).loc Cert.MdwinRIdeal.main_arg2)
          ∧ r.2.mem ((c.tc : Thread Cert.MdwinRIdeal.nD Cert.MdwinRIdeal.τ).loc Cert.MdwinRIdeal.main_arg3) = m' ((c.tc : Thread Cert.MdwinRIdeal.nD Cert.MdwinRIdeal.τ).loc Cert.MdwinRIdeal.main_arg3)
          ∧ r.2.mem ((c.tc : Thread Cert.MdwinRIdeal.nD Cert.MdwinRIdeal.τ).loc Cert.MdwinRIdeal.main_arg4) = m' ((c.tc : Thread Cert.MdwinRIdeal.nD Cert.MdwinRIdeal.τ).loc Cert.MdwinRIdeal.main_arg4)
          ∧ r.2.mem ((c.tc : Thread Cert.MdwinRIdeal.nD Cert.MdwinRIdeal.τ).loc Cert.MdwinRIdeal.main_arg5) = m' ((c.tc : Thread Cert.MdwinRIdeal.nD Cert.MdwinRIdeal.τ).loc Cert.MdwinRIdeal.main_arg5)
          ∧ r.2.mem ((c.tc : Thread Cert.MdwinRIdeal.nD Cert.MdwinRIdeal.τ).loc Cert.MdwinRIdeal.main_arg6) = m' ((c.tc : Thread Cert.MdwinRIdeal.nD Cert.MdwinRIdeal.τ).loc Cert.MdwinRIdeal.main_arg6)
          ∧ r.2.mem ((c.tc : Thread Cert.MdwinRIdeal.nD Cert.MdwinRIdeal.τ).loc Cert.MdwinRIdeal.main_arg7) = m' ((c.tc : Thread Cert.MdwinRIdeal.nD Cert.MdwinRIdeal.τ).loc Cert.MdwinRIdeal.main_arg7))

def preserves_FdwinK_FdwinKIdeal : Prop :=
  True

def algebraic_FdwinKIdeal_FdwinRIdeal [hFdwinKIdeal : Cert.FdwinKIdeal.Facts] [hFdwinRIdeal : Cert.FdwinRIdeal.Facts] : Prop :=
  ∀ (m : (ℓ : Loc Cert.FdwinKIdeal.nD Cert.FdwinKIdeal.τ Cert.FdwinKIdeal.sig) → Buf (Elt Ideal) ℓ) (g : Dev Cert.FdwinKIdeal.nD → PrngReg)
    (m' : (ℓ : Loc Cert.FdwinRIdeal.nD Cert.FdwinRIdeal.τ Cert.FdwinRIdeal.sig) → Buf (Elt Ideal) ℓ) (g' : Dev Cert.FdwinRIdeal.nD → PrngReg), Pre_FdwinKIdeal m →
    (∀ c : Dev Cert.FdwinKIdeal.nD,
      m' ((c.tc : Thread Cert.FdwinRIdeal.nD Cert.FdwinRIdeal.τ).loc Cert.FdwinRIdeal.main_arg0) = m ((c.tc : Thread Cert.FdwinKIdeal.nD Cert.FdwinKIdeal.τ).loc Cert.FdwinKIdeal.main_arg0)
      ∧ m' ((c.tc : Thread Cert.FdwinRIdeal.nD Cert.FdwinRIdeal.τ).loc Cert.FdwinRIdeal.main_arg1) = m ((c.tc : Thread Cert.FdwinKIdeal.nD Cert.FdwinKIdeal.τ).loc Cert.FdwinKIdeal.main_arg1)
      ∧ m' ((c.tc : Thread Cert.FdwinRIdeal.nD Cert.FdwinRIdeal.τ).loc Cert.FdwinRIdeal.main_arg2) = m ((c.tc : Thread Cert.FdwinKIdeal.nD Cert.FdwinKIdeal.τ).loc Cert.FdwinKIdeal.main_arg2)
      ∧ m' ((c.tc : Thread Cert.FdwinRIdeal.nD Cert.FdwinRIdeal.τ).loc Cert.FdwinRIdeal.main_arg3) = m ((c.tc : Thread Cert.FdwinKIdeal.nD Cert.FdwinKIdeal.τ).loc Cert.FdwinKIdeal.main_arg3)) →
    ∃ (v0 : (c : Dev Cert.FdwinKIdeal.nD) → Buf (Elt Ideal) ((c.tc : Thread Cert.FdwinKIdeal.nD Cert.FdwinKIdeal.τ).loc Cert.FdwinKIdeal.main_v7)),
      θ_run (Cert.FdwinKIdeal.defs (F := Ideal)) (onTc (τ := Cert.FdwinKIdeal.τ) (Cert.FdwinKIdeal.main (F := Ideal))) ⟨m, fun _ => 0, g⟩ (fun r => ∀ c : Dev Cert.FdwinKIdeal.nD,
          r.2.mem ((c.tc : Thread Cert.FdwinKIdeal.nD Cert.FdwinKIdeal.τ).loc Cert.FdwinKIdeal.main_v7) = v0 c
          ∧ r.2.mem ((c.tc : Thread Cert.FdwinKIdeal.nD Cert.FdwinKIdeal.τ).loc Cert.FdwinKIdeal.main_arg0) = m ((c.tc : Thread Cert.FdwinKIdeal.nD Cert.FdwinKIdeal.τ).loc Cert.FdwinKIdeal.main_arg0)
          ∧ r.2.mem ((c.tc : Thread Cert.FdwinKIdeal.nD Cert.FdwinKIdeal.τ).loc Cert.FdwinKIdeal.main_arg1) = m ((c.tc : Thread Cert.FdwinKIdeal.nD Cert.FdwinKIdeal.τ).loc Cert.FdwinKIdeal.main_arg1)
          ∧ r.2.mem ((c.tc : Thread Cert.FdwinKIdeal.nD Cert.FdwinKIdeal.τ).loc Cert.FdwinKIdeal.main_arg2) = m ((c.tc : Thread Cert.FdwinKIdeal.nD Cert.FdwinKIdeal.τ).loc Cert.FdwinKIdeal.main_arg2)
          ∧ r.2.mem ((c.tc : Thread Cert.FdwinKIdeal.nD Cert.FdwinKIdeal.τ).loc Cert.FdwinKIdeal.main_arg3) = m ((c.tc : Thread Cert.FdwinKIdeal.nD Cert.FdwinKIdeal.τ).loc Cert.FdwinKIdeal.main_arg3))
      ∧ θ_run (Cert.FdwinRIdeal.defs (F := Ideal)) (onTc (τ := Cert.FdwinRIdeal.τ) (Cert.FdwinRIdeal.main (F := Ideal))) ⟨m', fun _ => 0, g'⟩ (fun r => ∀ c : Dev Cert.FdwinRIdeal.nD,
          r.2.mem ((c.tc : Thread Cert.FdwinRIdeal.nD Cert.FdwinRIdeal.τ).loc Cert.FdwinRIdeal.main_v7) = v0 c
          ∧ r.2.mem ((c.tc : Thread Cert.FdwinRIdeal.nD Cert.FdwinRIdeal.τ).loc Cert.FdwinRIdeal.main_arg0) = m' ((c.tc : Thread Cert.FdwinRIdeal.nD Cert.FdwinRIdeal.τ).loc Cert.FdwinRIdeal.main_arg0)
          ∧ r.2.mem ((c.tc : Thread Cert.FdwinRIdeal.nD Cert.FdwinRIdeal.τ).loc Cert.FdwinRIdeal.main_arg1) = m' ((c.tc : Thread Cert.FdwinRIdeal.nD Cert.FdwinRIdeal.τ).loc Cert.FdwinRIdeal.main_arg1)
          ∧ r.2.mem ((c.tc : Thread Cert.FdwinRIdeal.nD Cert.FdwinRIdeal.τ).loc Cert.FdwinRIdeal.main_arg2) = m' ((c.tc : Thread Cert.FdwinRIdeal.nD Cert.FdwinRIdeal.τ).loc Cert.FdwinRIdeal.main_arg2)
          ∧ r.2.mem ((c.tc : Thread Cert.FdwinRIdeal.nD Cert.FdwinRIdeal.τ).loc Cert.FdwinRIdeal.main_arg3) = m' ((c.tc : Thread Cert.FdwinRIdeal.nD Cert.FdwinRIdeal.τ).loc Cert.FdwinRIdeal.main_arg3))

def preserves_OddfK_OddfKIdeal : Prop :=
  True

def preserves_OddbK_OddbKIdeal : Prop :=
  True

def preserves_AdamK_AdamKIdeal : Prop :=
  True

def algebraic_AdamKIdeal_AdamRIdeal [hAdamKIdeal : Cert.AdamKIdeal.Facts] [hAdamRIdeal : Cert.AdamRIdeal.Facts] : Prop :=
  ∀ (m : (ℓ : Loc Cert.AdamKIdeal.nD Cert.AdamKIdeal.τ Cert.AdamKIdeal.sig) → Buf (Elt Ideal) ℓ) (g : Dev Cert.AdamKIdeal.nD → PrngReg)
    (m' : (ℓ : Loc Cert.AdamRIdeal.nD Cert.AdamRIdeal.τ Cert.AdamRIdeal.sig) → Buf (Elt Ideal) ℓ) (g' : Dev Cert.AdamRIdeal.nD → PrngReg), Pre_AdamKIdeal m →
    (∀ c : Dev Cert.AdamKIdeal.nD,
      m' ((c.tc : Thread Cert.AdamRIdeal.nD Cert.AdamRIdeal.τ).loc Cert.AdamRIdeal.main_arg0) = m ((c.tc : Thread Cert.AdamKIdeal.nD Cert.AdamKIdeal.τ).loc Cert.AdamKIdeal.main_arg0)
      ∧ m' ((c.tc : Thread Cert.AdamRIdeal.nD Cert.AdamRIdeal.τ).loc Cert.AdamRIdeal.main_arg1) = m ((c.tc : Thread Cert.AdamKIdeal.nD Cert.AdamKIdeal.τ).loc Cert.AdamKIdeal.main_arg1)
      ∧ m' ((c.tc : Thread Cert.AdamRIdeal.nD Cert.AdamRIdeal.τ).loc Cert.AdamRIdeal.main_arg2) = m ((c.tc : Thread Cert.AdamKIdeal.nD Cert.AdamKIdeal.τ).loc Cert.AdamKIdeal.main_arg2)
      ∧ m' ((c.tc : Thread Cert.AdamRIdeal.nD Cert.AdamRIdeal.τ).loc Cert.AdamRIdeal.main_arg3) = m ((c.tc : Thread Cert.AdamKIdeal.nD Cert.AdamKIdeal.τ).loc Cert.AdamKIdeal.main_arg3)) →
    ∃ (v0 : (c : Dev Cert.AdamKIdeal.nD) → Buf (Elt Ideal) ((c.tc : Thread Cert.AdamKIdeal.nD Cert.AdamKIdeal.τ).loc Cert.AdamKIdeal.main_v4_0)) (v1 : (c : Dev Cert.AdamKIdeal.nD) → Buf (Elt Ideal) ((c.tc : Thread Cert.AdamKIdeal.nD Cert.AdamKIdeal.τ).loc Cert.AdamKIdeal.main_v4_1)) (v2 : (c : Dev Cert.AdamKIdeal.nD) → Buf (Elt Ideal) ((c.tc : Thread Cert.AdamKIdeal.nD Cert.AdamKIdeal.τ).loc Cert.AdamKIdeal.main_v4_2)) (v3 : (c : Dev Cert.AdamKIdeal.nD) → Buf (Elt Ideal) ((c.tc : Thread Cert.AdamKIdeal.nD Cert.AdamKIdeal.τ).loc Cert.AdamKIdeal.main_v4_3)),
      θ_run (Cert.AdamKIdeal.defs (F := Ideal)) (onTc (τ := Cert.AdamKIdeal.τ) (Cert.AdamKIdeal.main (F := Ideal))) ⟨m, fun _ => 0, g⟩ (fun r => ∀ c : Dev Cert.AdamKIdeal.nD,
          r.2.mem ((c.tc : Thread Cert.AdamKIdeal.nD Cert.AdamKIdeal.τ).loc Cert.AdamKIdeal.main_v4_0) = v0 c
          ∧ r.2.mem ((c.tc : Thread Cert.AdamKIdeal.nD Cert.AdamKIdeal.τ).loc Cert.AdamKIdeal.main_v4_1) = v1 c
          ∧ r.2.mem ((c.tc : Thread Cert.AdamKIdeal.nD Cert.AdamKIdeal.τ).loc Cert.AdamKIdeal.main_v4_2) = v2 c
          ∧ r.2.mem ((c.tc : Thread Cert.AdamKIdeal.nD Cert.AdamKIdeal.τ).loc Cert.AdamKIdeal.main_v4_3) = v3 c
          ∧ r.2.mem ((c.tc : Thread Cert.AdamKIdeal.nD Cert.AdamKIdeal.τ).loc Cert.AdamKIdeal.main_arg0) = m ((c.tc : Thread Cert.AdamKIdeal.nD Cert.AdamKIdeal.τ).loc Cert.AdamKIdeal.main_arg0)
          ∧ r.2.mem ((c.tc : Thread Cert.AdamKIdeal.nD Cert.AdamKIdeal.τ).loc Cert.AdamKIdeal.main_arg1) = m ((c.tc : Thread Cert.AdamKIdeal.nD Cert.AdamKIdeal.τ).loc Cert.AdamKIdeal.main_arg1)
          ∧ r.2.mem ((c.tc : Thread Cert.AdamKIdeal.nD Cert.AdamKIdeal.τ).loc Cert.AdamKIdeal.main_arg2) = m ((c.tc : Thread Cert.AdamKIdeal.nD Cert.AdamKIdeal.τ).loc Cert.AdamKIdeal.main_arg2)
          ∧ r.2.mem ((c.tc : Thread Cert.AdamKIdeal.nD Cert.AdamKIdeal.τ).loc Cert.AdamKIdeal.main_arg3) = m ((c.tc : Thread Cert.AdamKIdeal.nD Cert.AdamKIdeal.τ).loc Cert.AdamKIdeal.main_arg3))
      ∧ θ_run (Cert.AdamRIdeal.defs (F := Ideal)) (onTc (τ := Cert.AdamRIdeal.τ) (Cert.AdamRIdeal.main (F := Ideal))) ⟨m', fun _ => 0, g'⟩ (fun r => ∀ c : Dev Cert.AdamRIdeal.nD,
          r.2.mem ((c.tc : Thread Cert.AdamRIdeal.nD Cert.AdamRIdeal.τ).loc Cert.AdamRIdeal.main_v24) = v0 c
          ∧ r.2.mem ((c.tc : Thread Cert.AdamRIdeal.nD Cert.AdamRIdeal.τ).loc Cert.AdamRIdeal.main_v25) = v1 c
          ∧ r.2.mem ((c.tc : Thread Cert.AdamRIdeal.nD Cert.AdamRIdeal.τ).loc Cert.AdamRIdeal.main_v26) = v2 c
          ∧ r.2.mem ((c.tc : Thread Cert.AdamRIdeal.nD Cert.AdamRIdeal.τ).loc Cert.AdamRIdeal.main_v27) = v3 c
          ∧ r.2.mem ((c.tc : Thread Cert.AdamRIdeal.nD Cert.AdamRIdeal.τ).loc Cert.AdamRIdeal.main_arg0) = m' ((c.tc : Thread Cert.AdamRIdeal.nD Cert.AdamRIdeal.τ).loc Cert.AdamRIdeal.main_arg0)
          ∧ r.2.mem ((c.tc : Thread Cert.AdamRIdeal.nD Cert.AdamRIdeal.τ).loc Cert.AdamRIdeal.main_arg1) = m' ((c.tc : Thread Cert.AdamRIdeal.nD Cert.AdamRIdeal.τ).loc Cert.AdamRIdeal.main_arg1)
          ∧ r.2.mem ((c.tc : Thread Cert.AdamRIdeal.nD Cert.AdamRIdeal.τ).loc Cert.AdamRIdeal.main_arg2) = m' ((c.tc : Thread Cert.AdamRIdeal.nD Cert.AdamRIdeal.τ).loc Cert.AdamRIdeal.main_arg2)
          ∧ r.2.mem ((c.tc : Thread Cert.AdamRIdeal.nD Cert.AdamRIdeal.τ).loc Cert.AdamRIdeal.main_arg3) = m' ((c.tc : Thread Cert.AdamRIdeal.nD Cert.AdamRIdeal.τ).loc Cert.AdamRIdeal.main_arg3))

def preserves_AddsK_AddsKIdeal : Prop :=
  True

def algebraic_AddsKIdeal_AddsRIdeal [hAddsKIdeal : Cert.AddsKIdeal.Facts] [hAddsRIdeal : Cert.AddsRIdeal.Facts] : Prop :=
  ∀ (m : (ℓ : Loc Cert.AddsKIdeal.nD Cert.AddsKIdeal.τ Cert.AddsKIdeal.sig) → Buf (Elt Ideal) ℓ) (g : Dev Cert.AddsKIdeal.nD → PrngReg)
    (m' : (ℓ : Loc Cert.AddsRIdeal.nD Cert.AddsRIdeal.τ Cert.AddsRIdeal.sig) → Buf (Elt Ideal) ℓ) (g' : Dev Cert.AddsRIdeal.nD → PrngReg), Pre_AddsKIdeal m →
    (∀ c : Dev Cert.AddsKIdeal.nD,
      m' ((c.tc : Thread Cert.AddsRIdeal.nD Cert.AddsRIdeal.τ).loc Cert.AddsRIdeal.main_arg0) = m ((c.tc : Thread Cert.AddsKIdeal.nD Cert.AddsKIdeal.τ).loc Cert.AddsKIdeal.main_arg0)
      ∧ m' ((c.tc : Thread Cert.AddsRIdeal.nD Cert.AddsRIdeal.τ).loc Cert.AddsRIdeal.main_arg1) = m ((c.tc : Thread Cert.AddsKIdeal.nD Cert.AddsKIdeal.τ).loc Cert.AddsKIdeal.main_arg1)) →
    ∃ (v0 : (c : Dev Cert.AddsKIdeal.nD) → Buf (Elt Ideal) ((c.tc : Thread Cert.AddsKIdeal.nD Cert.AddsKIdeal.τ).loc Cert.AddsKIdeal.main_v0)),
      θ_run (Cert.AddsKIdeal.defs (F := Ideal)) (onTc (τ := Cert.AddsKIdeal.τ) (Cert.AddsKIdeal.main (F := Ideal))) ⟨m, fun _ => 0, g⟩ (fun r => ∀ c : Dev Cert.AddsKIdeal.nD,
          r.2.mem ((c.tc : Thread Cert.AddsKIdeal.nD Cert.AddsKIdeal.τ).loc Cert.AddsKIdeal.main_v0) = v0 c
          ∧ r.2.mem ((c.tc : Thread Cert.AddsKIdeal.nD Cert.AddsKIdeal.τ).loc Cert.AddsKIdeal.main_arg0) = m ((c.tc : Thread Cert.AddsKIdeal.nD Cert.AddsKIdeal.τ).loc Cert.AddsKIdeal.main_arg0)
          ∧ r.2.mem ((c.tc : Thread Cert.AddsKIdeal.nD Cert.AddsKIdeal.τ).loc Cert.AddsKIdeal.main_arg1) = m ((c.tc : Thread Cert.AddsKIdeal.nD Cert.AddsKIdeal.τ).loc Cert.AddsKIdeal.main_arg1))
      ∧ θ_run (Cert.AddsRIdeal.defs (F := Ideal)) (onTc (τ := Cert.AddsRIdeal.τ) (Cert.AddsRIdeal.main (F := Ideal))) ⟨m', fun _ => 0, g'⟩ (fun r => ∀ c : Dev Cert.AddsRIdeal.nD,
          r.2.mem ((c.tc : Thread Cert.AddsRIdeal.nD Cert.AddsRIdeal.τ).loc Cert.AddsRIdeal.main_v4) = v0 c
          ∧ r.2.mem ((c.tc : Thread Cert.AddsRIdeal.nD Cert.AddsRIdeal.τ).loc Cert.AddsRIdeal.main_arg0) = m' ((c.tc : Thread Cert.AddsRIdeal.nD Cert.AddsRIdeal.τ).loc Cert.AddsRIdeal.main_arg0)
          ∧ r.2.mem ((c.tc : Thread Cert.AddsRIdeal.nD Cert.AddsRIdeal.τ).loc Cert.AddsRIdeal.main_arg1) = m' ((c.tc : Thread Cert.AddsRIdeal.nD Cert.AddsRIdeal.τ).loc Cert.AddsRIdeal.main_arg1))

def preserves_AddcK_AddcKIdeal : Prop :=
  True

def algebraic_AddcKIdeal_AddcRIdeal [hAddcKIdeal : Cert.AddcKIdeal.Facts] [hAddcRIdeal : Cert.AddcRIdeal.Facts] : Prop :=
  ∀ (m : (ℓ : Loc Cert.AddcKIdeal.nD Cert.AddcKIdeal.τ Cert.AddcKIdeal.sig) → Buf (Elt Ideal) ℓ) (g : Dev Cert.AddcKIdeal.nD → PrngReg)
    (m' : (ℓ : Loc Cert.AddcRIdeal.nD Cert.AddcRIdeal.τ Cert.AddcRIdeal.sig) → Buf (Elt Ideal) ℓ) (g' : Dev Cert.AddcRIdeal.nD → PrngReg), Pre_AddcKIdeal m →
    (∀ c : Dev Cert.AddcKIdeal.nD,
      m' ((c.tc : Thread Cert.AddcRIdeal.nD Cert.AddcRIdeal.τ).loc Cert.AddcRIdeal.main_arg0) = m ((c.tc : Thread Cert.AddcKIdeal.nD Cert.AddcKIdeal.τ).loc Cert.AddcKIdeal.main_arg0)
      ∧ m' ((c.tc : Thread Cert.AddcRIdeal.nD Cert.AddcRIdeal.τ).loc Cert.AddcRIdeal.main_arg1) = m ((c.tc : Thread Cert.AddcKIdeal.nD Cert.AddcKIdeal.τ).loc Cert.AddcKIdeal.main_arg1)
      ∧ m' ((c.tc : Thread Cert.AddcRIdeal.nD Cert.AddcRIdeal.τ).loc Cert.AddcRIdeal.main_arg2) = m ((c.tc : Thread Cert.AddcKIdeal.nD Cert.AddcKIdeal.τ).loc Cert.AddcKIdeal.main_arg2)) →
    ∃ (v0 : (c : Dev Cert.AddcKIdeal.nD) → Buf (Elt Ideal) ((c.tc : Thread Cert.AddcKIdeal.nD Cert.AddcKIdeal.τ).loc Cert.AddcKIdeal.main_v0)),
      θ_run (Cert.AddcKIdeal.defs (F := Ideal)) (onTc (τ := Cert.AddcKIdeal.τ) (Cert.AddcKIdeal.main (F := Ideal))) ⟨m, fun _ => 0, g⟩ (fun r => ∀ c : Dev Cert.AddcKIdeal.nD,
          r.2.mem ((c.tc : Thread Cert.AddcKIdeal.nD Cert.AddcKIdeal.τ).loc Cert.AddcKIdeal.main_v0) = v0 c
          ∧ r.2.mem ((c.tc : Thread Cert.AddcKIdeal.nD Cert.AddcKIdeal.τ).loc Cert.AddcKIdeal.main_arg0) = m ((c.tc : Thread Cert.AddcKIdeal.nD Cert.AddcKIdeal.τ).loc Cert.AddcKIdeal.main_arg0)
          ∧ r.2.mem ((c.tc : Thread Cert.AddcKIdeal.nD Cert.AddcKIdeal.τ).loc Cert.AddcKIdeal.main_arg1) = m ((c.tc : Thread Cert.AddcKIdeal.nD Cert.AddcKIdeal.τ).loc Cert.AddcKIdeal.main_arg1)
          ∧ r.2.mem ((c.tc : Thread Cert.AddcKIdeal.nD Cert.AddcKIdeal.τ).loc Cert.AddcKIdeal.main_arg2) = m ((c.tc : Thread Cert.AddcKIdeal.nD Cert.AddcKIdeal.τ).loc Cert.AddcKIdeal.main_arg2))
      ∧ θ_run (Cert.AddcRIdeal.defs (F := Ideal)) (onTc (τ := Cert.AddcRIdeal.τ) (Cert.AddcRIdeal.main (F := Ideal))) ⟨m', fun _ => 0, g'⟩ (fun r => ∀ c : Dev Cert.AddcRIdeal.nD,
          r.2.mem ((c.tc : Thread Cert.AddcRIdeal.nD Cert.AddcRIdeal.τ).loc Cert.AddcRIdeal.main_v6) = v0 c
          ∧ r.2.mem ((c.tc : Thread Cert.AddcRIdeal.nD Cert.AddcRIdeal.τ).loc Cert.AddcRIdeal.main_arg0) = m' ((c.tc : Thread Cert.AddcRIdeal.nD Cert.AddcRIdeal.τ).loc Cert.AddcRIdeal.main_arg0)
          ∧ r.2.mem ((c.tc : Thread Cert.AddcRIdeal.nD Cert.AddcRIdeal.τ).loc Cert.AddcRIdeal.main_arg1) = m' ((c.tc : Thread Cert.AddcRIdeal.nD Cert.AddcRIdeal.τ).loc Cert.AddcRIdeal.main_arg1)
          ∧ r.2.mem ((c.tc : Thread Cert.AddcRIdeal.nD Cert.AddcRIdeal.τ).loc Cert.AddcRIdeal.main_arg2) = m' ((c.tc : Thread Cert.AddcRIdeal.nD Cert.AddcRIdeal.τ).loc Cert.AddcRIdeal.main_arg2))

def Claim : Prop :=
  ∃ (hDactK : Cert.DactK.Facts) (hDactKIdeal : Cert.DactKIdeal.Facts) (hDactRIdeal : Cert.DactRIdeal.Facts) (hConvK : Cert.ConvK.Facts) (hConvKIdeal : Cert.ConvKIdeal.Facts) (hConvRIdeal : Cert.ConvRIdeal.Facts) (hAttbK : Cert.AttbK.Facts) (hAttbKIdeal : Cert.AttbKIdeal.Facts) (hAttbRIdeal : Cert.AttbRIdeal.Facts) (hDwoutK : Cert.DwoutK.Facts) (hDwoutKIdeal : Cert.DwoutKIdeal.Facts) (hDwoutRIdeal : Cert.DwoutRIdeal.Facts) (hLossK : Cert.LossK.Facts) (hLossKIdeal : Cert.LossKIdeal.Facts) (hLossRIdeal : Cert.LossRIdeal.Facts) (hFfndhK : Cert.FfndhK.Facts) (hFfndhKIdeal : Cert.FfndhKIdeal.Facts) (hFfndhRIdeal : Cert.FfndhRIdeal.Facts) (hEvdhK : Cert.EvdhK.Facts) (hEvdhKIdeal : Cert.EvdhKIdeal.Facts) (hEvdhRIdeal : Cert.EvdhRIdeal.Facts) (hOddhK : Cert.OddhK.Facts) (hOddhKIdeal : Cert.OddhKIdeal.Facts) (hOddhRIdeal : Cert.OddhRIdeal.Facts) (hQkbK : Cert.QkbK.Facts) (hQkbKIdeal : Cert.QkbKIdeal.Facts) (hQkbRIdeal : Cert.QkbRIdeal.Facts) (hAttfK : Cert.AttfK.Facts) (hAttfKIdeal : Cert.AttfKIdeal.Facts) (hAttfRIdeal : Cert.AttfRIdeal.Facts) (hConvfK : Cert.ConvfK.Facts) (hConvfKIdeal : Cert.ConvfKIdeal.Facts) (hConvfRIdeal : Cert.ConvfRIdeal.Facts) (hFfninK : Cert.FfninK.Facts) (hFfninKIdeal : Cert.FfninKIdeal.Facts) (hFfninRIdeal : Cert.FfninRIdeal.Facts) (hFfnoutK : Cert.FfnoutK.Facts) (hFfnoutKIdeal : Cert.FfnoutKIdeal.Facts) (hFfnoutRIdeal : Cert.FfnoutRIdeal.Facts) (hRmsfK : Cert.RmsfK.Facts) (hRmsfKIdeal : Cert.RmsfKIdeal.Facts) (hRmsfRIdeal : Cert.RmsfRIdeal.Facts) (hQkfK : Cert.QkfK.Facts) (hQkfKIdeal : Cert.QkfKIdeal.Facts) (hQkfRIdeal : Cert.QkfRIdeal.Facts) (hPinK : Cert.PinK.Facts) (hPinKIdeal : Cert.PinKIdeal.Facts) (hPinRIdeal : Cert.PinRIdeal.Facts) (hPoutK : Cert.PoutK.Facts) (hPoutKIdeal : Cert.PoutKIdeal.Facts) (hPoutRIdeal : Cert.PoutRIdeal.Facts) (hDmixK : Cert.DmixK.Facts) (hDmixKIdeal : Cert.DmixKIdeal.Facts) (hDmixRIdeal : Cert.DmixRIdeal.Facts) (hMdwK : Cert.MdwK.Facts) (hMdwKIdeal : Cert.MdwKIdeal.Facts) (hMdwRIdeal : Cert.MdwRIdeal.Facts) (hMdwinK : Cert.MdwinK.Facts) (hMdwinKIdeal : Cert.MdwinKIdeal.Facts) (hMdwinRIdeal : Cert.MdwinRIdeal.Facts) (hFdwinK : Cert.FdwinK.Facts) (hFdwinKIdeal : Cert.FdwinKIdeal.Facts) (hFdwinRIdeal : Cert.FdwinRIdeal.Facts) (hOddfK : Cert.OddfK.Facts) (hOddfKIdeal : Cert.OddfKIdeal.Facts) (hOddfRIdeal : Cert.OddfRIdeal.Facts) (hOddbK : Cert.OddbK.Facts) (hOddbKIdeal : Cert.OddbKIdeal.Facts) (hOddbRIdeal : Cert.OddbRIdeal.Facts) (hAdamK : Cert.AdamK.Facts) (hAdamKIdeal : Cert.AdamKIdeal.Facts) (hAdamRIdeal : Cert.AdamRIdeal.Facts) (hAddsK : Cert.AddsK.Facts) (hAddsKIdeal : Cert.AddsKIdeal.Facts) (hAddsRIdeal : Cert.AddsRIdeal.Facts) (hAddcK : Cert.AddcK.Facts) (hAddcKIdeal : Cert.AddcKIdeal.Facts) (hAddcRIdeal : Cert.AddcRIdeal.Facts) (hPre_dact_finite : Cert.Pre_dact_finite.Facts) (hPre_attb_finite : Cert.Pre_attb_finite.Facts) (hPre_loss_finite : Cert.Pre_loss_finite.Facts) (hPre_ffndh_finite : Cert.Pre_ffndh_finite.Facts) (hPre_evdh_finite : Cert.Pre_evdh_finite.Facts) (hPre_oddh_finite : Cert.Pre_oddh_finite.Facts) (hPre_qkb_finite : Cert.Pre_qkb_finite.Facts) (hPre_attf_finite : Cert.Pre_attf_finite.Facts) (hPre_qkf_finite : Cert.Pre_qkf_finite.Facts),
    quiescent_DactK (hDactK := hDactK)
    ∧ quiescent_DactKIdeal (hDactKIdeal := hDactKIdeal)
    ∧ quiescent_DactKIdeal_pre_dact_finite (hDactKIdeal := hDactKIdeal) (hPre_dact_finite := hPre_dact_finite)
    ∧ quiescent_DactRIdeal (hDactRIdeal := hDactRIdeal)
    ∧ quiescent_DactRIdeal_pre_dact_finite (hDactRIdeal := hDactRIdeal) (hPre_dact_finite := hPre_dact_finite)
    ∧ quiescent_ConvK (hConvK := hConvK)
    ∧ quiescent_ConvKIdeal (hConvKIdeal := hConvKIdeal)
    ∧ quiescent_ConvRIdeal (hConvRIdeal := hConvRIdeal)
    ∧ quiescent_AttbK (hAttbK := hAttbK)
    ∧ quiescent_AttbKIdeal (hAttbKIdeal := hAttbKIdeal)
    ∧ quiescent_AttbKIdeal_pre_attb_finite (hAttbKIdeal := hAttbKIdeal) (hPre_attb_finite := hPre_attb_finite)
    ∧ quiescent_AttbRIdeal (hAttbRIdeal := hAttbRIdeal)
    ∧ quiescent_AttbRIdeal_pre_attb_finite (hAttbRIdeal := hAttbRIdeal) (hPre_attb_finite := hPre_attb_finite)
    ∧ quiescent_DwoutK (hDwoutK := hDwoutK)
    ∧ quiescent_DwoutKIdeal (hDwoutKIdeal := hDwoutKIdeal)
    ∧ quiescent_DwoutRIdeal (hDwoutRIdeal := hDwoutRIdeal)
    ∧ quiescent_LossK (hLossK := hLossK)
    ∧ quiescent_LossKIdeal (hLossKIdeal := hLossKIdeal)
    ∧ quiescent_LossKIdeal_pre_loss_finite (hLossKIdeal := hLossKIdeal) (hPre_loss_finite := hPre_loss_finite)
    ∧ quiescent_LossRIdeal (hLossRIdeal := hLossRIdeal)
    ∧ quiescent_LossRIdeal_pre_loss_finite (hLossRIdeal := hLossRIdeal) (hPre_loss_finite := hPre_loss_finite)
    ∧ quiescent_FfndhK (hFfndhK := hFfndhK)
    ∧ quiescent_FfndhKIdeal (hFfndhKIdeal := hFfndhKIdeal)
    ∧ quiescent_FfndhKIdeal_pre_ffndh_finite (hFfndhKIdeal := hFfndhKIdeal) (hPre_ffndh_finite := hPre_ffndh_finite)
    ∧ quiescent_FfndhRIdeal (hFfndhRIdeal := hFfndhRIdeal)
    ∧ quiescent_FfndhRIdeal_pre_ffndh_finite (hFfndhRIdeal := hFfndhRIdeal) (hPre_ffndh_finite := hPre_ffndh_finite)
    ∧ quiescent_EvdhK (hEvdhK := hEvdhK)
    ∧ quiescent_EvdhKIdeal (hEvdhKIdeal := hEvdhKIdeal)
    ∧ quiescent_EvdhKIdeal_pre_evdh_finite (hEvdhKIdeal := hEvdhKIdeal) (hPre_evdh_finite := hPre_evdh_finite)
    ∧ quiescent_EvdhRIdeal (hEvdhRIdeal := hEvdhRIdeal)
    ∧ quiescent_EvdhRIdeal_pre_evdh_finite (hEvdhRIdeal := hEvdhRIdeal) (hPre_evdh_finite := hPre_evdh_finite)
    ∧ quiescent_OddhK (hOddhK := hOddhK)
    ∧ quiescent_OddhKIdeal (hOddhKIdeal := hOddhKIdeal)
    ∧ quiescent_OddhKIdeal_pre_oddh_finite (hOddhKIdeal := hOddhKIdeal) (hPre_oddh_finite := hPre_oddh_finite)
    ∧ quiescent_OddhRIdeal (hOddhRIdeal := hOddhRIdeal)
    ∧ quiescent_OddhRIdeal_pre_oddh_finite (hOddhRIdeal := hOddhRIdeal) (hPre_oddh_finite := hPre_oddh_finite)
    ∧ quiescent_QkbK (hQkbK := hQkbK)
    ∧ quiescent_QkbKIdeal (hQkbKIdeal := hQkbKIdeal)
    ∧ quiescent_QkbKIdeal_pre_qkb_finite (hQkbKIdeal := hQkbKIdeal) (hPre_qkb_finite := hPre_qkb_finite)
    ∧ quiescent_QkbRIdeal (hQkbRIdeal := hQkbRIdeal)
    ∧ quiescent_QkbRIdeal_pre_qkb_finite (hQkbRIdeal := hQkbRIdeal) (hPre_qkb_finite := hPre_qkb_finite)
    ∧ quiescent_AttfK (hAttfK := hAttfK)
    ∧ quiescent_AttfKIdeal (hAttfKIdeal := hAttfKIdeal)
    ∧ quiescent_AttfKIdeal_pre_attf_finite (hAttfKIdeal := hAttfKIdeal) (hPre_attf_finite := hPre_attf_finite)
    ∧ quiescent_AttfRIdeal (hAttfRIdeal := hAttfRIdeal)
    ∧ quiescent_AttfRIdeal_pre_attf_finite (hAttfRIdeal := hAttfRIdeal) (hPre_attf_finite := hPre_attf_finite)
    ∧ quiescent_ConvfK (hConvfK := hConvfK)
    ∧ quiescent_ConvfKIdeal (hConvfKIdeal := hConvfKIdeal)
    ∧ quiescent_ConvfRIdeal (hConvfRIdeal := hConvfRIdeal)
    ∧ quiescent_FfninK (hFfninK := hFfninK)
    ∧ quiescent_FfninKIdeal (hFfninKIdeal := hFfninKIdeal)
    ∧ quiescent_FfninRIdeal (hFfninRIdeal := hFfninRIdeal)
    ∧ quiescent_FfnoutK (hFfnoutK := hFfnoutK)
    ∧ quiescent_FfnoutKIdeal (hFfnoutKIdeal := hFfnoutKIdeal)
    ∧ quiescent_FfnoutRIdeal (hFfnoutRIdeal := hFfnoutRIdeal)
    ∧ quiescent_RmsfK (hRmsfK := hRmsfK)
    ∧ quiescent_RmsfKIdeal (hRmsfKIdeal := hRmsfKIdeal)
    ∧ quiescent_RmsfRIdeal (hRmsfRIdeal := hRmsfRIdeal)
    ∧ quiescent_QkfK (hQkfK := hQkfK)
    ∧ quiescent_QkfKIdeal (hQkfKIdeal := hQkfKIdeal)
    ∧ quiescent_QkfKIdeal_pre_qkf_finite (hQkfKIdeal := hQkfKIdeal) (hPre_qkf_finite := hPre_qkf_finite)
    ∧ quiescent_QkfRIdeal (hQkfRIdeal := hQkfRIdeal)
    ∧ quiescent_QkfRIdeal_pre_qkf_finite (hQkfRIdeal := hQkfRIdeal) (hPre_qkf_finite := hPre_qkf_finite)
    ∧ quiescent_PinK (hPinK := hPinK)
    ∧ quiescent_PinKIdeal (hPinKIdeal := hPinKIdeal)
    ∧ quiescent_PinRIdeal (hPinRIdeal := hPinRIdeal)
    ∧ quiescent_PoutK (hPoutK := hPoutK)
    ∧ quiescent_PoutKIdeal (hPoutKIdeal := hPoutKIdeal)
    ∧ quiescent_PoutRIdeal (hPoutRIdeal := hPoutRIdeal)
    ∧ quiescent_DmixK (hDmixK := hDmixK)
    ∧ quiescent_DmixKIdeal (hDmixKIdeal := hDmixKIdeal)
    ∧ quiescent_DmixRIdeal (hDmixRIdeal := hDmixRIdeal)
    ∧ quiescent_MdwK (hMdwK := hMdwK)
    ∧ quiescent_MdwKIdeal (hMdwKIdeal := hMdwKIdeal)
    ∧ quiescent_MdwRIdeal (hMdwRIdeal := hMdwRIdeal)
    ∧ quiescent_MdwinK (hMdwinK := hMdwinK)
    ∧ quiescent_MdwinKIdeal (hMdwinKIdeal := hMdwinKIdeal)
    ∧ quiescent_MdwinRIdeal (hMdwinRIdeal := hMdwinRIdeal)
    ∧ quiescent_FdwinK (hFdwinK := hFdwinK)
    ∧ quiescent_FdwinKIdeal (hFdwinKIdeal := hFdwinKIdeal)
    ∧ quiescent_FdwinRIdeal (hFdwinRIdeal := hFdwinRIdeal)
    ∧ quiescent_OddfK (hOddfK := hOddfK)
    ∧ quiescent_OddfKIdeal (hOddfKIdeal := hOddfKIdeal)
    ∧ quiescent_OddfRIdeal (hOddfRIdeal := hOddfRIdeal)
    ∧ quiescent_OddbK (hOddbK := hOddbK)
    ∧ quiescent_OddbKIdeal (hOddbKIdeal := hOddbKIdeal)
    ∧ quiescent_OddbRIdeal (hOddbRIdeal := hOddbRIdeal)
    ∧ quiescent_AdamK (hAdamK := hAdamK)
    ∧ quiescent_AdamKIdeal (hAdamKIdeal := hAdamKIdeal)
    ∧ quiescent_AdamRIdeal (hAdamRIdeal := hAdamRIdeal)
    ∧ quiescent_AddsK (hAddsK := hAddsK)
    ∧ quiescent_AddsKIdeal (hAddsKIdeal := hAddsKIdeal)
    ∧ quiescent_AddsRIdeal (hAddsRIdeal := hAddsRIdeal)
    ∧ quiescent_AddcK (hAddcK := hAddcK)
    ∧ quiescent_AddcKIdeal (hAddcKIdeal := hAddcKIdeal)
    ∧ quiescent_AddcRIdeal (hAddcRIdeal := hAddcRIdeal)
    ∧ preserves_DactK_DactKIdeal
    ∧ algebraic_DactKIdeal_DactRIdeal_pre_dact_finite (hDactKIdeal := hDactKIdeal) (hDactRIdeal := hDactRIdeal) (hPre_dact_finite := hPre_dact_finite)
    ∧ preserves_ConvK_ConvKIdeal
    ∧ algebraic_ConvKIdeal_ConvRIdeal (hConvKIdeal := hConvKIdeal) (hConvRIdeal := hConvRIdeal)
    ∧ preserves_AttbK_AttbKIdeal
    ∧ algebraic_AttbKIdeal_AttbRIdeal_pre_attb_finite (hAttbKIdeal := hAttbKIdeal) (hAttbRIdeal := hAttbRIdeal) (hPre_attb_finite := hPre_attb_finite)
    ∧ preserves_DwoutK_DwoutKIdeal
    ∧ algebraic_DwoutKIdeal_DwoutRIdeal (hDwoutKIdeal := hDwoutKIdeal) (hDwoutRIdeal := hDwoutRIdeal)
    ∧ preserves_LossK_LossKIdeal
    ∧ algebraic_LossKIdeal_LossRIdeal_pre_loss_finite (hLossKIdeal := hLossKIdeal) (hLossRIdeal := hLossRIdeal) (hPre_loss_finite := hPre_loss_finite)
    ∧ preserves_FfndhK_FfndhKIdeal
    ∧ algebraic_FfndhKIdeal_FfndhRIdeal_pre_ffndh_finite (hFfndhKIdeal := hFfndhKIdeal) (hFfndhRIdeal := hFfndhRIdeal) (hPre_ffndh_finite := hPre_ffndh_finite)
    ∧ preserves_EvdhK_EvdhKIdeal
    ∧ algebraic_EvdhKIdeal_EvdhRIdeal_pre_evdh_finite (hEvdhKIdeal := hEvdhKIdeal) (hEvdhRIdeal := hEvdhRIdeal) (hPre_evdh_finite := hPre_evdh_finite)
    ∧ preserves_OddhK_OddhKIdeal
    ∧ algebraic_OddhKIdeal_OddhRIdeal_pre_oddh_finite (hOddhKIdeal := hOddhKIdeal) (hOddhRIdeal := hOddhRIdeal) (hPre_oddh_finite := hPre_oddh_finite)
    ∧ preserves_QkbK_QkbKIdeal
    ∧ algebraic_QkbKIdeal_QkbRIdeal_pre_qkb_finite (hQkbKIdeal := hQkbKIdeal) (hQkbRIdeal := hQkbRIdeal) (hPre_qkb_finite := hPre_qkb_finite)
    ∧ preserves_AttfK_AttfKIdeal
    ∧ algebraic_AttfKIdeal_AttfRIdeal_pre_attf_finite (hAttfKIdeal := hAttfKIdeal) (hAttfRIdeal := hAttfRIdeal) (hPre_attf_finite := hPre_attf_finite)
    ∧ preserves_ConvfK_ConvfKIdeal
    ∧ algebraic_ConvfKIdeal_ConvfRIdeal (hConvfKIdeal := hConvfKIdeal) (hConvfRIdeal := hConvfRIdeal)
    ∧ preserves_FfninK_FfninKIdeal
    ∧ algebraic_FfninKIdeal_FfninRIdeal (hFfninKIdeal := hFfninKIdeal) (hFfninRIdeal := hFfninRIdeal)
    ∧ preserves_FfnoutK_FfnoutKIdeal
    ∧ algebraic_FfnoutKIdeal_FfnoutRIdeal (hFfnoutKIdeal := hFfnoutKIdeal) (hFfnoutRIdeal := hFfnoutRIdeal)
    ∧ preserves_RmsfK_RmsfKIdeal
    ∧ algebraic_RmsfKIdeal_RmsfRIdeal (hRmsfKIdeal := hRmsfKIdeal) (hRmsfRIdeal := hRmsfRIdeal)
    ∧ preserves_QkfK_QkfKIdeal
    ∧ algebraic_QkfKIdeal_QkfRIdeal_pre_qkf_finite (hQkfKIdeal := hQkfKIdeal) (hQkfRIdeal := hQkfRIdeal) (hPre_qkf_finite := hPre_qkf_finite)
    ∧ preserves_PinK_PinKIdeal
    ∧ algebraic_PinKIdeal_PinRIdeal (hPinKIdeal := hPinKIdeal) (hPinRIdeal := hPinRIdeal)
    ∧ preserves_PoutK_PoutKIdeal
    ∧ algebraic_PoutKIdeal_PoutRIdeal (hPoutKIdeal := hPoutKIdeal) (hPoutRIdeal := hPoutRIdeal)
    ∧ preserves_DmixK_DmixKIdeal
    ∧ algebraic_DmixKIdeal_DmixRIdeal (hDmixKIdeal := hDmixKIdeal) (hDmixRIdeal := hDmixRIdeal)
    ∧ preserves_MdwK_MdwKIdeal
    ∧ algebraic_MdwKIdeal_MdwRIdeal (hMdwKIdeal := hMdwKIdeal) (hMdwRIdeal := hMdwRIdeal)
    ∧ preserves_MdwinK_MdwinKIdeal
    ∧ algebraic_MdwinKIdeal_MdwinRIdeal (hMdwinKIdeal := hMdwinKIdeal) (hMdwinRIdeal := hMdwinRIdeal)
    ∧ preserves_FdwinK_FdwinKIdeal
    ∧ algebraic_FdwinKIdeal_FdwinRIdeal (hFdwinKIdeal := hFdwinKIdeal) (hFdwinRIdeal := hFdwinRIdeal)
    ∧ preserves_OddfK_OddfKIdeal
    ∧ preserves_OddbK_OddbKIdeal
    ∧ preserves_AdamK_AdamKIdeal
    ∧ algebraic_AdamKIdeal_AdamRIdeal (hAdamKIdeal := hAdamKIdeal) (hAdamRIdeal := hAdamRIdeal)
    ∧ preserves_AddsK_AddsKIdeal
    ∧ algebraic_AddsKIdeal_AddsRIdeal (hAddsKIdeal := hAddsKIdeal) (hAddsRIdeal := hAddsRIdeal)
    ∧ preserves_AddcK_AddcKIdeal
    ∧ algebraic_AddcKIdeal_AddcRIdeal (hAddcKIdeal := hAddcKIdeal) (hAddcRIdeal := hAddcRIdeal)
-- ==== Pre_attb_finite.lean ====
abbrev S2x2048x8x64 : Shape := ⟨4, ![2, 2048, 8, 64]⟩
abbrev S2x2048x2x64 : Shape := ⟨4, ![2, 2048, 2, 64]⟩
abbrev S2x2048x2304 : Shape := ⟨3, ![2, 2048, 2304]⟩
abbrev S2x2048x1024 : Shape := ⟨3, ![2, 2048, 1024]⟩
abbrev S_ : Shape := ⟨0, ![]⟩

class Facts : Prop where
  bcast_S_S2x2048x8x64 : S_.BroadcastsInDim S2x2048x8x64 (![] : Fin 0 → Fin S2x2048x8x64.rank)
  reducesTo_S2x2048x8x64_S_d0_1_2_3 : S2x2048x8x64.ReducesTo [0, 1, 2, 3] S_
  h_S_ : 0 < S_.numel
  bcast_S_S2x2048x2x64 : S_.BroadcastsInDim S2x2048x2x64 (![] : Fin 0 → Fin S2x2048x2x64.rank)
  reducesTo_S2x2048x2x64_S_d0_1_2_3 : S2x2048x2x64.ReducesTo [0, 1, 2, 3] S_
  bcast_S_S2x2048x2304 : S_.BroadcastsInDim S2x2048x2304 (![] : Fin 0 → Fin S2x2048x2304.rank)
  reducesTo_S2x2048x2304_S_d0_1_2 : S2x2048x2304.ReducesTo [0, 1, 2] S_
  bcast_S_S2x2048x1024 : S_.BroadcastsInDim S2x2048x1024 (![] : Fin 0 → Fin S2x2048x1024.rank)
  reducesTo_S2x2048x1024_S_d0_1_2 : S2x2048x1024.ReducesTo [0, 1, 2] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S2x2048x8x64 .f32) (main_arg1 : FVec F S2x2048x2x64 .f32) (main_arg2 : FVec F S2x2048x2304 .f32) (main_arg3 : FVec F S2x2048x1024 .f32) : IVec S_ 1 :=
  let main_v0 : FVec F S2x2048x8x64 .f32 := Host.absf main_arg0
  let main_cst : FVec F S_ .f32 := constant S_ .f32 0x7F800000#32
  let main_v1 : FVec F S2x2048x8x64 .f32 := broadcastInDim S2x2048x8x64 ![] bcast_S_S2x2048x8x64 main_cst
  let main_v2 : IVec S2x2048x8x64 1 := cmpf .olt main_v0 main_v1
  let main_c : IVec S_ 1 := constantI S_ 1 1#1
  let main_v3 : IVec S_ 1 := (fun x v => Host.reduce IntOp.andi x v reducesTo_S2x2048x8x64_S_d0_1_2_3 h_S_) main_v2 main_c
  let main_v4 : FVec F S2x2048x2x64 .f32 := Host.absf main_arg1
  let main_cst_0 : FVec F S_ .f32 := constant S_ .f32 0x7F800000#32
  let main_v5 : FVec F S2x2048x2x64 .f32 := broadcastInDim S2x2048x2x64 ![] bcast_S_S2x2048x2x64 main_cst_0
  let main_v6 : IVec S2x2048x2x64 1 := cmpf .olt main_v4 main_v5
  let main_c_1 : IVec S_ 1 := constantI S_ 1 1#1
  let main_v7 : IVec S_ 1 := (fun x v => Host.reduce IntOp.andi x v reducesTo_S2x2048x2x64_S_d0_1_2_3 h_S_) main_v6 main_c_1
  let main_v8 : FVec F S2x2048x2304 .f32 := Host.absf main_arg2
  let main_cst_2 : FVec F S_ .f32 := constant S_ .f32 0x7F800000#32
  let main_v9 : FVec F S2x2048x2304 .f32 := broadcastInDim S2x2048x2304 ![] bcast_S_S2x2048x2304 main_cst_2
  let main_v10 : IVec S2x2048x2304 1 := cmpf .olt main_v8 main_v9
  let main_c_3 : IVec S_ 1 := constantI S_ 1 1#1
  let main_v11 : IVec S_ 1 := (fun x v => Host.reduce IntOp.andi x v reducesTo_S2x2048x2304_S_d0_1_2 h_S_) main_v10 main_c_3
  let main_v12 : FVec F S2x2048x1024 .f32 := Host.absf main_arg3
  let main_cst_4 : FVec F S_ .f32 := constant S_ .f32 0x7F800000#32
  let main_v13 : FVec F S2x2048x1024 .f32 := broadcastInDim S2x2048x1024 ![] bcast_S_S2x2048x1024 main_cst_4
  let main_v14 : IVec S2x2048x1024 1 := cmpf .olt main_v12 main_v13
  let main_c_5 : IVec S_ 1 := constantI S_ 1 1#1
  let main_v15 : IVec S_ 1 := (fun x v => Host.reduce IntOp.andi x v reducesTo_S2x2048x1024_S_d0_1_2 h_S_) main_v14 main_c_5
  fn_part1 (F := F) main_v3 main_v7 main_v11 main_v15
-- ==== Pre_attf_finite.lean ====
abbrev S2x2048x8x64 : Shape := ⟨4, ![2, 2048, 8, 64]⟩
abbrev S2x2048x2x64 : Shape := ⟨4, ![2, 2048, 2, 64]⟩
abbrev S2x2048x2304 : Shape := ⟨3, ![2, 2048, 2304]⟩
abbrev S_ : Shape := ⟨0, ![]⟩

class Facts : Prop where
  bcast_S_S2x2048x8x64 : S_.BroadcastsInDim S2x2048x8x64 (![] : Fin 0 → Fin S2x2048x8x64.rank)
  reducesTo_S2x2048x8x64_S_d0_1_2_3 : S2x2048x8x64.ReducesTo [0, 1, 2, 3] S_
  h_S_ : 0 < S_.numel
  bcast_S_S2x2048x2x64 : S_.BroadcastsInDim S2x2048x2x64 (![] : Fin 0 → Fin S2x2048x2x64.rank)
  reducesTo_S2x2048x2x64_S_d0_1_2_3 : S2x2048x2x64.ReducesTo [0, 1, 2, 3] S_
  bcast_S_S2x2048x2304 : S_.BroadcastsInDim S2x2048x2304 (![] : Fin 0 → Fin S2x2048x2304.rank)
  reducesTo_S2x2048x2304_S_d0_1_2 : S2x2048x2304.ReducesTo [0, 1, 2] S_

variable [Facts]

def fn {F : FTy → Type} [FloatOps F] (main_arg0 : FVec F S2x2048x8x64 .f32) (main_arg1 : FVec F S2x2048x2x64 .f32) (main_arg2 : FVec F S2x2048x2304 .f32) : IVec S_ 1 :=
  let main_v0 : FVec F S2x2048x8x64 .f32 := Host.absf main_arg0
  let main_cst : FVec F S_ .f32 := constant S_ .f32 0x7F800000#32
  let main_v1 : FVec F S2x2048x8x64 .f32 := broadcastInDim S2x2048x8x64 ![] bcast_S_S2x2048x8x64 main_cst
  let main_v2 : IVec S2x2048x8x64 1 := cmpf .olt main_v0 main_v1
  let main_c : IVec S_ 1 := constantI S_ 1 1#1
  let main_v3 : IVec S_ 1 := (fun x v => Host.reduce IntOp.andi x v reducesTo_S2x2048x8x64_S_d0_1_2_3 h_S_) main_v2 main_c
  let main_v4 : FVec F S2x2048x2x64 .f32 := Host.absf main_arg1
  let main_cst_0 : FVec F S_ .f32 := constant S_ .f32 0x7F800000#32
  let main_v5 : FVec F S2x2048x2x64 .f32 := broadcastInDim S2x2048x2x64 ![] bcast_S_S2x2048x2x64 main_cst_0
  let main_v6 : IVec S2x2048x2x64 1 := cmpf .olt main_v4 main_v5
  let main_c_1 : IVec S_ 1 := constantI S_ 1 1#1
  let main_v7 : IVec S_ 1 := (fun x v => Host.reduce IntOp.andi x v reducesTo_S2x2048x2x64_S_d0_1_2_3 h_S_) main_v6 main_c_1
  let main_v8 : FVec F S2x2048x2304 .f32 := Host.absf main_arg2
  let main_cst_2 : FVec F S_ .f32 := constant S_ .f32 0x7F800000#32
  let main_v9 : FVec F S2x2048x2304 .f32 := broadcastInDim S2x2048x2304 ![] bcast_S_S2x2048x2304 main_cst_2
  let main_v10 : IVec S2x2048x2304 1 := cmpf .olt main_v8 main_v9
  let main_c_3 : IVec S_ 1 := constantI S_ 1 1#1
  let main_v11 : IVec S_ 1 := (fun x v => Host.reduce IntOp.andi x v reducesTo_S2x2048x2304_S_d0_1_2 h_S_) main_v10 main_c_3
  let main_v12 : IVec S_ 1 := andi main_v3 main_v7
  let main_v13 : IVec S_ 1 := andi main_v12 main_v11
  main_v13
-- ==== Pre_dact_finite.lean ====
abbrev S2x2048x2816 : Shape := ⟨3, ![2, 2048, 2816]⟩
abbrev S2816x1024 : Shape := ⟨2, ![2816, 1024]⟩
abbrev S2x2048x1024 : Shape := ⟨3, ![2, 2048, 1024]⟩
abbrev S_ : Shape := ⟨0, ![]⟩

class Facts : Prop where
  bcast_S_S2x2048x2816 : S_.BroadcastsInDim S2x2048x2816 (![] : Fin 0 → Fin S2x2048x2816.rank)
  reducesTo_S2x2048x2816_S_d0_1_2 : S2x2048x2816.ReducesTo [0, 1, 2] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S2x2048x1024 : S_.BroadcastsInDim S2x2048x1024 (![] : Fin 0 → Fin S2x2048x1024.rank)
  reducesTo_S2x2048x1024_S_d0_1_2 : S2x2048x1024.ReducesTo [0, 1, 2] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S2x2048x2816 .f32) (main_arg1 : FVec F S2x2048x2816 .f32) (main_arg2 : FVec F S2816x1024 .f32) (main_arg3 : FVec F S2x2048x1024 .f32) : IVec S_ 1 :=
  let main_v0 : FVec F S2x2048x2816 .f32 := Host.absf main_arg0
  let main_cst : FVec F S_ .f32 := constant S_ .f32 0x7F800000#32
  let main_v1 : FVec F S2x2048x2816 .f32 := broadcastInDim S2x2048x2816 ![] bcast_S_S2x2048x2816 main_cst
  let main_v2 : IVec S2x2048x2816 1 := cmpf .olt main_v0 main_v1
  let main_c : IVec S_ 1 := constantI S_ 1 1#1
  let main_v3 : IVec S_ 1 := (fun x v => Host.reduce IntOp.andi x v reducesTo_S2x2048x2816_S_d0_1_2 h_S_) main_v2 main_c
  let main_v4 : FVec F S2x2048x2816 .f32 := Host.absf main_arg1
  let main_cst_0 : FVec F S_ .f32 := constant S_ .f32 0x7F800000#32
  let main_v5 : FVec F S2x2048x2816 .f32 := broadcastInDim S2x2048x2816 ![] bcast_S_S2x2048x2816 main_cst_0
  let main_v6 : IVec S2x2048x2816 1 := cmpf .olt main_v4 main_v5
  let main_c_1 : IVec S_ 1 := constantI S_ 1 1#1
  let main_v7 : IVec S_ 1 := (fun x v => Host.reduce IntOp.andi x v reducesTo_S2x2048x2816_S_d0_1_2 h_S_) main_v6 main_c_1
  let main_v8 : FVec F S2816x1024 .f32 := Host.absf main_arg2
  let main_cst_2 : FVec F S_ .f32 := constant S_ .f32 0x7F800000#32
  let main_v9 : FVec F S2816x1024 .f32 := broadcastInDim S2816x1024 ![] bcast_S_S2816x1024 main_cst_2
  let main_v10 : IVec S2816x1024 1 := cmpf .olt main_v8 main_v9
  let main_c_3 : IVec S_ 1 := constantI S_ 1 1#1
  let main_v11 : IVec S_ 1 := (fun x v => Host.reduce IntOp.andi x v reducesTo_S2816x1024_S_d0_1 h_S_) main_v10 main_c_3
  let main_v12 : FVec F S2x2048x1024 .f32 := Host.absf main_arg3
  let main_cst_4 : FVec F S_ .f32 := constant S_ .f32 0x7F800000#32
  let main_v13 : FVec F S2x2048x1024 .f32 := broadcastInDim S2x2048x1024 ![] bcast_S_S2x2048x1024 main_cst_4
  let main_v14 : IVec S2x2048x1024 1 := cmpf .olt main_v12 main_v13
  let main_c_5 : IVec S_ 1 := constantI S_ 1 1#1
  let main_v15 : IVec S_ 1 := (fun x v => Host.reduce IntOp.andi x v reducesTo_S2x2048x1024_S_d0_1_2 h_S_) main_v14 main_c_5
  fn_part1 (F := F) main_v3 main_v7 main_v11 main_v15
-- ==== Pre_evdh_finite.lean ====
abbrev S2x2048x1024 : Shape := ⟨3, ![2, 2048, 1024]⟩
abbrev S1024 : Shape := ⟨1, ![1024]⟩
abbrev S1024x2304 : Shape := ⟨2, ![1024, 2304]⟩
abbrev S2x2048x512 : Shape := ⟨3, ![2, 2048, 512]⟩
abbrev S2x2048x128 : Shape := ⟨3, ![2, 2048, 128]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x2304 : S_.BroadcastsInDim S1024x2304 (![] : Fin 0 → Fin S1024x2304.rank)
  reducesTo_S1024x2304_S_d0_1 : S1024x2304.ReducesTo [0, 1] S_
  bcast_S_S2x2048x512 : S_.BroadcastsInDim S2x2048x512 (![] : Fin 0 → Fin S2x2048x512.rank)
  reducesTo_S2x2048x512_S_d0_1_2 : S2x2048x512.ReducesTo [0, 1, 2] S_
  bcast_S_S2x2048x128 : S_.BroadcastsInDim S2x2048x128 (![] : Fin 0 → Fin S2x2048x128.rank)
  reducesTo_S2x2048x128_S_d0_1_2 : S2x2048x128.ReducesTo [0, 1, 2] S_

variable [Facts]

def fn_part2 {F : FTy → Type} [FloatOps F] (main_arg8 : FVec F S2x2048x128 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S2x2048x128 .f32 := Host.absf main_arg8
  let main_cst_14 : FVec F S_ .f32 := constant S_ .f32 0x7F800000#32
  let main_v33 : FVec F S2x2048x128 .f32 := broadcastInDim S2x2048x128 ![] bcast_S_S2x2048x128 main_cst_14
  let main_v34 : IVec S2x2048x128 1 := cmpf .olt main_v32 main_v33
  let main_c_15 : IVec S_ 1 := constantI S_ 1 1#1
  let main_v35 : IVec S_ 1 := (fun x v => Host.reduce IntOp.andi x v reducesTo_S2x2048x128_S_d0_1_2 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S2x2048x512 .f32) (main_arg5 : FVec F S2x2048x512 .f32) (main_arg6 : FVec F S2x2048x512 .f32) (main_arg7 : FVec F S2x2048x128 .f32) (main_arg8 : FVec F S2x2048x128 .f32) (main_v3 : IVec S_ 1) (main_v7 : IVec S_ 1) (main_v11 : IVec S_ 1) (main_v15 : IVec S_ 1) : IVec S_ 1 :=
  let main_v16 : FVec F S2x2048x512 .f32 := Host.absf main_arg4
  let main_cst_6 : FVec F S_ .f32 := constant S_ .f32 0x7F800000#32
  let main_v17 : FVec F S2x2048x512 .f32 := broadcastInDim S2x2048x512 ![] bcast_S_S2x2048x512 main_cst_6
  let main_v18 : IVec S2x2048x512 1 := cmpf .olt main_v16 main_v17
  let main_c_7 : IVec S_ 1 := constantI S_ 1 1#1
  let main_v19 : IVec S_ 1 := (fun x v => Host.reduce IntOp.andi x v reducesTo_S2x2048x512_S_d0_1_2 h_S_) main_v18 main_c_7
  let main_v20 : FVec F S2x2048x512 .f32 := Host.absf main_arg5
  let main_cst_8 : FVec F S_ .f32 := constant S_ .f32 0x7F800000#32
  let main_v21 : FVec F S2x2048x512 .f32 := broadcastInDim S2x2048x512 ![] bcast_S_S2x2048x512 main_cst_8
  let main_v22 : IVec S2x2048x512 1 := cmpf .olt main_v20 main_v21
  let main_c_9 : IVec S_ 1 := constantI S_ 1 1#1
  let main_v23 : IVec S_ 1 := (fun x v => Host.reduce IntOp.andi x v reducesTo_S2x2048x512_S_d0_1_2 h_S_) main_v22 main_c_9
  let main_v24 : FVec F S2x2048x512 .f32 := Host.absf main_arg6
  let main_cst_10 : FVec F S_ .f32 := constant S_ .f32 0x7F800000#32
  let main_v25 : FVec F S2x2048x512 .f32 := broadcastInDim S2x2048x512 ![] bcast_S_S2x2048x512 main_cst_10
  let main_v26 : IVec S2x2048x512 1 := cmpf .olt main_v24 main_v25
  let main_c_11 : IVec S_ 1 := constantI S_ 1 1#1
  let main_v27 : IVec S_ 1 := (fun x v => Host.reduce IntOp.andi x v reducesTo_S2x2048x512_S_d0_1_2 h_S_) main_v26 main_c_11
  let main_v28 : FVec F S2x2048x128 .f32 := Host.absf main_arg7
  let main_cst_12 : FVec F S_ .f32 := constant S_ .f32 0x7F800000#32
  let main_v29 : FVec F S2x2048x128 .f32 := broadcastInDim S2x2048x128 ![] bcast_S_S2x2048x128 main_cst_12
  let main_v30 : IVec S2x2048x128 1 := cmpf .olt main_v28 main_v29
  let main_c_13 : IVec S_ 1 := constantI S_ 1 1#1
  let main_v31 : IVec S_ 1 := (fun x v => Host.reduce IntOp.andi x v reducesTo_S2x2048x128_S_d0_1_2 h_S_) main_v30 main_c_13
  fn_part2 (F := F) main_arg8 main_v3 main_v7 main_v11 main_v15 main_v19 main_v23 main_v27 main_v31

def fn {F : FTy → Type} [FloatOps F] (main_arg0 : FVec F S2x2048x1024 .f32) (main_arg1 : FVec F S1024 .f32) (main_arg2 : FVec F S1024x2304 .f32) (main_arg3 : FVec F S2x2048x512 .f32) (main_arg4 : FVec F S2x2048x512 .f32) (main_arg5 : FVec F S2x2048x512 .f32) (main_arg6 : FVec F S2x2048x512 .f32) (main_arg7 : FVec F S2x2048x128 .f32) (main_arg8 : FVec F S2x2048x128 .f32) (main_arg9 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x2304 .f32 := Host.absf main_arg2
  let main_cst_2 : FVec F S_ .f32 := constant S_ .f32 0x7F800000#32
  let main_v9 : FVec F S1024x2304 .f32 := broadcastInDim S1024x2304 ![] bcast_S_S1024x2304 main_cst_2
  let main_v10 : IVec S1024x2304 1 := cmpf .olt main_v8 main_v9
  let main_c_3 : IVec S_ 1 := constantI S_ 1 1#1
  let main_v11 : IVec S_ 1 := (fun x v => Host.reduce IntOp.andi x v reducesTo_S1024x2304_S_d0_1 h_S_) main_v10 main_c_3
  let main_v12 : FVec F S2x2048x512 .f32 := Host.absf main_arg3
  let main_cst_4 : FVec F S_ .f32 := constant S_ .f32 0x7F800000#32
  let main_v13 : FVec F S2x2048x512 .f32 := broadcastInDim S2x2048x512 ![] bcast_S_S2x2048x512 main_cst_4
  let main_v14 : IVec S2x2048x512 1 := cmpf .olt main_v12 main_v13
  let main_c_5 : IVec S_ 1 := constantI S_ 1 1#1
  let main_v15 : IVec S_ 1 := (fun x v => Host.reduce IntOp.andi x v reducesTo_S2x2048x512_S_d0_1_2 h_S_) main_v14 main_c_5
  fn_part1 (F := F) main_arg4 main_arg5 main_arg6 main_arg7 main_arg8 main_v3 main_v7 main_v11 main_v15
-- ==== Pre_ffndh_finite.lean ====
abbrev S2x2048x1024 : Shape := ⟨3, ![2, 2048, 1024]⟩
abbrev S1024 : Shape := ⟨1, ![1024]⟩
abbrev S1024x5632 : Shape := ⟨2, ![1024, 5632]⟩
abbrev S2x2048x5632 : Shape := ⟨3, ![2, 2048, 5632]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2x2048x5632 : S_.BroadcastsInDim S2x2048x5632 (![] : Fin 0 → Fin S2x2048x5632.rank)
  reducesTo_S2x2048x5632_S_d0_1_2 : S2x2048x5632.ReducesTo [0, 1, 2] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S2x2048x1024 .f32) (main_arg1 : FVec F S1024 .f32) (main_arg2 : FVec F S1024x5632 .f32) (main_arg3 : FVec F S2x2048x5632 .f32) (main_arg4 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x5632 .f32 := Host.absf main_arg2
  let main_cst_2 : FVec F S_ .f32 := constant S_ .f32 0x7F800000#32
  let main_v9 : FVec F S1024x5632 .f32 := broadcastInDim S1024x5632 ![] bcast_S_S1024x5632 main_cst_2
  let main_v10 : IVec S1024x5632 1 := cmpf .olt main_v8 main_v9
  let main_c_3 : IVec S_ 1 := constantI S_ 1 1#1
  let main_v11 : IVec S_ 1 := (fun x v => Host.reduce IntOp.andi x v reducesTo_S1024x5632_S_d0_1 h_S_) main_v10 main_c_3
  let main_v12 : FVec F S2x2048x5632 .f32 := Host.absf main_arg3
  let main_cst_4 : FVec F S_ .f32 := constant S_ .f32 0x7F800000#32
  let main_v13 : FVec F S2x2048x5632 .f32 := broadcastInDim S2x2048x5632 ![] bcast_S_S2x2048x5632 main_cst_4
  let main_v14 : IVec S2x2048x5632 1 := cmpf .olt main_v12 main_v13
  let main_c_5 : IVec S_ 1 := constantI S_ 1 1#1
  let main_v15 : IVec S_ 1 := (fun x v => Host.reduce IntOp.andi x v reducesTo_S2x2048x5632_S_d0_1_2 h_S_) main_v14 main_c_5
  fn_part1 (F := F) main_v3 main_v7 main_v11 main_v15
-- ==== Pre_loss_finite.lean ====
abbrev S2x2048x1024 : Shape := ⟨3, ![2, 2048, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S2x2048x1024 .f32) (main_arg1 : FVec F S1024 .f32) (main_arg2 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S2x2048x1024 .f32 := Host.absf main_arg2
  let main_cst_2 : FVec F S_ .f32 := constant S_ .f32 0x7F800000#32
  let main_v9 : FVec F S2x2048x1024 .f32 := broadcastInDim S2x2048x1024 ![] bcast_S_S2x2048x1024 main_cst_2
  let main_v10 : IVec S2x2048x1024 1 := cmpf .olt main_v8 main_v9
  let main_c_3 : IVec S_ 1 := constantI S_ 1 1#1
  let main_v11 : IVec S_ 1 := (fun x v => Host.reduce IntOp.andi x v reducesTo_S2x2048x1024_S_d0_1_2 h_S_) main_v10 main_c_3
  let main_v12 : IVec S_ 1 := andi main_v3 main_v7
  let main_v13 : IVec S_ 1 := andi main_v12 main_v11
  main_v13
-- ==== Pre_oddh_finite.lean ====
abbrev S2x2048x1024 : Shape := ⟨3, ![2, 2048, 1024]⟩
abbrev S1024 : Shape := ⟨1, ![1024]⟩
abbrev S1024x1536 : Shape := ⟨2, ![1024, 1536]⟩
abbrev S2x2048x1536 : Shape := ⟨3, ![2, 2048, 1536]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x1536 : S_.BroadcastsInDim S1024x1536 (![] : Fin 0 → Fin S1024x1536.rank)
  reducesTo_S1024x1536_S_d0_1 : S1024x1536.ReducesTo [0, 1] S_
  bcast_S_S2x2048x1536 : S_.BroadcastsInDim S2x2048x1536 (![] : Fin 0 → Fin S2x2048x1536.rank)
  reducesTo_S2x2048x1536_S_d0_1_2 : S2x2048x1536.ReducesTo [0, 1, 2] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S2x2048x1024 .f32) (main_arg1 : FVec F S1024 .f32) (main_arg2 : FVec F S1024x1536 .f32) (main_arg3 : FVec F S2x2048x1536 .f32) (main_arg4 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x1536 .f32 := Host.absf main_arg2
  let main_cst_2 : FVec F S_ .f32 := constant S_ .f32 0x7F800000#32
  let main_v9 : FVec F S1024x1536 .f32 := broadcastInDim S1024x1536 ![] bcast_S_S1024x1536 main_cst_2
  let main_v10 : IVec S1024x1536 1 := cmpf .olt main_v8 main_v9
  let main_c_3 : IVec S_ 1 := constantI S_ 1 1#1
  let main_v11 : IVec S_ 1 := (fun x v => Host.reduce IntOp.andi x v reducesTo_S1024x1536_S_d0_1 h_S_) main_v10 main_c_3
  let main_v12 : FVec F S2x2048x1536 .f32 := Host.absf main_arg3
  let main_cst_4 : FVec F S_ .f32 := constant S_ .f32 0x7F800000#32
  let main_v13 : FVec F S2x2048x1536 .f32 := broadcastInDim S2x2048x1536 ![] bcast_S_S2x2048x1536 main_cst_4
  let main_v14 : IVec S2x2048x1536 1 := cmpf .olt main_v12 main_v13
  let main_c_5 : IVec S_ 1 := constantI S_ 1 1#1
  let main_v15 : IVec S_ 1 := (fun x v => Host.reduce IntOp.andi x v reducesTo_S2x2048x1536_S_d0_1_2 h_S_) main_v14 main_c_5
  fn_part1 (F := F) main_v3 main_v7 main_v11 main_v15
-- ==== Pre_qkb_finite.lean ====
abbrev S2x2048x2304 : Shape := ⟨3, ![2, 2048, 2304]⟩
abbrev S64 : Shape := ⟨1, ![64]⟩
abbrev S2x2048x8x64 : Shape := ⟨4, ![2, 2048, 8, 64]⟩
abbrev S2x2048x2x64 : Shape := ⟨4, ![2, 2048, 2, 64]⟩
abbrev S_ : Shape := ⟨0, ![]⟩

class Facts : Prop where
  bcast_S_S2x2048x2304 : S_.BroadcastsInDim S2x2048x2304 (![] : Fin 0 → Fin S2x2048x2304.rank)
  reducesTo_S2x2048x2304_S_d0_1_2 : S2x2048x2304.ReducesTo [0, 1, 2] S_
  h_S_ : 0 < S_.numel
  bcast_S_S64 : S_.BroadcastsInDim S64 (![] : Fin 0 → Fin S64.rank)
  reducesTo_S64_S_d0 : S64.ReducesTo [0] S_
  bcast_S_S2x2048x8x64 : S_.BroadcastsInDim S2x2048x8x64 (![] : Fin 0 → Fin S2x2048x8x64.rank)
  reducesTo_S2x2048x8x64_S_d0_1_2_3 : S2x2048x8x64.ReducesTo [0, 1, 2, 3] S_
  bcast_S_S2x2048x2x64 : S_.BroadcastsInDim S2x2048x2x64 (![] : Fin 0 → Fin S2x2048x2x64.rank)
  reducesTo_S2x2048x2x64_S_d0_1_2_3 : S2x2048x2x64.ReducesTo [0, 1, 2, 3] S_

variable [Facts]

def fn_part1 {F : FTy → Type} [FloatOps F] (main_arg4 : FVec F S2x2048x2x64 .f32) (main_v3 : IVec S_ 1) (main_v7 : IVec S_ 1) (main_v11 : IVec S_ 1) (main_v15 : IVec S_ 1) : IVec S_ 1 :=
  let main_v16 : FVec F S2x2048x2x64 .f32 := Host.absf main_arg4
  let main_cst_6 : FVec F S_ .f32 := constant S_ .f32 0x7F800000#32
  let main_v17 : FVec F S2x2048x2x64 .f32 := broadcastInDim S2x2048x2x64 ![] bcast_S_S2x2048x2x64 main_cst_6
  let main_v18 : IVec S2x2048x2x64 1 := cmpf .olt main_v16 main_v17
  let main_c_7 : IVec S_ 1 := constantI S_ 1 1#1
  let main_v19 : IVec S_ 1 := (fun x v => Host.reduce IntOp.andi x v reducesTo_S2x2048x2x64_S_d0_1_2_3 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S2x2048x2304 .f32) (main_arg1 : FVec F S64 .f32) (main_arg2 : FVec F S64 .f32) (main_arg3 : FVec F S2x2048x8x64 .f32) (main_arg4 : FVec F S2x2048x2x64 .f32) : IVec S_ 1 :=
  let main_v0 : FVec F S2x2048x2304 .f32 := Host.absf main_arg0
  let main_cst : FVec F S_ .f32 := constant S_ .f32 0x7F800000#32
  let main_v1 : FVec F S2x2048x2304 .f32 := broadcastInDim S2x2048x2304 ![] bcast_S_S2x2048x2304 main_cst
  let main_v2 : IVec S2x2048x2304 1 := cmpf .olt main_v0 main_v1
  let main_c : IVec S_ 1 := constantI S_ 1 1#1
  let main_v3 : IVec S_ 1 := (fun x v => Host.reduce IntOp.andi x v reducesTo_S2x2048x2304_S_d0_1_2 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : FVec F S64 .f32 := Host.absf main_arg2
  let main_cst_2 : FVec F S_ .f32 := constant S_ .f32 0x7F800000#32
  let main_v9 : FVec F S64 .f32 := broadcastInDim S64 ![] bcast_S_S64 main_cst_2
  let main_v10 : IVec S64 1 := cmpf .olt main_v8 main_v9
  let main_c_3 : IVec S_ 1 := constantI S_ 1 1#1
  let main_v11 : IVec S_ 1 := (fun x v => Host.reduce IntOp.andi x v reducesTo_S64_S_d0 h_S_) main_v10 main_c_3
  let main_v12 : FVec F S2x2048x8x64 .f32 := Host.absf main_arg3
  let main_cst_4 : FVec F S_ .f32 := constant S_ .f32 0x7F800000#32
  let main_v13 : FVec F S2x2048x8x64 .f32 := broadcastInDim S2x2048x8x64 ![] bcast_S_S2x2048x8x64 main_cst_4
  let main_v14 : IVec S2x2048x8x64 1 := cmpf .olt main_v12 main_v13
  let main_c_5 : IVec S_ 1 := constantI S_ 1 1#1
  let main_v15 : IVec S_ 1 := (fun x v => Host.reduce IntOp.andi x v reducesTo_S2x2048x8x64_S_d0_1_2_3 h_S_) main_v14 main_c_5
  fn_part1 (F := F) main_arg4 main_v3 main_v7 main_v11 main_v15
-- ==== Pre_qkf_finite.lean ====
abbrev S2x2048x2304 : Shape := ⟨3, ![2, 2048, 2304]⟩
abbrev S64 : Shape := ⟨1, ![64]⟩
abbrev S_ : Shape := ⟨0, ![]⟩

class Facts : Prop where
  bcast_S_S2x2048x2304 : S_.BroadcastsInDim S2x2048x2304 (![] : Fin 0 → Fin S2x2048x2304.rank)
  reducesTo_S2x2048x2304_S_d0_1_2 : S2x2048x2304.ReducesTo [0, 1, 2] S_
  h_S_ : 0 < S_.numel

variable [Facts]

def fn {F : FTy → Type} [FloatOps F] (main_arg0 : FVec F S2x2048x2304 .f32) (main_arg1 : FVec F S64 .f32) (main_arg2 : FVec F S64 .f32) : IVec S_ 1 :=
  let main_v0 : FVec F S2x2048x2304 .f32 := Host.absf main_arg0
  let main_cst : FVec F S_ .f32 := constant S_ .f32 0x7F800000#32
  let main_v1 : FVec F S2x2048x2304 .f32 := broadcastInDim S2x2048x2304 ![] bcast_S_S2x2048x2304 main_cst
  let main_v2 : IVec S2x2048x2304 1 := cmpf .olt main_v0 main_v1
  let main_c : IVec S_ 1 := constantI S_ 1 1#1
  let main_v3 : IVec S_ 1 := (fun x v => Host.reduce IntOp.andi x v reducesTo_S2x2048x2304_S_d0_1_2 h_S_) main_v2 main_c
  main_v3
-- ==== DactK.lean ====
abbrev S2x2048x2816 : Shape := ⟨3, ![2, 2048, 2816]⟩
abbrev S2816x1024 : Shape := ⟨2, ![2816, 1024]⟩
abbrev S2x2048x1024 : Shape := ⟨3, ![2, 2048, 1024]⟩
abbrev S1x2x2048x2816 : Shape := ⟨4, ![1, 2, 2048, 2816]⟩
abbrev S2x2x2048x2816 : Shape := ⟨4, ![2, 2, 2048, 2816]⟩
abbrev S2x4096x2816 : Shape := ⟨3, ![2, 4096, 2816]⟩
abbrev S4096x1024 : Shape := ⟨2, ![4096, 1024]⟩
abbrev S1024x1024 : Shape := ⟨2, ![1024, 1024]⟩
abbrev S1x1024x1408 : Shape := ⟨3, ![1, 1024, 1408]⟩
abbrev S2x1024x1408 : Shape := ⟨3, ![2, 1024, 1408]⟩
abbrev S1408x1024 : Shape := ⟨2, ![1408, 1024]⟩
abbrev S1024x1408 : Shape := ⟨2, ![1024, 1408]⟩

abbrev nBuf : Space → Nat
  | .hbm => 13
  | .vmem => 9
  | .smem => 0
  | _ => 0

abbrev bufTy : (tb : Table) → Fin (tcTables nBuf tb) → BufTy
  | .hbm, ⟨0, _⟩ => ⟨S2x2048x2816, .f32⟩
  | .hbm, ⟨1, _⟩ => ⟨S2x2048x2816, .f32⟩
  | .hbm, ⟨2, _⟩ => ⟨S2816x1024, .f32⟩
  | .hbm, ⟨3, _⟩ => ⟨S2x2048x1024, .f32⟩
  | .hbm, ⟨4, _⟩ => ⟨S1x2x2048x2816, .f32⟩
  | .hbm, ⟨5, _⟩ => ⟨S1x2x2048x2816, .f32⟩
  | .hbm, ⟨6, _⟩ => ⟨S2x2x2048x2816, .f32⟩
  | .hbm, ⟨7, _⟩ => ⟨S2x4096x2816, .f32⟩
  | .hbm, ⟨8, _⟩ => ⟨S2x4096x2816, .bf16⟩
  | .hbm, ⟨9, _⟩ => ⟨S4096x1024, .f32⟩
  | .hbm, ⟨10, _⟩ => ⟨S4096x1024, .bf16⟩
  | .hbm, ⟨11, _⟩ => ⟨S2816x1024, .bf16⟩
  | .hbm, ⟨12, _⟩ => ⟨S2x4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S2x1024x1408, .bf16⟩
  | .local _ .vmem, ⟨8, _⟩ => ⟨S2x1024x1408, .bf16⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 2, 1], ![false, false, false]⟩

def k0_mult1 (i : grid0.Coords) : BitVec 32 :=
  let arg1 : BitVec 32 := BitVec.ofNat 32 (i 1).val
  let c1408_i32 : BitVec 32 := 1408#32
  let v2 : BitVec 32 := Scalar.muli arg1 c1408_i32
  v2
def k0_off1 (i : grid0.Coords) : Fin 2 → Nat :=
  let arg1 : BitVec 32 := BitVec.ofNat 32 (i 1).val
  let c1408_i32 : BitVec 32 := 1408#32
  let v2 : BitVec 32 := Scalar.muli arg1 c1408_i32
  let v3 : BitVec 32 := v2
  let v4 : Index := Scalar.indexCast v3
  let c0_1 : Index := 0#32
  ![v4.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DactRIdeal.lean ====
abbrev S2x2048x2816 : Shape := ⟨3, ![2, 2048, 2816]⟩
abbrev S2816x1024 : Shape := ⟨2, ![2816, 1024]⟩
abbrev S2x2048x1024 : Shape := ⟨3, ![2, 2048, 1024]⟩
abbrev S_ : Shape := ⟨0, ![]⟩
abbrev S1024x2816 : Shape := ⟨2, ![1024, 2816]⟩
abbrev S1x2x2048x2816 : Shape := ⟨4, ![1, 2, 2048, 2816]⟩
abbrev S2x2x2048x2816 : Shape := ⟨4, ![2, 2, 2048, 2816]⟩
abbrev S2x4096x2816 : Shape := ⟨3, ![2, 4096, 2816]⟩

abbrev nBuf : Space → Nat
  | .hbm => 39
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S2x2048x2816, .f32⟩
  | .hbm, ⟨2, _⟩ => ⟨S2816x1024, .f32⟩
  | .hbm, ⟨3, _⟩ => ⟨S2x2048x1024, .f32⟩
  | .hbm, ⟨4, _⟩ => ⟨S2x2048x2816, .f32⟩
  | .hbm, ⟨5, _⟩ => ⟨S2x2048x2816, .f32⟩
  | .hbm, ⟨6, _⟩ => ⟨S_, .f32⟩
  | .hbm, ⟨7, _⟩ => ⟨S2x2048x2816, .f32⟩
  | .hbm, ⟨8, _⟩ => ⟨S2x2048x2816, .f32⟩
  | .hbm, ⟨9, _⟩ => ⟨S_, .f32⟩
  | .hbm, ⟨10, _⟩ => ⟨S2x2048x2816, .f32⟩
  | .hbm, ⟨11, _⟩ => ⟨S2x2048x2816, .f32⟩
  | .hbm, ⟨12, _⟩ => ⟨S_, .f32⟩
  | .hbm, ⟨13, _⟩ => ⟨S2x2048x2816, .f32⟩
  | .hbm, ⟨14, _⟩ => ⟨S2x2048x2816, .f32⟩
  | .hbm, ⟨15, _⟩ => ⟨S2x2048x2816, .f32⟩
  | .hbm, ⟨16, _⟩ => ⟨S2x2048x2816, .f32⟩
  | .hbm, ⟨17, _⟩ => ⟨S2x2048x2816, .f32⟩
  | .hbm, ⟨18, _⟩ => ⟨S2x2048x1024, .f32⟩
  | .hbm, ⟨19, _⟩ => ⟨S_, .f32⟩
  | .hbm, ⟨20, _⟩ => ⟨S2x2048x1024, .f32⟩
  | .hbm, ⟨21, _⟩ => ⟨S2x2048x1024, .f32⟩
  | .hbm, ⟨22, _⟩ => ⟨S_, .f32⟩
  | .hbm, ⟨23, _⟩ => ⟨S2x2048x1024, .f32⟩
  | .hbm, ⟨24, _⟩ => ⟨S2x2048x1024, .f32⟩
  | .hbm, ⟨25, _⟩ => ⟨S1024x2816, .f32⟩
  | .hbm, ⟨26, _⟩ => ⟨S2816x1024, .f32⟩
  | .hbm, ⟨27, _⟩ => ⟨S2x2048x2816, .f32⟩
  | .hbm, ⟨28, _⟩ => ⟨S2x2048x2816, .f32⟩
  | .hbm, ⟨29, _⟩ => ⟨S2x2048x2816, .f32⟩
  | .hbm, ⟨30, _⟩ => ⟨S2x2048x2816, .f32⟩
  | .hbm, ⟨31, _⟩ => ⟨S2x2048x2816, .f32⟩
  | .hbm, ⟨32, _⟩ => ⟨S2x2048x2816, .f32⟩
  | .hbm, ⟨33, _⟩ => ⟨S2x2048x2816, .f32⟩
  | .hbm, ⟨34, _⟩ => ⟨S1x2x2048x2816, .f32⟩
  | .hbm, ⟨35, _⟩ => ⟨S1x2x2048x2816, .f32⟩
  | .hbm, ⟨36, _⟩ => ⟨S2x2x2048x2816, .f32⟩
  | .hbm, ⟨37, _⟩ => ⟨S2x4096x2816, .f32⟩
  | .hbm, ⟨38, _⟩ => ⟨S2x4096x2816, .bf16⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩

abbrev nD : Nat := 1
abbrev τ : Topo := Topo.v7x

variable {F : FTy → Type} [FloatOps F]
-- ==== ConvK.lean ====
abbrev S2x2048x2304 : Shape := ⟨3, ![2, 2048, 2304]⟩
abbrev S3x512 : Shape := ⟨2, ![3, 512]⟩
abbrev S2x2048x1024 : Shape := ⟨3, ![2, 2048, 1024]⟩
abbrev S4096x2304 : Shape := ⟨2, ![4096, 2304]⟩
abbrev S4096x1024 : Shape := ⟨2, ![4096, 1024]⟩
abbrev S4096x512 : Shape := ⟨2, ![4096, 512]⟩
abbrev S2048x128 : Shape := ⟨2, ![2048, 128]⟩
abbrev S3x128 : Shape := ⟨2, ![3, 128]⟩
abbrev S2064x128 : Shape := ⟨2, ![2064, 128]⟩
abbrev S8x128 : Shape := ⟨2, ![8, 128]⟩
abbrev S1x128 : Shape := ⟨2, ![1, 128]⟩
abbrev S128 : Shape := ⟨1, ![128]⟩

abbrev nBuf : Space → Nat
  | .hbm => 10
  | .vmem => 19
  | .smem => 0
  | _ => 0

abbrev bufTy : (tb : Table) → Fin (tcTables nBuf tb) → BufTy
  | .hbm, ⟨0, _⟩ => ⟨S2x2048x2304, .f32⟩
  | .hbm, ⟨1, _⟩ => ⟨S3x512, .f32⟩
  | .hbm, ⟨2, _⟩ => ⟨S2x2048x1024, .f32⟩
  | .hbm, ⟨3, _⟩ => ⟨S4096x2304, .f32⟩
  | .hbm, ⟨4, _⟩ => ⟨S4096x2304, .bf16⟩
  | .hbm, ⟨5, _⟩ => ⟨S4096x1024, .f32⟩
  | .hbm, ⟨6, _⟩ => ⟨S4096x512, .bf16⟩
  | .hbm, ⟨7, _⟩ => ⟨S4096x512, .bf16⟩
  | .hbm, ⟨8, _⟩ => ⟨S4096x512, .bf16⟩
  | .hbm, ⟨9, _⟩ => ⟨S3x512, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S3x128, .f32⟩
  | .local _ .vmem, ⟨7, _⟩ => ⟨S3x128, .f32⟩
  | .local _ .vmem, ⟨8, _⟩ => ⟨S2048x128, .f32⟩
  | .local _ .vmem, ⟨9, _⟩ => ⟨S2048x128, .f32⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S3x128, .f32⟩
  | .local _ .vmem, ⟨17, _⟩ => ⟨S3x128, .f32⟩
  | .local _ .vmem, ⟨18, _⟩ => ⟨S2064x128, .f32⟩
  | _, _ => ⟨S2x2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v72 : BitVec 1 := Scalar.cmpi .eq arg1 c0_i32
  let v73 : BitVec 32 := Scalar.extui v72
  let c0_i32_30 : BitVec 32 := 0#32
  let v74 : BitVec 1 := Scalar.cmpi .ne v73 c0_i32_30
  v74

def k0_cond2 (i : grid0.Coords) : BitVec 1 :=
  let arg1 : BitVec 32 := BitVec.ofNat 32 (i 1).val
  let c0_i32_31 : BitVec 32 := 0#32
  let v75 : BitVec 1 := Scalar.cmpi .sgt arg1 c0_i32_31
  let v76 : BitVec 32 := Scalar.extui v75
  let c0_i32_32 : BitVec 32 := 0#32
  let v77 : BitVec 1 := Scalar.cmpi .ne v76 c0_i32_32
  v77

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ConvRIdeal.lean ====
abbrev S2x2048x2304 : Shape := ⟨3, ![2, 2048, 2304]⟩
abbrev S3x512 : Shape := ⟨2, ![3, 512]⟩
abbrev S2x2048x1024 : Shape := ⟨3, ![2, 2048, 1024]⟩
abbrev S2x2048x512 : Shape := ⟨3, ![2, 2048, 512]⟩
abbrev S2x2048x768 : Shape := ⟨3, ![2, 2048, 768]⟩
abbrev S2x1x512 : Shape := ⟨3, ![2, 1, 512]⟩
abbrev S_ : Shape := ⟨0, ![]⟩
abbrev S2x2050x512 : Shape := ⟨3, ![2, 2050, 512]⟩
abbrev S1x512 : Shape := ⟨2, ![1, 512]⟩
abbrev S512 : Shape := ⟨1, ![512]⟩
abbrev S1x1x512 : Shape := ⟨3, ![1, 1, 512]⟩
abbrev S4096x512 : Shape := ⟨2, ![4096, 512]⟩

abbrev nBuf : Space → Nat
  | .hbm => 94
  | .vmem => 0
  | .smem => 0
  | _ => 0

abbrev bufTy : (tb : Table) → Fin (tcTables nBuf tb) → BufTy
  | .hbm, ⟨0, _⟩ => ⟨S2x2048x2304, .f32⟩
  | .hbm, ⟨1, _⟩ => ⟨S3x512, .f32⟩
  | .hbm, ⟨2, _⟩ => ⟨S2x2048x1024, .f32⟩
  | .hbm, ⟨3, _⟩ => ⟨S2x2048x512, .f32⟩
  | .hbm, ⟨4, _⟩ => ⟨S2x2048x512, .f32⟩
  | .hbm, ⟨5, _⟩ => ⟨S2x2048x512, .f32⟩
  | .hbm, ⟨6, _⟩ => ⟨S2x2048x768, .f32⟩
  | .hbm, ⟨7, _⟩ => ⟨S2x2048x512, .f32⟩
  | .hbm, ⟨8, _⟩ => ⟨S2x1x512, .f32⟩
  | .hbm, ⟨9, _⟩ => ⟨S_, .f32⟩
  | .hbm, ⟨10, _⟩ => ⟨S2x1x512, .f32⟩
  | .hbm, ⟨11, _⟩ => ⟨S2x2050x512, .f32⟩
  | .hbm, ⟨12, _⟩ => ⟨S_, .f32⟩
  | .hbm, ⟨13, _⟩ => ⟨S2x1x512, .f32⟩
  | .hbm, ⟨14, _⟩ => ⟨S_, .f32⟩
  | .hbm, ⟨15, _⟩ => ⟨S2x1x512, .f32⟩
  | .hbm, ⟨16, _⟩ => ⟨S2x2048x512, .f32⟩
  | .hbm, ⟨17, _⟩ => ⟨S1x512, .f32⟩
  | .hbm, ⟨18, _⟩ => ⟨S512, .f32⟩
  | .hbm, ⟨19, _⟩ => ⟨S1x1x512, .f32⟩
  | .hbm, ⟨20, _⟩ => ⟨S2x2048x512, .f32⟩
  | .hbm, ⟨21, _⟩ => ⟨S2x2048x512, .f32⟩
  | .hbm, ⟨22, _⟩ => ⟨S2x2048x512, .f32⟩
  | .hbm, ⟨23, _⟩ => ⟨S1x512, .f32⟩
  | .hbm, ⟨24, _⟩ => ⟨S512, .f32⟩
  | .hbm, ⟨25, _⟩ => ⟨S1x1x512, .f32⟩
  | .hbm, ⟨26, _⟩ => ⟨S2x2048x512, .f32⟩
  | .hbm, ⟨27, _⟩ => ⟨S2x2048x512, .f32⟩
  | .hbm, ⟨28, _⟩ => ⟨S2x2048x512, .f32⟩
  | .hbm, ⟨29, _⟩ => ⟨S2x2048x512, .f32⟩
  | .hbm, ⟨30, _⟩ => ⟨S1x512, .f32⟩
  | .hbm, ⟨31, _⟩ => ⟨S512, .f32⟩
  | .hbm, ⟨32, _⟩ => ⟨S1x1x512, .f32⟩
  | .hbm, ⟨33, _⟩ => ⟨S2x2048x512, .f32⟩
  | .hbm, ⟨34, _⟩ => ⟨S2x2048x512, .f32⟩
  | .hbm, ⟨35, _⟩ => ⟨S2x2048x512, .f32⟩
  | .hbm, ⟨36, _⟩ => ⟨S2x2048x512, .f32⟩
  | .hbm, ⟨37, _⟩ => ⟨S2x2048x512, .f32⟩
  | .hbm, ⟨38, _⟩ => ⟨S2x2048x512, .f32⟩
  | .hbm, ⟨39, _⟩ => ⟨S2x2048x512, .f32⟩
  | .hbm, ⟨40, _⟩ => ⟨S2x2048x512, .f32⟩
  | .hbm, ⟨41, _⟩ => ⟨S_, .f32⟩
  | .hbm, ⟨42, _⟩ => ⟨S512, .f32⟩
  | .hbm, ⟨43, _⟩ => ⟨S1x1x512, .f32⟩
  | .hbm, ⟨44, _⟩ => ⟨S2x2048x512, .f32⟩
  | .hbm, ⟨45, _⟩ => ⟨S2x2048x512, .f32⟩
  | .hbm, ⟨46, _⟩ => ⟨S_, .f32⟩
  | .hbm, ⟨47, _⟩ => ⟨S512, .f32⟩
  | .hbm, ⟨48, _⟩ => ⟨S1x512, .f32⟩
  | .hbm, ⟨49, _⟩ => ⟨S_, .f32⟩
  | .hbm, ⟨50, _⟩ => ⟨S3x512, .f32⟩
  | .hbm, ⟨51, _⟩ => ⟨S_, .f32⟩
  | .hbm, ⟨52, _⟩ => ⟨S2x2050x512, .f32⟩
  | .hbm, ⟨53, _⟩ => ⟨S2x2048x512, .f32⟩
  | .hbm, ⟨54, _⟩ => ⟨S_, .f32⟩
  | .hbm, ⟨55, _⟩ => ⟨S512, .f32⟩
  | .hbm, ⟨56, _⟩ => ⟨S1x1x512, .f32⟩
  | .hbm, ⟨57, _⟩ => ⟨S2x2048x512, .f32⟩
  | .hbm, ⟨58, _⟩ => ⟨S2x2048x512, .f32⟩
  | .hbm, ⟨59, _⟩ => ⟨S_, .f32⟩
  | .hbm, ⟨60, _⟩ => ⟨S512, .f32⟩
  | .hbm, ⟨61, _⟩ => ⟨S1x512, .f32⟩
  | .hbm, ⟨62, _⟩ => ⟨S_, .f32⟩
  | .hbm, ⟨63, _⟩ => ⟨S3x512, .f32⟩
  | .hbm, ⟨64, _⟩ => ⟨S3x512, .f32⟩
  | .hbm, ⟨65, _⟩ => ⟨S_, .f32⟩
  | .hbm, ⟨66, _⟩ => ⟨S2x2050x512, .f32⟩
  | .hbm, ⟨67, _⟩ => ⟨S2x2050x512, .f32⟩
  | .hbm, ⟨68, _⟩ => ⟨S2x2048x512, .f32⟩
  | .hbm, ⟨69, _⟩ => ⟨S_, .f32⟩
  | .hbm, ⟨70, _⟩ => ⟨S512, .f32⟩
  | .hbm, ⟨71, _⟩ => ⟨S1x1x512, .f32⟩
  | .hbm, ⟨72, _⟩ => ⟨S2x2048x512, .f32⟩
  | .hbm, ⟨73, _⟩ => ⟨S2x2048x512, .f32⟩
  | .hbm, ⟨74, _⟩ => ⟨S_, .f32⟩
  | .hbm, ⟨75, _⟩ => ⟨S512, .f32⟩
  | .hbm, ⟨76, _⟩ => ⟨S1x512, .f32⟩
  | .hbm, ⟨77, _⟩ => ⟨S_, .f32⟩
  | .hbm, ⟨78, _⟩ => ⟨S3x512, .f32⟩
  | .hbm, ⟨79, _⟩ => ⟨S3x512, .f32⟩
  | .hbm, ⟨80, _⟩ => ⟨S_, .f32⟩
  | .hbm, ⟨81, _⟩ => ⟨S2x2050x512, .f32⟩
  | .hbm, ⟨82, _⟩ => ⟨S2x2050x512, .f32⟩
  | .hbm, ⟨83, _⟩ => ⟨S2x1x512, .f32⟩
  | .hbm, ⟨84, _⟩ => ⟨S2x2048x512, .f32⟩
  | .hbm, ⟨85, _⟩ => ⟨S2x1x512, .f32⟩
  | .hbm, ⟨86, _⟩ => ⟨S2x2048x512, .f32⟩
  | .hbm, ⟨87, _⟩ => ⟨S2x2048x512, .f32⟩
  | .hbm, ⟨88, _⟩ => ⟨S4096x512, .f32⟩
  | .hbm, ⟨89, _⟩ => ⟨S4096x512, .bf16⟩
  | .hbm, ⟨90, _⟩ => ⟨S4096x512, .f32⟩
  | .hbm, ⟨91, _⟩ => ⟨S4096x512, .bf16⟩
  | .hbm, ⟨92, _⟩ => ⟨S4096x512, .f32⟩
  | .hbm, ⟨93, _⟩ => ⟨S4096x512, .bf16⟩
  | _, _ => ⟨S2x2048x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_cst_13 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩

abbrev nD : Nat := 1
abbrev τ : Topo := Topo.v7x

variable {F : FTy → Type} [FloatOps F]
-- ==== AttbK.lean ====
abbrev S2x2048x8x64 : Shape := ⟨4, ![2, 2048, 8, 64]⟩
abbrev S2x2048x2x64 : Shape := ⟨4, ![2, 2048, 2, 64]⟩
abbrev S2x2048x2304 : Shape := ⟨3, ![2, 2048, 2304]⟩
abbrev S2x2048x1024 : Shape := ⟨3, ![2, 2048, 1024]⟩
abbrev S2x2048x128 : Shape := ⟨3, ![2, 2048, 128]⟩
abbrev S2x2048x2x4x64 : Shape := ⟨5, ![2, 2048, 2, 4, 64]⟩
abbrev S2x2x2048x2048x4 : Shape := ⟨5, ![2, 2, 2048, 2048, 4]⟩
abbrev S2x2x4x2048x2048 : Shape := ⟨5, ![2, 2, 4, 2048, 2048]⟩
abbrev S_ : Shape := ⟨0, ![]⟩
abbrev S2x2x4x2048 : Shape := ⟨4, ![2, 2, 4, 2048]⟩
abbrev S2x2x4x2048x1 : Shape := ⟨5, ![2, 2, 4, 2048, 1]⟩
abbrev S2x2x4x2048x64 : Shape := ⟨5, ![2, 2, 4, 2048, 64]⟩
abbrev S4096x512 : Shape := ⟨2, ![4096, 512]⟩
abbrev S2x2048x2x4x1 : Shape := ⟨5, ![2, 2048, 2, 4, 1]⟩
abbrev S4096x8 : Shape := ⟨2, ![4096, 8]⟩
abbrev S4096x128 : Shape := ⟨2, ![4096, 128]⟩
abbrev S4096x2304 : Shape := ⟨2, ![4096, 2304]⟩
abbrev S4096x1024 : Shape := ⟨2, ![4096, 1024]⟩
abbrev S512x512 : Shape := ⟨2, ![512, 512]⟩
abbrev S2048x128 : Shape := ⟨2, ![2048, 128]⟩
abbrev S512x8 : Shape := ⟨2, ![512, 8]⟩
abbrev S512x64 : Shape := ⟨2, ![512, 64]⟩
abbrev S2048x64 : Shape := ⟨2, ![2048, 64]⟩
abbrev S512x2048 : Shape := ⟨2, ![512, 2048]⟩
abbrev S512x1 : Shape := ⟨2, ![512, 1]⟩
abbrev S512 : Shape := ⟨1, ![512]⟩

abbrev nBuf : Space → Nat
  | .hbm => 41
  | .vmem => 18
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x2x64, .f32⟩
  | .hbm, ⟨2, _⟩ => ⟨S2x2048x2304, .f32⟩
  | .hbm, ⟨3, _⟩ => ⟨S2x2048x1024, .f32⟩
  | .hbm, ⟨4, _⟩ => ⟨S2x2048x128, .f32⟩
  | .hbm, ⟨5, _⟩ => ⟨S2x2048x2x64, .f32⟩
  | .hbm, ⟨6, _⟩ => ⟨S2x2048x2x4x64, .f32⟩
  | .hbm, ⟨7, _⟩ => ⟨S2x2x2048x2048x4, .f32⟩
  | .hbm, ⟨8, _⟩ => ⟨S2x2x4x2048x2048, .f32⟩
  | .hbm, ⟨9, _⟩ => ⟨S_, .f32⟩
  | .hbm, ⟨10, _⟩ => ⟨S2x2x4x2048, .f32⟩
  | .hbm, ⟨11, _⟩ => ⟨S2x2x4x2048x1, .f32⟩
  | .hbm, ⟨12, _⟩ => ⟨S2x2x4x2048x2048, .f32⟩
  | .hbm, ⟨13, _⟩ => ⟨S2x2x4x2048x2048, .f32⟩
  | .hbm, ⟨14, _⟩ => ⟨S2x2x4x2048x2048, .f32⟩
  | .hbm, ⟨15, _⟩ => ⟨S_, .f32⟩
  | .hbm, ⟨16, _⟩ => ⟨S2x2x4x2048, .f32⟩
  | .hbm, ⟨17, _⟩ => ⟨S2x2x4x2048x1, .f32⟩
  | .hbm, ⟨18, _⟩ => ⟨S2x2x4x2048x64, .f32⟩
  | .hbm, ⟨19, _⟩ => ⟨S_, .f32⟩
  | .hbm, ⟨20, _⟩ => ⟨S2x2x4x2048x1, .f32⟩
  | .hbm, ⟨21, _⟩ => ⟨S2x2x4x2048x1, .f32⟩
  | .hbm, ⟨22, _⟩ => ⟨S2x2x4x2048x64, .f32⟩
  | .hbm, ⟨23, _⟩ => ⟨S2x2x4x2048x64, .f32⟩
  | .hbm, ⟨24, _⟩ => ⟨S2x2x4x2048x1, .f32⟩
  | .hbm, ⟨25, _⟩ => ⟨S2x2x4x2048x1, .f32⟩
  | .hbm, ⟨26, _⟩ => ⟨S2x2048x2x4x64, .f32⟩
  | .hbm, ⟨27, _⟩ => ⟨S4096x512, .f32⟩
  | .hbm, ⟨28, _⟩ => ⟨S2x2048x2x4x1, .f32⟩
  | .hbm, ⟨29, _⟩ => ⟨S4096x8, .f32⟩
  | .hbm, ⟨30, _⟩ => ⟨S4096x512, .f32⟩
  | .hbm, ⟨31, _⟩ => ⟨S4096x512, .bf16⟩
  | .hbm, ⟨32, _⟩ => ⟨S4096x128, .f32⟩
  | .hbm, ⟨33, _⟩ => ⟨S4096x128, .bf16⟩
  | .hbm, ⟨34, _⟩ => ⟨S4096x2304, .f32⟩
  | .hbm, ⟨35, _⟩ => ⟨S4096x2304, .bf16⟩
  | .hbm, ⟨36, _⟩ => ⟨S4096x512, .bf16⟩
  | .hbm, ⟨37, _⟩ => ⟨S4096x1024, .f32⟩
  | .hbm, ⟨38, _⟩ => ⟨S4096x512, .f32⟩
  | .hbm, ⟨39, _⟩ => ⟨S4096x128, .f32⟩
  | .hbm, ⟨40, _⟩ => ⟨S4096x128, .f32⟩
  | .local _ .vmem, ⟨0, _⟩ => ⟨S512x512, .bf16⟩
  | .local _ .vmem, ⟨1, _⟩ => ⟨S512x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x512, .bf16⟩
  | .local _ .vmem, ⟨7, _⟩ => ⟨S512x512, .bf16⟩
  | .local _ .vmem, ⟨8, _⟩ => ⟨S512x8, .f32⟩
  | .local _ .vmem, ⟨9, _⟩ => ⟨S512x8, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | _, _ => ⟨S2x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31_0 : Ref sig .tc := ⟨.hbm, 38, rfl⟩
abbrev main_v31_1 : Ref sig .tc := ⟨.hbm, 39, rfl⟩
abbrev main_v31_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c17_i32 : BitVec 32 := 17#32
  let c0_i32 : BitVec 32 := 0#32
  ![arg0.toNat, c17_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  ![v1.toNat, c1_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== AttbRIdeal.lean ====
abbrev S2x2048x8x64 : Shape := ⟨4, ![2, 2048, 8, 64]⟩
abbrev S2x2048x2x64 : Shape := ⟨4, ![2, 2048, 2, 64]⟩
abbrev S2x2048x2304 : Shape := ⟨3, ![2, 2048, 2304]⟩
abbrev S2x2048x1024 : Shape := ⟨3, ![2, 2048, 1024]⟩
abbrev S2x2048x128 : Shape := ⟨3, ![2, 2048, 128]⟩
abbrev S2x2048x2x4x64 : Shape := ⟨5, ![2, 2048, 2, 4, 64]⟩
abbrev S2x2x2048x2048x4 : Shape := ⟨5, ![2, 2, 2048, 2048, 4]⟩
abbrev S2x2x4x2048x2048 : Shape := ⟨5, ![2, 2, 4, 2048, 2048]⟩
abbrev S_ : Shape := ⟨0, ![]⟩
abbrev S2x2x4x2048 : Shape := ⟨4, ![2, 2, 4, 2048]⟩
abbrev S2x2x4x2048x1 : Shape := ⟨5, ![2, 2, 4, 2048, 1]⟩
abbrev S2x2x64x4x2048 : Shape := ⟨5, ![2, 2, 64, 4, 2048]⟩
abbrev S2x2048x512 : Shape := ⟨3, ![2, 2048, 512]⟩
abbrev S2x2x64x2048 : Shape := ⟨4, ![2, 2, 64, 2048]⟩
abbrev S2x2x2048x4x64 : Shape := ⟨5, ![2, 2, 2048, 4, 64]⟩
abbrev S2x2x2048x64 : Shape := ⟨4, ![2, 2, 2048, 64]⟩
abbrev S4096x512 : Shape := ⟨2, ![4096, 512]⟩
abbrev S4096x128 : Shape := ⟨2, ![4096, 128]⟩

abbrev nBuf : Space → Nat
  | .hbm => 79
  | .vmem => 0
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x2x64, .f32⟩
  | .hbm, ⟨2, _⟩ => ⟨S2x2048x2304, .f32⟩
  | .hbm, ⟨3, _⟩ => ⟨S2x2048x1024, .f32⟩
  | .hbm, ⟨4, _⟩ => ⟨S2x2048x128, .f32⟩
  | .hbm, ⟨5, _⟩ => ⟨S2x2048x2x64, .f32⟩
  | .hbm, ⟨6, _⟩ => ⟨S2x2048x2x4x64, .f32⟩
  | .hbm, ⟨7, _⟩ => ⟨S2x2x2048x2048x4, .f32⟩
  | .hbm, ⟨8, _⟩ => ⟨S2x2x4x2048x2048, .f32⟩
  | .hbm, ⟨9, _⟩ => ⟨S_, .f32⟩
  | .hbm, ⟨10, _⟩ => ⟨S2x2x4x2048, .f32⟩
  | .hbm, ⟨11, _⟩ => ⟨S2x2x4x2048x1, .f32⟩
  | .hbm, ⟨12, _⟩ => ⟨S2x2x4x2048x2048, .f32⟩
  | .hbm, ⟨13, _⟩ => ⟨S2x2x4x2048x2048, .i1⟩
  | .hbm, ⟨14, _⟩ => ⟨S2x2x4x2048x2048, .f32⟩
  | .hbm, ⟨15, _⟩ => ⟨S_, .f32⟩
  | .hbm, ⟨16, _⟩ => ⟨S2x2x4x2048, .f32⟩
  | .hbm, ⟨17, _⟩ => ⟨S_, .f32⟩
  | .hbm, ⟨18, _⟩ => ⟨S2x2x4x2048, .f32⟩
  | .hbm, ⟨19, _⟩ => ⟨S2x2x4x2048, .f32⟩
  | .hbm, ⟨20, _⟩ => ⟨S_, .f32⟩
  | .hbm, ⟨21, _⟩ => ⟨S2x2x4x2048, .f32⟩
  | .hbm, ⟨22, _⟩ => ⟨S2x2x4x2048, .i1⟩
  | .hbm, ⟨23, _⟩ => ⟨S_, .f32⟩
  | .hbm, ⟨24, _⟩ => ⟨S2x2x4x2048, .f32⟩
  | .hbm, ⟨25, _⟩ => ⟨S2x2x4x2048, .i1⟩
  | .hbm, ⟨26, _⟩ => ⟨S_, .f32⟩
  | .hbm, ⟨27, _⟩ => ⟨S2x2x4x2048, .f32⟩
  | .hbm, ⟨28, _⟩ => ⟨S_, .f32⟩
  | .hbm, ⟨29, _⟩ => ⟨S2x2x4x2048, .f32⟩
  | .hbm, ⟨30, _⟩ => ⟨S_, .f32⟩
  | .hbm, ⟨31, _⟩ => ⟨S2x2x4x2048, .f32⟩
  | .hbm, ⟨32, _⟩ => ⟨S2x2x4x2048, .f32⟩
  | .hbm, ⟨33, _⟩ => ⟨S2x2x4x2048, .f32⟩
  | .hbm, ⟨34, _⟩ => ⟨S2x2x4x2048x1, .f32⟩
  | .hbm, ⟨35, _⟩ => ⟨S2x2x4x2048x2048, .f32⟩
  | .hbm, ⟨36, _⟩ => ⟨S2x2x4x2048x2048, .f32⟩
  | .hbm, ⟨37, _⟩ => ⟨S2x2x4x2048x2048, .f32⟩
  | .hbm, ⟨38, _⟩ => ⟨S_, .f32⟩
  | .hbm, ⟨39, _⟩ => ⟨S2x2x4x2048, .f32⟩
  | .hbm, ⟨40, _⟩ => ⟨S2x2x4x2048x1, .f32⟩
  | .hbm, ⟨41, _⟩ => ⟨S2x2x4x2048x2048, .f32⟩
  | .hbm, ⟨42, _⟩ => ⟨S2x2x4x2048x2048, .f32⟩
  | .hbm, ⟨43, _⟩ => ⟨S2x2x4x2048x1, .f32⟩
  | .hbm, ⟨44, _⟩ => ⟨S_, .f32⟩
  | .hbm, ⟨45, _⟩ => ⟨S2x2x4x2048x1, .f32⟩
  | .hbm, ⟨46, _⟩ => ⟨S2x2x4x2048x1, .f32⟩
  | .hbm, ⟨47, _⟩ => ⟨S2x2x64x4x2048, .f32⟩
  | .hbm, ⟨48, _⟩ => ⟨S2x2048x2x4x64, .f32⟩
  | .hbm, ⟨49, _⟩ => ⟨S2x2048x512, .f32⟩
  | .hbm, ⟨50, _⟩ => ⟨S2x2048x512, .f32⟩
  | .hbm, ⟨51, _⟩ => ⟨S2x2048x2x4x64, .f32⟩
  | .hbm, ⟨52, _⟩ => ⟨S2x2x64x4x2048, .f32⟩
  | .hbm, ⟨53, _⟩ => ⟨S2x2x4x2048x2048, .f32⟩
  | .hbm, ⟨54, _⟩ => ⟨S2x2x64x2048, .f32⟩
  | .hbm, ⟨55, _⟩ => ⟨S2x2048x2x64, .f32⟩
  | .hbm, ⟨56, _⟩ => ⟨S2x2x4x2048x2048, .f32⟩
  | .hbm, ⟨57, _⟩ => ⟨S2x2x4x2048x2048, .f32⟩
  | .hbm, ⟨58, _⟩ => ⟨S2x2x4x2048x2048, .f32⟩
  | .hbm, ⟨59, _⟩ => ⟨S_, .f32⟩
  | .hbm, ⟨60, _⟩ => ⟨S2x2x4x2048, .f32⟩
  | .hbm, ⟨61, _⟩ => ⟨S2x2x4x2048x1, .f32⟩
  | .hbm, ⟨62, _⟩ => ⟨S2x2x4x2048x1, .f32⟩
  | .hbm, ⟨63, _⟩ => ⟨S2x2x4x2048x2048, .f32⟩
  | .hbm, ⟨64, _⟩ => ⟨S2x2x4x2048x2048, .f32⟩
  | .hbm, ⟨65, _⟩ => ⟨S_, .f32⟩
  | .hbm, ⟨66, _⟩ => ⟨S2x2x4x2048, .f32⟩
  | .hbm, ⟨67, _⟩ => ⟨S2x2x4x2048x2048, .f32⟩
  | .hbm, ⟨68, _⟩ => ⟨S2x2x4x2048x2048, .f32⟩
  | .hbm, ⟨69, _⟩ => ⟨S2x2x4x2048x2048, .f32⟩
  | .hbm, ⟨70, _⟩ => ⟨S2x2x2048x2048x4, .f32⟩
  | .hbm, ⟨71, _⟩ => ⟨S2x2x2048x4x64, .f32⟩
  | .hbm, ⟨72, _⟩ => ⟨S2x2048x2x4x64, .f32⟩
  | .hbm, ⟨73, _⟩ => ⟨S2x2x2048x64, .f32⟩
  | .hbm, ⟨74, _⟩ => ⟨S2x2048x2x64, .f32⟩
  | .hbm, ⟨75, _⟩ => ⟨S2x2048x8x64, .f32⟩
  | .hbm, ⟨76, _⟩ => ⟨S4096x512, .f32⟩
  | .hbm, ⟨77, _⟩ => ⟨S4096x128, .f32⟩
  | .hbm, ⟨78, _⟩ => ⟨S4096x128, .f32⟩
  | _, _ => ⟨S2x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_9 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩

abbrev nD : Nat := 1
abbrev τ : Topo := Topo.v7x

variable {F : FTy → Type} [FloatOps F]
-- ==== DwoutK.lean ====
abbrev S2x2048x2816 : Shape := ⟨3, ![2, 2048, 2816]⟩
abbrev S2816x1024 : Shape := ⟨2, ![2816, 1024]⟩
abbrev S2x2048x1024 : Shape := ⟨3, ![2, 2048, 1024]⟩
abbrev S1x2x2048x2816 : Shape := ⟨4, ![1, 2, 2048, 2816]⟩
abbrev S2x2x2048x2816 : Shape := ⟨4, ![2, 2, 2048, 2816]⟩
abbrev S2x4096x2816 : Shape := ⟨3, ![2, 4096, 2816]⟩
abbrev S4096x1024 : Shape := ⟨2, ![4096, 1024]⟩
abbrev S1x1024x1408 : Shape := ⟨3, ![1, 1024, 1408]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 12
  | .vmem => 9
  | .smem => 0
  | _ => 0

abbrev bufTy : (tb : Table) → Fin (tcTables nBuf tb) → BufTy
  | .hbm, ⟨0, _⟩ => ⟨S2x2048x2816, .f32⟩
  | .hbm, ⟨1, _⟩ => ⟨S2x2048x2816, .f32⟩
  | .hbm, ⟨2, _⟩ => ⟨S2816x1024, .f32⟩
  | .hbm, ⟨3, _⟩ => ⟨S2x2048x1024, .f32⟩
  | .hbm, ⟨4, _⟩ => ⟨S1x2x2048x2816, .f32⟩
  | .hbm, ⟨5, _⟩ => ⟨S1x2x2048x2816, .f32⟩
  | .hbm, ⟨6, _⟩ => ⟨S2x2x2048x2816, .f32⟩
  | .hbm, ⟨7, _⟩ => ⟨S2x4096x2816, .f32⟩
  | .hbm, ⟨8, _⟩ => ⟨S2x4096x2816, .bf16⟩
  | .hbm, ⟨9, _⟩ => ⟨S4096x1024, .f32⟩
  | .hbm, ⟨10, _⟩ => ⟨S4096x1024, .bf16⟩
  | .hbm, ⟨11, _⟩ => ⟨S2816x1024, .bf16⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_13 : BitVec 32 := 3#32
  let v24 : BitVec 1 := Scalar.cmpi .eq arg2 c3_i32_13
  let v25 : BitVec 32 := Scalar.extui v24
  let c0_i32_14 : BitVec 32 := 0#32
  let v26 : BitVec 1 := Scalar.cmpi .ne v25 c0_i32_14
  v26

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== DwoutRIdeal.lean ====
abbrev S2x2048x2816 : Shape := ⟨3, ![2, 2048, 2816]⟩
abbrev S2816x1024 : Shape := ⟨2, ![2816, 1024]⟩
abbrev S2x2048x1024 : Shape := ⟨3, ![2, 2048, 1024]⟩
abbrev S_ : Shape := ⟨0, ![]⟩
abbrev S1024x2816 : Shape := ⟨2, ![1024, 2816]⟩

abbrev nBuf : Space → Nat
  | .hbm => 35
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S2x2048x2816, .f32⟩
  | .hbm, ⟨2, _⟩ => ⟨S2816x1024, .f32⟩
  | .hbm, ⟨3, _⟩ => ⟨S2x2048x1024, .f32⟩
  | .hbm, ⟨4, _⟩ => ⟨S2x2048x2816, .f32⟩
  | .hbm, ⟨5, _⟩ => ⟨S2x2048x2816, .f32⟩
  | .hbm, ⟨6, _⟩ => ⟨S_, .f32⟩
  | .hbm, ⟨7, _⟩ => ⟨S2x2048x2816, .f32⟩
  | .hbm, ⟨8, _⟩ => ⟨S2x2048x2816, .f32⟩
  | .hbm, ⟨9, _⟩ => ⟨S_, .f32⟩
  | .hbm, ⟨10, _⟩ => ⟨S2x2048x2816, .f32⟩
  | .hbm, ⟨11, _⟩ => ⟨S2x2048x2816, .f32⟩
  | .hbm, ⟨12, _⟩ => ⟨S_, .f32⟩
  | .hbm, ⟨13, _⟩ => ⟨S2x2048x2816, .f32⟩
  | .hbm, ⟨14, _⟩ => ⟨S2x2048x2816, .f32⟩
  | .hbm, ⟨15, _⟩ => ⟨S2x2048x2816, .f32⟩
  | .hbm, ⟨16, _⟩ => ⟨S2x2048x2816, .f32⟩
  | .hbm, ⟨17, _⟩ => ⟨S2x2048x2816, .f32⟩
  | .hbm, ⟨18, _⟩ => ⟨S2x2048x1024, .f32⟩
  | .hbm, ⟨19, _⟩ => ⟨S_, .f32⟩
  | .hbm, ⟨20, _⟩ => ⟨S2x2048x1024, .f32⟩
  | .hbm, ⟨21, _⟩ => ⟨S2x2048x1024, .f32⟩
  | .hbm, ⟨22, _⟩ => ⟨S_, .f32⟩
  | .hbm, ⟨23, _⟩ => ⟨S2x2048x1024, .f32⟩
  | .hbm, ⟨24, _⟩ => ⟨S2x2048x1024, .f32⟩
  | .hbm, ⟨25, _⟩ => ⟨S1024x2816, .f32⟩
  | .hbm, ⟨26, _⟩ => ⟨S2816x1024, .f32⟩
  | .hbm, ⟨27, _⟩ => ⟨S2x2048x2816, .f32⟩
  | .hbm, ⟨28, _⟩ => ⟨S2x2048x2816, .f32⟩
  | .hbm, ⟨29, _⟩ => ⟨S2x2048x2816, .f32⟩
  | .hbm, ⟨30, _⟩ => ⟨S2x2048x2816, .f32⟩
  | .hbm, ⟨31, _⟩ => ⟨S2x2048x2816, .f32⟩
  | .hbm, ⟨32, _⟩ => ⟨S2x2048x2816, .f32⟩
  | .hbm, ⟨33, _⟩ => ⟨S2x2048x2816, .f32⟩
  | .hbm, ⟨34, _⟩ => ⟨S2816x1024, .bf16⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v12 : Ref sig .tc := ⟨.hbm, 33, rfl⟩
abbrev main_v13 : Ref sig .tc := ⟨.hbm, 34, rfl⟩

abbrev nD : Nat := 1
abbrev τ : Topo := Topo.v7x

variable {F : FTy → Type} [FloatOps F]
-- ==== LossK.lean ====
abbrev S2x2048x1024 : Shape := ⟨3, ![2, 2048, 1024]⟩
abbrev S1024 : Shape := ⟨1, ![1024]⟩
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 10
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1x1024, .f32⟩
  | .hbm, ⟨8, _⟩ => ⟨S1x128, .f32⟩
  | .hbm, ⟨9, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x128, .f32⟩
  | .local _ .vmem, ⟨9, _⟩ => ⟨S512x1024, .bf16⟩
  | .local _ .vmem, ⟨10, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v50 : BitVec 1 := Scalar.cmpi .eq arg0 c0_i32
  let v51 : BitVec 32 := Scalar.extui v50
  let c0_i32_19 : BitVec 32 := 0#32
  let v52 : BitVec 1 := Scalar.cmpi .ne v51 c0_i32_19
  v52

def k0_cond2 (i : grid0.Coords) : BitVec 1 :=
  let arg0 : BitVec 32 := BitVec.ofNat 32 (i 0).val
  let c0_i32_20 : BitVec 32 := 0#32
  let v53 : BitVec 1 := Scalar.cmpi .sgt arg0 c0_i32_20
  let v54 : BitVec 32 := Scalar.extui v53
  let c0_i32_21 : BitVec 32 := 0#32
  let v55 : BitVec 1 := Scalar.cmpi .ne v54 c0_i32_21
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LossRIdeal.lean ====
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x1024, .f32⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1024, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S2x2048, .f32⟩
  | .hbm, ⟨30, _⟩ => ⟨S_, .f32⟩
  | .hbm, ⟨31, _⟩ => ⟨S2x2048, .f32⟩
  | .hbm, ⟨32, _⟩ => ⟨S2x2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2x2048, .f32⟩
  | .hbm, ⟨41, _⟩ => ⟨S_, .f32⟩
  | .hbm, ⟨42, _⟩ => ⟨S2x2048, .f32⟩
  | .hbm, ⟨43, _⟩ => ⟨S2x2048, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S_, .f32⟩
  | .hbm, ⟨48, _⟩ => ⟨S1024, .f32⟩
  | .hbm, ⟨49, _⟩ => ⟨S1x1x1024, .f32⟩
  | .hbm, ⟨50, _⟩ => ⟨S2x2048x1024, .f32⟩
  | .hbm, ⟨51, _⟩ => ⟨S2x2048x1024, .f32⟩
  | .hbm, ⟨52, _⟩ => ⟨S_, .f32⟩
  | .hbm, ⟨53, _⟩ => ⟨S1024, .f32⟩
  | .hbm, ⟨54, _⟩ => ⟨S2x2048x1024, .f32⟩
  | .hbm, ⟨55, _⟩ => ⟨S_, .f32⟩
  | .hbm, ⟨56, _⟩ => ⟨S2x2048, .f32⟩
  | .hbm, ⟨57, _⟩ => ⟨S2x2048x1, .f32⟩
  | .hbm, ⟨58, _⟩ => ⟨S2x2048x1024, .f32⟩
  | .hbm, ⟨59, _⟩ => ⟨S2x2048x1024, .f32⟩
  | .hbm, ⟨60, _⟩ => ⟨S2x2048x1, .f32⟩
  | .hbm, ⟨61, _⟩ => ⟨S_, .f32⟩
  | .hbm, ⟨62, _⟩ => ⟨S2x2048x1, .f32⟩
  | .hbm, ⟨63, _⟩ => ⟨S2x2048x1, .f32⟩
  | .hbm, ⟨64, _⟩ => ⟨S_, .f32⟩
  | .hbm, ⟨65, _⟩ => ⟨S2x2048, .f32⟩
  | .hbm, ⟨66, _⟩ => ⟨S2x2048x1024, .f32⟩
  | .hbm, ⟨67, _⟩ => ⟨S2x2048x1024, .f32⟩
  | .hbm, ⟨68, _⟩ => ⟨S2x2048x1024, .f32⟩
  | .hbm, ⟨69, _⟩ => ⟨S2x2048x1024, .f32⟩
  | .hbm, ⟨70, _⟩ => ⟨S2x2048x1024, .f32⟩
  | .hbm, ⟨71, _⟩ => ⟨S4096x1024, .f32⟩
  | .hbm, ⟨72, _⟩ => ⟨S1x1024, .f32⟩
  | .hbm, ⟨73, _⟩ => ⟨S1x128, .f32⟩
  | .hbm, ⟨74, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== FfndhK.lean ====
abbrev S2x2048x1024 : Shape := ⟨3, ![2, 2048, 1024]⟩
abbrev S1024 : Shape := ⟨1, ![1024]⟩
abbrev S1024x5632 : Shape := ⟨2, ![1024, 5632]⟩
abbrev S2x2048x5632 : Shape := ⟨3, ![2, 2048, 5632]⟩
abbrev S1024x4x1408 : Shape := ⟨3, ![1024, 4, 1408]⟩
abbrev S4x1024x1408 : Shape := ⟨3, ![4, 1024, 1408]⟩
abbrev S4096x2x2816 : Shape := ⟨3, ![4096, 2, 2816]⟩
abbrev S2x4096x2816 : Shape := ⟨3, ![2, 4096, 2816]⟩
abbrev S4096x1024 : Shape := ⟨2, ![4096, 1024]⟩
abbrev S1x1024 : Shape := ⟨2, ![1, 1024]⟩
abbrev S1x512x2816 : Shape := ⟨3, ![1, 512, 2816]⟩
abbrev S512x1024 : Shape := ⟨2, ![512, 1024]⟩
abbrev S512x2816 : Shape := ⟨2, ![512, 2816]⟩
abbrev S1x1024x1408 : Shape := ⟨3, ![1, 1024, 1408]⟩
abbrev S1024x1408 : Shape := ⟨2, ![1024, 1408]⟩
abbrev S1024x2816 : Shape := ⟨2, ![1024, 2816]⟩
abbrev S512 : Shape := ⟨1, ![512]⟩
abbrev S512x1 : Shape := ⟨2, ![512, 1]⟩

abbrev nBuf : Space → Nat
  | .hbm => 17
  | .vmem => 14
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5632, .f32⟩
  | .hbm, ⟨3, _⟩ => ⟨S2x2048x5632, .f32⟩
  | .hbm, ⟨4, _⟩ => ⟨S2x2048x1024, .f32⟩
  | .hbm, ⟨5, _⟩ => ⟨S1024x4x1408, .f32⟩
  | .hbm, ⟨6, _⟩ => ⟨S4x1024x1408, .f32⟩
  | .hbm, ⟨7, _⟩ => ⟨S4x1024x1408, .bf16⟩
  | .hbm, ⟨8, _⟩ => ⟨S4096x2x2816, .f32⟩
  | .hbm, ⟨9, _⟩ => ⟨S2x4096x2816, .f32⟩
  | .hbm, ⟨10, _⟩ => ⟨S2x4096x2816, .bf16⟩
  | .hbm, ⟨11, _⟩ => ⟨S4096x1024, .f32⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S1x1024, .f32⟩
  | .hbm, ⟨16, _⟩ => ⟨S4096x1024, .bf16⟩
  | .local _ .vmem, ⟨0, _⟩ => ⟨S1x512x2816, .bf16⟩
  | .local _ .vmem, ⟨1, _⟩ => ⟨S1x512x2816, .bf16⟩
  | .local _ .vmem, ⟨2, _⟩ => ⟨S4x1024x1408, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 1, 2], ![false, false, false]⟩

def k0_off1 (i : grid0.Coords) : Fin 3 → Nat :=
  let c2_i32 : BitVec 32 := 2#32
  let arg2 : BitVec 32 := BitVec.ofNat 32 (i 2).val
  let v2 : BitVec 32 := Scalar.muli c2_i32 arg2
  let v3 : Index := Scalar.indexCast v2
  let c0_2 : Index := 0#32
  let c0_3 : Index := 0#32
  ![v3.toNat, 0, 0]
def k0_off2 (i : grid0.Coords) : Fin 3 → Nat :=
  let c2_i32_4 : BitVec 32 := 2#32
  let arg2 : BitVec 32 := BitVec.ofNat 32 (i 2).val
  let v6 : BitVec 32 := Scalar.muli c2_i32_4 arg2
  let c1_i32 : BitVec 32 := 1#32
  let v7 : BitVec 32 := Scalar.addi v6 c1_i32
  let v8 : Index := Scalar.indexCast v7
  let c0_5 : Index := 0#32
  let c0_6 : Index := 0#32
  ![v8.toNat, 0, 0]
def k0_cond3 (i : grid0.Coords) : BitVec 1 :=
  let arg2 : BitVec 32 := BitVec.ofNat 32 (i 2).val
  let c1_i32_11 : BitVec 32 := 1#32
  let v21 : BitVec 1 := Scalar.cmpi .eq arg2 c1_i32_11
  let v22 : BitVec 32 := Scalar.extui v21
  let c0_i32_12 : BitVec 32 := 0#32
  let v23 : BitVec 1 := Scalar.cmpi .ne v22 c0_i32_12
  v23

def k0_cond4 (i : grid0.Coords) : BitVec 1 :=
  let arg0 : BitVec 32 := BitVec.ofNat 32 (i 0).val
  let c0_i32_31 : BitVec 32 := 0#32
  let v61 : BitVec 1 := Scalar.cmpi .eq arg0 c0_i32_31
  let v62 : BitVec 32 := Scalar.extui v61
  let c0_i32_32 : BitVec 32 := 0#32
  let v63 : BitVec 1 := Scalar.cmpi .ne v62 c0_i32_32
  v63

def k0_cond5 (i : grid0.Coords) : BitVec 1 :=
  let arg0 : BitVec 32 := BitVec.ofNat 32 (i 0).val
  let c0_i32_33 : BitVec 32 := 0#32
  let v64 : BitVec 1 := Scalar.cmpi .sgt arg0 c0_i32_33
  let v65 : BitVec 32 := Scalar.extui v64
  let c0_i32_34 : BitVec 32 := 0#32
  let v66 : BitVec 1 := Scalar.cmpi .ne v65 c0_i32_34
  v66

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== FfndhRIdeal.lean ====
abbrev S2x2048x1024 : Shape := ⟨3, ![2, 2048, 1024]⟩
abbrev S1024 : Shape := ⟨1, ![1024]⟩
abbrev S1024x5632 : Shape := ⟨2, ![1024, 5632]⟩
abbrev S2x2048x5632 : Shape := ⟨3, ![2, 2048, 5632]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S5632x1024 : Shape := ⟨2, ![5632, 1024]⟩
abbrev S4096x1024 : Shape := ⟨2, ![4096, 1024]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5632, .f32⟩
  | .hbm, ⟨3, _⟩ => ⟨S2x2048x5632, .f32⟩
  | .hbm, ⟨4, _⟩ => ⟨S2x2048x1024, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x5632, .f32⟩
  | .hbm, ⟨26, _⟩ => ⟨S5632x1024, .f32⟩
  | .hbm, ⟨27, _⟩ => ⟨S1024x5632, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S1024, .f32⟩
  | .hbm, ⟨32, _⟩ => ⟨S1x1x1024, .f32⟩
  | .hbm, ⟨33, _⟩ => ⟨S2x2048x1024, .f32⟩
  | .hbm, ⟨34, _⟩ => ⟨S2x2048x1024, .f32⟩
  | .hbm, ⟨35, _⟩ => ⟨S_, .f32⟩
  | .hbm, ⟨36, _⟩ => ⟨S1024, .f32⟩
  | .hbm, ⟨37, _⟩ => ⟨S2x2048x1024, .f32⟩
  | .hbm, ⟨38, _⟩ => ⟨S_, .f32⟩
  | .hbm, ⟨39, _⟩ => ⟨S2x2048, .f32⟩
  | .hbm, ⟨40, _⟩ => ⟨S2x2048x1, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S2x2048x1, .f32⟩
  | .hbm, ⟨45, _⟩ => ⟨S_, .f32⟩
  | .hbm, ⟨46, _⟩ => ⟨S2x2048x1, .f32⟩
  | .hbm, ⟨47, _⟩ => ⟨S2x2048x1, .f32⟩
  | .hbm, ⟨48, _⟩ => ⟨S_, .f32⟩
  | .hbm, ⟨49, _⟩ => ⟨S2x2048, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S4096x1024, .f32⟩
  | .hbm, ⟨56, _⟩ => ⟨S1x1024, .f32⟩
  | .hbm, ⟨57, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== EvdhK.lean ====
abbrev S2x2048x1024 : Shape := ⟨3, ![2, 2048, 1024]⟩
abbrev S1024 : Shape := ⟨1, ![1024]⟩
abbrev S1024x2304 : Shape := ⟨2, ![1024, 2304]⟩
abbrev S2x2048x512 : Shape := ⟨3, ![2, 2048, 512]⟩
abbrev S2x2048x128 : Shape := ⟨3, ![2, 2048, 128]⟩
abbrev S4096x512 : Shape := ⟨2, ![4096, 512]⟩
abbrev S4096x128 : Shape := ⟨2, ![4096, 128]⟩
abbrev S4096x1024 : Shape := ⟨2, ![4096, 1024]⟩
abbrev S1x1024 : Shape := ⟨2, ![1, 1024]⟩
abbrev S1024x512 : Shape := ⟨2, ![1024, 512]⟩
abbrev S1024x128 : Shape := ⟨2, ![1024, 128]⟩
abbrev S1024x1024 : Shape := ⟨2, ![1024, 1024]⟩
abbrev S1024x1 : Shape := ⟨2, ![1024, 1]⟩

abbrev nBuf : Space → Nat
  | .hbm => 28
  | .vmem => 23
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2304, .f32⟩
  | .hbm, ⟨3, _⟩ => ⟨S2x2048x512, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S2x2048x128, .f32⟩
  | .hbm, ⟨8, _⟩ => ⟨S2x2048x128, .f32⟩
  | .hbm, ⟨9, _⟩ => ⟨S2x2048x1024, .f32⟩
  | .hbm, ⟨10, _⟩ => ⟨S4096x512, .f32⟩
  | .hbm, ⟨11, _⟩ => ⟨S4096x512, .bf16⟩
  | .hbm, ⟨12, _⟩ => ⟨S4096x512, .f32⟩
  | .hbm, ⟨13, _⟩ => ⟨S4096x512, .bf16⟩
  | .hbm, ⟨14, _⟩ => ⟨S4096x512, .f32⟩
  | .hbm, ⟨15, _⟩ => ⟨S4096x512, .bf16⟩
  | .hbm, ⟨16, _⟩ => ⟨S4096x512, .f32⟩
  | .hbm, ⟨17, _⟩ => ⟨S4096x512, .bf16⟩
  | .hbm, ⟨18, _⟩ => ⟨S4096x128, .f32⟩
  | .hbm, ⟨19, _⟩ => ⟨S4096x128, .bf16⟩
  | .hbm, ⟨20, _⟩ => ⟨S4096x128, .f32⟩
  | .hbm, ⟨21, _⟩ => ⟨S1024x2304, .bf16⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S1x1024, .f32⟩
  | .hbm, ⟨27, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .f32⟩
  | .local _ .vmem, ⟨11, _⟩ => ⟨S1024x128, .f32⟩
  | .local _ .vmem, ⟨12, _⟩ => ⟨S1024x2304, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | .local _ .vmem, ⟨20, _⟩ => ⟨S1x1024, .f32⟩
  | .local _ .vmem, ⟨21, _⟩ => ⟨S1024x1024, .bf16⟩
  | .local _ .vmem, ⟨22, _⟩ => ⟨S1024x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg0 : BitVec 32 := BitVec.ofNat 32 (i 0).val
  let c0_i32 : BitVec 32 := 0#32
  let v52 : BitVec 1 := Scalar.cmpi .eq arg0 c0_i32
  let v53 : BitVec 32 := Scalar.extui v52
  let c0_i32_29 : BitVec 32 := 0#32
  let v54 : BitVec 1 := Scalar.cmpi .ne v53 c0_i32_29
  v54

def k0_cond2 (i : grid0.Coords) : BitVec 1 :=
  let arg0 : BitVec 32 := BitVec.ofNat 32 (i 0).val
  let c0_i32_30 : BitVec 32 := 0#32
  let v55 : BitVec 1 := Scalar.cmpi .sgt arg0 c0_i32_30
  let v56 : BitVec 32 := Scalar.extui v55
  let c0_i32_31 : BitVec 32 := 0#32
  let v57 : BitVec 1 := Scalar.cmpi .ne v56 c0_i32_31
  v57

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1024x2304 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false]
-- ==== EvdhRIdeal.lean ====
abbrev S2x2048x1024 : Shape := ⟨3, ![2, 2048, 1024]⟩
abbrev S1024 : Shape := ⟨1, ![1024]⟩
abbrev S1024x2304 : Shape := ⟨2, ![1024, 2304]⟩
abbrev S2x2048x512 : Shape := ⟨3, ![2, 2048, 512]⟩
abbrev S2x2048x128 : Shape := ⟨3, ![2, 2048, 128]⟩
abbrev S2x2048x2304 : Shape := ⟨3, ![2, 2048, 2304]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2304x1024 : Shape := ⟨2, ![2304, 1024]⟩
abbrev S4096x1024 : Shape := ⟨2, ![4096, 1024]⟩
abbrev S1x1024 : Shape := ⟨2, ![1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2304, .f32⟩
  | .hbm, ⟨3, _⟩ => ⟨S2x2048x512, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S2x2048x128, .f32⟩
  | .hbm, ⟨8, _⟩ => ⟨S2x2048x128, .f32⟩
  | .hbm, ⟨9, _⟩ => ⟨S2x2048x1024, .f32⟩
  | .hbm, ⟨10, _⟩ => ⟨S2x2048x2304, .f32⟩
  | .hbm, ⟨11, _⟩ => ⟨S2x2048x1024, .f32⟩
  | .hbm, ⟨12, _⟩ => ⟨S_, .f32⟩
  | .hbm, ⟨13, _⟩ => ⟨S2x2048, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1, .f32⟩
  | .hbm, ⟨22, _⟩ => ⟨S2x2048x1, .f32⟩
  | .hbm, ⟨23, _⟩ => ⟨S_, .f32⟩
  | .hbm, ⟨24, _⟩ => ⟨S2x2048x1, .f32⟩
  | .hbm, ⟨25, _⟩ => ⟨S2x2048x1, .f32⟩
  | .hbm, ⟨26, _⟩ => ⟨S2x2048x1024, .f32⟩
  | .hbm, ⟨27, _⟩ => ⟨S2x2048x1024, .f32⟩
  | .hbm, ⟨28, _⟩ => ⟨S1x1x1024, .f32⟩
  | .hbm, ⟨29, _⟩ => ⟨S2x2048x1024, .f32⟩
  | .hbm, ⟨30, _⟩ => ⟨S2x2048x1024, .f32⟩
  | .hbm, ⟨31, _⟩ => ⟨S2x2048x2304, .f32⟩
  | .hbm, ⟨32, _⟩ => ⟨S2304x1024, .f32⟩
  | .hbm, ⟨33, _⟩ => ⟨S1024x2304, .f32⟩
  | .hbm, ⟨34, _⟩ => ⟨S2x2048x1024, .f32⟩
  | .hbm, ⟨35, _⟩ => ⟨S2x2048x1024, .f32⟩
  | .hbm, ⟨36, _⟩ => ⟨S_, .f32⟩
  | .hbm, ⟨37, _⟩ => ⟨S1024, .f32⟩
  | .hbm, ⟨38, _⟩ => ⟨S1x1x1024, .f32⟩
  | .hbm, ⟨39, _⟩ => ⟨S2x2048x1024, .f32⟩
  | .hbm, ⟨40, _⟩ => ⟨S2x2048x1024, .f32⟩
  | .hbm, ⟨41, _⟩ => ⟨S_, .f32⟩
  | .hbm, ⟨42, _⟩ => ⟨S1024, .f32⟩
  | .hbm, ⟨43, _⟩ => ⟨S2x2048x1024, .f32⟩
  | .hbm, ⟨44, _⟩ => ⟨S_, .f32⟩
  | .hbm, ⟨45, _⟩ => ⟨S2x2048, .f32⟩
  | .hbm, ⟨46, _⟩ => ⟨S2x2048x1, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S2x2048x1, .f32⟩
  | .hbm, ⟨51, _⟩ => ⟨S_, .f32⟩
  | .hbm, ⟨52, _⟩ => ⟨S2x2048x1, .f32⟩
  | .hbm, ⟨53, _⟩ => ⟨S2x2048x1, .f32⟩
  | .hbm, ⟨54, _⟩ => ⟨S_, .f32⟩
  | .hbm, ⟨55, _⟩ => ⟨S2x2048, .f32⟩
  | .hbm, ⟨56, _⟩ => ⟨S2x2048x1024, .f32⟩
  | .hbm, ⟨57, _⟩ => ⟨S2x2048x1024, .f32⟩
  | .hbm, ⟨58, _⟩ => ⟨S2x2048x1024, .f32⟩
  | .hbm, ⟨59, _⟩ => ⟨S2x2048x1024, .f32⟩
  | .hbm, ⟨60, _⟩ => ⟨S2x2048x1024, .f32⟩
  | .hbm, ⟨61, _⟩ => ⟨S4096x1024, .f32⟩
  | .hbm, ⟨62, _⟩ => ⟨S1x1024, .f32⟩
  | .hbm, ⟨63, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== OddhK.lean ====
abbrev S2x2048x1024 : Shape := ⟨3, ![2, 2048, 1024]⟩
abbrev S1024 : Shape := ⟨1, ![1024]⟩
abbrev S1024x1536 : Shape := ⟨2, ![1024, 1536]⟩
abbrev S2x2048x1536 : Shape := ⟨3, ![2, 2048, 1536]⟩
abbrev S4096x1536 : Shape := ⟨2, ![4096, 1536]⟩
abbrev S4096x1024 : Shape := ⟨2, ![4096, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 14
  | .vmem => 13
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x1536, .f32⟩
  | .hbm, ⟨3, _⟩ => ⟨S2x2048x1536, .f32⟩
  | .hbm, ⟨4, _⟩ => ⟨S2x2048x1024, .f32⟩
  | .hbm, ⟨5, _⟩ => ⟨S4096x1536, .f32⟩
  | .hbm, ⟨6, _⟩ => ⟨S4096x1536, .bf16⟩
  | .hbm, ⟨7, _⟩ => ⟨S1024x1536, .bf16⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S1x1024, .f32⟩
  | .hbm, ⟨13, _⟩ => ⟨S4096x1024, .bf16⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_19 : BitVec 32 := 0#32
  let v42 : BitVec 1 := Scalar.cmpi .ne v41 c0_i32_19
  v42

def k0_cond2 (i : grid0.Coords) : BitVec 1 :=
  let arg0 : BitVec 32 := BitVec.ofNat 32 (i 0).val
  let c0_i32_20 : BitVec 32 := 0#32
  let v43 : BitVec 1 := Scalar.cmpi .sgt arg0 c0_i32_20
  let v44 : BitVec 32 := Scalar.extui v43
  let c0_i32_21 : BitVec 32 := 0#32
  let v45 : BitVec 1 := Scalar.cmpi .ne v44 c0_i32_21
  v45

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== OddhRIdeal.lean ====
abbrev S2x2048x1024 : Shape := ⟨3, ![2, 2048, 1024]⟩
abbrev S1024 : Shape := ⟨1, ![1024]⟩
abbrev S1024x1536 : Shape := ⟨2, ![1024, 1536]⟩
abbrev S2x2048x1536 : Shape := ⟨3, ![2, 2048, 1536]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1536x1024 : Shape := ⟨2, ![1536, 1024]⟩
abbrev S4096x1024 : Shape := ⟨2, ![4096, 1024]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x1536, .f32⟩
  | .hbm, ⟨3, _⟩ => ⟨S2x2048x1536, .f32⟩
  | .hbm, ⟨4, _⟩ => ⟨S2x2048x1024, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x1536, .f32⟩
  | .hbm, ⟨26, _⟩ => ⟨S1536x1024, .f32⟩
  | .hbm, ⟨27, _⟩ => ⟨S1024x1536, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S1024, .f32⟩
  | .hbm, ⟨32, _⟩ => ⟨S1x1x1024, .f32⟩
  | .hbm, ⟨33, _⟩ => ⟨S2x2048x1024, .f32⟩
  | .hbm, ⟨34, _⟩ => ⟨S2x2048x1024, .f32⟩
  | .hbm, ⟨35, _⟩ => ⟨S_, .f32⟩
  | .hbm, ⟨36, _⟩ => ⟨S1024, .f32⟩
  | .hbm, ⟨37, _⟩ => ⟨S2x2048x1024, .f32⟩
  | .hbm, ⟨38, _⟩ => ⟨S_, .f32⟩
  | .hbm, ⟨39, _⟩ => ⟨S2x2048, .f32⟩
  | .hbm, ⟨40, _⟩ => ⟨S2x2048x1, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S2x2048x1, .f32⟩
  | .hbm, ⟨45, _⟩ => ⟨S_, .f32⟩
  | .hbm, ⟨46, _⟩ => ⟨S2x2048x1, .f32⟩
  | .hbm, ⟨47, _⟩ => ⟨S2x2048x1, .f32⟩
  | .hbm, ⟨48, _⟩ => ⟨S_, .f32⟩
  | .hbm, ⟨49, _⟩ => ⟨S2x2048, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S4096x1024, .f32⟩
  | .hbm, ⟨56, _⟩ => ⟨S1x1024, .f32⟩
  | .hbm, ⟨57, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== QkbK.lean ====
abbrev S2x2048x2304 : Shape := ⟨3, ![2, 2048, 2304]⟩
abbrev S64 : Shape := ⟨1, ![64]⟩
abbrev S2x2048x8x64 : Shape := ⟨4, ![2, 2048, 8, 64]⟩
abbrev S2x2048x2x64 : Shape := ⟨4, ![2, 2048, 2, 64]⟩
abbrev S32 : Shape := ⟨1, ![32]⟩
abbrev S32x64 : Shape := ⟨2, ![32, 64]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x32x2 : Shape := ⟨3, ![2048, 32, 2]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x64 : Shape := ⟨2, ![1, 64]⟩
abbrev S4096x2304 : Shape := ⟨2, ![4096, 2304]⟩
abbrev S4096x512 : Shape := ⟨2, ![4096, 512]⟩
abbrev S4096x128 : Shape := ⟨2, ![4096, 128]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S512x512 : Shape := ⟨2, ![512, 512]⟩
abbrev S512x128 : Shape := ⟨2, ![512, 128]⟩

abbrev nBuf : Space → Nat
  | .hbm => 120
  | .vmem => 21
  | .smem => 0
  | _ => 0

abbrev bufTy : (tb : Table) → Fin (tcTables nBuf tb) → BufTy
  | .hbm, ⟨0, _⟩ => ⟨S2x2048x2304, .f32⟩
  | .hbm, ⟨1, _⟩ => ⟨S64, .f32⟩
  | .hbm, ⟨2, _⟩ => ⟨S64, .f32⟩
  | .hbm, ⟨3, _⟩ => ⟨S2x2048x8x64, .f32⟩
  | .hbm, ⟨4, _⟩ => ⟨S2x2048x2x64, .f32⟩
  | .hbm, ⟨5, _⟩ => ⟨S32, .i32⟩
  | .hbm, ⟨6, _⟩ => ⟨S64, .i32⟩
  | .hbm, ⟨7, _⟩ => ⟨S32x64, .i32⟩
  | .hbm, ⟨8, _⟩ => ⟨S32x64, .i32⟩
  | .hbm, ⟨9, _⟩ => ⟨S2048, .i32⟩
  | .hbm, ⟨10, _⟩ => ⟨S2048, .f32⟩
  | .hbm, ⟨11, _⟩ => ⟨S2048, .i32⟩
  | .hbm, ⟨12, _⟩ => ⟨S2048, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S2048x1, .f32⟩
  | .hbm, ⟨22, _⟩ => ⟨S1x16, .f32⟩
  | .hbm, ⟨23, _⟩ => ⟨S2048x16, .f32⟩
  | .hbm, ⟨24, _⟩ => ⟨S2048x16, .f32⟩
  | .hbm, ⟨25, _⟩ => ⟨S2048x16, .f32⟩
  | .hbm, ⟨26, _⟩ => ⟨S2048x1, .f32⟩
  | .hbm, ⟨27, _⟩ => ⟨S1x16, .f32⟩
  | .hbm, ⟨28, _⟩ => ⟨S2048x16, .f32⟩
  | .hbm, ⟨29, _⟩ => ⟨S2048x16, .f32⟩
  | .hbm, ⟨30, _⟩ => ⟨S2048x16, .f32⟩
  | .hbm, ⟨31, _⟩ => ⟨S2048x32, .f32⟩
  | .hbm, ⟨32, _⟩ => ⟨S2048x32, .f32⟩
  | .hbm, ⟨33, _⟩ => ⟨S2048x32x2, .f32⟩
  | .hbm, ⟨34, _⟩ => ⟨S2048x64, .f32⟩
  | .hbm, ⟨35, _⟩ => ⟨S2048x32, .f32⟩
  | .hbm, ⟨36, _⟩ => ⟨S2048x32x2, .f32⟩
  | .hbm, ⟨37, _⟩ => ⟨S2048x64, .f32⟩
  | .hbm, ⟨38, _⟩ => ⟨S64, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S64, .i32⟩
  | .hbm, ⟨46, _⟩ => ⟨S64, .i32⟩
  | .hbm, ⟨47, _⟩ => ⟨S_, .i32⟩
  | .hbm, ⟨48, _⟩ => ⟨S64, .i32⟩
  | .hbm, ⟨49, _⟩ => ⟨S64, .i1⟩
  | .hbm, ⟨50, _⟩ => ⟨S_, .i32⟩
  | .hbm, ⟨51, _⟩ => ⟨S64, .i32⟩
  | .hbm, ⟨52, _⟩ => ⟨S64, .i1⟩
  | .hbm, ⟨53, _⟩ => ⟨S_, .i32⟩
  | .hbm, ⟨54, _⟩ => ⟨S_, .i1⟩
  | .hbm, ⟨55, _⟩ => ⟨S64, .i1⟩
  | .hbm, ⟨56, _⟩ => ⟨S64, .i1⟩
  | .hbm, ⟨57, _⟩ => ⟨S64, .i1⟩
  | .hbm, ⟨58, _⟩ => ⟨S64, .i32⟩
  | .hbm, ⟨59, _⟩ => ⟨S64, .i32⟩
  | .hbm, ⟨60, _⟩ => ⟨S64, .i32⟩
  | .hbm, ⟨61, _⟩ => ⟨S_, .i32⟩
  | .hbm, ⟨62, _⟩ => ⟨S64, .i32⟩
  | .hbm, ⟨63, _⟩ => ⟨S64, .i1⟩
  | .hbm, ⟨64, _⟩ => ⟨S_, .f32⟩
  | .hbm, ⟨65, _⟩ => ⟨S_, .f32⟩
  | .hbm, ⟨66, _⟩ => ⟨S64, .f32⟩
  | .hbm, ⟨67, _⟩ => ⟨S64, .f32⟩
  | .hbm, ⟨68, _⟩ => ⟨S64, .f32⟩
  | .hbm, ⟨69, _⟩ => ⟨S64, .f32⟩
  | .hbm, ⟨70, _⟩ => ⟨S1x2048x1x64, .f32⟩
  | .hbm, ⟨71, _⟩ => ⟨S1x2048x2x64, .f32⟩
  | .hbm, ⟨72, _⟩ => ⟨S2048x128, .f32⟩
  | .hbm, ⟨73, _⟩ => ⟨S1x64, .f32⟩
  | .hbm, ⟨74, _⟩ => ⟨S2048x64, .f32⟩
  | .hbm, ⟨75, _⟩ => ⟨S2048x64, .f32⟩
  | .hbm, ⟨76, _⟩ => ⟨S1x2048x1x64, .f32⟩
  | .hbm, ⟨77, _⟩ => ⟨S1x2048x2x64, .f32⟩
  | .hbm, ⟨78, _⟩ => ⟨S2048x128, .f32⟩
  | .hbm, ⟨79, _⟩ => ⟨S4096x2304, .f32⟩
  | .hbm, ⟨80, _⟩ => ⟨S4096x2304, .bf16⟩
  | .hbm, ⟨81, _⟩ => ⟨S4096x512, .f32⟩
  | .hbm, ⟨82, _⟩ => ⟨S4096x128, .f32⟩
  | .hbm, ⟨83, _⟩ => ⟨S1x64, .f32⟩
  | .hbm, ⟨84, _⟩ => ⟨S8x64, .f32⟩
  | .hbm, ⟨85, _⟩ => ⟨S512, .f32⟩
  | .hbm, ⟨86, _⟩ => ⟨S1x512, .f32⟩
  | .hbm, ⟨87, _⟩ => ⟨S1x64, .f32⟩
  | .hbm, ⟨88, _⟩ => ⟨S2x64, .f32⟩
  | .hbm, ⟨89, _⟩ => ⟨S128, .f32⟩
  | .hbm, ⟨90, _⟩ => ⟨S1x128, .f32⟩
  | .hbm, ⟨91, _⟩ => ⟨S128, .i32⟩
  | .hbm, ⟨92, _⟩ => ⟨S_, .i32⟩
  | .hbm, ⟨93, _⟩ => ⟨S_, .i32⟩
  | .hbm, ⟨94, _⟩ => ⟨S128, .i32⟩
  | .hbm, ⟨95, _⟩ => ⟨S128, .i32⟩
  | .hbm, ⟨96, _⟩ => ⟨S128, .i32⟩
  | .hbm, ⟨97, _⟩ => ⟨S_, .i32⟩
  | .hbm, ⟨98, _⟩ => ⟨S128, .i32⟩
  | .hbm, ⟨99, _⟩ => ⟨S128, .i1⟩
  | .hbm, ⟨100, _⟩ => ⟨S128, .i32⟩
  | .hbm, ⟨101, _⟩ => ⟨S128, .i32⟩
  | .hbm, ⟨102, _⟩ => ⟨S_, .i32⟩
  | .hbm, ⟨103, _⟩ => ⟨S128, .i32⟩
  | .hbm, ⟨104, _⟩ => ⟨S128, .i1⟩
  | .hbm, ⟨105, _⟩ => ⟨S128, .i1⟩
  | .hbm, ⟨106, _⟩ => ⟨S_, .i32⟩
  | .hbm, ⟨107, _⟩ => ⟨S128, .i32⟩
  | .hbm, ⟨108, _⟩ => ⟨S128, .i32⟩
  | .hbm, ⟨109, _⟩ => ⟨S128, .i32⟩
  | .hbm, ⟨110, _⟩ => ⟨S128x1, .i32⟩
  | .hbm, ⟨111, _⟩ => ⟨S1x128, .i32⟩
  | .hbm, ⟨112, _⟩ => ⟨S128x128, .i32⟩
  | .hbm, ⟨113, _⟩ => ⟨S128x128, .i32⟩
  | .hbm, ⟨114, _⟩ => ⟨S128x128, .i1⟩
  | .hbm, ⟨115, _⟩ => ⟨S128x128, .bf16⟩
  | .hbm, ⟨116, _⟩ => ⟨S4096x512, .bf16⟩
  | .hbm, ⟨117, _⟩ => ⟨S4096x128, .bf16⟩
  | .hbm, ⟨118, _⟩ => ⟨S1x64, .f32⟩
  | .hbm, ⟨119, _⟩ => ⟨S1x64, .f32⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S1x512, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S128x128, .bf16⟩
  | .local _ .vmem, ⟨11, _⟩ => ⟨S512x512, .f32⟩
  | .local _ .vmem, ⟨12, _⟩ => ⟨S512x512, .f32⟩
  | .local _ .vmem, ⟨13, _⟩ => ⟨S512x128, .f32⟩
  | .local _ .vmem, ⟨14, _⟩ => ⟨S512x128, .f32⟩
  | .local _ .vmem, ⟨15, _⟩ => ⟨S512x512, .bf16⟩
  | .local _ .vmem, ⟨16, _⟩ => ⟨S512x512, .bf16⟩
  | .local _ .vmem, ⟨17, _⟩ => ⟨S512x128, .bf16⟩
  | .local _ .vmem, ⟨18, _⟩ => ⟨S512x128, .bf16⟩
  | .local _ .vmem, ⟨19, _⟩ => ⟨S1x64, .f32⟩
  | .local _ .vmem, ⟨20, _⟩ => ⟨S1x64, .f32⟩
  | _, _ => ⟨S2x2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c : Ref sig .tc := ⟨.hbm, 39, rfl⟩
abbrev main_call0_v0 : Ref sig .tc := ⟨.hbm, 40, rfl⟩
abbrev main_call0_c : Ref sig .tc := ⟨.hbm, 41, rfl⟩
abbrev main_call0_v1 : Ref sig .tc := ⟨.hbm, 42, rfl⟩
abbrev main_call0_c_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_c_1 : Ref sig .tc := ⟨.hbm, 47, rfl⟩
abbrev main_call0_v5 : Ref sig .tc := ⟨.hbm, 48, rfl⟩
abbrev main_call0_v6 : Ref sig .tc := ⟨.hbm, 49, rfl⟩
abbrev main_call0_c_2 : Ref sig .tc := ⟨.hbm, 50, rfl⟩
abbrev main_call0_v7 : Ref sig .tc := ⟨.hbm, 51, rfl⟩
abbrev main_call0_v8 : Ref sig .tc := ⟨.hbm, 52, rfl⟩
abbrev main_call0_c_3 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_v12 : Ref sig .tc := ⟨.hbm, 57, rfl⟩
abbrev main_call0_v13 : Ref sig .tc := ⟨.hbm, 58, rfl⟩
abbrev main_call0_v14 : Ref sig .tc := ⟨.hbm, 59, rfl⟩
abbrev main_v32 : Ref sig .tc := ⟨.hbm, 60, rfl⟩
abbrev main_c_1 : Ref sig .tc := ⟨.hbm, 61, rfl⟩
abbrev main_v33 : Ref sig .tc := ⟨.hbm, 62, rfl⟩
abbrev main_v34 : Ref sig .tc := ⟨.hbm, 63, rfl⟩
abbrev main_cst_2 : Ref sig .tc := ⟨.hbm, 64, rfl⟩
abbrev main_cst_3 : Ref sig .tc := ⟨.hbm, 65, rfl⟩
abbrev main_call1_v0 : Ref sig .tc := ⟨.hbm, 66, rfl⟩
abbrev main_call1_v1 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_c_4 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_v7 : Ref sig .tc := ⟨.hbm, 100, rfl⟩
abbrev main_call2_v8 : Ref sig .tc := ⟨.hbm, 101, rfl⟩
abbrev main_call2_c : Ref sig .tc := ⟨.hbm, 102, rfl⟩
abbrev main_call2_v9 : Ref sig .tc := ⟨.hbm, 103, rfl⟩
abbrev main_call2_v10 : Ref sig .tc := ⟨.hbm, 104, rfl⟩
abbrev main_call2_v11 : Ref sig .tc := ⟨.hbm, 105, rfl⟩
abbrev main_call2_c_0 : Ref sig .tc := ⟨.hbm, 106, rfl⟩
abbrev main_call2_v12 : Ref sig .tc := ⟨.hbm, 107, rfl⟩
abbrev main_call2_v13 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66_0 : Ref sig .tc := ⟨.hbm, 116, rfl⟩
abbrev main_v66_1 : Ref sig .tc := ⟨.hbm, 117, rfl⟩
abbrev main_v66_2 : Ref sig .tc := ⟨.hbm, 118, rfl⟩
abbrev main_v66_3 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_65 : BitVec 32 := 0#32
  let v214 : BitVec 1 := Scalar.cmpi .eq arg0 c0_i32_65
  let v215 : BitVec 32 := Scalar.extui v214
  let c0_i32_66 : BitVec 32 := 0#32
  let v216 : BitVec 1 := Scalar.cmpi .ne v215 c0_i32_66
  v216

def k0_cond2 (i : grid0.Coords) : BitVec 1 :=
  let arg0 : BitVec 32 := BitVec.ofNat 32 (i 0).val
  let c0_i32_67 : BitVec 32 := 0#32
  let v217 : BitVec 1 := Scalar.cmpi .sgt arg0 c0_i32_67
  let v218 : BitVec 32 := Scalar.extui v217
  let c0_i32_68 : BitVec 32 := 0#32
  let v219 : BitVec 1 := Scalar.cmpi .ne v218 c0_i32_68
  v219

def k0_cond3 (i : grid0.Coords) : BitVec 1 :=
  let arg0 : BitVec 32 := BitVec.ofNat 32 (i 0).val
  let c0_i32_99 : BitVec 32 := 0#32
  let v295 : BitVec 1 := Scalar.cmpi .eq arg0 c0_i32_99
  let v296 : BitVec 32 := Scalar.extui v295
  let c0_i32_100 : BitVec 32 := 0#32
  let v297 : BitVec 1 := Scalar.cmpi .ne v296 c0_i32_100
  v297

def k0_cond4 (i : grid0.Coords) : BitVec 1 :=
  let arg0 : BitVec 32 := BitVec.ofNat 32 (i 0).val
  let c0_i32_101 : BitVec 32 := 0#32
  let v298 : BitVec 1 := Scalar.cmpi .sgt arg0 c0_i32_101
  let v299 : BitVec 32 := Scalar.extui v298
  let c0_i32_102 : BitVec 32 := 0#32
  let v300 : BitVec 1 := Scalar.cmpi .ne v299 c0_i32_102
  v300

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== QkbRIdeal.lean ====
abbrev S2x2048x2304 : Shape := ⟨3, ![2, 2048, 2304]⟩
abbrev S64 : Shape := ⟨1, ![64]⟩
abbrev S2x2048x8x64 : Shape := ⟨4, ![2, 2048, 8, 64]⟩
abbrev S2x2048x2x64 : Shape := ⟨4, ![2, 2048, 2, 64]⟩
abbrev S2x2048x1536 : Shape := ⟨3, ![2, 2048, 1536]⟩
abbrev S2x2048x512 : Shape := ⟨3, ![2, 2048, 512]⟩
abbrev S2x2048x128 : Shape := ⟨3, ![2, 2048, 128]⟩
abbrev S32 : Shape := ⟨1, ![32]⟩
abbrev S32x64 : Shape := ⟨2, ![32, 64]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2x2048x8 : Shape := ⟨3, ![2, 2048, 8]⟩
abbrev S2x2048x8x1 : Shape := ⟨4, ![2, 2048, 8, 1]⟩
abbrev S1x1x1x64 : Shape := ⟨4, ![1, 1, 1, 64]⟩
abbrev S2x2048x8x32x2 : Shape := ⟨5, ![2, 2048, 8, 32, 2]⟩
abbrev S2x2048x8x32x1 : Shape := ⟨5, ![2, 2048, 8, 32, 1]⟩
abbrev S2x2048x8x32 : Shape := ⟨4, ![2, 2048, 8, 32]⟩
abbrev S1x2048x1x32 : Shape := ⟨4, ![1, 2048, 1, 32]⟩
abbrev S2x2048x2 : Shape := ⟨3, ![2, 2048, 2]⟩
abbrev S2x2048x2x1 : Shape := ⟨4, ![2, 2048, 2, 1]⟩
abbrev S2x2048x2x32x2 : Shape := ⟨5, ![2, 2048, 2, 32, 2]⟩
abbrev S2x2048x2x32x1 : Shape := ⟨5, ![2, 2048, 2, 32, 1]⟩
abbrev S2x2048x2x32 : Shape := ⟨4, ![2, 2048, 2, 32]⟩
abbrev S4096x512 : Shape := ⟨2, ![4096, 512]⟩
abbrev S4096x128 : Shape := ⟨2, ![4096, 128]⟩
abbrev S1x64 : Shape := ⟨2, ![1, 64]⟩

abbrev nBuf : Space → Nat
  | .hbm => 234
  | .vmem => 0
  | .smem => 0
  | _ => 0

abbrev hbmTy0_0 (i : Nat) : BufTy := match i % 128 with
  | 0 => ⟨S2x2048x2304, .f32⟩
  | 1 => ⟨S64, .f32⟩
  | 2 => ⟨S64, .f32⟩
  | 3 => ⟨S2x2048x8x64, .f32⟩
  | 4 => ⟨S2x2048x2x64, .f32⟩
  | 5 => ⟨S2x2048x1536, .f32⟩
  | 6 => ⟨S2x2048x512, .f32⟩
  | 7 => ⟨S2x2048x128, .f32⟩
  | 8 => ⟨S2x2048x128, .f32⟩
  | 9 => ⟨S32, .i32⟩
  | 10 => ⟨S64, .i32⟩
  | 11 => ⟨S32x64, .i32⟩
  | 12 => ⟨S32x64, .i32⟩
  | 13 => ⟨S2048, .i32⟩
  | 14 => ⟨S2048, .f32⟩
  | 15 => ⟨S2048, .i32⟩
  | 16 => ⟨S2048, .f32⟩
  | 17 => ⟨S16, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S2048x1, .f32⟩
  | 26 => ⟨S1x16, .f32⟩
  | 27 => ⟨S2048x16, .f32⟩
  | 28 => ⟨S2048x16, .f32⟩
  | 29 => ⟨S2048x16, .f32⟩
  | 30 => ⟨S2048x1, .f32⟩
  | 31 => ⟨S1x16, .f32⟩
  | 32 => ⟨S2048x16, .f32⟩
  | 33 => ⟨S2048x16, .f32⟩
  | 34 => ⟨S2048x16, .f32⟩
  | 35 => ⟨S2048x32, .f32⟩
  | 36 => ⟨S2048x32, .f32⟩
  | 37 => ⟨S2048x32, .f32⟩
  | 38 => ⟨S2x2048x8x64, .f32⟩
  | 39 => ⟨S2x2048x8x64, .f32⟩
  | 40 => ⟨S_, .f32⟩
  | 41 => ⟨S2x2048x8, .f32⟩
  | 42 => ⟨S2x2048x8x1, .f32⟩
  | 43 => ⟨S_, .f32⟩
  | 44 => ⟨S2x2048x8x1, .f32⟩
  | 45 => ⟨S2x2048x8x1, .f32⟩
  | 46 => ⟨S_, .f32⟩
  | 47 => ⟨S2x2048x8x1, .f32⟩
  | 48 => ⟨S2x2048x8x1, .f32⟩
  | 49 => ⟨S2x2048x8x1, .f32⟩
  | 50 => ⟨S2x2048x8x1, .f32⟩
  | 51 => ⟨S_, .f32⟩
  | 52 => ⟨S2x2048x8x1, .f32⟩
  | 53 => ⟨S2x2048x8x1, .f32⟩
  | 54 => ⟨S2x2048x8x64, .f32⟩
  | 55 => ⟨S2x2048x8x64, .f32⟩
  | 56 => ⟨S1x1x1x64, .f32⟩
  | 57 => ⟨S2x2048x8x64, .f32⟩
  | 58 => ⟨S2x2048x8x64, .f32⟩
  | 59 => ⟨S2x2048x8x32x2, .f32⟩
  | 60 => ⟨S2x2048x8x32x1, .f32⟩
  | 61 => ⟨S2x2048x8x32, .f32⟩
  | 62 => ⟨S2x2048x8x32x1, .f32⟩
  | 63 => ⟨S2x2048x8x32, .f32⟩
  | 64 => ⟨S1x2048x1x32, .f32⟩
  | 65 => ⟨S1x2048x1x32, .f32⟩
  | 66 => ⟨S2x2048x8x32, .f32⟩
  | 67 => ⟨S2x2048x8x32, .f32⟩
  | 68 => ⟨S2x2048x8x32, .f32⟩
  | 69 => ⟨S2x2048x8x32, .f32⟩
  | 70 => ⟨S2x2048x8x32, .f32⟩
  | 71 => ⟨S2x2048x8x32, .f32⟩
  | 72 => ⟨S2x2048x8x32, .f32⟩
  | 73 => ⟨S2x2048x8x32, .f32⟩
  | 74 => ⟨S2x2048x8x32, .f32⟩
  | 75 => ⟨S2x2048x8x32, .f32⟩
  | 76 => ⟨S2x2048x8x32x1, .f32⟩
  | 77 => ⟨S2x2048x8x32x1, .f32⟩
  | 78 => ⟨S2x2048x8x32x2, .f32⟩
  | 79 => ⟨S2x2048x8x64, .f32⟩
  | 80 => ⟨S2x2048x2x64, .f32⟩
  | 81 => ⟨S2x2048x2x64, .f32⟩
  | 82 => ⟨S_, .f32⟩
  | 83 => ⟨S2x2048x2, .f32⟩
  | 84 => ⟨S2x2048x2x1, .f32⟩
  | 85 => ⟨S_, .f32⟩
  | 86 => ⟨S2x2048x2x1, .f32⟩
  | 87 => ⟨S2x2048x2x1, .f32⟩
  | 88 => ⟨S_, .f32⟩
  | 89 => ⟨S2x2048x2x1, .f32⟩
  | 90 => ⟨S2x2048x2x1, .f32⟩
  | 91 => ⟨S2x2048x2x1, .f32⟩
  | 92 => ⟨S2x2048x2x1, .f32⟩
  | 93 => ⟨S_, .f32⟩
  | 94 => ⟨S2x2048x2x1, .f32⟩
  | 95 => ⟨S2x2048x2x1, .f32⟩
  | 96 => ⟨S2x2048x2x64, .f32⟩
  | 97 => ⟨S2x2048x2x64, .f32⟩
  | 98 => ⟨S1x1x1x64, .f32⟩
  | 99 => ⟨S2x2048x2x64, .f32⟩
  | 100 => ⟨S2x2048x2x64, .f32⟩
  | 101 => ⟨S2x2048x2x32x2, .f32⟩
  | 102 => ⟨S2x2048x2x32x1, .f32⟩
  | 103 => ⟨S2x2048x2x32, .f32⟩
  | 104 => ⟨S2x2048x2x32x1, .f32⟩
  | 105 => ⟨S2x2048x2x32, .f32⟩
  | 106 => ⟨S1x2048x1x32, .f32⟩
  | 107 => ⟨S1x2048x1x32, .f32⟩
  | 108 => ⟨S2x2048x2x32, .f32⟩
  | 109 => ⟨S2x2048x2x32, .f32⟩
  | 110 => ⟨S2x2048x2x32, .f32⟩
  | 111 => ⟨S2x2048x2x32, .f32⟩
  | 112 => ⟨S2x2048x2x32, .f32⟩
  | 113 => ⟨S2x2048x2x32, .f32⟩
  | 114 => ⟨S2x2048x2x32, .f32⟩
  | 115 => ⟨S2x2048x2x32, .f32⟩
  | 116 => ⟨S2x2048x2x32, .f32⟩
  | 117 => ⟨S2x2048x2x32, .f32⟩
  | 118 => ⟨S2x2048x2x32x1, .f32⟩
  | 119 => ⟨S2x2048x2x32x1, .f32⟩
  | 120 => ⟨S2x2048x2x32x2, .f32⟩
  | 121 => ⟨S2x2048x2x64, .f32⟩
  | 122 => ⟨S_, .f32⟩
  | 123 => ⟨S2x2048x8x64, .f32⟩
  | 124 => ⟨S2x2048x8x64, .f32⟩
  | 125 => ⟨S_, .f32⟩
  | 126 => ⟨S2x2048x8x64, .f32⟩
  | 127 => ⟨S2x2048x8x64, .f32⟩
  | _ => ⟨S2x2048x2304, .f32⟩

abbrev hbmTy0_1 (i : Nat) : BufTy := match i % 128 with
  | 0 => ⟨S2x2048x2x32x2, .f32⟩
  | 1 => ⟨S2x2048x2x32x1, .f32⟩
  | 2 => ⟨S2x2048x2x32, .f32⟩
  | 3 => ⟨S2x2048x2x32x1, .f32⟩
  | 4 => ⟨S2x2048x2x32, .f32⟩
  | 5 => ⟨S2x2048x2x32, .f32⟩
  | 6 => ⟨S2x2048x2x32, .f32⟩
  | 7 => ⟨S2x2048x2x32, .f32⟩
  | 8 => ⟨S2x2048x2x32, .f32⟩
  | 9 => ⟨S2x2048x2x32, .f32⟩
  | 10 => ⟨S2x2048x2x32, .f32⟩
  | 11 => ⟨S2x2048x2x32, .f32⟩
  | 12 => ⟨S2x2048x2x32, .f32⟩
  | 13 => ⟨S2x2048x2x32, .f32⟩
  | 14 => ⟨S2x2048x2x32, .f32⟩
  | 15 => ⟨S2x2048x2x32, .f32⟩
  | 16 => ⟨S2x2048x2x32x1, .f32⟩
  | 17 => ⟨S_, .f32⟩
  | 18 => ⟨S2x2048x2x32x2, .f32⟩
  | 19 => ⟨S2x2048x2x32x1, .f32⟩
  | 20 => ⟨S_, .f32⟩
  | 21 => ⟨S2x2048x2x32x2, .f32⟩
  | 22 => ⟨S2x2048x2x32x2, .f32⟩
  | 23 => ⟨S2x2048x2x64, .f32⟩
  | 24 => ⟨S2x2048x2x64, .f32⟩
  | 25 => ⟨S_, .f32⟩
  | 26 => ⟨S64, .f32⟩
  | 27 => ⟨S1x1x1x64, .f32⟩
  | 28 => ⟨S2x2048x2x64, .f32⟩
  | 29 => ⟨S2x2048x2x64, .f32⟩
  | 30 => ⟨S_, .f32⟩
  | 31 => ⟨S64, .f32⟩
  | 32 => ⟨S2x2048x2x64, .f32⟩
  | 33 => ⟨S_, .f32⟩
  | 34 => ⟨S2x2048x2, .f32⟩
  | 35 => ⟨S2x2048x2x1, .f32⟩
  | 36 => ⟨S2x2048x2x64, .f32⟩
  | 37 => ⟨S2x2048x2x64, .f32⟩
  | 38 => ⟨S2x2048x2x1, .f32⟩
  | 39 => ⟨S_, .f32⟩
  | 40 => ⟨S2x2048x2x1, .f32⟩
  | 41 => ⟨S2x2048x2x1, .f32⟩
  | 42 => ⟨S_, .f32⟩
  | 43 => ⟨S2x2048x2, .f32⟩
  | 44 => ⟨S2x2048x2x64, .f32⟩
  | 45 => ⟨S2x2048x2x64, .f32⟩
  | 46 => ⟨S2x2048x2x64, .f32⟩
  | 47 => ⟨S2x2048x2x64, .f32⟩
  | 48 => ⟨S2x2048x2x64, .f32⟩
  | 49 => ⟨S2x2048x128, .f32⟩
  | 50 => ⟨S2x2048x8x32x2, .f32⟩
  | 51 => ⟨S2x2048x8x32x1, .f32⟩
  | 52 => ⟨S2x2048x8x32, .f32⟩
  | 53 => ⟨S2x2048x8x32x1, .f32⟩
  | 54 => ⟨S2x2048x8x32, .f32⟩
  | 55 => ⟨S2x2048x8x32, .f32⟩
  | 56 => ⟨S2x2048x8x32, .f32⟩
  | 57 => ⟨S2x2048x8x32, .f32⟩
  | 58 => ⟨S2x2048x8x32, .f32⟩
  | 59 => ⟨S2x2048x8x32, .f32⟩
  | 60 => ⟨S2x2048x8x32, .f32⟩
  | 61 => ⟨S2x2048x8x32, .f32⟩
  | 62 => ⟨S2x2048x8x32, .f32⟩
  | 63 => ⟨S2x2048x8x32, .f32⟩
  | 64 => ⟨S2x2048x8x32, .f32⟩
  | 65 => ⟨S2x2048x8x32, .f32⟩
  | 66 => ⟨S2x2048x8x32x1, .f32⟩
  | 67 => ⟨S_, .f32⟩
  | 68 => ⟨S2x2048x8x32x2, .f32⟩
  | 69 => ⟨S2x2048x8x32x1, .f32⟩
  | 70 => ⟨S_, .f32⟩
  | 71 => ⟨S2x2048x8x32x2, .f32⟩
  | 72 => ⟨S2x2048x8x32x2, .f32⟩
  | 73 => ⟨S2x2048x8x64, .f32⟩
  | 74 => ⟨S2x2048x8x64, .f32⟩
  | 75 => ⟨S_, .f32⟩
  | 76 => ⟨S64, .f32⟩
  | 77 => ⟨S1x1x1x64, .f32⟩
  | 78 => ⟨S2x2048x8x64, .f32⟩
  | 79 => ⟨S2x2048x8x64, .f32⟩
  | 80 => ⟨S_, .f32⟩
  | 81 => ⟨S64, .f32⟩
  | 82 => ⟨S2x2048x8x64, .f32⟩
  | 83 => ⟨S_, .f32⟩
  | 84 => ⟨S2x2048x8, .f32⟩
  | 85 => ⟨S2x2048x8x1, .f32⟩
  | 86 => ⟨S2x2048x8x64, .f32⟩
  | 87 => ⟨S2x2048x8x64, .f32⟩
  | 88 => ⟨S2x2048x8x1, .f32⟩
  | 89 => ⟨S_, .f32⟩
  | 90 => ⟨S2x2048x8x1, .f32⟩
  | 91 => ⟨S2x2048x8x1, .f32⟩
  | 92 => ⟨S_, .f32⟩
  | 93 => ⟨S2x2048x8, .f32⟩
  | 94 => ⟨S2x2048x8x64, .f32⟩
  | 95 => ⟨S2x2048x8x64, .f32⟩
  | 96 => ⟨S2x2048x8x64, .f32⟩
  | 97 => ⟨S2x2048x8x64, .f32⟩
  | 98 => ⟨S2x2048x8x64, .f32⟩
  | 99 => ⟨S2x2048x512, .f32⟩
  | 100 => ⟨S4096x512, .f32⟩
  | 101 => ⟨S4096x512, .bf16⟩
  | 102 => ⟨S4096x128, .f32⟩
  | 103 => ⟨S4096x128, .bf16⟩
  | 104 => ⟨S1x64, .f32⟩
  | 105 => ⟨S1x64, .f32⟩
  | _ => ⟨S2x2048x2304, .f32⟩

abbrev hbmTy (i : Nat) : BufTy := match i / 128 with
  | 0 => hbmTy0_0 i
  | 1 => hbmTy0_1 i
  | _ => ⟨S2x2048x2304, .f32⟩

abbrev bufTy : (tb : Table) → Fin (tcTables nBuf tb) → BufTy
  | .hbm, ⟨i, _⟩ => hbmTy i
  | _, _ => ⟨S2x2048x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_1 : Ref sig .tc := ⟨.hbm, 40, rfl⟩
abbrev main_v33 : Ref sig .tc := ⟨.hbm, 41, rfl⟩
abbrev main_v34 : Ref sig .tc := ⟨.hbm, 42, rfl⟩
abbrev main_cst_2 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_cst_5 : Ref sig .tc := ⟨.hbm, 82, rfl⟩
abbrev main_v71 : Ref sig .tc := ⟨.hbm, 83, rfl⟩
abbrev main_v72 : Ref sig .tc := ⟨.hbm, 84, rfl⟩
abbrev main_cst_6 : Ref sig .tc := ⟨.hbm, 85, rfl⟩
abbrev main_v73 : Ref sig .tc := ⟨.hbm, 86, rfl⟩
abbrev main_v74 : Ref sig .tc := ⟨.hbm, 87, rfl⟩
abbrev main_cst_7 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_cst_8 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_cst_9 : Ref sig .tc := ⟨.hbm, 122, rfl⟩
abbrev main_v107 : Ref sig .tc := ⟨.hbm, 123, rfl⟩
abbrev main_v108 : Ref sig .tc := ⟨.hbm, 124, rfl⟩
abbrev main_cst_10 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_cst_11 : Ref sig .tc := ⟨.hbm, 145, rfl⟩
abbrev main_v128 : Ref sig .tc := ⟨.hbm, 146, rfl⟩
abbrev main_v129 : Ref sig .tc := ⟨.hbm, 147, rfl⟩
abbrev main_cst_12 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_cst_13 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_cst_14 : Ref sig .tc := ⟨.hbm, 158, rfl⟩
abbrev main_v138 : Ref sig .tc := ⟨.hbm, 159, rfl⟩
abbrev main_v139 : Ref sig .tc := ⟨.hbm, 160, rfl⟩
abbrev main_cst_15 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_cst_16 : Ref sig .tc := ⟨.hbm, 167, rfl⟩
abbrev main_v145 : Ref sig .tc := ⟨.hbm, 168, rfl⟩
abbrev main_v146 : Ref sig .tc := ⟨.hbm, 169, rfl⟩
abbrev main_cst_17 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_cst_18 : Ref sig .tc := ⟨.hbm, 195, rfl⟩
abbrev main_v171 : Ref sig .tc := ⟨.hbm, 196, rfl⟩
abbrev main_v172 : Ref sig .tc := ⟨.hbm, 197, rfl⟩
abbrev main_cst_19 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_cst_20 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_cst_21 : Ref sig .tc := ⟨.hbm, 208, rfl⟩
abbrev main_v181 : Ref sig .tc := ⟨.hbm, 209, rfl⟩
abbrev main_v182 : Ref sig .tc := ⟨.hbm, 210, rfl⟩
abbrev main_cst_22 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_cst_23 : Ref sig .tc := ⟨.hbm, 217, rfl⟩
abbrev main_v188 : Ref sig .tc := ⟨.hbm, 218, rfl⟩
abbrev main_v189 : Ref sig .tc := ⟨.hbm, 219, rfl⟩
abbrev main_cst_24 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩

abbrev nD : Nat := 1
abbrev τ : Topo := Topo.v7x

variable {F : FTy → Type} [FloatOps F]
-- ==== AttfK.lean ====
abbrev S2x2048x8x64 : Shape := ⟨4, ![2, 2048, 8, 64]⟩
abbrev S2x2048x2x64 : Shape := ⟨4, ![2, 2048, 2, 64]⟩
abbrev S2x2048x2304 : Shape := ⟨3, ![2, 2048, 2304]⟩
abbrev S4096x512 : Shape := ⟨2, ![4096, 512]⟩
abbrev S4096x128 : Shape := ⟨2, ![4096, 128]⟩
abbrev S4096x2304 : Shape := ⟨2, ![4096, 2304]⟩
abbrev S4096x8 : Shape := ⟨2, ![4096, 8]⟩
abbrev S512x512 : Shape := ⟨2, ![512, 512]⟩
abbrev S2048x128 : Shape := ⟨2, ![2048, 128]⟩
abbrev S512x8 : Shape := ⟨2, ![512, 8]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x2x64, .f32⟩
  | .hbm, ⟨2, _⟩ => ⟨S2x2048x2304, .f32⟩
  | .hbm, ⟨3, _⟩ => ⟨S4096x512, .f32⟩
  | .hbm, ⟨4, _⟩ => ⟨S4096x512, .bf16⟩
  | .hbm, ⟨5, _⟩ => ⟨S4096x128, .f32⟩
  | .hbm, ⟨6, _⟩ => ⟨S4096x128, .bf16⟩
  | .hbm, ⟨7, _⟩ => ⟨S4096x2304, .f32⟩
  | .hbm, ⟨8, _⟩ => ⟨S4096x2304, .bf16⟩
  | .hbm, ⟨9, _⟩ => ⟨S4096x512, .bf16⟩
  | .hbm, ⟨10, _⟩ => ⟨S4096x8, .f32⟩
  | .local _ .vmem, ⟨0, _⟩ => ⟨S512x512, .bf16⟩
  | .local _ .vmem, ⟨1, _⟩ => ⟨S512x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x512, .bf16⟩
  | .local _ .vmem, ⟨7, _⟩ => ⟨S512x512, .bf16⟩
  | .local _ .vmem, ⟨8, _⟩ => ⟨S512x8, .f32⟩
  | .local _ .vmem, ⟨9, _⟩ => ⟨S512x8, .f32⟩
  | _, _ => ⟨S2x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c17_i32 : BitVec 32 := 17#32
  let c0_i32 : BitVec 32 := 0#32
  ![arg0.toNat, c17_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttfRIdeal.lean ====
abbrev S2x2048x8x64 : Shape := ⟨4, ![2, 2048, 8, 64]⟩
abbrev S2x2048x2x64 : Shape := ⟨4, ![2, 2048, 2, 64]⟩
abbrev S2x2048x2304 : Shape := ⟨3, ![2, 2048, 2304]⟩
abbrev S2x2048x128 : Shape := ⟨3, ![2, 2048, 128]⟩
abbrev S2x2048x2x4x64 : Shape := ⟨5, ![2, 2048, 2, 4, 64]⟩
abbrev S2x2x2048x2048x4 : Shape := ⟨5, ![2, 2, 2048, 2048, 4]⟩
abbrev S2x2x4x2048x2048 : Shape := ⟨5, ![2, 2, 4, 2048, 2048]⟩
abbrev S_ : Shape := ⟨0, ![]⟩
abbrev S2x2x4x2048 : Shape := ⟨4, ![2, 2, 4, 2048]⟩
abbrev S2x2x4x2048x1 : Shape := ⟨5, ![2, 2, 4, 2048, 1]⟩
abbrev S2x2x64x4x2048 : Shape := ⟨5, ![2, 2, 64, 4, 2048]⟩
abbrev S2x2048x512 : Shape := ⟨3, ![2, 2048, 512]⟩
abbrev S2x2048x2x4 : Shape := ⟨4, ![2, 2048, 2, 4]⟩
abbrev S4096x512 : Shape := ⟨2, ![4096, 512]⟩
abbrev S4096x8 : Shape := ⟨2, ![4096, 8]⟩

abbrev nBuf : Space → Nat
  | .hbm => 33
  | .vmem => 0
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x2x64, .f32⟩
  | .hbm, ⟨2, _⟩ => ⟨S2x2048x2304, .f32⟩
  | .hbm, ⟨3, _⟩ => ⟨S2x2048x128, .f32⟩
  | .hbm, ⟨4, _⟩ => ⟨S2x2048x2x64, .f32⟩
  | .hbm, ⟨5, _⟩ => ⟨S2x2048x2x4x64, .f32⟩
  | .hbm, ⟨6, _⟩ => ⟨S2x2x2048x2048x4, .f32⟩
  | .hbm, ⟨7, _⟩ => ⟨S2x2x4x2048x2048, .f32⟩
  | .hbm, ⟨8, _⟩ => ⟨S_, .f32⟩
  | .hbm, ⟨9, _⟩ => ⟨S2x2x4x2048, .f32⟩
  | .hbm, ⟨10, _⟩ => ⟨S_, .f32⟩
  | .hbm, ⟨11, _⟩ => ⟨S2x2x4x2048, .f32⟩
  | .hbm, ⟨12, _⟩ => ⟨S2x2x4x2048, .f32⟩
  | .hbm, ⟨13, _⟩ => ⟨S2x2x4x2048x1, .f32⟩
  | .hbm, ⟨14, _⟩ => ⟨S2x2x4x2048x2048, .f32⟩
  | .hbm, ⟨15, _⟩ => ⟨S2x2x4x2048x2048, .f32⟩
  | .hbm, ⟨16, _⟩ => ⟨S2x2x4x2048x2048, .f32⟩
  | .hbm, ⟨17, _⟩ => ⟨S_, .f32⟩
  | .hbm, ⟨18, _⟩ => ⟨S2x2x4x2048, .f32⟩
  | .hbm, ⟨19, _⟩ => ⟨S2x2x4x2048x1, .f32⟩
  | .hbm, ⟨20, _⟩ => ⟨S2x2x4x2048x2048, .f32⟩
  | .hbm, ⟨21, _⟩ => ⟨S2x2x4x2048x2048, .f32⟩
  | .hbm, ⟨22, _⟩ => ⟨S2x2x4x2048x2048, .f32⟩
  | .hbm, ⟨23, _⟩ => ⟨S_, .f32⟩
  | .hbm, ⟨24, _⟩ => ⟨S2x2x4x2048, .f32⟩
  | .hbm, ⟨25, _⟩ => ⟨S2x2x4x2048, .f32⟩
  | .hbm, ⟨26, _⟩ => ⟨S2x2x64x4x2048, .f32⟩
  | .hbm, ⟨27, _⟩ => ⟨S2x2048x2x4x64, .f32⟩
  | .hbm, ⟨28, _⟩ => ⟨S2x2048x512, .f32⟩
  | .hbm, ⟨29, _⟩ => ⟨S2x2048x2x4, .f32⟩
  | .hbm, ⟨30, _⟩ => ⟨S4096x512, .f32⟩
  | .hbm, ⟨31, _⟩ => ⟨S4096x512, .bf16⟩
  | .hbm, ⟨32, _⟩ => ⟨S4096x8, .f32⟩
  | _, _ => ⟨S2x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== ConvfK.lean ====
abbrev S2x2048x2304 : Shape := ⟨3, ![2, 2048, 2304]⟩
abbrev S3x512 : Shape := ⟨2, ![3, 512]⟩
abbrev S4096x2304 : Shape := ⟨2, ![4096, 2304]⟩
abbrev S4096x512 : Shape := ⟨2, ![4096, 512]⟩
abbrev S2048x128 : Shape := ⟨2, ![2048, 128]⟩
abbrev S3x128 : Shape := ⟨2, ![3, 128]⟩
abbrev S2064x128 : Shape := ⟨2, ![2064, 128]⟩
abbrev S8x128 : Shape := ⟨2, ![8, 128]⟩
abbrev S1x128 : Shape := ⟨2, ![1, 128]⟩

abbrev nBuf : Space → Nat
  | .hbm => 5
  | .vmem => 11
  | .smem => 0
  | _ => 0

abbrev bufTy : (tb : Table) → Fin (tcTables nBuf tb) → BufTy
  | .hbm, ⟨0, _⟩ => ⟨S2x2048x2304, .f32⟩
  | .hbm, ⟨1, _⟩ => ⟨S3x512, .f32⟩
  | .hbm, ⟨2, _⟩ => ⟨S4096x2304, .f32⟩
  | .hbm, ⟨3, _⟩ => ⟨S4096x2304, .bf16⟩
  | .hbm, ⟨4, _⟩ => ⟨S4096x512, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S3x128, .f32⟩
  | .local _ .vmem, ⟨7, _⟩ => ⟨S3x128, .f32⟩
  | .local _ .vmem, ⟨8, _⟩ => ⟨S2048x128, .bf16⟩
  | .local _ .vmem, ⟨9, _⟩ => ⟨S2048x128, .bf16⟩
  | .local _ .vmem, ⟨10, _⟩ => ⟨S2064x128, .f32⟩
  | _, _ => ⟨S2x2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvfRIdeal.lean ====
abbrev S2x2048x2304 : Shape := ⟨3, ![2, 2048, 2304]⟩
abbrev S3x512 : Shape := ⟨2, ![3, 512]⟩
abbrev S2x2048x512 : Shape := ⟨3, ![2, 2048, 512]⟩
abbrev S2x2048x768 : Shape := ⟨3, ![2, 2048, 768]⟩
abbrev S2x1x512 : Shape := ⟨3, ![2, 1, 512]⟩
abbrev S_ : Shape := ⟨0, ![]⟩
abbrev S2x2050x512 : Shape := ⟨3, ![2, 2050, 512]⟩
abbrev S1x512 : Shape := ⟨2, ![1, 512]⟩
abbrev S512 : Shape := ⟨1, ![512]⟩
abbrev S1x1x512 : Shape := ⟨3, ![1, 1, 512]⟩
abbrev S4096x512 : Shape := ⟨2, ![4096, 512]⟩

abbrev nBuf : Space → Nat
  | .hbm => 34
  | .vmem => 0
  | .smem => 0
  | _ => 0

abbrev bufTy : (tb : Table) → Fin (tcTables nBuf tb) → BufTy
  | .hbm, ⟨0, _⟩ => ⟨S2x2048x2304, .f32⟩
  | .hbm, ⟨1, _⟩ => ⟨S3x512, .f32⟩
  | .hbm, ⟨2, _⟩ => ⟨S2x2048x512, .f32⟩
  | .hbm, ⟨3, _⟩ => ⟨S2x2048x512, .f32⟩
  | .hbm, ⟨4, _⟩ => ⟨S2x2048x512, .f32⟩
  | .hbm, ⟨5, _⟩ => ⟨S2x2048x768, .f32⟩
  | .hbm, ⟨6, _⟩ => ⟨S2x2048x512, .f32⟩
  | .hbm, ⟨7, _⟩ => ⟨S2x1x512, .f32⟩
  | .hbm, ⟨8, _⟩ => ⟨S_, .f32⟩
  | .hbm, ⟨9, _⟩ => ⟨S2x1x512, .f32⟩
  | .hbm, ⟨10, _⟩ => ⟨S2x2050x512, .f32⟩
  | .hbm, ⟨11, _⟩ => ⟨S2x2048x512, .f32⟩
  | .hbm, ⟨12, _⟩ => ⟨S1x512, .f32⟩
  | .hbm, ⟨13, _⟩ => ⟨S512, .f32⟩
  | .hbm, ⟨14, _⟩ => ⟨S1x1x512, .f32⟩
  | .hbm, ⟨15, _⟩ => ⟨S2x2048x512, .f32⟩
  | .hbm, ⟨16, _⟩ => ⟨S2x2048x512, .f32⟩
  | .hbm, ⟨17, _⟩ => ⟨S2x2048x512, .f32⟩
  | .hbm, ⟨18, _⟩ => ⟨S1x512, .f32⟩
  | .hbm, ⟨19, _⟩ => ⟨S512, .f32⟩
  | .hbm, ⟨20, _⟩ => ⟨S1x1x512, .f32⟩
  | .hbm, ⟨21, _⟩ => ⟨S2x2048x512, .f32⟩
  | .hbm, ⟨22, _⟩ => ⟨S2x2048x512, .f32⟩
  | .hbm, ⟨23, _⟩ => ⟨S2x2048x512, .f32⟩
  | .hbm, ⟨24, _⟩ => ⟨S2x2048x512, .f32⟩
  | .hbm, ⟨25, _⟩ => ⟨S1x512, .f32⟩
  | .hbm, ⟨26, _⟩ => ⟨S512, .f32⟩
  | .hbm, ⟨27, _⟩ => ⟨S1x1x512, .f32⟩
  | .hbm, ⟨28, _⟩ => ⟨S2x2048x512, .f32⟩
  | .hbm, ⟨29, _⟩ => ⟨S2x2048x512, .f32⟩
  | .hbm, ⟨30, _⟩ => ⟨S2x2048x512, .f32⟩
  | .hbm, ⟨31, _⟩ => ⟨S2x2048x512, .f32⟩
  | .hbm, ⟨32, _⟩ => ⟨S4096x512, .f32⟩
  | .hbm, ⟨33, _⟩ => ⟨S4096x512, .bf16⟩
  | _, _ => ⟨S2x2048x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩

abbrev nD : Nat := 1
abbrev τ : Topo := Topo.v7x

variable {F : FTy → Type} [FloatOps F]
-- ==== FfninK.lean ====
abbrev S2x2048x1024 : Shape := ⟨3, ![2, 2048, 1024]⟩
abbrev S1024 : Shape := ⟨1, ![1024]⟩
abbrev S1024x5632 : Shape := ⟨2, ![1024, 5632]⟩
abbrev S4096x1024 : Shape := ⟨2, ![4096, 1024]⟩
abbrev S1024x4x1408 : Shape := ⟨3, ![1024, 4, 1408]⟩
abbrev S4x1024x1408 : Shape := ⟨3, ![4, 1024, 1408]⟩
abbrev S1x1024 : Shape := ⟨2, ![1, 1024]⟩
abbrev S2x4096x2816 : Shape := ⟨3, ![2, 4096, 2816]⟩
abbrev S1024x1024 : Shape := ⟨2, ![1024, 1024]⟩
abbrev S1x1024x1408 : Shape := ⟨3, ![1, 1024, 1408]⟩
abbrev S1024x1 : Shape := ⟨2, ![1024, 1]⟩
abbrev S1024x1408 : Shape := ⟨2, ![1024, 1408]⟩

abbrev nBuf : Space → Nat
  | .hbm => 10
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5632, .f32⟩
  | .hbm, ⟨3, _⟩ => ⟨S4096x1024, .f32⟩
  | .hbm, ⟨4, _⟩ => ⟨S1024x4x1408, .f32⟩
  | .hbm, ⟨5, _⟩ => ⟨S4x1024x1408, .f32⟩
  | .hbm, ⟨6, _⟩ => ⟨S4x1024x1408, .bf16⟩
  | .hbm, ⟨7, _⟩ => ⟨S1x1024, .f32⟩
  | .hbm, ⟨8, _⟩ => ⟨S2x4096x2816, .bf16⟩
  | .hbm, ⟨9, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1024x1024, .bf16⟩
  | .local _ .vmem, ⟨8, _⟩ => ⟨S1024x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== FfninRIdeal.lean ====
abbrev S2x2048x1024 : Shape := ⟨3, ![2, 2048, 1024]⟩
abbrev S1024 : Shape := ⟨1, ![1024]⟩
abbrev S1024x5632 : Shape := ⟨2, ![1024, 5632]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x5632 : Shape := ⟨3, ![2, 2048, 5632]⟩
abbrev S2x2048x2816 : Shape := ⟨3, ![2, 2048, 2816]⟩
abbrev S1x2x2048x2816 : Shape := ⟨4, ![1, 2, 2048, 2816]⟩
abbrev S2x2x2048x2816 : Shape := ⟨4, ![2, 2, 2048, 2816]⟩
abbrev S2x4096x2816 : Shape := ⟨3, ![2, 4096, 2816]⟩
abbrev S4096x1024 : Shape := ⟨2, ![4096, 1024]⟩

abbrev nBuf : Space → Nat
  | .hbm => 29
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5632, .f32⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1024, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S2x2048x5632, .f32⟩
  | .hbm, ⟨20, _⟩ => ⟨S2x2048x2816, .f32⟩
  | .hbm, ⟨21, _⟩ => ⟨S2x2048x2816, .f32⟩
  | .hbm, ⟨22, _⟩ => ⟨S1x2x2048x2816, .f32⟩
  | .hbm, ⟨23, _⟩ => ⟨S1x2x2048x2816, .f32⟩
  | .hbm, ⟨24, _⟩ => ⟨S2x2x2048x2816, .f32⟩
  | .hbm, ⟨25, _⟩ => ⟨S2x4096x2816, .f32⟩
  | .hbm, ⟨26, _⟩ => ⟨S2x4096x2816, .bf16⟩
  | .hbm, ⟨27, _⟩ => ⟨S4096x1024, .f32⟩
  | .hbm, ⟨28, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== FfnoutK.lean ====
abbrev S2x2048x1024 : Shape := ⟨3, ![2, 2048, 1024]⟩
abbrev S2x2048x2816 : Shape := ⟨3, ![2, 2048, 2816]⟩
abbrev S2816x1024 : Shape := ⟨2, ![2816, 1024]⟩
abbrev S1x2x2048x2816 : Shape := ⟨4, ![1, 2, 2048, 2816]⟩
abbrev S2x2x2048x2816 : Shape := ⟨4, ![2, 2, 2048, 2816]⟩
abbrev S2x4096x2816 : Shape := ⟨3, ![2, 4096, 2816]⟩
abbrev S4096x1024 : Shape := ⟨2, ![4096, 1024]⟩
abbrev S1x512x2816 : Shape := ⟨3, ![1, 512, 2816]⟩
abbrev S512x1024 : Shape := ⟨2, ![512, 1024]⟩
abbrev S512x2816 : Shape := ⟨2, ![512, 2816]⟩

abbrev nBuf : Space → Nat
  | .hbm => 12
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2816, .f32⟩
  | .hbm, ⟨2, _⟩ => ⟨S2x2048x2816, .f32⟩
  | .hbm, ⟨3, _⟩ => ⟨S2816x1024, .f32⟩
  | .hbm, ⟨4, _⟩ => ⟨S1x2x2048x2816, .f32⟩
  | .hbm, ⟨5, _⟩ => ⟨S1x2x2048x2816, .f32⟩
  | .hbm, ⟨6, _⟩ => ⟨S2x2x2048x2816, .f32⟩
  | .hbm, ⟨7, _⟩ => ⟨S2x4096x2816, .f32⟩
  | .hbm, ⟨8, _⟩ => ⟨S2x4096x2816, .bf16⟩
  | .hbm, ⟨9, _⟩ => ⟨S4096x1024, .f32⟩
  | .hbm, ⟨10, _⟩ => ⟨S2816x1024, .bf16⟩
  | .hbm, ⟨11, _⟩ => ⟨S4096x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1x512x2816, .bf16⟩
  | .local _ .vmem, ⟨3, _⟩ => ⟨S1x512x2816, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== FfnoutRIdeal.lean ====
abbrev S2x2048x1024 : Shape := ⟨3, ![2, 2048, 1024]⟩
abbrev S2x2048x2816 : Shape := ⟨3, ![2, 2048, 2816]⟩
abbrev S2816x1024 : Shape := ⟨2, ![2816, 1024]⟩
abbrev S_ : Shape := ⟨0, ![]⟩
abbrev S4096x1024 : Shape := ⟨2, ![4096, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2816, .f32⟩
  | .hbm, ⟨2, _⟩ => ⟨S2x2048x2816, .f32⟩
  | .hbm, ⟨3, _⟩ => ⟨S2816x1024, .f32⟩
  | .hbm, ⟨4, _⟩ => ⟨S2x2048x2816, .f32⟩
  | .hbm, ⟨5, _⟩ => ⟨S2x2048x2816, .f32⟩
  | .hbm, ⟨6, _⟩ => ⟨S_, .f32⟩
  | .hbm, ⟨7, _⟩ => ⟨S2x2048x2816, .f32⟩
  | .hbm, ⟨8, _⟩ => ⟨S2x2048x2816, .f32⟩
  | .hbm, ⟨9, _⟩ => ⟨S_, .f32⟩
  | .hbm, ⟨10, _⟩ => ⟨S2x2048x2816, .f32⟩
  | .hbm, ⟨11, _⟩ => ⟨S2x2048x2816, .f32⟩
  | .hbm, ⟨12, _⟩ => ⟨S2x2048x2816, .f32⟩
  | .hbm, ⟨13, _⟩ => ⟨S2x2048x2816, .f32⟩
  | .hbm, ⟨14, _⟩ => ⟨S2x2048x1024, .f32⟩
  | .hbm, ⟨15, _⟩ => ⟨S_, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== RmsfK.lean ====
abbrev S2x2048x1024 : Shape := ⟨3, ![2, 2048, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsfRIdeal.lean ====
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x1024, .f32⟩
  | .hbm, ⟨3, _⟩ => ⟨S_, .f32⟩
  | .hbm, ⟨4, _⟩ => ⟨S2x2048, .f32⟩
  | .hbm, ⟨5, _⟩ => ⟨S2x2048x1, .f32⟩
  | .hbm, ⟨6, _⟩ => ⟨S_, .f32⟩
  | .hbm, ⟨7, _⟩ => ⟨S2x2048x1, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S2x2048x1, .f32⟩
  | .hbm, ⟨13, _⟩ => ⟨S2x2048x1024, .f32⟩
  | .hbm, ⟨14, _⟩ => ⟨S2x2048x1024, .f32⟩
  | .hbm, ⟨15, _⟩ => ⟨S1x1x1024, .f32⟩
  | .hbm, ⟨16, _⟩ => ⟨S2x2048x1024, .f32⟩
  | .hbm, ⟨17, _⟩ => ⟨S2x2048x1024, .f32⟩
  | .hbm, ⟨18, _⟩ => ⟨S4096x1024, .f32⟩
  | .hbm, ⟨19, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== QkfK.lean ====
abbrev S2x2048x2304 : Shape := ⟨3, ![2, 2048, 2304]⟩
abbrev S64 : Shape := ⟨1, ![64]⟩
abbrev S32 : Shape := ⟨1, ![32]⟩
abbrev S32x64 : Shape := ⟨2, ![32, 64]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x32x2 : Shape := ⟨3, ![2048, 32, 2]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x64 : Shape := ⟨2, ![1, 64]⟩
abbrev S4096x2304 : Shape := ⟨2, ![4096, 2304]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S4096x512 : Shape := ⟨2, ![4096, 512]⟩
abbrev S4096x128 : Shape := ⟨2, ![4096, 128]⟩
abbrev S512x512 : Shape := ⟨2, ![512, 512]⟩
abbrev S512x128 : Shape := ⟨2, ![512, 128]⟩

abbrev nBuf : Space → Nat
  | .hbm => 114
  | .vmem => 15
  | .smem => 0
  | _ => 0

abbrev bufTy : (tb : Table) → Fin (tcTables nBuf tb) → BufTy
  | .hbm, ⟨0, _⟩ => ⟨S2x2048x2304, .f32⟩
  | .hbm, ⟨1, _⟩ => ⟨S64, .f32⟩
  | .hbm, ⟨2, _⟩ => ⟨S64, .f32⟩
  | .hbm, ⟨3, _⟩ => ⟨S32, .i32⟩
  | .hbm, ⟨4, _⟩ => ⟨S64, .i32⟩
  | .hbm, ⟨5, _⟩ => ⟨S32x64, .i32⟩
  | .hbm, ⟨6, _⟩ => ⟨S32x64, .i32⟩
  | .hbm, ⟨7, _⟩ => ⟨S2048, .i32⟩
  | .hbm, ⟨8, _⟩ => ⟨S2048, .f32⟩
  | .hbm, ⟨9, _⟩ => ⟨S2048, .i32⟩
  | .hbm, ⟨10, _⟩ => ⟨S2048, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S2048x1, .f32⟩
  | .hbm, ⟨20, _⟩ => ⟨S1x16, .f32⟩
  | .hbm, ⟨21, _⟩ => ⟨S2048x16, .f32⟩
  | .hbm, ⟨22, _⟩ => ⟨S2048x16, .f32⟩
  | .hbm, ⟨23, _⟩ => ⟨S2048x16, .f32⟩
  | .hbm, ⟨24, _⟩ => ⟨S2048x1, .f32⟩
  | .hbm, ⟨25, _⟩ => ⟨S1x16, .f32⟩
  | .hbm, ⟨26, _⟩ => ⟨S2048x16, .f32⟩
  | .hbm, ⟨27, _⟩ => ⟨S2048x16, .f32⟩
  | .hbm, ⟨28, _⟩ => ⟨S2048x16, .f32⟩
  | .hbm, ⟨29, _⟩ => ⟨S2048x32, .f32⟩
  | .hbm, ⟨30, _⟩ => ⟨S2048x32, .f32⟩
  | .hbm, ⟨31, _⟩ => ⟨S2048x32x2, .f32⟩
  | .hbm, ⟨32, _⟩ => ⟨S2048x64, .f32⟩
  | .hbm, ⟨33, _⟩ => ⟨S2048x32, .f32⟩
  | .hbm, ⟨34, _⟩ => ⟨S2048x32x2, .f32⟩
  | .hbm, ⟨35, _⟩ => ⟨S2048x64, .f32⟩
  | .hbm, ⟨36, _⟩ => ⟨S64, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S64, .i32⟩
  | .hbm, ⟨44, _⟩ => ⟨S64, .i32⟩
  | .hbm, ⟨45, _⟩ => ⟨S_, .i32⟩
  | .hbm, ⟨46, _⟩ => ⟨S64, .i32⟩
  | .hbm, ⟨47, _⟩ => ⟨S64, .i1⟩
  | .hbm, ⟨48, _⟩ => ⟨S_, .i32⟩
  | .hbm, ⟨49, _⟩ => ⟨S64, .i32⟩
  | .hbm, ⟨50, _⟩ => ⟨S64, .i1⟩
  | .hbm, ⟨51, _⟩ => ⟨S_, .i32⟩
  | .hbm, ⟨52, _⟩ => ⟨S_, .i1⟩
  | .hbm, ⟨53, _⟩ => ⟨S64, .i1⟩
  | .hbm, ⟨54, _⟩ => ⟨S64, .i1⟩
  | .hbm, ⟨55, _⟩ => ⟨S64, .i1⟩
  | .hbm, ⟨56, _⟩ => ⟨S64, .i32⟩
  | .hbm, ⟨57, _⟩ => ⟨S64, .i32⟩
  | .hbm, ⟨58, _⟩ => ⟨S64, .i32⟩
  | .hbm, ⟨59, _⟩ => ⟨S_, .i32⟩
  | .hbm, ⟨60, _⟩ => ⟨S64, .i32⟩
  | .hbm, ⟨61, _⟩ => ⟨S64, .i1⟩
  | .hbm, ⟨62, _⟩ => ⟨S_, .f32⟩
  | .hbm, ⟨63, _⟩ => ⟨S_, .f32⟩
  | .hbm, ⟨64, _⟩ => ⟨S64, .f32⟩
  | .hbm, ⟨65, _⟩ => ⟨S64, .f32⟩
  | .hbm, ⟨66, _⟩ => ⟨S64, .f32⟩
  | .hbm, ⟨67, _⟩ => ⟨S64, .f32⟩
  | .hbm, ⟨68, _⟩ => ⟨S1x2048x1x64, .f32⟩
  | .hbm, ⟨69, _⟩ => ⟨S1x2048x2x64, .f32⟩
  | .hbm, ⟨70, _⟩ => ⟨S2048x128, .f32⟩
  | .hbm, ⟨71, _⟩ => ⟨S1x64, .f32⟩
  | .hbm, ⟨72, _⟩ => ⟨S2048x64, .f32⟩
  | .hbm, ⟨73, _⟩ => ⟨S2048x64, .f32⟩
  | .hbm, ⟨74, _⟩ => ⟨S1x2048x1x64, .f32⟩
  | .hbm, ⟨75, _⟩ => ⟨S1x2048x2x64, .f32⟩
  | .hbm, ⟨76, _⟩ => ⟨S2048x128, .f32⟩
  | .hbm, ⟨77, _⟩ => ⟨S4096x2304, .f32⟩
  | .hbm, ⟨78, _⟩ => ⟨S4096x2304, .bf16⟩
  | .hbm, ⟨79, _⟩ => ⟨S1x64, .f32⟩
  | .hbm, ⟨80, _⟩ => ⟨S8x64, .f32⟩
  | .hbm, ⟨81, _⟩ => ⟨S512, .f32⟩
  | .hbm, ⟨82, _⟩ => ⟨S1x512, .f32⟩
  | .hbm, ⟨83, _⟩ => ⟨S1x64, .f32⟩
  | .hbm, ⟨84, _⟩ => ⟨S2x64, .f32⟩
  | .hbm, ⟨85, _⟩ => ⟨S128, .f32⟩
  | .hbm, ⟨86, _⟩ => ⟨S1x128, .f32⟩
  | .hbm, ⟨87, _⟩ => ⟨S128, .i32⟩
  | .hbm, ⟨88, _⟩ => ⟨S_, .i32⟩
  | .hbm, ⟨89, _⟩ => ⟨S_, .i32⟩
  | .hbm, ⟨90, _⟩ => ⟨S128, .i32⟩
  | .hbm, ⟨91, _⟩ => ⟨S128, .i32⟩
  | .hbm, ⟨92, _⟩ => ⟨S128, .i32⟩
  | .hbm, ⟨93, _⟩ => ⟨S_, .i32⟩
  | .hbm, ⟨94, _⟩ => ⟨S128, .i32⟩
  | .hbm, ⟨95, _⟩ => ⟨S128, .i1⟩
  | .hbm, ⟨96, _⟩ => ⟨S128, .i32⟩
  | .hbm, ⟨97, _⟩ => ⟨S128, .i32⟩
  | .hbm, ⟨98, _⟩ => ⟨S_, .i32⟩
  | .hbm, ⟨99, _⟩ => ⟨S128, .i32⟩
  | .hbm, ⟨100, _⟩ => ⟨S128, .i1⟩
  | .hbm, ⟨101, _⟩ => ⟨S128, .i1⟩
  | .hbm, ⟨102, _⟩ => ⟨S_, .i32⟩
  | .hbm, ⟨103, _⟩ => ⟨S128, .i32⟩
  | .hbm, ⟨104, _⟩ => ⟨S128, .i32⟩
  | .hbm, ⟨105, _⟩ => ⟨S128, .i32⟩
  | .hbm, ⟨106, _⟩ => ⟨S128x1, .i32⟩
  | .hbm, ⟨107, _⟩ => ⟨S1x128, .i32⟩
  | .hbm, ⟨108, _⟩ => ⟨S128x128, .i32⟩
  | .hbm, ⟨109, _⟩ => ⟨S128x128, .i32⟩
  | .hbm, ⟨110, _⟩ => ⟨S128x128, .i1⟩
  | .hbm, ⟨111, _⟩ => ⟨S128x128, .bf16⟩
  | .hbm, ⟨112, _⟩ => ⟨S4096x512, .bf16⟩
  | .hbm, ⟨113, _⟩ => ⟨S4096x128, .bf16⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S1x512, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S128x128, .bf16⟩
  | .local _ .vmem, ⟨11, _⟩ => ⟨S512x512, .bf16⟩
  | .local _ .vmem, ⟨12, _⟩ => ⟨S512x512, .bf16⟩
  | .local _ .vmem, ⟨13, _⟩ => ⟨S512x128, .bf16⟩
  | .local _ .vmem, ⟨14, _⟩ => ⟨S512x128, .bf16⟩
  | _, _ => ⟨S2x2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_c : Ref sig .tc := ⟨.hbm, 37, rfl⟩
abbrev main_call0_v0 : Ref sig .tc := ⟨.hbm, 38, rfl⟩
abbrev main_call0_c : Ref sig .tc := ⟨.hbm, 39, rfl⟩
abbrev main_call0_v1 : Ref sig .tc := ⟨.hbm, 40, rfl⟩
abbrev main_call0_c_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_c_1 : Ref sig .tc := ⟨.hbm, 45, rfl⟩
abbrev main_call0_v5 : Ref sig .tc := ⟨.hbm, 46, rfl⟩
abbrev main_call0_v6 : Ref sig .tc := ⟨.hbm, 47, rfl⟩
abbrev main_call0_c_2 : Ref sig .tc := ⟨.hbm, 48, rfl⟩
abbrev main_call0_v7 : Ref sig .tc := ⟨.hbm, 49, rfl⟩
abbrev main_call0_v8 : Ref sig .tc := ⟨.hbm, 50, rfl⟩
abbrev main_call0_c_3 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_v12 : Ref sig .tc := ⟨.hbm, 55, rfl⟩
abbrev main_call0_v13 : Ref sig .tc := ⟨.hbm, 56, rfl⟩
abbrev main_call0_v14 : Ref sig .tc := ⟨.hbm, 57, rfl⟩
abbrev main_v32 : Ref sig .tc := ⟨.hbm, 58, rfl⟩
abbrev main_c_1 : Ref sig .tc := ⟨.hbm, 59, rfl⟩
abbrev main_v33 : Ref sig .tc := ⟨.hbm, 60, rfl⟩
abbrev main_v34 : Ref sig .tc := ⟨.hbm, 61, rfl⟩
abbrev main_cst_2 : Ref sig .tc := ⟨.hbm, 62, rfl⟩
abbrev main_cst_3 : Ref sig .tc := ⟨.hbm, 63, rfl⟩
abbrev main_call1_v0 : Ref sig .tc := ⟨.hbm, 64, rfl⟩
abbrev main_call1_v1 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c_4 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_v6 : Ref sig .tc := ⟨.hbm, 95, rfl⟩
abbrev main_call2_v7 : Ref sig .tc := ⟨.hbm, 96, rfl⟩
abbrev main_call2_v8 : Ref sig .tc := ⟨.hbm, 97, rfl⟩
abbrev main_call2_c : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_0 : Ref sig .tc := ⟨.hbm, 102, rfl⟩
abbrev main_call2_v12 : Ref sig .tc := ⟨.hbm, 103, rfl⟩
abbrev main_call2_v13 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64_0 : Ref sig .tc := ⟨.hbm, 112, rfl⟩
abbrev main_v64_1 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== QkfRIdeal.lean ====
abbrev S2x2048x2304 : Shape := ⟨3, ![2, 2048, 2304]⟩
abbrev S64 : Shape := ⟨1, ![64]⟩
abbrev S2x2048x1536 : Shape := ⟨3, ![2, 2048, 1536]⟩
abbrev S2x2048x512 : Shape := ⟨3, ![2, 2048, 512]⟩
abbrev S2x2048x128 : Shape := ⟨3, ![2, 2048, 128]⟩
abbrev S32 : Shape := ⟨1, ![32]⟩
abbrev S32x64 : Shape := ⟨2, ![32, 64]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2x2048x8x64 : Shape := ⟨4, ![2, 2048, 8, 64]⟩
abbrev S2x2048x8 : Shape := ⟨3, ![2, 2048, 8]⟩
abbrev S2x2048x8x1 : Shape := ⟨4, ![2, 2048, 8, 1]⟩
abbrev S1x1x1x64 : Shape := ⟨4, ![1, 1, 1, 64]⟩
abbrev S2x2048x8x32x2 : Shape := ⟨5, ![2, 2048, 8, 32, 2]⟩
abbrev S2x2048x8x32x1 : Shape := ⟨5, ![2, 2048, 8, 32, 1]⟩
abbrev S2x2048x8x32 : Shape := ⟨4, ![2, 2048, 8, 32]⟩
abbrev S1x2048x1x32 : Shape := ⟨4, ![1, 2048, 1, 32]⟩
abbrev S2x2048x2x64 : Shape := ⟨4, ![2, 2048, 2, 64]⟩
abbrev S2x2048x2 : Shape := ⟨3, ![2, 2048, 2]⟩
abbrev S2x2048x2x1 : Shape := ⟨4, ![2, 2048, 2, 1]⟩
abbrev S2x2048x2x32x2 : Shape := ⟨5, ![2, 2048, 2, 32, 2]⟩
abbrev S2x2048x2x32x1 : Shape := ⟨5, ![2, 2048, 2, 32, 1]⟩
abbrev S2x2048x2x32 : Shape := ⟨4, ![2, 2048, 2, 32]⟩
abbrev S4096x512 : Shape := ⟨2, ![4096, 512]⟩
abbrev S4096x128 : Shape := ⟨2, ![4096, 128]⟩

abbrev nBuf : Space → Nat
  | .hbm => 119
  | .vmem => 0
  | .smem => 0
  | _ => 0

abbrev bufTy : (tb : Table) → Fin (tcTables nBuf tb) → BufTy
  | .hbm, ⟨0, _⟩ => ⟨S2x2048x2304, .f32⟩
  | .hbm, ⟨1, _⟩ => ⟨S64, .f32⟩
  | .hbm, ⟨2, _⟩ => ⟨S64, .f32⟩
  | .hbm, ⟨3, _⟩ => ⟨S2x2048x1536, .f32⟩
  | .hbm, ⟨4, _⟩ => ⟨S2x2048x512, .f32⟩
  | .hbm, ⟨5, _⟩ => ⟨S2x2048x128, .f32⟩
  | .hbm, ⟨6, _⟩ => ⟨S2x2048x128, .f32⟩
  | .hbm, ⟨7, _⟩ => ⟨S32, .i32⟩
  | .hbm, ⟨8, _⟩ => ⟨S64, .i32⟩
  | .hbm, ⟨9, _⟩ => ⟨S32x64, .i32⟩
  | .hbm, ⟨10, _⟩ => ⟨S32x64, .i32⟩
  | .hbm, ⟨11, _⟩ => ⟨S2048, .i32⟩
  | .hbm, ⟨12, _⟩ => ⟨S2048, .f32⟩
  | .hbm, ⟨13, _⟩ => ⟨S2048, .i32⟩
  | .hbm, ⟨14, _⟩ => ⟨S2048, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S2048x1, .f32⟩
  | .hbm, ⟨24, _⟩ => ⟨S1x16, .f32⟩
  | .hbm, ⟨25, _⟩ => ⟨S2048x16, .f32⟩
  | .hbm, ⟨26, _⟩ => ⟨S2048x16, .f32⟩
  | .hbm, ⟨27, _⟩ => ⟨S2048x16, .f32⟩
  | .hbm, ⟨28, _⟩ => ⟨S2048x1, .f32⟩
  | .hbm, ⟨29, _⟩ => ⟨S1x16, .f32⟩
  | .hbm, ⟨30, _⟩ => ⟨S2048x16, .f32⟩
  | .hbm, ⟨31, _⟩ => ⟨S2048x16, .f32⟩
  | .hbm, ⟨32, _⟩ => ⟨S2048x16, .f32⟩
  | .hbm, ⟨33, _⟩ => ⟨S2048x32, .f32⟩
  | .hbm, ⟨34, _⟩ => ⟨S2048x32, .f32⟩
  | .hbm, ⟨35, _⟩ => ⟨S2048x32, .f32⟩
  | .hbm, ⟨36, _⟩ => ⟨S2x2048x8x64, .f32⟩
  | .hbm, ⟨37, _⟩ => ⟨S2x2048x8x64, .f32⟩
  | .hbm, ⟨38, _⟩ => ⟨S_, .f32⟩
  | .hbm, ⟨39, _⟩ => ⟨S2x2048x8, .f32⟩
  | .hbm, ⟨40, _⟩ => ⟨S2x2048x8x1, .f32⟩
  | .hbm, ⟨41, _⟩ => ⟨S_, .f32⟩
  | .hbm, ⟨42, _⟩ => ⟨S2x2048x8x1, .f32⟩
  | .hbm, ⟨43, _⟩ => ⟨S2x2048x8x1, .f32⟩
  | .hbm, ⟨44, _⟩ => ⟨S_, .f32⟩
  | .hbm, ⟨45, _⟩ => ⟨S2x2048x8x1, .f32⟩
  | .hbm, ⟨46, _⟩ => ⟨S2x2048x8x1, .f32⟩
  | .hbm, ⟨47, _⟩ => ⟨S2x2048x8x1, .f32⟩
  | .hbm, ⟨48, _⟩ => ⟨S2x2048x8x64, .f32⟩
  | .hbm, ⟨49, _⟩ => ⟨S2x2048x8x64, .f32⟩
  | .hbm, ⟨50, _⟩ => ⟨S1x1x1x64, .f32⟩
  | .hbm, ⟨51, _⟩ => ⟨S2x2048x8x64, .f32⟩
  | .hbm, ⟨52, _⟩ => ⟨S2x2048x8x64, .f32⟩
  | .hbm, ⟨53, _⟩ => ⟨S2x2048x8x32x2, .f32⟩
  | .hbm, ⟨54, _⟩ => ⟨S2x2048x8x32x1, .f32⟩
  | .hbm, ⟨55, _⟩ => ⟨S2x2048x8x32, .f32⟩
  | .hbm, ⟨56, _⟩ => ⟨S2x2048x8x32x1, .f32⟩
  | .hbm, ⟨57, _⟩ => ⟨S2x2048x8x32, .f32⟩
  | .hbm, ⟨58, _⟩ => ⟨S1x2048x1x32, .f32⟩
  | .hbm, ⟨59, _⟩ => ⟨S1x2048x1x32, .f32⟩
  | .hbm, ⟨60, _⟩ => ⟨S2x2048x8x32, .f32⟩
  | .hbm, ⟨61, _⟩ => ⟨S2x2048x8x32, .f32⟩
  | .hbm, ⟨62, _⟩ => ⟨S2x2048x8x32, .f32⟩
  | .hbm, ⟨63, _⟩ => ⟨S2x2048x8x32, .f32⟩
  | .hbm, ⟨64, _⟩ => ⟨S2x2048x8x32, .f32⟩
  | .hbm, ⟨65, _⟩ => ⟨S2x2048x8x32, .f32⟩
  | .hbm, ⟨66, _⟩ => ⟨S2x2048x8x32, .f32⟩
  | .hbm, ⟨67, _⟩ => ⟨S2x2048x8x32, .f32⟩
  | .hbm, ⟨68, _⟩ => ⟨S2x2048x8x32, .f32⟩
  | .hbm, ⟨69, _⟩ => ⟨S2x2048x8x32, .f32⟩
  | .hbm, ⟨70, _⟩ => ⟨S2x2048x8x32x1, .f32⟩
  | .hbm, ⟨71, _⟩ => ⟨S2x2048x8x32x1, .f32⟩
  | .hbm, ⟨72, _⟩ => ⟨S2x2048x8x32x2, .f32⟩
  | .hbm, ⟨73, _⟩ => ⟨S2x2048x8x64, .f32⟩
  | .hbm, ⟨74, _⟩ => ⟨S2x2048x2x64, .f32⟩
  | .hbm, ⟨75, _⟩ => ⟨S2x2048x2x64, .f32⟩
  | .hbm, ⟨76, _⟩ => ⟨S_, .f32⟩
  | .hbm, ⟨77, _⟩ => ⟨S2x2048x2, .f32⟩
  | .hbm, ⟨78, _⟩ => ⟨S2x2048x2x1, .f32⟩
  | .hbm, ⟨79, _⟩ => ⟨S_, .f32⟩
  | .hbm, ⟨80, _⟩ => ⟨S2x2048x2x1, .f32⟩
  | .hbm, ⟨81, _⟩ => ⟨S2x2048x2x1, .f32⟩
  | .hbm, ⟨82, _⟩ => ⟨S_, .f32⟩
  | .hbm, ⟨83, _⟩ => ⟨S2x2048x2x1, .f32⟩
  | .hbm, ⟨84, _⟩ => ⟨S2x2048x2x1, .f32⟩
  | .hbm, ⟨85, _⟩ => ⟨S2x2048x2x1, .f32⟩
  | .hbm, ⟨86, _⟩ => ⟨S2x2048x2x64, .f32⟩
  | .hbm, ⟨87, _⟩ => ⟨S2x2048x2x64, .f32⟩
  | .hbm, ⟨88, _⟩ => ⟨S1x1x1x64, .f32⟩
  | .hbm, ⟨89, _⟩ => ⟨S2x2048x2x64, .f32⟩
  | .hbm, ⟨90, _⟩ => ⟨S2x2048x2x64, .f32⟩
  | .hbm, ⟨91, _⟩ => ⟨S2x2048x2x32x2, .f32⟩
  | .hbm, ⟨92, _⟩ => ⟨S2x2048x2x32x1, .f32⟩
  | .hbm, ⟨93, _⟩ => ⟨S2x2048x2x32, .f32⟩
  | .hbm, ⟨94, _⟩ => ⟨S2x2048x2x32x1, .f32⟩
  | .hbm, ⟨95, _⟩ => ⟨S2x2048x2x32, .f32⟩
  | .hbm, ⟨96, _⟩ => ⟨S1x2048x1x32, .f32⟩
  | .hbm, ⟨97, _⟩ => ⟨S1x2048x1x32, .f32⟩
  | .hbm, ⟨98, _⟩ => ⟨S2x2048x2x32, .f32⟩
  | .hbm, ⟨99, _⟩ => ⟨S2x2048x2x32, .f32⟩
  | .hbm, ⟨100, _⟩ => ⟨S2x2048x2x32, .f32⟩
  | .hbm, ⟨101, _⟩ => ⟨S2x2048x2x32, .f32⟩
  | .hbm, ⟨102, _⟩ => ⟨S2x2048x2x32, .f32⟩
  | .hbm, ⟨103, _⟩ => ⟨S2x2048x2x32, .f32⟩
  | .hbm, ⟨104, _⟩ => ⟨S2x2048x2x32, .f32⟩
  | .hbm, ⟨105, _⟩ => ⟨S2x2048x2x32, .f32⟩
  | .hbm, ⟨106, _⟩ => ⟨S2x2048x2x32, .f32⟩
  | .hbm, ⟨107, _⟩ => ⟨S2x2048x2x32, .f32⟩
  | .hbm, ⟨108, _⟩ => ⟨S2x2048x2x32x1, .f32⟩
  | .hbm, ⟨109, _⟩ => ⟨S2x2048x2x32x1, .f32⟩
  | .hbm, ⟨110, _⟩ => ⟨S2x2048x2x32x2, .f32⟩
  | .hbm, ⟨111, _⟩ => ⟨S2x2048x2x64, .f32⟩
  | .hbm, ⟨112, _⟩ => ⟨S_, .f32⟩
  | .hbm, ⟨113, _⟩ => ⟨S2x2048x8x64, .f32⟩
  | .hbm, ⟨114, _⟩ => ⟨S2x2048x8x64, .f32⟩
  | .hbm, ⟨115, _⟩ => ⟨S4096x512, .f32⟩
  | .hbm, ⟨116, _⟩ => ⟨S4096x512, .bf16⟩
  | .hbm, ⟨117, _⟩ => ⟨S4096x128, .f32⟩
  | .hbm, ⟨118, _⟩ => ⟨S4096x128, .bf16⟩
  | _, _ => ⟨S2x2048x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_cst_4 : Ref sig .tc := ⟨.hbm, 76, rfl⟩
abbrev main_v68 : Ref sig .tc := ⟨.hbm, 77, rfl⟩
abbrev main_v69 : Ref sig .tc := ⟨.hbm, 78, rfl⟩
abbrev main_cst_5 : Ref sig .tc := ⟨.hbm, 79, rfl⟩
abbrev main_v70 : Ref sig .tc := ⟨.hbm, 80, rfl⟩
abbrev main_v71 : Ref sig .tc := ⟨.hbm, 81, rfl⟩
abbrev main_cst_6 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_cst_7 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩

abbrev nD : Nat := 1
abbrev τ : Topo := Topo.v7x

variable {F : FTy → Type} [FloatOps F]
-- ==== PinK.lean ====
abbrev S2x2048x1024 : Shape := ⟨3, ![2, 2048, 1024]⟩
abbrev S1024x2304 : Shape := ⟨2, ![1024, 2304]⟩
abbrev S4096x1024 : Shape := ⟨2, ![4096, 1024]⟩
abbrev S4096x2304 : Shape := ⟨2, ![4096, 2304]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S1024x2304, .f32⟩
  | .hbm, ⟨2, _⟩ => ⟨S4096x1024, .f32⟩
  | .hbm, ⟨3, _⟩ => ⟨S4096x1024, .bf16⟩
  | .hbm, ⟨4, _⟩ => ⟨S1024x2304, .bf16⟩
  | .hbm, ⟨5, _⟩ => ⟨S4096x2304, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2304, .bf16⟩
  | .local _ .vmem, ⟨3, _⟩ => ⟨S1024x2304, .bf16⟩
  | .local _ .vmem, ⟨4, _⟩ => ⟨S1024x2304, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== PinRIdeal.lean ====
abbrev S2x2048x1024 : Shape := ⟨3, ![2, 2048, 1024]⟩
abbrev S1024x2304 : Shape := ⟨2, ![1024, 2304]⟩
abbrev S2x2048x2304 : Shape := ⟨3, ![2, 2048, 2304]⟩
abbrev S4096x2304 : Shape := ⟨2, ![4096, 2304]⟩

abbrev nBuf : Space → Nat
  | .hbm => 5
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x2304, .f32⟩
  | .hbm, ⟨2, _⟩ => ⟨S2x2048x2304, .f32⟩
  | .hbm, ⟨3, _⟩ => ⟨S4096x2304, .f32⟩
  | .hbm, ⟨4, _⟩ => ⟨S4096x2304, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== PoutK.lean ====
abbrev S2x2048x1024 : Shape := ⟨3, ![2, 2048, 1024]⟩
abbrev S2x2048x512 : Shape := ⟨3, ![2, 2048, 512]⟩
abbrev S1024x1024 : Shape := ⟨2, ![1024, 1024]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 11
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S2x2048x512, .f32⟩
  | .hbm, ⟨2, _⟩ => ⟨S2x2048x512, .f32⟩
  | .hbm, ⟨3, _⟩ => ⟨S1024x1024, .f32⟩
  | .hbm, ⟨4, _⟩ => ⟨S4096x1024, .f32⟩
  | .hbm, ⟨5, _⟩ => ⟨S4096x512, .f32⟩
  | .hbm, ⟨6, _⟩ => ⟨S4096x512, .bf16⟩
  | .hbm, ⟨7, _⟩ => ⟨S4096x512, .f32⟩
  | .hbm, ⟨8, _⟩ => ⟨S4096x512, .bf16⟩
  | .hbm, ⟨9, _⟩ => ⟨S1024x1024, .bf16⟩
  | .hbm, ⟨10, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== PoutRIdeal.lean ====
abbrev S2x2048x1024 : Shape := ⟨3, ![2, 2048, 1024]⟩
abbrev S2x2048x512 : Shape := ⟨3, ![2, 2048, 512]⟩
abbrev S1024x1024 : Shape := ⟨2, ![1024, 1024]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x512, .f32⟩
  | .hbm, ⟨2, _⟩ => ⟨S2x2048x512, .f32⟩
  | .hbm, ⟨3, _⟩ => ⟨S1024x1024, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== DmixK.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S4096x1024, .f32⟩
  | .hbm, ⟨4, _⟩ => ⟨S4096x1024, .bf16⟩
  | .hbm, ⟨5, _⟩ => ⟨S1024x1024, .bf16⟩
  | .hbm, ⟨6, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DmixRIdeal.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S2x2048x1024, .f32⟩
  | .hbm, ⟨4, _⟩ => ⟨S1024x1024, .f32⟩
  | .hbm, ⟨5, _⟩ => ⟨S1024x1024, .f32⟩
  | .hbm, ⟨6, _⟩ => ⟨S2x2048x1024, .f32⟩
  | .hbm, ⟨7, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MdwK.lean ====
abbrev S2x2048x512 : Shape := ⟨3, ![2, 2048, 512]⟩
abbrev S1024x1024 : Shape := ⟨2, ![1024, 1024]⟩
abbrev S2x2048x1024 : Shape := ⟨3, ![2, 2048, 1024]⟩
abbrev S4096x1024 : Shape := ⟨2, ![4096, 1024]⟩
abbrev S4096x512 : Shape := ⟨2, ![4096, 512]⟩
abbrev S2048x512 : Shape := ⟨2, ![2048, 512]⟩
abbrev S2048x1024 : Shape := ⟨2, ![2048, 1024]⟩

abbrev nBuf : Space → Nat
  | .hbm => 11
  | .vmem => 8
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S1024x1024, .f32⟩
  | .hbm, ⟨3, _⟩ => ⟨S2x2048x1024, .f32⟩
  | .hbm, ⟨4, _⟩ => ⟨S4096x1024, .f32⟩
  | .hbm, ⟨5, _⟩ => ⟨S4096x1024, .bf16⟩
  | .hbm, ⟨6, _⟩ => ⟨S4096x512, .f32⟩
  | .hbm, ⟨7, _⟩ => ⟨S4096x512, .bf16⟩
  | .hbm, ⟨8, _⟩ => ⟨S4096x512, .f32⟩
  | .hbm, ⟨9, _⟩ => ⟨S4096x512, .bf16⟩
  | .hbm, ⟨10, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .bf16⟩
  | .local _ .vmem, ⟨7, _⟩ => ⟨S1024x1024, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_8 : BitVec 32 := 1#32
  let v16 : BitVec 1 := Scalar.cmpi .eq arg2 c1_i32_8
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]
-- ==== MdwRIdeal.lean ====
abbrev S2x2048x512 : Shape := ⟨3, ![2, 2048, 512]⟩
abbrev S1024x1024 : Shape := ⟨2, ![1024, 1024]⟩
abbrev S2x2048x1024 : Shape := ⟨3, ![2, 2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S1024x1024, .f32⟩
  | .hbm, ⟨3, _⟩ => ⟨S2x2048x1024, .f32⟩
  | .hbm, ⟨4, _⟩ => ⟨S2x2048x1024, .f32⟩
  | .hbm, ⟨5, _⟩ => ⟨S2x2048x1024, .f32⟩
  | .hbm, ⟨6, _⟩ => ⟨S1024x1024, .f32⟩
  | .hbm, ⟨7, _⟩ => ⟨S1024x1024, .f32⟩
  | .hbm, ⟨8, _⟩ => ⟨S2x2048x1024, .f32⟩
  | .hbm, ⟨9, _⟩ => ⟨S1024x1024, .bf16⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== MdwinK.lean ====
abbrev S2x2048x1024 : Shape := ⟨3, ![2, 2048, 1024]⟩
abbrev S1024x2304 : Shape := ⟨2, ![1024, 2304]⟩
abbrev S2x2048x512 : Shape := ⟨3, ![2, 2048, 512]⟩
abbrev S2x2048x128 : Shape := ⟨3, ![2, 2048, 128]⟩
abbrev S4096x512 : Shape := ⟨2, ![4096, 512]⟩
abbrev S4096x128 : Shape := ⟨2, ![4096, 128]⟩
abbrev S4096x1024 : Shape := ⟨2, ![4096, 1024]⟩
abbrev S1024x1024 : Shape := ⟨2, ![1024, 1024]⟩
abbrev S1024x512 : Shape := ⟨2, ![1024, 512]⟩
abbrev S1024x128 : Shape := ⟨2, ![1024, 128]⟩

abbrev nBuf : Space → Nat
  | .hbm => 22
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S1024x2304, .f32⟩
  | .hbm, ⟨2, _⟩ => ⟨S2x2048x512, .f32⟩
  | .hbm, ⟨3, _⟩ => ⟨S2x2048x512, .f32⟩
  | .hbm, ⟨4, _⟩ => ⟨S2x2048x512, .f32⟩
  | .hbm, ⟨5, _⟩ => ⟨S2x2048x512, .f32⟩
  | .hbm, ⟨6, _⟩ => ⟨S2x2048x128, .f32⟩
  | .hbm, ⟨7, _⟩ => ⟨S2x2048x128, .f32⟩
  | .hbm, ⟨8, _⟩ => ⟨S4096x512, .f32⟩
  | .hbm, ⟨9, _⟩ => ⟨S4096x512, .bf16⟩
  | .hbm, ⟨10, _⟩ => ⟨S4096x512, .f32⟩
  | .hbm, ⟨11, _⟩ => ⟨S4096x512, .bf16⟩
  | .hbm, ⟨12, _⟩ => ⟨S4096x512, .f32⟩
  | .hbm, ⟨13, _⟩ => ⟨S4096x512, .bf16⟩
  | .hbm, ⟨14, _⟩ => ⟨S4096x512, .f32⟩
  | .hbm, ⟨15, _⟩ => ⟨S4096x512, .bf16⟩
  | .hbm, ⟨16, _⟩ => ⟨S4096x128, .f32⟩
  | .hbm, ⟨17, _⟩ => ⟨S4096x128, .bf16⟩
  | .hbm, ⟨18, _⟩ => ⟨S4096x128, .f32⟩
  | .hbm, ⟨19, _⟩ => ⟨S4096x1024, .f32⟩
  | .hbm, ⟨20, _⟩ => ⟨S4096x1024, .bf16⟩
  | .hbm, ⟨21, _⟩ => ⟨S1024x2304, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x128, .bf16⟩
  | .local _ .vmem, ⟨11, _⟩ => ⟨S1024x128, .bf16⟩
  | .local _ .vmem, ⟨12, _⟩ => ⟨S1024x128, .f32⟩
  | .local _ .vmem, ⟨13, _⟩ => ⟨S1024x128, .f32⟩
  | .local _ .vmem, ⟨14, _⟩ => ⟨S1024x2304, .bf16⟩
  | .local _ .vmem, ⟨15, _⟩ => ⟨S1024x2304, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_16 : BitVec 32 := 3#32
  let v25 : BitVec 1 := Scalar.cmpi .eq arg2 c3_i32_16
  let v26 : BitVec 32 := Scalar.extui v25
  let c0_i32_17 : BitVec 32 := 0#32
  let v27 : BitVec 1 := Scalar.cmpi .ne v26 c0_i32_17
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S1024x2304 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== MdwinRIdeal.lean ====
abbrev S2x2048x1024 : Shape := ⟨3, ![2, 2048, 1024]⟩
abbrev S1024x2304 : Shape := ⟨2, ![1024, 2304]⟩
abbrev S2x2048x512 : Shape := ⟨3, ![2, 2048, 512]⟩
abbrev S2x2048x128 : Shape := ⟨3, ![2, 2048, 128]⟩
abbrev S2x2048x2304 : Shape := ⟨3, ![2, 2048, 2304]⟩
abbrev S2304x1024 : Shape := ⟨2, ![2304, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x2304, .f32⟩
  | .hbm, ⟨2, _⟩ => ⟨S2x2048x512, .f32⟩
  | .hbm, ⟨3, _⟩ => ⟨S2x2048x512, .f32⟩
  | .hbm, ⟨4, _⟩ => ⟨S2x2048x512, .f32⟩
  | .hbm, ⟨5, _⟩ => ⟨S2x2048x512, .f32⟩
  | .hbm, ⟨6, _⟩ => ⟨S2x2048x128, .f32⟩
  | .hbm, ⟨7, _⟩ => ⟨S2x2048x128, .f32⟩
  | .hbm, ⟨8, _⟩ => ⟨S2x2048x2304, .f32⟩
  | .hbm, ⟨9, _⟩ => ⟨S2x2048x2304, .f32⟩
  | .hbm, ⟨10, _⟩ => ⟨S2304x1024, .f32⟩
  | .hbm, ⟨11, _⟩ => ⟨S1024x2304, .f32⟩
  | .hbm, ⟨12, _⟩ => ⟨S2x2048x1024, .f32⟩
  | .hbm, ⟨13, _⟩ => ⟨S1024x2304, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩

abbrev nD : Nat := 1
abbrev τ : Topo := Topo.v7x

variable {F : FTy → Type} [FloatOps F]
-- ==== FdwinK.lean ====
abbrev S2x2048x1024 : Shape := ⟨3, ![2, 2048, 1024]⟩
abbrev S1024x5632 : Shape := ⟨2, ![1024, 5632]⟩
abbrev S2x2048x2816 : Shape := ⟨3, ![2, 2048, 2816]⟩
abbrev S1x2x2048x2816 : Shape := ⟨4, ![1, 2, 2048, 2816]⟩
abbrev S2x2x2048x2816 : Shape := ⟨4, ![2, 2, 2048, 2816]⟩
abbrev S2x4096x2816 : Shape := ⟨3, ![2, 4096, 2816]⟩
abbrev S4096x1024 : Shape := ⟨2, ![4096, 1024]⟩
abbrev S4x1024x1408 : Shape := ⟨3, ![4, 1024, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 12
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S1024x5632, .f32⟩
  | .hbm, ⟨2, _⟩ => ⟨S2x2048x2816, .f32⟩
  | .hbm, ⟨3, _⟩ => ⟨S2x2048x2816, .f32⟩
  | .hbm, ⟨4, _⟩ => ⟨S1x2x2048x2816, .f32⟩
  | .hbm, ⟨5, _⟩ => ⟨S1x2x2048x2816, .f32⟩
  | .hbm, ⟨6, _⟩ => ⟨S2x2x2048x2816, .f32⟩
  | .hbm, ⟨7, _⟩ => ⟨S2x4096x2816, .f32⟩
  | .hbm, ⟨8, _⟩ => ⟨S2x4096x2816, .bf16⟩
  | .hbm, ⟨9, _⟩ => ⟨S4096x1024, .f32⟩
  | .hbm, ⟨10, _⟩ => ⟨S4096x1024, .bf16⟩
  | .hbm, ⟨11, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_7 : BitVec 32 := 1#32
  let v13 : BitVec 1 := Scalar.cmpi .eq arg2 c1_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== FdwinRIdeal.lean ====
abbrev S2x2048x1024 : Shape := ⟨3, ![2, 2048, 1024]⟩
abbrev S1024x5632 : Shape := ⟨2, ![1024, 5632]⟩
abbrev S2x2048x2816 : Shape := ⟨3, ![2, 2048, 2816]⟩
abbrev S2x2048x5632 : Shape := ⟨3, ![2, 2048, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 12
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x5632, .f32⟩
  | .hbm, ⟨2, _⟩ => ⟨S2x2048x2816, .f32⟩
  | .hbm, ⟨3, _⟩ => ⟨S2x2048x2816, .f32⟩
  | .hbm, ⟨4, _⟩ => ⟨S2x2048x5632, .f32⟩
  | .hbm, ⟨5, _⟩ => ⟨S2x2048x5632, .f32⟩
  | .hbm, ⟨6, _⟩ => ⟨S5632x1024, .f32⟩
  | .hbm, ⟨7, _⟩ => ⟨S1024x5632, .f32⟩
  | .hbm, ⟨8, _⟩ => ⟨S2x2048x1024, .f32⟩
  | .hbm, ⟨9, _⟩ => ⟨S1024x4x1408, .f32⟩
  | .hbm, ⟨10, _⟩ => ⟨S4x1024x1408, .f32⟩
  | .hbm, ⟨11, _⟩ => ⟨S4x1024x1408, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== OddfK.lean ====
abbrev S2x2048x1536 : Shape := ⟨3, ![2, 2048, 1536]⟩
abbrev S4x128x128 : Shape := ⟨3, ![4, 128, 128]⟩
abbrev S512 : Shape := ⟨1, ![512]⟩
abbrev S4x128 : Shape := ⟨2, ![4, 128]⟩
abbrev S4096x1536 : Shape := ⟨2, ![4096, 1536]⟩
abbrev S1x512 : Shape := ⟨2, ![1, 512]⟩
abbrev S128x4 : Shape := ⟨2, ![128, 4]⟩
abbrev S4096x1024 : Shape := ⟨2, ![4096, 1024]⟩
abbrev S2048x512 : Shape := ⟨2, ![2048, 512]⟩
abbrev S2048x1024 : Shape := ⟨2, ![2048, 1024]⟩
abbrev S2064x128 : Shape := ⟨2, ![2064, 128]⟩
abbrev S8x128 : Shape := ⟨2, ![8, 128]⟩
abbrev S2048x128 : Shape := ⟨2, ![2048, 128]⟩
abbrev S2048x1 : Shape := ⟨2, ![2048, 1]⟩
abbrev S1x128x128 : Shape := ⟨3, ![1, 128, 128]⟩
abbrev S128x128 : Shape := ⟨2, ![128, 128]⟩
abbrev S1x128 : Shape := ⟨2, ![1, 128]⟩
abbrev S128x512 : Shape := ⟨2, ![128, 512]⟩
abbrev S128 : Shape := ⟨1, ![128]⟩
abbrev S128x1 : Shape := ⟨2, ![128, 1]⟩

abbrev nBuf : Space → Nat
  | .hbm => 12
  | .vmem => 14
  | .smem => 0
  | _ => 0

abbrev bufTy : (tb : Table) → Fin (tcTables nBuf tb) → BufTy
  | .hbm, ⟨0, _⟩ => ⟨S2x2048x1536, .f32⟩
  | .hbm, ⟨1, _⟩ => ⟨S4x128x128, .f32⟩
  | .hbm, ⟨2, _⟩ => ⟨S512, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S4096x1536, .f32⟩
  | .hbm, ⟨7, _⟩ => ⟨S4096x1536, .bf16⟩
  | .hbm, ⟨8, _⟩ => ⟨S1x512, .f32⟩
  | .hbm, ⟨9, _⟩ => ⟨S1x512, .f32⟩
  | .hbm, ⟨10, _⟩ => ⟨S128x4, .f32⟩
  | .hbm, ⟨11, _⟩ => ⟨S4096x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S4x128x128, .f32⟩
  | .local _ .vmem, ⟨7, _⟩ => ⟨S1x512, .f32⟩
  | .local _ .vmem, ⟨8, _⟩ => ⟨S1x512, .f32⟩
  | .local _ .vmem, ⟨9, _⟩ => ⟨S4x128x128, .f32⟩
  | .local _ .vmem, ⟨10, _⟩ => ⟨S128x4, .f32⟩
  | .local _ .vmem, ⟨11, _⟩ => ⟨S2048x1024, .bf16⟩
  | .local _ .vmem, ⟨12, _⟩ => ⟨S2048x1024, .bf16⟩
  | .local _ .vmem, ⟨13, _⟩ => ⟨S2064x128, .f32⟩
  | _, _ => ⟨S2x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32_109 : BitVec 32 := 0#32
  let c16_i32 : BitVec 32 := 16#32
  let v203 : BitVec 32 := Scalar.addi c0_i32_109 c16_i32
  let c1_i32_110 : BitVec 32 := 1#32
  ⟨c0_i32_109, v203, c1_i32_110⟩
def k0_mult1 (k0_t1 : Fin k0_t1_loop.trips) : BitVec 32 :=
  let c0_i32_109 : BitVec 32 := 0#32
  let c1_i32_110 : BitVec 32 := 1#32
  let arg11 : BitVec 32 := Scf.iv c0_i32_109 c1_i32_110 k0_t1
  let c128_i32 : BitVec 32 := 128#32
  let v204 : BitVec 32 := Scalar.muli arg11 c128_i32
  v204
def k0_off1 (k0_t1 : Fin k0_t1_loop.trips) : Fin 2 → Nat :=
  let c0_i32_109 : BitVec 32 := 0#32
  let c1_i32_110 : BitVec 32 := 1#32
  let arg11 : BitVec 32 := Scf.iv c0_i32_109 c1_i32_110 k0_t1
  let c128_i32 : BitVec 32 := 128#32
  let v204 : BitVec 32 := Scalar.muli arg11 c128_i32
  let v205 : BitVec 32 := v204
  let v206 : Index := Scalar.indexCast v205
  let c0_112 : Index := 0#32
  ![v206.toNat, 0]
def k0_off2 (k0_t1 : Fin k0_t1_loop.trips) : Fin 2 → Nat :=
  let c0_i32_109 : BitVec 32 := 0#32
  let c1_i32_110 : BitVec 32 := 1#32
  let arg11 : BitVec 32 := Scf.iv c0_i32_109 c1_i32_110 k0_t1
  let c128_i32 : BitVec 32 := 128#32
  let v204 : BitVec 32 := Scalar.muli arg11 c128_i32
  let v205 : BitVec 32 := v204
  let v291 : Index := Scalar.indexCast v205
  let c512 : Index := 512#32
  ![v291.toNat, 512]
def k0_off3 (k0_t1 : Fin k0_t1_loop.trips) : Fin 2 → Nat :=
  let c0_i32_109 : BitVec 32 := 0#32
  let c1_i32_110 : BitVec 32 := 1#32
  let arg11 : BitVec 32 := Scf.iv c0_i32_109 c1_i32_110 k0_t1
  let c128_i32 : BitVec 32 := 128#32
  let v204 : BitVec 32 := Scalar.muli arg11 c128_i32
  let v205 : BitVec 32 := v204
  let v296 : Index := Scalar.indexCast v205
  let c640 : Index := 640#32
  ![v296.toNat, 640]
def k0_off4 (k0_t1 : Fin k0_t1_loop.trips) : Fin 2 → Nat :=
  let c0_i32_109 : BitVec 32 := 0#32
  let c1_i32_110 : BitVec 32 := 1#32
  let arg11 : BitVec 32 := Scf.iv c0_i32_109 c1_i32_110 k0_t1
  let c128_i32 : BitVec 32 := 128#32
  let v204 : BitVec 32 := Scalar.muli arg11 c128_i32
  let v205 : BitVec 32 := v204
  let v301 : Index := Scalar.indexCast v205
  let c768 : Index := 768#32
  ![v301.toNat, 768]
def k0_off5 (k0_t1 : Fin k0_t1_loop.trips) : Fin 2 → Nat :=
  let c0_i32_109 : BitVec 32 := 0#32
  let c1_i32_110 : BitVec 32 := 1#32
  let arg11 : BitVec 32 := Scf.iv c0_i32_109 c1_i32_110 k0_t1
  let c128_i32 : BitVec 32 := 128#32
  let v204 : BitVec 32 := Scalar.muli arg11 c128_i32
  let v205 : BitVec 32 := v204
  let v306 : Index := Scalar.indexCast v205
  let c896 : Index := 896#32
  ![v306.toNat, 896]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OddfRIdeal.lean ====
abbrev S2x2048x1536 : Shape := ⟨3, ![2, 2048, 1536]⟩
abbrev S4x128x128 : Shape := ⟨3, ![4, 128, 128]⟩
abbrev S512 : Shape := ⟨1, ![512]⟩
abbrev S4x128 : Shape := ⟨2, ![4, 128]⟩
abbrev S2x2048x512 : Shape := ⟨3, ![2, 2048, 512]⟩
abbrev S_ : Shape := ⟨0, ![]⟩
abbrev S2x1x512 : Shape := ⟨3, ![2, 1, 512]⟩
abbrev S2x2049x512 : Shape := ⟨3, ![2, 2049, 512]⟩
abbrev S2048 : Shape := ⟨1, ![2048]⟩
abbrev S2x2049x128 : Shape := ⟨3, ![2, 2049, 128]⟩
abbrev S2048x1 : Shape := ⟨2, ![2048, 1]⟩
abbrev S2x2048x128 : Shape := ⟨3, ![2, 2048, 128]⟩
abbrev S1x2048x1 : Shape := ⟨3, ![1, 2048, 1]⟩
abbrev S2x2048x4x128 : Shape := ⟨4, ![2, 2048, 4, 128]⟩
abbrev S4x128x2x2048 : Shape := ⟨4, ![4, 128, 2, 2048]⟩
abbrev S1x1x512 : Shape := ⟨3, ![1, 1, 512]⟩
abbrev S2x2048 : Shape := ⟨2, ![2, 2048]⟩
abbrev S2x2048x1 : Shape := ⟨3, ![2, 2048, 1]⟩
abbrev S2x16x128x4x128 : Shape := ⟨5, ![2, 16, 128, 4, 128]⟩
abbrev S4x2x16x128x128 : Shape := ⟨5, ![4, 2, 16, 128, 128]⟩
abbrev S128x4 : Shape := ⟨2, ![128, 4]⟩
abbrev S1x1x128x4x1 : Shape := ⟨5, ![1, 1, 128, 4, 1]⟩
abbrev S2x2048x1024 : Shape := ⟨3, ![2, 2048, 1024]⟩
abbrev S4096x1024 : Shape := ⟨2, ![4096, 1024]⟩

abbrev nBuf : Space → Nat
  | .hbm => 266
  | .vmem => 0
  | .smem => 0
  | _ => 0

abbrev hbmTy0_0 (i : Nat) : BufTy := match i % 128 with
  | 0 => ⟨S2x2048x1536, .f32⟩
  | 1 => ⟨S4x128x128, .f32⟩
  | 2 => ⟨S512, .f32⟩
  | 3 => ⟨S512, .f32⟩
  | 4 => ⟨S4x128x128, .f32⟩
  | 5 => ⟨S4x128, .f32⟩
  | 6 => ⟨S2x2048x512, .f32⟩
  | 7 => ⟨S2x2048x512, .f32⟩
  | 8 => ⟨S2x2048x512, .f32⟩
  | 9 => ⟨S_, .f32⟩
  | 10 => ⟨S2x1x512, .f32⟩
  | 11 => ⟨S_, .f32⟩
  | 12 => ⟨S_, .f32⟩
  | 13 => ⟨S2x2048x512, .f32⟩
  | 14 => ⟨S2x2049x512, .f32⟩
  | 15 => ⟨S2048, .i32⟩
  | 16 => ⟨S_, .i32⟩
  | 17 => ⟨S2048, .i32⟩
  | 18 => ⟨S2048, .i32⟩
  | 19 => ⟨S_, .i32⟩
  | 20 => ⟨S2048, .i32⟩
  | 21 => ⟨S2048, .i32⟩
  | 22 => ⟨S_, .i32⟩
  | 23 => ⟨S2048, .i32⟩
  | 24 => ⟨S2048, .i32⟩
  | 25 => ⟨S_, .i32⟩
  | 26 => ⟨S2048, .i32⟩
  | 27 => ⟨S2048, .i32⟩
  | 28 => ⟨S2x2049x128, .f32⟩
  | 29 => ⟨S_, .i32⟩
  | 30 => ⟨S2048, .i32⟩
  | 31 => ⟨S2048, .i32⟩
  | 32 => ⟨S_, .i32⟩
  | 33 => ⟨S2048, .i32⟩
  | 34 => ⟨S2048, .i1⟩
  | 35 => ⟨S_, .i32⟩
  | 36 => ⟨S2048, .i32⟩
  | 37 => ⟨S2048, .i32⟩
  | 38 => ⟨S2048, .i32⟩
  | 39 => ⟨S2048x1, .i32⟩
  | 40 => ⟨S2x2048x128, .f32⟩
  | 41 => ⟨S_, .i32⟩
  | 42 => ⟨S2048, .i32⟩
  | 43 => ⟨S2048, .i1⟩
  | 44 => ⟨S_, .i32⟩
  | 45 => ⟨S2048, .i32⟩
  | 46 => ⟨S2048, .i32⟩
  | 47 => ⟨S2048, .i32⟩
  | 48 => ⟨S2048x1, .i32⟩
  | 49 => ⟨S2x2048x128, .f32⟩
  | 50 => ⟨S2x2048x128, .f32⟩
  | 51 => ⟨S2048, .i32⟩
  | 52 => ⟨S_, .i32⟩
  | 53 => ⟨S2048, .i32⟩
  | 54 => ⟨S2048, .i32⟩
  | 55 => ⟨S2048, .f32⟩
  | 56 => ⟨S1x2048x1, .f32⟩
  | 57 => ⟨S2x2048x128, .f32⟩
  | 58 => ⟨S2x2048x128, .f32⟩
  | 59 => ⟨S2x2048x128, .f32⟩
  | 60 => ⟨S2x2048x128, .f32⟩
  | 61 => ⟨S_, .i32⟩
  | 62 => ⟨S2048, .i32⟩
  | 63 => ⟨S2048, .i32⟩
  | 64 => ⟨S_, .i32⟩
  | 65 => ⟨S2048, .i32⟩
  | 66 => ⟨S2048, .i32⟩
  | 67 => ⟨S_, .i32⟩
  | 68 => ⟨S2048, .i32⟩
  | 69 => ⟨S2048, .i32⟩
  | 70 => ⟨S_, .i32⟩
  | 71 => ⟨S2048, .i32⟩
  | 72 => ⟨S2048, .i32⟩
  | 73 => ⟨S2x2049x128, .f32⟩
  | 74 => ⟨S_, .i32⟩
  | 75 => ⟨S2048, .i32⟩
  | 76 => ⟨S2048, .i32⟩
  | 77 => ⟨S_, .i32⟩
  | 78 => ⟨S2048, .i32⟩
  | 79 => ⟨S2048, .i1⟩
  | 80 => ⟨S_, .i32⟩
  | 81 => ⟨S2048, .i32⟩
  | 82 => ⟨S2048, .i32⟩
  | 83 => ⟨S2048, .i32⟩
  | 84 => ⟨S2048x1, .i32⟩
  | 85 => ⟨S2x2048x128, .f32⟩
  | 86 => ⟨S_, .i32⟩
  | 87 => ⟨S2048, .i32⟩
  | 88 => ⟨S2048, .i1⟩
  | 89 => ⟨S_, .i32⟩
  | 90 => ⟨S2048, .i32⟩
  | 91 => ⟨S2048, .i32⟩
  | 92 => ⟨S2048, .i32⟩
  | 93 => ⟨S2048x1, .i32⟩
  | 94 => ⟨S2x2048x128, .f32⟩
  | 95 => ⟨S2x2048x128, .f32⟩
  | 96 => ⟨S2048, .i32⟩
  | 97 => ⟨S_, .i32⟩
  | 98 => ⟨S2048, .i32⟩
  | 99 => ⟨S2048, .i32⟩
  | 100 => ⟨S2048, .f32⟩
  | 101 => ⟨S1x2048x1, .f32⟩
  | 102 => ⟨S2x2048x128, .f32⟩
  | 103 => ⟨S2x2048x128, .f32⟩
  | 104 => ⟨S2x2048x128, .f32⟩
  | 105 => ⟨S2x2048x128, .f32⟩
  | 106 => ⟨S_, .i32⟩
  | 107 => ⟨S2048, .i32⟩
  | 108 => ⟨S2048, .i32⟩
  | 109 => ⟨S_, .i32⟩
  | 110 => ⟨S2048, .i32⟩
  | 111 => ⟨S2048, .i32⟩
  | 112 => ⟨S_, .i32⟩
  | 113 => ⟨S2048, .i32⟩
  | 114 => ⟨S2048, .i32⟩
  | 115 => ⟨S_, .i32⟩
  | 116 => ⟨S2048, .i32⟩
  | 117 => ⟨S2048, .i32⟩
  | 118 => ⟨S2x2049x128, .f32⟩
  | 119 => ⟨S_, .i32⟩
  | 120 => ⟨S2048, .i32⟩
  | 121 => ⟨S2048, .i32⟩
  | 122 => ⟨S_, .i32⟩
  | 123 => ⟨S2048, .i32⟩
  | 124 => ⟨S2048, .i1⟩
  | 125 => ⟨S_, .i32⟩
  | 126 => ⟨S2048, .i32⟩
  | 127 => ⟨S2048, .i32⟩
  | _ => ⟨S2x2048x1536, .f32⟩

abbrev hbmTy0_1 (i : Nat) : BufTy := match i % 128 with
  | 0 => ⟨S2048, .i32⟩
  | 1 => ⟨S2048x1, .i32⟩
  | 2 => ⟨S2x2048x128, .f32⟩
  | 3 => ⟨S_, .i32⟩
  | 4 => ⟨S2048, .i32⟩
  | 5 => ⟨S2048, .i1⟩
  | 6 => ⟨S_, .i32⟩
  | 7 => ⟨S2048, .i32⟩
  | 8 => ⟨S2048, .i32⟩
  | 9 => ⟨S2048, .i32⟩
  | 10 => ⟨S2048x1, .i32⟩
  | 11 => ⟨S2x2048x128, .f32⟩
  | 12 => ⟨S2x2048x128, .f32⟩
  | 13 => ⟨S2048, .i32⟩
  | 14 => ⟨S_, .i32⟩
  | 15 => ⟨S2048, .i32⟩
  | 16 => ⟨S2048, .i32⟩
  | 17 => ⟨S2048, .f32⟩
  | 18 => ⟨S1x2048x1, .f32⟩
  | 19 => ⟨S2x2048x128, .f32⟩
  | 20 => ⟨S2x2048x128, .f32⟩
  | 21 => ⟨S2x2048x128, .f32⟩
  | 22 => ⟨S2x2048x128, .f32⟩
  | 23 => ⟨S_, .i32⟩
  | 24 => ⟨S2048, .i32⟩
  | 25 => ⟨S2048, .i32⟩
  | 26 => ⟨S_, .i32⟩
  | 27 => ⟨S2048, .i32⟩
  | 28 => ⟨S2048, .i32⟩
  | 29 => ⟨S_, .i32⟩
  | 30 => ⟨S2048, .i32⟩
  | 31 => ⟨S2048, .i32⟩
  | 32 => ⟨S_, .i32⟩
  | 33 => ⟨S2048, .i32⟩
  | 34 => ⟨S2048, .i32⟩
  | 35 => ⟨S2x2049x128, .f32⟩
  | 36 => ⟨S_, .i32⟩
  | 37 => ⟨S2048, .i32⟩
  | 38 => ⟨S2048, .i32⟩
  | 39 => ⟨S_, .i32⟩
  | 40 => ⟨S2048, .i32⟩
  | 41 => ⟨S2048, .i1⟩
  | 42 => ⟨S_, .i32⟩
  | 43 => ⟨S2048, .i32⟩
  | 44 => ⟨S2048, .i32⟩
  | 45 => ⟨S2048, .i32⟩
  | 46 => ⟨S2048x1, .i32⟩
  | 47 => ⟨S2x2048x128, .f32⟩
  | 48 => ⟨S_, .i32⟩
  | 49 => ⟨S2048, .i32⟩
  | 50 => ⟨S2048, .i1⟩
  | 51 => ⟨S_, .i32⟩
  | 52 => ⟨S2048, .i32⟩
  | 53 => ⟨S2048, .i32⟩
  | 54 => ⟨S2048, .i32⟩
  | 55 => ⟨S2048x1, .i32⟩
  | 56 => ⟨S2x2048x128, .f32⟩
  | 57 => ⟨S2x2048x128, .f32⟩
  | 58 => ⟨S2048, .i32⟩
  | 59 => ⟨S_, .i32⟩
  | 60 => ⟨S2048, .i32⟩
  | 61 => ⟨S2048, .i32⟩
  | 62 => ⟨S2048, .f32⟩
  | 63 => ⟨S1x2048x1, .f32⟩
  | 64 => ⟨S2x2048x128, .f32⟩
  | 65 => ⟨S2x2048x128, .f32⟩
  | 66 => ⟨S2x2048x128, .f32⟩
  | 67 => ⟨S2x2048x128, .f32⟩
  | 68 => ⟨S2x2048x512, .f32⟩
  | 69 => ⟨S2x2048x4x128, .f32⟩
  | 70 => ⟨S4x128x2x2048, .f32⟩
  | 71 => ⟨S2x2048x4x128, .f32⟩
  | 72 => ⟨S2x2048x512, .f32⟩
  | 73 => ⟨S1x1x512, .f32⟩
  | 74 => ⟨S2x2048x512, .f32⟩
  | 75 => ⟨S2x2048x512, .f32⟩
  | 76 => ⟨S2x2048x512, .f32⟩
  | 77 => ⟨S2x2048x512, .f32⟩
  | 78 => ⟨S_, .f32⟩
  | 79 => ⟨S2x2048x512, .f32⟩
  | 80 => ⟨S2x2048x512, .f32⟩
  | 81 => ⟨S2x2048x512, .f32⟩
  | 82 => ⟨S_, .f32⟩
  | 83 => ⟨S2x2048x512, .f32⟩
  | 84 => ⟨S2x2048x512, .f32⟩
  | 85 => ⟨S2x2048x512, .f32⟩
  | 86 => ⟨S_, .f32⟩
  | 87 => ⟨S2x2048x512, .f32⟩
  | 88 => ⟨S2x2048x512, .f32⟩
  | 89 => ⟨S_, .f32⟩
  | 90 => ⟨S2x2048x512, .f32⟩
  | 91 => ⟨S2x2048x512, .f32⟩
  | 92 => ⟨S2x2048x512, .f32⟩
  | 93 => ⟨S2x2048x512, .f32⟩
  | 94 => ⟨S2x2048x512, .f32⟩
  | 95 => ⟨S_, .f32⟩
  | 96 => ⟨S2x2048x512, .f32⟩
  | 97 => ⟨S2x2048x512, .f32⟩
  | 98 => ⟨S2x2048x512, .f32⟩
  | 99 => ⟨S_, .f32⟩
  | 100 => ⟨S2x2048x512, .f32⟩
  | 101 => ⟨S2x2048x512, .f32⟩
  | 102 => ⟨S2x2048x512, .f32⟩
  | 103 => ⟨S_, .f32⟩
  | 104 => ⟨S2x2048x512, .f32⟩
  | 105 => ⟨S2x2048x512, .f32⟩
  | 106 => ⟨S_, .f32⟩
  | 107 => ⟨S2x2048x512, .f32⟩
  | 108 => ⟨S2x2048x512, .f32⟩
  | 109 => ⟨S2x2048x512, .f32⟩
  | 110 => ⟨S2x2048x512, .f32⟩
  | 111 => ⟨S_, .f32⟩
  | 112 => ⟨S2x2048, .f32⟩
  | 113 => ⟨S2x2048x1, .f32⟩
  | 114 => ⟨S_, .f32⟩
  | 115 => ⟨S2x2048x1, .f32⟩
  | 116 => ⟨S2x2048x1, .f32⟩
  | 117 => ⟨S_, .f32⟩
  | 118 => ⟨S2x2048x1, .f32⟩
  | 119 => ⟨S2x2048x1, .f32⟩
  | 120 => ⟨S2x2048x1, .f32⟩
  | 121 => ⟨S2x2048x512, .f32⟩
  | 122 => ⟨S2x2048x512, .f32⟩
  | 123 => ⟨S1x1x512, .f32⟩
  | 124 => ⟨S2x2048x512, .f32⟩
  | 125 => ⟨S2x2048x512, .f32⟩
  | 126 => ⟨S2x16x128x4x128, .f32⟩
  | 127 => ⟨S4x2x16x128x128, .f32⟩
  | _ => ⟨S2x2048x1536, .f32⟩

abbrev hbmTy0_2 (i : Nat) : BufTy := match i % 128 with
  | 0 => ⟨S2x16x128x4x128, .f32⟩
  | 1 => ⟨S128x4, .f32⟩
  | 2 => ⟨S1x1x128x4x1, .f32⟩
  | 3 => ⟨S2x16x128x4x128, .f32⟩
  | 4 => ⟨S2x16x128x4x128, .f32⟩
  | 5 => ⟨S2x2048x512, .f32⟩
  | 6 => ⟨S2x2048x512, .f32⟩
  | 7 => ⟨S2x2048x1024, .f32⟩
  | 8 => ⟨S4096x1024, .f32⟩
  | 9 => ⟨S4096x1024, .bf16⟩
  | _ => ⟨S2x2048x1536, .f32⟩

abbrev hbmTy (i : Nat) : BufTy := match i / 128 with
  | 0 => hbmTy0_0 i
  | 1 => hbmTy0_1 i
  | 2 => hbmTy0_2 i
  | _ => ⟨S2x2048x1536, .f32⟩

abbrev bufTy : (tb : Table) → Fin (tcTables nBuf tb) → BufTy
  | .hbm, ⟨i, _⟩ => hbmTy i
  | _, _ => ⟨S2x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_call0_call0_cst : Ref sig .tc := ⟨.hbm, 11, rfl⟩
abbrev main_call0_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_c_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_9 : Ref sig .tc := ⟨.hbm, 61, rfl⟩
abbrev main_v42 : Ref sig .tc := ⟨.hbm, 62, rfl⟩
abbrev main_v43 : Ref sig .tc := ⟨.hbm, 63, rfl⟩
abbrev main_c_10 : Ref sig .tc := ⟨.hbm, 64, rfl⟩
abbrev main_v44 : Ref sig .tc := ⟨.hbm, 65, rfl⟩
abbrev main_v45 : Ref sig .tc := ⟨.hbm, 66, rfl⟩
abbrev main_c_11 : Ref sig .tc := ⟨.hbm, 67, rfl⟩
abbrev main_v46 : Ref sig .tc := ⟨.hbm, 68, rfl⟩
abbrev main_v47 : Ref sig .tc := ⟨.hbm, 69, rfl⟩
abbrev main_c_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_13 : Ref sig .tc := ⟨.hbm, 74, rfl⟩
abbrev main_v51 : Ref sig .tc := ⟨.hbm, 75, rfl⟩
abbrev main_v52 : Ref sig .tc := ⟨.hbm, 76, rfl⟩
abbrev main_c_14 : Ref sig .tc := ⟨.hbm, 77, rfl⟩
abbrev main_v53 : Ref sig .tc := ⟨.hbm, 78, rfl⟩
abbrev main_v54 : Ref sig .tc := ⟨.hbm, 79, rfl⟩
abbrev main_c_15 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_16 : Ref sig .tc := ⟨.hbm, 86, rfl⟩
abbrev main_v60 : Ref sig .tc := ⟨.hbm, 87, rfl⟩
abbrev main_v61 : Ref sig .tc := ⟨.hbm, 88, rfl⟩
abbrev main_c_17 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_18 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_19 : Ref sig .tc := ⟨.hbm, 106, rfl⟩
abbrev main_v77 : Ref sig .tc := ⟨.hbm, 107, rfl⟩
abbrev main_v78 : Ref sig .tc := ⟨.hbm, 108, rfl⟩
abbrev main_c_20 : Ref sig .tc := ⟨.hbm, 109, rfl⟩
abbrev main_v79 : Ref sig .tc := ⟨.hbm, 110, rfl⟩
abbrev main_v80 : Ref sig .tc := ⟨.hbm, 111, rfl⟩
abbrev main_c_21 : Ref sig .tc := ⟨.hbm, 112, rfl⟩
abbrev main_v81 : Ref sig .tc := ⟨.hbm, 113, rfl⟩
abbrev main_v82 : Ref sig .tc := ⟨.hbm, 114, rfl⟩
abbrev main_c_22 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_c_23 : Ref sig .tc := ⟨.hbm, 119, rfl⟩
abbrev main_v86 : Ref sig .tc := ⟨.hbm, 120, rfl⟩
abbrev main_v87 : Ref sig .tc := ⟨.hbm, 121, rfl⟩
abbrev main_c_24 : Ref sig .tc := ⟨.hbm, 122, rfl⟩
abbrev main_v88 : Ref sig .tc := ⟨.hbm, 123, rfl⟩
abbrev main_v89 : Ref sig .tc := ⟨.hbm, 124, rfl⟩
abbrev main_c_25 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_26 : Ref sig .tc := ⟨.hbm, 131, rfl⟩
abbrev main_v95 : Ref sig .tc := ⟨.hbm, 132, rfl⟩
abbrev main_v96 : Ref sig .tc := ⟨.hbm, 133, rfl⟩
abbrev main_c_27 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_c_28 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_c_29 : Ref sig .tc := ⟨.hbm, 151, rfl⟩
abbrev main_v112 : Ref sig .tc := ⟨.hbm, 152, rfl⟩
abbrev main_v113 : Ref sig .tc := ⟨.hbm, 153, rfl⟩
abbrev main_c_30 : Ref sig .tc := ⟨.hbm, 154, rfl⟩
abbrev main_v114 : Ref sig .tc := ⟨.hbm, 155, rfl⟩
abbrev main_v115 : Ref sig .tc := ⟨.hbm, 156, rfl⟩
abbrev main_c_31 : Ref sig .tc := ⟨.hbm, 157, rfl⟩
abbrev main_v116 : Ref sig .tc := ⟨.hbm, 158, rfl⟩
abbrev main_v117 : Ref sig .tc := ⟨.hbm, 159, rfl⟩
abbrev main_c_32 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_c_33 : Ref sig .tc := ⟨.hbm, 164, rfl⟩
abbrev main_v121 : Ref sig .tc := ⟨.hbm, 165, rfl⟩
abbrev main_v122 : Ref sig .tc := ⟨.hbm, 166, rfl⟩
abbrev main_c_34 : Ref sig .tc := ⟨.hbm, 167, rfl⟩
abbrev main_v123 : Ref sig .tc := ⟨.hbm, 168, rfl⟩
abbrev main_v124 : Ref sig .tc := ⟨.hbm, 169, rfl⟩
abbrev main_c_35 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_c_36 : Ref sig .tc := ⟨.hbm, 176, rfl⟩
abbrev main_v130 : Ref sig .tc := ⟨.hbm, 177, rfl⟩
abbrev main_v131 : Ref sig .tc := ⟨.hbm, 178, rfl⟩
abbrev main_c_37 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_c_38 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_cst_39 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_cst_40 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_cst_41 : Ref sig .tc := ⟨.hbm, 214, rfl⟩
abbrev main_v163 : Ref sig .tc := ⟨.hbm, 215, rfl⟩
abbrev main_v164 : Ref sig .tc := ⟨.hbm, 216, rfl⟩
abbrev main_cst_42 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_cst_43 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_cst_44 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_cst_45 : Ref sig .tc := ⟨.hbm, 231, rfl⟩
abbrev main_v176 : Ref sig .tc := ⟨.hbm, 232, rfl⟩
abbrev main_v177 : Ref sig .tc := ⟨.hbm, 233, rfl⟩
abbrev main_cst_46 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_cst_47 : Ref sig .tc := ⟨.hbm, 239, rfl⟩
abbrev main_v182 : Ref sig .tc := ⟨.hbm, 240, rfl⟩
abbrev main_v183 : Ref sig .tc := ⟨.hbm, 241, rfl⟩
abbrev main_cst_48 : Ref sig .tc := ⟨.hbm, 242, rfl⟩
abbrev main_v184 : Ref sig .tc := ⟨.hbm, 243, rfl⟩
abbrev main_v185 : Ref sig .tc := ⟨.hbm, 244, rfl⟩
abbrev main_cst_49 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩

abbrev nD : Nat := 1
abbrev τ : Topo := Topo.v7x

variable {F : FTy → Type} [FloatOps F]
-- ==== OddbK.lean ====
abbrev S2x2048x1536 : Shape := ⟨3, ![2, 2048, 1536]⟩
abbrev S4x128x128 : Shape := ⟨3, ![4, 128, 128]⟩
abbrev S512 : Shape := ⟨1, ![512]⟩
abbrev S4x128 : Shape := ⟨2, ![4, 128]⟩
abbrev S2x2048x1024 : Shape := ⟨3, ![2, 2048, 1024]⟩
abbrev S4096x1536 : Shape := ⟨2, ![4096, 1536]⟩
abbrev S4096x1024 : Shape := ⟨2, ![4096, 1024]⟩
abbrev S1x512 : Shape := ⟨2, ![1, 512]⟩
abbrev S128x4 : Shape := ⟨2, ![128, 4]⟩
abbrev S2048x512 : Shape := ⟨2, ![2048, 512]⟩
abbrev S2048x1024 : Shape := ⟨2, ![2048, 1024]⟩
abbrev S2048x1536 : Shape := ⟨2, ![2048, 1536]⟩
abbrev S2064x128 : Shape := ⟨2, ![2064, 128]⟩
abbrev S8x128 : Shape := ⟨2, ![8, 128]⟩
abbrev S2048x128 : Shape := ⟨2, ![2048, 128]⟩
abbrev S2048x1 : Shape := ⟨2, ![2048, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S128x512 : Shape := ⟨2, ![128, 512]⟩
abbrev S128x1 : Shape := ⟨2, ![128, 1]⟩

abbrev nBuf : Space → Nat
  | .hbm => 19
  | .vmem => 21
  | .smem => 0
  | _ => 0

abbrev bufTy : (tb : Table) → Fin (tcTables nBuf tb) → BufTy
  | .hbm, ⟨0, _⟩ => ⟨S2x2048x1536, .f32⟩
  | .hbm, ⟨1, _⟩ => ⟨S4x128x128, .f32⟩
  | .hbm, ⟨2, _⟩ => ⟨S512, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S2x2048x1024, .f32⟩
  | .hbm, ⟨7, _⟩ => ⟨S4096x1536, .f32⟩
  | .hbm, ⟨8, _⟩ => ⟨S4096x1536, .bf16⟩
  | .hbm, ⟨9, _⟩ => ⟨S4096x1024, .f32⟩
  | .hbm, ⟨10, _⟩ => ⟨S1x512, .f32⟩
  | .hbm, ⟨11, _⟩ => ⟨S1x512, .f32⟩
  | .hbm, ⟨12, _⟩ => ⟨S128x4, .f32⟩
  | .hbm, ⟨13, _⟩ => ⟨S4096x1536, .bf16⟩
  | .hbm, ⟨14, _⟩ => ⟨S4x128x128, .f32⟩
  | .hbm, ⟨15, _⟩ => ⟨S1x512, .f32⟩
  | .hbm, ⟨16, _⟩ => ⟨S1x512, .f32⟩
  | .hbm, ⟨17, _⟩ => ⟨S4x128x128, .f32⟩
  | .hbm, ⟨18, _⟩ => ⟨S128x4, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S4x128x128, .f32⟩
  | .local _ .vmem, ⟨7, _⟩ => ⟨S1x512, .f32⟩
  | .local _ .vmem, ⟨8, _⟩ => ⟨S1x512, .f32⟩
  | .local _ .vmem, ⟨9, _⟩ => ⟨S4x128x128, .f32⟩
  | .local _ .vmem, ⟨10, _⟩ => ⟨S128x4, .f32⟩
  | .local _ .vmem, ⟨11, _⟩ => ⟨S2048x1024, .f32⟩
  | .local _ .vmem, ⟨12, _⟩ => ⟨S2048x1024, .f32⟩
  | .local _ .vmem, ⟨13, _⟩ => ⟨S2048x1536, .bf16⟩
  | .local _ .vmem, ⟨14, _⟩ => ⟨S2048x1536, .bf16⟩
  | .local _ .vmem, ⟨15, _⟩ => ⟨S4x128x128, .f32⟩
  | .local _ .vmem, ⟨16, _⟩ => ⟨S1x512, .f32⟩
  | .local _ .vmem, ⟨17, _⟩ => ⟨S1x512, .f32⟩
  | .local _ .vmem, ⟨18, _⟩ => ⟨S4x128x128, .f32⟩
  | .local _ .vmem, ⟨19, _⟩ => ⟨S128x4, .f32⟩
  | .local _ .vmem, ⟨20, _⟩ => ⟨S2064x128, .f32⟩
  | _, _ => ⟨S2x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v6_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32_251 : BitVec 32 := 0#32
  let c16_i32 : BitVec 32 := 16#32
  let v382 : BitVec 32 := Scalar.addi c0_i32_251 c16_i32
  let c1_i32_252 : BitVec 32 := 1#32
  ⟨c0_i32_251, v382, c1_i32_252⟩
def k0_mult1 (k0_t1 : Fin k0_t1_loop.trips) : BitVec 32 :=
  let c0_i32_251 : BitVec 32 := 0#32
  let c1_i32_252 : BitVec 32 := 1#32
  let arg17 : BitVec 32 := Scf.iv c0_i32_251 c1_i32_252 k0_t1
  let c128_i32 : BitVec 32 := 128#32
  let v383 : BitVec 32 := Scalar.muli arg17 c128_i32
  v383
def k0_off1 (k0_t1 : Fin k0_t1_loop.trips) : Fin 2 → Nat :=
  let c0_i32_251 : BitVec 32 := 0#32
  let c1_i32_252 : BitVec 32 := 1#32
  let arg17 : BitVec 32 := Scf.iv c0_i32_251 c1_i32_252 k0_t1
  let c128_i32 : BitVec 32 := 128#32
  let v383 : BitVec 32 := Scalar.muli arg17 c128_i32
  let v384 : BitVec 32 := v383
  let v385 : Index := Scalar.indexCast v384
  let c0_254 : Index := 0#32
  ![v385.toNat, 0]
def k0_off2 (k0_t1 : Fin k0_t1_loop.trips) : Fin 2 → Nat :=
  let c0_i32_251 : BitVec 32 := 0#32
  let c1_i32_252 : BitVec 32 := 1#32
  let arg17 : BitVec 32 := Scf.iv c0_i32_251 c1_i32_252 k0_t1
  let c128_i32 : BitVec 32 := 128#32
  let v383 : BitVec 32 := Scalar.muli arg17 c128_i32
  let v384 : BitVec 32 := v383
  let v467 : Index := Scalar.indexCast v384
  let c512 : Index := 512#32
  ![v467.toNat, 512]
def k0_off3 (k0_t1 : Fin k0_t1_loop.trips) : Fin 2 → Nat :=
  let c0_i32_251 : BitVec 32 := 0#32
  let c1_i32_252 : BitVec 32 := 1#32
  let arg17 : BitVec 32 := Scf.iv c0_i32_251 c1_i32_252 k0_t1
  let c128_i32 : BitVec 32 := 128#32
  let v383 : BitVec 32 := Scalar.muli arg17 c128_i32
  let v384 : BitVec 32 := v383
  let v624 : Index := Scalar.indexCast v384
  let c512_363 : Index := 512#32
  ![v624.toNat, 512]
def k0_off4 (k0_t1 : Fin k0_t1_loop.trips) : Fin 2 → Nat :=
  let c0_i32_251 : BitVec 32 := 0#32
  let c1_i32_252 : BitVec 32 := 1#32
  let arg17 : BitVec 32 := Scf.iv c0_i32_251 c1_i32_252 k0_t1
  let c128_i32 : BitVec 32 := 128#32
  let v383 : BitVec 32 := Scalar.muli arg17 c128_i32
  let v384 : BitVec 32 := v383
  let v655 : Index := Scalar.indexCast v384
  let c1024 : Index := 1024#32
  ![v655.toNat, 1024]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x4 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== OddbRIdeal.lean ====
abbrev S2x2048x1536 : Shape := ⟨3, ![2, 2048, 1536]⟩
abbrev S4x128x128 : Shape := ⟨3, ![4, 128, 128]⟩
abbrev S512 : Shape := ⟨1, ![512]⟩
abbrev S4x128 : Shape := ⟨2, ![4, 128]⟩
abbrev S2x2048x1024 : Shape := ⟨3, ![2, 2048, 1024]⟩
abbrev S2x2048x512 : Shape := ⟨3, ![2, 2048, 512]⟩
abbrev S_ : Shape := ⟨0, ![]⟩
abbrev S2x1x512 : Shape := ⟨3, ![2, 1, 512]⟩
abbrev S2x2049x512 : Shape := ⟨3, ![2, 2049, 512]⟩
abbrev S2048 : Shape := ⟨1, ![2048]⟩
abbrev S2x2049x128 : Shape := ⟨3, ![2, 2049, 128]⟩
abbrev S2048x1 : Shape := ⟨2, ![2048, 1]⟩
abbrev S2x2048x128 : Shape := ⟨3, ![2, 2048, 128]⟩
abbrev S1x2048x1 : Shape := ⟨3, ![1, 2048, 1]⟩
abbrev S2x2048x4x128 : Shape := ⟨4, ![2, 2048, 4, 128]⟩
abbrev S4x128x2x2048 : Shape := ⟨4, ![4, 128, 2, 2048]⟩
abbrev S1x1x512 : Shape := ⟨3, ![1, 1, 512]⟩
abbrev S2x2048 : Shape := ⟨2, ![2, 2048]⟩
abbrev S2x2048x1 : Shape := ⟨3, ![2, 2048, 1]⟩
abbrev S2x16x128x4x128 : Shape := ⟨5, ![2, 16, 128, 4, 128]⟩
abbrev S4x2x16x128x128 : Shape := ⟨5, ![4, 2, 16, 128, 128]⟩
abbrev S128x4 : Shape := ⟨2, ![128, 4]⟩
abbrev S1x1x128x4x1 : Shape := ⟨5, ![1, 1, 128, 4, 1]⟩
abbrev S4x2x2048x128 : Shape := ⟨4, ![4, 2, 2048, 128]⟩
abbrev S4096x1536 : Shape := ⟨2, ![4096, 1536]⟩
abbrev S1x512 : Shape := ⟨2, ![1, 512]⟩

abbrev nBuf : Space → Nat
  | .hbm => 461
  | .vmem => 0
  | .smem => 0
  | _ => 0

abbrev hbmTy0_0 (i : Nat) : BufTy := match i % 128 with
  | 0 => ⟨S2x2048x1536, .f32⟩
  | 1 => ⟨S4x128x128, .f32⟩
  | 2 => ⟨S512, .f32⟩
  | 3 => ⟨S512, .f32⟩
  | 4 => ⟨S4x128x128, .f32⟩
  | 5 => ⟨S4x128, .f32⟩
  | 6 => ⟨S2x2048x1024, .f32⟩
  | 7 => ⟨S2x2048x512, .f32⟩
  | 8 => ⟨S2x2048x512, .f32⟩
  | 9 => ⟨S2x2048x512, .f32⟩
  | 10 => ⟨S_, .f32⟩
  | 11 => ⟨S2x1x512, .f32⟩
  | 12 => ⟨S_, .f32⟩
  | 13 => ⟨S_, .f32⟩
  | 14 => ⟨S2x2048x512, .f32⟩
  | 15 => ⟨S2x2049x512, .f32⟩
  | 16 => ⟨S_, .f32⟩
  | 17 => ⟨S2x1x512, .f32⟩
  | 18 => ⟨S2048, .i32⟩
  | 19 => ⟨S_, .i32⟩
  | 20 => ⟨S2048, .i32⟩
  | 21 => ⟨S2048, .i32⟩
  | 22 => ⟨S_, .i32⟩
  | 23 => ⟨S2048, .i32⟩
  | 24 => ⟨S2048, .i32⟩
  | 25 => ⟨S_, .i32⟩
  | 26 => ⟨S2048, .i32⟩
  | 27 => ⟨S2048, .i32⟩
  | 28 => ⟨S_, .i32⟩
  | 29 => ⟨S2048, .i32⟩
  | 30 => ⟨S2048, .i32⟩
  | 31 => ⟨S2x2049x128, .f32⟩
  | 32 => ⟨S_, .i32⟩
  | 33 => ⟨S2048, .i32⟩
  | 34 => ⟨S2048, .i32⟩
  | 35 => ⟨S_, .i32⟩
  | 36 => ⟨S2048, .i32⟩
  | 37 => ⟨S2048, .i1⟩
  | 38 => ⟨S_, .i32⟩
  | 39 => ⟨S2048, .i32⟩
  | 40 => ⟨S2048, .i32⟩
  | 41 => ⟨S2048, .i32⟩
  | 42 => ⟨S2048x1, .i32⟩
  | 43 => ⟨S2x2048x128, .f32⟩
  | 44 => ⟨S_, .i32⟩
  | 45 => ⟨S2048, .i32⟩
  | 46 => ⟨S2048, .i1⟩
  | 47 => ⟨S_, .i32⟩
  | 48 => ⟨S2048, .i32⟩
  | 49 => ⟨S2048, .i32⟩
  | 50 => ⟨S2048, .i32⟩
  | 51 => ⟨S2048x1, .i32⟩
  | 52 => ⟨S2x2048x128, .f32⟩
  | 53 => ⟨S2x2048x128, .f32⟩
  | 54 => ⟨S2048, .i32⟩
  | 55 => ⟨S_, .i32⟩
  | 56 => ⟨S2048, .i32⟩
  | 57 => ⟨S2048, .i32⟩
  | 58 => ⟨S2048, .f32⟩
  | 59 => ⟨S1x2048x1, .f32⟩
  | 60 => ⟨S2x2048x128, .f32⟩
  | 61 => ⟨S2x2048x128, .f32⟩
  | 62 => ⟨S2x2048x128, .f32⟩
  | 63 => ⟨S2x2048x128, .f32⟩
  | 64 => ⟨S_, .i32⟩
  | 65 => ⟨S2048, .i32⟩
  | 66 => ⟨S2048, .i32⟩
  | 67 => ⟨S_, .i32⟩
  | 68 => ⟨S2048, .i32⟩
  | 69 => ⟨S2048, .i32⟩
  | 70 => ⟨S_, .i32⟩
  | 71 => ⟨S2048, .i32⟩
  | 72 => ⟨S2048, .i32⟩
  | 73 => ⟨S_, .i32⟩
  | 74 => ⟨S2048, .i32⟩
  | 75 => ⟨S2048, .i32⟩
  | 76 => ⟨S2x2049x128, .f32⟩
  | 77 => ⟨S_, .i32⟩
  | 78 => ⟨S2048, .i32⟩
  | 79 => ⟨S2048, .i32⟩
  | 80 => ⟨S_, .i32⟩
  | 81 => ⟨S2048, .i32⟩
  | 82 => ⟨S2048, .i1⟩
  | 83 => ⟨S_, .i32⟩
  | 84 => ⟨S2048, .i32⟩
  | 85 => ⟨S2048, .i32⟩
  | 86 => ⟨S2048, .i32⟩
  | 87 => ⟨S2048x1, .i32⟩
  | 88 => ⟨S2x2048x128, .f32⟩
  | 89 => ⟨S_, .i32⟩
  | 90 => ⟨S2048, .i32⟩
  | 91 => ⟨S2048, .i1⟩
  | 92 => ⟨S_, .i32⟩
  | 93 => ⟨S2048, .i32⟩
  | 94 => ⟨S2048, .i32⟩
  | 95 => ⟨S2048, .i32⟩
  | 96 => ⟨S2048x1, .i32⟩
  | 97 => ⟨S2x2048x128, .f32⟩
  | 98 => ⟨S2x2048x128, .f32⟩
  | 99 => ⟨S2048, .i32⟩
  | 100 => ⟨S_, .i32⟩
  | 101 => ⟨S2048, .i32⟩
  | 102 => ⟨S2048, .i32⟩
  | 103 => ⟨S2048, .f32⟩
  | 104 => ⟨S1x2048x1, .f32⟩
  | 105 => ⟨S2x2048x128, .f32⟩
  | 106 => ⟨S2x2048x128, .f32⟩
  | 107 => ⟨S2x2048x128, .f32⟩
  | 108 => ⟨S2x2048x128, .f32⟩
  | 109 => ⟨S_, .i32⟩
  | 110 => ⟨S2048, .i32⟩
  | 111 => ⟨S2048, .i32⟩
  | 112 => ⟨S_, .i32⟩
  | 113 => ⟨S2048, .i32⟩
  | 114 => ⟨S2048, .i32⟩
  | 115 => ⟨S_, .i32⟩
  | 116 => ⟨S2048, .i32⟩
  | 117 => ⟨S2048, .i32⟩
  | 118 => ⟨S_, .i32⟩
  | 119 => ⟨S2048, .i32⟩
  | 120 => ⟨S2048, .i32⟩
  | 121 => ⟨S2x2049x128, .f32⟩
  | 122 => ⟨S_, .i32⟩
  | 123 => ⟨S2048, .i32⟩
  | 124 => ⟨S2048, .i32⟩
  | 125 => ⟨S_, .i32⟩
  | 126 => ⟨S2048, .i32⟩
  | 127 => ⟨S2048, .i1⟩
  | _ => ⟨S2x2048x1536, .f32⟩

abbrev hbmTy0_1 (i : Nat) : BufTy := match i % 128 with
  | 0 => ⟨S_, .i32⟩
  | 1 => ⟨S2048, .i32⟩
  | 2 => ⟨S2048, .i32⟩
  | 3 => ⟨S2048, .i32⟩
  | 4 => ⟨S2048x1, .i32⟩
  | 5 => ⟨S2x2048x128, .f32⟩
  | 6 => ⟨S_, .i32⟩
  | 7 => ⟨S2048, .i32⟩
  | 8 => ⟨S2048, .i1⟩
  | 9 => ⟨S_, .i32⟩
  | 10 => ⟨S2048, .i32⟩
  | 11 => ⟨S2048, .i32⟩
  | 12 => ⟨S2048, .i32⟩
  | 13 => ⟨S2048x1, .i32⟩
  | 14 => ⟨S2x2048x128, .f32⟩
  | 15 => ⟨S2x2048x128, .f32⟩
  | 16 => ⟨S2048, .i32⟩
  | 17 => ⟨S_, .i32⟩
  | 18 => ⟨S2048, .i32⟩
  | 19 => ⟨S2048, .i32⟩
  | 20 => ⟨S2048, .f32⟩
  | 21 => ⟨S1x2048x1, .f32⟩
  | 22 => ⟨S2x2048x128, .f32⟩
  | 23 => ⟨S2x2048x128, .f32⟩
  | 24 => ⟨S2x2048x128, .f32⟩
  | 25 => ⟨S2x2048x128, .f32⟩
  | 26 => ⟨S_, .i32⟩
  | 27 => ⟨S2048, .i32⟩
  | 28 => ⟨S2048, .i32⟩
  | 29 => ⟨S_, .i32⟩
  | 30 => ⟨S2048, .i32⟩
  | 31 => ⟨S2048, .i32⟩
  | 32 => ⟨S_, .i32⟩
  | 33 => ⟨S2048, .i32⟩
  | 34 => ⟨S2048, .i32⟩
  | 35 => ⟨S_, .i32⟩
  | 36 => ⟨S2048, .i32⟩
  | 37 => ⟨S2048, .i32⟩
  | 38 => ⟨S2x2049x128, .f32⟩
  | 39 => ⟨S_, .i32⟩
  | 40 => ⟨S2048, .i32⟩
  | 41 => ⟨S2048, .i32⟩
  | 42 => ⟨S_, .i32⟩
  | 43 => ⟨S2048, .i32⟩
  | 44 => ⟨S2048, .i1⟩
  | 45 => ⟨S_, .i32⟩
  | 46 => ⟨S2048, .i32⟩
  | 47 => ⟨S2048, .i32⟩
  | 48 => ⟨S2048, .i32⟩
  | 49 => ⟨S2048x1, .i32⟩
  | 50 => ⟨S2x2048x128, .f32⟩
  | 51 => ⟨S_, .i32⟩
  | 52 => ⟨S2048, .i32⟩
  | 53 => ⟨S2048, .i1⟩
  | 54 => ⟨S_, .i32⟩
  | 55 => ⟨S2048, .i32⟩
  | 56 => ⟨S2048, .i32⟩
  | 57 => ⟨S2048, .i32⟩
  | 58 => ⟨S2048x1, .i32⟩
  | 59 => ⟨S2x2048x128, .f32⟩
  | 60 => ⟨S2x2048x128, .f32⟩
  | 61 => ⟨S2048, .i32⟩
  | 62 => ⟨S_, .i32⟩
  | 63 => ⟨S2048, .i32⟩
  | 64 => ⟨S2048, .i32⟩
  | 65 => ⟨S2048, .f32⟩
  | 66 => ⟨S1x2048x1, .f32⟩
  | 67 => ⟨S2x2048x128, .f32⟩
  | 68 => ⟨S2x2048x128, .f32⟩
  | 69 => ⟨S2x2048x128, .f32⟩
  | 70 => ⟨S2x2048x128, .f32⟩
  | 71 => ⟨S2x2048x512, .f32⟩
  | 72 => ⟨S2x2048x4x128, .f32⟩
  | 73 => ⟨S4x128x2x2048, .f32⟩
  | 74 => ⟨S2x2048x4x128, .f32⟩
  | 75 => ⟨S2x2048x512, .f32⟩
  | 76 => ⟨S1x1x512, .f32⟩
  | 77 => ⟨S2x2048x512, .f32⟩
  | 78 => ⟨S2x2048x512, .f32⟩
  | 79 => ⟨S2x2048x512, .f32⟩
  | 80 => ⟨S2x2048x512, .f32⟩
  | 81 => ⟨S2x2048x512, .f32⟩
  | 82 => ⟨S_, .f32⟩
  | 83 => ⟨S2x2048x512, .f32⟩
  | 84 => ⟨S2x2048x512, .f32⟩
  | 85 => ⟨S_, .f32⟩
  | 86 => ⟨S2x2048x512, .f32⟩
  | 87 => ⟨S2x2048x512, .f32⟩
  | 88 => ⟨S2x2048x512, .f32⟩
  | 89 => ⟨S_, .f32⟩
  | 90 => ⟨S2x2048x512, .f32⟩
  | 91 => ⟨S2x2048x512, .f32⟩
  | 92 => ⟨S2x2048x512, .f32⟩
  | 93 => ⟨S_, .f32⟩
  | 94 => ⟨S2x2048x512, .f32⟩
  | 95 => ⟨S2x2048x512, .f32⟩
  | 96 => ⟨S_, .f32⟩
  | 97 => ⟨S2x2048x512, .f32⟩
  | 98 => ⟨S2x2048x512, .f32⟩
  | 99 => ⟨S2x2048x512, .f32⟩
  | 100 => ⟨S_, .f32⟩
  | 101 => ⟨S2x2048x512, .f32⟩
  | 102 => ⟨S2x2048x512, .f32⟩
  | 103 => ⟨S_, .f32⟩
  | 104 => ⟨S2x2048x512, .f32⟩
  | 105 => ⟨S2x2048x512, .f32⟩
  | 106 => ⟨S2x2048x512, .f32⟩
  | 107 => ⟨S2x2048x512, .f32⟩
  | 108 => ⟨S2x2048x512, .f32⟩
  | 109 => ⟨S2x2048x512, .f32⟩
  | 110 => ⟨S_, .f32⟩
  | 111 => ⟨S2x2048x512, .f32⟩
  | 112 => ⟨S2x2048x512, .f32⟩
  | 113 => ⟨S_, .f32⟩
  | 114 => ⟨S2x2048x512, .f32⟩
  | 115 => ⟨S2x2048x512, .f32⟩
  | 116 => ⟨S2x2048x512, .f32⟩
  | 117 => ⟨S_, .f32⟩
  | 118 => ⟨S2x2048x512, .f32⟩
  | 119 => ⟨S2x2048x512, .f32⟩
  | 120 => ⟨S2x2048x512, .f32⟩
  | 121 => ⟨S_, .f32⟩
  | 122 => ⟨S2x2048x512, .f32⟩
  | 123 => ⟨S2x2048x512, .f32⟩
  | 124 => ⟨S_, .f32⟩
  | 125 => ⟨S2x2048x512, .f32⟩
  | 126 => ⟨S2x2048x512, .f32⟩
  | 127 => ⟨S2x2048x512, .f32⟩
  | _ => ⟨S2x2048x1536, .f32⟩

abbrev hbmTy0_2 (i : Nat) : BufTy := match i % 128 with
  | 0 => ⟨S_, .f32⟩
  | 1 => ⟨S2x2048x512, .f32⟩
  | 2 => ⟨S2x2048x512, .f32⟩
  | 3 => ⟨S_, .f32⟩
  | 4 => ⟨S2x2048x512, .f32⟩
  | 5 => ⟨S2x2048x512, .f32⟩
  | 6 => ⟨S2x2048x512, .f32⟩
  | 7 => ⟨S2x2048x512, .f32⟩
  | 8 => ⟨S_, .f32⟩
  | 9 => ⟨S2x2048, .f32⟩
  | 10 => ⟨S2x2048x1, .f32⟩
  | 11 => ⟨S_, .f32⟩
  | 12 => ⟨S2x2048x1, .f32⟩
  | 13 => ⟨S2x2048x1, .f32⟩
  | 14 => ⟨S_, .f32⟩
  | 15 => ⟨S2x2048x1, .f32⟩
  | 16 => ⟨S2x2048x1, .f32⟩
  | 17 => ⟨S2x2048x1, .f32⟩
  | 18 => ⟨S2x2048x1, .f32⟩
  | 19 => ⟨S_, .f32⟩
  | 20 => ⟨S2x2048x1, .f32⟩
  | 21 => ⟨S2x2048x1, .f32⟩
  | 22 => ⟨S2x2048x512, .f32⟩
  | 23 => ⟨S2x2048x512, .f32⟩
  | 24 => ⟨S1x1x512, .f32⟩
  | 25 => ⟨S2x2048x512, .f32⟩
  | 26 => ⟨S2x2048x512, .f32⟩
  | 27 => ⟨S2x16x128x4x128, .f32⟩
  | 28 => ⟨S4x2x16x128x128, .f32⟩
  | 29 => ⟨S2x16x128x4x128, .f32⟩
  | 30 => ⟨S128x4, .f32⟩
  | 31 => ⟨S1x1x128x4x1, .f32⟩
  | 32 => ⟨S2x16x128x4x128, .f32⟩
  | 33 => ⟨S2x16x128x4x128, .f32⟩
  | 34 => ⟨S2x2048x512, .f32⟩
  | 35 => ⟨S2x2048x512, .f32⟩
  | 36 => ⟨S2x2048x1024, .f32⟩
  | 37 => ⟨S2x2048x512, .f32⟩
  | 38 => ⟨S2x2048x512, .f32⟩
  | 39 => ⟨S2x2048x512, .f32⟩
  | 40 => ⟨S2x2048x512, .f32⟩
  | 41 => ⟨S2x16x128x4x128, .f32⟩
  | 42 => ⟨S_, .f32⟩
  | 43 => ⟨S128x4, .f32⟩
  | 44 => ⟨S1x1x128x4x1, .f32⟩
  | 45 => ⟨S_, .f32⟩
  | 46 => ⟨S128x4, .f32⟩
  | 47 => ⟨S4x128, .f32⟩
  | 48 => ⟨S4x2x16x128x128, .f32⟩
  | 49 => ⟨S4x128x128, .f32⟩
  | 50 => ⟨S4x2x16x128x128, .f32⟩
  | 51 => ⟨S2x16x128x4x128, .f32⟩
  | 52 => ⟨S2x2048x512, .f32⟩
  | 53 => ⟨S2x2048x512, .f32⟩
  | 54 => ⟨S_, .f32⟩
  | 55 => ⟨S512, .f32⟩
  | 56 => ⟨S1x1x512, .f32⟩
  | 57 => ⟨S2x2048x512, .f32⟩
  | 58 => ⟨S2x2048x512, .f32⟩
  | 59 => ⟨S_, .f32⟩
  | 60 => ⟨S512, .f32⟩
  | 61 => ⟨S2x2048x512, .f32⟩
  | 62 => ⟨S_, .f32⟩
  | 63 => ⟨S2x2048, .f32⟩
  | 64 => ⟨S2x2048x1, .f32⟩
  | 65 => ⟨S2x2048x512, .f32⟩
  | 66 => ⟨S2x2048x512, .f32⟩
  | 67 => ⟨S2x2048x1, .f32⟩
  | 68 => ⟨S_, .f32⟩
  | 69 => ⟨S2x2048x1, .f32⟩
  | 70 => ⟨S2x2048x1, .f32⟩
  | 71 => ⟨S_, .f32⟩
  | 72 => ⟨S2x2048, .f32⟩
  | 73 => ⟨S2x2048x512, .f32⟩
  | 74 => ⟨S2x2048x512, .f32⟩
  | 75 => ⟨S2x2048x512, .f32⟩
  | 76 => ⟨S2x2048x512, .f32⟩
  | 77 => ⟨S2x2048x512, .f32⟩
  | 78 => ⟨S2x2048x512, .f32⟩
  | 79 => ⟨S2x2048x512, .f32⟩
  | 80 => ⟨S_, .f32⟩
  | 81 => ⟨S2x2048x512, .f32⟩
  | 82 => ⟨S2x2048x512, .f32⟩
  | 83 => ⟨S2x2048x512, .f32⟩
  | 84 => ⟨S_, .f32⟩
  | 85 => ⟨S2x2048x512, .f32⟩
  | 86 => ⟨S2x2048x512, .f32⟩
  | 87 => ⟨S2x2048x512, .f32⟩
  | 88 => ⟨S_, .f32⟩
  | 89 => ⟨S2x2048x512, .f32⟩
  | 90 => ⟨S2x2048x512, .f32⟩
  | 91 => ⟨S2x2048x512, .f32⟩
  | 92 => ⟨S2x2048x512, .f32⟩
  | 93 => ⟨S2x2048x512, .f32⟩
  | 94 => ⟨S2x2048x512, .f32⟩
  | 95 => ⟨S_, .f32⟩
  | 96 => ⟨S2x2048x512, .f32⟩
  | 97 => ⟨S2x2048x512, .f32⟩
  | 98 => ⟨S2x2048x512, .f32⟩
  | 99 => ⟨S_, .f32⟩
  | 100 => ⟨S2x2048x512, .f32⟩
  | 101 => ⟨S2x2048x512, .f32⟩
  | 102 => ⟨S2x2048x512, .f32⟩
  | 103 => ⟨S_, .f32⟩
  | 104 => ⟨S2x2048x512, .f32⟩
  | 105 => ⟨S2x2048x512, .f32⟩
  | 106 => ⟨S2x2048x512, .f32⟩
  | 107 => ⟨S2x2048x512, .f32⟩
  | 108 => ⟨S2x2048x512, .f32⟩
  | 109 => ⟨S_, .f32⟩
  | 110 => ⟨S512, .f32⟩
  | 111 => ⟨S1x1x512, .f32⟩
  | 112 => ⟨S2x2048x512, .f32⟩
  | 113 => ⟨S2x2048x512, .f32⟩
  | 114 => ⟨S_, .f32⟩
  | 115 => ⟨S512, .f32⟩
  | 116 => ⟨S2x2048x4x128, .f32⟩
  | 117 => ⟨S4x128x2x2048, .f32⟩
  | 118 => ⟨S4x2x2048x128, .f32⟩
  | 119 => ⟨S2x2048x4x128, .f32⟩
  | 120 => ⟨S4x128x128, .f32⟩
  | 121 => ⟨S4x128x128, .f32⟩
  | 122 => ⟨S2x2048x512, .f32⟩
  | 123 => ⟨S2x2048x128, .f32⟩
  | 124 => ⟨S2x2048x128, .f32⟩
  | 125 => ⟨S2x2048x128, .f32⟩
  | 126 => ⟨S2x2048x128, .f32⟩
  | 127 => ⟨S2x2048x128, .f32⟩
  | _ => ⟨S2x2048x1536, .f32⟩

abbrev hbmTy0_3 (i : Nat) : BufTy := match i % 128 with
  | 0 => ⟨S_, .f32⟩
  | 1 => ⟨S2x2048x512, .f32⟩
  | 2 => ⟨S2x2048x128, .f32⟩
  | 3 => ⟨S2x2048x128, .f32⟩
  | 4 => ⟨S2x2048x128, .f32⟩
  | 5 => ⟨S_, .f32⟩
  | 6 => ⟨S2x2049x128, .f32⟩
  | 7 => ⟨S2x2049x128, .f32⟩
  | 8 => ⟨S_, .f32⟩
  | 9 => ⟨S2x2049x128, .f32⟩
  | 10 => ⟨S2x2049x128, .f32⟩
  | 11 => ⟨S2x2049x128, .f32⟩
  | 12 => ⟨S_, .f32⟩
  | 13 => ⟨S2x2049x512, .f32⟩
  | 14 => ⟨S2x2048x128, .f32⟩
  | 15 => ⟨S_, .f32⟩
  | 16 => ⟨S2x2048x512, .f32⟩
  | 17 => ⟨S2x2048x512, .f32⟩
  | 18 => ⟨S2x2048x128, .f32⟩
  | 19 => ⟨S2x2048x128, .f32⟩
  | 20 => ⟨S2x2048x128, .f32⟩
  | 21 => ⟨S_, .f32⟩
  | 22 => ⟨S2x2049x128, .f32⟩
  | 23 => ⟨S2x2049x128, .f32⟩
  | 24 => ⟨S_, .f32⟩
  | 25 => ⟨S2x2049x128, .f32⟩
  | 26 => ⟨S2x2049x128, .f32⟩
  | 27 => ⟨S2x2049x128, .f32⟩
  | 28 => ⟨S_, .f32⟩
  | 29 => ⟨S2x2049x512, .f32⟩
  | 30 => ⟨S2x2049x512, .f32⟩
  | 31 => ⟨S2x2048x128, .f32⟩
  | 32 => ⟨S_, .f32⟩
  | 33 => ⟨S2x2048x512, .f32⟩
  | 34 => ⟨S2x2048x512, .f32⟩
  | 35 => ⟨S2x2048x128, .f32⟩
  | 36 => ⟨S2x2048x128, .f32⟩
  | 37 => ⟨S2x2048x128, .f32⟩
  | 38 => ⟨S_, .f32⟩
  | 39 => ⟨S2x2049x128, .f32⟩
  | 40 => ⟨S2x2049x128, .f32⟩
  | 41 => ⟨S_, .f32⟩
  | 42 => ⟨S2x2049x128, .f32⟩
  | 43 => ⟨S2x2049x128, .f32⟩
  | 44 => ⟨S2x2049x128, .f32⟩
  | 45 => ⟨S_, .f32⟩
  | 46 => ⟨S2x2049x512, .f32⟩
  | 47 => ⟨S2x2049x512, .f32⟩
  | 48 => ⟨S2x2048x128, .f32⟩
  | 49 => ⟨S_, .f32⟩
  | 50 => ⟨S2x2048x512, .f32⟩
  | 51 => ⟨S2x2048x512, .f32⟩
  | 52 => ⟨S2x2048x128, .f32⟩
  | 53 => ⟨S2x2048x128, .f32⟩
  | 54 => ⟨S2x2048x128, .f32⟩
  | 55 => ⟨S_, .f32⟩
  | 56 => ⟨S2x2049x128, .f32⟩
  | 57 => ⟨S2x2049x128, .f32⟩
  | 58 => ⟨S_, .f32⟩
  | 59 => ⟨S2x2049x128, .f32⟩
  | 60 => ⟨S2x2049x128, .f32⟩
  | 61 => ⟨S2x2049x128, .f32⟩
  | 62 => ⟨S_, .f32⟩
  | 63 => ⟨S2x2049x512, .f32⟩
  | 64 => ⟨S2x2049x512, .f32⟩
  | 65 => ⟨S2x1x512, .f32⟩
  | 66 => ⟨S2x2048x512, .f32⟩
  | 67 => ⟨S_, .f32⟩
  | 68 => ⟨S_, .f32⟩
  | 69 => ⟨S2x2048x512, .f32⟩
  | 70 => ⟨S2x2048x512, .f32⟩
  | 71 => ⟨S2x2048x1536, .f32⟩
  | 72 => ⟨S4096x1536, .f32⟩
  | 73 => ⟨S4096x1536, .bf16⟩
  | 74 => ⟨S1x512, .f32⟩
  | 75 => ⟨S1x512, .f32⟩
  | 76 => ⟨S128x4, .f32⟩
  | _ => ⟨S2x2048x1536, .f32⟩

abbrev hbmTy (i : Nat) : BufTy := match i / 128 with
  | 0 => hbmTy0_0 i
  | 1 => hbmTy0_1 i
  | 2 => hbmTy0_2 i
  | 3 => hbmTy0_3 i
  | _ => ⟨S2x2048x1536, .f32⟩

abbrev bufTy : (tb : Table) → Fin (tcTables nBuf tb) → BufTy
  | .hbm, ⟨i, _⟩ => hbmTy i
  | _, _ => ⟨S2x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_call0_call0_cst : Ref sig .tc := ⟨.hbm, 12, rfl⟩
abbrev main_call0_call0_v0 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_c_5 : Ref sig .tc := ⟨.hbm, 35, rfl⟩
abbrev main_v19 : Ref sig .tc := ⟨.hbm, 36, rfl⟩
abbrev main_v20 : Ref sig .tc := ⟨.hbm, 37, rfl⟩
abbrev main_c_6 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_7 : Ref sig .tc := ⟨.hbm, 44, rfl⟩
abbrev main_v26 : Ref sig .tc := ⟨.hbm, 45, rfl⟩
abbrev main_v27 : Ref sig .tc := ⟨.hbm, 46, rfl⟩
abbrev main_c_8 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_10 : Ref sig .tc := ⟨.hbm, 64, rfl⟩
abbrev main_v43 : Ref sig .tc := ⟨.hbm, 65, rfl⟩
abbrev main_v44 : Ref sig .tc := ⟨.hbm, 66, rfl⟩
abbrev main_c_11 : Ref sig .tc := ⟨.hbm, 67, rfl⟩
abbrev main_v45 : Ref sig .tc := ⟨.hbm, 68, rfl⟩
abbrev main_v46 : Ref sig .tc := ⟨.hbm, 69, rfl⟩
abbrev main_c_12 : Ref sig .tc := ⟨.hbm, 70, rfl⟩
abbrev main_v47 : Ref sig .tc := ⟨.hbm, 71, rfl⟩
abbrev main_v48 : Ref sig .tc := ⟨.hbm, 72, rfl⟩
abbrev main_c_13 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_14 : Ref sig .tc := ⟨.hbm, 77, rfl⟩
abbrev main_v52 : Ref sig .tc := ⟨.hbm, 78, rfl⟩
abbrev main_v53 : Ref sig .tc := ⟨.hbm, 79, rfl⟩
abbrev main_c_15 : Ref sig .tc := ⟨.hbm, 80, rfl⟩
abbrev main_v54 : Ref sig .tc := ⟨.hbm, 81, rfl⟩
abbrev main_v55 : Ref sig .tc := ⟨.hbm, 82, rfl⟩
abbrev main_c_16 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_17 : Ref sig .tc := ⟨.hbm, 89, rfl⟩
abbrev main_v61 : Ref sig .tc := ⟨.hbm, 90, rfl⟩
abbrev main_v62 : Ref sig .tc := ⟨.hbm, 91, rfl⟩
abbrev main_c_18 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_19 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_20 : Ref sig .tc := ⟨.hbm, 109, rfl⟩
abbrev main_v78 : Ref sig .tc := ⟨.hbm, 110, rfl⟩
abbrev main_v79 : Ref sig .tc := ⟨.hbm, 111, rfl⟩
abbrev main_c_21 : Ref sig .tc := ⟨.hbm, 112, rfl⟩
abbrev main_v80 : Ref sig .tc := ⟨.hbm, 113, rfl⟩
abbrev main_v81 : Ref sig .tc := ⟨.hbm, 114, rfl⟩
abbrev main_c_22 : Ref sig .tc := ⟨.hbm, 115, rfl⟩
abbrev main_v82 : Ref sig .tc := ⟨.hbm, 116, rfl⟩
abbrev main_v83 : Ref sig .tc := ⟨.hbm, 117, rfl⟩
abbrev main_c_23 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_c_24 : Ref sig .tc := ⟨.hbm, 122, rfl⟩
abbrev main_v87 : Ref sig .tc := ⟨.hbm, 123, rfl⟩
abbrev main_v88 : Ref sig .tc := ⟨.hbm, 124, rfl⟩
abbrev main_c_25 : Ref sig .tc := ⟨.hbm, 125, rfl⟩
abbrev main_v89 : Ref sig .tc := ⟨.hbm, 126, rfl⟩
abbrev main_v90 : Ref sig .tc := ⟨.hbm, 127, rfl⟩
abbrev main_c_26 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_c_27 : Ref sig .tc := ⟨.hbm, 134, rfl⟩
abbrev main_v96 : Ref sig .tc := ⟨.hbm, 135, rfl⟩
abbrev main_v97 : Ref sig .tc := ⟨.hbm, 136, rfl⟩
abbrev main_c_28 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_c_29 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_c_30 : Ref sig .tc := ⟨.hbm, 154, rfl⟩
abbrev main_v113 : Ref sig .tc := ⟨.hbm, 155, rfl⟩
abbrev main_v114 : Ref sig .tc := ⟨.hbm, 156, rfl⟩
abbrev main_c_31 : Ref sig .tc := ⟨.hbm, 157, rfl⟩
abbrev main_v115 : Ref sig .tc := ⟨.hbm, 158, rfl⟩
abbrev main_v116 : Ref sig .tc := ⟨.hbm, 159, rfl⟩
abbrev main_c_32 : Ref sig .tc := ⟨.hbm, 160, rfl⟩
abbrev main_v117 : Ref sig .tc := ⟨.hbm, 161, rfl⟩
abbrev main_v118 : Ref sig .tc := ⟨.hbm, 162, rfl⟩
abbrev main_c_33 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_c_34 : Ref sig .tc := ⟨.hbm, 167, rfl⟩
abbrev main_v122 : Ref sig .tc := ⟨.hbm, 168, rfl⟩
abbrev main_v123 : Ref sig .tc := ⟨.hbm, 169, rfl⟩
abbrev main_c_35 : Ref sig .tc := ⟨.hbm, 170, rfl⟩
abbrev main_v124 : Ref sig .tc := ⟨.hbm, 171, rfl⟩
abbrev main_v125 : Ref sig .tc := ⟨.hbm, 172, rfl⟩
abbrev main_c_36 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_c_37 : Ref sig .tc := ⟨.hbm, 179, rfl⟩
abbrev main_v131 : Ref sig .tc := ⟨.hbm, 180, rfl⟩
abbrev main_v132 : Ref sig .tc := ⟨.hbm, 181, rfl⟩
abbrev main_c_38 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_c_39 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_cst_40 : Ref sig .tc := ⟨.hbm, 210, rfl⟩
abbrev main_v159 : Ref sig .tc := ⟨.hbm, 211, rfl⟩
abbrev main_v160 : Ref sig .tc := ⟨.hbm, 212, rfl⟩
abbrev main_cst_41 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_cst_42 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_cst_43 : Ref sig .tc := ⟨.hbm, 221, rfl⟩
abbrev main_v167 : Ref sig .tc := ⟨.hbm, 222, rfl⟩
abbrev main_v168 : Ref sig .tc := ⟨.hbm, 223, rfl⟩
abbrev main_cst_44 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_cst_45 : Ref sig .tc := ⟨.hbm, 228, rfl⟩
abbrev main_v172 : Ref sig .tc := ⟨.hbm, 229, rfl⟩
abbrev main_v173 : Ref sig .tc := ⟨.hbm, 230, rfl⟩
abbrev main_cst_46 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_cst_47 : Ref sig .tc := ⟨.hbm, 238, rfl⟩
abbrev main_v180 : Ref sig .tc := ⟨.hbm, 239, rfl⟩
abbrev main_v181 : Ref sig .tc := ⟨.hbm, 240, rfl⟩
abbrev main_cst_48 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_cst_49 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_cst_50 : Ref sig .tc := ⟨.hbm, 249, rfl⟩
abbrev main_v188 : Ref sig .tc := ⟨.hbm, 250, rfl⟩
abbrev main_v189 : Ref sig .tc := ⟨.hbm, 251, rfl⟩
abbrev main_cst_51 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_cst_52 : Ref sig .tc := ⟨.hbm, 256, rfl⟩
abbrev main_v193 : Ref sig .tc := ⟨.hbm, 257, rfl⟩
abbrev main_v194 : Ref sig .tc := ⟨.hbm, 258, rfl⟩
abbrev main_cst_53 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_cst_54 : Ref sig .tc := ⟨.hbm, 264, rfl⟩
abbrev main_v199 : Ref sig .tc := ⟨.hbm, 265, rfl⟩
abbrev main_v200 : Ref sig .tc := ⟨.hbm, 266, rfl⟩
abbrev main_cst_55 : Ref sig .tc := ⟨.hbm, 267, rfl⟩
abbrev main_v201 : Ref sig .tc := ⟨.hbm, 268, rfl⟩
abbrev main_v202 : Ref sig .tc := ⟨.hbm, 269, rfl⟩
abbrev main_cst_56 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_cst_57 : Ref sig .tc := ⟨.hbm, 275, rfl⟩
abbrev main_v207 : Ref sig .tc := ⟨.hbm, 276, rfl⟩
abbrev main_v208 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_v218 : Ref sig .tc := ⟨.hbm, 287, rfl⟩
abbrev main_v219 : Ref sig .tc := ⟨.hbm, 288, rfl⟩
abbrev main_v220 : Ref sig .tc := ⟨.hbm, 289, rfl⟩
abbrev main_v221 : Ref sig .tc := ⟨.hbm, 290, rfl⟩
abbrev main_v222 : Ref sig .tc := ⟨.hbm, 291, rfl⟩
abbrev main_v223 : Ref sig .tc := ⟨.hbm, 292, rfl⟩
abbrev main_v224 : Ref sig .tc := ⟨.hbm, 293, rfl⟩
abbrev main_v225 : Ref sig .tc := ⟨.hbm, 294, rfl⟩
abbrev main_v226 : Ref sig .tc := ⟨.hbm, 295, rfl⟩
abbrev main_v227 : Ref sig .tc := ⟨.hbm, 296, rfl⟩
abbrev main_v228 : Ref sig .tc := ⟨.hbm, 297, rfl⟩
abbrev main_cst_58 : Ref sig .tc := ⟨.hbm, 298, rfl⟩
abbrev main_v229 : Ref sig .tc := ⟨.hbm, 299, rfl⟩
abbrev main_v230 : Ref sig .tc := ⟨.hbm, 300, rfl⟩
abbrev main_cst_59 : Ref sig .tc := ⟨.hbm, 301, rfl⟩
abbrev main_v231 : Ref sig .tc := ⟨.hbm, 302, rfl⟩
abbrev main_v232 : Ref sig .tc := ⟨.hbm, 303, rfl⟩
abbrev main_v233 : Ref sig .tc := ⟨.hbm, 304, rfl⟩
abbrev main_v234 : Ref sig .tc := ⟨.hbm, 305, rfl⟩
abbrev main_v235 : Ref sig .tc := ⟨.hbm, 306, rfl⟩
abbrev main_v236 : Ref sig .tc := ⟨.hbm, 307, rfl⟩
abbrev main_v237 : Ref sig .tc := ⟨.hbm, 308, rfl⟩
abbrev main_v238 : Ref sig .tc := ⟨.hbm, 309, rfl⟩
abbrev main_cst_60 : Ref sig .tc := ⟨.hbm, 310, rfl⟩
abbrev main_v239 : Ref sig .tc := ⟨.hbm, 311, rfl⟩
abbrev main_v240 : Ref sig .tc := ⟨.hbm, 312, rfl⟩
abbrev main_v241 : Ref sig .tc := ⟨.hbm, 313, rfl⟩
abbrev main_v242 : Ref sig .tc := ⟨.hbm, 314, rfl⟩
abbrev main_cst_61 : Ref sig .tc := ⟨.hbm, 315, rfl⟩
abbrev main_v243 : Ref sig .tc := ⟨.hbm, 316, rfl⟩
abbrev main_v244 : Ref sig .tc := ⟨.hbm, 317, rfl⟩
abbrev main_cst_62 : Ref sig .tc := ⟨.hbm, 318, rfl⟩
abbrev main_v245 : Ref sig .tc := ⟨.hbm, 319, rfl⟩
abbrev main_v246 : Ref sig .tc := ⟨.hbm, 320, rfl⟩
abbrev main_v247 : Ref sig .tc := ⟨.hbm, 321, rfl⟩
abbrev main_v248 : Ref sig .tc := ⟨.hbm, 322, rfl⟩
abbrev main_v249 : Ref sig .tc := ⟨.hbm, 323, rfl⟩
abbrev main_cst_63 : Ref sig .tc := ⟨.hbm, 324, rfl⟩
abbrev main_v250 : Ref sig .tc := ⟨.hbm, 325, rfl⟩
abbrev main_v251 : Ref sig .tc := ⟨.hbm, 326, rfl⟩
abbrev main_cst_64 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev main_v255 : Ref sig .tc := ⟨.hbm, 331, rfl⟩
abbrev main_v256 : Ref sig .tc := ⟨.hbm, 332, rfl⟩
abbrev main_v257 : Ref sig .tc := ⟨.hbm, 333, rfl⟩
abbrev main_v258 : Ref sig .tc := ⟨.hbm, 334, rfl⟩
abbrev main_v259 : Ref sig .tc := ⟨.hbm, 335, rfl⟩
abbrev main_cst_65 : Ref sig .tc := ⟨.hbm, 336, rfl⟩
abbrev main_v260 : Ref sig .tc := ⟨.hbm, 337, rfl⟩
abbrev main_v261 : Ref sig .tc := ⟨.hbm, 338, rfl⟩
abbrev main_v262 : Ref sig .tc := ⟨.hbm, 339, rfl⟩
abbrev main_cst_66 : Ref sig .tc := ⟨.hbm, 340, rfl⟩
abbrev main_v263 : Ref sig .tc := ⟨.hbm, 341, rfl⟩
abbrev main_v264 : Ref sig .tc := ⟨.hbm, 342, rfl⟩
abbrev main_v265 : Ref sig .tc := ⟨.hbm, 343, rfl⟩
abbrev main_cst_67 : Ref sig .tc := ⟨.hbm, 344, rfl⟩
abbrev main_v266 : Ref sig .tc := ⟨.hbm, 345, rfl⟩
abbrev main_v267 : Ref sig .tc := ⟨.hbm, 346, rfl⟩
abbrev main_v268 : Ref sig .tc := ⟨.hbm, 347, rfl⟩
abbrev main_v269 : Ref sig .tc := ⟨.hbm, 348, rfl⟩
abbrev main_v270 : Ref sig .tc := ⟨.hbm, 349, rfl⟩
abbrev main_v271 : Ref sig .tc := ⟨.hbm, 350, rfl⟩
abbrev main_cst_68 : Ref sig .tc := ⟨.hbm, 351, rfl⟩
abbrev main_v272 : Ref sig .tc := ⟨.hbm, 352, rfl⟩
abbrev main_v273 : Ref sig .tc := ⟨.hbm, 353, rfl⟩
abbrev main_v274 : Ref sig .tc := ⟨.hbm, 354, rfl⟩
abbrev main_cst_69 : Ref sig .tc := ⟨.hbm, 355, rfl⟩
abbrev main_v275 : Ref sig .tc := ⟨.hbm, 356, rfl⟩
abbrev main_v276 : Ref sig .tc := ⟨.hbm, 357, rfl⟩
abbrev main_v277 : Ref sig .tc := ⟨.hbm, 358, rfl⟩
abbrev main_cst_70 : Ref sig .tc := ⟨.hbm, 359, rfl⟩
abbrev main_v278 : Ref sig .tc := ⟨.hbm, 360, rfl⟩
abbrev main_v279 : Ref sig .tc := ⟨.hbm, 361, rfl⟩
abbrev main_v280 : Ref sig .tc := ⟨.hbm, 362, rfl⟩
abbrev main_v281 : Ref sig .tc := ⟨.hbm, 363, rfl⟩
abbrev main_v282 : Ref sig .tc := ⟨.hbm, 364, rfl⟩
abbrev main_cst_71 : Ref sig .tc := ⟨.hbm, 365, rfl⟩
abbrev main_v283 : Ref sig .tc := ⟨.hbm, 366, rfl⟩
abbrev main_v284 : Ref sig .tc := ⟨.hbm, 367, rfl⟩
abbrev main_v285 : Ref sig .tc := ⟨.hbm, 368, rfl⟩
abbrev main_v286 : Ref sig .tc := ⟨.hbm, 369, rfl⟩
abbrev main_cst_72 : Ref sig .tc := ⟨.hbm, 370, rfl⟩
abbrev main_v287 : Ref sig .tc := ⟨.hbm, 371, rfl⟩
abbrev main_v288 : Ref sig .tc := ⟨.hbm, 372, rfl⟩
abbrev main_v289 : Ref sig .tc := ⟨.hbm, 373, rfl⟩
abbrev main_v290 : Ref sig .tc := ⟨.hbm, 374, rfl⟩
abbrev main_v291 : Ref sig .tc := ⟨.hbm, 375, rfl⟩
abbrev main_v292 : Ref sig .tc := ⟨.hbm, 376, rfl⟩
abbrev main_v293 : Ref sig .tc := ⟨.hbm, 377, rfl⟩
abbrev main_v294 : Ref sig .tc := ⟨.hbm, 378, rfl⟩
abbrev main_v295 : Ref sig .tc := ⟨.hbm, 379, rfl⟩
abbrev main_v296 : Ref sig .tc := ⟨.hbm, 380, rfl⟩
abbrev main_v297 : Ref sig .tc := ⟨.hbm, 381, rfl⟩
abbrev main_v298 : Ref sig .tc := ⟨.hbm, 382, rfl⟩
abbrev main_v299 : Ref sig .tc := ⟨.hbm, 383, rfl⟩
abbrev main_cst_73 : Ref sig .tc := ⟨.hbm, 384, rfl⟩
abbrev main_v300 : Ref sig .tc := ⟨.hbm, 385, rfl⟩
abbrev main_v301 : Ref sig .tc := ⟨.hbm, 386, rfl⟩
abbrev main_v302 : Ref sig .tc := ⟨.hbm, 387, rfl⟩
abbrev main_v303 : Ref sig .tc := ⟨.hbm, 388, rfl⟩
abbrev main_cst_74 : Ref sig .tc := ⟨.hbm, 389, rfl⟩
abbrev main_v304 : Ref sig .tc := ⟨.hbm, 390, rfl⟩
abbrev main_v305 : Ref sig .tc := ⟨.hbm, 391, rfl⟩
abbrev main_cst_75 : Ref sig .tc := ⟨.hbm, 392, rfl⟩
abbrev main_v306 : Ref sig .tc := ⟨.hbm, 393, rfl⟩
abbrev main_v307 : Ref sig .tc := ⟨.hbm, 394, rfl⟩
abbrev main_v308 : Ref sig .tc := ⟨.hbm, 395, rfl⟩
abbrev main_cst_76 : Ref sig .tc := ⟨.hbm, 396, rfl⟩
abbrev main_v309 : Ref sig .tc := ⟨.hbm, 397, rfl⟩
abbrev main_v310 : Ref sig .tc := ⟨.hbm, 398, rfl⟩
abbrev main_cst_77 : Ref sig .tc := ⟨.hbm, 399, rfl⟩
abbrev main_v311 : Ref sig .tc := ⟨.hbm, 400, rfl⟩
abbrev main_v312 : Ref sig .tc := ⟨.hbm, 401, rfl⟩
abbrev main_v313 : Ref sig .tc := ⟨.hbm, 402, rfl⟩
abbrev main_v314 : Ref sig .tc := ⟨.hbm, 403, rfl⟩
abbrev main_v315 : Ref sig .tc := ⟨.hbm, 404, rfl⟩
abbrev main_cst_78 : Ref sig .tc := ⟨.hbm, 405, rfl⟩
abbrev main_v316 : Ref sig .tc := ⟨.hbm, 406, rfl⟩
abbrev main_v317 : Ref sig .tc := ⟨.hbm, 407, rfl⟩
abbrev main_cst_79 : Ref sig .tc := ⟨.hbm, 408, rfl⟩
abbrev main_v318 : Ref sig .tc := ⟨.hbm, 409, rfl⟩
abbrev main_v319 : Ref sig .tc := ⟨.hbm, 410, rfl⟩
abbrev main_v320 : Ref sig .tc := ⟨.hbm, 411, rfl⟩
abbrev main_cst_80 : Ref sig .tc := ⟨.hbm, 412, rfl⟩
abbrev main_v321 : Ref sig .tc := ⟨.hbm, 413, rfl⟩
abbrev main_v322 : Ref sig .tc := ⟨.hbm, 414, rfl⟩
abbrev main_v323 : Ref sig .tc := ⟨.hbm, 415, rfl⟩
abbrev main_cst_81 : Ref sig .tc := ⟨.hbm, 416, rfl⟩
abbrev main_v324 : Ref sig .tc := ⟨.hbm, 417, rfl⟩
abbrev main_v325 : Ref sig .tc := ⟨.hbm, 418, rfl⟩
abbrev main_v326 : Ref sig .tc := ⟨.hbm, 419, rfl⟩
abbrev main_v327 : Ref sig .tc := ⟨.hbm, 420, rfl⟩
abbrev main_v328 : Ref sig .tc := ⟨.hbm, 421, rfl⟩
abbrev main_cst_82 : Ref sig .tc := ⟨.hbm, 422, rfl⟩
abbrev main_v329 : Ref sig .tc := ⟨.hbm, 423, rfl⟩
abbrev main_v330 : Ref sig .tc := ⟨.hbm, 424, rfl⟩
abbrev main_cst_83 : Ref sig .tc := ⟨.hbm, 425, rfl⟩
abbrev main_v331 : Ref sig .tc := ⟨.hbm, 426, rfl⟩
abbrev main_v332 : Ref sig .tc := ⟨.hbm, 427, rfl⟩
abbrev main_v333 : Ref sig .tc := ⟨.hbm, 428, rfl⟩
abbrev main_cst_84 : Ref sig .tc := ⟨.hbm, 429, rfl⟩
abbrev main_v334 : Ref sig .tc := ⟨.hbm, 430, rfl⟩
abbrev main_v335 : Ref sig .tc := ⟨.hbm, 431, rfl⟩
abbrev main_v336 : Ref sig .tc := ⟨.hbm, 432, rfl⟩
abbrev main_cst_85 : Ref sig .tc := ⟨.hbm, 433, rfl⟩
abbrev main_v337 : Ref sig .tc := ⟨.hbm, 434, rfl⟩
abbrev main_v338 : Ref sig .tc := ⟨.hbm, 435, rfl⟩
abbrev main_v339 : Ref sig .tc := ⟨.hbm, 436, rfl⟩
abbrev main_v340 : Ref sig .tc := ⟨.hbm, 437, rfl⟩
abbrev main_v341 : Ref sig .tc := ⟨.hbm, 438, rfl⟩
abbrev main_cst_86 : Ref sig .tc := ⟨.hbm, 439, rfl⟩
abbrev main_v342 : Ref sig .tc := ⟨.hbm, 440, rfl⟩
abbrev main_v343 : Ref sig .tc := ⟨.hbm, 441, rfl⟩
abbrev main_cst_87 : Ref sig .tc := ⟨.hbm, 442, rfl⟩
abbrev main_v344 : Ref sig .tc := ⟨.hbm, 443, rfl⟩
abbrev main_v345 : Ref sig .tc := ⟨.hbm, 444, rfl⟩
abbrev main_v346 : Ref sig .tc := ⟨.hbm, 445, rfl⟩
abbrev main_cst_88 : Ref sig .tc := ⟨.hbm, 446, rfl⟩
abbrev main_v347 : Ref sig .tc := ⟨.hbm, 447, rfl⟩
abbrev main_v348 : Ref sig .tc := ⟨.hbm, 448, rfl⟩
abbrev main_v349 : Ref sig .tc := ⟨.hbm, 449, rfl⟩
abbrev main_v350 : Ref sig .tc := ⟨.hbm, 450, rfl⟩
abbrev main_call1_call0_cst : Ref sig .tc := ⟨.hbm, 451, rfl⟩
abbrev main_call1_call0_v0 : Ref sig .tc := ⟨.hbm, 452, rfl⟩
abbrev main_v351 : Ref sig .tc := ⟨.hbm, 453, rfl⟩
abbrev main_v352 : Ref sig .tc := ⟨.hbm, 454, rfl⟩
abbrev main_v353 : Ref sig .tc := ⟨.hbm, 455, rfl⟩
abbrev main_v354 : Ref sig .tc := ⟨.hbm, 456, rfl⟩
abbrev main_v355 : Ref sig .tc := ⟨.hbm, 457, rfl⟩
abbrev main_v356 : Ref sig .tc := ⟨.hbm, 458, rfl⟩
abbrev main_v357 : Ref sig .tc := ⟨.hbm, 459, rfl⟩
abbrev main_v358 : Ref sig .tc := ⟨.hbm, 460, rfl⟩

abbrev nD : Nat := 1
abbrev τ : Topo := Topo.v7x

variable {F : FTy → Type} [FloatOps F]
-- ==== AdamK.lean ====
abbrev S4x1024x1408 : Shape := ⟨3, ![4, 1024, 1408]⟩
abbrev S4096x1408 : Shape := ⟨2, ![4096, 1408]⟩
abbrev S128x1408 : Shape := ⟨2, ![128, 1408]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S4096x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRIdeal.lean ====
abbrev S4x1024x1408 : Shape := ⟨3, ![4, 1024, 1408]⟩
abbrev S_ : Shape := ⟨0, ![]⟩
abbrev S4096x1408 : Shape := ⟨2, ![4096, 1408]⟩

abbrev nBuf : Space → Nat
  | .hbm => 41
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S_, .f32⟩
  | .hbm, ⟨5, _⟩ => ⟨S4x1024x1408, .f32⟩
  | .hbm, ⟨6, _⟩ => ⟨S4x1024x1408, .f32⟩
  | .hbm, ⟨7, _⟩ => ⟨S_, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .hbm, ⟨11, _⟩ => ⟨S_, .f32⟩
  | .hbm, ⟨12, _⟩ => ⟨S4x1024x1408, .f32⟩
  | .hbm, ⟨13, _⟩ => ⟨S4x1024x1408, .f32⟩
  | .hbm, ⟨14, _⟩ => ⟨S4x1024x1408, .f32⟩
  | .hbm, ⟨15, _⟩ => ⟨S_, .f32⟩
  | .hbm, ⟨16, _⟩ => ⟨S4x1024x1408, .f32⟩
  | .hbm, ⟨17, _⟩ => ⟨S4x1024x1408, .f32⟩
  | .hbm, ⟨18, _⟩ => ⟨S4x1024x1408, .f32⟩
  | .hbm, ⟨19, _⟩ => ⟨S_, .f32⟩
  | .hbm, ⟨20, _⟩ => ⟨S4x1024x1408, .f32⟩
  | .hbm, ⟨21, _⟩ => ⟨S4x1024x1408, .f32⟩
  | .hbm, ⟨22, _⟩ => ⟨S_, .f32⟩
  | .hbm, ⟨23, _⟩ => ⟨S4x1024x1408, .f32⟩
  | .hbm, ⟨24, _⟩ => ⟨S4x1024x1408, .f32⟩
  | .hbm, ⟨25, _⟩ => ⟨S4x1024x1408, .f32⟩
  | .hbm, ⟨26, _⟩ => ⟨S_, .f32⟩
  | .hbm, ⟨27, _⟩ => ⟨S4x1024x1408, .f32⟩
  | .hbm, ⟨28, _⟩ => ⟨S4x1024x1408, .f32⟩
  | .hbm, ⟨29, _⟩ => ⟨S4x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S4x1024x1408, .f32⟩
  | .hbm, ⟨34, _⟩ => ⟨S_, .f32⟩
  | .hbm, ⟨35, _⟩ => ⟨S4x1024x1408, .f32⟩
  | .hbm, ⟨36, _⟩ => ⟨S4x1024x1408, .f32⟩
  | .hbm, ⟨37, _⟩ => ⟨S4096x1408, .f32⟩
  | .hbm, ⟨38, _⟩ => ⟨S4096x1408, .f32⟩
  | .hbm, ⟨39, _⟩ => ⟨S4096x1408, .f32⟩
  | .hbm, ⟨40, _⟩ => ⟨S4096x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AddsK.lean ====
abbrev S4x1024x1408 : Shape := ⟨3, ![4, 1024, 1408]⟩
abbrev S4x512x1408 : Shape := ⟨3, ![4, 512, 1408]⟩
abbrev S1x512x1408 : Shape := ⟨3, ![1, 512, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4x1024x1408, .bf16⟩
  | .hbm, ⟨1, _⟩ => ⟨S4x512x1408, .bf16⟩
  | .hbm, ⟨2, _⟩ => ⟨S4x512x1408, .bf16⟩
  | .local _ .vmem, ⟨0, _⟩ => ⟨S1x512x1408, .bf16⟩
  | .local _ .vmem, ⟨1, _⟩ => ⟨S1x512x1408, .bf16⟩
  | .local _ .vmem, ⟨2, _⟩ => ⟨S1x512x1408, .bf16⟩
  | .local _ .vmem, ⟨3, _⟩ => ⟨S1x512x1408, .bf16⟩
  | .local _ .vmem, ⟨4, _⟩ => ⟨S1x512x1408, .bf16⟩
  | .local _ .vmem, ⟨5, _⟩ => ⟨S1x512x1408, .bf16⟩
  | _, _ => ⟨S4x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddsRIdeal.lean ====
abbrev S4x1024x1408 : Shape := ⟨3, ![4, 1024, 1408]⟩
abbrev S4x512x1408 : Shape := ⟨3, ![4, 512, 1408]⟩

abbrev nBuf : Space → Nat
  | .hbm => 7
  | .vmem => 0
  | .smem => 0
  | _ => 0

abbrev bufTy : (tb : Table) → Fin (tcTables nBuf tb) → BufTy
  | .hbm, ⟨0, _⟩ => ⟨S4x1024x1408, .bf16⟩
  | .hbm, ⟨1, _⟩ => ⟨S4x512x1408, .bf16⟩
  | .hbm, ⟨2, _⟩ => ⟨S4x512x1408, .bf16⟩
  | .hbm, ⟨3, _⟩ => ⟨S4x512x1408, .f32⟩
  | .hbm, ⟨4, _⟩ => ⟨S4x512x1408, .f32⟩
  | .hbm, ⟨5, _⟩ => ⟨S4x512x1408, .f32⟩
  | .hbm, ⟨6, _⟩ => ⟨S4x512x1408, .bf16⟩
  | _, _ => ⟨S4x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== AddcK.lean ====
abbrev S4x512x1408 : Shape := ⟨3, ![4, 512, 1408]⟩
abbrev S4x1024x1408 : Shape := ⟨3, ![4, 1024, 1408]⟩
abbrev S1x512x1408 : Shape := ⟨3, ![1, 512, 1408]⟩
abbrev S512x1408 : Shape := ⟨2, ![512, 1408]⟩

abbrev nBuf : Space → Nat
  | .hbm => 4
  | .vmem => 5
  | .smem => 0
  | _ => 0

abbrev bufTy : (tb : Table) → Fin (tcTables nBuf tb) → BufTy
  | .hbm, ⟨0, _⟩ => ⟨S4x512x1408, .bf16⟩
  | .hbm, ⟨1, _⟩ => ⟨S4x512x1408, .bf16⟩
  | .hbm, ⟨2, _⟩ => ⟨S4x1024x1408, .f32⟩
  | .hbm, ⟨3, _⟩ => ⟨S4x1024x1408, .f32⟩
  | .local _ .vmem, ⟨0, _⟩ => ⟨S1x512x1408, .bf16⟩
  | .local _ .vmem, ⟨1, _⟩ => ⟨S1x512x1408, .bf16⟩
  | .local _ .vmem, ⟨2, _⟩ => ⟨S1x512x1408, .bf16⟩
  | .local _ .vmem, ⟨3, _⟩ => ⟨S1x512x1408, .bf16⟩
  | .local _ .vmem, ⟨4, _⟩ => ⟨S1x512x1408, .f32⟩
  | _, _ => ⟨S4x512x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x512x1408 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== AddcRIdeal.lean ====
abbrev S4x512x1408 : Shape := ⟨3, ![4, 512, 1408]⟩
abbrev S4x1024x1408 : Shape := ⟨3, ![4, 1024, 1408]⟩
abbrev S1x512x1408 : Shape := ⟨3, ![1, 512, 1408]⟩
abbrev S3x512x1408 : Shape := ⟨3, ![3, 512, 1408]⟩
abbrev S_ : Shape := ⟨0, ![]⟩
abbrev S512x1408 : Shape := ⟨2, ![512, 1408]⟩

abbrev nBuf : Space → Nat
  | .hbm => 14
  | .vmem => 0
  | .smem => 0
  | _ => 0

abbrev bufTy : (tb : Table) → Fin (tcTables nBuf tb) → BufTy
  | .hbm, ⟨0, _⟩ => ⟨S4x512x1408, .bf16⟩
  | .hbm, ⟨1, _⟩ => ⟨S4x512x1408, .bf16⟩
  | .hbm, ⟨2, _⟩ => ⟨S4x1024x1408, .f32⟩
  | .hbm, ⟨3, _⟩ => ⟨S1x512x1408, .bf16⟩
  | .hbm, ⟨4, _⟩ => ⟨S3x512x1408, .bf16⟩
  | .hbm, ⟨5, _⟩ => ⟨S4x512x1408, .bf16⟩
  | .hbm, ⟨6, _⟩ => ⟨S4x512x1408, .f32⟩
  | .hbm, ⟨7, _⟩ => ⟨S_, .f32⟩
  | .hbm, ⟨8, _⟩ => ⟨S512x1408, .f32⟩
  | .hbm, ⟨9, _⟩ => ⟨S1x512x1408, .f32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S4x1024x1408, .f32⟩
  | _, _ => ⟨S4x512x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_v6 : Ref sig .tc := ⟨.hbm, 13, rfl⟩

abbrev nD : Nat := 1
abbrev τ : Topo := Topo.v7x

variable {F : FTy → Type} [FloatOps F]
-- ==== Proof.Finite.lean ====
/- Untrusted helpers shared by the value proofs: arrays of real numbers inside the extended reals, what a printed
   "every entry is finite" says of its array, and the exact operations on real numbers. -/
module

public import Idealize.ShloMosaic.Init
public import Idealize.ShloMosaic.Lib.StableHlo
public import Idealize.ShloMosaic.PureOps
public import Idealize.ShloMosaic.PureOps.Ideal
public import Idealize.ShloMosaic.Lib.ReduceAll
public import Idealize.ShloMosaic.Lib.Pointwise.Index

@[expose] public section

noncomputable section

open Idealize.ShloMosaic
open scoped BigOperators

namespace Cert.Finite

/-- An extended real whose absolute value is below `⊤` is a real number. -/
theorem exists_real {x : EReal} (h : max x (-x) < ⊤) : ∃ r : ℝ, x = r := by
  induction x using EReal.rec with
  | bot => simp at h
  | coe r => exact ⟨r, rfl⟩
  | top => simp at h

/-- The word of `+∞` is read as `⊤`. -/
theorem word_inf : (Ideal.ofBits FTy.f32 0x7F800000#32 : EReal) = ⊤ := by
  simp [Ideal.ofBits, Ideal.ieee]

/-- Two one-bit arrays whose elementwise "and" is 1 everywhere are 1 everywhere. -/
theorem and_split {S : Shape} {a b : IVec S 1} (h : andi a b = fun _ => 1#1) :
    (a = fun _ => 1#1) ∧ b = fun _ => 1#1 := by
  refine ⟨funext fun i => ?_, funext fun i => ?_⟩
  · exact (IntOp.andi_eq_one.1 (congrFun h i)).1
  · exact (IntOp.andi_eq_one.1 (congrFun h i)).2

/-- An array of which "the absolute value of every entry is below infinity" is true is an array of reals. -/
theorem array_real {S T U : Shape} {axes : List (Fin S.rank)} [Subsingleton T.Idx] (j : T.Idx) {X : FVec Ideal S .f32}
    {d : Fin U.rank → Fin S.rank} {hb : U.BroadcastsInDim S d}
    {init : IVec U 1} {h : S.ReducesTo axes T} {hu : 0 < U.numel}
    (e : Host.reduce IntOp.andi (cmpf .olt (Host.absf X) (broadcastInDim S d hb (constant U .f32 0x7F800000#32))) init h hu
      = fun _ => 1#1) :
    ∃ f : S.Idx → ℝ, X = fun i => ((f i : ℝ) : EReal) := by
  have key : ∀ i, ∃ r : ℝ, X i = r := fun i => by
    have h1 := Host.reduce_andi_all _ init h hu j (congrFun e j) i
    apply exists_real
    have h2 : Ideal.cmp .olt (max (X i) (-(X i))) (Ideal.ofBits FTy.f32 0x7F800000#32) = 1#1 := h1
    rw [word_inf] at h2
    by_contra hc
    simp [Ideal.cmp, hc] at h2
  exact ⟨fun i => (key i).choose, funext fun i => (key i).choose_spec⟩

/-- A finite sum of reals, taken in the extended reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The quotient of a real by a nonzero real. -/
theorem div_real {y : ℝ} (h : y ≠ 0) (x : ℝ) : Ideal.div (x : EReal) (y : EReal) = ((x / y : ℝ) : EReal) := by
  rw [Ideal.div_coe h, ← EReal.coe_mul, mul_one_div]

/-- The sigmoid as the programs write it, at a real argument. -/
theorem sigmoid_real (x : ℝ) :
    Ideal.div 1 (1 + Ideal.exp (-(x : EReal))) = ((1 / (1 + Real.exp (-x)) : ℝ) : EReal) := by
  have h : (1 + Ideal.exp (-(x : EReal))) = ((1 + Real.exp (-x) : ℝ) : EReal) := by
    rw [← EReal.coe_neg, Ideal.exp_coe]; norm_cast
  rw [h, ← EReal.coe_one, div_real (by positivity)]

/-- The word of one half. -/
theorem word_half : (Ideal.ofBits FTy.f32 0x3F000000#32 : EReal) = ((1 / 2 : ℝ) : EReal) := by
  simp only [Ideal.ofBits, Ideal.ieee]; simp; rw [← EReal.coe_mul]; norm_num

/-- A sum over the two leading axes of a rank-three array, at a coordinate of the third. -/
theorem sum_rows {a b n : ℕ} (h : (⟨3, ![a, b, n]⟩ : Shape).ReducesTo [0, 1] ⟨1, ![n]⟩)
    (v : (⟨3, ![a, b, n]⟩ : Shape).Idx → EReal) (init : EReal) (j : (⟨1, ![n]⟩ : Shape).Idx) :
    Ideal.hostReduceAdd h v init j = init + ∑ x : Fin a, ∑ y : Fin b, v (ix3 x y (j 0)) := by
  unfold Ideal.hostReduceAdd
  refine congrArg (init + ·) ?_
  have at0 : ∀ i : (⟨3, ![a, b, n]⟩ : Shape).Idx, (h.drop i 0).val = (i 2).val := fun i => rfl
  rw [← Fintype.sum_prod_type' (fun x y => v (ix3 x y (j 0)))]
  symm
  refine Finset.sum_bij (fun k _ => ix3 k.1 k.2 (j 0)) ?_ ?_ ?_ fun _ _ => rfl
  · intro k _
    rw [Finset.mem_filter]
    refine ⟨Finset.mem_univ _, funext fun c => ?_⟩
    match c with
    | ⟨0, _⟩ => exact Fin.ext (at0 _)
  · intro k _ l _ e
    exact Prod.ext (congrFun e 0) (congrFun e 1)
  · intro i hi
    rw [Finset.mem_filter] at hi
    refine ⟨(i 0, i 1), Finset.mem_univ _, ?_⟩
    funext c
    match c with
    | ⟨0, _⟩ => rfl
    | ⟨1, _⟩ => rfl
    | ⟨2, _⟩ => exact Fin.ext ((congrArg (fun q => (q 0).val) hi.2).symm.trans (at0 i))

/-- A rank-three index from its coordinates. -/
theorem ext3 {a b n : ℕ} {i : (⟨3, ![a, b, n]⟩ : Shape).Idx} {x : Fin a} {y : Fin b} {z : Fin n}
    (h0 : (i 0).val = x.val) (h1 : (i 1).val = y.val) (h2 : (i 2).val = z.val) : i = ix3 x y z := by
  funext c
  match c with
  | ⟨0, _⟩ => exact Fin.ext h0
  | ⟨1, _⟩ => exact Fin.ext h1
  | ⟨2, _⟩ => exact Fin.ext h2

/-- A rank-two index from its coordinates. -/
theorem ext2 {a b : ℕ} {i : (⟨2, ![a, b]⟩ : Shape).Idx} {x : Fin a} {y : Fin b}
    (h0 : (i 0).val = x.val) (h1 : (i 1).val = y.val) : i = ix2 x y := by
  funext c
  match c with
  | ⟨0, _⟩ => exact Fin.ext h0
  | ⟨1, _⟩ => exact Fin.ext h1

end Cert.Finite

end
-- ==== Proof.Dact.lean ====
/- Untrusted: the value of the feed-forward gate's gradient kernel, and of its reference, at one index. -/
module

public import proofs.«01_k».proof.Proof.Finite
public import proofs.«01_k».proof.Proof.Gen.DactKIdeal.Value
public import proofs.«01_k».proof.Proof.Gen.DactRIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Dact

open Cert.DactKIdeal Cert.DactKIdeal.Gen

variable (m : (ℓ : Loc nD τ sig) → Buf (Elt Ideal) ℓ)

/-- Every window's block index at a grid point, and the row where the body's slice of the weight starts. -/
theorem idx_val : ∀ t : Fin cfg0.N, win0_0.index t = ![t.val / 2, 0]
    ∧ win0_1.index t = ![0, 0]
    ∧ win0_2.index t = ![0, t.val / 2, t.val % 2]
    ∧ win0_3.index t = ![1, t.val / 2, t.val % 2]
    ∧ win0_4.index t = ![0, t.val / 2, t.val % 2]
    ∧ k0_off1 (grid0.coords t) = ![t.val % 2 * 1408, 0] :=
  (by decide +kernel : ∀ t : Fin grid0.N, _)

/-- Row `r` of the flattened (batch, position) axis as its batch index. -/
abbrev bi (r : Fin 4096) : Fin 2 := ⟨r.val / 2048, by omega⟩
/-- Row `r` of the flattened (batch, position) axis as its position index. -/
abbrev si (r : Fin 4096) : Fin 2048 := ⟨r.val % 2048, by omega⟩

/-- The gradient of the gate's output at row `r`, feature `f`: half the product of the cotangent with the weight. -/
def da (w : FVec Ideal S2816x1024 .f32) (d : FVec Ideal S2x2048x1024 .f32) (r : Fin 4096) (f : Fin 2816) : EReal :=
  Ideal.ofBits FTy.f32 0x3F000000#32 * ∑ k : Fin 1024, d (ix3 (bi r) (si r) k) * w (ix2 f k)

/-- The sigmoid, as the kernel's body computes it. -/
def sg (x : EReal) : EReal := Ideal.div 1 (1 + Ideal.exp (0 - x))

/-- What the kernel computes: plane 0 the gradient of the gate's argument, plane 1 the gradient of the other factor. -/
def REF (g u : FVec Ideal S2x2048x2816 .f32) (w : FVec Ideal S2816x1024 .f32) (d : FVec Ideal S2x2048x1024 .f32) :
    FVec Ideal S2x4096x2816 .bf16 := fun i =>
  let G := g (ix3 (bi (i 1)) (si (i 1)) (i 2))
  if (i 0).val = 0 then
    da w d (i 1) (i 2) * u (ix3 (bi (i 1)) (si (i 1)) (i 2)) * (sg G + G * sg G * (1 - sg G))
  else da w d (i 1) (i 2) * (G * sg G)

/-- The two planes the kernel reads, as the host stacks them: plane 0 is the gate's argument. -/
theorem V4_0 (c : Dev nD) (j : S2x4096x2816.Idx) (h : (j 0 : ℕ) = 0) :
    V m c main_v4 j = m ((c : Thread nD τ).loc main_arg0) (ix3 (bi (j 1)) (si (j 1)) (j 2)) := by
  entry_read
  pointwise
  rw [dif_pos (by omega)]

/-- Plane 1 is the other factor. -/
theorem V4_1 (c : Dev nD) (j : S2x4096x2816.Idx) (h : (j 0 : ℕ) = 1) :
    V m c main_v4 j = m ((c : Thread nD τ).loc main_arg1) (ix3 (bi (j 1)) (si (j 1)) (j 2)) := by
  entry_read
  pointwise
  rw [dif_neg (by omega)]

/-- The gate's argument as point `t` reads it. -/
theorem blk2 (c : Dev nD) (t : Fin cfg0.N) (x : S1x1024x1408.Idx) (j : S2x4096x2816.Idx)
    (h1 : (j 1 : ℕ) = t.val / 2 * 1024 + x 1) (h2 : (j 2 : ℕ) = t.val % 2 * 1408 + x 2) :
    (iblk m c 2 t : Vec Ideal S1x1024x1408 .bf16) x = m ((c : Thread nD τ).loc main_arg0) (ix3 (bi (j 1)) (si (j 1)) (j 2)) := by
  have k0 : ((((cfg0.win 2).blk t).view.emb x : S2x4096x2816.Idx) 0 : ℕ) = 0 := by blk_simp [idx_val t]
  have k1 : (((cfg0.win 2).blk t).view.emb x : S2x4096x2816.Idx) 1 = j 1 := Fin.ext (by blk_simp [idx_val t]; omega)
  have k2 : (((cfg0.win 2).blk t).view.emb x : S2x4096x2816.Idx) 2 = j 2 := Fin.ext (by blk_simp [idx_val t]; omega)
  unfold iblk
  rw [View.read_apply, cast_eq]
  refine (V4_0 m c _ k0).trans ?_
  rw [k1, k2]

/-- The other factor as point `t` reads it. -/
theorem blk3 (c : Dev nD) (t : Fin cfg0.N) (x : S1x1024x1408.Idx) (j : S2x4096x2816.Idx)
    (h1 : (j 1 : ℕ) = t.val / 2 * 1024 + x 1) (h2 : (j 2 : ℕ) = t.val % 2 * 1408 + x 2) :
    (iblk m c 3 t : Vec Ideal S1x1024x1408 .bf16) x = m ((c : Thread nD τ).loc main_arg1) (ix3 (bi (j 1)) (si (j 1)) (j 2)) := by
  have k0 : ((((cfg0.win 3).blk t).view.emb x : S2x4096x2816.Idx) 0 : ℕ) = 1 := by blk_simp [idx_val t] <;> omega
  have k1 : (((cfg0.win 3).blk t).view.emb x : S2x4096x2816.Idx) 1 = j 1 := Fin.ext (by blk_simp [idx_val t]; omega)
  have k2 : (((cfg0.win 3).blk t).view.emb x : S2x4096x2816.Idx) 2 = j 2 := Fin.ext (by blk_simp [idx_val t]; omega)
  unfold iblk
  rw [View.read_apply, cast_eq]
  refine (V4_1 m c _ k0).trans ?_
  rw [k1, k2]

/-- The flattened cotangent at an index. -/
theorem V6 (c : Dev nD) (j : S4096x1024.Idx) :
    V m c main_v6 j = m ((c : Thread nD τ).loc main_arg3) (ix3 (bi (j 0)) (si (j 0)) (j 1)) := by
  entry_read
  pointwise

/-- The weight, cast, at an index. -/
theorem V7 (c : Dev nD) (j : S2816x1024.Idx) :
    V m c main_v7 j = m ((c : Thread nD τ).loc main_arg2) j := by
  entry_read
  pointwise

/-- The cotangent's rows as point `t` reads them. -/
theorem blk0 (c : Dev nD) (t : Fin cfg0.N) (a k : Fin 1024) (r : Fin 4096) (h : r.val = t.val / 2 * 1024 + a) :
    (iblk m c 0 t : Vec Ideal S1024x1024 .bf16) (ix2 a k) = m ((c : Thread nD τ).loc main_arg3) (ix3 (bi r) (si r) k) := by
  have k0 : (((cfg0.win 0).blk t).view.emb (ix2 a k) : S4096x1024.Idx) 0 = r := Fin.ext (by blk_simp [idx_val t]; omega)
  have k1 : (((cfg0.win 0).blk t).view.emb (ix2 a k) : S4096x1024.Idx) 1 = k := Fin.ext (by blk_simp [idx_val t])
  unfold iblk
  rw [View.read_apply, cast_eq]
  refine (V6 m c _).trans ?_
  rw [k0, k1]

/-- Every point reads the whole weight. -/
theorem blk1 (c : Dev nD) (t : Fin cfg0.N) (y : S2816x1024.Idx) :
    (iblk m c 1 t : Vec Ideal S2816x1024 .bf16) y = m ((c : Thread nD τ).loc main_arg2) y := by
  have k0 : (((cfg0.win 1).blk t).view.emb y : S2816x1024.Idx) = y := by
    funext a; match a with
    | ⟨0, _⟩ => exact Fin.ext (by blk_simp [idx_val t])
    | ⟨1, _⟩ => exact Fin.ext (by blk_simp [idx_val t])
  unfold iblk
  rw [View.read_apply, cast_eq]
  exact (V7 m c _).trans (by rw [k0])

/-- The weight's rows as point `t` slices them. -/
theorem ld1 (c : Dev nD) (t : Fin cfg0.N) (x : Fin 1408) (f : Fin 2816) (k : Fin 1024) (h : f.val = t.val % 2 * 1408 + x) :
    View.ld (iblk m c 1 t : Vec Ideal S2816x1024 .bf16) (Rect.unit (k0_off1 (grid0.coords t)) ![1408, 1024] (k0_off1_inb (grid0.coords t))) (ix2 x k)
      = m ((c : Thread nD τ).loc main_arg2) (ix2 f k) := by
  have e := (idx_val t).2.2.2.2.2
  refine (blk1 m c t _).trans ?_
  refine congrArg (m ((c : Thread nD τ).loc main_arg2)) ?_
  funext a; match a with
  | ⟨0, _⟩ => exact Fin.ext (by simp [e]; omega)
  | ⟨1, _⟩ => exact Fin.ext (by simp [e])

section Core

variable {g u : FVec Ideal S2x2048x2816 .f32} {w : FVec Ideal S2816x1024 .f32} {d : FVec Ideal S2x2048x1024 .f32}
  {v0 : Vec Ideal S1024x1024 .bf16} {v5 : Vec Ideal S1408x1024 .bf16} {v8 v10 : Vec Ideal S1x1024x1408 .bf16}
  {x : S1x1024x1408.Idx} {j : S2x4096x2816.Idx}

/-- The first store's value at an index, from what the blocks hold there. -/
theorem core0 (h0 : (j 0 : ℕ) = 0) (hd : ∀ k, v0 (ix2 (x 1) k) = d (ix3 (bi (j 1)) (si (j 1)) k))
    (hw : ∀ k, v5 (ix2 (x 2) k) = w (ix2 (j 2) k)) (hg : v8 x = g (ix3 (bi (j 1)) (si (j 1)) (j 2)))
    (hu : v10 x = u (ix3 (bi (j 1)) (si (j 1)) (j 2))) : k0_pay6 v0 v5 v8 v10 x = REF g u w d j := by
  unfold REF
  rw [if_pos h0]
  pointwise [k0_pay6, k0_pay5, k0_pay4, k0_pay3, k0_pay2, da, sg]
  simp only [hd, hw, hg, hu]

/-- The second store's value at an index, from what the blocks hold there. -/
theorem core1 (h0 : (j 0 : ℕ) = 1) (hd : ∀ k, v0 (ix2 (x 1) k) = d (ix3 (bi (j 1)) (si (j 1)) k))
    (hw : ∀ k, v5 (ix2 (x 2) k) = w (ix2 (j 2) k)) (hg : v8 x = g (ix3 (bi (j 1)) (si (j 1)) (j 2))) :
    k0_pay1 (k0_pay7 v0 v5 v8) x = REF g u w d j := by
  unfold REF
  rw [if_neg (by omega)]
  pointwise [k0_pay1, k0_pay7, k0_pay5, k0_pay4, k0_pay3, k0_pay2, da, sg]
  simp only [hd, hw, hg]

end Core

set_option maxHeartbeats 1600000 in
/-- The array the kernel leaves is `REF` of its arguments. -/
theorem final (c : Dev nD) : (dats m 0 c).arrAt 4 (cfgs 0).N = REF (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]
  unfold outsAt0; frame_out
  obtain ⟨j, hj⟩ : ∃ j : S2x4096x2816.Idx, j = ((View.whole main_v8).slice (win0_4.rect t)).emb y := ⟨_, rfl⟩
  have j0 : (j 0 : ℕ) = y 0 := by rw [hj]; blk_simp [idx_val t] <;> try omega
  have j1 : (j 1 : ℕ) = t.val / 2 * 1024 + y 1 := by rw [hj]; blk_simp [idx_val t] <;> try omega
  have j2 : (j 2 : ℕ) = t.val % 2 * 1408 + y 2 := by rw [hj]; blk_simp [idx_val t] <;> try omega
  rw [← hj]
  canon_tiles x h
  · exact core1 (by omega) (fun k => blk0 m c t _ k _ (by omega)) (fun k => ld1 m c t _ _ k (by omega))
      (blk2 m c t x j (by omega) (by omega))
  · exact core0 (by omega) (fun k => blk0 m c t _ k _ (by omega)) (fun k => ld1 m c t _ _ k (by omega))
      (blk2 m c t x j (by omega) (by omega)) (blk3 m c t x j (by omega) (by omega))

section Algebra

open Cert.DactRIdeal.Read

variable (g u : S2x2048x2816.Idx → ℝ) (w : S2816x1024.Idx → ℝ) (d : S2x2048x1024.Idx → ℝ)

/-- The reference's gradient of the gate's output. -/
theorem ref_da (x2 : FVec Ideal S2816x1024 .f32) (x3 : FVec Ideal S2x2048x1024 .f32) (i : S2x2048x2816.Idx) :
    val_main_v9 (F := Ideal) x2 x3 i
      = ∑ k : Fin 1024, Ideal.ofBits FTy.f32 0x3F000000#32 * x3 (ix3 (i 0) (i 1) k) * x2 (ix2 (i 2) k) := by
  pointwise [val_main_v9, val_main_v6, val_main_v5, val_main_cst_0]

/-- The reference's gradient of the gate's argument. -/
theorem ref_dg (x0 x1 : FVec Ideal S2x2048x2816 .f32) (x2 : FVec Ideal S2816x1024 .f32) (x3 : FVec Ideal S2x2048x1024 .f32)
    (i : S2x2048x2816.Idx) :
    val_main_v12 (F := Ideal) x0 x1 x2 x3 i =
      val_main_v9 (F := Ideal) x2 x3 i * x1 i * Ideal.div 1 (1 + Ideal.exp (-x0 i)) +
      x0 i * (val_main_v9 (F := Ideal) x2 x3 i * x1 i) *
        (Ideal.div 1 (1 + Ideal.exp (-x0 i)) * (1 - Ideal.div 1 (1 + Ideal.exp (-x0 i)))) := by
  pointwise [val_main_v12, val_main_v11, val_main_v10,
    val_main_call1_v2, val_main_call1_v1, val_main_call1_v0,
    val_main_v0_0, val_main_v0_1, val_main_v0_2, val_main_call0_v7, val_main_call0_v6, val_main_call0_cst_1,
    val_main_call0_v4, val_main_call0_cst_0, val_main_call0_v3, val_main_call0_v2, val_main_call0_cst, val_main_call0_v1, val_main_call0_v0]

/-- The reference's gradient of the other factor. -/
theorem ref_du (x0 : FVec Ideal S2x2048x2816 .f32) (x2 : FVec Ideal S2816x1024 .f32) (x3 : FVec Ideal S2x2048x1024 .f32)
    (i : S2x2048x2816.Idx) :
    val_main_v10 (F := Ideal) x0 x2 x3 i =
      x0 i * Ideal.div 1 (1 + Ideal.exp (-x0 i)) * val_main_v9 (F := Ideal) x2 x3 i := by
  pointwise [val_main_v10,
    val_main_v0_0, val_main_v0_1, val_main_v0_2, val_main_call0_v7, val_main_call0_v6, val_main_call0_cst_1,
    val_main_call0_v4, val_main_call0_cst_0, val_main_call0_v3, val_main_call0_v2, val_main_call0_cst, val_main_call0_v1, val_main_call0_v0]

/-- The stacked index of a flattened one, coordinate by coordinate. -/
theorem flat_idx (j : S2x4096x2816.Idx) : (idx_main_v16 j 0).val = (j 0).val ∧ idx_main_v16 j 1 = bi (j 1)
    ∧ idx_main_v16 j 2 = si (j 1) ∧ idx_main_v16 j 3 = j 2 := by
  have h0 : (j 0).val < 2 := (j 0).isLt
  have h1 : (j 1).val < 4096 := (j 1).isLt
  have h2 : (j 2).val < 2816 := (j 2).isLt
  refine ⟨?_, Fin.ext ?_, Fin.ext ?_, Fin.ext ?_⟩
  · show (((j 0).val * 4096 + (j 1).val) * 2816 + (j 2).val) / 11534336 = (j 0).val; omega
  · show (((j 0).val * 4096 + (j 1).val) * 2816 + (j 2).val) / 5767168 % 2 = (j 1).val / 2048; omega
  · show (((j 0).val * 4096 + (j 1).val) * 2816 + (j 2).val) / 2816 % 2048 = (j 1).val % 2048; omega
  · show (((j 0).val * 4096 + (j 1).val) * 2816 + (j 2).val) % 2816 = (j 2).val; omega

/-- The reference's result at an index of plane 0 ... -/
theorem ref_out0 (x0 x1 : FVec Ideal S2x2048x2816 .f32) (x2 : FVec Ideal S2816x1024 .f32) (x3 : FVec Ideal S2x2048x1024 .f32)
    (j : S2x4096x2816.Idx) (h : (j 0).val = 0) :
    val_main_v17 (F := Ideal) x0 x1 x2 x3 j = val_main_v12 (F := Ideal) x0 x1 x2 x3 (ix3 (bi (j 1)) (si (j 1)) (j 2)) := by
  obtain ⟨h0, h1, h2, h3⟩ := flat_idx j
  rw [val_main_v17_apply, val_main_v16_apply]
  unfold val_main_v15 val_main_v14 val_main_v13
  generalize idx_main_v16 j = i at *
  pointwise
  rw [dif_pos (by omega), h1, h2, h3]

/-- ... and of plane 1: the two gradients stacked and flattened. -/
theorem ref_out1 (x0 x1 : FVec Ideal S2x2048x2816 .f32) (x2 : FVec Ideal S2816x1024 .f32) (x3 : FVec Ideal S2x2048x1024 .f32)
    (j : S2x4096x2816.Idx) (h : (j 0).val = 1) :
    val_main_v17 (F := Ideal) x0 x1 x2 x3 j = val_main_v10 (F := Ideal) x0 x2 x3 (ix3 (bi (j 1)) (si (j 1)) (j 2)) := by
  obtain ⟨h0, h1, h2, h3⟩ := flat_idx j
  rw [val_main_v17_apply, val_main_v16_apply]
  unfold val_main_v15 val_main_v14 val_main_v13
  generalize idx_main_v16 j = i at *
  pointwise
  rw [dif_neg (by omega), h1, h2, h3]

/-- The kernel's sigmoid at a real. -/
theorem sg_real (x : ℝ) : sg (x : EReal) = ((1 / (1 + Real.exp (-x)) : ℝ) : EReal) := by
  unfold sg
  rw [zero_sub, Cert.Finite.sigmoid_real]

/-- The gradient of the gate's output at reals. -/
theorem da_real (r : Fin 4096) (f : Fin 2816) :
    da (fun i => ((w i : ℝ) : EReal)) (fun i => ((d i : ℝ) : EReal)) r f
      = ((1 / 2 * ∑ k : Fin 1024, d (ix3 (bi r) (si r) k) * w (ix2 f k) : ℝ) : EReal) := by
  unfold da
  rw [Cert.Finite.word_half]
  simp only [← EReal.coe_mul, Cert.Finite.coe_sum]

/-- The reference's gradient of the gate's output at reals. -/
theorem ref_da_real (i : S2x2048x2816.Idx) :
    val_main_v9 (F := Ideal) (fun i => ((w i : ℝ) : EReal)) (fun i => ((d i : ℝ) : EReal)) i
      = ((1 / 2 * ∑ k : Fin 1024, d (ix3 (i 0) (i 1) k) * w (ix2 (i 2) k) : ℝ) : EReal) := by
  rw [ref_da, Cert.Finite.word_half]
  simp only [← EReal.coe_mul, Cert.Finite.coe_sum]
  refine congrArg _ ?_
  rw [Finset.mul_sum]
  exact Finset.sum_congr rfl fun k _ => by ring

/-- `REF` of real arrays is the reference's result: the derivative of the sigmoid gate, and the weight's product
    with the half taken before the sum. -/
theorem ref_eq :
    REF (fun i => ((g i : ℝ) : EReal)) (fun i => ((u i : ℝ) : EReal)) (fun i => ((w i : ℝ) : EReal)) (fun i => ((d i : ℝ) : EReal))
    = val_main_v17 (F := Ideal) (fun i => ((g i : ℝ) : EReal)) (fun i => ((u i : ℝ) : EReal))
        (fun i => ((w i : ℝ) : EReal)) (fun i => ((d i : ℝ) : EReal)) := by
  funext j
  by_cases h : (j 0).val = 0
  · rw [ref_out0 _ _ _ _ j h, ref_dg, ref_da_real]
    unfold REF
    rw [if_pos h]
    idx_vars j
    simp only [da_real, sg_real, Cert.Finite.sigmoid_real]
    simp only [← EReal.coe_mul, ← EReal.coe_add, ← EReal.coe_sub, ← EReal.coe_one]
    refine congrArg _ ?_
    simp only [ix3]
    ring
  · have h1 : (j 0).val < 2 := (j 0).isLt
    rw [ref_out1 _ (fun i => ((u i : ℝ) : EReal)) _ _ j (by omega), ref_du, ref_da_real]
    unfold REF
    rw [if_neg h]
    idx_vars j
    simp only [da_real, sg_real, Cert.Finite.sigmoid_real]
    simp only [← EReal.coe_mul, ← EReal.coe_add, ← EReal.coe_sub, ← EReal.coe_one]
    refine congrArg _ ?_
    ring

end Algebra

end Cert.Dact
end
-- ==== Proof.DactClaims.lean ====
/- Untrusted: the claims about the gradient of the feed-forward gate. -/
module

public import proofs.«01_k».proof.Defs
public import proofs.«01_k».proof.Proof.Dact
public import proofs.«01_k».proof.Proof.Gen.DactK.Frame
public import proofs.«01_k».proof.Proof.Gen.DactRIdeal.Run
public import Idealize.ShloMosaic.Adequacy
public import Idealize.ShloMosaic.Lib.Quiescent

@[expose] public section

noncomputable section

namespace Cert.Dact

open Idealize.ShloMosaic Idealize.ShloMosaic.TcCoe Idealize.SL.Sem

/-- The side conditions of the precondition's operations. -/
theorem preFacts : Cert.Pre_dact_finite.Facts where
  bcast_S_S2x2048x2816 := by decide
  reducesTo_S2x2048x2816_S_d0_1_2 := by decide
  h_S_ := by decide
  bcast_S_S2816x1024 := by decide
  reducesTo_S2816x1024_S_d0_1 := by decide
  bcast_S_S2x2048x1024 := by decide
  reducesTo_S2x2048x1024_S_d0_1_2 := by decide

instance : Subsingleton Cert.Pre_dact_finite.S_.Idx := ⟨fun a b => funext fun k => k.elim0⟩

/-- Under the precondition the four arguments are arrays of reals. -/
theorem reals [Cert.Pre_dact_finite.Facts] {x0 x1 : FVec Ideal Cert.Pre_dact_finite.S2x2048x2816 .f32}
    {x2 : FVec Ideal Cert.Pre_dact_finite.S2816x1024 .f32} {x3 : FVec Ideal Cert.Pre_dact_finite.S2x2048x1024 .f32}
    (h : Cert.Pre_dact_finite.fn (F := Ideal) x0 x1 x2 x3 = fun _ => 1#1) :
    (∃ f : Cert.Pre_dact_finite.S2x2048x2816.Idx → ℝ, x0 = fun i => ((f i : ℝ) : EReal)) ∧ (∃ f : Cert.Pre_dact_finite.S2x2048x2816.Idx → ℝ, x1 = fun i => ((f i : ℝ) : EReal))
      ∧ (∃ f : Cert.Pre_dact_finite.S2816x1024.Idx → ℝ, x2 = fun i => ((f i : ℝ) : EReal)) ∧ ∃ f : Cert.Pre_dact_finite.S2x2048x1024.Idx → ℝ, x3 = fun i => ((f i : ℝ) : EReal) := by
  unfold Cert.Pre_dact_finite.fn Cert.Pre_dact_finite.fn_part1 at h
  obtain ⟨h, h3⟩ := Cert.Finite.and_split h
  obtain ⟨h, h2⟩ := Cert.Finite.and_split h
  obtain ⟨h0, h1⟩ := Cert.Finite.and_split h
  exact ⟨Cert.Finite.array_real (fun a => a.elim0) h0, Cert.Finite.array_real (fun a => a.elim0) h1,
    Cert.Finite.array_real (fun a => a.elim0) h2, Cert.Finite.array_real (fun a => a.elim0) h3⟩

/-- The reference's runs end with its counters at zero. -/
theorem quiescentR : quiescent_DactRIdeal := fun m ρ _ =>
  (θ_run Cert.DactRIdeal.defs _ _).mono (fun r h => ⟨fun c => (h c).2, sem_eq_zero_of_no_sems (by decide) r.2⟩)
    (Cert.DactRIdeal.Value.run (F := Ideal) m ρ)

/-- On finite arguments the kernel's two planes are the reference's derivatives. -/
theorem algebraic [Cert.Pre_dact_finite.Facts] : algebraic_DactKIdeal_DactRIdeal_pre_dact_finite := by
  intro m ρ m' ρ' hpre hagree
  refine ⟨_, Cert.DactKIdeal.Value.run_blocks (F := Ideal) m ρ, ?_⟩
  refine (θ_run Cert.DactRIdeal.defs _ _).mono (fun _ h c => ⟨?_, (h c).2⟩) (Cert.DactRIdeal.Value.run (F := Ideal) m' ρ')
  obtain ⟨⟨g, hg⟩, ⟨u, hu⟩, ⟨w, hw⟩, ⟨d, hd⟩⟩ := reals (hpre c)
  refine (h c).1.trans ?_
  rw [Cert.DactRIdeal.Read.val_main_v17_eq, (hagree c).1, (hagree c).2.1, (hagree c).2.2.1, (hagree c).2.2.2]
  refine Eq.trans ?_ (final m c).symm
  rw [hg, hu, hw, hd]
  exact (ref_eq g u w d).symm

end Cert.Dact
end
-- ==== Proof.Conv.lean ====
/- Untrusted: the value of the short convolution's gradient kernel, and of its reference, at one index. -/
module

public import proofs.«01_k».proof.Proof.Finite
public import proofs.«01_k».proof.Proof.Gen.ConvKIdeal.Value
public import proofs.«01_k».proof.Proof.Gen.ConvRIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Conv

open Cert.ConvKIdeal Cert.ConvKIdeal.Gen

variable (m : (ℓ : Loc nD τ sig) → Buf (Elt Ideal) ℓ)

/-- Every window's block index at a grid point. -/
theorem idx_val : ∀ t : Fin cfg0.N, win0_0.index t = ![t.val % 2, t.val / 2]
    ∧ win0_1.index t = ![t.val % 2, 4 + (t.val / 2)]
    ∧ win0_2.index t = ![t.val % 2, 8 + (t.val / 2)]
    ∧ win0_3.index t = ![0, t.val / 2]
    ∧ win0_4.index t = ![t.val % 2, t.val / 2]
    ∧ win0_5.index t = ![t.val % 2, t.val / 2]
    ∧ win0_6.index t = ![t.val % 2, t.val / 2]
    ∧ win0_7.index t = ![t.val % 2, t.val / 2]
    ∧ win0_8.index t = ![0, t.val / 2] :=
  (by decide +kernel : ∀ t : Fin grid0.N, _)

/-- A column of 2048 values seen from row `s` moved by `k - 1` rows, zero beyond the ends. -/
def halo (v : Fin 2048 → EReal) (k : ℕ) (s : Fin 2048) : EReal :=
  if h : 1 ≤ s.val + k ∧ s.val + k ≤ 2048 then v ⟨s.val + k - 1, by omega⟩ else 0

/-- The stores that leave the padded scratch: its two halos, then its inner rows. -/
abbrev pieces (X : Vec Ideal S2048x128 .f32) : List (View.Piece (Elt Ideal) S2064x128 .f32) :=
  [⟨Rect.unit ![8, 0] ![2048, 128] inb_S2064x128_S2048x128_8_0, X⟩,
    ⟨Rect.unit ![2056, 0] ![8, 128] inb_S2064x128_S8x128_2056_0, k0_pay4 (F := Ideal)⟩,
    ⟨Rect.unit ![0, 0] ![8, 128] inb_S2064x128_S8x128_0_0, k0_pay3 (F := Ideal)⟩]

/-- The same, its inner rows written twice. -/
abbrev pieces2 (X Y : Vec Ideal S2048x128 .f32) : List (View.Piece (Elt Ideal) S2064x128 .f32) :=
  ⟨Rect.unit ![8, 0] ![2048, 128] inb_S2064x128_S2048x128_8_0, X⟩ :: pieces Y

/-- An index of the padded scratch lies in its inner rows exactly when its row is one of 8 … 2055. -/
theorem mem_inner (i : S2064x128.Idx) :
    i ∈ (Rect.unit ![8, 0] ![2048, 128] inb_S2064x128_S2048x128_8_0).set ↔ 8 ≤ (i 0).val ∧ (i 0).val < 2056 := by
  have h1 : (i 1).val < 128 := (i 1).isLt
  rw [Rect.mem_set_unit, Fin.forall_fin_two]
  simp
  omega

/-- The scratch at an inner row: what was stored last. -/
theorem inner (X : Vec Ideal S2048x128 .f32) (L : List (View.Piece (Elt Ideal) S2064x128 .f32)) (i : S2064x128.Idx)
    (s : Fin 2048) (k : Fin 128) (h0 : (i 0).val = 8 + s.val) (h1 : i 1 = k) :
    View.canon (⟨Rect.unit ![8, 0] ![2048, 128] inb_S2064x128_S2048x128_8_0, X⟩ :: L) i = X (ix2 s k) := by
  have e : i = (Rect.unit ![8, 0] ![2048, 128] inb_S2064x128_S2048x128_8_0).emb (ix2 s k : S2048x128.Idx) := by
    funext a; match a with
    | ⟨0, _⟩ => exact Fin.ext (by simp; omega)
    | ⟨1, _⟩ => exact Fin.ext (by simp [← h1])
  rw [e]
  exact View.canon_cons_emb _ _ _ _

/-- The scratch at a row of a halo: zero. -/
theorem outer (i : S2064x128.Idx) (h : ¬ (8 ≤ (i 0).val ∧ (i 0).val < 2056)) :
    View.canon ([⟨Rect.unit ![2056, 0] ![8, 128] inb_S2064x128_S8x128_2056_0, k0_pay4 (F := Ideal)⟩,
      ⟨Rect.unit ![0, 0] ![8, 128] inb_S2064x128_S8x128_0_0, k0_pay3 (F := Ideal)⟩] : List (View.Piece (Elt Ideal) S2064x128 .f32)) i
      = (0 : EReal) := by
  have hi : (i 0).val < 2064 := (i 0).isLt
  have h1 : (i 1).val < 128 := (i 1).isLt
  have cover : ∃ p ∈ ([⟨Rect.unit ![2056, 0] ![8, 128] inb_S2064x128_S8x128_2056_0, k0_pay4 (F := Ideal)⟩,
      ⟨Rect.unit ![0, 0] ![8, 128] inb_S2064x128_S8x128_0_0, k0_pay3 (F := Ideal)⟩] : List (View.Piece (Elt Ideal) S2064x128 .f32)),
      i ∈ p.1.set := by
    by_cases g : (i 0).val < 8
    · refine ⟨_, List.mem_cons_of_mem _ (List.mem_cons_self ..), ?_⟩
      rw [Rect.mem_set_unit, Fin.forall_fin_two]
      simp; omega
    · refine ⟨_, List.mem_cons_self .., ?_⟩
      rw [Rect.mem_set_unit, Fin.forall_fin_two]
      simp; omega
  canon_tiles x h using cover
  · pointwise [k0_pay4, k0_pay3, k0_pay2]
  · pointwise [k0_pay4, k0_pay3, k0_pay2]

/-- The scratch written once, seen by a load that starts `1 - k` rows before the inner rows. -/
theorem pad1 (X : Vec Ideal S2048x128 .f32) (i : S2064x128.Idx) (k : ℕ) (s : Fin 2048) (l : Fin 128) (h : (i 0).val = s.val + k + 7) (hl : i 1 = l) :
    View.canon (pieces X) i = halo (fun s => X (ix2 s l)) k s := by
  unfold halo
  by_cases g : 1 ≤ s.val + k ∧ s.val + k ≤ 2048
  · rw [dif_pos g]
    exact inner X _ i _ _ (by simp; omega) hl
  · rw [dif_neg g]
    exact (View.canon_cons_of_not_mem _ _ (fun q => by have := (mem_inner i).mp q; omega)).trans (outer i (by omega))

/-- The same where the inner rows were written twice: the second time counts. -/
theorem pad2 (X Y : Vec Ideal S2048x128 .f32) (i : S2064x128.Idx) (k : ℕ) (s : Fin 2048) (l : Fin 128) (h : (i 0).val = s.val + k + 7) (hl : i 1 = l) :
    View.canon (pieces2 X Y) i = halo (fun s => X (ix2 s l)) k s := by
  unfold halo
  by_cases g : 1 ≤ s.val + k ∧ s.val + k ≤ 2048
  · rw [dif_pos g]
    exact inner X _ i _ _ (by simp; omega) hl
  · rw [dif_neg g]
    refine (View.canon_cons_of_not_mem _ _ (fun q => by have := (mem_inner i).mp q; omega)).trans ?_
    exact (View.canon_cons_of_not_mem _ _ (fun q => by have := (mem_inner i).mp q; omega)).trans (outer i (by omega))

/-- Row `r` of the flattened (batch, position) axis as its batch index. -/
abbrev bi (r : Fin 4096) : Fin 2 := ⟨r.val / 2048, by omega⟩
/-- Row `r` of the flattened (batch, position) axis as its position index. -/
abbrev si (r : Fin 4096) : Fin 2048 := ⟨r.val % 2048, by omega⟩
/-- The row of a batch and a position. -/
abbrev row (b : Fin 2) (s : Fin 2048) : Fin 4096 := ⟨b.val * 2048 + s.val, by omega⟩
theorem bi_row (b : Fin 2) (s : Fin 2048) : bi (row b s) = b := Fin.ext (by simp only [bi, row]; omega)
theorem si_row (b : Fin 2) (s : Fin 2048) : si (row b s) = s := Fin.ext (by simp only [si, row]; omega)
/-- Channel `c` of the first gate, among the projection's columns; -/
abbrev cb (c : Fin 512) : Fin 2304 := ⟨c.val, by omega⟩
/-- of the second gate; -/
abbrev cc (c : Fin 512) : Fin 2304 := ⟨512 + c.val, by omega⟩
/-- and of the convolved values. -/
abbrev ch (c : Fin 512) : Fin 2304 := ⟨1024 + c.val, by omega⟩
/-- Channel `c` among the mixer's columns. -/
abbrev cd (c : Fin 512) : Fin 1024 := ⟨c.val, by omega⟩

section Ref

variable (p : FVec Ideal S2x2048x2304 .f32) (w : FVec Ideal S3x512 .f32) (d : FVec Ideal S2x2048x1024 .f32)

/-- The gated values that are convolved. -/
def cg (b : Fin 2) (c : Fin 512) (s : Fin 2048) : EReal := p (ix3 b s (cc c)) * p (ix3 b s (ch c))
/-- The gradient of the convolution's result. -/
def dc (b : Fin 2) (c : Fin 512) (s : Fin 2048) : EReal := d (ix3 b s (cd c)) * p (ix3 b s (cb c))
/-- The convolution's result. -/
def cv (b : Fin 2) (c : Fin 512) (s : Fin 2048) : EReal :=
  halo (cg p b c) 0 s * w (ix2 0 c) + cg p b c s * w (ix2 1 c) + halo (cg p b c) 2 s * w (ix2 2 c)
/-- The gradient of the gated values: the convolution the other way round. -/
def dg (b : Fin 2) (c : Fin 512) (s : Fin 2048) : EReal :=
  halo (dc p d b c) 2 s * w (ix2 0 c) + dc p d b c s * w (ix2 1 c) + halo (dc p d b c) 0 s * w (ix2 2 c)

/-- The first gate's gradient. -/
def REFB : FVec Ideal S4096x512 .bf16 := fun i => d (ix3 (bi (i 0)) (si (i 0)) (cd (i 1))) * cv p w (bi (i 0)) (i 1) (si (i 0))
/-- The second gate's gradient. -/
def REFC : FVec Ideal S4096x512 .bf16 := fun i => dg p w d (bi (i 0)) (i 1) (si (i 0)) * p (ix3 (bi (i 0)) (si (i 0)) (ch (i 1)))
/-- The gradient of the values the second gate multiplies. -/
def REFH : FVec Ideal S4096x512 .bf16 := fun i => dg p w d (bi (i 0)) (i 1) (si (i 0)) * p (ix3 (bi (i 0)) (si (i 0)) (cc (i 1)))
/-- One batch's part of the taps' gradient. -/
def dwp (b : Fin 2) (k : Fin 3) (c : Fin 512) : EReal := ∑ s : Fin 2048, dc p d b c s * halo (cg p b c) k.val s
/-- The taps' gradient. -/
def REFW : FVec Ideal S3x512 .f32 := fun i => dwp p d 0 (i 0) (i 1) + dwp p d 1 (i 0) (i 1)

theorem REFB_row (b : Fin 2) (s : Fin 2048) (k : Fin 512) : REFB p w d (ix2 (row b s) k) = d (ix3 b s (cd k)) * cv p w b k s := by
  show d (ix3 (bi (row b s)) (si (row b s)) (cd k)) * cv p w (bi (row b s)) k (si (row b s)) = _
  rw [bi_row, si_row]
theorem REFC_row (b : Fin 2) (s : Fin 2048) (k : Fin 512) : REFC p w d (ix2 (row b s) k) = dg p w d b k s * p (ix3 b s (ch k)) := by
  show dg p w d (bi (row b s)) k (si (row b s)) * p (ix3 (bi (row b s)) (si (row b s)) (ch k)) = _
  rw [bi_row, si_row]
theorem REFH_row (b : Fin 2) (s : Fin 2048) (k : Fin 512) : REFH p w d (ix2 (row b s) k) = dg p w d b k s * p (ix3 b s (cc k)) := by
  show dg p w d (bi (row b s)) k (si (row b s)) * p (ix3 (bi (row b s)) (si (row b s)) (cc k)) = _
  rw [bi_row, si_row]

end Ref

/-- Unmoved, a column is itself. -/
theorem halo_one (v : Fin 2048 → EReal) (s : Fin 2048) : halo v 1 s = v s := by
  unfold halo
  rw [dif_pos (by omega)]
  exact congrArg v (Fin.ext (by simp))

section Core

variable {p : FVec Ideal S2x2048x2304 .f32} {w : FVec Ideal S3x512 .f32} {d : FVec Ideal S2x2048x1024 .f32}
  {v7 v10 v13 : Vec Ideal S2048x128 .bf16} {v16 : Vec Ideal S3x128 .f32} {v17 v23 v24 : Vec Ideal S2048x128 .f32}
  {l : Fin 128} {b : Fin 2} {c : Fin 512}

theorem pay1 (v u : Vec Ideal S3x128 .f32) (y : S3x128.Idx) : k0_pay1 v u y = u y + v y := by pointwise [k0_pay1]
theorem pay6 (v : Vec Ideal S2048x128 .bf16) (y : S2048x128.Idx) : k0_pay6 v y = v y := by pointwise [k0_pay6]
theorem pay7 (v : Vec Ideal S2048x128 .bf16) (y : S2048x128.Idx) : k0_pay7 v y = v y := by pointwise [k0_pay7]

/-- The column of gated values the scratch holds. -/
theorem col10 (hc : ∀ s, v10 (ix2 s l) = p (ix3 b s (cc c))) (hh : ∀ s, v13 (ix2 s l) = p (ix3 b s (ch c))) :
    (fun s => k0_pay10 v10 v13 (ix2 s l)) = cg p b c := by
  funext s
  unfold cg
  pointwise [k0_pay10, k0_pay9, k0_pay7, k0_pay6]
  rw [hc, hh]

/-- The column of cotangents the scratch holds. -/
theorem col16 (hb : ∀ s, v7 (ix2 s l) = p (ix3 b s (cb c))) (hd : ∀ s, v17 (ix2 s l) = d (ix3 b s (cd c))) :
    (fun s => k0_pay16 (k0_pay5 v7) (k0_pay8 v17) (ix2 s l)) = dc p d b c := by
  funext s
  unfold dc
  pointwise [k0_pay16, k0_pay14, k0_pay8, k0_pay5]
  rw [hb, hd]

/-- The first gate's gradient at an index. -/
theorem core5 (s : Fin 2048) (hc : ∀ s, v10 (ix2 s l) = p (ix3 b s (cc c))) (hh : ∀ s, v13 (ix2 s l) = p (ix3 b s (ch c)))
    (hd : v17 (ix2 s l) = d (ix3 b s (cd c))) (hw : ∀ k, v16 (ix2 k l) = w (ix2 k c))
    (h23 : v23 (ix2 s l) = halo (cg p b c) 0 s) (h24 : v24 (ix2 s l) = halo (cg p b c) 2 s) :
    k0_pay13 (k0_pay8 v17) v24 (k0_pay11 v10 v13 v16 v23) (k0_pay12 v16) (ix2 s l) = d (ix3 b s (cd c)) * cv p w b c s := by
  unfold cv
  pointwise [k0_pay13, k0_pay8, k0_pay11, k0_pay12, k0_pay9, k0_pay7, k0_pay6]
  simp only [hc, hh, hd, hw, h23, h24]
  rfl

/-- The gated values' gradient at an index, times a factor `v` of the product. -/
theorem core17 (s : Fin 2048) (hb : ∀ s, v7 (ix2 s l) = p (ix3 b s (cb c))) (hd : ∀ s, v17 (ix2 s l) = d (ix3 b s (cd c)))
    (hw : ∀ k, v16 (ix2 k l) = w (ix2 k c))
    (h23 : v23 (ix2 s l) = halo (dc p d b c) 0 s) (h24 : v24 (ix2 s l) = halo (dc p d b c) 2 s) :
    k0_pay17 (k0_pay5 v7) v16 (k0_pay8 v17) v23 v24 (ix2 s l) = dg p w d b c s := by
  unfold dg dc
  pointwise [k0_pay17, k0_pay14, k0_pay8, k0_pay5]
  simp only [hb, hd, hw, h23, h24]
  rfl

/-- One batch's part of the taps' gradient at an index. -/
theorem core15 (k : Fin 3) (hb : ∀ s, v7 (ix2 s l) = p (ix3 b s (cb c))) (hd : ∀ s, v17 (ix2 s l) = d (ix3 b s (cd c)))
    (hc : ∀ s, v10 (ix2 s l) = p (ix3 b s (cc c))) (hh : ∀ s, v13 (ix2 s l) = p (ix3 b s (ch c)))
    (h23 : ∀ s, v23 (ix2 s l) = halo (cg p b c) 0 s) (h24 : ∀ s, v24 (ix2 s l) = halo (cg p b c) 2 s) :
    k0_pay15 (k0_pay5 v7) (k0_pay8 v17) (k0_pay9 v10 v13) v23 v24 (ix2 k l) = dwp p d b k c := by
  unfold dwp
  match k with
  | ⟨0, _⟩ =>
    pointwise [k0_pay15, k0_pay14, k0_pay8, k0_pay5]
    simp only [hb, hd, h23]; rfl
  | ⟨1, _⟩ =>
    pointwise [k0_pay15, k0_pay14, k0_pay8, k0_pay5, k0_pay9, k0_pay7, k0_pay6]
    simp only [hb, hd, hc, hh, halo_one]; rfl
  | ⟨2, _⟩ =>
    pointwise [k0_pay15, k0_pay14, k0_pay8, k0_pay5]
    simp only [hb, hd, h24]; rfl

end Core

/-- The flattened projection at an index. -/
theorem V1 (c : Dev nD) (j : S4096x2304.Idx) :
    V m c main_v1 j = m ((c : Thread nD τ).loc main_arg0) (ix3 (bi (j 0)) (si (j 0)) (j 1)) := by
  entry_read
  pointwise

/-- The flattened cotangent at an index. -/
theorem V2 (c : Dev nD) (j : S4096x1024.Idx) :
    V m c main_v2 j = m ((c : Thread nD τ).loc main_arg2) (ix3 (bi (j 0)) (si (j 0)) (j 1)) := by
  entry_read
  pointwise

/-- The first gate's rows as point `t` reads them; -/
theorem blk0 (c : Dev nD) (t : Fin cfg0.N) (s : Fin 2048) (l : Fin 128) (b : Fin 2) (k : Fin 512) (hb : b.val = t.val % 2) (hk : k.val = t.val / 2 * 128 + l) :
    (iblk m c 0 t : Vec Ideal S2048x128 .bf16) (ix2 s l) = m ((c : Thread nD τ).loc main_arg0) (ix3 b s (cb k)) := by
  have k0 : (((cfg0.win 0).blk t).view.emb (ix2 s l) : S4096x2304.Idx) 0 = row b s := Fin.ext (by simp only [row]; blk_simp [idx_val t]; omega)
  have k1 : (((cfg0.win 0).blk t).view.emb (ix2 s l) : S4096x2304.Idx) 1 = cb k := Fin.ext (by simp only [cb]; blk_simp [idx_val t]; omega)
  unfold iblk
  rw [View.read_apply, cast_eq]
  refine (V1 m c _).trans ?_
  rw [k0, k1, bi_row, si_row]

/-- the second gate's; -/
theorem blk1 (c : Dev nD) (t : Fin cfg0.N) (s : Fin 2048) (l : Fin 128) (b : Fin 2) (k : Fin 512) (hb : b.val = t.val % 2) (hk : k.val = t.val / 2 * 128 + l) :
    (iblk m c 1 t : Vec Ideal S2048x128 .bf16) (ix2 s l) = m ((c : Thread nD τ).loc main_arg0) (ix3 b s (cc k)) := by
  have k0 : (((cfg0.win 1).blk t).view.emb (ix2 s l) : S4096x2304.Idx) 0 = row b s := Fin.ext (by simp only [row]; blk_simp [idx_val t]; omega)
  have k1 : (((cfg0.win 1).blk t).view.emb (ix2 s l) : S4096x2304.Idx) 1 = cc k := Fin.ext (by simp only [cc]; blk_simp [idx_val t]; omega)
  unfold iblk
  rw [View.read_apply, cast_eq]
  refine (V1 m c _).trans ?_
  rw [k0, k1, bi_row, si_row]

/-- the convolved values'; -/
theorem blk2 (c : Dev nD) (t : Fin cfg0.N) (s : Fin 2048) (l : Fin 128) (b : Fin 2) (k : Fin 512) (hb : b.val = t.val % 2) (hk : k.val = t.val / 2 * 128 + l) :
    (iblk m c 2 t : Vec Ideal S2048x128 .bf16) (ix2 s l) = m ((c : Thread nD τ).loc main_arg0) (ix3 b s (ch k)) := by
  have k0 : (((cfg0.win 2).blk t).view.emb (ix2 s l) : S4096x2304.Idx) 0 = row b s := Fin.ext (by simp only [row]; blk_simp [idx_val t]; omega)
  have k1 : (((cfg0.win 2).blk t).view.emb (ix2 s l) : S4096x2304.Idx) 1 = ch k := Fin.ext (by simp only [ch]; blk_simp [idx_val t]; omega)
  unfold iblk
  rw [View.read_apply, cast_eq]
  refine (V1 m c _).trans ?_
  rw [k0, k1, bi_row, si_row]

/-- the cotangent's; -/
theorem blk4 (c : Dev nD) (t : Fin cfg0.N) (s : Fin 2048) (l : Fin 128) (b : Fin 2) (k : Fin 512) (hb : b.val = t.val % 2) (hk : k.val = t.val / 2 * 128 + l) :
    (iblk m c 4 t : Vec Ideal S2048x128 .f32) (ix2 s l) = m ((c : Thread nD τ).loc main_arg2) (ix3 b s (cd k)) := by
  have k0 : (((cfg0.win 4).blk t).view.emb (ix2 s l) : S4096x1024.Idx) 0 = row b s := Fin.ext (by simp only [row]; blk_simp [idx_val t]; omega)
  have k1 : (((cfg0.win 4).blk t).view.emb (ix2 s l) : S4096x1024.Idx) 1 = cd k := Fin.ext (by simp only [cd]; blk_simp [idx_val t]; omega)
  unfold iblk
  rw [View.read_apply, cast_eq]
  refine (V2 m c _).trans ?_
  rw [k0, k1, bi_row, si_row]

/-- and the taps. -/
theorem blk3 (c : Dev nD) (t : Fin cfg0.N) (a : Fin 3) (l : Fin 128) (k : Fin 512) (hk : k.val = t.val / 2 * 128 + l) :
    (iblk m c 3 t : Vec Ideal S3x128 .f32) (ix2 a l) = m ((c : Thread nD τ).loc main_arg1) (ix2 a k) := by
  have k0 : (((cfg0.win 3).blk t).view.emb (ix2 a l) : S3x512.Idx) = ix2 a k := by
    funext x; match x with
    | ⟨0, _⟩ => exact Fin.ext (by blk_simp [idx_val t])
    | ⟨1, _⟩ => exact Fin.ext (by blk_simp [idx_val t]; omega)
  unfold iblk
  rw [View.read_apply, cast_eq, k0]
  rfl

/-- What a point leaves of the first gate's gradient. -/
theorem point5 (c : Dev nD) (t : Fin cfg0.N) (s : Fin 2048) (l : Fin 128) (b : Fin 2) (k : Fin 512)
    (hb : b.val = t.val % 2) (hk : k.val = t.val / 2 * 128 + l) (v23 v24 : Vec Ideal S2048x128 .f32)
    (h23 : v23 (ix2 s l) = halo (fun s => k0_pay10 (iblk m c 1 t) (iblk m c 2 t) (ix2 s l)) 0 s)
    (h24 : v24 (ix2 s l) = halo (fun s => k0_pay10 (iblk m c 1 t) (iblk m c 2 t) (ix2 s l)) 2 s) :
    k0_pay13 (k0_pay8 (iblk m c 4 t)) v24 (k0_pay11 (iblk m c 1 t) (iblk m c 2 t) (iblk m c 3 t) v23) (k0_pay12 (iblk m c 3 t)) (ix2 s l)
      = REFB (m ((c : Thread nD τ).loc main_arg0)) (m ((c : Thread nD τ).loc main_arg1)) (m ((c : Thread nD τ).loc main_arg2)) (ix2 (row b s) k) := by
  rw [col10 (fun s => blk1 m c t s l b k hb hk) (fun s => blk2 m c t s l b k hb hk)] at h23 h24
  refine (core5 s (fun s => blk1 m c t s l b k hb hk) (fun s => blk2 m c t s l b k hb hk) (blk4 m c t s l b k hb hk)
    (fun a => blk3 m c t a l k hk) h23 h24).trans ?_
  rw [REFB_row]

/-- What a point leaves of the second gate's gradient. -/
theorem point6 (c : Dev nD) (t : Fin cfg0.N) (s : Fin 2048) (l : Fin 128) (b : Fin 2) (k : Fin 512)
    (hb : b.val = t.val % 2) (hk : k.val = t.val / 2 * 128 + l) (v23 v24 : Vec Ideal S2048x128 .f32)
    (h23 : v23 (ix2 s l) = halo (fun s => k0_pay16 (k0_pay5 (iblk m c 0 t)) (k0_pay8 (iblk m c 4 t)) (ix2 s l)) 0 s)
    (h24 : v24 (ix2 s l) = halo (fun s => k0_pay16 (k0_pay5 (iblk m c 0 t)) (k0_pay8 (iblk m c 4 t)) (ix2 s l)) 2 s) :
    k0_pay18 (k0_pay5 (iblk m c 0 t)) (k0_pay7 (iblk m c 2 t)) (iblk m c 3 t) (k0_pay8 (iblk m c 4 t)) v23 v24 (ix2 s l)
      = REFC (m ((c : Thread nD τ).loc main_arg0)) (m ((c : Thread nD τ).loc main_arg1)) (m ((c : Thread nD τ).loc main_arg2)) (ix2 (row b s) k) := by
  rw [col16 (fun s => blk0 m c t s l b k hb hk) (fun s => blk4 m c t s l b k hb hk)] at h23 h24
  show k0_pay17 (k0_pay5 (iblk m c 0 t)) (iblk m c 3 t) (k0_pay8 (iblk m c 4 t)) v23 v24 (ix2 s l) * k0_pay7 (iblk m c 2 t) (ix2 s l) = _
  rw [core17 s (fun s => blk0 m c t s l b k hb hk) (fun s => blk4 m c t s l b k hb hk) (fun a => blk3 m c t a l k hk) h23 h24,
    pay7, blk2 m c t s l b k hb hk, REFC_row]

/-- What a point leaves of the gradient of the values the second gate multiplies. -/
theorem point7 (c : Dev nD) (t : Fin cfg0.N) (s : Fin 2048) (l : Fin 128) (b : Fin 2) (k : Fin 512)
    (hb : b.val = t.val % 2) (hk : k.val = t.val / 2 * 128 + l) (v23 v24 : Vec Ideal S2048x128 .f32)
    (h23 : v23 (ix2 s l) = halo (fun s => k0_pay16 (k0_pay5 (iblk m c 0 t)) (k0_pay8 (iblk m c 4 t)) (ix2 s l)) 0 s)
    (h24 : v24 (ix2 s l) = halo (fun s => k0_pay16 (k0_pay5 (iblk m c 0 t)) (k0_pay8 (iblk m c 4 t)) (ix2 s l)) 2 s) :
    k0_pay19 (k0_pay5 (iblk m c 0 t)) (k0_pay6 (iblk m c 1 t)) (iblk m c 3 t) (k0_pay8 (iblk m c 4 t)) v23 v24 (ix2 s l)
      = REFH (m ((c : Thread nD τ).loc main_arg0)) (m ((c : Thread nD τ).loc main_arg1)) (m ((c : Thread nD τ).loc main_arg2)) (ix2 (row b s) k) := by
  rw [col16 (fun s => blk0 m c t s l b k hb hk) (fun s => blk4 m c t s l b k hb hk)] at h23 h24
  show k0_pay17 (k0_pay5 (iblk m c 0 t)) (iblk m c 3 t) (k0_pay8 (iblk m c 4 t)) v23 v24 (ix2 s l) * k0_pay6 (iblk m c 1 t) (ix2 s l) = _
  rw [core17 s (fun s => blk0 m c t s l b k hb hk) (fun s => blk4 m c t s l b k hb hk) (fun a => blk3 m c t a l k hk) h23 h24,
    pay6, blk1 m c t s l b k hb hk, REFH_row]

/-- What a point adds to the taps' gradient. -/
theorem point8 (c : Dev nD) (t : Fin cfg0.N) (a : Fin 3) (l : Fin 128) (b : Fin 2) (k : Fin 512)
    (hb : b.val = t.val % 2) (hk : k.val = t.val / 2 * 128 + l) (v23 v24 : Vec Ideal S2048x128 .f32)
    (h23 : ∀ s, v23 (ix2 s l) = halo (fun s => k0_pay10 (iblk m c 1 t) (iblk m c 2 t) (ix2 s l)) 0 s)
    (h24 : ∀ s, v24 (ix2 s l) = halo (fun s => k0_pay10 (iblk m c 1 t) (iblk m c 2 t) (ix2 s l)) 2 s) :
    k0_pay15 (k0_pay5 (iblk m c 0 t)) (k0_pay8 (iblk m c 4 t)) (k0_pay9 (iblk m c 1 t) (iblk m c 2 t)) v23 v24 (ix2 a l)
      = dwp (m ((c : Thread nD τ).loc main_arg0)) (m ((c : Thread nD τ).loc main_arg2)) b a k := by
  rw [col10 (fun s => blk1 m c t s l b k hb hk) (fun s => blk2 m c t s l b k hb hk)] at h23 h24
  exact core15 a (fun s => blk0 m c t s l b k hb hk) (fun s => blk4 m c t s l b k hb hk)
    (fun s => blk1 m c t s l b k hb hk) (fun s => blk2 m c t s l b k hb hk) h23 h24

/-- A block's index in the array, from its coordinates. -/
theorem ix_row (j : S4096x512.Idx) (s : Fin 2048) (b : Fin 2) (k : Fin 512) (h0 : (j 0 : ℕ) = b.val * 2048 + s) (h1 : (j 1 : ℕ) = k) :
    j = ix2 (row b s) k := by
  funext a; match a with
  | ⟨0, _⟩ => exact Fin.ext h0
  | ⟨1, _⟩ => exact Fin.ext h1

set_option maxHeartbeats 1600000 in
/-- The first gate's gradient as the kernel leaves it. -/
theorem final5 (c : Dev nD) : (dats m 0 c).arrAt 5 (cfgs 0).N = REFB (m ((c : Thread nD τ).loc main_arg0))
    (m ((c : Thread nD τ).loc main_arg1)) (m ((c : Thread nD τ).loc main_arg2)) := by
  refine (dats m 0 c).arrAt_eq_of_covers 5 _ (by decide +kernel) fun t hf y => ?_
  blk_simp; rw [after0_5]
  idx_vars y
  have ht : t.val < 8 := lt_of_lt_of_eq t.isLt N_0
  obtain ⟨b, hb⟩ : ∃ b : Fin 2, b.val = t.val % 2 := ⟨⟨t.val % 2, by omega⟩, rfl⟩
  obtain ⟨k, hk⟩ : ∃ k : Fin 512, k.val = t.val / 2 * 128 + y1 := ⟨⟨t.val / 2 * 128 + y1, by omega⟩, rfl⟩
  have e : ((View.whole main_v3_0).slice (win0_5.rect t)).emb (ix2 y0 y1) = ix2 (row b y0) k :=
    ix_row _ _ _ _ (by blk_simp [idx_val t] <;> omega) (by blk_simp [idx_val t] <;> omega)
  rw [e]
  by_cases h : t.val % 2 = 0
  · rw [outsAt0_A m c t h (by omega)]
    frame_out
    simp only [View.readCov_eq_canon']
    exact point5 m c t y0 y1 b k hb hk _ _ (pad1 _ _ 0 y0 y1 (by simp; omega) (Fin.ext (by simp))) (pad1 _ _ 2 y0 y1 (by simp; omega) (Fin.ext (by simp)))
  · rw [outsAt0_B m c t h (by omega)]
    frame_out
    simp only [View.readCov_eq_canon']
    exact point5 m c t y0 y1 b k hb hk _ _ (pad1 _ _ 0 y0 y1 (by simp; omega) (Fin.ext (by simp))) (pad1 _ _ 2 y0 y1 (by simp; omega) (Fin.ext (by simp)))

set_option maxHeartbeats 1600000 in
/-- The second gate's gradient as the kernel leaves it. -/
theorem final6 (c : Dev nD) : (dats m 0 c).arrAt 6 (cfgs 0).N = REFC (m ((c : Thread nD τ).loc main_arg0))
    (m ((c : Thread nD τ).loc main_arg1)) (m ((c : Thread nD τ).loc main_arg2)) := by
  refine (dats m 0 c).arrAt_eq_of_covers 6 _ (by decide +kernel) fun t hf y => ?_
  blk_simp; rw [after0_6]
  idx_vars y
  have ht : t.val < 8 := lt_of_lt_of_eq t.isLt N_0
  obtain ⟨b, hb⟩ : ∃ b : Fin 2, b.val = t.val % 2 := ⟨⟨t.val % 2, by omega⟩, rfl⟩
  obtain ⟨k, hk⟩ : ∃ k : Fin 512, k.val = t.val / 2 * 128 + y1 := ⟨⟨t.val / 2 * 128 + y1, by omega⟩, rfl⟩
  have e : ((View.whole main_v3_1).slice (win0_6.rect t)).emb (ix2 y0 y1) = ix2 (row b y0) k :=
    ix_row _ _ _ _ (by blk_simp [idx_val t] <;> omega) (by blk_simp [idx_val t] <;> omega)
  rw [e]
  by_cases h : t.val % 2 = 0
  · rw [outsAt0_A m c t h (by omega)]
    frame_out
    simp only [View.readCov_eq_canon']
    exact point6 m c t y0 y1 b k hb hk _ _ (pad2 _ _ _ 0 y0 y1 (by simp; omega) (Fin.ext (by simp))) (pad2 _ _ _ 2 y0 y1 (by simp; omega) (Fin.ext (by simp)))
  · rw [outsAt0_B m c t h (by omega)]
    frame_out
    simp only [View.readCov_eq_canon']
    exact point6 m c t y0 y1 b k hb hk _ _ (pad2 _ _ _ 0 y0 y1 (by simp; omega) (Fin.ext (by simp))) (pad2 _ _ _ 2 y0 y1 (by simp; omega) (Fin.ext (by simp)))

set_option maxHeartbeats 1600000 in
/-- The gradient of the values the second gate multiplies as the kernel leaves it. -/
theorem final7 (c : Dev nD) : (dats m 0 c).arrAt 7 (cfgs 0).N = REFH (m ((c : Thread nD τ).loc main_arg0))
    (m ((c : Thread nD τ).loc main_arg1)) (m ((c : Thread nD τ).loc main_arg2)) := by
  refine (dats m 0 c).arrAt_eq_of_covers 7 _ (by decide +kernel) fun t hf y => ?_
  blk_simp; rw [after0_7]
  idx_vars y
  have ht : t.val < 8 := lt_of_lt_of_eq t.isLt N_0
  obtain ⟨b, hb⟩ : ∃ b : Fin 2, b.val = t.val % 2 := ⟨⟨t.val % 2, by omega⟩, rfl⟩
  obtain ⟨k, hk⟩ : ∃ k : Fin 512, k.val = t.val / 2 * 128 + y1 := ⟨⟨t.val / 2 * 128 + y1, by omega⟩, rfl⟩
  have e : ((View.whole main_v3_2).slice (win0_7.rect t)).emb (ix2 y0 y1) = ix2 (row b y0) k :=
    ix_row _ _ _ _ (by blk_simp [idx_val t] <;> omega) (by blk_simp [idx_val t] <;> omega)
  rw [e]
  by_cases h : t.val % 2 = 0
  · rw [outsAt0_A m c t h (by omega)]
    frame_out
    simp only [View.readCov_eq_canon']
    exact point7 m c t y0 y1 b k hb hk _ _ (pad2 _ _ _ 0 y0 y1 (by simp; omega) (Fin.ext (by simp))) (pad2 _ _ _ 2 y0 y1 (by simp; omega) (Fin.ext (by simp)))
  · rw [outsAt0_B m c t h (by omega)]
    frame_out
    simp only [View.readCov_eq_canon']
    exact point7 m c t y0 y1 b k hb hk _ _ (pad2 _ _ _ 0 y0 y1 (by simp; omega) (Fin.ext (by simp))) (pad2 _ _ _ 2 y0 y1 (by simp; omega) (Fin.ext (by simp)))

set_option maxHeartbeats 1600000 in
/-- The taps' gradient as the kernel leaves it: the first batch's part, then the second's added. -/
theorem final8 (c : Dev nD) : (dats m 0 c).arrAt 8 (cfgs 0).N = REFW (m ((c : Thread nD τ).loc main_arg0)) (m ((c : Thread nD τ).loc main_arg2)) := by
  refine (dats m 0 c).arrAt_eq_of_covers 8 _ (by decide +kernel) fun t hf y => ?_
  have hf := (flush0_8 t).mp hf
  blk_simp; rw [after0_8]
  idx_vars y
  have ht : t.val < 8 := lt_of_lt_of_eq t.isLt N_0
  obtain ⟨k, hk⟩ : ∃ k : Fin 512, k.val = t.val / 2 * 128 + y1 := ⟨⟨t.val / 2 * 128 + y1, by omega⟩, rfl⟩
  have e : ((View.whole main_v3_3).slice (win0_8.rect t)).emb (ix2 y0 y1) = ix2 y0 k := by
    funext a; match a with
    | ⟨0, _⟩ => exact Fin.ext (by blk_simp [idx_val t] <;> omega)
    | ⟨1, _⟩ => exact Fin.ext (by blk_simp [idx_val t] <;> omega)
  rw [e]
  obtain ⟨u, hu⟩ : ∃ u : Fin cfg0.N, u.val = t.val - 1 := ⟨⟨t.val - 1, by omega⟩, rfl⟩
  have prev : (outsAt0 m c (t.val - 1) (Nat.lt_of_le_of_lt (Nat.sub_le _ _) t.isLt)).2.2.2 (ix2 y0 y1)
      = dwp (m ((c : Thread nD τ).loc main_arg0)) (m ((c : Thread nD τ).loc main_arg2)) 0 y0 k := by
    have : outsAt0 m c (t.val - 1) (Nat.lt_of_le_of_lt (Nat.sub_le _ _) t.isLt) = outsAt0 m c u.val u.isLt := by simp only [hu]
    rw [this, outsAt0_A m c u (by omega) (by omega)]
    frame_out
    simp only [View.readCov_eq_canon']
    exact point8 m c u y0 y1 0 k (by simp; omega) (by omega) _ _
      (fun s => pad1 _ _ 0 s y1 (by simp; omega) (Fin.ext (by simp))) (fun s => pad1 _ _ 2 s y1 (by simp; omega) (Fin.ext (by simp)))
  rw [outsAt0_B m c t (by omega) hf]
  frame_out
  simp only [View.readCov_eq_canon']
  show _ = _ + _
  rw [pay1, prev]
  exact congrArg _ (point8 m c t y0 y1 1 k (by simp; omega) hk _ _
      (fun s => pad1 _ _ 0 s y1 (by simp; omega) (Fin.ext (by simp))) (fun s => pad1 _ _ 2 s y1 (by simp; omega) (Fin.ext (by simp))))

section Reference

open Cert.ConvRIdeal.Read

variable (p : FVec Ideal S2x2048x2304 .f32) (w : FVec Ideal S3x512 .f32) (d : FVec Ideal S2x2048x1024 .f32)

/-- The reference's gated values. -/
theorem ref_cg (b : Fin 2) (s : Fin 2048) (c : Fin 512) : val_main_v4 (F := Ideal) p (ix3 b s c) = cg p b c s := by
  unfold cg
  pointwise [val_main_v4, val_main_v1, val_main_v2]

/-- The same between two rows of zeros. -/
theorem ref_pad (b : Fin 2) (r : Fin 2050) (c : Fin 512) (k : ℕ) (s : Fin 2048) (h : r.val = s.val + k) :
    val_main_v7 (F := Ideal) p (ix3 b r c) = halo (cg p b c) k s := by
  unfold halo val_main_v7
  by_cases g : 1 ≤ s.val + k ∧ s.val + k ≤ 2048
  · rw [dif_pos g, ← ref_cg]
    generalize val_main_v4 (F := Ideal) p = q
    pointwise [val_main_v6, val_main_cst]
    rw [dif_neg (by omega), dif_pos (by omega)]
    simp only [h]
  · rw [dif_neg g]
    generalize val_main_v4 (F := Ideal) p = q
    pointwise [val_main_v6, val_main_cst]
    by_cases g0 : r.val < 1
    · rw [dif_pos g0]
    · rw [dif_neg g0, dif_neg (by omega)]

theorem ref_v10 (b : Fin 2) (s : Fin 2048) (c : Fin 512) : val_main_v10 (F := Ideal) p (ix3 b s c) = halo (cg p b c) 0 s := by
  rw [val_main_v10_apply, Cert.Finite.ext3 (i := idx_main_v10 (ix3 b s c)) (x := b) (y := ⟨s.val, by omega⟩) (z := c) rfl rfl rfl]
  exact ref_pad p b _ c 0 s (by simp only; omega)
theorem ref_v16' (b : Fin 2) (s : Fin 2048) (c : Fin 512) : val_main_v16 (F := Ideal) p (ix3 b s c) = halo (cg p b c) 1 s := by
  rw [val_main_v16_apply, Cert.Finite.ext3 (i := idx_main_v16 (ix3 b s c)) (x := b) (y := ⟨1 + s.val, by omega⟩) (z := c) rfl rfl rfl]
  exact ref_pad p b _ c 1 s (by simp only; omega)
theorem ref_v16 (b : Fin 2) (s : Fin 2048) (c : Fin 512) : val_main_v16 (F := Ideal) p (ix3 b s c) = cg p b c s :=
  (ref_v16' p b s c).trans (halo_one (cg p b c) s)
theorem ref_v23 (b : Fin 2) (s : Fin 2048) (c : Fin 512) : val_main_v23 (F := Ideal) p (ix3 b s c) = halo (cg p b c) 2 s := by
  rw [val_main_v23_apply, Cert.Finite.ext3 (i := idx_main_v23 (ix3 b s c)) (x := b) (y := ⟨2 + s.val, by omega⟩) (z := c) rfl rfl rfl]
  exact ref_pad p b _ c 2 s (by simp only; omega)

/-- The reference's taps, spread over the rows. -/
theorem ref_w0 (i : Cert.ConvRIdeal.S2x2048x512.Idx) : val_main_v14 (F := Ideal) w i = w (ix2 0 (i 2)) := by
  pointwise [val_main_v14, val_main_v13, val_main_v12, val_main_v11]
theorem ref_w1 (i : Cert.ConvRIdeal.S2x2048x512.Idx) : val_main_v20 (F := Ideal) w i = w (ix2 1 (i 2)) := by
  pointwise [val_main_v20, val_main_v19, val_main_v18, val_main_v17]
theorem ref_w2 (i : Cert.ConvRIdeal.S2x2048x512.Idx) : val_main_v27 (F := Ideal) w i = w (ix2 2 (i 2)) := by
  pointwise [val_main_v27, val_main_v26, val_main_v25, val_main_v24]

/-- The reference's first result. -/
theorem ref_v33 (b : Fin 2) (s : Fin 2048) (c : Fin 512) :
    val_main_v33 (F := Ideal) p w d (ix3 b s c) = d (ix3 b s (cd c)) * cv p w b c s := by
  rw [val_main_v33_apply, val_main_v29_apply, val_main_v22_apply, val_main_v15_apply, val_main_v21_apply, val_main_v28_apply,
    ref_v10, ref_v16, ref_v23, ref_w0, ref_w1, ref_w2]
  unfold cv
  pointwise [val_main_v31]

/-- The reference's gradient of the convolution's result. -/
theorem ref_v32 (b : Fin 2) (s : Fin 2048) (c : Fin 512) :
    val_main_v32 (F := Ideal) p d (ix3 b s c) = dc p d b c s := by
  unfold dc
  rw [mul_comm]
  pointwise [val_main_v32, val_main_v31, val_main_v0]

/-- A column times a number, padded, is the padded column times it. -/
theorem halo_mul (v : Fin 2048 → EReal) (a : EReal) (k : ℕ) (s : Fin 2048) : halo (fun s => v s * a) k s = halo v k s * a := by
  unfold halo
  split
  · rfl
  · rw [zero_mul]

/-- The three moved products the reference adds. -/
theorem ref_v38 (i : Cert.ConvRIdeal.S2x2048x512.Idx) : val_main_v38 (F := Ideal) p w d i = dc p d (i 0) (i 2) (i 1) * w (ix2 2 (i 2)) := by
  rw [val_main_v38_apply]
  idx_vars i
  rw [ref_v32]
  pointwise [val_main_v37, val_main_v26, val_main_v25, val_main_v24]
theorem ref_v47 (i : Cert.ConvRIdeal.S2x2048x512.Idx) : val_main_v47 (F := Ideal) p w d i = dc p d (i 0) (i 2) (i 1) * w (ix2 1 (i 2)) := by
  rw [val_main_v47_apply]
  idx_vars i
  rw [ref_v32]
  pointwise [val_main_v46, val_main_v19, val_main_v18, val_main_v17]
theorem ref_v58 (i : Cert.ConvRIdeal.S2x2048x512.Idx) : val_main_v58 (F := Ideal) p w d i = dc p d (i 0) (i 2) (i 1) * w (ix2 0 (i 2)) := by
  rw [val_main_v58_apply]
  idx_vars i
  rw [ref_v32]
  pointwise [val_main_v57, val_main_v13, val_main_v12, val_main_v11]

theorem swap (a b c a' c' : EReal) (h : a = a') (h' : c = c') : a + b + c = c' + b + a' := by
  rw [h, h', add_comm (a' + b), add_comm a', ← add_assoc]

/-- The reference's gradient of the gated values. -/
theorem ref_v66 (b : Fin 2) (s : Fin 2048) (c : Fin 512) :
    val_main_v66 (F := Ideal) p w d (ix3 b s c) = dg p w d b c s := by
  rw [val_main_v66_apply, val_main_v64_apply, val_main_v53_apply]
  unfold dg val_main_v42 val_main_v52 val_main_v63
  have h2 := halo_mul (dc p d b c) (w (ix2 0 c)) 2 s
  have h0 := halo_mul (dc p d b c) (w (ix2 2 c)) 0 s
  rw [← h2, ← h0]
  unfold halo
  have e38 := ref_v38 p w d
  have e47 := ref_v47 p w d
  have e58 := ref_v58 p w d
  generalize val_main_v38 (F := Ideal) p w d = q38 at *
  generalize val_main_v47 (F := Ideal) p w d = q47 at *
  generalize val_main_v58 (F := Ideal) p w d = q58 at *
  pointwise [val_main_cst_5, val_main_cst_9, val_main_cst_13]
  simp only [e38, e47, e58]
  refine swap _ _ _ _ _ ?_ ?_
  · by_cases h : 1 ≤ s.val
    · rw [dif_pos (by omega), dif_pos (by omega)]
      refine congrArg (fun x => dc p d b c x * w (ix2 2 c)) (Fin.ext ?_)
      simp; omega
    · rw [dif_neg (by omega), dif_neg (by omega)]
  · by_cases h : 1 + s.val < 2048
    · rw [dif_pos (by omega), dif_pos (by omega)]
      refine congrArg (fun x => dc p d b c x * w (ix2 0 c)) (Fin.ext ?_)
      simp; omega
    · rw [dif_neg (by omega), dif_neg (by omega)]

/-- Zero and the sums over the rows of both batches. -/
theorem taps (v : Cert.ConvRIdeal.S2x2048x512.Idx → EReal) {c : Fin 512} (k : Fin 3)
    (h : ∀ b s, v (ix3 b s c) = dc p d b c s * halo (cg p b c) k.val s) (z : EReal) (hz : z = 0) :
    z + ∑ x : Fin 2, ∑ y : Fin 2048, v (ix3 x y c) = dwp p d 0 k c + dwp p d 1 k c := by
  unfold dwp
  simp only [h, hz, zero_add]
  exact Fin.sum_univ_two _

/-- The three sums over all rows of both batches that make the taps' gradient. -/
theorem ref_s2 (j : Cert.ConvRIdeal.S512.Idx) : val_main_v35 (F := Ideal) p d j = dwp p d 0 2 (j 0) + dwp p d 1 2 (j 0) := by
  unfold val_main_v35 val_main_cst_2
  refine (Cert.Finite.sum_rows _ _ _ j).trans (taps p d _ 2 (fun b s => ?_) _ Ideal.ofBits_zero_f32)
  rw [val_main_v34_apply]
  exact (congrArg₂ (· * ·) (ref_v23 p b s (j 0)) (ref_v32 p d b s (j 0))).trans (mul_comm _ _)
theorem ref_s1 (j : Cert.ConvRIdeal.S512.Idx) : val_main_v44 (F := Ideal) p d j = dwp p d 0 1 (j 0) + dwp p d 1 1 (j 0) := by
  unfold val_main_v44 val_main_cst_6
  refine (Cert.Finite.sum_rows _ _ _ j).trans (taps p d _ 1 (fun b s => ?_) _ Ideal.ofBits_zero_f32)
  rw [val_main_v43_apply]
  exact (congrArg₂ (· * ·) (ref_v16' p b s (j 0)) (ref_v32 p d b s (j 0))).trans (mul_comm _ _)
theorem ref_s0 (j : Cert.ConvRIdeal.S512.Idx) : val_main_v55 (F := Ideal) p d j = dwp p d 0 0 (j 0) + dwp p d 1 0 (j 0) := by
  unfold val_main_v55 val_main_cst_10
  refine (Cert.Finite.sum_rows _ _ _ j).trans (taps p d _ 0 (fun b s => ?_) _ Ideal.ofBits_zero_f32)
  rw [val_main_v54_apply]
  exact (congrArg₂ (· * ·) (ref_v10 p b s (j 0)) (ref_v32 p d b s (j 0))).trans (mul_comm _ _)

/-- A sum over two axes of one entry is that entry. -/
theorem one_entry (v : Cert.ConvRIdeal.S1x1x512.Idx → EReal) (f : EReal) (c : Fin 512) (h : v (ix3 0 0 c) = f) (z : EReal) (hz : z = 0) :
    z + ∑ x : Fin 1, ∑ y : Fin 1, v (ix3 x y c) = f := by
  rw [hz, zero_add, Fin.sum_univ_one, Fin.sum_univ_one, h]

theorem ref_t2 (i : Cert.ConvRIdeal.S1x512.Idx) : val_main_v40 (F := Ideal) p d i = dwp p d 0 2 (i 1) + dwp p d 1 2 (i 1) := by
  rw [val_main_v40_apply]
  unfold val_main_v39 val_main_cst_3
  refine (Cert.Finite.sum_rows _ _ _ _).trans (one_entry _ _ (i 1) ?_ _ Ideal.ofBits_zero_f32)
  rw [val_main_v36_apply, ref_s2]
  have h : idx_main_v36 (ix3 0 0 (i 1)) 0 = i 1 := Fin.ext (by simp)
  rw [h]
theorem ref_t1 (i : Cert.ConvRIdeal.S1x512.Idx) : val_main_v49 (F := Ideal) p d i = dwp p d 0 1 (i 1) + dwp p d 1 1 (i 1) := by
  rw [val_main_v49_apply]
  unfold val_main_v48 val_main_cst_7
  refine (Cert.Finite.sum_rows _ _ _ _).trans (one_entry _ _ (i 1) ?_ _ Ideal.ofBits_zero_f32)
  rw [val_main_v45_apply, ref_s1]
  have h : idx_main_v45 (ix3 0 0 (i 1)) 0 = i 1 := Fin.ext (by simp)
  rw [h]
theorem ref_t0 (i : Cert.ConvRIdeal.S1x512.Idx) : val_main_v60 (F := Ideal) p d i = dwp p d 0 0 (i 1) + dwp p d 1 0 (i 1) := by
  rw [val_main_v60_apply]
  unfold val_main_v59 val_main_cst_11
  refine (Cert.Finite.sum_rows _ _ _ _).trans (one_entry _ _ (i 1) ?_ _ Ideal.ofBits_zero_f32)
  rw [val_main_v56_apply, ref_s0]
  have h : idx_main_v56 (ix3 0 0 (i 1)) 0 = i 1 := Fin.ext (by simp)
  rw [h]

/-- The taps' gradient. -/
theorem ref_v62 : val_main_v62 (F := Ideal) p d = REFW p d := by
  funext j
  obtain ⟨k, c, rfl⟩ : ∃ (k : Fin 3) (c : Fin 512), j = ix2 k c := ⟨j 0, j 1, Cert.Finite.ext2 rfl rfl⟩
  rw [val_main_v62_apply, val_main_v51_apply]
  unfold val_main_v41 val_main_v50 val_main_v61 REFW
  have e2 := ref_t2 p d
  have e1 := ref_t1 p d
  have e0 := ref_t0 p d
  generalize val_main_v40 (F := Ideal) p d = q2 at *
  generalize val_main_v49 (F := Ideal) p d = q1 at *
  generalize val_main_v60 (F := Ideal) p d = q0 at *
  pointwise [val_main_cst_4, val_main_cst_8, val_main_cst_12]
  simp only [e2, e1, e0]
  match k with
  | ⟨0, _⟩ => simp
  | ⟨1, _⟩ => simp
  | ⟨2, _⟩ => simp

/-- The reshape of the two batches' rows to one axis, read at an index. -/
theorem flat (j : Cert.ConvRIdeal.S4096x512.Idx) : idx_main_v70 j = ix3 (bi (j 0)) (si (j 0)) (j 1) := by
  have h0 : (j 0).val < 4096 := (j 0).isLt
  have h1 : (j 1).val < 512 := (j 1).isLt
  refine Cert.Finite.ext3 ?_ ?_ ?_
  · show ((j 0).val * 512 + (j 1).val) / 1048576 = (j 0).val / 2048; omega
  · show ((j 0).val * 512 + (j 1).val) / 512 % 2048 = (j 0).val % 2048; omega
  · show ((j 0).val * 512 + (j 1).val) % 512 = (j 1).val; omega

/-- The gradient of the first gate. -/
theorem ref_v71 : val_main_v71 (F := Ideal) p w d = REFB p w d := by
  funext j
  rw [val_main_v71_apply, val_main_v70_apply]
  show val_main_v33 (F := Ideal) p w d (idx_main_v70 j) = _
  rw [show idx_main_v70 j = _ from flat j]
  exact ref_v33 p w d (bi (j 0)) (si (j 0)) (j 1)

theorem ref_v69 (b : Fin 2) (s : Fin 2048) (c : Fin 512) :
    val_main_v69 (F := Ideal) p w d (ix3 b s c) = dg p w d b c s * p (ix3 b s (ch c)) := by
  have h : val_main_v2 (F := Ideal) p (ix3 b s c) = p (ix3 b s (ch c)) := by pointwise [val_main_v2]
  rw [val_main_v69_apply, ref_v66, h]
  rfl
/-- The gradient of the second gate. -/
theorem ref_v73 : val_main_v73 (F := Ideal) p w d = REFC p w d := by
  funext j
  rw [val_main_v73_apply, val_main_v72_apply]
  show val_main_v69 (F := Ideal) p w d (idx_main_v72 j) = _
  rw [show idx_main_v72 j = _ from flat j]
  exact ref_v69 p w d (bi (j 0)) (si (j 0)) (j 1)

theorem ref_v68 (b : Fin 2) (s : Fin 2048) (c : Fin 512) :
    val_main_v68 (F := Ideal) p w d (ix3 b s c) = dg p w d b c s * p (ix3 b s (cc c)) := by
  have h : val_main_v1 (F := Ideal) p (ix3 b s c) = p (ix3 b s (cc c)) := by pointwise [val_main_v1]
  rw [val_main_v68_apply, ref_v66, h]
  exact mul_comm _ _
/-- The gradient of the gated hidden values. -/
theorem ref_v75 : val_main_v75 (F := Ideal) p w d = REFH p w d := by
  funext j
  rw [val_main_v75_apply, val_main_v74_apply]
  show val_main_v68 (F := Ideal) p w d (idx_main_v74 j) = _
  rw [show idx_main_v74 j = _ from flat j]
  exact ref_v68 p w d (bi (j 0)) (si (j 0)) (j 1)

end Reference

end Cert.Conv
-- ==== Proof.ConvClaims.lean ====
/- Untrusted: the claims about the gradient of the gated short convolution. -/
module

public import proofs.«01_k».proof.Defs
public import proofs.«01_k».proof.Proof.Conv
public import proofs.«01_k».proof.Proof.Gen.ConvK.Frame
public import proofs.«01_k».proof.Proof.Gen.ConvRIdeal.Run
public import Idealize.ShloMosaic.Adequacy
public import Idealize.ShloMosaic.Lib.Quiescent

@[expose] public section

noncomputable section

namespace Cert.Conv

open Idealize.ShloMosaic Idealize.ShloMosaic.TcCoe Idealize.SL.Sem

/-- The reference's runs end with its counters at zero. -/
theorem quiescentR : quiescent_ConvRIdeal := fun m ρ _ =>
  (θ_run Cert.ConvRIdeal.defs _ _).mono (fun r h => ⟨fun c => (h c).2.2.2.2, sem_eq_zero_of_no_sems (by decide) r.2⟩)
    (Cert.ConvRIdeal.Value.run (F := Ideal) m ρ)

/-- The kernel's three planes and its taps' gradient are the reference's derivatives. -/
theorem algebraic : algebraic_ConvKIdeal_ConvRIdeal := by
  intro m ρ m' ρ' _ hagree
  refine ⟨_, _, _, _, Cert.ConvKIdeal.Value.run_blocks (F := Ideal) m ρ, ?_⟩
  refine (θ_run Cert.ConvRIdeal.defs _ _).mono (fun _ h c => ⟨?_, ?_, ?_, ?_, (h c).2.2.2.2⟩) (Cert.ConvRIdeal.Value.run (F := Ideal) m' ρ')
  · refine (h c).1.trans ?_
    rw [Cert.ConvRIdeal.Read.val_main_v71_eq, (hagree c).1, (hagree c).2.1, (hagree c).2.2]
    exact (ref_v71 _ _ _).trans (final5 m c).symm
  · refine (h c).2.1.trans ?_
    rw [Cert.ConvRIdeal.Read.val_main_v73_eq, (hagree c).1, (hagree c).2.1, (hagree c).2.2]
    exact (ref_v73 _ _ _).trans (final6 m c).symm
  · refine (h c).2.2.1.trans ?_
    rw [Cert.ConvRIdeal.Read.val_main_v75_eq, (hagree c).1, (hagree c).2.1, (hagree c).2.2]
    exact (ref_v75 _ _ _).trans (final7 m c).symm
  · refine (h c).2.2.2.1.trans ?_
    rw [Cert.ConvRIdeal.Read.val_main_v62_eq, (hagree c).1, (hagree c).2.2]
    exact (ref_v62 _ _).trans (final8 m c).symm

end Cert.Conv
end
-- ==== Proof.Attb.lean ====
/- Untrusted: the value of the attention's gradient kernel, and of its reference, at one index. -/
module

public import proofs.«01_k».proof.Proof.Finite
public import proofs.«01_k».proof.Proof.Gen.AttbKIdeal.Value
public import proofs.«01_k».proof.Proof.Gen.AttbRIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Attb

section Kernel

open Cert.AttbKIdeal Cert.AttbKIdeal.Gen

/-- Column `e` of query head `h`. -/
abbrev qc (h : Fin 8) (e : Fin 64) : Fin 512 := ⟨64 * h.val + e.val, by omega⟩
/-- Column `e` of the key head that query head `h` reads. -/
abbrev kc (h : Fin 8) (e : Fin 64) : Fin 128 := ⟨64 * (h.val / 4) + e.val, by omega⟩

/-- The last store of an index's own rectangle is what it holds. -/
theorem canon_at {Val : EltTy → Type} [∀ e, Nonempty (Val e)] {s : Shape} {e : EltTy} (r : Rect s) (w : r.shape.Idx → Val e)
    (L : List (View.Piece Val s e)) {x : r.shape.Idx} {i : s.Idx} (h : r.emb x = i) : View.canon (⟨r, w⟩ :: L) i = w x := by
  subst h; exact View.canon_cons_emb r w L x

/-- Four stores elsewhere leave an index alone. -/
theorem canon_past4 {Val : EltTy → Type} [∀ e, Nonempty (Val e)] {s : Shape} {e : EltTy} (r : Rect s) (w1 w2 w3 w4 : r.shape.Idx → Val e)
    (L : List (View.Piece Val s e)) {i : s.Idx} (h : i ∉ r.set) :
    View.canon (⟨r, w1⟩ :: ⟨r, w2⟩ :: ⟨r, w3⟩ :: ⟨r, w4⟩ :: L) i = View.canon L i :=
  (View.canon_cons_of_not_mem ⟨r, w1⟩ _ h).trans ((View.canon_cons_of_not_mem ⟨r, w2⟩ _ h).trans
    ((View.canon_cons_of_not_mem ⟨r, w3⟩ _ h).trans (View.canon_cons_of_not_mem ⟨r, w4⟩ _ h)))

/-- An array stored four times in one part, and before that in another: the last of each counts. -/
theorem canon_halves {Val : EltTy → Type} [∀ e, Nonempty (Val e)] {s : Shape} {e : EltTy} (r r0 : Rect s) (a x1 x2 x3 : r.shape.Idx → Val e)
    (b : r0.shape.Idx → Val e) (L : List (View.Piece Val s e)) (p : Prop) [Decidable p] (i : s.Idx) (j0 : p → r0.shape.Idx) (j : r.shape.Idx) (z : Val e)
    (hn : p → i ∉ r.set) (h0 : ∀ h : p, r0.emb (j0 h) = i) (h1 : ¬ p → r.emb j = i) (hlo : ∀ h : p, b (j0 h) = z) (hhi : ¬ p → a j = z) :
    View.canon (⟨r, a⟩ :: ⟨r, x1⟩ :: ⟨r, x2⟩ :: ⟨r, x3⟩ :: ⟨r0, b⟩ :: L) i = z := by
  by_cases h : p
  · exact (canon_past4 r _ _ _ _ _ (hn h)).trans ((canon_at r0 _ _ (h0 h)).trans (hlo h))
  · exact (canon_at r _ _ (h1 h)).trans (hhi h)

section Block

variable (q o : FVec Ideal S512x512 .bf16) (k v : FVec Ideal S2048x128 .bf16) (d : FVec Ideal S512x512 .f32) (l : FVec Ideal S512x8 .f32)
  (x : FVec Ideal S2048x64 .f32)

/-- A block's probabilities. -/
def PB (h : Fin 8) (r : Fin 512) (t : Fin 2048) : EReal :=
  Ideal.exp ((∑ e : Fin 64, q (ix2 r (qc h e)) * k (ix2 t (kc h e))) - l (ix2 r (h : Fin 8)))
/-- A block's gradient of the scores. -/
def SB (h : Fin 8) (r : Fin 512) (t : Fin 2048) : EReal :=
  PB q k l h r t * ((∑ e : Fin 64, d (ix2 r (qc h e)) * v (ix2 t (kc h e))) - ∑ e : Fin 64, d (ix2 r (qc h e)) * o (ix2 r (qc h e)))

/-- What the body adds to a key head's block of the values' gradient, head by head. -/
def DV (h : Fin 8) : FVec Ideal S2048x64 .f32 :=
  match h with
  | 0 => k0_pay21 (k0_pay18 x) (k0_pay19 q k l) (k0_pay20 d)
  | 1 => k0_pay29 (k0_pay7 q) (k0_pay8 k) (k0_pay11 d) (k0_pay12 l) x
  | 2 => k0_pay37 (k0_pay7 q) (k0_pay8 k) (k0_pay11 d) (k0_pay12 l) x
  | 3 => k0_pay47 (k0_pay7 q) (k0_pay8 k) (k0_pay11 d) (k0_pay12 l) x
  | 4 => k0_pay56 (k0_pay7 q) (k0_pay8 k) (k0_pay11 d) (k0_pay12 l) x
  | 5 => k0_pay64 (k0_pay11 d) (k0_pay12 l) (k0_pay59 (k0_pay7 q)) (k0_pay60 (k0_pay8 k)) x
  | 6 => k0_pay72 (k0_pay69 (k0_pay11 d)) (k0_pay70 (k0_pay7 q) (k0_pay8 k) (k0_pay12 l)) x
  | 7 => k0_pay2 (k0_pay77 (k0_pay11 d)) (k0_pay78 (k0_pay7 q) (k0_pay8 k) (k0_pay12 l)) x

/-- What the body adds to a key head's block of the keys' gradient, head by head. -/
def DK (h : Fin 8) : FVec Ideal S2048x64 .f32 :=
  match h with
  | 0 => k0_pay22 (k0_pay13 q) (k0_pay17 q k v o d l) x
  | 1 => k0_pay30 (k0_pay24 (k0_pay7 q)) (k0_pay28 (k0_pay7 q) (k0_pay8 k) (k0_pay9 v) (k0_pay10 o) (k0_pay11 d) (k0_pay12 l)) x
  | 2 => k0_pay40 (k0_pay38 x) (k0_pay39 (k0_pay7 q) (k0_pay8 k) (k0_pay9 v) (k0_pay10 o) (k0_pay11 d) (k0_pay12 l))
  | 3 => k0_pay48 (k0_pay7 q) (k0_pay8 k) (k0_pay9 v) (k0_pay10 o) (k0_pay11 d) (k0_pay12 l) x
  | 4 => k0_pay57 (k0_pay7 q) (k0_pay8 k) (k0_pay9 v) (k0_pay10 o) (k0_pay11 d) (k0_pay12 l) x
  | 5 => k0_pay65 (k0_pay9 v) (k0_pay10 o) (k0_pay11 d) (k0_pay12 l) (k0_pay59 (k0_pay7 q)) (k0_pay60 (k0_pay8 k)) x
  | 6 => k0_pay73 (k0_pay9 v) (k0_pay10 o) (k0_pay67 (k0_pay7 q)) (k0_pay69 (k0_pay11 d)) (k0_pay70 (k0_pay7 q) (k0_pay8 k) (k0_pay12 l)) x
  | 7 => k0_pay3 (k0_pay75 (k0_pay7 q)) (k0_pay78 (k0_pay7 q) (k0_pay8 k) (k0_pay12 l)) (k0_pay79 (k0_pay9 v) (k0_pay11 d)) (k0_pay80 (k0_pay10 o) (k0_pay11 d)) x

/-- A query head's block of the queries' gradient. -/
def DQ (h : Fin 8) : FVec Ideal S512x64 .f32 :=
  match h with
  | 0 => k0_pay23 (k0_pay14 k) (k0_pay17 q k v o d l)
  | 1 => k0_pay31 (k0_pay25 (k0_pay8 k)) (k0_pay28 (k0_pay7 q) (k0_pay8 k) (k0_pay9 v) (k0_pay10 o) (k0_pay11 d) (k0_pay12 l))
  | 2 => k0_pay41 (k0_pay33 (k0_pay8 k)) (k0_pay36 (k0_pay7 q) (k0_pay8 k) (k0_pay9 v) (k0_pay10 o) (k0_pay11 d) (k0_pay12 l))
  | 3 => k0_pay50 (k0_pay43 (k0_pay8 k)) (k0_pay49 (k0_pay7 q) (k0_pay8 k) (k0_pay9 v) (k0_pay10 o) (k0_pay11 d) (k0_pay12 l)) (constant S512x64 FTy.f32 0#32)
  | 4 => k0_pay58 (k0_pay7 q) (k0_pay8 k) (k0_pay9 v) (k0_pay10 o) (k0_pay11 d) (k0_pay12 l)
  | 5 => k0_pay66 (k0_pay9 v) (k0_pay10 o) (k0_pay11 d) (k0_pay12 l) (k0_pay59 (k0_pay7 q)) (k0_pay60 (k0_pay8 k))
  | 6 => k0_pay74 (k0_pay9 v) (k0_pay10 o) (k0_pay68 (k0_pay8 k)) (k0_pay69 (k0_pay11 d)) (k0_pay70 (k0_pay7 q) (k0_pay8 k) (k0_pay12 l))
  | 7 => k0_pay4 (k0_pay76 (k0_pay8 k)) (k0_pay78 (k0_pay7 q) (k0_pay8 k) (k0_pay12 l)) (k0_pay79 (k0_pay9 v) (k0_pay11 d)) (k0_pay80 (k0_pay10 o) (k0_pay11 d))

theorem DV_apply (h : Fin 8) (t : Fin 2048) (e : Fin 64) : DV q k d l x h (ix2 t e)
    = x (ix2 t e) + ∑ r : Fin 512, PB q k l h r t * d (ix2 r (qc h e)) := by
  unfold DV PB
  match h with
  | 0 | 1 | 2 | 3 | 4 | 5 | 6 | 7 =>
    open_payloads
    pointwise
    simp [qc, kc]

theorem DK_apply (h : Fin 8) (t : Fin 2048) (e : Fin 64) : DK q o k v d l x h (ix2 t e)
    = x (ix2 t e) + ∑ r : Fin 512, SB q o k v d l h r t * q (ix2 r (qc h e)) := by
  unfold DK SB PB
  match h with
  | 0 | 1 | 2 | 3 | 4 | 5 | 6 | 7 =>
    open_payloads
    pointwise
    simp [qc, kc]

theorem DQ_apply (h : Fin 8) (r : Fin 512) (e : Fin 64) : DQ q o k v d l h (ix2 r e)
    = ∑ t : Fin 2048, SB q o k v d l h r t * k (ix2 t (kc h e)) := by
  unfold DQ SB PB
  match h with
  | 0 | 1 | 2 | 3 | 4 | 5 | 6 | 7 =>
    open_payloads
    pointwise
    simp [qc, kc]

/-- The query head that reads a column of the key heads' arrays, `g` of its four. -/
abbrev hh (w : Fin 128) (g : Fin 4) : Fin 8 := ⟨4 * (w.val / 64) + g.val, by omega⟩
/-- That column within its head. -/
abbrev ec (w : Fin 128) : Fin 64 := ⟨w.val % 64, by omega⟩

/-- What one block of queries adds to the values' gradient. -/
def TV (t : Fin 2048) (w : Fin 128) : EReal := ∑ g : Fin 4, ∑ r : Fin 512, PB q k l (hh w g) r t * d (ix2 r (qc (hh w g) (ec w)))
/-- What one block of queries adds to the keys' gradient. -/
def TK (t : Fin 2048) (w : Fin 128) : EReal := ∑ g : Fin 4, ∑ r : Fin 512, SB q o k v d l (hh w g) r t * q (ix2 r (qc (hh w g) (ec w)))

/-- A column's place in its half. -/
abbrev lo (w : Fin 128) (h : w.val < 64) : Fin 64 := ⟨w.val, h⟩
abbrev hi (w : Fin 128) : Fin 64 := ⟨w.val - 64, by omega⟩

/-- Four sums added one after another. -/
theorem four (f : Fin 4 → EReal) (z : EReal) : z + f 0 + f 1 + f 2 + f 3 = z + ∑ g : Fin 4, f g := by
  rw [Fin.sum_univ_four]; simp only [add_assoc]

theorem hh_lo (w : Fin 128) (h : w.val < 64) (g : Fin 4) : hh w g = ⟨g.val, by omega⟩ := Fin.ext (by simp only; omega)
theorem hh_hi (w : Fin 128) (h : ¬ w.val < 64) (g : Fin 4) : hh w g = ⟨4 + g.val, by omega⟩ := Fin.ext (by simp only; omega)
theorem ec_lo (w : Fin 128) (h : w.val < 64) : ec w = lo w h := Fin.ext (Nat.mod_eq_of_lt h)
theorem ec_hi (w : Fin 128) (h : ¬ w.val < 64) : ec w = hi w := Fin.ext (by simp only; omega)

theorem chainV_lo (t : Fin 2048) (w : Fin 128) (h : w.val < 64) :
    DV q k d l (DV q k d l (DV q k d l (DV q k d l x 0) 1) 2) 3 (ix2 t (lo w h)) = x (ix2 t (lo w h)) + TV q k d l t w := by
  unfold TV
  rw [← four, DV_apply, DV_apply, DV_apply, DV_apply]
  simp only [hh_lo w h, ec_lo w h]
  rfl
theorem chainV_hi (t : Fin 2048) (w : Fin 128) (h : ¬ w.val < 64) :
    DV q k d l (DV q k d l (DV q k d l (DV q k d l x 4) 5) 6) 7 (ix2 t (hi w)) = x (ix2 t (hi w)) + TV q k d l t w := by
  unfold TV
  rw [← four, DV_apply, DV_apply, DV_apply, DV_apply]
  simp only [hh_hi w h, ec_hi w h]
  rfl
theorem chainK_lo (t : Fin 2048) (w : Fin 128) (h : w.val < 64) :
    DK q o k v d l (DK q o k v d l (DK q o k v d l (DK q o k v d l x 0) 1) 2) 3 (ix2 t (lo w h)) = x (ix2 t (lo w h)) + TK q o k v d l t w := by
  unfold TK
  rw [← four, DK_apply, DK_apply, DK_apply, DK_apply]
  simp only [hh_lo w h, ec_lo w h]
  rfl
theorem chainK_hi (t : Fin 2048) (w : Fin 128) (h : ¬ w.val < 64) :
    DK q o k v d l (DK q o k v d l (DK q o k v d l (DK q o k v d l x 4) 5) 6) 7 (ix2 t (hi w)) = x (ix2 t (hi w)) + TK q o k v d l t w := by
  unfold TK
  rw [← four, DK_apply, DK_apply, DK_apply, DK_apply]
  simp only [hh_hi w h, ec_hi w h]
  rfl

/-- The left half of the columns, and the right half. -/
abbrev R0 : Rect S2048x128 := Rect.unit ![0, 0] ![2048, 64] inb_S2048x128_S2048x64_0_0
abbrev R1 : Rect S2048x128 := Rect.unit ![0, 64] ![2048, 64] inb_S2048x128_S2048x64_0_64

theorem emb_lo (t : Fin 2048) (w : Fin 128) (h : w.val < 64) : R0.emb (ix2 t (lo w h)) = ix2 t w :=
  Cert.Finite.ext2 (by simp) (by simp)
theorem emb_hi (t : Fin 2048) (w : Fin 128) (h : ¬ w.val < 64) : R1.emb (ix2 t (hi w)) = ix2 t w :=
  Cert.Finite.ext2 (by simp) (by simp; omega)
theorem not_hi (t : Fin 2048) (w : Fin 128) (h : w.val < 64) : (ix2 t w : S2048x128.Idx) ∉ R1.set := by
  rw [Rect.mem_set_unit, Fin.forall_fin_two]; simp; omega
theorem not_lo (t : Fin 2048) (w : Fin 128) (h : ¬ w.val < 64) : (ix2 t w : S2048x128.Idx) ∉ R0.set := by
  rw [Rect.mem_set_unit, Fin.forall_fin_two]; simp; omega

/-- An array stored four times in its right half, and before that in its left half: the last of each counts. -/
theorem halves (a x1 x2 x3 : R1.shape.Idx → Elt Ideal .f32) (b : R0.shape.Idx → Elt Ideal .f32) (rest : List (View.Piece (Elt Ideal) S2048x128 .f32))
    (t : Fin 2048) (w : Fin 128) (z : Elt Ideal .f32) (hlo : ∀ h : w.val < 64, b (ix2 t (lo w h)) = z) (hhi : ¬ w.val < 64 → a (ix2 t (hi w)) = z) :
    View.canon (⟨R1, a⟩ :: ⟨R1, x1⟩ :: ⟨R1, x2⟩ :: ⟨R1, x3⟩ :: ⟨R0, b⟩ :: rest) (ix2 t w) = z :=
  canon_halves R1 R0 a x1 x2 x3 b rest (w.val < 64) (ix2 t w) (fun h => ix2 t (lo w h)) (ix2 t (hi w)) z (not_hi t w) (emb_lo t w) (emb_hi t w) hlo hhi

/-- A fill, then stores in the left half: the right half still holds the fill. -/
theorem fill_hi (a x1 x2 x3 : R0.shape.Idx → Elt Ideal .f32) (r : Rect S2048x128) (f : r.shape.Idx → Elt Ideal .f32) (j : r.shape.Idx) (t : Fin 2048) (w : Fin 128)
    (e : r.emb j = ix2 t w) (h : ¬ w.val < 64) :
    View.canon (⟨R0, a⟩ :: ⟨R0, x1⟩ :: ⟨R0, x2⟩ :: ⟨R0, x3⟩ :: ⟨r, f⟩ :: []) (ix2 t w) = f j :=
  (canon_past4 R0 a x1 x2 x3 _ (not_lo t w h)).trans (canon_at r f [] e)

end Block

variable (m : (ℓ : Loc nD τ sig) → Buf (Elt Ideal) ℓ)

theorem reset7 (c : Dev nD) (t : Fin cfg0.N) (h : t.val % 4 = 0) (s : Fin 2048) (w : Fin 128) :
    (outsAt0 m c t.val t.isLt).2.1 (ix2 s w) = 0 + TK (iblk m c 0 t) (iblk m c 3 t) (iblk m c 1 t) (iblk m c 2 t) (iblk m c 5 t) (iblk m c 4 t) s w := by
  rw [outsAt0_A m c t h]; frame_out
  simp only [View.readCov_cons_toLoadRect]
  refine halves _ _ _ _ _ _ s w _ (fun g => (chainK_lo (iblk m c 0 t) (iblk m c 3 t) (iblk m c 1 t) (iblk m c 2 t) (iblk m c 5 t) (iblk m c 4 t) _ s w g).trans (congrArg (· + _) ?_))
    (fun g => (chainK_hi (iblk m c 0 t) (iblk m c 3 t) (iblk m c 1 t) (iblk m c 2 t) (iblk m c 5 t) (iblk m c 4 t) _ s w g).trans (congrArg (· + _) ?_))
  · rw [View.readCov_eq_canon']
    have e : R0.toLoadRect.idx (ix2 s (lo w g)) = (Rect.unit ![0, 0] ![2048, 128] inb_S2048x128_S2048x128_0_0).emb (ix2 s w) :=
      (emb_lo s w g).trans (Cert.Finite.ext2 (by simp) (by simp)).symm
    show View.canon _ (R0.toLoadRect.idx (ix2 s (lo w g))) = 0
    rw [e, View.canon_cons_emb]
    pointwise [k0_pay5]
  · rw [View.readCov_eq_canon']
    have e : R1.toLoadRect.idx (ix2 s (hi w)) = ix2 s w := emb_hi s w g
    show View.canon _ (R1.toLoadRect.idx (ix2 s (hi w))) = 0
    rw [e]
    refine (fill_hi _ _ _ _ _ _ (ix2 s w) s w (Cert.Finite.ext2 (by simp) (by simp)) g).trans ?_
    pointwise [k0_pay5]

theorem step7 (c : Dev nD) (t : Fin cfg0.N) (h : ¬ t.val % 4 = 0) (s : Fin 2048) (w : Fin 128) :
    (outsAt0 m c t.val t.isLt).2.1 (ix2 s w) = (outsAt0 m c (t.val - 1) (Nat.lt_of_le_of_lt (Nat.sub_le _ _) t.isLt)).2.1 (ix2 s w)
      + TK (iblk m c 0 t) (iblk m c 3 t) (iblk m c 1 t) (iblk m c 2 t) (iblk m c 5 t) (iblk m c 4 t) s w := by
  rw [outsAt0_B m c t h]; frame_out
  simp only [View.readCov_cons_toLoadRect]
  refine halves _ _ _ _ _ _ s w _ (fun g => (chainK_lo (iblk m c 0 t) (iblk m c 3 t) (iblk m c 1 t) (iblk m c 2 t) (iblk m c 5 t) (iblk m c 4 t) _ s w g).trans (congrArg (· + _) ?_))
    (fun g => (chainK_hi (iblk m c 0 t) (iblk m c 3 t) (iblk m c 1 t) (iblk m c 2 t) (iblk m c 5 t) (iblk m c 4 t) _ s w g).trans (congrArg (· + _) ?_))
  · exact congrArg (outsAt0 m c (t.val - 1) _).2.1 (emb_lo s w g)
  · exact congrArg (outsAt0 m c (t.val - 1) _).2.1 (emb_hi s w g)

theorem reset8 (c : Dev nD) (t : Fin cfg0.N) (h : t.val % 4 = 0) (s : Fin 2048) (w : Fin 128) :
    (outsAt0 m c t.val t.isLt).2.2 (ix2 s w) = 0 + TV (iblk m c 0 t) (iblk m c 1 t) (iblk m c 5 t) (iblk m c 4 t) s w := by
  rw [outsAt0_A m c t h]; frame_out
  simp only [View.readCov_cons_toLoadRect]
  refine halves _ _ _ _ _ _ s w _ (fun g => (chainV_lo (iblk m c 0 t) (iblk m c 1 t) (iblk m c 5 t) (iblk m c 4 t) _ s w g).trans (congrArg (· + _) ?_))
    (fun g => (chainV_hi (iblk m c 0 t) (iblk m c 1 t) (iblk m c 5 t) (iblk m c 4 t) _ s w g).trans (congrArg (· + _) ?_))
  · rw [View.readCov_eq_canon']
    have e : R0.toLoadRect.idx (ix2 s (lo w g)) = (Rect.unit ![0, 0] ![2048, 128] inb_S2048x128_S2048x128_0_0).emb (ix2 s w) :=
      (emb_lo s w g).trans (Cert.Finite.ext2 (by simp) (by simp)).symm
    show View.canon _ (R0.toLoadRect.idx (ix2 s (lo w g))) = 0
    rw [e, View.canon_cons_emb]
    pointwise [k0_pay6]
  · rw [View.readCov_eq_canon']
    have e : R1.toLoadRect.idx (ix2 s (hi w)) = ix2 s w := emb_hi s w g
    show View.canon _ (R1.toLoadRect.idx (ix2 s (hi w))) = 0
    rw [e]
    refine (fill_hi _ _ _ _ _ _ (ix2 s w) s w (Cert.Finite.ext2 (by simp) (by simp)) g).trans ?_
    pointwise [k0_pay6]

theorem step8 (c : Dev nD) (t : Fin cfg0.N) (h : ¬ t.val % 4 = 0) (s : Fin 2048) (w : Fin 128) :
    (outsAt0 m c t.val t.isLt).2.2 (ix2 s w) = (outsAt0 m c (t.val - 1) (Nat.lt_of_le_of_lt (Nat.sub_le _ _) t.isLt)).2.2 (ix2 s w)
      + TV (iblk m c 0 t) (iblk m c 1 t) (iblk m c 5 t) (iblk m c 4 t) s w := by
  rw [outsAt0_B m c t h]; frame_out
  simp only [View.readCov_cons_toLoadRect]
  refine halves _ _ _ _ _ _ s w _ (fun g => (chainV_lo (iblk m c 0 t) (iblk m c 1 t) (iblk m c 5 t) (iblk m c 4 t) _ s w g).trans (congrArg (· + _) ?_))
    (fun g => (chainV_hi (iblk m c 0 t) (iblk m c 1 t) (iblk m c 5 t) (iblk m c 4 t) _ s w g).trans (congrArg (· + _) ?_))
  · exact congrArg (outsAt0 m c (t.val - 1) _).2.2 (emb_lo s w g)
  · exact congrArg (outsAt0 m c (t.val - 1) _).2.2 (emb_hi s w g)

end Kernel

end Cert.Attb
-- ==== Proof.Softmax.lean ====
/- Untrusted: the softmax of a row of reals. -/
module

public import proofs.«01_k».proof.Proof.Finite

@[expose] public section

noncomputable section

open Idealize.ShloMosaic
open scoped BigOperators

namespace Cert.Soft

/-- The word of `-∞` is read as `⊥`. -/
theorem word_ninf : (Ideal.ofBits FTy.f32 0xFF800000#32 : EReal) = ⊥ := by
  simp [Ideal.ofBits, Ideal.ieee]

/-- The largest of finitely many reals is a real. -/
theorem fold_max_real {n : ℕ} [NeZero n] (f : Fin n → ℝ) : ∃ M : ℝ, Finset.univ.fold max (⊥ : EReal) (fun k => ((f k : ℝ) : EReal)) = (M : EReal) := by
  have h1 : Finset.univ.fold max (⊥ : EReal) (fun k => ((f k : ℝ) : EReal)) < ⊤ := by
    rw [Finset.fold_max_lt]
    exact ⟨bot_lt_top, fun k _ => EReal.coe_lt_top _⟩
  have h2 : ⊥ < Finset.univ.fold max (⊥ : EReal) (fun k => ((f k : ℝ) : EReal)) := by
    rw [Finset.lt_fold_max]
    exact Or.inr ⟨0, Finset.mem_univ _, EReal.bot_lt_coe _⟩
  exact ⟨_, (EReal.coe_toReal h1.ne h2.ne').symm⟩

variable {n : ℕ} [NeZero n] (s d : Fin n → ℝ)

/-- The share of position `t` of a row of scores. -/
def P (t : Fin n) : ℝ := Real.exp (s t) / ∑ u, Real.exp (s u)

/-- The shares' gradient: the cotangent `d` of the shares to the scores. -/
def DS (t : Fin n) : ℝ := P s t * (d t - ∑ u, P s u * d u)

theorem sum_pos (M : ℝ) : 0 < ∑ u, Real.exp (s u - M) :=
  Finset.sum_pos (fun u _ => Real.exp_pos _) ⟨0, Finset.mem_univ _⟩

/-- Scores moved by `M` have the same shares. -/
theorem share (M : ℝ) (t : Fin n) : Real.exp (s t - M) / (∑ u, Real.exp (s u - M)) = P s t := by
  have e : ∀ u, Real.exp (s u - M) = Real.exp (s u) * Real.exp (-M) := fun u => by rw [← Real.exp_add, sub_eq_add_neg]
  unfold P
  simp only [e]
  rw [← Finset.sum_mul, mul_div_mul_right _ _ (Real.exp_pos _).ne']

/-- The share from the row's saved log-sum. -/
theorem share_log (M : ℝ) (t : Fin n) : Real.exp (s t - (M + Real.log (∑ u, Real.exp (s u - M)))) = P s t := by
  rw [← sub_sub, Real.exp_sub, Real.exp_log (sum_pos s M), share]

/-- The shares' gradient as the row's quotient is differentiated: the numerator's cotangent and the sum's. -/
theorem quotient (M : ℝ) (t : Fin n) :
    (d t / (∑ u, Real.exp (s u - M)) + -∑ v, d v * (1 / ((∑ u, Real.exp (s u - M)) * (∑ u, Real.exp (s u - M)))) * Real.exp (s v - M)) * Real.exp (s t - M)
      = DS s d t := by
  have hL := (sum_pos s M).ne'
  unfold DS
  simp only [← share s M]
  generalize (∑ u, Real.exp (s u - M)) = L at hL
  have e : (∑ v, d v * (1 / (L * L)) * Real.exp (s v - M)) = (∑ u, Real.exp (s u - M) / L * d u) / L := by
    rw [Finset.sum_div]
    exact Finset.sum_congr rfl fun v _ => by field_simp
  rw [e]
  field_simp
  ring

end Cert.Soft
end
-- ==== Proof.AttbHost.lean ====
module

public import proofs.«01_k».proof.Proof.Attb
public import proofs.«01_k».proof.Proof.Softmax
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open scoped BigOperators

namespace Cert.Attb

section Kernel

open Cert.AttbKIdeal Cert.AttbKIdeal.Gen

/-- The head `g` of key head `k`. -/
abbrev hd (k : Fin 2) (g : Fin 4) : Fin 8 := ⟨k.val * 4 + g.val, by omega⟩
/-- A query head's key head, and its place among that key head's four. -/
abbrev kh (h : Fin 8) : Fin 2 := ⟨h.val / 4, by omega⟩
abbrev gh (h : Fin 8) : Fin 4 := ⟨h.val % 4, by omega⟩
/-- The column of the projections that holds value `e` of key head `k`. -/
abbrev vc (k : Fin 2) (e : Fin 64) : Fin 2304 := ⟨2176 + (k.val * 64 + e.val), by omega⟩
/-- The batch and the position of a flattened row. -/
abbrev bi (r : Fin 4096) : Fin 2 := ⟨r.val / 2048, by omega⟩
abbrev si (r : Fin 4096) : Fin 2048 := ⟨r.val % 2048, by omega⟩

/-- Rank-four and rank-five indices from their coordinates. -/
theorem ext4 {a b c d : ℕ} {p p' : Fin a} {q q' : Fin b} {r r' : Fin c} {s s' : Fin d} (h0 : p.val = p'.val) (h1 : q.val = q'.val) (h2 : r.val = r'.val)
    (h3 : s.val = s'.val) : ix4 p q r s = ix4 p' q' r' s' := by
  rw [Fin.ext h0, Fin.ext h1, Fin.ext h2, Fin.ext h3]
theorem ext5 {a b c d e : ℕ} {p p' : Fin a} {q q' : Fin b} {r r' : Fin c} {s s' : Fin d} {t t' : Fin e} (h0 : p.val = p'.val) (h1 : q.val = q'.val)
    (h2 : r.val = r'.val) (h3 : s.val = s'.val) (h4 : t.val = t'.val) : ix5 p q r s t = ix5 p' q' r' s' t' := by
  rw [Fin.ext h0, Fin.ext h1, Fin.ext h2, Fin.ext h3, Fin.ext h4]

variable (m : (ℓ : Loc nD τ sig) → Buf (Elt Ideal) ℓ) (c : Dev nD)

/-- The queries, the keys, the projections and the cotangent that the program is given. -/
abbrev A0 : FVec Ideal S2x2048x8x64 .f32 := m ⟨c, Proc.devRef .tc main_arg0⟩
abbrev A1 : FVec Ideal S2x2048x2x64 .f32 := m ⟨c, Proc.devRef .tc main_arg1⟩
abbrev A2 : FVec Ideal S2x2048x2304 .f32 := m ⟨c, Proc.devRef .tc main_arg2⟩
abbrev A3 : FVec Ideal S2x2048x1024 .f32 := m ⟨c, Proc.devRef .tc main_arg3⟩

def W1 : FVec Ideal S2x2048x2x64 .f32 := V m c main_v1
def W4 : FVec Ideal S2x2x4x2048x2048 .f32 := V m c main_v4
def W5 : FVec Ideal S2x2x4x2048 .f32 := V m c main_v5
def W6 : FVec Ideal S2x2x4x2048x1 .f32 := V m c main_v6
def W9 : FVec Ideal S2x2x4x2048x2048 .f32 := V m c main_v9
def W11 : FVec Ideal S2x2x4x2048x1 .f32 := V m c main_v11
def W16 : FVec Ideal S2x2x4x2048x64 .f32 := V m c main_v16
def W18 : FVec Ideal S2x2x4x2048x1 .f32 := V m c main_v18
def W22 : FVec Ideal S4096x8 .f32 := V m c main_v22
def W29 : FVec Ideal S4096x512 .bf16 := V m c main_v29
def W24 : FVec Ideal S4096x512 .bf16 := V m c main_v24
def W26 : FVec Ideal S4096x128 .bf16 := V m c main_v26
def W28 : FVec Ideal S4096x2304 .bf16 := V m c main_v28
def W30 : FVec Ideal S4096x1024 .f32 := V m c main_v30
theorem V1 : W1 m c = (shapeCast _ (extractStridedSlice S2x2048x128 ![0, 0, 2176] (A2 m c) slices_S2x2048x2304_S2x2048x128_0_0_2176) shapeCasts_S2x2048x128_S2x2048x2x64 : FVec Ideal S2x2048x2x64 .f32) := by
  unfold W1 V; after_reads_simp <;> rfl
theorem V4 : W4 m c = (transpose S2x2x4x2048x2048 [0, 1, 4, 3, 2] (Host.dotGeneral (φ₁ := .f32) (φ₂ := .f32) dot_S2x2048x2x64_S2x2048x2x4x64_S2x2x2048x2048x4_3_4_1_13_02_02 none (A1 m c) (shapeCast S2x2048x2x4x64 (A0 m c) shapeCasts_S2x2048x8x64_S2x2048x2x4x64)) transposes_S2x2x2048x2048x4_S2x2x4x2048x2048_0_1_4_3_2 : FVec Ideal S2x2x4x2048x2048 .f32) := by
  unfold W4 V; after_reads_simp <;> rfl
theorem V5 : W5 m c = (Host.reduce FloatOps.maximumf (W4 m c) (constant S_ .f32 0xFF800000#32 : FVec Ideal S_ .f32) reducesTo_S2x2x4x2048x2048_S2x2x4x2048_d4 h_S_ : FVec Ideal S2x2x4x2048 .f32) := by
  unfold W4 W5 V; after_reads_simp <;> rfl
theorem V6 : W6 m c = (broadcastInDim S2x2x4x2048x1 ![0, 1, 2, 3] bcast_S2x2x4x2048_S2x2x4x2048x1_0_1_2_3 (W5 m c) : FVec Ideal S2x2x4x2048x1 .f32) := by
  unfold W5 W6 V; after_reads_simp <;> rfl
theorem V9 : W9 m c = (Host.exp (subf (W4 m c) (broadcastInDim S2x2x4x2048x2048 ![0, 1, 2, 3, 4] bcast_S2x2x4x2048x1_S2x2x4x2048x2048_0_1_2_3_4 (W6 m c))) : FVec Ideal S2x2x4x2048x2048 .f32) := by
  unfold W4 W6 W9 V; after_reads_simp <;> rfl
theorem V11 : W11 m c = (broadcastInDim S2x2x4x2048x1 ![0, 1, 2, 3] bcast_S2x2x4x2048_S2x2x4x2048x1_0_1_2_3 (Host.reduceAdd (W9 m c) (constant S_ .f32 0x00000000#32 : FVec Ideal S_ .f32) reducesTo_S2x2x4x2048x2048_S2x2x4x2048_d4 h_S_) : FVec Ideal S2x2x4x2048x1 .f32) := by
  unfold W11 W9 V; after_reads_simp <;> rfl
theorem V16 : W16 m c = (mulf (Host.dotGeneral (φ₁ := .f32) (φ₂ := .f32) dot_S2x2x4x2048x2048_S2x2048x2x64_S2x2x4x2048x64_4_1_23_3_01_02 none (W9 m c) (W1 m c) : FVec Ideal S2x2x4x2048x64 .f32) (broadcastInDim S2x2x4x2048x64 ![0, 1, 2, 3, 4] bcast_S2x2x4x2048x1_S2x2x4x2048x64_0_1_2_3_4 (Host.divf (broadcastInDim S2x2x4x2048x1 ![] bcast_S_S2x2x4x2048x1 (constant S_ .f32 0x3F800000#32 : FVec Ideal S_ .f32)) (W11 m c))) : FVec Ideal S2x2x4x2048x64 .f32) := by
  unfold W1 W11 W16 W9 V; after_reads_simp <;> rfl
theorem V18 : W18 m c = (addf (W6 m c) (Host.log (W11 m c)) : FVec Ideal S2x2x4x2048x1 .f32) := by
  unfold W11 W18 W6 V; after_reads_simp <;> rfl
theorem V22 : W22 m c = (shapeCast _ (transpose S2x2048x2x4x1 [0, 3, 1, 2, 4] (W18 m c) transposes_S2x2x4x2048x1_S2x2048x2x4x1_0_3_1_2_4) shapeCasts_S2x2048x2x4x1_S4096x8 : FVec Ideal S4096x8 .f32) := by
  unfold W18 W22 V; after_reads_simp <;> rfl
theorem V29 : W29 m c = (truncf .bf16 (shapeCast S4096x512 (transpose S2x2048x2x4x64 [0, 3, 1, 2, 4] (W16 m c) transposes_S2x2x4x2048x64_S2x2048x2x4x64_0_3_1_2_4) shapeCasts_S2x2048x2x4x64_S4096x512 : FVec Ideal S4096x512 .f32) bitsLt_bf16_f32 : FVec Ideal S4096x512 .bf16) := by
  unfold W16 W29 V; after_reads_simp <;> rfl
theorem V24 : W24 m c = (truncf .bf16 (shapeCast S4096x512 (A0 m c) shapeCasts_S2x2048x8x64_S4096x512 : FVec Ideal S4096x512 .f32) bitsLt_bf16_f32 : FVec Ideal S4096x512 .bf16) := by
  unfold W24 V; after_reads_simp <;> rfl
theorem V26 : W26 m c = (truncf .bf16 (shapeCast S4096x128 (A1 m c) shapeCasts_S2x2048x2x64_S4096x128 : FVec Ideal S4096x128 .f32) bitsLt_bf16_f32 : FVec Ideal S4096x128 .bf16) := by
  unfold W26 V; after_reads_simp <;> rfl
theorem V28 : W28 m c = (truncf .bf16 (shapeCast S4096x2304 (A2 m c) shapeCasts_S2x2048x2304_S4096x2304 : FVec Ideal S4096x2304 .f32) bitsLt_bf16_f32 : FVec Ideal S4096x2304 .bf16) := by
  unfold W28 V; after_reads_simp <;> rfl
theorem V30 : W30 m c = (shapeCast _ (A3 m c) shapeCasts_S2x2048x1024_S4096x1024 : FVec Ideal S4096x1024 .f32) := by
  unfold W30 V; after_reads_simp <;> rfl

theorem at1 (b k : Fin 2) (t : Fin 2048) (e : Fin 64) : W1 m c (ix4 b t k e) = A2 m c (ix3 b t (vc k e)) := by
  rw [V1]; pointwise
theorem at4 (b k : Fin 2) (g : Fin 4) (r t : Fin 2048) : W4 m c (ix5 b k g r t) = ∑ e : Fin 64, A1 m c (ix4 b t k e) * A0 m c (ix4 b r (hd k g) e) := by
  rw [V4]; pointwise
theorem at5 (b k : Fin 2) (g : Fin 4) (r : Fin 2048) : W5 m c (ix4 b k g r) = Finset.univ.fold max ⊥ fun t : Fin 2048 => W4 m c (ix5 b k g r t) := by
  rw [V5]; generalize W4 m c = x; pointwise; rw [Cert.Soft.word_ninf]
theorem at6 (b k : Fin 2) (g : Fin 4) (r : Fin 2048) : W6 m c (ix5 b k g r 0) = W5 m c (ix4 b k g r) := by
  rw [V6]; generalize W5 m c = x; pointwise
theorem at9 (b k : Fin 2) (g : Fin 4) (r t : Fin 2048) : W9 m c (ix5 b k g r t) = Ideal.exp (W4 m c (ix5 b k g r t) - W5 m c (ix4 b k g r)) := by
  rw [V9, ← at6]; generalize W4 m c = x; generalize W6 m c = y; pointwise
theorem at11 (b k : Fin 2) (g : Fin 4) (r : Fin 2048) : W11 m c (ix5 b k g r 0) = ∑ t : Fin 2048, W9 m c (ix5 b k g r t) := by
  rw [V11]; generalize W9 m c = x; pointwise
theorem at16 (b k : Fin 2) (g : Fin 4) (r : Fin 2048) (e : Fin 64) : W16 m c (ix5 b k g r e)
    = (∑ t : Fin 2048, W9 m c (ix5 b k g r t) * A2 m c (ix3 b t (vc k e))) * Ideal.div 1 (W11 m c (ix5 b k g r 0)) := by
  have e1 : ∀ t : Fin 2048, A2 m c (ix3 b t (vc k e)) = W1 m c (ix4 b t k e) := fun t => (at1 m c b k t e).symm
  simp only [e1]
  rw [V16]; generalize W9 m c = x; generalize W1 m c = y; generalize W11 m c = z; pointwise
theorem pure18 (x y : FVec Ideal S2x2x4x2048x1 .f32) (i : S2x2x4x2048x1.Idx) : (addf x (Host.log y) : FVec Ideal S2x2x4x2048x1 .f32) i = x i + Ideal.log (y i) := by
  pointwise
theorem at18' (b k : Fin 2) (g : Fin 4) (r : Fin 2048) : W18 m c (ix5 b k g r 0) = W6 m c (ix5 b k g r 0) + Ideal.log (W11 m c (ix5 b k g r 0)) :=
  (congrFun (V18 m c) _).trans (pure18 (W6 m c) (W11 m c) _)
theorem at18 (b k : Fin 2) (g : Fin 4) (r : Fin 2048) : W18 m c (ix5 b k g r 0) = W5 m c (ix4 b k g r) + Ideal.log (W11 m c (ix5 b k g r 0)) := by
  rw [at18', at6]
theorem at22 (r : Fin 4096) (h : Fin 8) : W22 m c (ix2 r h) = W18 m c (ix5 (bi r) (kh h) (gh h) (si r) 0) := by
  rw [V22]; generalize W18 m c = x; pointwise
theorem at29 (r : Fin 4096) (h : Fin 8) (e : Fin 64) : W29 m c (ix2 r (qc h e)) = W16 m c (ix5 (bi r) (kh h) (gh h) (si r) e) := by
  rw [V29]; generalize W16 m c = x; pointwise; exact congrArg x (ext5 rfl (by simp only; omega) (by simp only; omega) rfl (by simp only; omega))
theorem at24 (r : Fin 4096) (h : Fin 8) (e : Fin 64) : W24 m c (ix2 r (qc h e)) = A0 m c (ix4 (bi r) (si r) h e) := by
  rw [V24]; pointwise; exact congrArg (A0 m c) (ext4 rfl rfl (by simp only; omega) (by simp only; omega))
theorem at26 (r : Fin 4096) (h : Fin 8) (e : Fin 64) : W26 m c (ix2 r (kc h e)) = A1 m c (ix4 (bi r) (si r) (kh h) e) := by
  rw [V26]; pointwise; exact congrArg (A1 m c) (ext4 rfl rfl (by simp only; omega) (by simp only; omega))
theorem at28 (r : Fin 4096) (x : Fin 2304) : W28 m c (ix2 r x) = A2 m c (ix3 (bi r) (si r) x) := by
  rw [V28]; pointwise
theorem at30 (r : Fin 4096) (x : Fin 1024) : W30 m c (ix2 r x) = A3 m c (ix3 (bi r) (si r) x) := by
  rw [V30]; pointwise

end Kernel
end Cert.Attb
-- ==== Proof.AttbValue.lean ====
/- Untrusted: the attention's gradient kernel on arrays of reals. -/
module

public import proofs.«01_k».proof.Proof.AttbHost

@[expose] public section

set_option maxRecDepth 16384

noncomputable section

open Idealize.ShloMosaic Idealize.ShloMosaic.TcCoe Idealize.SL.Sem
open Idealize.ShloMosaic.Pipeline (Dat)
open scoped BigOperators

namespace Cert.Attb

/-- A query head as a key head and its place. -/
theorem hd_kh (h : Fin 8) : hd (kh h) (gh h) = h := Fin.ext (by simp only; omega)

section Math

variable (f0 : Fin 2 → Fin 2048 → Fin 8 → Fin 64 → ℝ) (f1 : Fin 2 → Fin 2048 → Fin 2 → Fin 64 → ℝ) (f2 : Fin 2 → Fin 2048 → Fin 2304 → ℝ)
  (f3 : Fin 2 → Fin 2048 → Fin 1024 → ℝ)

/-- The column of the cotangent that belongs to value `e` of query head `h`. -/
abbrev dc (h : Fin 8) (e : Fin 64) : Fin 1024 := ⟨512 + (h.val * 64 + e.val), by omega⟩

/-- The scores of a query's row. -/
def SC (b : Fin 2) (h : Fin 8) (r t : Fin 2048) : ℝ := ∑ e : Fin 64, f1 b t (kh h) e * f0 b r h e
/-- The cotangent of the row's shares. -/
def DP (b : Fin 2) (h : Fin 8) (r t : Fin 2048) : ℝ := ∑ e : Fin 64, f3 b r (dc h e) * f2 b t (vc (kh h) e)
/-- The gradients of the queries, the keys and the values. -/
def GQ (b : Fin 2) (r : Fin 2048) (h : Fin 8) (e : Fin 64) : ℝ := ∑ t : Fin 2048, Soft.DS (SC f0 f1 b h r) (DP f2 f3 b h r) t * f1 b t (kh h) e
def GK (b : Fin 2) (t : Fin 2048) (k : Fin 2) (e : Fin 64) : ℝ :=
  ∑ g : Fin 4, ∑ r : Fin 2048, Soft.DS (SC f0 f1 b (hd k g) r) (DP f2 f3 b (hd k g) r) t * f0 b r (hd k g) e
def GV (b : Fin 2) (t : Fin 2048) (k : Fin 2) (e : Fin 64) : ℝ :=
  ∑ g : Fin 4, ∑ r : Fin 2048, Soft.P (SC f0 f1 b (hd k g) r) t * f3 b r (dc (hd k g) e)

/-- The three gradients as the arrays that hold them. -/
def RQ : (⟨2, ![4096, 512]⟩ : Shape).Idx → EReal := fun j =>
  ((GQ f0 f1 f2 f3 (bi (j 0)) (si (j 0)) ⟨(j 1).val / 64, by have := (j 1).isLt; simp at this; omega⟩ ⟨(j 1).val % 64, by omega⟩ : ℝ) : EReal)
def RK : (⟨2, ![4096, 128]⟩ : Shape).Idx → EReal := fun j =>
  ((GK f0 f1 f2 f3 (bi (j 0)) (si (j 0)) ⟨(j 1).val / 64, by have := (j 1).isLt; simp at this; omega⟩ ⟨(j 1).val % 64, by omega⟩ : ℝ) : EReal)
def RV : (⟨2, ![4096, 128]⟩ : Shape).Idx → EReal := fun j =>
  ((GV f0 f1 f3 (bi (j 0)) (si (j 0)) ⟨(j 1).val / 64, by have := (j 1).isLt; simp at this; omega⟩ ⟨(j 1).val % 64, by omega⟩ : ℝ) : EReal)

end Math

section Kernel

open Cert.AttbKIdeal Cert.AttbKIdeal.Gen

variable (m : (ℓ : Loc nD τ sig) → Buf (Elt Ideal) ℓ) (c : Dev nD)

theorem idx_val : ∀ t : Fin grid0.N, win0_0.index t = ![t.val, 0] ∧ win0_1.index t = ![t.val / 4, 0] ∧ win0_2.index t = ![t.val / 4, 17]
    ∧ win0_3.index t = ![t.val, 0] ∧ win0_4.index t = ![t.val, 0] ∧ win0_5.index t = ![t.val, 1] ∧ win0_6.index t = ![t.val, 0]
    ∧ win0_7.index t = ![t.val / 4, 0] ∧ win0_8.index t = ![t.val / 4, 0] :=
  (by decide +kernel : ∀ t : Fin grid0.N, _)

theorem N_8 : cfg0.N = 8 := by decide +kernel

/-- The flattened row that row `r` of point `t`'s block of queries is, and that row `s` of its block of keys is. -/
abbrev qr (t : Fin cfg0.N) (r : Fin 512) : Fin 4096 := ⟨t.val * 512 + r.val, by have := lt_of_lt_of_eq t.isLt N_8; omega⟩
abbrev kr (t : Fin cfg0.N) (s : Fin 2048) : Fin 4096 := ⟨t.val / 4 * 2048 + s.val, by have := lt_of_lt_of_eq t.isLt N_8; omega⟩
/-- Its batch, and its place in it. -/
abbrev pb (t : Fin cfg0.N) : Fin 2 := ⟨t.val / 4, by have := lt_of_lt_of_eq t.isLt N_8; omega⟩
abbrev pr (t : Fin cfg0.N) (r : Fin 512) : Fin 2048 := ⟨t.val % 4 * 512 + r.val, by omega⟩

theorem blk0 (t : Fin cfg0.N) (r : Fin 512) (x : Fin 512) : (iblk m c 0 t : FVec Ideal S512x512 .bf16) (ix2 r x) = W24 m c (ix2 (qr t r) (x : Fin 512)) := by
  have e : ((cfg0.win 0).blk t).view.emb (ix2 r x) = (ix2 (qr t r) (x : Fin 512) : S4096x512.Idx) :=
    Cert.Finite.ext2 (by blk_simp [idx_val t]) (by blk_simp [idx_val t])
  unfold iblk W24
  rw [View.read_apply, cast_eq, e]
theorem blk1 (t : Fin cfg0.N) (r : Fin 2048) (x : Fin 128) : (iblk m c 1 t : FVec Ideal S2048x128 .bf16) (ix2 r x) = W26 m c (ix2 (kr t r) (x : Fin 128)) := by
  have e : ((cfg0.win 1).blk t).view.emb (ix2 r x) = (ix2 (kr t r) (x : Fin 128) : S4096x128.Idx) :=
    Cert.Finite.ext2 (by blk_simp [idx_val t]) (by blk_simp [idx_val t])
  unfold iblk W26
  rw [View.read_apply, cast_eq, e]
theorem blk2 (t : Fin cfg0.N) (r : Fin 2048) (x : Fin 128) : (iblk m c 2 t : FVec Ideal S2048x128 .bf16) (ix2 r x) = W28 m c (ix2 (kr t r) (⟨2176 + x.val, by omega⟩ : Fin 2304)) := by
  have e : ((cfg0.win 2).blk t).view.emb (ix2 r x) = (ix2 (kr t r) (⟨2176 + x.val, by omega⟩ : Fin 2304) : S4096x2304.Idx) :=
    Cert.Finite.ext2 (by blk_simp [idx_val t]) (by blk_simp [idx_val t])
  unfold iblk W28
  rw [View.read_apply, cast_eq, e]
theorem blk3 (t : Fin cfg0.N) (r : Fin 512) (x : Fin 512) : (iblk m c 3 t : FVec Ideal S512x512 .bf16) (ix2 r x) = W29 m c (ix2 (qr t r) (x : Fin 512)) := by
  have e : ((cfg0.win 3).blk t).view.emb (ix2 r x) = (ix2 (qr t r) (x : Fin 512) : S4096x512.Idx) :=
    Cert.Finite.ext2 (by blk_simp [idx_val t]) (by blk_simp [idx_val t])
  unfold iblk W29
  rw [View.read_apply, cast_eq, e]
theorem blk4 (t : Fin cfg0.N) (r : Fin 512) (x : Fin 8) : (iblk m c 4 t : FVec Ideal S512x8 .f32) (ix2 r x) = W22 m c (ix2 (qr t r) (x : Fin 8)) := by
  have e : ((cfg0.win 4).blk t).view.emb (ix2 r x) = (ix2 (qr t r) (x : Fin 8) : S4096x8.Idx) :=
    Cert.Finite.ext2 (by blk_simp [idx_val t]) (by blk_simp [idx_val t])
  unfold iblk W22
  rw [View.read_apply, cast_eq, e]
theorem blk5 (t : Fin cfg0.N) (r : Fin 512) (x : Fin 512) : (iblk m c 5 t : FVec Ideal S512x512 .f32) (ix2 r x) = W30 m c (ix2 (qr t r) (⟨512 + x.val, by omega⟩ : Fin 1024)) := by
  have e : ((cfg0.win 5).blk t).view.emb (ix2 r x) = (ix2 (qr t r) (⟨512 + x.val, by omega⟩ : Fin 1024) : S4096x1024.Idx) :=
    Cert.Finite.ext2 (by blk_simp [idx_val t]) (by blk_simp [idx_val t])
  unfold iblk W30
  rw [View.read_apply, cast_eq, e]

/-- A block's row and column as the array's. -/
theorem at_q (f0 : Fin 2 → Fin 2048 → Fin 8 → Fin 64 → ℝ) (t : Fin cfg0.N) (r : Fin 512) (y : Fin 512) (h : Fin 8) (e : Fin 64) (hy : y.val = h.val * 64 + e.val) :
    f0 (pb t) (pr t r) h e = f0 (bi (qr t r)) (si (qr t r)) ⟨y.val / 64, by omega⟩ ⟨y.val % 64, by omega⟩ := by
  have a : pb t = bi (qr t r) := Fin.ext (by simp only; omega)
  have b : pr t r = si (qr t r) := Fin.ext (by simp only; omega)
  have c : h = ⟨y.val / 64, by omega⟩ := Fin.ext (by simp only; omega)
  have d : e = ⟨y.val % 64, by omega⟩ := Fin.ext (by simp only; omega)
  rw [← a, ← b, ← c, ← d]

/-- The sum over a batch's four blocks of 512 rows, head by head, is the sum over its rows. -/
theorem over_blocks (F : Fin 2 → Fin 4 → Fin 2048 → ℝ) (n : ℕ) (hn : n < 2) (hs : ∀ s : Fin 4, 4 * n + s.val < cfg0.N) :
    ∑ s : Fin 4, ∑ g : Fin 4, ∑ r : Fin 512, F (pb ⟨4 * n + s.val, hs s⟩) g (pr ⟨4 * n + s.val, hs s⟩ r) = ∑ g : Fin 4, ∑ r : Fin 2048, F ⟨n, hn⟩ g r := by
  rw [Finset.sum_comm]
  refine Finset.sum_congr rfl fun g _ => ?_
  refine Fin.sum_mul_add_congr (fun s r hl => ?_)
  have a : pb ⟨4 * n + s.val, hs s⟩ = ⟨n, hn⟩ := Fin.ext (by simp only; omega)
  have b : pr ⟨4 * n + s.val, hs s⟩ r = ⟨s.val * 512 + r.val, hl⟩ := Fin.ext (by simp only; omega)
  rw [a, b]
/-- The batch, the position, the key head and the place of an entry of a key's gradient. -/
theorem at_k (f : Fin 2 → Fin 2048 → Fin 2 → Fin 64 → ℝ) (t : Fin cfg0.N) (s : Fin 2048) (w : Fin 128) (n : ℕ) (hn : n < 2) (h : n = t.val / 4) :
    f ⟨n, hn⟩ s ⟨w.val / 64, by omega⟩ ⟨w.val % 64, by omega⟩ = f (bi (kr t s)) (si (kr t s)) ⟨w.val / 64, by omega⟩ ⟨w.val % 64, by omega⟩ := by
  have a : (⟨n, hn⟩ : Fin 2) = bi (kr t s) := Fin.ext (by simp only; omega)
  have b : s = si (kr t s) := Fin.ext (by simp only; omega)
  rw [a, ← b]

variable {f0 : Fin 2 → Fin 2048 → Fin 8 → Fin 64 → ℝ} {f1 : Fin 2 → Fin 2048 → Fin 2 → Fin 64 → ℝ} {f2 : Fin 2 → Fin 2048 → Fin 2304 → ℝ}
  {f3 : Fin 2 → Fin 2048 → Fin 1024 → ℝ}
  (h0 : ∀ b r h e, A0 m c (ix4 b r h e) = (f0 b r h e : ℝ)) (h1 : ∀ b r h e, A1 m c (ix4 b r h e) = (f1 b r h e : ℝ))

include h0 h1

theorem real4 (b k : Fin 2) (g : Fin 4) (r t : Fin 2048) : W4 m c (ix5 b k g r t) = (SC f0 f1 b (hd k g) r t : ℝ) := by
  have e : kh (hd k g) = k := Fin.ext (by simp only; omega)
  rw [at4]
  simp only [h0, h1, ← EReal.coe_mul, Cert.Finite.coe_sum]
  unfold SC
  rw [e]

theorem real5 (b k : Fin 2) (g : Fin 4) (r : Fin 2048) : ∃ M : ℝ, W5 m c (ix4 b k g r) = (M : EReal) := by
  rw [at5]
  simp only [real4 m c h0 h1]
  exact Soft.fold_max_real _

/-- A row's saved log-sum and its output, for the row's largest score `M`. -/
theorem saved (b k : Fin 2) (g : Fin 4) (r : Fin 2048) : ∃ M : ℝ,
    W18 m c (ix5 b k g r 0) = ((M + Real.log (∑ u, Real.exp (SC f0 f1 b (hd k g) r u - M)) : ℝ) : EReal)
    ∧ ∀ (_ : ∀ b r x, A2 m c (ix3 b r x) = (f2 b r x : ℝ)) (e : Fin 64), W16 m c (ix5 b k g r e) = ((∑ t, Soft.P (SC f0 f1 b (hd k g) r) t * f2 b t (vc k e) : ℝ) : EReal) := by
  obtain ⟨M, hM⟩ := real5 m c h0 h1 b k g r
  have e9 : ∀ t, W9 m c (ix5 b k g r t) = (Real.exp (SC f0 f1 b (hd k g) r t - M) : ℝ) := fun t => by
    rw [at9, real4 m c h0 h1, hM, ← EReal.coe_sub, Ideal.exp_coe]
  have e11 : W11 m c (ix5 b k g r 0) = ((∑ t, Real.exp (SC f0 f1 b (hd k g) r t - M) : ℝ) : EReal) := by
    rw [at11]
    simp only [e9, Cert.Finite.coe_sum]
  have hp := Soft.sum_pos (SC f0 f1 b (hd k g) r) M
  refine ⟨M, ?_, fun h2 e => ?_⟩
  · rw [at18, hM, e11, Ideal.log_coe, if_neg hp.not_ge, ← EReal.coe_add]
  · rw [at16, e11, ← EReal.coe_one, Ideal.div_coe hp.ne']
    simp only [e9, h2, ← EReal.coe_mul, Cert.Finite.coe_sum]
    refine congrArg _ ?_
    rw [Finset.sum_mul]
    refine Finset.sum_congr rfl fun t _ => ?_
    rw [← Soft.share _ M]
    ring

/-- The block's probabilities are the row's shares. -/
theorem PB_real (t : Fin cfg0.N) (h : Fin 8) (r : Fin 512) (s : Fin 2048) :
    PB (iblk m c 0 t) (iblk m c 1 t) (iblk m c 4 t) h r s = (Soft.P (SC f0 f1 (pb t) h (pr t r)) s : ℝ) := by
  obtain ⟨M, hl, -⟩ := saved m c h0 h1 (pb t) (kh h) (gh h) (pr t r) (f2 := fun _ _ _ => 0)
  rw [hd_kh] at hl
  have eb : bi (qr t r) = pb t := Fin.ext (by simp only; omega)
  have es : si (qr t r) = pr t r := Fin.ext (by simp only; omega)
  have eb' : bi (kr t s) = pb t := Fin.ext (by simp only; omega)
  have es' : si (kr t s) = s := Fin.ext (by simp only; omega)
  unfold PB
  simp only [blk0, blk1, blk4, at24, at26, at22, eb, es, eb', es', hl, h0, h1, hd_kh]
  simp only [← EReal.coe_mul, Cert.Finite.coe_sum, ← EReal.coe_sub, Ideal.exp_coe]
  have e : ∑ e : Fin 64, f0 (pb t) (pr t r) h e * f1 (pb t) s (kh h) e = SC f0 f1 (pb t) h (pr t r) s := Finset.sum_congr rfl fun e _ => mul_comm _ _
  rw [← Soft.share_log (SC f0 f1 (pb t) h (pr t r)) M s, e]

/-- The block's gradient of the scores is the shares' gradient. -/
theorem SB_real (h2 : ∀ b r x, A2 m c (ix3 b r x) = (f2 b r x : ℝ)) (h3 : ∀ b r x, A3 m c (ix3 b r x) = (f3 b r x : ℝ)) (t : Fin cfg0.N) (h : Fin 8) (r : Fin 512) (s : Fin 2048) :
    SB (iblk m c 0 t) (iblk m c 3 t) (iblk m c 1 t) (iblk m c 2 t) (iblk m c 5 t) (iblk m c 4 t) h r s
      = (Soft.DS (SC f0 f1 (pb t) h (pr t r)) (DP f2 f3 (pb t) h (pr t r)) s : ℝ) := by
  obtain ⟨M, -, ho⟩ := saved m c h0 h1 (pb t) (kh h) (gh h) (pr t r) (f2 := f2)
  have ho := ho h2
  have eb : bi (qr t r) = pb t := Fin.ext (by simp only; omega)
  have es : si (qr t r) = pr t r := Fin.ext (by simp only; omega)
  have eb' : bi (kr t s) = pb t := Fin.ext (by simp only; omega)
  have es' : si (kr t s) = s := Fin.ext (by simp only; omega)
  have ed : ∀ e : Fin 64, (⟨512 + (qc h e).val, by omega⟩ : Fin 1024) = dc h e := fun e => Fin.ext (by simp only; omega)
  have ev : ∀ e : Fin 64, (⟨2176 + (kc h e).val, by omega⟩ : Fin 2304) = vc (kh h) e := fun e => Fin.ext (by simp only; omega)
  unfold SB
  rw [PB_real m c h0 h1]
  simp only [blk2, blk3, blk5, at28, at29, at30, eb, es, eb', es', ed, ev, ho, h2, h3, hd_kh]
  simp only [← EReal.coe_mul, Cert.Finite.coe_sum, ← EReal.coe_sub]
  refine congrArg _ ?_
  unfold Soft.DS DP
  refine congrArg (_ * ·) (congrArg (_ - ·) ?_)
  simp only [Finset.mul_sum]
  rw [Finset.sum_comm]
  exact Finset.sum_congr rfl fun u _ => Finset.sum_congr rfl fun e _ => by ring

theorem TK_real (h2 : ∀ b r x, A2 m c (ix3 b r x) = (f2 b r x : ℝ)) (h3 : ∀ b r x, A3 m c (ix3 b r x) = (f3 b r x : ℝ)) (t : Fin cfg0.N) (s : Fin 2048) (w : Fin 128) :
    TK (iblk m c 0 t) (iblk m c 3 t) (iblk m c 1 t) (iblk m c 2 t) (iblk m c 5 t) (iblk m c 4 t) s w
      = ((∑ g : Fin 4, ∑ r : Fin 512, Soft.DS (SC f0 f1 (pb t) (hh w g) (pr t r)) (DP f2 f3 (pb t) (hh w g) (pr t r)) s * f0 (pb t) (pr t r) (hh w g) (ec w) : ℝ) : EReal) := by
  have eb : ∀ r, bi (qr t r) = pb t := fun r => Fin.ext (by simp only; omega)
  have es : ∀ r, si (qr t r) = pr t r := fun r => Fin.ext (by simp only; omega)
  unfold TK
  simp only [SB_real m c h0 h1 h2 h3, blk0, at24, eb, es, h0, ← EReal.coe_mul, Cert.Finite.coe_sum]

theorem TV_real (h3 : ∀ b r x, A3 m c (ix3 b r x) = (f3 b r x : ℝ)) (t : Fin cfg0.N) (s : Fin 2048) (w : Fin 128) :
    TV (iblk m c 0 t) (iblk m c 1 t) (iblk m c 5 t) (iblk m c 4 t) s w
      = ((∑ g : Fin 4, ∑ r : Fin 512, Soft.P (SC f0 f1 (pb t) (hh w g) (pr t r)) s * f3 (pb t) (pr t r) (dc (hh w g) (ec w)) : ℝ) : EReal) := by
  have eb : ∀ r, bi (qr t r) = pb t := fun r => Fin.ext (by simp only; omega)
  have es : ∀ r, si (qr t r) = pr t r := fun r => Fin.ext (by simp only; omega)
  unfold TV
  simp only [PB_real m c h0 h1, blk5, at30, eb, es, h3, ← EReal.coe_mul, Cert.Finite.coe_sum]
  exact congrArg _ (Finset.sum_congr rfl fun g _ => Finset.sum_congr rfl fun r _ => congrArg (fun z => _ * f3 (pb t) (pr t r) z) (Fin.ext (by simp only; omega)))

theorem DQ_real (h2 : ∀ b r x, A2 m c (ix3 b r x) = (f2 b r x : ℝ)) (h3 : ∀ b r x, A3 m c (ix3 b r x) = (f3 b r x : ℝ)) (t : Fin cfg0.N) (h : Fin 8) (r : Fin 512) (e : Fin 64) :
    DQ (iblk m c 0 t) (iblk m c 3 t) (iblk m c 1 t) (iblk m c 2 t) (iblk m c 5 t) (iblk m c 4 t) h (ix2 r e) = (GQ f0 f1 f2 f3 (pb t) (pr t r) h e : ℝ) := by
  have eb : ∀ r, bi (kr t r) = pb t := fun r => Fin.ext (by simp only; omega)
  have es : ∀ r, si (kr t r) = r := fun r => Fin.ext (by simp only; omega)
  rw [DQ_apply]
  simp only [SB_real m c h0 h1 h2 h3, blk1, at26, eb, es, h1, ← EReal.coe_mul, Cert.Finite.coe_sum]
  rfl

set_option maxHeartbeats 1600000 in
/-- The gradient of the queries as the kernel leaves it. -/
theorem final6 (h2 : ∀ b r x, A2 m c (ix3 b r x) = (f2 b r x : ℝ)) (h3 : ∀ b r x, A3 m c (ix3 b r x) = (f3 b r x : ℝ)) :
    (dats m 0 c).arrAt 6 (cfgs 0).N = RQ f0 f1 f2 f3 := by
  refine (dats m 0 c).arrAt_eq_of_covers 6 _ (by decide +kernel) fun t hf y => ?_
  blk_simp; rw [after0_6]
  idx_vars y
  have ht : t.val < 8 := lt_of_lt_of_eq t.isLt N_0
  have e : ((View.whole main_v31_0).slice (win0_6.rect t)).emb (ix2 y0 y1) = ix2 (qr t y0) y1 :=
    Cert.Finite.ext2 (by blk_simp [idx_val t] <;> omega) (by blk_simp [idx_val t] <;> omega)
  rw [e]; unfold RQ
  have key : ∀ (h : Fin 8) (i : S512x64.Idx) (h0' : y0.val = (i 0).val) (h1' : y1.val = h.val * 64 + (i 1).val),
      DQ (iblk m c 0 t) (iblk m c 3 t) (iblk m c 1 t) (iblk m c 2 t) (iblk m c 5 t) (iblk m c 4 t) h i
        = ((GQ f0 f1 f2 f3 (bi (qr t y0)) (si (qr t y0)) ⟨y1.val / 64, by omega⟩ ⟨y1.val % 64, by omega⟩ : ℝ) : EReal) := fun h i a b => by
    idx_vars i
    have a' : y0 = i0 := Fin.ext a
    rw [DQ_real m c h0 h1 h2 h3, at_q (GQ f0 f1 f2 f3) t i0 y1 h i1 b, a']
  by_cases h : t.val % 4 = 0
  · rw [outsAt0_A m c t h]; frame_out
    canon_tiles x hx
    · exact key 7 x (by simpa using hx0) (by simpa using hx1)
    · exact key 6 x (by simpa using hx0) (by simpa using hx1)
    · exact key 5 x (by simpa using hx0) (by simpa using hx1)
    · exact key 4 x (by simpa using hx0) (by simpa using hx1)
    · exact key 3 x (by simpa using hx0) (by simpa using hx1)
    · exact key 2 x (by simpa using hx0) (by simpa using hx1)
    · exact key 1 x (by simpa using hx0) (by simpa using hx1)
    · exact key 0 x (by simpa using hx0) (by simpa using hx1)
  · rw [outsAt0_B m c t h]; frame_out
    canon_tiles x hx
    · exact key 7 x (by simpa using hx0) (by simpa using hx1)
    · exact key 6 x (by simpa using hx0) (by simpa using hx1)
    · exact key 5 x (by simpa using hx0) (by simpa using hx1)
    · exact key 4 x (by simpa using hx0) (by simpa using hx1)
    · exact key 3 x (by simpa using hx0) (by simpa using hx1)
    · exact key 2 x (by simpa using hx0) (by simpa using hx1)
    · exact key 1 x (by simpa using hx0) (by simpa using hx1)
    · exact key 0 x (by simpa using hx0) (by simpa using hx1)

set_option maxHeartbeats 1600000 in
/-- The gradient of the keys as the kernel leaves it. -/
theorem final7 (h2 : ∀ b r x, A2 m c (ix3 b r x) = (f2 b r x : ℝ)) (h3 : ∀ b r x, A3 m c (ix3 b r x) = (f3 b r x : ℝ)) :
    (dats m 0 c).arrAt 7 (cfgs 0).N = RK f0 f1 f2 f3 := by
  refine (dats m 0 c).arrAt_eq_of_covers 7 _ (by decide +kernel) fun t hf y => ?_
  blk_simp; rw [after0_7]
  idx_vars y
  have ht : t.val < 8 := lt_of_lt_of_eq t.isLt N_0
  have e : ((View.whole main_v31_1).slice (win0_7.rect t)).emb (ix2 y0 y1) = ix2 (kr t y0) y1 :=
    Cert.Finite.ext2 (by blk_simp [idx_val t] <;> omega) (by blk_simp [idx_val t] <;> omega)
  rw [e]; unfold RK
  have hr : t.val % 4 = 4 - 1 := (flush0_7 t).mp hf
  refine (Pipeline.eq_sum_fin_of_reset_step_apply_of_flush (fun n h => (outsAt0 m c n h).2.1) 4 (fun _ => 0)
    (fun t i => TK (iblk m c 0 t) (iblk m c 3 t) (iblk m c 1 t) (iblk m c 2 t) (iblk m c 5 t) (iblk m c 4 t) (i 0) (i 1))
    (fun t h i => by idx_vars i; exact reset7 m c t h i0 i1) (fun t h i => by idx_vars i; exact step7 m c t h i0 i1) t hr (ix2 y0 y1)).trans ?_
  show 0 + ∑ s : Fin 4, TK (iblk m c 0 ⟨4 * (t.val / 4) + s.val, Pipeline.run_point_lt_of_flush t hr s⟩) (iblk m c 3 ⟨4 * (t.val / 4) + s.val, Pipeline.run_point_lt_of_flush t hr s⟩) (iblk m c 1 ⟨4 * (t.val / 4) + s.val, Pipeline.run_point_lt_of_flush t hr s⟩) (iblk m c 2 ⟨4 * (t.val / 4) + s.val, Pipeline.run_point_lt_of_flush t hr s⟩) (iblk m c 5 ⟨4 * (t.val / 4) + s.val, Pipeline.run_point_lt_of_flush t hr s⟩) (iblk m c 4 ⟨4 * (t.val / 4) + s.val, Pipeline.run_point_lt_of_flush t hr s⟩) y0 y1 = _
  rw [zero_add]
  simp only [TK_real m c h0 h1 h2 h3, Cert.Finite.coe_sum]
  refine congrArg _ ?_
  refine (over_blocks (fun b g r => Soft.DS (SC f0 f1 b (hh y1 g) r) (DP f2 f3 b (hh y1 g) r) y0 * f0 b r (hh y1 g) (ec y1)) (t.val / 4) (by omega) fun s => Pipeline.run_point_lt_of_flush t hr s).trans ?_
  refine .trans ?_ (at_k (GK f0 f1 f2 f3) t y0 y1 (t.val / 4) (by omega) rfl)
  unfold GK
  refine Finset.sum_congr rfl fun g _ => ?_
  have eh : hh y1 g = hd ⟨y1.val / 64, by omega⟩ g := Fin.ext (by simp only; omega)
  rw [eh]

set_option maxHeartbeats 1600000 in
/-- The gradient of the values as the kernel leaves it. -/
theorem final8 (h2 : ∀ b r x, A2 m c (ix3 b r x) = (f2 b r x : ℝ)) (h3 : ∀ b r x, A3 m c (ix3 b r x) = (f3 b r x : ℝ)) :
    (dats m 0 c).arrAt 8 (cfgs 0).N = RV f0 f1 f3 := by
  refine (dats m 0 c).arrAt_eq_of_covers 8 _ (by decide +kernel) fun t hf y => ?_
  blk_simp; rw [after0_8]
  idx_vars y
  have ht : t.val < 8 := lt_of_lt_of_eq t.isLt N_0
  have e : ((View.whole main_v31_2).slice (win0_8.rect t)).emb (ix2 y0 y1) = ix2 (kr t y0) y1 :=
    Cert.Finite.ext2 (by blk_simp [idx_val t] <;> omega) (by blk_simp [idx_val t] <;> omega)
  rw [e]; unfold RV
  have hr : t.val % 4 = 4 - 1 := (flush0_8 t).mp hf
  refine (Pipeline.eq_sum_fin_of_reset_step_apply_of_flush (fun n h => (outsAt0 m c n h).2.2) 4 (fun _ => 0)
    (fun t i => TV (iblk m c 0 t) (iblk m c 1 t) (iblk m c 5 t) (iblk m c 4 t) (i 0) (i 1))
    (fun t h i => by idx_vars i; exact reset8 m c t h i0 i1) (fun t h i => by idx_vars i; exact step8 m c t h i0 i1) t hr (ix2 y0 y1)).trans ?_
  show 0 + ∑ s : Fin 4, TV (iblk m c 0 ⟨4 * (t.val / 4) + s.val, Pipeline.run_point_lt_of_flush t hr s⟩) (iblk m c 1 ⟨4 * (t.val / 4) + s.val, Pipeline.run_point_lt_of_flush t hr s⟩) (iblk m c 5 ⟨4 * (t.val / 4) + s.val, Pipeline.run_point_lt_of_flush t hr s⟩) (iblk m c 4 ⟨4 * (t.val / 4) + s.val, Pipeline.run_point_lt_of_flush t hr s⟩) y0 y1 = _
  rw [zero_add]
  simp only [TV_real m c h0 h1 h3, Cert.Finite.coe_sum]
  refine congrArg _ ?_
  refine (over_blocks (fun b g r => Soft.P (SC f0 f1 b (hh y1 g) r) y0 * f3 b r (dc (hh y1 g) (ec y1))) (t.val / 4) (by omega) fun s => Pipeline.run_point_lt_of_flush t hr s).trans ?_
  refine .trans ?_ (at_k (GV f0 f1 f3) t y0 y1 (t.val / 4) (by omega) rfl)
  unfold GV
  refine Finset.sum_congr rfl fun g _ => ?_
  have eh : hh y1 g = hd ⟨y1.val / 64, by omega⟩ g := Fin.ext (by simp only; omega)
  rw [eh]
end Kernel
end Cert.Attb
end
-- ==== Proof.AttbRef.lean ====
/- Untrusted: what the attention's reference computes on arrays of reals. -/
module

public import proofs.«01_k».proof.Proof.AttbValue
public import proofs.«01_k».proof.Proof.Gen.AttbRIdeal.Read

@[expose] public section

set_option maxRecDepth 16384

noncomputable section

open Idealize.ShloMosaic Idealize.ShloMosaic.TcCoe Idealize.SL.Sem
open scoped BigOperators

namespace Cert.Attb

section Reference

open Cert.AttbRIdeal Cert.AttbRIdeal.Gen Cert.AttbRIdeal.Read

variable (x0 : FVec Ideal S2x2048x8x64 .f32) (x1 : FVec Ideal S2x2048x2x64 .f32) (x2 : FVec Ideal S2x2048x2304 .f32) (x3 : FVec Ideal S2x2048x1024 .f32)

/-- The largest of a row's scores, and the larger of it and nothing. -/
theorem s5 (b k : Fin 2) (g : Fin 4) (r : Fin 2048) : val_main_v5 (F := Ideal) x0 x1 (ix4 b k g r)
    = Finset.univ.fold max ⊥ fun t : Fin 2048 => (val_main_v4 (F := Ideal) x0 x1 : FVec Ideal S2x2x4x2048x2048 .f32) (ix5 b k g r t) := by
  unfold val_main_v5 val_main_cst
  generalize val_main_v4 (F := Ideal) x0 x1 = q
  pointwise; rw [Cert.Soft.word_ninf]

theorem s12 (b k : Fin 2) (g : Fin 4) (r : Fin 2048) : (val_main_v12 (F := Ideal) x0 x1 : FVec Ideal S2x2x4x2048 .f32) (ix4 b k g r) = (val_main_v5 (F := Ideal) x0 x1 : FVec Ideal S2x2x4x2048 .f32) (ix4 b k g r) := by
  have e : (val_main_v11 (F := Ideal) : FVec Ideal S2x2x4x2048 .f32) (ix4 b k g r) = (⊥ : EReal) := by
    pointwise [val_main_v11, val_main_cst_1]; exact Cert.Soft.word_ninf
  rw [val_main_v12_apply, e]
  generalize val_main_v5 (F := Ideal) x0 x1 (ix4 b k g r) = q
  exact max_eq_right bot_le

theorem s25 (b k : Fin 2) (g : Fin 4) (r t : Fin 2048) : (val_main_v25 (F := Ideal) x0 x1 : FVec Ideal S2x2x4x2048x2048 .f32) (ix5 b k g r t)
    = Ideal.exp ((val_main_v4 (F := Ideal) x0 x1 : FVec Ideal S2x2x4x2048x2048 .f32) (ix5 b k g r t) - (val_main_v5 (F := Ideal) x0 x1 : FVec Ideal S2x2x4x2048 .f32) (ix4 b k g r)) := by
  rw [← s12]
  unfold val_main_v25 val_main_v24 val_main_v23 val_main_v22
  generalize val_main_v12 (F := Ideal) x0 x1 = p
  generalize val_main_v4 (F := Ideal) x0 x1 = q
  pointwise

theorem s26 (b k : Fin 2) (g : Fin 4) (r : Fin 2048) : (val_main_v26 (F := Ideal) x0 x1 : FVec Ideal S2x2x4x2048 .f32) (ix4 b k g r)
    = ∑ t : Fin 2048, (val_main_v25 (F := Ideal) x0 x1 : FVec Ideal S2x2x4x2048x2048 .f32) (ix5 b k g r t) := by
  unfold val_main_v26
  generalize val_main_v25 (F := Ideal) x0 x1 = p
  pointwise [val_main_cst_7]

theorem s29 (b k : Fin 2) (g : Fin 4) (r t : Fin 2048) : (val_main_v29 (F := Ideal) x0 x1 : FVec Ideal S2x2x4x2048x2048 .f32) (ix5 b k g r t)
    = Ideal.div ((val_main_v25 (F := Ideal) x0 x1 : FVec Ideal S2x2x4x2048x2048 .f32) (ix5 b k g r t)) ((val_main_v26 (F := Ideal) x0 x1 : FVec Ideal S2x2x4x2048 .f32) (ix4 b k g r)) := by
  unfold val_main_v29 val_main_v28 val_main_v27
  generalize val_main_v26 (F := Ideal) x0 x1 = p
  generalize val_main_v25 (F := Ideal) x0 x1 = q
  pointwise

theorem s42 (b k : Fin 2) (g : Fin 4) (r t : Fin 2048) : (val_main_v42 (F := Ideal) x0 x1 : FVec Ideal S2x2x4x2048x2048 .f32) (ix5 b k g r t)
    = Ideal.div 1 ((val_main_v26 (F := Ideal) x0 x1 : FVec Ideal S2x2x4x2048 .f32) (ix4 b k g r) * (val_main_v26 (F := Ideal) x0 x1 : FVec Ideal S2x2x4x2048 .f32) (ix4 b k g r)) := by
  unfold val_main_v42 val_main_v32 val_main_v30 val_main_v27
  generalize val_main_v26 (F := Ideal) x0 x1 = p
  pointwise [val_main_v31, val_main_cst_8]

theorem s38 (b k : Fin 2) (e : Fin 64) (g : Fin 4) (r : Fin 2048) : (val_main_v38 (F := Ideal) x3 : FVec Ideal S2x2x64x4x2048 .f32) (ix5 b k e g r) = x3 (ix3 b r (dc (hd k g) e)) := by
  unfold val_main_v38 val_main_v37 val_main_v36
  pointwise
  refine congrArg (fun z => x3 (ix3 b r z)) (Fin.ext ?_)
  simp only; omega

theorem s1 (b k : Fin 2) (t : Fin 2048) (e : Fin 64) : (val_main_v1 (F := Ideal) x2 : FVec Ideal S2x2048x2x64 .f32) (ix4 b t k e) = x2 (ix3 b t (vc k e)) := by
  unfold val_main_v1 val_main_v0
  pointwise

theorem s2 (b k : Fin 2) (t : Fin 2048) (g : Fin 4) (e : Fin 64) : (val_main_v2 (F := Ideal) x0 : FVec Ideal S2x2048x2x4x64 .f32) (ix5 b t k g e) = x0 (ix4 b t (hd k g) e) := by
  unfold val_main_v2
  pointwise

theorem s4 (b k : Fin 2) (g : Fin 4) (r t : Fin 2048) : (val_main_v4 (F := Ideal) x0 x1 : FVec Ideal S2x2x4x2048x2048 .f32) (ix5 b k g r t)
    = ∑ e : Fin 64, x1 (ix4 b t k e) * x0 (ix4 b r (hd k g) e) := by
  simp only [← s2]
  unfold val_main_v4 val_main_v3
  generalize val_main_v2 (F := Ideal) x0 = p
  pointwise

theorem s39 (b k : Fin 2) (g : Fin 4) (r t : Fin 2048) : (val_main_v39 (F := Ideal) x2 x3 : FVec Ideal S2x2x4x2048x2048 .f32) (ix5 b k g r t)
    = ∑ e : Fin 64, x3 (ix3 b r (dc (hd k g) e)) * x2 (ix3 b t (vc k e)) := by
  simp only [← s38, ← s1]
  unfold val_main_v39
  generalize val_main_v38 (F := Ideal) x3 = p
  generalize val_main_v1 (F := Ideal) x2 = q
  pointwise

theorem s40 (b k : Fin 2) (e : Fin 64) (t : Fin 2048) : (val_main_v40 (F := Ideal) x0 x1 x3 : FVec Ideal S2x2x64x2048 .f32) (ix4 b k e t)
    = ∑ g : Fin 4, ∑ r : Fin 2048, x3 (ix3 b r (dc (hd k g) e)) * (val_main_v29 (F := Ideal) x0 x1 : FVec Ideal S2x2x4x2048x2048 .f32) (ix5 b k g r t) := by
  simp only [← s38]
  unfold val_main_v40
  generalize val_main_v38 (F := Ideal) x3 = p
  generalize val_main_v29 (F := Ideal) x0 x1 = q
  pointwise

theorem s45 (b k : Fin 2) (g : Fin 4) (r : Fin 2048) : (val_main_v45 (F := Ideal) x0 x1 x2 x3 : FVec Ideal S2x2x4x2048 .f32) (ix4 b k g r)
    = ∑ t : Fin 2048, (val_main_v39 (F := Ideal) x2 x3 : FVec Ideal S2x2x4x2048x2048 .f32) (ix5 b k g r t) * (val_main_v42 (F := Ideal) x0 x1 : FVec Ideal S2x2x4x2048x2048 .f32) (ix5 b k g r t)
        * (val_main_v25 (F := Ideal) x0 x1 : FVec Ideal S2x2x4x2048x2048 .f32) (ix5 b k g r t) := by
  unfold val_main_v45 val_main_v44 val_main_v43
  generalize val_main_v39 (F := Ideal) x2 x3 = p
  generalize val_main_v42 (F := Ideal) x0 x1 = q
  generalize val_main_v25 (F := Ideal) x0 x1 = s
  pointwise [val_main_cst_9]

theorem s50 (b k : Fin 2) (g : Fin 4) (r : Fin 2048) : (val_main_v50 (F := Ideal) x0 x1 x2 x3 : FVec Ideal S2x2x4x2048 .f32) (ix4 b k g r)
    = -(val_main_v45 (F := Ideal) x0 x1 x2 x3 : FVec Ideal S2x2x4x2048 .f32) (ix4 b k g r) := by
  unfold val_main_v50 val_main_v47 val_main_v46
  generalize val_main_v45 (F := Ideal) x0 x1 x2 x3 = p
  pointwise [val_main_cst_10]
  exact Fin.sum_univ_one _

theorem s53 (b k : Fin 2) (g : Fin 4) (r t : Fin 2048) : (val_main_v53 (F := Ideal) x0 x1 x2 x3 : FVec Ideal S2x2x4x2048x2048 .f32) (ix5 b k g r t)
    = (Ideal.div ((val_main_v39 (F := Ideal) x2 x3 : FVec Ideal S2x2x4x2048x2048 .f32) (ix5 b k g r t)) ((val_main_v26 (F := Ideal) x0 x1 : FVec Ideal S2x2x4x2048 .f32) (ix4 b k g r))
        + -(val_main_v45 (F := Ideal) x0 x1 x2 x3 : FVec Ideal S2x2x4x2048 .f32) (ix4 b k g r)) * (val_main_v25 (F := Ideal) x0 x1 : FVec Ideal S2x2x4x2048x2048 .f32) (ix5 b k g r t) := by
  rw [← s50]
  unfold val_main_v53 val_main_v52 val_main_v51 val_main_v49 val_main_v48 val_main_v27
  generalize val_main_v39 (F := Ideal) x2 x3 = p
  generalize val_main_v26 (F := Ideal) x0 x1 = q
  generalize val_main_v25 (F := Ideal) x0 x1 = s
  generalize val_main_v50 (F := Ideal) x0 x1 x2 x3 = u
  pointwise

theorem s55 (b k : Fin 2) (g : Fin 4) (r : Fin 2048) (e : Fin 64) : (val_main_v55 (F := Ideal) x0 x1 x2 x3 : FVec Ideal S2x2x2048x4x64 .f32) (ix5 b k r g e)
    = ∑ t : Fin 2048, (val_main_v53 (F := Ideal) x0 x1 x2 x3 : FVec Ideal S2x2x4x2048x2048 .f32) (ix5 b k g r t) * x1 (ix4 b t k e) := by
  unfold val_main_v55 val_main_v54
  generalize val_main_v53 (F := Ideal) x0 x1 x2 x3 = p
  pointwise

theorem s57 (b k : Fin 2) (t : Fin 2048) (e : Fin 64) : (val_main_v57 (F := Ideal) x0 x1 x2 x3 : FVec Ideal S2x2x2048x64 .f32) (ix4 b k t e)
    = ∑ g : Fin 4, ∑ r : Fin 2048, (val_main_v53 (F := Ideal) x0 x1 x2 x3 : FVec Ideal S2x2x4x2048x2048 .f32) (ix5 b k g r t) * x0 (ix4 b r (hd k g) e) := by
  simp only [← s2]
  unfold val_main_v57 val_main_v54
  generalize val_main_v2 (F := Ideal) x0 = q
  generalize val_main_v53 (F := Ideal) x0 x1 x2 x3 = p
  pointwise
  exact Finset.sum_comm

theorem s60 (r : Fin 4096) (y : Fin 512) : (val_main_v60 (F := Ideal) x0 x1 x2 x3 : FVec Ideal S4096x512 .f32) (ix2 r y)
    = (val_main_v55 (F := Ideal) x0 x1 x2 x3 : FVec Ideal S2x2x2048x4x64 .f32) (ix5 (bi r) ⟨y.val / 64 / 4, by omega⟩ (si r) ⟨y.val / 64 % 4, by omega⟩ ⟨y.val % 64, by omega⟩) := by
  unfold val_main_v60 val_main_v59 val_main_v56
  generalize val_main_v55 (F := Ideal) x0 x1 x2 x3 = p
  pointwise
  exact congrArg p (ext5 (by first | rfl | omega) (by simp only; omega) (by first | rfl | omega) (by first | rfl | omega) (by first | rfl | omega))

theorem s61 (r : Fin 4096) (y : Fin 128) : (val_main_v61 (F := Ideal) x0 x1 x2 x3 : FVec Ideal S4096x128 .f32) (ix2 r y)
    = (val_main_v57 (F := Ideal) x0 x1 x2 x3 : FVec Ideal S2x2x2048x64 .f32) (ix4 (bi r) ⟨y.val / 64, by omega⟩ (si r) ⟨y.val % 64, by omega⟩) := by
  unfold val_main_v61 val_main_v58
  generalize val_main_v57 (F := Ideal) x0 x1 x2 x3 = p
  pointwise

theorem s62 (r : Fin 4096) (y : Fin 128) : (val_main_v62 (F := Ideal) x0 x1 x3 : FVec Ideal S4096x128 .f32) (ix2 r y)
    = (val_main_v40 (F := Ideal) x0 x1 x3 : FVec Ideal S2x2x64x2048 .f32) (ix4 (bi r) ⟨y.val / 64, by omega⟩ ⟨y.val % 64, by omega⟩ (si r)) := by
  unfold val_main_v62 val_main_v41
  generalize val_main_v40 (F := Ideal) x0 x1 x3 = p
  pointwise

variable {x0 x1 x2 x3}
variable {f0 : Fin 2 → Fin 2048 → Fin 8 → Fin 64 → ℝ} {f1 : Fin 2 → Fin 2048 → Fin 2 → Fin 64 → ℝ} {f2 : Fin 2 → Fin 2048 → Fin 2304 → ℝ}
  {f3 : Fin 2 → Fin 2048 → Fin 1024 → ℝ}

/-- A row's share of the scores in the reference, and the gradient of its scores. -/
theorem r29 (h0 : ∀ b r h e, x0 (ix4 b r h e) = (f0 b r h e : ℝ)) (h1 : ∀ b r h e, x1 (ix4 b r h e) = (f1 b r h e : ℝ)) (b k : Fin 2) (g : Fin 4) (r : Fin 2048) :
    ∃ M : ℝ, (∀ t, (val_main_v25 (F := Ideal) x0 x1 : FVec Ideal S2x2x4x2048x2048 .f32) (ix5 b k g r t) = (Real.exp (SC f0 f1 b (hd k g) r t - M) : ℝ))
      ∧ (val_main_v26 (F := Ideal) x0 x1 : FVec Ideal S2x2x4x2048 .f32) (ix4 b k g r) = ((∑ t, Real.exp (SC f0 f1 b (hd k g) r t - M) : ℝ) : EReal)
      ∧ ∀ t, (val_main_v29 (F := Ideal) x0 x1 : FVec Ideal S2x2x4x2048x2048 .f32) (ix5 b k g r t) = (Soft.P (SC f0 f1 b (hd k g) r) t : ℝ) := by
  have e : kh (hd k g) = k := Fin.ext (by simp only; omega)
  have a4 : ∀ t, (val_main_v4 (F := Ideal) x0 x1 : FVec Ideal S2x2x4x2048x2048 .f32) (ix5 b k g r t) = (SC f0 f1 b (hd k g) r t : ℝ) := fun t => by
    rw [s4]
    simp only [h0, h1, ← EReal.coe_mul, Cert.Finite.coe_sum]
    unfold SC
    rw [e]
  obtain ⟨M, hM⟩ : ∃ M : ℝ, (val_main_v5 (F := Ideal) x0 x1 : FVec Ideal S2x2x4x2048 .f32) (ix4 b k g r) = (M : EReal) := by
    rw [s5]
    simp only [a4]
    exact Soft.fold_max_real _
  have a25 : ∀ t, (val_main_v25 (F := Ideal) x0 x1 : FVec Ideal S2x2x4x2048x2048 .f32) (ix5 b k g r t) = (Real.exp (SC f0 f1 b (hd k g) r t - M) : ℝ) := fun t => by
    rw [s25, a4, hM, ← EReal.coe_sub, Ideal.exp_coe]
  have a26 : (val_main_v26 (F := Ideal) x0 x1 : FVec Ideal S2x2x4x2048 .f32) (ix4 b k g r) = ((∑ t, Real.exp (SC f0 f1 b (hd k g) r t - M) : ℝ) : EReal) := by
    rw [s26]
    simp only [a25, Cert.Finite.coe_sum]
  refine ⟨M, a25, a26, fun t => ?_⟩
  rw [s29, a25, a26, Ideal.div_coe (Soft.sum_pos _ M).ne', ← EReal.coe_mul, ← Soft.share _ M, mul_one_div]

theorem r53 (h0 : ∀ b r h e, x0 (ix4 b r h e) = (f0 b r h e : ℝ)) (h1 : ∀ b r h e, x1 (ix4 b r h e) = (f1 b r h e : ℝ))
    (h2 : ∀ b r x, x2 (ix3 b r x) = (f2 b r x : ℝ)) (h3 : ∀ b r x, x3 (ix3 b r x) = (f3 b r x : ℝ)) (b k : Fin 2) (g : Fin 4) (r t : Fin 2048) :
    (val_main_v53 (F := Ideal) x0 x1 x2 x3 : FVec Ideal S2x2x4x2048x2048 .f32) (ix5 b k g r t) = (Soft.DS (SC f0 f1 b (hd k g) r) (DP f2 f3 b (hd k g) r) t : ℝ) := by
  have e : kh (hd k g) = k := Fin.ext (by simp only; omega)
  obtain ⟨M, a25, a26, -⟩ := r29 h0 h1 b k g r
  have a39 : ∀ t, (val_main_v39 (F := Ideal) x2 x3 : FVec Ideal S2x2x4x2048x2048 .f32) (ix5 b k g r t) = (DP f2 f3 b (hd k g) r t : ℝ) := fun t => by
    rw [s39]
    simp only [h2, h3, ← EReal.coe_mul, Cert.Finite.coe_sum]
    unfold DP
    rw [e]
  have hp := Soft.sum_pos (SC f0 f1 b (hd k g) r) M
  rw [s53, s45, a39, a26, a25, Ideal.div_coe hp.ne']
  simp only [a39, a25, s42, a26, ← EReal.coe_mul, ← EReal.coe_one]
  simp only [Ideal.div_coe (mul_pos hp hp).ne', ← EReal.coe_mul, Cert.Finite.coe_sum, ← EReal.coe_neg, ← EReal.coe_add]
  refine congrArg _ ?_
  rw [← Soft.quotient _ _ M]
  simp only [mul_one_div]

theorem ref60 (h0 : ∀ b r h e, x0 (ix4 b r h e) = (f0 b r h e : ℝ)) (h1 : ∀ b r h e, x1 (ix4 b r h e) = (f1 b r h e : ℝ))
    (h2 : ∀ b r x, x2 (ix3 b r x) = (f2 b r x : ℝ)) (h3 : ∀ b r x, x3 (ix3 b r x) = (f3 b r x : ℝ)) : val_main_v60 (F := Ideal) x0 x1 x2 x3 = RQ f0 f1 f2 f3 := by
  funext j
  idx_vars j
  rw [s60, s55]
  simp only [r53 h0 h1 h2 h3, h1, ← EReal.coe_mul, Cert.Finite.coe_sum]
  have e : hd ⟨j1.val / 64 / 4, by omega⟩ ⟨j1.val / 64 % 4, by omega⟩ = (⟨j1.val / 64, by omega⟩ : Fin 8) := Fin.ext (by simp only; omega)
  rw [e]
  rfl

theorem ref61 (h0 : ∀ b r h e, x0 (ix4 b r h e) = (f0 b r h e : ℝ)) (h1 : ∀ b r h e, x1 (ix4 b r h e) = (f1 b r h e : ℝ))
    (h2 : ∀ b r x, x2 (ix3 b r x) = (f2 b r x : ℝ)) (h3 : ∀ b r x, x3 (ix3 b r x) = (f3 b r x : ℝ)) : val_main_v61 (F := Ideal) x0 x1 x2 x3 = RK f0 f1 f2 f3 := by
  funext j
  idx_vars j
  rw [s61, s57]
  simp only [r53 h0 h1 h2 h3, h0, ← EReal.coe_mul, Cert.Finite.coe_sum]
  rfl

theorem ref62 (h0 : ∀ b r h e, x0 (ix4 b r h e) = (f0 b r h e : ℝ)) (h1 : ∀ b r h e, x1 (ix4 b r h e) = (f1 b r h e : ℝ))
    (h3 : ∀ b r x, x3 (ix3 b r x) = (f3 b r x : ℝ)) : val_main_v62 (F := Ideal) x0 x1 x3 = RV f0 f1 f3 := by
  funext j
  idx_vars j
  rw [s62, s40]
  have a29 : ∀ (b k : Fin 2) (g : Fin 4) (r t : Fin 2048), (val_main_v29 (F := Ideal) x0 x1 : FVec Ideal S2x2x4x2048x2048 .f32) (ix5 b k g r t) = (Soft.P (SC f0 f1 b (hd k g) r) t : ℝ) := fun b k g r t =>
    (r29 h0 h1 b k g r).choose_spec.2.2 t
  simp only [a29, h3, ← EReal.coe_mul, Cert.Finite.coe_sum]
  exact congrArg _ (Finset.sum_congr rfl fun g _ => Finset.sum_congr rfl fun r _ => mul_comm _ _)

end Reference
end Cert.Attb
end
-- ==== Proof.AttbClaims.lean ====
/- Untrusted: the claims about the attention's gradient. -/
module

public import proofs.«01_k».proof.Defs
public import proofs.«01_k».proof.Proof.AttbRef
public import proofs.«01_k».proof.Proof.Gen.AttbK.Frame
public import proofs.«01_k».proof.Proof.Gen.AttbRIdeal.Run
public import Idealize.ShloMosaic.Adequacy
public import Idealize.ShloMosaic.Lib.Quiescent

@[expose] public section

noncomputable section

namespace Cert.Attb

open Idealize.ShloMosaic Idealize.ShloMosaic.TcCoe Idealize.SL.Sem

/-- The side conditions of the precondition's operations. -/
theorem preFacts : Cert.Pre_attb_finite.Facts where
  bcast_S_S2x2048x8x64 := by decide
  reducesTo_S2x2048x8x64_S_d0_1_2_3 := by decide
  h_S_ := by decide
  bcast_S_S2x2048x2x64 := by decide
  reducesTo_S2x2048x2x64_S_d0_1_2_3 := by decide
  bcast_S_S2x2048x2304 := by decide
  reducesTo_S2x2048x2304_S_d0_1_2 := by decide
  bcast_S_S2x2048x1024 := by decide
  reducesTo_S2x2048x1024_S_d0_1_2 := by decide

instance : Subsingleton Cert.Pre_attb_finite.S_.Idx := ⟨fun a b => funext fun k => k.elim0⟩

/-- Under the precondition the four arguments are arrays of reals. -/
theorem reals [Cert.Pre_attb_finite.Facts] {x0 : FVec Ideal Cert.Pre_attb_finite.S2x2048x8x64 .f32} {x1 : FVec Ideal Cert.Pre_attb_finite.S2x2048x2x64 .f32}
    {x2 : FVec Ideal Cert.Pre_attb_finite.S2x2048x2304 .f32} {x3 : FVec Ideal Cert.Pre_attb_finite.S2x2048x1024 .f32}
    (h : Cert.Pre_attb_finite.fn (F := Ideal) x0 x1 x2 x3 = fun _ => 1#1) :
    (∃ f : Fin 2 → Fin 2048 → Fin 8 → Fin 64 → ℝ, ∀ b r h e, x0 (ix4 b r h e) = ((f b r h e : ℝ) : EReal))
      ∧ (∃ f : Fin 2 → Fin 2048 → Fin 2 → Fin 64 → ℝ, ∀ b r h e, x1 (ix4 b r h e) = ((f b r h e : ℝ) : EReal))
      ∧ (∃ f : Fin 2 → Fin 2048 → Fin 2304 → ℝ, ∀ b r x, x2 (ix3 b r x) = ((f b r x : ℝ) : EReal))
      ∧ ∃ f : Fin 2 → Fin 2048 → Fin 1024 → ℝ, ∀ b r x, x3 (ix3 b r x) = ((f b r x : ℝ) : EReal) := by
  unfold Cert.Pre_attb_finite.fn Cert.Pre_attb_finite.fn_part1 at h
  obtain ⟨h, h3⟩ := Cert.Finite.and_split h
  obtain ⟨h, h2⟩ := Cert.Finite.and_split h
  obtain ⟨h0, h1⟩ := Cert.Finite.and_split h
  obtain ⟨f0, e0⟩ := Cert.Finite.array_real (fun a => a.elim0) h0
  obtain ⟨f1, e1⟩ := Cert.Finite.array_real (fun a => a.elim0) h1
  obtain ⟨f2, e2⟩ := Cert.Finite.array_real (fun a => a.elim0) h2
  obtain ⟨f3, e3⟩ := Cert.Finite.array_real (fun a => a.elim0) h3
  exact ⟨⟨fun b r h e => f0 (ix4 b r h e), fun b r h e => congrFun e0 _⟩, ⟨fun b r h e => f1 (ix4 b r h e), fun b r h e => congrFun e1 _⟩,
    ⟨fun b r x => f2 (ix3 b r x), fun b r x => congrFun e2 _⟩, ⟨fun b r x => f3 (ix3 b r x), fun b r x => congrFun e3 _⟩⟩

/-- The reference's runs end with its counters at zero. -/
theorem quiescentR : quiescent_AttbRIdeal := fun m ρ _ =>
  (θ_run Cert.AttbRIdeal.defs _ _).mono (fun r h => ⟨fun c => (h c).2.2.2, sem_eq_zero_of_no_sems (by decide) r.2⟩)
    (Cert.AttbRIdeal.Value.run (F := Ideal) m ρ)

/-- On finite arguments the kernel's gradients of the queries, the keys and the values are the reference's derivatives. -/
theorem algebraic [Cert.Pre_attb_finite.Facts] : algebraic_AttbKIdeal_AttbRIdeal_pre_attb_finite := by
  intro m ρ m' ρ' hpre hagree
  refine ⟨_, _, _, Cert.AttbKIdeal.Value.run_blocks (F := Ideal) m ρ, ?_⟩
  refine (θ_run Cert.AttbRIdeal.defs _ _).mono (fun _ h c => ⟨?_, ?_, ?_, (h c).2.2.2⟩) (Cert.AttbRIdeal.Value.run (F := Ideal) m' ρ')
  · obtain ⟨⟨f0, h0⟩, ⟨f1, h1⟩, ⟨f2, h2⟩, ⟨f3, h3⟩⟩ := reals (hpre c)
    refine (h c).1.trans ?_
    rw [Cert.AttbRIdeal.Read.val_main_v60_eq, (hagree c).1, (hagree c).2.1, (hagree c).2.2.1, (hagree c).2.2.2]
    exact (ref60 h0 h1 h2 h3).trans (final6 m c h0 h1 h2 h3).symm
  · obtain ⟨⟨f0, h0⟩, ⟨f1, h1⟩, ⟨f2, h2⟩, ⟨f3, h3⟩⟩ := reals (hpre c)
    refine (h c).2.1.trans ?_
    rw [Cert.AttbRIdeal.Read.val_main_v61_eq, (hagree c).1, (hagree c).2.1, (hagree c).2.2.1, (hagree c).2.2.2]
    exact (ref61 h0 h1 h2 h3).trans (final7 m c h0 h1 h2 h3).symm
  · obtain ⟨⟨f0, h0⟩, ⟨f1, h1⟩, ⟨f2, h2⟩, ⟨f3, h3⟩⟩ := reals (hpre c)
    refine (h c).2.2.1.trans ?_
    rw [Cert.AttbRIdeal.Read.val_main_v62_eq, (hagree c).1, (hagree c).2.1, (hagree c).2.2.2]
    exact (ref62 h0 h1 h3).trans (final8 m c h0 h1 h2 h3).symm

end Cert.Attb
end
-- ==== Proof.Dwout.lean ====
/- Untrusted: the values of the kernel that computes the gradient of the feed-forward's output weight. -/
module

public import proofs.«01_k».proof.Proof.Gen.DwoutKIdeal.Value
public import proofs.«01_k».proof.Proof.Gen.DwoutRIdeal.Run
public import proofs.«01_k».proof.Proof.Finite
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Dwout

/-- The batch and the position of a flattened row. -/
abbrev bi (r : Fin 4096) : Fin 2 := ⟨r.val / 2048, by omega⟩
abbrev si (r : Fin 4096) : Fin 2048 := ⟨r.val % 2048, by omega⟩

/-- The sigmoid, as the kernel's body computes it. -/
def sg (x : EReal) : EReal := Ideal.div 1 (1 + Ideal.exp (0 - x))

/-- The factor one half, as both programs write it. -/
def half : EReal := Ideal.ofBits FTy.f32 0x3F000000#32

theorem half_coe : half = ((1 / 2 : ℝ) : EReal) := Cert.Finite.word_half

/-- Half a sum of extended reals is the sum of the halves. -/
theorem half_sum {ι : Type} (s : Finset ι) (f : ι → EReal) : half * ∑ i ∈ s, f i = ∑ i ∈ s, half * f i := by
  classical
  induction s using Finset.induction_on with
  | empty => simp
  | insert a s ha ih =>
    rw [Finset.sum_insert ha, Finset.sum_insert ha, ← ih, half_coe]
    exact EReal.left_distrib_of_nonneg_of_ne_top (by rw [← EReal.coe_zero, EReal.coe_le_coe_iff]; norm_num) (EReal.coe_ne_top _) _ _

/-- What a row adds to the weight's gradient: the gate's output times the cotangent. -/
def row (g u : (⟨3, ![2, 2048, 2816]⟩ : Shape).Idx → EReal) (d : (⟨3, ![2, 2048, 1024]⟩ : Shape).Idx → EReal) (r : Fin 4096) (f : Fin 2816) (n : Fin 1024) : EReal :=
  g (ix3 (bi r) (si r) f) * sg (g (ix3 (bi r) (si r) f)) * u (ix3 (bi r) (si r) f) * d (ix3 (bi r) (si r) n)

/-- The weight's gradient: half the sum over the rows. -/
def REF (g u : (⟨3, ![2, 2048, 2816]⟩ : Shape).Idx → EReal) (d : (⟨3, ![2, 2048, 1024]⟩ : Shape).Idx → EReal) : (⟨2, ![2816, 1024]⟩ : Shape).Idx → EReal := fun i =>
  half * ∑ r : Fin 4096, row g u d r (i 0) (i 1)

section Kernel

open Cert.DwoutKIdeal Cert.DwoutKIdeal.Gen

theorem idx_val : ∀ t : Fin grid0.N, win0_0.index t = ![0, t.val % 4, t.val / 4] ∧ win0_1.index t = ![1, t.val % 4, t.val / 4]
    ∧ win0_2.index t = ![t.val % 4, 0] ∧ win0_3.index t = ![t.val / 4, 0] :=
  (by decide +kernel : ∀ t : Fin grid0.N, _)

theorem N_8 : cfg0.N = 8 := by decide +kernel

variable (m : (ℓ : Loc nD τ sig) → Buf (Elt Ideal) ℓ) (c : Dev nD)

/-- The gate's argument, the other factor and the cotangent that the program is given. -/
abbrev A0 : FVec Ideal S2x2048x2816 .f32 := m ⟨c, Proc.devRef .tc main_arg0⟩
abbrev A1 : FVec Ideal S2x2048x2816 .f32 := m ⟨c, Proc.devRef .tc main_arg1⟩
abbrev A3 : FVec Ideal S2x2048x1024 .f32 := m ⟨c, Proc.devRef .tc main_arg3⟩

/-- The two planes the kernel reads, as the host stacks them. -/
theorem V4_0 (j : S2x4096x2816.Idx) (h : (j 0 : ℕ) = 0) : V m c main_v4 j = A0 m c (ix3 (bi (j 1)) (si (j 1)) (j 2)) := by
  entry_read
  pointwise
  rw [dif_pos (by omega)]
theorem V4_1 (j : S2x4096x2816.Idx) (h : (j 0 : ℕ) = 1) : V m c main_v4 j = A1 m c (ix3 (bi (j 1)) (si (j 1)) (j 2)) := by
  entry_read
  pointwise
  rw [dif_neg (by omega)]
/-- The flattened cotangent. -/
theorem V6 (j : S4096x1024.Idx) : V m c main_v6 j = A3 m c (ix3 (bi (j 0)) (si (j 0)) (j 1)) := by
  entry_read
  pointwise

/-- The flattened row and the feature of an entry of point `t`'s blocks. -/
abbrev pr (t : Fin cfg0.N) (a : Fin 1024) : Fin 4096 := ⟨t.val % 4 * 1024 + a.val, by omega⟩
abbrev pf (t : Fin cfg0.N) (f : Fin 1408) : Fin 2816 := ⟨t.val / 4 * 1408 + f.val, by have := lt_of_lt_of_eq t.isLt N_8; omega⟩

theorem blk0 (t : Fin cfg0.N) (a : Fin 1024) (f : Fin 1408) :
    (iblk m c 0 t : FVec Ideal S1x1024x1408 .bf16) (ix3 0 a f) = A0 m c (ix3 (bi (pr t a)) (si (pr t a)) (pf t f)) := by
  have k0 : ((((cfg0.win 0).blk t).view.emb (ix3 0 a f) : S2x4096x2816.Idx) 0 : ℕ) = 0 := by blk_simp [idx_val t] <;> rfl
  have k1 : (((cfg0.win 0).blk t).view.emb (ix3 0 a f) : S2x4096x2816.Idx) 1 = pr t a := Fin.ext (by blk_simp [idx_val t])
  have k2 : (((cfg0.win 0).blk t).view.emb (ix3 0 a f) : S2x4096x2816.Idx) 2 = pf t f := Fin.ext (by blk_simp [idx_val t])
  unfold iblk
  rw [View.read_apply, cast_eq]
  refine (V4_0 m c _ k0).trans ?_
  rw [k1, k2]
theorem blk1 (t : Fin cfg0.N) (a : Fin 1024) (f : Fin 1408) :
    (iblk m c 1 t : FVec Ideal S1x1024x1408 .bf16) (ix3 0 a f) = A1 m c (ix3 (bi (pr t a)) (si (pr t a)) (pf t f)) := by
  have k0 : ((((cfg0.win 1).blk t).view.emb (ix3 0 a f) : S2x4096x2816.Idx) 0 : ℕ) = 1 := by blk_simp [idx_val t] <;> rfl
  have k1 : (((cfg0.win 1).blk t).view.emb (ix3 0 a f) : S2x4096x2816.Idx) 1 = pr t a := Fin.ext (by blk_simp [idx_val t])
  have k2 : (((cfg0.win 1).blk t).view.emb (ix3 0 a f) : S2x4096x2816.Idx) 2 = pf t f := Fin.ext (by blk_simp [idx_val t])
  unfold iblk
  rw [View.read_apply, cast_eq]
  refine (V4_1 m c _ k0).trans ?_
  rw [k1, k2]
theorem blk2 (t : Fin cfg0.N) (a n : Fin 1024) :
    (iblk m c 2 t : FVec Ideal S1024x1024 .bf16) (ix2 a n) = A3 m c (ix3 (bi (pr t a)) (si (pr t a)) n) := by
  have k0 : (((cfg0.win 2).blk t).view.emb (ix2 a n) : S4096x1024.Idx) 0 = pr t a := Fin.ext (by blk_simp [idx_val t])
  have k1 : (((cfg0.win 2).blk t).view.emb (ix2 a n) : S4096x1024.Idx) 1 = n := Fin.ext (by blk_simp [idx_val t])
  unfold iblk
  rw [View.read_apply, cast_eq]
  refine (V6 m c _).trans ?_
  rw [k0, k1]

section Block

variable (v0 v2 : FVec Ideal S1x1024x1408 .bf16) (v13 : FVec Ideal S1024x1024 .bf16) (x : FVec Ideal S1408x1024 .f32)

/-- What one block of rows adds. -/
def T (f : Fin 1408) (n : Fin 1024) : EReal :=
  ∑ a : Fin 1024, v0 (ix3 0 a f) * sg (v0 (ix3 0 a f)) * v2 (ix3 0 a f) * v13 (ix2 a n)

theorem pay1 (f : Fin 1408) (n : Fin 1024) : (k0_pay1 (F := Ideal) v0 v2 v13 : FVec Ideal S1408x1024 .f32) (ix2 f n) = T v0 v2 v13 f n := by
  unfold T sg
  pointwise [k0_pay1]
theorem pay2 (f : Fin 1408) (n : Fin 1024) : (k0_pay2 (F := Ideal) v0 v2 v13 : FVec Ideal S1408x1024 .f32) (ix2 f n) = T v0 v2 v13 f n := by
  rw [← pay1]; unfold k0_pay2; generalize k0_pay1 (F := Ideal) v0 v2 v13 = q; pointwise
theorem pay3 (f : Fin 1408) (n : Fin 1024) : (k0_pay3 (F := Ideal) v0 v2 v13 x : FVec Ideal S1408x1024 .f32) (ix2 f n) = x (ix2 f n) + T v0 v2 v13 f n := by
  rw [← pay1]; unfold k0_pay3; generalize k0_pay1 (F := Ideal) v0 v2 v13 = q; pointwise
theorem pay4 (f : Fin 1408) (n : Fin 1024) : (k0_pay4 (F := Ideal) v0 v2 v13 x : FVec Ideal S1408x1024 .bf16) (ix2 f n) = half * (x (ix2 f n) + T v0 v2 v13 f n) := by
  rw [← pay1]; unfold k0_pay4 half; generalize k0_pay1 (F := Ideal) v0 v2 v13 = q; pointwise

end Block

/-- What point `t` adds. -/
theorem term (t : Fin cfg0.N) (f : Fin 1408) (n : Fin 1024) :
    T (iblk m c 0 t) (iblk m c 1 t) (iblk m c 2 t) f n = ∑ a : Fin 1024, row (A0 m c) (A1 m c) (A3 m c) (pr t a) (pf t f) n := by
  unfold T row
  simp only [blk0, blk1, blk2]

/-- The first of a feature block's four points stores its sum, the next two add theirs, the last stores half of all. -/
theorem first (t : Fin cfg0.N) (h : t.val % 4 = 0) (f : Fin 1408) (n : Fin 1024) :
    (outsAt0 m c t.val t.isLt).2 (ix2 f n) = T (iblk m c 0 t) (iblk m c 1 t) (iblk m c 2 t) f n := by
  rw [outsAt0_A m c t h (by omega) (by omega)]; frame_out
  exact pay2 _ _ _ f n
theorem next (t : Fin cfg0.N) (h : 1 ≤ t.val % 4 ∧ t.val % 4 ≤ 2) (f : Fin 1408) (n : Fin 1024) :
    (outsAt0 m c t.val t.isLt).2 (ix2 f n) = (outsAt0 m c (t.val - 1) (Nat.lt_of_le_of_lt (Nat.sub_le _ _) t.isLt)).2 (ix2 f n)
      + T (iblk m c 0 t) (iblk m c 1 t) (iblk m c 2 t) f n := by
  rw [outsAt0_B m c t (by omega) h (by omega)]; frame_out
  rw [Memref.IsWhole.read_unread (Memref.isWhole_whole cc0_scratch0)]
  exact pay3 _ _ _ _ f n
theorem last (t : Fin cfg0.N) (h : t.val % 4 = 3) (f : Fin 1408) (n : Fin 1024) :
    (outsAt0 m c t.val t.isLt).1 (ix2 f n) = half * ((outsAt0 m c (t.val - 1) (Nat.lt_of_le_of_lt (Nat.sub_le _ _) t.isLt)).2 (ix2 f n)
      + T (iblk m c 0 t) (iblk m c 1 t) (iblk m c 2 t) f n) := by
  rw [outsAt0_C m c t (by omega) (by omega) h]; frame_out
  rw [Memref.IsWhole.read_unread (Memref.isWhole_whole cc0_scratch0)]
  exact pay4 _ _ _ _ f n

/-- The four points' sums are the sum over all rows. -/
theorem four (t : Fin cfg0.N) (h : t.val % 4 = 3) (F : Fin 4096 → EReal) :
    ∑ a : Fin 1024, F (pr ⟨t.val - 1 - 1 - 1, lt_of_le_of_lt (by omega) t.isLt⟩ a) + ∑ a : Fin 1024, F (pr ⟨t.val - 1 - 1, lt_of_le_of_lt (by omega) t.isLt⟩ a)
      + ∑ a : Fin 1024, F (pr ⟨t.val - 1, lt_of_le_of_lt (by omega) t.isLt⟩ a) + ∑ a : Fin 1024, F (pr t a) = ∑ r : Fin 4096, F r := by
  have e : ∑ s : Fin 4, ∑ a : Fin 1024, F ⟨s.val * 1024 + a.val, by omega⟩ = ∑ r : Fin 4096, F r :=
    Fin.sum_mul_add_congr (fun s a hl => rfl)
  rw [← e, Fin.sum_univ_four]
  refine congrArg₂ (· + ·) (congrArg₂ (· + ·) (congrArg₂ (· + ·) ?_ ?_) ?_) ?_ <;>
    exact Finset.sum_congr rfl fun a _ => congrArg F (Fin.ext (by simp; omega))

set_option maxHeartbeats 1600000 in
/-- The array the kernel leaves is `REF` of its arguments. -/
theorem final : (dats m 0 c).arrAt 3 (cfgs 0).N = REF (A0 m c) (A1 m c) (A3 m c) := by
  refine (dats m 0 c).arrAt_eq_of_covers 3 _ (by decide +kernel) fun t hf y => ?_
  blk_simp; rw [after0_3]
  idx_vars y
  have ht : t.val < 8 := lt_of_lt_of_eq t.isLt N_0
  have h : t.val % 4 = 3 := (flush0_3 t).mp hf
  have e : ((View.whole main_v7).slice (win0_3.rect t)).emb (ix2 y0 y1) = ix2 (pf t y0) y1 :=
    Cert.Finite.ext2 (by blk_simp [idx_val t] <;> omega) (by blk_simp [idx_val t] <;> omega)
  rw [e]
  have e1 : pf ⟨t.val - 1, lt_of_le_of_lt (by omega) t.isLt⟩ y0 = pf t y0 := Fin.ext (by simp only; omega)
  have e2 : pf ⟨t.val - 1 - 1, lt_of_le_of_lt (by omega) t.isLt⟩ y0 = pf t y0 := Fin.ext (by simp only; omega)
  have e3 : pf ⟨t.val - 1 - 1 - 1, lt_of_le_of_lt (by omega) t.isLt⟩ y0 = pf t y0 := Fin.ext (by simp only; omega)
  rw [last m c t h, next m c ⟨t.val - 1, lt_of_le_of_lt (by omega) t.isLt⟩ (by simp only; omega), next m c ⟨t.val - 1 - 1, lt_of_le_of_lt (by omega) t.isLt⟩ (by simp only; omega),
    first m c ⟨t.val - 1 - 1 - 1, lt_of_le_of_lt (by omega) t.isLt⟩ (by simp only; omega)]
  simp only [term, e1, e2, e3]
  exact congrArg (half * ·) (four t h (fun r => row (A0 m c) (A1 m c) (A3 m c) r (pf t y0) y1))

end Kernel

section Reference

open Cert.DwoutRIdeal Cert.DwoutRIdeal.Gen

/-- The reference's derivative at an index. -/
theorem ref_eq (x0 x1 : FVec Ideal S2x2048x2816 .f32) (x3 : FVec Ideal S2x2048x1024 .f32) :
    (truncf .bf16 (transpose S2816x1024 [1, 0] (Host.dotGeneral dot_S2x2048x1024_S2x2048x2816_S1024x2816_01_01_2_2_n_n none (mulf (broadcastInDim S2x2048x1024 ![] bcast_S_S2x2048x1024 (constant S_ .f32 0x3F000000#32)) x3) (mulf (mulf x0 (Host.divf (broadcastInDim S2x2048x2816 ![] bcast_S_S2x2048x2816 (constant S_ .f32 0x3F800000#32)) (addf (broadcastInDim S2x2048x2816 ![] bcast_S_S2x2048x2816 (constant S_ .f32 0x3F800000#32)) (Host.exp (Host.negf x0))))) x1) : FVec Ideal S1024x2816 .f32) transposes_S1024x2816_S2816x1024_1_0) bitsLt_bf16_f32 : FVec Ideal S2816x1024 .bf16)
      = REF x0 x1 x3 := by
  funext j
  idx_vars j
  have e : REF x0 x1 x3 (ix2 j0 j1) = ∑ b : Fin 2, ∑ s : Fin 2048, half * x3 (ix3 b s j1) * (x0 (ix3 b s j0) * sg (x0 (ix3 b s j0)) * x1 (ix3 b s j0)) := by
    show half * ∑ r : Fin 4096, row x0 x1 x3 r j0 j1 = _
    rw [half_sum]
    refine (Fin.sum_mul_add_congr (f := fun r : Fin 4096 => half * row x0 x1 x3 r j0 j1) (fun b s hl => ?_)).symm
    have eb : bi ⟨b.val * 2048 + s.val, hl⟩ = b := Fin.ext (by simp only; omega)
    have es : si ⟨b.val * 2048 + s.val, hl⟩ = s := Fin.ext (by simp only; omega)
    unfold row
    rw [eb, es, mul_assoc, mul_comm (x3 _)]
  rw [e]
  unfold half sg
  simp only [zero_sub]
  pointwise

end Reference
end Cert.Dwout
end
-- ==== Proof.DwoutClaims.lean ====
/- Untrusted: the claims about the gradient of the feed-forward's output weight. -/
module

public import proofs.«01_k».proof.Defs
public import proofs.«01_k».proof.Proof.Dwout
public import proofs.«01_k».proof.Proof.Gen.DwoutK.Frame
public import proofs.«01_k».proof.Proof.Gen.DwoutRIdeal.Run
public import Idealize.ShloMosaic.Adequacy
public import Idealize.ShloMosaic.Lib.Quiescent

@[expose] public section

noncomputable section

namespace Cert.Dwout

open Idealize.ShloMosaic Idealize.ShloMosaic.TcCoe Idealize.SL.Sem

/-- The reference's runs end with its counters at zero. -/
theorem quiescentR : quiescent_DwoutRIdeal := fun m ρ _ =>
  (θ_run Cert.DwoutRIdeal.defs _ _).mono (fun r h => ⟨fun c => (h c).2, sem_eq_zero_of_no_sems (by decide) r.2⟩)
    (Cert.DwoutRIdeal.Value.run (F := Ideal) m ρ)

/-- The kernel's gradient of the output weight is the reference's derivative, on every argument. -/
theorem algebraic : algebraic_DwoutKIdeal_DwoutRIdeal := by
  intro m ρ m' ρ' _ hagree
  refine ⟨_, Cert.DwoutKIdeal.Value.run_blocks (F := Ideal) m ρ, ?_⟩
  refine (θ_run Cert.DwoutRIdeal.defs _ _).mono (fun _ h c => ⟨?_, (h c).2⟩) (Cert.DwoutRIdeal.Value.run (F := Ideal) m' ρ')
  refine (h c).1.trans ?_
  rw [(hagree c).1, (hagree c).2.1, (hagree c).2.2.2]
  exact (ref_eq _ _ _).trans (final m c).symm

end Cert.Dwout
end
-- ==== Proof.Norm.lean ====
/- Untrusted: the root-mean-square norm of a row of reals and its gradient. -/
module

public import proofs.«01_k».proof.Proof.Finite

@[expose] public section

noncomputable section

open Idealize.ShloMosaic
open scoped BigOperators

namespace Cert.Norm

/-- The small constant under the root: the rational that its float word is. -/
def ep : ℝ := 8796093 / 2 ^ 43

theorem word_ep : (Ideal.ofBits FTy.f32 0x358637BD#32 : EReal) = (ep : EReal) := by
  unfold ep
  simp only [Ideal.ofBits, Ideal.ieee]; simp; rw [← EReal.coe_mul]; norm_num
theorem word_1024 : (Ideal.ofBits FTy.f32 0x44800000#32 : EReal) = ((1024 : ℝ) : EReal) := by
  simp only [Ideal.ofBits, Ideal.ieee]; simp; rw [← EReal.coe_mul]; norm_num
theorem word_frac : (Ideal.ofBits FTy.f32 0x3A800000#32 : EReal) = ((1 / 1024 : ℝ) : EReal) := by
  simp only [Ideal.ofBits, Ideal.ieee]; simp; rw [← EReal.coe_mul]; norm_num
theorem word_two : (Ideal.ofBits FTy.f32 0x40000000#32 : EReal) = ((2 : ℝ) : EReal) := by
  simp only [Ideal.ofBits, Ideal.ieee]; simp; rw [← EReal.coe_mul]; norm_num
theorem word_minus_half : (Ideal.ofBits FTy.f32 0xBF000000#32 : EReal) = ((-(1 / 2) : ℝ) : EReal) := by
  simp only [Ideal.ofBits, Ideal.ieee]; simp; rw [← EReal.coe_mul]; norm_num

/-- A quotient of reals with a divisor that is not zero. -/
theorem div_real (a b : ℝ) (h : b ≠ 0) : Ideal.div ((a : ℝ) : EReal) ((b : ℝ) : EReal) = ((a / b : ℝ) : EReal) := by
  rw [Ideal.div_coe h, ← EReal.coe_mul, mul_one_div]
theorem div_1024 (a : ℝ) : Ideal.div ((a : ℝ) : EReal) (Ideal.ofBits FTy.f32 0x44800000#32) = ((a / 1024 : ℝ) : EReal) := by
  rw [word_1024]; exact div_real a 1024 (by norm_num)

variable (x : Fin 1024 → ℝ)

/-- The mean square of a row plus the constant, its inverse root, and the normalised row. -/
def VV : ℝ := (∑ k : Fin 1024, x k * x k) / 1024 + ep
def SS : ℝ := (Real.sqrt (VV x))⁻¹
def XN (k : Fin 1024) : ℝ := x k * SS x

theorem VV_pos : 0 < VV x := by
  unfold VV ep
  have := Finset.sum_nonneg fun (k : Fin 1024) (_ : k ∈ Finset.univ) => mul_self_nonneg (x k)
  positivity
theorem rsqrt_VV : Ideal.rsqrt ((VV x : ℝ) : EReal) = ((SS x : ℝ) : EReal) := by
  rw [Ideal.rsqrt_coe, if_neg (VV_pos x).le.not_gt, if_neg (VV_pos x).ne']; rfl
theorem SS_sq : SS x * SS x = 1 / VV x := by
  unfold SS
  rw [← mul_inv, Real.mul_self_sqrt (VV_pos x).le, one_div]
/-- The mean square as a sum in the extended reals. -/
theorem VV_coe : Ideal.div (∑ k : Fin 1024, ((x k : ℝ) : EReal) * ((x k : ℝ) : EReal)) (Ideal.ofBits FTy.f32 0x44800000#32) + Ideal.ofBits FTy.f32 0x358637BD#32
    = ((VV x : ℝ) : EReal) := by
  simp only [← EReal.coe_mul, Cert.Finite.coe_sum]
  rw [div_1024, word_ep, ← EReal.coe_add]; rfl

/-- The gradient of the normalised row against a cotangent `h`. -/
def GX (h : Fin 1024 → ℝ) (k : Fin 1024) : ℝ := SS x * (h k - XN x k * ((∑ l : Fin 1024, h l * XN x l) / 1024))

/-- The same gradient as the sum of the factor's part and the mean square's part. -/
theorem grad_eq (h : Fin 1024 → ℝ) (k : Fin 1024) (b : ℝ)
    (hb : b = (∑ l : Fin 1024, x l * h l) * (-(1 / 2) * (SS x / VV x)) / 1024) : h k * SS x + x k * b + b * x k = GX x h k := by
  have e : ∑ l : Fin 1024, h l * XN x l = (∑ l : Fin 1024, x l * h l) * SS x := by
    rw [Finset.sum_mul]
    exact Finset.sum_congr rfl fun l _ => by unfold XN; ring
  have q : SS x / VV x = SS x * (SS x * SS x) := by rw [SS_sq]; ring
  rw [hb, q]; unfold GX XN at *; rw [e]; ring

end Cert.Norm
end
-- ==== Proof.Loss.lean ====
/- Untrusted: the values of the kernel that computes the loss and its gradients against the last hidden state and the last norm's gain. -/
module

public import proofs.«01_k».proof.Proof.Gen.LossKIdeal.Value
public import proofs.«01_k».proof.Proof.Gen.LossRIdeal.Read
public import proofs.«01_k».proof.Proof.Norm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators
open Cert.Norm

namespace Cert.Loss

/-- The batch and the position of a flattened row. -/
abbrev bi (r : Fin 4096) : Fin 2 := ⟨r.val / 2048, by omega⟩
abbrev si (r : Fin 4096) : Fin 2048 := ⟨r.val % 2048, by omega⟩

section Rows

variable (x g t : Fin 1024 → ℝ)

/-- The error of a row, the cotangent of the scaled row, that of the normalised row, and the row's mean square error. -/
def ER (k : Fin 1024) : ℝ := XN x k * g k - t k
def CT (k : Fin 1024) : ℝ := ER x g t k * (1 / 1024)
def HH (k : Fin 1024) : ℝ := CT x g t k * g k
def MS : ℝ := (∑ k : Fin 1024, ER x g t k * ER x g t k) / 1024

end Rows

section Targets

variable (X : Fin 2 → Fin 2048 → Fin 1024 → ℝ) (g : Fin 1024 → ℝ) (T : Fin 2 → Fin 2048 → Fin 1024 → ℝ)

/-- The gradient against the hidden state, that against the gain, and the loss. -/
def DX : (⟨2, ![4096, 1024]⟩ : Shape).Idx → EReal := fun i => ((GX (X (bi (i 0)) (si (i 0))) (HH (X (bi (i 0)) (si (i 0))) g (T (bi (i 0)) (si (i 0)))) (i 1) : ℝ) : EReal)
def dgr (k : Fin 1024) (r : Fin 4096) : ℝ := CT (X (bi r) (si r)) g (T (bi r) (si r)) k * XN (X (bi r) (si r)) k
def DG : (⟨2, ![1, 1024]⟩ : Shape).Idx → EReal := fun i => ((∑ r : Fin 4096, dgr X g T (i 1) r : ℝ) : EReal)
def lr (r : Fin 4096) : ℝ := MS (X (bi r) (si r)) g (T (bi r) (si r))
def LL : (⟨2, ![1, 128]⟩ : Shape).Idx → EReal := fun _ => ((1 / 2 * ∑ r : Fin 4096, lr X g T r : ℝ) : EReal)

end Targets

section Block

open Cert.LossKIdeal Cert.LossKIdeal.Gen

variable (v0 v16 : FVec Ideal S512x1024 .f32) (v12 : FVec Ideal S1x1024 .f32)

theorem pay7 (x : Fin 512 → Fin 1024 → ℝ) (h0 : ∀ a k, v0 (ix2 a k) = ((x a k : ℝ) : EReal)) (a : Fin 512) (z : Fin 1) :
    (k0_pay7 (F := Ideal) v0 : FVec Ideal S512x1 .f32) (ix2 a z) = ((SS (x a) : ℝ) : EReal) := by
  rw [← rsqrt_VV, ← VV_coe]
  simp only [← h0]
  pointwise [k0_pay7, k0_pay6]
theorem pay8 (x : Fin 512 → Fin 1024 → ℝ) (h0 : ∀ a k, v0 (ix2 a k) = ((x a k : ℝ) : EReal)) (a : Fin 512) (k : Fin 1024) :
    (k0_pay8 (F := Ideal) v0 : FVec Ideal S512x1024 .f32) (ix2 a k) = ((XN (x a) k : ℝ) : EReal) := by
  unfold XN
  rw [EReal.coe_mul, ← h0, ← pay7 v0 x h0 a 0]
  unfold k0_pay8
  generalize k0_pay7 (F := Ideal) v0 = q
  pointwise [k0_pay6]
theorem pay10 (x t : Fin 512 → Fin 1024 → ℝ) (g : Fin 1024 → ℝ) (h0 : ∀ a k, v0 (ix2 a k) = ((x a k : ℝ) : EReal))
    (h1 : ∀ k, v12 (ix2 0 k) = ((g k : ℝ) : EReal)) (h2 : ∀ a k, v16 (ix2 a k) = ((t a k : ℝ) : EReal)) (a : Fin 512) (k : Fin 1024) :
    (k0_pay10 (F := Ideal) v0 v12 v16 : FVec Ideal S512x1024 .f32) (ix2 a k) = ((ER (x a) g (t a) k : ℝ) : EReal) := by
  unfold ER
  rw [EReal.coe_sub, EReal.coe_mul, ← h1, ← h2, ← pay8 v0 x h0 a k]
  unfold k0_pay10
  generalize k0_pay8 (F := Ideal) v0 = q
  pointwise [k0_pay9]
theorem pay12 (x t : Fin 512 → Fin 1024 → ℝ) (g : Fin 1024 → ℝ) (h0 : ∀ a k, v0 (ix2 a k) = ((x a k : ℝ) : EReal))
    (h1 : ∀ k, v12 (ix2 0 k) = ((g k : ℝ) : EReal)) (h2 : ∀ a k, v16 (ix2 a k) = ((t a k : ℝ) : EReal)) (a : Fin 512) (k : Fin 1024) :
    (k0_pay12 (F := Ideal) v0 v12 v16 : FVec Ideal S512x1024 .f32) (ix2 a k) = ((CT (x a) g (t a) k : ℝ) : EReal) := by
  unfold CT
  rw [EReal.coe_mul, ← word_frac, ← pay10 v0 v16 v12 x t g h0 h1 h2 a k]
  unfold k0_pay12
  generalize k0_pay10 (F := Ideal) v0 v12 v16 = q
  pointwise
theorem pay11 (x t : Fin 512 → Fin 1024 → ℝ) (g : Fin 1024 → ℝ) (h0 : ∀ a k, v0 (ix2 a k) = ((x a k : ℝ) : EReal))
    (h1 : ∀ k, v12 (ix2 0 k) = ((g k : ℝ) : EReal)) (h2 : ∀ a k, v16 (ix2 a k) = ((t a k : ℝ) : EReal)) :
    (k0_pay11 (F := Ideal) v0 v12 v16 : FVec Ideal S1x1 .f32) (ix2 0 0) = ((1 / 2 * ∑ a : Fin 512, MS (x a) g (t a) : ℝ) : EReal) := by
  have e : (k0_pay11 (F := Ideal) v0 v12 v16 : FVec Ideal S1x1 .f32) (ix2 0 0) = Ideal.ofBits FTy.f32 0x3F000000#32 * ∑ a : Fin 512,
      Ideal.div (∑ k : Fin 1024, (k0_pay10 (F := Ideal) v0 v12 v16 : FVec Ideal S512x1024 .f32) (ix2 a k) * (k0_pay10 (F := Ideal) v0 v12 v16 : FVec Ideal S512x1024 .f32) (ix2 a k)) (Ideal.ofBits FTy.f32 0x44800000#32) := by
    unfold k0_pay11
    generalize k0_pay10 (F := Ideal) v0 v12 v16 = q
    pointwise
  rw [e]
  simp only [pay10 v0 v16 v12 x t g h0 h1 h2, ← EReal.coe_mul, Cert.Finite.coe_sum, div_1024]
  rw [Cert.Finite.word_half, ← EReal.coe_mul]; rfl
theorem pay13 (x t : Fin 512 → Fin 1024 → ℝ) (g : Fin 1024 → ℝ) (h0 : ∀ a k, v0 (ix2 a k) = ((x a k : ℝ) : EReal))
    (h1 : ∀ k, v12 (ix2 0 k) = ((g k : ℝ) : EReal)) (h2 : ∀ a k, v16 (ix2 a k) = ((t a k : ℝ) : EReal)) (a : Fin 512) (k : Fin 1024) :
    (k0_pay13 (F := Ideal) v0 v12 v16 : FVec Ideal S512x1024 .f32) (ix2 a k) = ((GX (x a) (HH (x a) g (t a)) k : ℝ) : EReal) := by
  have e : (k0_pay13 (F := Ideal) v0 v12 v16 : FVec Ideal S512x1024 .f32) (ix2 a k) = (k0_pay7 (F := Ideal) v0 : FVec Ideal S512x1 .f32) (ix2 a 0)
      * ((k0_pay12 (F := Ideal) v0 v12 v16 : FVec Ideal S512x1024 .f32) (ix2 a k) * v12 (ix2 0 k) - (k0_pay8 (F := Ideal) v0 : FVec Ideal S512x1024 .f32) (ix2 a k)
        * Ideal.div (∑ l : Fin 1024, (k0_pay12 (F := Ideal) v0 v12 v16 : FVec Ideal S512x1024 .f32) (ix2 a l) * v12 (ix2 0 l) * (k0_pay8 (F := Ideal) v0 : FVec Ideal S512x1024 .f32) (ix2 a l)) (Ideal.ofBits FTy.f32 0x44800000#32)) := by
    unfold k0_pay13
    generalize k0_pay12 (F := Ideal) v0 v12 v16 = q
    generalize k0_pay8 (F := Ideal) v0 = p
    generalize k0_pay7 (F := Ideal) v0 = s
    pointwise [k0_pay9]
  rw [e]
  simp only [pay12 v0 v16 v12 x t g h0 h1 h2, pay8 v0 x h0, pay7 v0 x h0, h1, ← EReal.coe_mul, Cert.Finite.coe_sum, div_1024, ← EReal.coe_sub]
  rfl
theorem pay1 (v : FVec Ideal S512x1024 .f32) (a : Fin 512) (k : Fin 1024) : (k0_pay1 (F := Ideal) v : FVec Ideal S512x1024 .bf16) (ix2 a k) = v (ix2 a k) := by
  pointwise [k0_pay1]
theorem pay2 (p q : FVec Ideal S512x1024 .f32) (k : Fin 1024) : (k0_pay2 (F := Ideal) p q : FVec Ideal S1x1024 .f32) (ix2 0 k) = ∑ a : Fin 512, q (ix2 a k) * p (ix2 a k) := by
  pointwise [k0_pay2]
theorem pay4 (p q : FVec Ideal S512x1024 .f32) (s : FVec Ideal S1x1024 .f32) (k : Fin 1024) :
    (k0_pay4 (F := Ideal) p q s : FVec Ideal S1x1024 .f32) (ix2 0 k) = s (ix2 0 k) + ∑ a : Fin 512, q (ix2 a k) * p (ix2 a k) := by
  pointwise [k0_pay4, k0_pay2]
theorem pay3 (p : FVec Ideal S1x1 .f32) (l : Fin 128) : (k0_pay3 (F := Ideal) p : FVec Ideal S1x128 .f32) (ix2 0 l) = p (ix2 0 0) := by
  pointwise [k0_pay3]
theorem pay5 (p : FVec Ideal S1x1 .f32) (s : FVec Ideal S1x128 .f32) (l : Fin 128) : (k0_pay5 (F := Ideal) p s : FVec Ideal S1x128 .f32) (ix2 0 l) = s (ix2 0 l) + p (ix2 0 0) := by
  pointwise [k0_pay5, k0_pay3]

end Block

section Kernel

open Cert.LossKIdeal Cert.LossKIdeal.Gen

theorem idx_val : ∀ t : Fin grid0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ win0_6.index t = ![t.val, 0] :=
  (by decide +kernel : ∀ t : Fin grid0.N, _)

theorem N_8 : cfg0.N = 8 := by decide +kernel

variable (m : (ℓ : Loc nD τ sig) → Buf (Elt Ideal) ℓ) (c : Dev nD)

/-- The hidden state, the gain and the target that the program is given. -/
abbrev A0 : FVec Ideal S2x2048x1024 .f32 := m ⟨c, Proc.devRef .tc main_arg0⟩
abbrev A1 : FVec Ideal S1024 .f32 := m ⟨c, Proc.devRef .tc main_arg1⟩
abbrev A2 : FVec Ideal S2x2048x1024 .f32 := m ⟨c, Proc.devRef .tc main_arg2⟩

theorem V0 (j : S4096x1024.Idx) : V m c main_v0 j = A0 m c (ix3 (bi (j 0)) (si (j 0)) (j 1)) := by
  entry_read
  pointwise
theorem V1 (j : S4096x1024.Idx) : V m c main_v1 j = A2 m c (ix3 (bi (j 0)) (si (j 0)) (j 1)) := by
  entry_read
  pointwise
theorem V2 (j : S1x1024.Idx) : V m c main_v2 j = A1 m c (ix1 (j 1)) := by
  entry_read
  pointwise

/-- The flattened row of row `a` of point `t`'s blocks. -/
abbrev pr (t : Fin cfg0.N) (a : Fin 512) : Fin 4096 := ⟨t.val * 512 + a.val, by have := lt_of_lt_of_eq t.isLt N_8; omega⟩

theorem blk0 (t : Fin cfg0.N) (a : Fin 512) (k : Fin 1024) :
    (iblk m c 0 t : FVec Ideal S512x1024 .f32) (ix2 a k) = A0 m c (ix3 (bi (pr t a)) (si (pr t a)) k) := by
  have k0 : (((cfg0.win 0).blk t).view.emb (ix2 a k) : S4096x1024.Idx) 0 = pr t a := Fin.ext (by blk_simp [idx_val t])
  have k1 : (((cfg0.win 0).blk t).view.emb (ix2 a k) : S4096x1024.Idx) 1 = k := Fin.ext (by blk_simp [idx_val t])
  unfold iblk
  rw [View.read_apply, cast_eq]
  refine (V0 m c _).trans ?_
  rw [k0, k1]
theorem blk1 (t : Fin cfg0.N) (k : Fin 1024) : (iblk m c 1 t : FVec Ideal S1x1024 .f32) (ix2 0 k) = A1 m c (ix1 k) := by
  have k1 : (((cfg0.win 1).blk t).view.emb (ix2 0 k) : S1x1024.Idx) 1 = k := Fin.ext (by blk_simp [idx_val t])
  unfold iblk
  rw [View.read_apply, cast_eq]
  refine (V2 m c _).trans ?_
  rw [k1]
theorem blk2 (t : Fin cfg0.N) (a : Fin 512) (k : Fin 1024) :
    (iblk m c 2 t : FVec Ideal S512x1024 .f32) (ix2 a k) = A2 m c (ix3 (bi (pr t a)) (si (pr t a)) k) := by
  have k0 : (((cfg0.win 2).blk t).view.emb (ix2 a k) : S4096x1024.Idx) 0 = pr t a := Fin.ext (by blk_simp [idx_val t])
  have k1 : (((cfg0.win 2).blk t).view.emb (ix2 a k) : S4096x1024.Idx) 1 = k := Fin.ext (by blk_simp [idx_val t])
  unfold iblk
  rw [View.read_apply, cast_eq]
  refine (V1 m c _).trans ?_
  rw [k0, k1]

/-- The eight points' sums are the sum over all rows. -/
theorem eight (F : Fin 4096 → ℝ) (q : ℕ) (hq : q = 0) (hl : ∀ s : Fin 8, 8 * q + s.val < cfg0.N) :
    (0 : EReal) + ∑ s : Fin 8, ((∑ a : Fin 512, F (pr ⟨8 * q + s.val, hl s⟩ a) : ℝ) : EReal) = ((∑ r : Fin 4096, F r : ℝ) : EReal) := by
  subst hq
  have e : ∑ s : Fin 8, ∑ a : Fin 512, F ⟨s.val * 512 + a.val, by omega⟩ = ∑ r : Fin 4096, F r :=
    Fin.sum_mul_add_congr (fun s a hl => rfl)
  rw [zero_add, Cert.Finite.coe_sum, ← e]
  refine congrArg _ (Finset.sum_congr rfl fun s _ => Finset.sum_congr rfl fun a _ => congrArg F (Fin.ext (by simp)))

variable (X : Fin 2 → Fin 2048 → Fin 1024 → ℝ) (g : Fin 1024 → ℝ) (T : Fin 2 → Fin 2048 → Fin 1024 → ℝ)

/-- What point `t` adds to the gain's gradient and to the loss. -/
def dgt (t : Fin cfg0.N) (k : Fin 1024) : ℝ := ∑ a : Fin 512, dgr X g T k (pr t a)
def llt (t : Fin cfg0.N) : ℝ := ∑ a : Fin 512, 1 / 2 * lr X g T (pr t a)

variable (h0 : ∀ b s k, A0 m c (ix3 b s k) = ((X b s k : ℝ) : EReal)) (h1 : ∀ k, A1 m c (ix1 k) = ((g k : ℝ) : EReal))
  (h2 : ∀ b s k, A2 m c (ix3 b s k) = ((T b s k : ℝ) : EReal))
include h0 h1 h2

theorem b13 (t : Fin cfg0.N) (a : Fin 512) (k : Fin 1024) :
    (k0_pay13 (F := Ideal) (iblk m c 0 t) (iblk m c 1 t) (iblk m c 2 t) : FVec Ideal S512x1024 .f32) (ix2 a k) = DX X g T (ix2 (pr t a) k) :=
  pay13 _ _ _ (fun a => X (bi (pr t a)) (si (pr t a))) (fun a => T (bi (pr t a)) (si (pr t a))) g (fun a k => (blk0 m c t a k).trans (h0 _ _ _))
    (fun k => (blk1 m c t k).trans (h1 k)) (fun a k => (blk2 m c t a k).trans (h2 _ _ _)) a k

theorem bdg (t : Fin cfg0.N) (k : Fin 1024) :
    ∑ a : Fin 512, (k0_pay12 (F := Ideal) (iblk m c 0 t) (iblk m c 1 t) (iblk m c 2 t) : FVec Ideal S512x1024 .f32) (ix2 a k)
      * (k0_pay8 (F := Ideal) (iblk m c 0 t) : FVec Ideal S512x1024 .f32) (ix2 a k) = ((dgt X g T t k : ℝ) : EReal) := by
  unfold dgt
  rw [← Cert.Finite.coe_sum]
  refine Finset.sum_congr rfl fun a _ => ?_
  rw [pay12 _ _ _ (fun a => X (bi (pr t a)) (si (pr t a))) (fun a => T (bi (pr t a)) (si (pr t a))) g (fun a k => (blk0 m c t a k).trans (h0 _ _ _))
    (fun k => (blk1 m c t k).trans (h1 k)) (fun a k => (blk2 m c t a k).trans (h2 _ _ _)) a k,
    pay8 _ (fun a => X (bi (pr t a)) (si (pr t a))) (fun a k => (blk0 m c t a k).trans (h0 _ _ _)) a k, ← EReal.coe_mul]
  rfl

theorem bll (t : Fin cfg0.N) :
    (k0_pay11 (F := Ideal) (iblk m c 0 t) (iblk m c 1 t) (iblk m c 2 t) : FVec Ideal S1x1 .f32) (ix2 0 0) = ((llt X g T t : ℝ) : EReal) := by
  unfold llt
  rw [← Finset.mul_sum]
  exact pay11 _ _ _ (fun a => X (bi (pr t a)) (si (pr t a))) (fun a => T (bi (pr t a)) (si (pr t a))) g (fun a k => (blk0 m c t a k).trans (h0 _ _ _))
    (fun k => (blk1 m c t k).trans (h1 k)) (fun a k => (blk2 m c t a k).trans (h2 _ _ _))

/-- The gradient against the hidden state at a point, in both precisions. -/
theorem outs3 (t : Fin cfg0.N) (a : Fin 512) (k : Fin 1024) : (outsAt0 m c t.val t.isLt).1 (ix2 a k) = DX X g T (ix2 (pr t a) k) := by
  have ht := lt_of_lt_of_eq t.isLt N_8
  by_cases h : t.val % 8 = 0
  · rw [outsAt0_A m c t h (by omega)]; frame_out
    exact b13 m c X g T h0 h1 h2 t a k
  · rw [outsAt0_B m c t h (by omega)]; frame_out
    exact b13 m c X g T h0 h1 h2 t a k

theorem outs6 (t : Fin cfg0.N) (a : Fin 512) (k : Fin 1024) : (outsAt0 m c t.val t.isLt).2.2.2 (ix2 a k) = DX X g T (ix2 (pr t a) k) := by
  have ht := lt_of_lt_of_eq t.isLt N_8
  by_cases h : t.val % 8 = 0
  · rw [outsAt0_A m c t h (by omega)]; frame_out
    exact (pay1 _ a k).trans (b13 m c X g T h0 h1 h2 t a k)
  · rw [outsAt0_B m c t h (by omega)]; frame_out
    exact (pay1 _ a k).trans (b13 m c X g T h0 h1 h2 t a k)

theorem first4 (t : Fin cfg0.N) (h : t.val % 8 = 0) (k : Fin 1024) :
    (outsAt0 m c t.val t.isLt).2.1 (ix2 0 k) = 0 + ((dgt X g T t k : ℝ) : EReal) := by
  have ht := lt_of_lt_of_eq t.isLt N_8
  rw [outsAt0_A m c t h (by omega)]; frame_out
  rw [zero_add]
  exact (pay2 _ _ k).trans (bdg m c X g T h0 h1 h2 t k)

theorem next4 (t : Fin cfg0.N) (h : ¬t.val % 8 = 0) (k : Fin 1024) :
    (outsAt0 m c t.val t.isLt).2.1 (ix2 0 k) = (outsAt0 m c (t.val - 1) (Nat.lt_of_le_of_lt (Nat.sub_le _ _) t.isLt)).2.1 (ix2 0 k) + ((dgt X g T t k : ℝ) : EReal) := by
  rw [outsAt0_B m c t h (by omega)]; frame_out
  rw [← bdg m c X g T h0 h1 h2 t k]
  exact pay4 _ _ _ k

theorem first5 (t : Fin cfg0.N) (h : t.val % 8 = 0) (l : Fin 128) :
    (outsAt0 m c t.val t.isLt).2.2.1 (ix2 0 l) = 0 + ((llt X g T t : ℝ) : EReal) := by
  have ht := lt_of_lt_of_eq t.isLt N_8
  rw [outsAt0_A m c t h (by omega)]; frame_out
  rw [zero_add]
  exact (pay3 _ l).trans (bll m c X g T h0 h1 h2 t)

theorem next5 (t : Fin cfg0.N) (h : ¬t.val % 8 = 0) (l : Fin 128) :
    (outsAt0 m c t.val t.isLt).2.2.1 (ix2 0 l) = (outsAt0 m c (t.val - 1) (Nat.lt_of_le_of_lt (Nat.sub_le _ _) t.isLt)).2.2.1 (ix2 0 l) + ((llt X g T t : ℝ) : EReal) := by
  rw [outsAt0_B m c t h (by omega)]; frame_out
  rw [← bll m c X g T h0 h1 h2 t]
  exact pay5 _ _ l

/-- The arrays the kernel leaves. -/
theorem final3 : (dats m 0 c).arrAt 3 (cfgs 0).N = DX X g T := by
  refine (dats m 0 c).arrAt_eq_of_covers 3 _ (by decide +kernel) fun t hf y => ?_
  blk_simp; rw [after0_3]
  idx_vars y
  have e : ((View.whole main_v3_0).slice (win0_3.rect t)).emb (ix2 y0 y1) = ix2 (pr t y0) y1 :=
    Cert.Finite.ext2 (by blk_simp [idx_val t] <;> omega) (by blk_simp [idx_val t] <;> omega)
  rw [e]
  exact outs3 m c X g T h0 h1 h2 t y0 y1

theorem final6 : (dats m 0 c).arrAt 6 (cfgs 0).N = DX X g T := by
  refine (dats m 0 c).arrAt_eq_of_covers 6 _ (by decide +kernel) fun t hf y => ?_
  blk_simp; rw [after0_6]
  idx_vars y
  have e : ((View.whole main_v3_3).slice (win0_6.rect t)).emb (ix2 y0 y1) = ix2 (pr t y0) y1 :=
    Cert.Finite.ext2 (by blk_simp [idx_val t] <;> omega) (by blk_simp [idx_val t] <;> omega)
  rw [e]
  exact outs6 m c X g T h0 h1 h2 t y0 y1

theorem final4 : (dats m 0 c).arrAt 4 (cfgs 0).N = DG X g T := by
  refine (dats m 0 c).arrAt_eq_of_covers 4 _ (by decide +kernel) fun t hf y => ?_
  blk_simp; rw [after0_4]
  idx_vars y
  have ht : t.val < 8 := lt_of_lt_of_eq t.isLt N_8
  have hr : t.val % 8 = 7 := (flush0_4 t).mp hf
  have z : y0 = 0 := Subsingleton.elim _ _
  subst z
  have e : ((View.whole main_v3_1).slice (win0_4.rect t)).emb (ix2 0 y1) = ix2 0 y1 :=
    Cert.Finite.ext2 (by blk_simp [idx_val t] <;> omega) (by blk_simp [idx_val t] <;> omega)
  rw [e]
  refine (Pipeline.eq_sum_fin_of_reset_step_apply_of_flush (fun n h => (outsAt0 m c n h).2.1) 8 (fun _ => 0) (fun t i => ((dgt X g T t (i 1) : ℝ) : EReal))
    (fun t h i => by idx_vars i; obtain rfl : i0 = 0 := Subsingleton.elim _ _; exact first4 m c X g T h0 h1 h2 t h i1)
    (fun t h i => by idx_vars i; obtain rfl : i0 = 0 := Subsingleton.elim _ _; exact next4 m c X g T h0 h1 h2 t h i1) t hr (ix2 0 y1)).trans ?_
  exact eight (fun r => dgr X g T y1 r) (t.val / 8) (by omega) _

theorem final5 : (dats m 0 c).arrAt 5 (cfgs 0).N = LL X g T := by
  refine (dats m 0 c).arrAt_eq_of_covers 5 _ (by decide +kernel) fun t hf y => ?_
  blk_simp; rw [after0_5]
  idx_vars y
  have ht : t.val < 8 := lt_of_lt_of_eq t.isLt N_8
  have hr : t.val % 8 = 7 := (flush0_5 t).mp hf
  have z : y0 = 0 := Subsingleton.elim _ _
  subst z
  have e : ((View.whole main_v3_2).slice (win0_5.rect t)).emb (ix2 0 y1) = ix2 0 y1 :=
    Cert.Finite.ext2 (by blk_simp [idx_val t] <;> omega) (by blk_simp [idx_val t] <;> omega)
  rw [e]
  refine (Pipeline.eq_sum_fin_of_reset_step_apply_of_flush (fun n h => (outsAt0 m c n h).2.2.1) 8 (fun _ => 0) (fun t _ => ((llt X g T t : ℝ) : EReal))
    (fun t h i => by idx_vars i; obtain rfl : i0 = 0 := Subsingleton.elim _ _; exact first5 m c X g T h0 h1 h2 t h i1)
    (fun t h i => by idx_vars i; obtain rfl : i0 = 0 := Subsingleton.elim _ _; exact next5 m c X g T h0 h1 h2 t h i1) t hr (ix2 0 y1)).trans ?_
  refine (eight (fun r => 1 / 2 * lr X g T r) (t.val / 8) (by omega) _).trans ?_
  rw [← Finset.mul_sum]; rfl

end Kernel

section Reference

open Cert.LossRIdeal Cert.LossRIdeal.Gen Cert.LossRIdeal.Read

variable (x0 : FVec Ideal S2x2048x1024 .f32) (x1 : FVec Ideal S1024 .f32) (x2 : FVec Ideal S2x2048x1024 .f32)
variable (X : Fin 2 → Fin 2048 → Fin 1024 → ℝ) (g : Fin 1024 → ℝ) (T : Fin 2 → Fin 2048 → Fin 1024 → ℝ)

/-- A sum over rows is the sum over batches and positions. -/
theorem rows (F : Fin 2 → Fin 2048 → ℝ) : ∑ b : Fin 2, ∑ s : Fin 2048, F b s = ∑ r : Fin 4096, F (bi r) (si r) :=
  Fin.sum_mul_add_congr (fun b s hl => congrArg₂ F (Fin.ext (by simp only; omega)) (Fin.ext (by simp only; omega)))

theorem s6 (h0 : ∀ b s k, x0 (ix3 b s k) = ((X b s k : ℝ) : EReal)) (b : Fin 2) (s : Fin 2048) (z : Fin 1) :
    (val_main_v6 (F := Ideal) x0 : FVec Ideal S2x2048x1 .f32) (ix3 b s z) = ((VV (X b s) : ℝ) : EReal) := by
  rw [← VV_coe]
  simp only [← h0]
  unfold val_main_v6 val_main_v5 val_main_v4 val_main_v3 val_main_v2 val_main_v1 val_main_v0
  pointwise [val_main_cst, val_main_cst_0, val_main_cst_1]
theorem s7 (h0 : ∀ b s k, x0 (ix3 b s k) = ((X b s k : ℝ) : EReal)) (b : Fin 2) (s : Fin 2048) (z : Fin 1) :
    (val_main_v7 (F := Ideal) x0 : FVec Ideal S2x2048x1 .f32) (ix3 b s z) = ((SS (X b s) : ℝ) : EReal) := by
  rw [← rsqrt_VV, ← s6 x0 X h0 b s z]
  unfold val_main_v7
  generalize val_main_v6 (F := Ideal) x0 = q
  pointwise
theorem s10 (h0 : ∀ b s k, x0 (ix3 b s k) = ((X b s k : ℝ) : EReal)) (b : Fin 2) (s : Fin 2048) (z : Fin 1) :
    (val_main_v10 (F := Ideal) x0 : FVec Ideal S2x2048x1 .f32) (ix3 b s z) = ((-(1 / 2) * (SS (X b s) / VV (X b s)) : ℝ) : EReal) := by
  have e : (val_main_v10 (F := Ideal) x0 : FVec Ideal S2x2048x1 .f32) (ix3 b s z) = Ideal.ofBits FTy.f32 0xBF000000#32
      * Ideal.div ((val_main_v7 (F := Ideal) x0 : FVec Ideal S2x2048x1 .f32) (ix3 b s z)) ((val_main_v6 (F := Ideal) x0 : FVec Ideal S2x2048x1 .f32) (ix3 b s z)) := by
    unfold val_main_v10 val_main_v9 val_main_v8
    generalize val_main_v7 (F := Ideal) x0 = p
    generalize val_main_v6 (F := Ideal) x0 = q
    pointwise [val_main_cst_2]
  rw [e, s6 x0 X h0, s7 x0 X h0, div_real _ _ (VV_pos _).ne', word_minus_half, ← EReal.coe_mul]
theorem s12 (h0 : ∀ b s k, x0 (ix3 b s k) = ((X b s k : ℝ) : EReal)) (b : Fin 2) (s : Fin 2048) (k : Fin 1024) :
    (val_main_v12 (F := Ideal) x0 : FVec Ideal S2x2048x1024 .f32) (ix3 b s k) = ((XN (X b s) k : ℝ) : EReal) := by
  unfold XN
  rw [EReal.coe_mul, ← h0, ← s7 x0 X h0 b s 0]
  unfold val_main_v12 val_main_v11
  generalize val_main_v7 (F := Ideal) x0 = q
  pointwise
theorem s16 (h0 : ∀ b s k, x0 (ix3 b s k) = ((X b s k : ℝ) : EReal)) (h1 : ∀ k, x1 (ix1 k) = ((g k : ℝ) : EReal))
    (h2 : ∀ b s k, x2 (ix3 b s k) = ((T b s k : ℝ) : EReal)) (b : Fin 2) (s : Fin 2048) (k : Fin 1024) :
    (val_main_v16 (F := Ideal) x0 x1 x2 : FVec Ideal S2x2048x1024 .f32) (ix3 b s k) = ((ER (X b s) g (T b s) k : ℝ) : EReal) := by
  unfold ER
  rw [EReal.coe_sub, EReal.coe_mul, ← h1, ← h2, ← s12 x0 X h0 b s k]
  unfold val_main_v16 val_main_v15 val_main_v14 val_main_v13
  generalize val_main_v12 (F := Ideal) x0 = q
  pointwise
theorem s30 (h0 : ∀ b s k, x0 (ix3 b s k) = ((X b s k : ℝ) : EReal)) (h1 : ∀ k, x1 (ix1 k) = ((g k : ℝ) : EReal))
    (h2 : ∀ b s k, x2 (ix3 b s k) = ((T b s k : ℝ) : EReal)) (b : Fin 2) (s : Fin 2048) (k : Fin 1024) :
    (val_main_v30 (F := Ideal) x0 x1 x2 : FVec Ideal S2x2048x1024 .f32) (ix3 b s k) = ((CT (X b s) g (T b s) k : ℝ) : EReal) := by
  have e : (val_main_v30 (F := Ideal) x0 x1 x2 : FVec Ideal S2x2048x1024 .f32) (ix3 b s k) = Ideal.div (Ideal.ofBits FTy.f32 0x3F000000#32 * 1) (Ideal.ofBits FTy.f32 0x44800000#32)
      * (Ideal.ofBits FTy.f32 0x40000000#32 * (val_main_v16 (F := Ideal) x0 x1 x2 : FVec Ideal S2x2048x1024 .f32) (ix3 b s k)) := by
    unfold val_main_v30 val_main_v29 val_main_v28 val_main_v27 val_main_v26 val_main_v25 val_main_v19 val_main_v18
    generalize val_main_v16 (F := Ideal) x0 x1 x2 = q
    pointwise [val_main_cst, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  rw [e, s16 x0 x1 x2 X g T h0 h1 h2, mul_one, Cert.Finite.word_half, div_1024, word_two, ← EReal.coe_mul, ← EReal.coe_mul]
  refine congrArg _ ?_
  unfold CT; ring
theorem s35 (h0 : ∀ b s k, x0 (ix3 b s k) = ((X b s k : ℝ) : EReal)) (h1 : ∀ k, x1 (ix1 k) = ((g k : ℝ) : EReal))
    (h2 : ∀ b s k, x2 (ix3 b s k) = ((T b s k : ℝ) : EReal)) (b : Fin 2) (s : Fin 2048) (k : Fin 1024) :
    (val_main_v35 (F := Ideal) x0 x1 x2 : FVec Ideal S2x2048x1024 .f32) (ix3 b s k) = ((HH (X b s) g (T b s) k : ℝ) : EReal) := by
  unfold HH
  rw [EReal.coe_mul, ← h1, ← s30 x0 x1 x2 X g T h0 h1 h2 b s k]
  unfold val_main_v35 val_main_v34 val_main_v13
  generalize val_main_v30 (F := Ideal) x0 x1 x2 = q
  pointwise
/-- The mean square's part of the gradient. -/
theorem s46 (h0 : ∀ b s k, x0 (ix3 b s k) = ((X b s k : ℝ) : EReal)) (h1 : ∀ k, x1 (ix1 k) = ((g k : ℝ) : EReal))
    (h2 : ∀ b s k, x2 (ix3 b s k) = ((T b s k : ℝ) : EReal)) (b : Fin 2) (s : Fin 2048) (k : Fin 1024) :
    (val_main_v46 (F := Ideal) x0 x1 x2 : FVec Ideal S2x2048x1024 .f32) (ix3 b s k)
      = (((∑ l : Fin 1024, X b s l * HH (X b s) g (T b s) l) * (-(1 / 2) * (SS (X b s) / VV (X b s))) / 1024 : ℝ) : EReal) := by
  have e : (val_main_v46 (F := Ideal) x0 x1 x2 : FVec Ideal S2x2048x1024 .f32) (ix3 b s k) = Ideal.div ((∑ l : Fin 1024, x0 (ix3 b s l)
      * (val_main_v35 (F := Ideal) x0 x1 x2 : FVec Ideal S2x2048x1024 .f32) (ix3 b s l)) * (val_main_v10 (F := Ideal) x0 : FVec Ideal S2x2048x1 .f32) (ix3 b s 0)) (Ideal.ofBits FTy.f32 0x44800000#32) := by
    unfold val_main_v46 val_main_v45 val_main_v44 val_main_v43 val_main_v42 val_main_v39 val_main_v38 val_main_v37
    generalize val_main_v35 (F := Ideal) x0 x1 x2 = q
    generalize val_main_v10 (F := Ideal) x0 = p
    pointwise [val_main_cst, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
    exact Fin.sum_univ_one _
  rw [e]
  simp only [h0, s35 x0 x1 x2 X g T h0 h1 h2, s10 x0 X h0, ← EReal.coe_mul, Cert.Finite.coe_sum, div_1024]
theorem ref51 (h0 : ∀ b s k, x0 (ix3 b s k) = ((X b s k : ℝ) : EReal)) (h1 : ∀ k, x1 (ix1 k) = ((g k : ℝ) : EReal))
    (h2 : ∀ b s k, x2 (ix3 b s k) = ((T b s k : ℝ) : EReal)) : (val_main_v51 (F := Ideal) x0 x1 x2 : FVec Ideal S4096x1024 .f32) = DX X g T := by
  funext j
  idx_vars j
  have e : (val_main_v51 (F := Ideal) x0 x1 x2 : FVec Ideal S4096x1024 .f32) (ix2 j0 j1) = (val_main_v35 (F := Ideal) x0 x1 x2 : FVec Ideal S2x2048x1024 .f32) (ix3 (bi j0) (si j0) j1)
      * (val_main_v7 (F := Ideal) x0 : FVec Ideal S2x2048x1 .f32) (ix3 (bi j0) (si j0) 0) + x0 (ix3 (bi j0) (si j0) j1) * (val_main_v46 (F := Ideal) x0 x1 x2 : FVec Ideal S2x2048x1024 .f32) (ix3 (bi j0) (si j0) j1)
      + (val_main_v46 (F := Ideal) x0 x1 x2 : FVec Ideal S2x2048x1024 .f32) (ix3 (bi j0) (si j0) j1) * x0 (ix3 (bi j0) (si j0) j1) := by
    unfold val_main_v51 val_main_v50 val_main_v49 val_main_v48 val_main_v47 val_main_v41 val_main_v40
    generalize val_main_v46 (F := Ideal) x0 x1 x2 = r
    generalize val_main_v35 (F := Ideal) x0 x1 x2 = q
    generalize val_main_v7 (F := Ideal) x0 = p
    pointwise
  rw [e, h0, s35 x0 x1 x2 X g T h0 h1 h2, s7 x0 X h0, s46 x0 x1 x2 X g T h0 h1 h2, ← EReal.coe_mul, ← EReal.coe_mul, ← EReal.coe_mul, ← EReal.coe_add, ← EReal.coe_add]
  exact congrArg _ (grad_eq _ _ _ _ rfl)
theorem ref54 (h0 : ∀ b s k, x0 (ix3 b s k) = ((X b s k : ℝ) : EReal)) (h1 : ∀ k, x1 (ix1 k) = ((g k : ℝ) : EReal))
    (h2 : ∀ b s k, x2 (ix3 b s k) = ((T b s k : ℝ) : EReal)) : (val_main_v54 (F := Ideal) x0 x1 x2 : FVec Ideal S4096x1024 .bf16) = DX X g T := by
  rw [← ref51 x0 x1 x2 X g T h0 h1 h2]
  unfold val_main_v54
  generalize val_main_v51 (F := Ideal) x0 x1 x2 = q
  rfl
theorem ref52 (h0 : ∀ b s k, x0 (ix3 b s k) = ((X b s k : ℝ) : EReal)) (h1 : ∀ k, x1 (ix1 k) = ((g k : ℝ) : EReal))
    (h2 : ∀ b s k, x2 (ix3 b s k) = ((T b s k : ℝ) : EReal)) : (val_main_v52 (F := Ideal) x0 x1 x2 : FVec Ideal S1x1024 .f32) = DG X g T := by
  funext j
  idx_vars j
  have e : (val_main_v52 (F := Ideal) x0 x1 x2 : FVec Ideal S1x1024 .f32) (ix2 j0 j1) = ∑ b : Fin 2, ∑ s : Fin 2048,
      (val_main_v12 (F := Ideal) x0 : FVec Ideal S2x2048x1024 .f32) (ix3 b s j1) * (val_main_v30 (F := Ideal) x0 x1 x2 : FVec Ideal S2x2048x1024 .f32) (ix3 b s j1) := by
    unfold val_main_v52 val_main_v36 val_main_v33 val_main_v32 val_main_v31
    generalize val_main_v12 (F := Ideal) x0 = q
    generalize val_main_v30 (F := Ideal) x0 x1 x2 = p
    pointwise [val_main_cst, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, Cert.Finite.sum_rows]
    exact (Fin.sum_univ_one _).trans (Fin.sum_univ_one _)
  rw [e]
  simp only [s12 x0 X h0, s30 x0 x1 x2 X g T h0 h1 h2, ← EReal.coe_mul, Cert.Finite.coe_sum]
  refine congrArg _ ((rows fun b s => XN (X b s) j1 * CT (X b s) g (T b s) j1).trans ?_)
  exact Finset.sum_congr rfl fun r _ => mul_comm _ _
theorem ref53 (h0 : ∀ b s k, x0 (ix3 b s k) = ((X b s k : ℝ) : EReal)) (h1 : ∀ k, x1 (ix1 k) = ((g k : ℝ) : EReal))
    (h2 : ∀ b s k, x2 (ix3 b s k) = ((T b s k : ℝ) : EReal)) : (val_main_v53 (F := Ideal) x0 x1 x2 : FVec Ideal S1x128 .f32) = LL X g T := by
  funext j
  idx_vars j
  have e : (val_main_v53 (F := Ideal) x0 x1 x2 : FVec Ideal S1x128 .f32) (ix2 j0 j1) = Ideal.ofBits FTy.f32 0x3F000000#32 * ∑ b : Fin 2, ∑ s : Fin 2048,
      Ideal.div (∑ k : Fin 1024, (val_main_v16 (F := Ideal) x0 x1 x2 : FVec Ideal S2x2048x1024 .f32) (ix3 b s k) * (val_main_v16 (F := Ideal) x0 x1 x2 : FVec Ideal S2x2048x1024 .f32) (ix3 b s k)) (Ideal.ofBits FTy.f32 0x44800000#32) := by
    unfold val_main_v53 val_main_v24 val_main_v23 val_main_v22 val_main_v21 val_main_v20 val_main_v17
    generalize val_main_v16 (F := Ideal) x0 x1 x2 = q
    pointwise [val_main_cst, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  rw [e]
  simp only [s16 x0 x1 x2 X g T h0 h1 h2, ← EReal.coe_mul, Cert.Finite.coe_sum, div_1024]
  rw [Cert.Finite.word_half, ← EReal.coe_mul]
  exact congrArg _ (congrArg (1 / 2 * ·) (rows fun b s => MS (X b s) g (T b s)))

end Reference

end Cert.Loss
end
-- ==== Proof.LossClaims.lean ====
/- Untrusted: the claims about the loss and its gradients. -/
module

public import proofs.«01_k».proof.Defs
public import proofs.«01_k».proof.Proof.Loss
public import proofs.«01_k».proof.Proof.Gen.LossK.Frame
public import proofs.«01_k».proof.Proof.Gen.LossRIdeal.Run
public import Idealize.ShloMosaic.Adequacy
public import Idealize.ShloMosaic.Lib.Quiescent

@[expose] public section

noncomputable section

namespace Cert.Loss

open Idealize.ShloMosaic Idealize.ShloMosaic.TcCoe Idealize.SL.Sem

/-- The side conditions of the precondition's operations. -/
theorem preFacts : Cert.Pre_loss_finite.Facts where
  bcast_S_S2x2048x1024 := by decide
  reducesTo_S2x2048x1024_S_d0_1_2 := by decide
  h_S_ := by decide
  bcast_S_S1024 := by decide
  reducesTo_S1024_S_d0 := by decide

instance : Subsingleton Cert.Pre_loss_finite.S_.Idx := ⟨fun a b => funext fun k => k.elim0⟩

/-- Under the precondition the three arguments are arrays of reals. -/
theorem reals [Cert.Pre_loss_finite.Facts] {x0 x2 : FVec Ideal Cert.Pre_loss_finite.S2x2048x1024 .f32} {x1 : FVec Ideal Cert.Pre_loss_finite.S1024 .f32}
    (h : Cert.Pre_loss_finite.fn (F := Ideal) x0 x1 x2 = fun _ => 1#1) :
    (∃ f : Fin 2 → Fin 2048 → Fin 1024 → ℝ, ∀ b s k, x0 (ix3 b s k) = ((f b s k : ℝ) : EReal)) ∧ (∃ f : Fin 1024 → ℝ, ∀ k, x1 (ix1 k) = ((f k : ℝ) : EReal))
      ∧ ∃ f : Fin 2 → Fin 2048 → Fin 1024 → ℝ, ∀ b s k, x2 (ix3 b s k) = ((f b s k : ℝ) : EReal) := by
  unfold Cert.Pre_loss_finite.fn at h
  obtain ⟨h, h2⟩ := Cert.Finite.and_split h
  obtain ⟨h0, h1⟩ := Cert.Finite.and_split h
  obtain ⟨f0, e0⟩ := Cert.Finite.array_real (fun a => a.elim0) h0
  obtain ⟨f1, e1⟩ := Cert.Finite.array_real (fun a => a.elim0) h1
  obtain ⟨f2, e2⟩ := Cert.Finite.array_real (fun a => a.elim0) h2
  exact ⟨⟨fun b s k => f0 (ix3 b s k), fun b s k => congrFun e0 _⟩, ⟨fun k => f1 (ix1 k), fun k => congrFun e1 _⟩,
    ⟨fun b s k => f2 (ix3 b s k), fun b s k => congrFun e2 _⟩⟩

/-- The reference's runs end with its counters at zero. -/
theorem quiescentR : quiescent_LossRIdeal := fun m ρ _ =>
  (θ_run Cert.LossRIdeal.defs _ _).mono (fun r h => ⟨fun c => (h c).2.2.2.2, sem_eq_zero_of_no_sems (by decide) r.2⟩)
    (Cert.LossRIdeal.Value.run (F := Ideal) m ρ)

/-- On finite arguments the kernel's loss and gradients are the reference's. -/
theorem algebraic [Cert.Pre_loss_finite.Facts] : algebraic_LossKIdeal_LossRIdeal_pre_loss_finite := by
  intro m ρ m' ρ' hpre hagree
  refine ⟨_, _, _, _, Cert.LossKIdeal.Value.run_blocks (F := Ideal) m ρ, ?_⟩
  refine (θ_run Cert.LossRIdeal.defs _ _).mono (fun _ h c => ⟨?_, ?_, ?_, ?_, (h c).2.2.2.2⟩) (Cert.LossRIdeal.Value.run (F := Ideal) m' ρ')
  · obtain ⟨⟨X, h0⟩, ⟨g, h1⟩, ⟨T, h2⟩⟩ := reals (hpre c)
    refine (h c).1.trans ?_
    rw [Cert.LossRIdeal.Read.val_main_v51_eq, (hagree c).1, (hagree c).2.1, (hagree c).2.2]
    exact (ref51 _ _ _ X g T h0 h1 h2).trans (final3 m c X g T h0 h1 h2).symm
  · obtain ⟨⟨X, h0⟩, ⟨g, h1⟩, ⟨T, h2⟩⟩ := reals (hpre c)
    refine (h c).2.1.trans ?_
    rw [Cert.LossRIdeal.Read.val_main_v52_eq, (hagree c).1, (hagree c).2.1, (hagree c).2.2]
    exact (ref52 _ _ _ X g T h0 h1 h2).trans (final4 m c X g T h0 h1 h2).symm
  · obtain ⟨⟨X, h0⟩, ⟨g, h1⟩, ⟨T, h2⟩⟩ := reals (hpre c)
    refine (h c).2.2.1.trans ?_
    rw [Cert.LossRIdeal.Read.val_main_v53_eq, (hagree c).1, (hagree c).2.1, (hagree c).2.2]
    exact (ref53 _ _ _ X g T h0 h1 h2).trans (final5 m c X g T h0 h1 h2).symm
  · obtain ⟨⟨X, h0⟩, ⟨g, h1⟩, ⟨T, h2⟩⟩ := reals (hpre c)
    refine (h c).2.2.2.1.trans ?_
    rw [Cert.LossRIdeal.Read.val_main_v54_eq, (hagree c).1, (hagree c).2.1, (hagree c).2.2]
    exact (ref54 _ _ _ X g T h0 h1 h2).trans (final6 m c X g T h0 h1 h2).symm

end Cert.Loss
end
-- ==== Proof.NormHost.lean ====
/- Untrusted: the gradient of a norm followed by a product, as the references compute it from the product's cotangent. -/
module

public import proofs.«01_k».proof.Proof.Gen.OddhRIdeal.Read
public import proofs.«01_k».proof.Proof.Norm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators
open Cert.Norm

namespace Cert.NormHost

/-- The batch and the position of a flattened row. -/
abbrev bi (r : Fin 4096) : Fin 2 := ⟨r.val / 2048, by omega⟩
abbrev si (r : Fin 4096) : Fin 2048 := ⟨r.val % 2048, by omega⟩

section Targets

variable (X : Fin 2 → Fin 2048 → Fin 1024 → ℝ) (g : Fin 1024 → ℝ) (H : Fin 2 → Fin 2048 → Fin 1024 → ℝ)

/-- The cotangent of the scaled row that a product with `w` hands back. -/
def DH {n : ℕ} (p : Fin 2 → Fin 2048 → Fin n → ℝ) (w : Fin 1024 → Fin n → ℝ) (b : Fin 2) (s : Fin 2048) (k : Fin 1024) : ℝ := ∑ f : Fin n, p b s f * w k f

/-- The gradient against the norm's argument, with the residual's cotangent `d` added, and that against the gain. -/
def NDX (d : (⟨3, ![2, 2048, 1024]⟩ : Shape).Idx → EReal) : (⟨2, ![4096, 1024]⟩ : Shape).Idx → EReal := fun i =>
  d (ix3 (bi (i 0)) (si (i 0)) (i 1)) + ((GX (X (bi (i 0)) (si (i 0))) (fun k => H (bi (i 0)) (si (i 0)) k * g k) (i 1) : ℝ) : EReal)
def ndr (k : Fin 1024) (r : Fin 4096) : ℝ := H (bi r) (si r) k * XN (X (bi r) (si r)) k
def NDG : (⟨2, ![1, 1024]⟩ : Shape).Idx → EReal := fun i => ((∑ r : Fin 4096, ndr X H (i 1) r : ℝ) : EReal)

end Targets

/-- A sum over rows is the sum over batches and positions. -/
theorem rows (F : Fin 2 → Fin 2048 → ℝ) : ∑ b : Fin 2, ∑ s : Fin 2048, F b s = ∑ r : Fin 4096, F (bi r) (si r) :=
  Fin.sum_mul_add_congr (fun b s hl => congrArg₂ F (Fin.ext (by simp only; omega)) (Fin.ext (by simp only; omega)))

open Cert.OddhRIdeal Cert.OddhRIdeal.Gen Cert.OddhRIdeal.Read

section Host

variable (x0 : FVec Ideal S2x2048x1024 .f32) (x1 : FVec Ideal S1024 .f32) (h d : FVec Ideal S2x2048x1024 .f32)

/-- The steps of the gradient from the cotangent `h` of the scaled row: scaled by the gain, its product with the row summed, the mean square's part,
    and the two results. -/
def B24 : FVec Ideal S2x2048x1024 .f32 := mulf h (val_main_v23 (F := Ideal) x1)
def B27 : FVec Ideal S2x2048 .f32 := Host.reduceAdd (mulf x0 (B24 x1 h)) (val_main_cst_5 (F := Ideal)) reducesTo_S2x2048x1024_S2x2048_d2 h_S_
def B34 : FVec Ideal S2x2048x1 .f32 := Host.divf (mulf (shapeCast _ (B27 x0 x1 h) shapeCasts_S2x2048_S2x2048x1) (val_main_v10 (F := Ideal) x0)) (val_main_v33 (F := Ideal))
def B36 : FVec Ideal S2x2048x1024 .f32 :=
  broadcastInDim S2x2048x1024 ![0, 1] bcast_S2x2048_S2x2048x1024_0_1 (Host.reduceAdd (B34 x0 x1 h) (val_main_cst_7 (F := Ideal)) reducesTo_S2x2048x1_S2x2048_d2 h_S_)
def HX : FVec Ideal S4096x1024 .f32 :=
  shapeCast _ (addf (addf (addf d (mulf (B24 x1 h) (val_main_v29 (F := Ideal) x0))) (mulf x0 (B36 x0 x1 h))) (mulf (B36 x0 x1 h) x0)) shapeCasts_S2x2048x1024_S4096x1024
def HG : FVec Ideal S1x1024 .f32 :=
  shapeCast _ (Host.reduceAdd (shapeCast _ (Host.reduceAdd (mulf (val_main_v12 (F := Ideal) x0) h) (val_main_cst_3 (F := Ideal)) reducesTo_S2x2048x1024_S1024_d0_1 h_S_)
    shapeCasts_S1024_S1x1x1024) (val_main_cst_4 (F := Ideal)) reducesTo_S1x1x1024_S1024_d0_1 h_S_) shapeCasts_S1024_S1x1024

variable (X : Fin 2 → Fin 2048 → Fin 1024 → ℝ) (g : Fin 1024 → ℝ) (H : Fin 2 → Fin 2048 → Fin 1024 → ℝ)

theorem s6 (h0 : ∀ b s k, x0 (ix3 b s k) = ((X b s k : ℝ) : EReal)) (b : Fin 2) (s : Fin 2048) (z : Fin 1) :
    (val_main_v6 (F := Ideal) x0 : FVec Ideal S2x2048x1 .f32) (ix3 b s z) = ((VV (X b s) : ℝ) : EReal) := by
  rw [← VV_coe]
  simp only [← h0]
  unfold val_main_v6 val_main_v5 val_main_v4 val_main_v3 val_main_v2 val_main_v1 val_main_v0
  pointwise [val_main_cst, val_main_cst_1, val_main_cst_2, val_main_cst_3, val_main_cst_4, val_main_cst_5, val_main_cst_6, val_main_cst_7]
  rfl
theorem s7 (h0 : ∀ b s k, x0 (ix3 b s k) = ((X b s k : ℝ) : EReal)) (b : Fin 2) (s : Fin 2048) (z : Fin 1) :
    (val_main_v7 (F := Ideal) x0 : FVec Ideal S2x2048x1 .f32) (ix3 b s z) = ((SS (X b s) : ℝ) : EReal) := by
  rw [← rsqrt_VV, ← s6 x0 X h0 b s z]
  unfold val_main_v7
  generalize val_main_v6 (F := Ideal) x0 = q
  pointwise
theorem s10 (h0 : ∀ b s k, x0 (ix3 b s k) = ((X b s k : ℝ) : EReal)) (b : Fin 2) (s : Fin 2048) (z : Fin 1) :
    (val_main_v10 (F := Ideal) x0 : FVec Ideal S2x2048x1 .f32) (ix3 b s z) = ((-(1 / 2) * (SS (X b s) / VV (X b s)) : ℝ) : EReal) := by
  have e : (val_main_v10 (F := Ideal) x0 : FVec Ideal S2x2048x1 .f32) (ix3 b s z) = Ideal.ofBits FTy.f32 0xBF000000#32
      * Ideal.div ((val_main_v7 (F := Ideal) x0 : FVec Ideal S2x2048x1 .f32) (ix3 b s z)) ((val_main_v6 (F := Ideal) x0 : FVec Ideal S2x2048x1 .f32) (ix3 b s z)) := by
    unfold val_main_v10 val_main_v9 val_main_v8
    generalize val_main_v7 (F := Ideal) x0 = p
    generalize val_main_v6 (F := Ideal) x0 = q
    pointwise [val_main_cst, val_main_cst_1, val_main_cst_2, val_main_cst_3, val_main_cst_4, val_main_cst_5, val_main_cst_6, val_main_cst_7]
  rw [e, s6 x0 X h0, s7 x0 X h0, div_real _ _ (VV_pos _).ne', word_minus_half, ← EReal.coe_mul]
theorem s12 (h0 : ∀ b s k, x0 (ix3 b s k) = ((X b s k : ℝ) : EReal)) (b : Fin 2) (s : Fin 2048) (k : Fin 1024) :
    (val_main_v12 (F := Ideal) x0 : FVec Ideal S2x2048x1024 .f32) (ix3 b s k) = ((XN (X b s) k : ℝ) : EReal) := by
  unfold XN
  rw [EReal.coe_mul, ← h0, ← s7 x0 X h0 b s 0]
  unfold val_main_v12 val_main_v11
  generalize val_main_v7 (F := Ideal) x0 = q
  pointwise
theorem s24 (h1 : ∀ k, x1 (ix1 k) = ((g k : ℝ) : EReal)) (h2 : ∀ b s k, h (ix3 b s k) = ((H b s k : ℝ) : EReal)) (b : Fin 2) (s : Fin 2048) (k : Fin 1024) :
    B24 x1 h (ix3 b s k) = ((H b s k * g k : ℝ) : EReal) := by
  rw [EReal.coe_mul, ← h1, ← h2]
  unfold B24 val_main_v23 val_main_v13
  pointwise
/-- The mean square's part of the gradient. -/
theorem s36 (h0 : ∀ b s k, x0 (ix3 b s k) = ((X b s k : ℝ) : EReal)) (h1 : ∀ k, x1 (ix1 k) = ((g k : ℝ) : EReal))
    (h2 : ∀ b s k, h (ix3 b s k) = ((H b s k : ℝ) : EReal)) (b : Fin 2) (s : Fin 2048) (k : Fin 1024) :
    B36 x0 x1 h (ix3 b s k) = (((∑ l : Fin 1024, X b s l * (H b s l * g l)) * (-(1 / 2) * (SS (X b s) / VV (X b s))) / 1024 : ℝ) : EReal) := by
  have e : B36 x0 x1 h (ix3 b s k) = Ideal.div ((∑ l : Fin 1024, x0 (ix3 b s l) * B24 x1 h (ix3 b s l))
      * (val_main_v10 (F := Ideal) x0 : FVec Ideal S2x2048x1 .f32) (ix3 b s 0)) (Ideal.ofBits FTy.f32 0x44800000#32) := by
    unfold B36 B34 B27 val_main_v33
    generalize B24 x1 h = q
    generalize val_main_v10 (F := Ideal) x0 = p
    pointwise [val_main_cst, val_main_cst_1, val_main_cst_2, val_main_cst_3, val_main_cst_4, val_main_cst_5, val_main_cst_6, val_main_cst_7]
    exact Fin.sum_univ_one _
  rw [e]
  simp only [h0, s24 x1 h g H h1 h2, s10 x0 X h0, ← EReal.coe_mul, Cert.Finite.coe_sum, div_1024]
/-- The gradient against the norm's argument. -/
theorem HX_eq (h0 : ∀ b s k, x0 (ix3 b s k) = ((X b s k : ℝ) : EReal)) (h1 : ∀ k, x1 (ix1 k) = ((g k : ℝ) : EReal))
    (h2 : ∀ b s k, h (ix3 b s k) = ((H b s k : ℝ) : EReal)) : HX x0 x1 h d = NDX X g H d := by
  funext j
  idx_vars j
  have e : HX x0 x1 h d (ix2 j0 j1) = d (ix3 (bi j0) (si j0) j1) + B24 x1 h (ix3 (bi j0) (si j0) j1) * (val_main_v7 (F := Ideal) x0 : FVec Ideal S2x2048x1 .f32) (ix3 (bi j0) (si j0) 0)
      + x0 (ix3 (bi j0) (si j0) j1) * B36 x0 x1 h (ix3 (bi j0) (si j0) j1) + B36 x0 x1 h (ix3 (bi j0) (si j0) j1) * x0 (ix3 (bi j0) (si j0) j1) := by
    unfold HX val_main_v29
    generalize B36 x0 x1 h = r
    generalize B24 x1 h = q
    generalize val_main_v7 (F := Ideal) x0 = p
    pointwise
  rw [e, h0, s24 x1 h g H h1 h2, s7 x0 X h0, s36 x0 x1 h X g H h0 h1 h2, add_assoc, add_assoc, ← add_assoc, ← EReal.coe_mul, ← EReal.coe_mul, ← EReal.coe_mul, ← EReal.coe_add,
    add_assoc, ← EReal.coe_add]
  exact congrArg (_ + ·) (congrArg _ ((add_assoc _ _ _).symm.trans (grad_eq _ (fun k => H (bi j0) (si j0) k * g k) _ _ rfl)))
/-- The gradient against the gain. -/
theorem HG_eq (h0 : ∀ b s k, x0 (ix3 b s k) = ((X b s k : ℝ) : EReal)) (h2 : ∀ b s k, h (ix3 b s k) = ((H b s k : ℝ) : EReal)) : HG x0 h = NDG X H := by
  funext j
  idx_vars j
  have e : HG x0 h (ix2 j0 j1) = ∑ b : Fin 2, ∑ s : Fin 2048, (val_main_v12 (F := Ideal) x0 : FVec Ideal S2x2048x1024 .f32) (ix3 b s j1) * h (ix3 b s j1) := by
    unfold HG
    generalize val_main_v12 (F := Ideal) x0 = q
    pointwise [val_main_cst, val_main_cst_1, val_main_cst_2, val_main_cst_3, val_main_cst_4, val_main_cst_5, val_main_cst_6, val_main_cst_7, Cert.Finite.sum_rows]
    exact (Fin.sum_univ_one _).trans (Fin.sum_univ_one _)
  rw [e]
  simp only [s12 x0 X h0, h2, ← EReal.coe_mul, Cert.Finite.coe_sum]
  refine congrArg _ ((rows fun b s => XN (X b s) j1 * H b s j1).trans ?_)
  exact Finset.sum_congr rfl fun r _ => mul_comm _ _

end Host

end Cert.NormHost
end
-- ==== Proof.Ffndh.lean ====
/- Untrusted: the values of the kernel that takes the feed-forward's gate cotangents back through the input projection and the norm. -/
module

public import proofs.«01_k».proof.Proof.Gen.FfndhKIdeal.Value
public import proofs.«01_k».proof.Proof.Gen.FfndhRIdeal.Read
public import proofs.«01_k».proof.Proof.NormHost

@[expose] public section

set_option maxRecDepth 16384

noncomputable section

open Idealize.ShloMosaic Idealize.ShloMosaic.TcCoe Idealize.SL.Sem
open Idealize.ShloMosaic.Pipeline (Dat)
open scoped BigOperators
open Cert.Norm Cert.NormHost

namespace Cert.Ffndh

section Block

open Cert.FfndhKIdeal Cert.FfndhKIdeal.Gen

variable (v : FVec Ideal S512x1024 .f32) (x : Fin 512 → Fin 1024 → ℝ)

/-- The inverse root mean square of a row and the normalised row. -/
theorem pay7 (h0 : ∀ a k, v (ix2 a k) = ((x a k : ℝ) : EReal)) (a : Fin 512) (z : Fin 1) :
    (k0_pay7 (F := Ideal) v : FVec Ideal S512x1 .f32) (ix2 a z) = ((SS (x a) : ℝ) : EReal) := by
  rw [← rsqrt_VV, ← VV_coe]
  simp only [← h0]
  pointwise [k0_pay7, k0_pay6]
theorem pay8 (h0 : ∀ a k, v (ix2 a k) = ((x a k : ℝ) : EReal)) (a : Fin 512) (k : Fin 1024) :
    (k0_pay8 (F := Ideal) v : FVec Ideal S512x1024 .f32) (ix2 a k) = ((XN (x a) k : ℝ) : EReal) := by
  unfold XN
  rw [EReal.coe_mul, ← h0, ← pay7 v x h0 a 0]
  unfold k0_pay8
  generalize k0_pay7 (F := Ideal) v = q
  pointwise [k0_pay6]

variable (v12 v24 d : FVec Ideal S512x1024 .f32) (w : FVec Ideal S1x1024 .f32) (H : Fin 512 → Fin 1024 → ℝ) (g : Fin 1024 → ℝ)

/-- The gradient through the norm, from the two halves of the cotangent of the scaled row. -/
theorem pay9 (h0 : ∀ a k, v (ix2 a k) = ((x a k : ℝ) : EReal)) (hq : ∀ a k, v24 (ix2 a k) + v12 (ix2 a k) = ((H a k : ℝ) : EReal))
    (hw : ∀ k, w (ix2 0 k) = ((g k : ℝ) : EReal)) (a : Fin 512) (k : Fin 1024) :
    (k0_pay9 (F := Ideal) v12 v24 v d w : FVec Ideal S512x1024 .f32) (ix2 a k) = d (ix2 a k) + ((GX (x a) (fun k => H a k * g k) k : ℝ) : EReal) := by
  have e5 : ∀ a k, (k0_pay5 (F := Ideal) v12 v24 : FVec Ideal S512x1024 .f32) (ix2 a k) = ((H a k : ℝ) : EReal) := fun a k => by
    rw [← hq]; pointwise [k0_pay5]
  have e : (k0_pay9 (F := Ideal) v12 v24 v d w : FVec Ideal S512x1024 .f32) (ix2 a k) = d (ix2 a k) + (k0_pay7 (F := Ideal) v : FVec Ideal S512x1 .f32) (ix2 a 0)
      * ((k0_pay5 (F := Ideal) v12 v24 : FVec Ideal S512x1024 .f32) (ix2 a k) * w (ix2 0 k) - (k0_pay8 (F := Ideal) v : FVec Ideal S512x1024 .f32) (ix2 a k)
        * Ideal.div (∑ l : Fin 1024, (k0_pay5 (F := Ideal) v12 v24 : FVec Ideal S512x1024 .f32) (ix2 a l) * w (ix2 0 l) * (k0_pay8 (F := Ideal) v : FVec Ideal S512x1024 .f32) (ix2 a l))
            (Ideal.ofBits FTy.f32 0x44800000#32)) := by
    unfold k0_pay9
    generalize k0_pay5 (F := Ideal) v12 v24 = q
    generalize k0_pay7 (F := Ideal) v = s
    generalize k0_pay8 (F := Ideal) v = n
    pointwise
  rw [e]
  simp only [e5, hw, pay7 v x h0, pay8 v x h0, ← EReal.coe_mul, Cert.Finite.coe_sum, div_1024, ← EReal.coe_sub]
  rfl
theorem pay10 (a : Fin 512) (k : Fin 1024) :
    (k0_pay10 (F := Ideal) v12 v24 v d w : FVec Ideal S512x1024 .bf16) (ix2 a k) = (k0_pay9 (F := Ideal) v12 v24 v d w : FVec Ideal S512x1024 .f32) (ix2 a k) := by
  unfold k0_pay10
  generalize k0_pay9 (F := Ideal) v12 v24 v d w = r
  pointwise
/-- The rows' part of the gain's gradient. -/
theorem pay11 (h0 : ∀ a k, v (ix2 a k) = ((x a k : ℝ) : EReal)) (hq : ∀ a k, v24 (ix2 a k) + v12 (ix2 a k) = ((H a k : ℝ) : EReal)) (k : Fin 1024) :
    (k0_pay11 (F := Ideal) v12 v24 v : FVec Ideal S1x1024 .f32) (ix2 0 k) = ((∑ a : Fin 512, H a k * XN (x a) k : ℝ) : EReal) := by
  have e : (k0_pay11 (F := Ideal) v12 v24 v : FVec Ideal S1x1024 .f32) (ix2 0 k) = ∑ a : Fin 512, (v24 (ix2 a k) + v12 (ix2 a k)) * (k0_pay8 (F := Ideal) v : FVec Ideal S512x1024 .f32) (ix2 a k) := by
    unfold k0_pay11 k0_pay5
    generalize k0_pay8 (F := Ideal) v = n
    pointwise
  rw [e]
  simp only [hq, pay8 v x h0, ← EReal.coe_mul, Cert.Finite.coe_sum]
theorem pay4 (p q : FVec Ideal S1x1024 .f32) (k : Fin 1024) : (k0_pay4 (F := Ideal) q p : FVec Ideal S1x1024 .f32) (ix2 0 k) = p (ix2 0 k) + q (ix2 0 k) := by
  pointwise [k0_pay4]

/-- One plane's product with the weight. -/
theorem pay1 (v0 : FVec Ideal S1x512x2816 .bf16) (v4 v9 : FVec Ideal S1x1024x1408 .bf16) (P : Fin 512 → Fin 2816 → ℝ) (W : Fin 1024 → Fin 2816 → ℝ)
    (hp : ∀ a f, v0 (ix3 0 a f) = ((P a f : ℝ) : EReal)) (h4 : ∀ (k : Fin 1024) (f : Fin 1408), v4 (ix3 0 k f) = ((W k ⟨f.val, by omega⟩ : ℝ) : EReal))
    (h9 : ∀ (k : Fin 1024) (f : Fin 1408), v9 (ix3 0 k f) = ((W k ⟨1408 + f.val, by omega⟩ : ℝ) : EReal)) (a : Fin 512) (k : Fin 1024) :
    (k0_pay1 (F := Ideal) v0 v4 v9 : FVec Ideal S512x1024 .f32) (ix2 a k) = ((∑ f : Fin 2816, P a f * W k f : ℝ) : EReal) := by
  rw [← Cert.Finite.coe_sum]
  have e : (k0_pay1 (F := Ideal) v0 v4 v9 : FVec Ideal S512x1024 .f32) (ix2 a k)
      = ∑ f : Fin 2816, v0 (ix3 0 a f) * (if h : f.val < 1408 then v4 (ix3 0 k ⟨f.val, h⟩) else v9 (ix3 0 k ⟨f.val - 1408, by omega⟩)) := by
    pointwise [k0_pay1]
  rw [e]
  refine Finset.sum_congr rfl fun f _ => ?_
  rw [EReal.coe_mul, hp]
  refine congrArg (_ * ·) ?_
  by_cases h : f.val < 1408
  · rw [dif_pos h, h4]
  · rw [dif_neg h, h9]
    exact congrArg (fun z => ((W k z : ℝ) : EReal)) (Fin.ext (by simp only; omega))
theorem pay2 (v0 : FVec Ideal S1x512x2816 .bf16) (v4 v9 : FVec Ideal S1x1024x1408 .bf16) (a : Fin 512) (k : Fin 1024) :
    (k0_pay2 (F := Ideal) v0 v4 v9 : FVec Ideal S512x1024 .f32) (ix2 a k) = (k0_pay1 (F := Ideal) v0 v4 v9 : FVec Ideal S512x1024 .f32) (ix2 a k) := by
  unfold k0_pay2
  generalize k0_pay1 (F := Ideal) v0 v4 v9 = r
  pointwise

end Block

section Kernel

open Cert.FfndhKIdeal Cert.FfndhKIdeal.Gen

theorem idx_val : ∀ t : Fin grid0.N, win0_0.index t = ![t.val % 2, t.val / 2, 0] ∧ win0_1.index t = ![0, 0, 0] ∧ win0_2.index t = ![t.val / 2, 0] ∧ win0_3.index t = ![t.val / 2, 0]
    ∧ win0_4.index t = ![0, 0] ∧ win0_5.index t = ![t.val / 2, 0] ∧ win0_6.index t = ![0, 0] ∧ win0_7.index t = ![t.val / 2, 0] :=
  (by decide +kernel : ∀ t : Fin grid0.N, _)

/-- The two planes of the weight that a point loads. -/
theorem off1_val : ∀ t : Fin grid0.N, k0_off1 (grid0.coords t) = ![2 * (t.val % 2), 0, 0] := (by decide +kernel : ∀ t : Fin grid0.N, _)
theorem off2_val : ∀ t : Fin grid0.N, k0_off2 (grid0.coords t) = ![2 * (t.val % 2) + 1, 0, 0] := (by decide +kernel : ∀ t : Fin grid0.N, _)

theorem N_16 : cfg0.N = 16 := by decide +kernel

variable (m : (ℓ : Loc nD τ sig) → Buf (Elt Ideal) ℓ) (c : Dev nD)

/-- The arrays that the program is given. -/
abbrev A0 : FVec Ideal S2x2048x1024 .f32 := m ⟨c, Proc.devRef .tc main_arg0⟩
abbrev A1 : FVec Ideal S1024 .f32 := m ⟨c, Proc.devRef .tc main_arg1⟩
abbrev A2 : FVec Ideal S1024x5632 .f32 := m ⟨c, Proc.devRef .tc main_arg2⟩
abbrev A3 : FVec Ideal S2x2048x5632 .f32 := m ⟨c, Proc.devRef .tc main_arg3⟩
abbrev A4 : FVec Ideal S2x2048x1024 .f32 := m ⟨c, Proc.devRef .tc main_arg4⟩

/-- The host's arrays: the cotangent by planes, the weight by planes, the residual rows, and the gain. -/
theorem V5 (j : S2x4096x2816.Idx) : V m c main_v5 j = A3 m c (ix3 (bi (j 1)) (si (j 1)) ⟨(j 0).val * 2816 + (j 2).val, by have h : (j 0).val < 2 := (j 0).isLt; have h' : (j 2).val < 2816 := (j 2).isLt; omega⟩) := by
  entry_read
  pointwise
theorem V2 (j : S4x1024x1408.Idx) : V m c main_v2 j = A2 m c (ix2 (j 1) ⟨(j 0).val * 1408 + (j 2).val, by have h : (j 0).val < 4 := (j 0).isLt; have h' : (j 2).val < 1408 := (j 2).isLt; omega⟩) := by
  entry_read
  pointwise
theorem V6 (j : S4096x1024.Idx) : V m c main_v6 j = A0 m c (ix3 (bi (j 0)) (si (j 0)) (j 1)) := by
  entry_read
  pointwise
theorem V7 (j : S4096x1024.Idx) : V m c main_v7 j = A4 m c (ix3 (bi (j 0)) (si (j 0)) (j 1)) := by
  entry_read
  pointwise
theorem V8 (j : S1x1024.Idx) : V m c main_v8 j = A1 m c (ix1 (j 1)) := by
  entry_read
  pointwise

/-- The flattened row of row `a` of point `t`'s blocks, and the column of column `f` of its plane. -/
abbrev pr (t : Fin cfg0.N) (a : Fin 512) : Fin 4096 := ⟨t.val / 2 * 512 + a.val, by have := lt_of_lt_of_eq t.isLt N_16; omega⟩
abbrev pc (t : Fin cfg0.N) (f : Fin 2816) : Fin 5632 := ⟨t.val % 2 * 2816 + f.val, by omega⟩

theorem blk0 (t : Fin cfg0.N) (a : Fin 512) (f : Fin 2816) : (iblk m c 0 t : FVec Ideal S1x512x2816 .bf16) (ix3 0 a f) = A3 m c (ix3 (bi (pr t a)) (si (pr t a)) (pc t f)) := by
  have k0 : (((cfg0.win 0).blk t).view.emb (ix3 0 a f) : S2x4096x2816.Idx) 0 = ⟨t.val % 2, Nat.mod_lt _ (by decide)⟩ := Fin.ext (by blk_simp [idx_val t] <;> rfl)
  have k1 : (((cfg0.win 0).blk t).view.emb (ix3 0 a f) : S2x4096x2816.Idx) 1 = pr t a := Fin.ext (by blk_simp [idx_val t])
  have k2 : (((cfg0.win 0).blk t).view.emb (ix3 0 a f) : S2x4096x2816.Idx) 2 = f := Fin.ext (by blk_simp [idx_val t])
  unfold iblk
  rw [View.read_apply, cast_eq]
  refine (V5 m c _).trans ?_
  simp only [k0, k1, k2]
theorem blk2 (t : Fin cfg0.N) (a : Fin 512) (k : Fin 1024) : (iblk m c 2 t : FVec Ideal S512x1024 .f32) (ix2 a k) = A0 m c (ix3 (bi (pr t a)) (si (pr t a)) k) := by
  have k0 : (((cfg0.win 2).blk t).view.emb (ix2 a k) : S4096x1024.Idx) 0 = pr t a := Fin.ext (by blk_simp [idx_val t])
  have k1 : (((cfg0.win 2).blk t).view.emb (ix2 a k) : S4096x1024.Idx) 1 = k := Fin.ext (by blk_simp [idx_val t])
  unfold iblk
  rw [View.read_apply, cast_eq]
  refine (V6 m c _).trans ?_
  rw [k0, k1]
theorem blk3 (t : Fin cfg0.N) (a : Fin 512) (k : Fin 1024) : (iblk m c 3 t : FVec Ideal S512x1024 .f32) (ix2 a k) = A4 m c (ix3 (bi (pr t a)) (si (pr t a)) k) := by
  have k0 : (((cfg0.win 3).blk t).view.emb (ix2 a k) : S4096x1024.Idx) 0 = pr t a := Fin.ext (by blk_simp [idx_val t])
  have k1 : (((cfg0.win 3).blk t).view.emb (ix2 a k) : S4096x1024.Idx) 1 = k := Fin.ext (by blk_simp [idx_val t])
  unfold iblk
  rw [View.read_apply, cast_eq]
  refine (V7 m c _).trans ?_
  rw [k0, k1]
theorem blk1 (t : Fin cfg0.N) (y : S4x1024x1408.Idx) : (iblk m c 1 t : FVec Ideal S4x1024x1408 .bf16) y
    = A2 m c (ix2 (y 1) ⟨(y 0).val * 1408 + (y 2).val, by have h : (y 0).val < 4 := (y 0).isLt; have h' : (y 2).val < 1408 := (y 2).isLt; omega⟩) := by
  have k0 : (((cfg0.win 1).blk t).view.emb y : S4x1024x1408.Idx) = y :=
    funext fun a => match a with
    | ⟨0, _⟩ => Fin.ext (by blk_simp [idx_val t])
    | ⟨1, _⟩ => Fin.ext (by blk_simp [idx_val t])
    | ⟨2, _⟩ => Fin.ext (by blk_simp [idx_val t])
  unfold iblk
  rw [View.read_apply, cast_eq]
  exact (V2 m c _).trans (by rw [k0])
theorem blk4 (t : Fin cfg0.N) (k : Fin 1024) : (iblk m c 4 t : FVec Ideal S1x1024 .f32) (ix2 0 k) = A1 m c (ix1 k) := by
  have k1 : (((cfg0.win 4).blk t).view.emb (ix2 0 k) : S1x1024.Idx) 1 = k := Fin.ext (by blk_simp [idx_val t])
  unfold iblk
  rw [View.read_apply, cast_eq]
  refine (V8 m c _).trans ?_
  rw [k1]
/-- The weight's planes as they are loaded. -/
theorem ld1 (t : Fin cfg0.N) (k : Fin 1024) (f : Fin 1408) :
    View.ld (iblk m c 1 t : Vec Ideal S4x1024x1408 .bf16) (Rect.unit (k0_off1 (grid0.coords t)) ![1, 1024, 1408] (k0_off1_inb (grid0.coords t))) (ix3 0 k f)
      = A2 m c (ix2 k (pc t ⟨f.val, by omega⟩)) := by
  refine (blk1 m c t _).trans (congrArg (A2 m c) (Cert.Finite.ext2 ?_ ?_))
  · simp [off1_val t]
  · simp [off1_val t]; omega
theorem ld2 (t : Fin cfg0.N) (k : Fin 1024) (f : Fin 1408) :
    View.ld (iblk m c 1 t : Vec Ideal S4x1024x1408 .bf16) (Rect.unit (k0_off2 (grid0.coords t)) ![1, 1024, 1408] (k0_off2_inb (grid0.coords t))) (ix3 0 k f)
      = A2 m c (ix2 k (pc t ⟨1408 + f.val, by omega⟩)) := by
  refine (blk1 m c t _).trans (congrArg (A2 m c) (Cert.Finite.ext2 ?_ ?_))
  · simp [off2_val t]
  · simp [off2_val t]; omega

theorem outs_congr {a b : ℕ} (e : a = b) (ha : a < cfg0.N) (hb : b < cfg0.N) : outsAt0 m c a ha = outsAt0 m c b hb := by
  subst e; rfl

variable (X : Fin 2 → Fin 2048 → Fin 1024 → ℝ) (g : Fin 1024 → ℝ) (w : Fin 1024 → Fin 5632 → ℝ) (p : Fin 2 → Fin 2048 → Fin 5632 → ℝ)

/-- Point `t`'s part of the product, and what row block `n` adds to the gain's gradient. -/
def dh (t : Fin cfg0.N) (a : Fin 512) (k : Fin 1024) : ℝ := ∑ f : Fin 2816, p (bi (pr t a)) (si (pr t a)) (pc t f) * w k (pc t f)
def dgb (n : Fin 8) (k : Fin 1024) : ℝ := ∑ a : Fin 512, ndr X (DH p w) k ⟨n.val * 512 + a.val, by omega⟩

theorem dg_eq (t : Fin cfg0.N) (n : Fin 8) (h : t.val / 2 = n.val) (k : Fin 1024) : ∑ a : Fin 512, ndr X (DH p w) k (pr t a) = dgb X w p n k :=
  Finset.sum_congr rfl fun a _ => congrArg _ (Fin.ext (by simp only; rw [h]))
/-- The two planes make the whole product. -/
theorem planes (t t' : Fin cfg0.N) (h : t.val % 2 = 1) (e : t'.val = t.val - 1) (a : Fin 512) (k : Fin 1024) :
    dh w p t' a k + dh w p t a k = DH p w (bi (pr t a)) (si (pr t a)) k := by
  have er : pr t' a = pr t a := Fin.ext (by simp only; omega)
  have s : ∑ z : Fin 2, ∑ f : Fin 2816, p (bi (pr t a)) (si (pr t a)) ⟨z.val * 2816 + f.val, by omega⟩ * w k ⟨z.val * 2816 + f.val, by omega⟩ = DH p w (bi (pr t a)) (si (pr t a)) k :=
    Fin.sum_mul_add_congr (fun z f hl => rfl)
  rw [← s, Fin.sum_univ_two]
  unfold dh
  rw [er]
  refine congrArg₂ (· + ·) (Finset.sum_congr rfl fun f _ => ?_) (Finset.sum_congr rfl fun f _ => ?_)
  · have q : pc t' f = ⟨(0 : Fin 2).val * 2816 + f.val, by omega⟩ := Fin.ext (by simp; omega)
    rw [q]
  · have q : pc t f = ⟨(1 : Fin 2).val * 2816 + f.val, by simp; omega⟩ := Fin.ext (by simp; omega)
    rw [q]

variable (h0 : ∀ b s k, A0 m c (ix3 b s k) = ((X b s k : ℝ) : EReal)) (h1 : ∀ k, A1 m c (ix1 k) = ((g k : ℝ) : EReal))
  (h2 : ∀ k f, A2 m c (ix2 k f) = ((w k f : ℝ) : EReal)) (h3 : ∀ b s f, A3 m c (ix3 b s f) = ((p b s f : ℝ) : EReal))
include h0 h1 h2 h3

theorem b1 (t : Fin cfg0.N) (a : Fin 512) (k : Fin 1024) :
    (k0_pay1 (F := Ideal) (iblk m c 0 t) (View.ld (iblk m c 1 t : Vec Ideal S4x1024x1408 .bf16) (Rect.unit (k0_off1 (grid0.coords t)) ![1, 1024, 1408] (k0_off1_inb (grid0.coords t))))
      (View.ld (iblk m c 1 t : Vec Ideal S4x1024x1408 .bf16) (Rect.unit (k0_off2 (grid0.coords t)) ![1, 1024, 1408] (k0_off2_inb (grid0.coords t)))) : FVec Ideal S512x1024 .f32) (ix2 a k)
      = ((dh w p t a k : ℝ) : EReal) :=
  pay1 _ _ _ (fun a f => p (bi (pr t a)) (si (pr t a)) (pc t f)) (fun k f => w k (pc t f)) (fun a f => (blk0 m c t a f).trans (h3 _ _ _))
    (fun k f => (ld1 m c t k f).trans (h2 _ _)) (fun k f => (ld2 m c t k f).trans (h2 _ _)) a k
/-- The first plane's part is kept for the next point. -/
theorem kept (t : Fin cfg0.N) (h : t.val % 2 = 0) (a : Fin 512) (k : Fin 1024) : (outsAt0 m c t.val t.isLt).2.2.2 (ix2 a k) = ((dh w p t a k : ℝ) : EReal) := by
  rw [outsAt0_A m c t h (by omega)]; frame_out
  exact (pay2 _ _ _ a k).trans (b1 m c X g w p h0 h1 h2 h3 t a k)
theorem both (t : Fin cfg0.N) (h : t.val % 2 = 1) (a : Fin 512) (k : Fin 1024) :
    (outsAt0 m c (t.val - 1) (Nat.lt_of_le_of_lt (Nat.sub_le _ _) t.isLt)).2.2.2 (ix2 a k) + (k0_pay1 (F := Ideal) (iblk m c 0 t)
      (View.ld (iblk m c 1 t : Vec Ideal S4x1024x1408 .bf16) (Rect.unit (k0_off1 (grid0.coords t)) ![1, 1024, 1408] (k0_off1_inb (grid0.coords t))))
      (View.ld (iblk m c 1 t : Vec Ideal S4x1024x1408 .bf16) (Rect.unit (k0_off2 (grid0.coords t)) ![1, 1024, 1408] (k0_off2_inb (grid0.coords t)))) : FVec Ideal S512x1024 .f32) (ix2 a k)
      = ((DH p w (bi (pr t a)) (si (pr t a)) k : ℝ) : EReal) := by
  have q := kept m c X g w p h0 h1 h2 h3 ⟨t.val - 1, Nat.lt_of_le_of_lt (Nat.sub_le _ _) t.isLt⟩ (by simp only; omega) a k
  refine (congrArg₂ (· + ·) q (b1 m c X g w p h0 h1 h2 h3 t a k)).trans ?_
  rw [← EReal.coe_add]
  exact congrArg _ (planes w p t _ h rfl a k)
theorem out9 (t : Fin cfg0.N) (q v24 : FVec Ideal S512x1024 .f32) (hq : ∀ a k, v24 (ix2 a k) + q (ix2 a k) = ((DH p w (bi (pr t a)) (si (pr t a)) k : ℝ) : EReal)) (a : Fin 512) (k : Fin 1024) :
    (k0_pay9 (F := Ideal) q v24 (iblk m c 2 t) (iblk m c 3 t) (iblk m c 4 t) : FVec Ideal S512x1024 .f32) (ix2 a k) = NDX X g (DH p w) (A4 m c) (ix2 (pr t a) k) :=
  (pay9 _ (fun a => X (bi (pr t a)) (si (pr t a))) _ _ _ _ (fun a => DH p w (bi (pr t a)) (si (pr t a))) g (fun a k => (blk2 m c t a k).trans (h0 _ _ _)) hq
    (fun k => (blk4 m c t k).trans (h1 k)) a k).trans (congrArg (· + _) (blk3 m c t a k))
theorem out11 (t : Fin cfg0.N) (q v24 : FVec Ideal S512x1024 .f32) (hq : ∀ a k, v24 (ix2 a k) + q (ix2 a k) = ((DH p w (bi (pr t a)) (si (pr t a)) k : ℝ) : EReal)) (k : Fin 1024) :
    (k0_pay11 (F := Ideal) q v24 (iblk m c 2 t) : FVec Ideal S1x1024 .f32) (ix2 0 k) = ((∑ a : Fin 512, ndr X (DH p w) k (pr t a) : ℝ) : EReal) :=
  pay11 _ (fun a => X (bi (pr t a)) (si (pr t a))) _ _ (fun a => DH p w (bi (pr t a)) (si (pr t a))) (fun a k => (blk2 m c t a k).trans (h0 _ _ _)) hq k

theorem outs5 (t : Fin cfg0.N) (h : t.val % 2 = 1) (a : Fin 512) (k : Fin 1024) : (outsAt0 m c t.val t.isLt).1 (ix2 a k) = NDX X g (DH p w) (A4 m c) (ix2 (pr t a) k) := by
  by_cases h4 : t.val < 2
  · rw [outsAt0_B m c t (by omega) h h4 (by omega)]; frame_out
    rw [Memref.IsWhole.read_unread (Memref.isWhole_whole cc0_scratch0)]
    exact out9 m c X g w p h0 h1 h2 h3 t _ _ (both m c X g w p h0 h1 h2 h3 t h) a k
  · rw [outsAt0_C m c t (by omega) h h4 (by omega)]; frame_out
    rw [Memref.IsWhole.read_unread (Memref.isWhole_whole cc0_scratch0)]
    exact out9 m c X g w p h0 h1 h2 h3 t _ _ (both m c X g w p h0 h1 h2 h3 t h) a k
theorem outs7 (t : Fin cfg0.N) (h : t.val % 2 = 1) (a : Fin 512) (k : Fin 1024) : (outsAt0 m c t.val t.isLt).2.2.1 (ix2 a k) = NDX X g (DH p w) (A4 m c) (ix2 (pr t a) k) := by
  by_cases h4 : t.val < 2
  · rw [outsAt0_B m c t (by omega) h h4 (by omega)]; frame_out
    rw [Memref.IsWhole.read_unread (Memref.isWhole_whole cc0_scratch0)]
    exact (pay10 _ _ _ _ _ a k).trans (out9 m c X g w p h0 h1 h2 h3 t _ _ (both m c X g w p h0 h1 h2 h3 t h) a k)
  · rw [outsAt0_C m c t (by omega) h h4 (by omega)]; frame_out
    rw [Memref.IsWhole.read_unread (Memref.isWhole_whole cc0_scratch0)]
    exact (pay10 _ _ _ _ _ a k).trans (out9 m c X g w p h0 h1 h2 h3 t _ _ (both m c X g w p h0 h1 h2 h3 t h) a k)
/-- A row block's first point leaves the gain's sum as it was. -/
theorem idle6 (t : Fin cfg0.N) (h : t.val % 2 = 0) : (outsAt0 m c t.val t.isLt).2.1 = (outsAt0 m c (t.val - 1) (Nat.lt_of_le_of_lt (Nat.sub_le _ _) t.isLt)).2.1 := by
  rw [outsAt0_A m c t h (by omega)]
  rfl
theorem first6 (t : Fin cfg0.N) (h : t.val % 2 = 1) (h4 : t.val < 2) (k : Fin 1024) : (outsAt0 m c t.val t.isLt).2.1 (ix2 0 k) = ((∑ a : Fin 512, ndr X (DH p w) k (pr t a) : ℝ) : EReal) := by
  rw [outsAt0_B m c t (by omega) h h4 (by omega)]; frame_out
  rw [Memref.IsWhole.read_unread (Memref.isWhole_whole cc0_scratch0)]
  exact out11 m c X g w p h0 h1 h2 h3 t _ _ (both m c X g w p h0 h1 h2 h3 t h) k
theorem next6 (t : Fin cfg0.N) (h : t.val % 2 = 1) (h4 : ¬t.val < 2) (k : Fin 1024) : (outsAt0 m c t.val t.isLt).2.1 (ix2 0 k)
    = (outsAt0 m c (t.val - 1) (Nat.lt_of_le_of_lt (Nat.sub_le _ _) t.isLt)).2.1 (ix2 0 k) + ((∑ a : Fin 512, ndr X (DH p w) k (pr t a) : ℝ) : EReal) := by
  rw [outsAt0_C m c t (by omega) h h4 (by omega)]; frame_out
  rw [Memref.IsWhole.read_unread (Memref.isWhole_whole cc0_scratch0)]
  refine (pay4 _ _ k).trans (congrArg (_ + ·) ?_)
  exact out11 m c X g w p h0 h1 h2 h3 t _ _ (both m c X g w p h0 h1 h2 h3 t h) k
/-- The gain's sum over the row blocks so far. -/
theorem sums6 : ∀ (n : ℕ) (hn : n < 8) (h : 2 * n + 1 < cfg0.N) (k : Fin 1024),
    (outsAt0 m c (2 * n + 1) h).2.1 (ix2 0 k) = ((∑ s : Fin (n + 1), dgb X w p ⟨s.val, by omega⟩ k : ℝ) : EReal) := by
  intro n
  induction n with
  | zero =>
    intro hn h k
    rw [Fin.sum_univ_one]
    have i0 : 1 < cfg0.N := by rw [N_16]; decide
    rw [outs_congr m c (show 2 * 0 + 1 = 1 from rfl) h i0]
    exact (first6 m c X g w p h0 h1 h2 h3 ⟨1, i0⟩ (by simp only) (by simp only; decide) k).trans (congrArg _ (dg_eq X w p ⟨1, i0⟩ ⟨0, by decide⟩ (by simp only) k))
  | succ n ih =>
    intro hn h k
    have i1 : 2 * (n + 1) < cfg0.N := by omega
    have i0 : 2 * n + 1 < cfg0.N := by omega
    have e1 := next6 m c X g w p h0 h1 h2 h3 ⟨2 * (n + 1) + 1, h⟩ (by simp only; omega) (by simp only; omega) k
    have e2 := idle6 m c X g w p h0 h1 h2 h3 ⟨2 * (n + 1), i1⟩ (by simp only; omega)
    simp only at e1 e2
    rw [outs_congr m c (show 2 * (n + 1) - 1 = 2 * n + 1 by omega) _ i0] at e2
    rw [outs_congr m c (show 2 * (n + 1) + 1 - 1 = 2 * (n + 1) by omega) _ i1, e2, ih (by omega) i0 k] at e1
    rw [Fin.sum_univ_castSucc, EReal.coe_add]
    refine e1.trans (congrArg (_ + ·) (congrArg _ ?_))
    exact dg_eq X w p ⟨2 * (n + 1) + 1, h⟩ ⟨n + 1, hn⟩ (by simp only; omega) k

/-- The arrays the kernel leaves. -/
theorem final5 : (dats m 0 c).arrAt 5 (cfgs 0).N = NDX X g (DH p w) (A4 m c) := by
  refine (dats m 0 c).arrAt_eq_of_covers 5 _ (by decide +kernel) fun t hf y => ?_
  blk_simp; rw [after0_5]
  idx_vars y
  have e : ((View.whole main_v9_0).slice (win0_5.rect t)).emb (ix2 y0 y1) = ix2 (pr t y0) y1 :=
    Cert.Finite.ext2 (by blk_simp [idx_val t] <;> omega) (by blk_simp [idx_val t] <;> omega)
  rw [e]
  exact outs5 m c X g w p h0 h1 h2 h3 t ((flush0_5 t).mp hf) y0 y1
theorem final7 : (dats m 0 c).arrAt 7 (cfgs 0).N = NDX X g (DH p w) (A4 m c) := by
  refine (dats m 0 c).arrAt_eq_of_covers 7 _ (by decide +kernel) fun t hf y => ?_
  blk_simp; rw [after0_7]
  idx_vars y
  have e : ((View.whole main_v9_2).slice (win0_7.rect t)).emb (ix2 y0 y1) = ix2 (pr t y0) y1 :=
    Cert.Finite.ext2 (by blk_simp [idx_val t] <;> omega) (by blk_simp [idx_val t] <;> omega)
  rw [e]
  exact outs7 m c X g w p h0 h1 h2 h3 t ((flush0_7 t).mp hf) y0 y1
theorem final6 : (dats m 0 c).arrAt 6 (cfgs 0).N = NDG X (DH p w) := by
  refine (dats m 0 c).arrAt_eq_of_covers 6 _ (by decide +kernel) fun t hf y => ?_
  blk_simp; rw [after0_6]
  idx_vars y
  have ht : t.val < 16 := lt_of_lt_of_eq t.isLt N_16
  have hr : t.val % 16 = 15 := (flush0_6 t).mp hf
  have z : y0 = 0 := Subsingleton.elim _ _
  subst z
  have e : ((View.whole main_v9_1).slice (win0_6.rect t)).emb (ix2 0 y1) = ix2 0 y1 :=
    Cert.Finite.ext2 (by blk_simp [idx_val t] <;> omega) (by blk_simp [idx_val t] <;> omega)
  rw [e, outs_congr m c (show t.val = 2 * 7 + 1 by omega) t.isLt (by rw [N_16]; decide)]
  refine (sums6 m c X g w p h0 h1 h2 h3 7 (by decide) _ y1).trans (congrArg _ ?_)
  exact Fin.sum_mul_add_congr (fun s a hl => rfl)

end Kernel

section Reference

open Cert.FfndhRIdeal Cert.FfndhRIdeal.Gen Cert.FfndhRIdeal.Read

variable (x0 : FVec Ideal S2x2048x1024 .f32) (x1 : FVec Ideal S1024 .f32) (x2 : FVec Ideal S1024x5632 .f32) (x3 : FVec Ideal S2x2048x5632 .f32) (x4 : FVec Ideal S2x2048x1024 .f32)
variable (w : Fin 1024 → Fin 5632 → ℝ) (p : Fin 2 → Fin 2048 → Fin 5632 → ℝ)

theorem s19 (h2 : ∀ k f, x2 (ix2 k f) = ((w k f : ℝ) : EReal)) (h3 : ∀ b s f, x3 (ix3 b s f) = ((p b s f : ℝ) : EReal)) (b : Fin 2) (s : Fin 2048) (k : Fin 1024) :
    (val_main_v19 (F := Ideal) x2 x3 : FVec Ideal S2x2048x1024 .f32) (ix3 b s k) = ((DH p w b s k : ℝ) : EReal) := by
  have e : (val_main_v19 (F := Ideal) x2 x3 : FVec Ideal S2x2048x1024 .f32) (ix3 b s k) = ∑ f : Fin 5632, x3 (ix3 b s f) * x2 (ix2 k f) := by
    pointwise [val_main_v19]
  rw [e]
  simp only [h3, h2, ← EReal.coe_mul, Cert.Finite.coe_sum]
  rfl
theorem host41 : (val_main_v41 (F := Ideal) x0 x1 x2 x3 x4 : FVec Ideal S4096x1024 .f32) = HX x0 x1 (val_main_v19 (F := Ideal) x2 x3) x4 := rfl
theorem host42 : (val_main_v42 (F := Ideal) x0 x2 x3 : FVec Ideal S1x1024 .f32) = HG x0 (val_main_v19 (F := Ideal) x2 x3) := rfl
theorem host43 : (val_main_v43 (F := Ideal) x0 x1 x2 x3 x4 : FVec Ideal S4096x1024 .bf16) = (val_main_v41 (F := Ideal) x0 x1 x2 x3 x4 : FVec Ideal S4096x1024 .f32) := by
  unfold val_main_v43
  generalize val_main_v41 (F := Ideal) x0 x1 x2 x3 x4 = q
  rfl

end Reference

end Cert.Ffndh
end
-- ==== Proof.FfndhClaims.lean ====
/- Untrusted: the claims about the feed-forward's input gradient. -/
module

public import proofs.«01_k».proof.Defs
public import proofs.«01_k».proof.Proof.Ffndh
public import proofs.«01_k».proof.Proof.Gen.FfndhK.Frame
public import proofs.«01_k».proof.Proof.Gen.FfndhRIdeal.Run
public import Idealize.ShloMosaic.Adequacy
public import Idealize.ShloMosaic.Lib.Quiescent

@[expose] public section

noncomputable section

namespace Cert.Ffndh

open Idealize.ShloMosaic Idealize.ShloMosaic.TcCoe Idealize.SL.Sem Cert.NormHost

/-- The side conditions of the precondition's operations. -/
theorem preFacts : Cert.Pre_ffndh_finite.Facts where
  bcast_S_S2x2048x1024 := by decide
  reducesTo_S2x2048x1024_S_d0_1_2 := by decide
  h_S_ := by decide
  bcast_S_S1024 := by decide
  reducesTo_S1024_S_d0 := by decide
  bcast_S_S1024x5632 := by decide
  reducesTo_S1024x5632_S_d0_1 := by decide
  bcast_S_S2x2048x5632 := by decide
  reducesTo_S2x2048x5632_S_d0_1_2 := by decide

instance : Subsingleton Cert.Pre_ffndh_finite.S_.Idx := ⟨fun a b => funext fun k => k.elim0⟩

/-- Under the precondition the arguments but the residual's cotangent are arrays of reals. -/
theorem reals [Cert.Pre_ffndh_finite.Facts] {x0 : FVec Ideal Cert.Pre_ffndh_finite.S2x2048x1024 .f32} {x1 : FVec Ideal Cert.Pre_ffndh_finite.S1024 .f32} {x2 : FVec Ideal Cert.Pre_ffndh_finite.S1024x5632 .f32} {x3 : FVec Ideal Cert.Pre_ffndh_finite.S2x2048x5632 .f32} {x4 : FVec Ideal Cert.Pre_ffndh_finite.S2x2048x1024 .f32}
    (h : Cert.Pre_ffndh_finite.fn (F := Ideal) x0 x1 x2 x3 x4 = fun _ => 1#1) :
    (∃ f : Fin 2 → Fin 2048 → Fin 1024 → ℝ, ∀ b s k, x0 (ix3 b s k) = ((f b s k : ℝ) : EReal))
      ∧ (∃ f : Fin 1024 → ℝ, ∀ k, x1 (ix1 k) = ((f k : ℝ) : EReal))
      ∧ (∃ f : Fin 1024 → Fin 5632 → ℝ, ∀ k j, x2 (ix2 k j) = ((f k j : ℝ) : EReal))
      ∧ (∃ f : Fin 2 → Fin 2048 → Fin 5632 → ℝ, ∀ b s k, x3 (ix3 b s k) = ((f b s k : ℝ) : EReal)) := by
  unfold Cert.Pre_ffndh_finite.fn Cert.Pre_ffndh_finite.fn_part1 at h
  obtain ⟨h, h3⟩ := Cert.Finite.and_split h
  obtain ⟨h, h2⟩ := Cert.Finite.and_split h
  obtain ⟨h0, h1⟩ := Cert.Finite.and_split h
  obtain ⟨f0, e0⟩ := Cert.Finite.array_real (fun a => a.elim0) h0
  obtain ⟨f1, e1⟩ := Cert.Finite.array_real (fun a => a.elim0) h1
  obtain ⟨f2, e2⟩ := Cert.Finite.array_real (fun a => a.elim0) h2
  obtain ⟨f3, e3⟩ := Cert.Finite.array_real (fun a => a.elim0) h3
  exact ⟨⟨fun b s k => f0 (ix3 b s k), fun b s k => congrFun e0 _⟩,
    ⟨fun k => f1 (ix1 k), fun k => congrFun e1 _⟩,
    ⟨fun k j => f2 (ix2 k j), fun k j => congrFun e2 _⟩,
    ⟨fun b s k => f3 (ix3 b s k), fun b s k => congrFun e3 _⟩⟩

/-- The reference's runs end with its counters at zero. -/
theorem quiescentR : quiescent_FfndhRIdeal := fun m ρ _ =>
  (θ_run Cert.FfndhRIdeal.defs _ _).mono (fun r h => ⟨fun c => (h c).2.2.2, sem_eq_zero_of_no_sems (by decide) r.2⟩)
    (Cert.FfndhRIdeal.Value.run (F := Ideal) m ρ)

/-- On finite arguments the kernel's gradients, against the norm's argument (also rounded) and against the gain, are the reference's. -/
theorem algebraic [Cert.Pre_ffndh_finite.Facts] : algebraic_FfndhKIdeal_FfndhRIdeal_pre_ffndh_finite := by
  intro m ρ m' ρ' hpre hagree
  refine ⟨_, _, _, Cert.FfndhKIdeal.Value.run_blocks (F := Ideal) m ρ, ?_⟩
  refine (θ_run Cert.FfndhRIdeal.defs _ _).mono (fun _ h c => ⟨?_, ?_, ?_, (h c).2.2.2⟩) (Cert.FfndhRIdeal.Value.run (F := Ideal) m' ρ')
  · obtain ⟨⟨X, h0⟩, ⟨g, h1⟩, ⟨w, h2⟩, ⟨p, h3⟩⟩ := reals (hpre c)
    refine (h c).1.trans ?_
    rw [Cert.FfndhRIdeal.Read.val_main_v41_eq, (hagree c).1, (hagree c).2.1, (hagree c).2.2.1, (hagree c).2.2.2.1, (hagree c).2.2.2.2]
    exact ((host41 (A0 m c) (A1 m c) (A2 m c) (A3 m c) (A4 m c)).trans (HX_eq _ _ _ _ X g _ h0 h1 (s19 _ _ w p h2 h3))).trans (final5 m c X g w p h0 h1 h2 h3).symm
  · obtain ⟨⟨X, h0⟩, ⟨g, h1⟩, ⟨w, h2⟩, ⟨p, h3⟩⟩ := reals (hpre c)
    refine (h c).2.1.trans ?_
    rw [Cert.FfndhRIdeal.Read.val_main_v42_eq, (hagree c).1, (hagree c).2.2.1, (hagree c).2.2.2.1]
    exact ((host42 (A0 m c) (A2 m c) (A3 m c)).trans (HG_eq _ _ X _ h0 (s19 _ _ w p h2 h3))).trans (final6 m c X g w p h0 h1 h2 h3).symm
  · obtain ⟨⟨X, h0⟩, ⟨g, h1⟩, ⟨w, h2⟩, ⟨p, h3⟩⟩ := reals (hpre c)
    refine (h c).2.2.1.trans ?_
    rw [Cert.FfndhRIdeal.Read.val_main_v43_eq, (hagree c).1, (hagree c).2.1, (hagree c).2.2.1, (hagree c).2.2.2.1, (hagree c).2.2.2.2]
    exact (((host43 (A0 m c) (A1 m c) (A2 m c) (A3 m c) (A4 m c)).trans (host41 (A0 m c) (A1 m c) (A2 m c) (A3 m c) (A4 m c))).trans (HX_eq _ _ _ _ X g _ h0 h1 (s19 _ _ w p h2 h3))).trans (final7 m c X g w p h0 h1 h2 h3).symm

end Cert.Ffndh
end
-- ==== Proof.Evdh.lean ====
/- Untrusted: the values of the kernel that takes the even layer's projection cotangents back through the projection and the norm. -/
module

public import proofs.«01_k».proof.Proof.Gen.EvdhKIdeal.Value
public import proofs.«01_k».proof.Proof.Gen.EvdhRIdeal.Read
public import proofs.«01_k».proof.Proof.NormHost

@[expose] public section

set_option maxRecDepth 16384

noncomputable section

open Idealize.ShloMosaic Idealize.ShloMosaic.TcCoe Idealize.SL.Sem
open Idealize.ShloMosaic.Pipeline (Dat)
open scoped BigOperators
open Cert.Norm Cert.NormHost

namespace Cert.Evdh

/-- Six pieces side by side: four of 512 columns, two of 128. -/
def cat {α : Type} (a b c d : Fin 512 → α) (e f : Fin 128 → α) (x : Fin 2304) : α :=
  if h : x.val < 512 then a ⟨x.val, h⟩ else if h1 : x.val - 512 < 512 then b ⟨x.val - 512, h1⟩ else if h2 : x.val - 512 - 512 < 512 then c ⟨x.val - 512 - 512, h2⟩
  else if h3 : x.val - 512 - 512 - 512 < 512 then d ⟨x.val - 512 - 512 - 512, h3⟩ else if h4 : x.val - 512 - 512 - 512 - 512 < 128 then e ⟨x.val - 512 - 512 - 512 - 512, h4⟩
  else f ⟨x.val - 512 - 512 - 512 - 512 - 128, by omega⟩

theorem cat_map {α β : Type} (u : α → β) (a b c d : Fin 512 → α) (e f : Fin 128 → α) (x : Fin 2304) :
    u (cat a b c d e f x) = cat (fun k => u (a k)) (fun k => u (b k)) (fun k => u (c k)) (fun k => u (d k)) (fun k => u (e k)) (fun k => u (f k)) x := by
  unfold cat; split_ifs <;> rfl

section Block

open Cert.EvdhKIdeal Cert.EvdhKIdeal.Gen

variable (v : FVec Ideal S1024x1024 .f32) (x : Fin 1024 → Fin 1024 → ℝ)

/-- The inverse root mean square of a row and the normalised row. -/
theorem pay9 (h0 : ∀ a k, v (ix2 a k) = ((x a k : ℝ) : EReal)) (a : Fin 1024) (z : Fin 1) :
    (k0_pay9 (F := Ideal) v : FVec Ideal S1024x1 .f32) (ix2 a z) = ((SS (x a) : ℝ) : EReal) := by
  rw [← rsqrt_VV, ← VV_coe]
  simp only [← h0]
  pointwise [k0_pay9, k0_pay6]
theorem pay10 (h0 : ∀ a k, v (ix2 a k) = ((x a k : ℝ) : EReal)) (a k : Fin 1024) :
    (k0_pay10 (F := Ideal) v : FVec Ideal S1024x1024 .f32) (ix2 a k) = ((XN (x a) k : ℝ) : EReal) := by
  unfold XN
  rw [EReal.coe_mul, ← h0, ← pay9 v x h0 a 0]
  unfold k0_pay10
  generalize k0_pay9 (F := Ideal) v = q
  pointwise [k0_pay6]

variable (q d n : FVec Ideal S1024x1024 .f32) (w : FVec Ideal S1x1024 .f32) (s : FVec Ideal S1024x1 .f32)
variable (H : Fin 1024 → Fin 1024 → ℝ) (g : Fin 1024 → ℝ)

/-- The gradient through the norm, from the cotangent of the scaled row. -/
theorem pay1 (hq : ∀ a k, q (ix2 a k) = ((H a k : ℝ) : EReal)) (hw : ∀ k, w (ix2 0 k) = ((g k : ℝ) : EReal)) (hs : ∀ a, s (ix2 a 0) = ((SS (x a) : ℝ) : EReal))
    (hn : ∀ a k, n (ix2 a k) = ((XN (x a) k : ℝ) : EReal)) (a k : Fin 1024) :
    (k0_pay1 (F := Ideal) q d w s n : FVec Ideal S1024x1024 .f32) (ix2 a k) = d (ix2 a k) + ((GX (x a) (fun k => H a k * g k) k : ℝ) : EReal) := by
  have e : (k0_pay1 (F := Ideal) q d w s n : FVec Ideal S1024x1024 .f32) (ix2 a k) = d (ix2 a k) + s (ix2 a 0) * (q (ix2 a k) * w (ix2 0 k)
      - n (ix2 a k) * Ideal.div (∑ l : Fin 1024, q (ix2 a l) * w (ix2 0 l) * n (ix2 a l)) (Ideal.ofBits FTy.f32 0x44800000#32)) := by
    pointwise [k0_pay1]
  rw [e]
  simp only [hq, hw, hs, hn, ← EReal.coe_mul, Cert.Finite.coe_sum, div_1024, ← EReal.coe_sub]
  rfl
theorem pay2 (a k : Fin 1024) : (k0_pay2 (F := Ideal) q d w s n : FVec Ideal S1024x1024 .bf16) (ix2 a k) = (k0_pay1 (F := Ideal) q d w s n : FVec Ideal S1024x1024 .f32) (ix2 a k) := by
  unfold k0_pay2
  generalize k0_pay1 (F := Ideal) q d w s n = r
  pointwise
theorem pay3 (hq : ∀ a k, q (ix2 a k) = ((H a k : ℝ) : EReal)) (hn : ∀ a k, n (ix2 a k) = ((XN (x a) k : ℝ) : EReal)) (k : Fin 1024) :
    (k0_pay3 (F := Ideal) q n : FVec Ideal S1x1024 .f32) (ix2 0 k) = ((∑ a : Fin 1024, H a k * XN (x a) k : ℝ) : EReal) := by
  have e : (k0_pay3 (F := Ideal) q n : FVec Ideal S1x1024 .f32) (ix2 0 k) = ∑ a : Fin 1024, q (ix2 a k) * n (ix2 a k) := by
    pointwise [k0_pay3]
  rw [e]
  simp only [hq, hn, ← EReal.coe_mul, Cert.Finite.coe_sum]
theorem pay4 (p : FVec Ideal S1x1024 .f32) (k : Fin 1024) :
    (k0_pay4 (F := Ideal) q n p : FVec Ideal S1x1024 .f32) (ix2 0 k) = p (ix2 0 k) + (k0_pay3 (F := Ideal) q n : FVec Ideal S1x1024 .f32) (ix2 0 k) := by
  unfold k0_pay4
  generalize k0_pay3 (F := Ideal) q n = r
  pointwise
/-- The product with the weight. -/
theorem pay5 (v0 v2 v4 v6 : FVec Ideal S1024x512 .bf16) (v8 : FVec Ideal S1024x128 .bf16) (v10 : FVec Ideal S1024x128 .f32) (v14 : FVec Ideal S1024x2304 .bf16) (a k : Fin 1024) :
    (k0_pay5 (F := Ideal) v0 v2 v4 v6 v8 v10 v14 : FVec Ideal S1024x1024 .f32) (ix2 a k)
      = ∑ f : Fin 2304, cat (fun z => v0 (ix2 a z)) (fun z => v2 (ix2 a z)) (fun z => v4 (ix2 a z)) (fun z => v6 (ix2 a z)) (fun z => v8 (ix2 a z)) (fun z => v10 (ix2 a z)) f * v14 (ix2 k f) := by
  unfold cat
  pointwise [k0_pay5]

end Block

section Kernel

open Cert.EvdhKIdeal Cert.EvdhKIdeal.Gen

theorem idx_val : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![0, 0] ∧ win0_7.index t = ![t.val, 0] ∧ win0_8.index t = ![t.val, 0]
    ∧ win0_9.index t = ![0, 0] ∧ win0_10.index t = ![t.val, 0] ∧ win0_11.index t = ![0, 0] ∧ win0_12.index t = ![t.val, 0] :=
  (by decide +kernel : ∀ t : Fin grid0.N, _)

theorem N_4 : cfg0.N = 4 := by decide +kernel

variable (m : (ℓ : Loc nD τ sig) → Buf (Elt Ideal) ℓ) (c : Dev nD)

/-- The arrays that the program is given. -/
abbrev A0 : FVec Ideal S2x2048x1024 .f32 := m ⟨c, Proc.devRef .tc main_arg0⟩
abbrev A1 : FVec Ideal S1024 .f32 := m ⟨c, Proc.devRef .tc main_arg1⟩
abbrev A2 : FVec Ideal S1024x2304 .f32 := m ⟨c, Proc.devRef .tc main_arg2⟩
abbrev A3 : FVec Ideal S2x2048x512 .f32 := m ⟨c, Proc.devRef .tc main_arg3⟩
abbrev A4 : FVec Ideal S2x2048x512 .f32 := m ⟨c, Proc.devRef .tc main_arg4⟩
abbrev A5 : FVec Ideal S2x2048x512 .f32 := m ⟨c, Proc.devRef .tc main_arg5⟩
abbrev A6 : FVec Ideal S2x2048x512 .f32 := m ⟨c, Proc.devRef .tc main_arg6⟩
abbrev A7 : FVec Ideal S2x2048x128 .f32 := m ⟨c, Proc.devRef .tc main_arg7⟩
abbrev A8 : FVec Ideal S2x2048x128 .f32 := m ⟨c, Proc.devRef .tc main_arg8⟩
abbrev A9 : FVec Ideal S2x2048x1024 .f32 := m ⟨c, Proc.devRef .tc main_arg9⟩

theorem V1 (j : S4096x512.Idx) : V m c main_v1 j = A3 m c (ix3 (bi (j 0)) (si (j 0)) (j 1)) := by
  entry_read
  pointwise
theorem V3 (j : S4096x512.Idx) : V m c main_v3 j = A4 m c (ix3 (bi (j 0)) (si (j 0)) (j 1)) := by
  entry_read
  pointwise
theorem V5 (j : S4096x512.Idx) : V m c main_v5 j = A5 m c (ix3 (bi (j 0)) (si (j 0)) (j 1)) := by
  entry_read
  pointwise
theorem V7 (j : S4096x512.Idx) : V m c main_v7 j = A6 m c (ix3 (bi (j 0)) (si (j 0)) (j 1)) := by
  entry_read
  pointwise
theorem V9 (j : S4096x128.Idx) : V m c main_v9 j = A7 m c (ix3 (bi (j 0)) (si (j 0)) (j 1)) := by
  entry_read
  pointwise
theorem V10 (j : S4096x128.Idx) : V m c main_v10 j = A8 m c (ix3 (bi (j 0)) (si (j 0)) (j 1)) := by
  entry_read
  pointwise
theorem V12 (j : S4096x1024.Idx) : V m c main_v12 j = A0 m c (ix3 (bi (j 0)) (si (j 0)) (j 1)) := by
  entry_read
  pointwise
theorem V13 (j : S4096x1024.Idx) : V m c main_v13 j = A9 m c (ix3 (bi (j 0)) (si (j 0)) (j 1)) := by
  entry_read
  pointwise
theorem V11 (j : S1024x2304.Idx) : V m c main_v11 j = A2 m c (ix2 (j 0) (j 1)) := by
  entry_read
  pointwise
theorem V14 (j : S1x1024.Idx) : V m c main_v14 j = A1 m c (ix1 (j 1)) := by
  entry_read
  pointwise

/-- The flattened row of row `a` of point `t`'s blocks. -/
abbrev pr (t : Fin cfg0.N) (a : Fin 1024) : Fin 4096 := ⟨t.val * 1024 + a.val, by have := lt_of_lt_of_eq t.isLt N_4; omega⟩

theorem blk0 (t : Fin cfg0.N) (a : Fin 1024) (k : Fin 512) : (iblk m c 0 t : FVec Ideal S1024x512 .bf16) (ix2 a k) = A3 m c (ix3 (bi (pr t a)) (si (pr t a)) k) := by
  have k0 : (((cfg0.win 0).blk t).view.emb (ix2 a k) : S4096x512.Idx) 0 = pr t a := Fin.ext (by blk_simp [idx_val t])
  have k1 : (((cfg0.win 0).blk t).view.emb (ix2 a k) : S4096x512.Idx) 1 = k := Fin.ext (by blk_simp [idx_val t])
  unfold iblk
  rw [View.read_apply, cast_eq]
  refine (V1 m c _).trans ?_
  rw [k0, k1]
theorem blk1 (t : Fin cfg0.N) (a : Fin 1024) (k : Fin 512) : (iblk m c 1 t : FVec Ideal S1024x512 .bf16) (ix2 a k) = A4 m c (ix3 (bi (pr t a)) (si (pr t a)) k) := by
  have k0 : (((cfg0.win 1).blk t).view.emb (ix2 a k) : S4096x512.Idx) 0 = pr t a := Fin.ext (by blk_simp [idx_val t])
  have k1 : (((cfg0.win 1).blk t).view.emb (ix2 a k) : S4096x512.Idx) 1 = k := Fin.ext (by blk_simp [idx_val t])
  unfold iblk
  rw [View.read_apply, cast_eq]
  refine (V3 m c _).trans ?_
  rw [k0, k1]
theorem blk2 (t : Fin cfg0.N) (a : Fin 1024) (k : Fin 512) : (iblk m c 2 t : FVec Ideal S1024x512 .bf16) (ix2 a k) = A5 m c (ix3 (bi (pr t a)) (si (pr t a)) k) := by
  have k0 : (((cfg0.win 2).blk t).view.emb (ix2 a k) : S4096x512.Idx) 0 = pr t a := Fin.ext (by blk_simp [idx_val t])
  have k1 : (((cfg0.win 2).blk t).view.emb (ix2 a k) : S4096x512.Idx) 1 = k := Fin.ext (by blk_simp [idx_val t])
  unfold iblk
  rw [View.read_apply, cast_eq]
  refine (V5 m c _).trans ?_
  rw [k0, k1]
theorem blk3 (t : Fin cfg0.N) (a : Fin 1024) (k : Fin 512) : (iblk m c 3 t : FVec Ideal S1024x512 .bf16) (ix2 a k) = A6 m c (ix3 (bi (pr t a)) (si (pr t a)) k) := by
  have k0 : (((cfg0.win 3).blk t).view.emb (ix2 a k) : S4096x512.Idx) 0 = pr t a := Fin.ext (by blk_simp [idx_val t])
  have k1 : (((cfg0.win 3).blk t).view.emb (ix2 a k) : S4096x512.Idx) 1 = k := Fin.ext (by blk_simp [idx_val t])
  unfold iblk
  rw [View.read_apply, cast_eq]
  refine (V7 m c _).trans ?_
  rw [k0, k1]
theorem blk4 (t : Fin cfg0.N) (a : Fin 1024) (k : Fin 128) : (iblk m c 4 t : FVec Ideal S1024x128 .bf16) (ix2 a k) = A7 m c (ix3 (bi (pr t a)) (si (pr t a)) k) := by
  have k0 : (((cfg0.win 4).blk t).view.emb (ix2 a k) : S4096x128.Idx) 0 = pr t a := Fin.ext (by blk_simp [idx_val t])
  have k1 : (((cfg0.win 4).blk t).view.emb (ix2 a k) : S4096x128.Idx) 1 = k := Fin.ext (by blk_simp [idx_val t])
  unfold iblk
  rw [View.read_apply, cast_eq]
  refine (V9 m c _).trans ?_
  rw [k0, k1]
theorem blk5 (t : Fin cfg0.N) (a : Fin 1024) (k : Fin 128) : (iblk m c 5 t : FVec Ideal S1024x128 .f32) (ix2 a k) = A8 m c (ix3 (bi (pr t a)) (si (pr t a)) k) := by
  have k0 : (((cfg0.win 5).blk t).view.emb (ix2 a k) : S4096x128.Idx) 0 = pr t a := Fin.ext (by blk_simp [idx_val t])
  have k1 : (((cfg0.win 5).blk t).view.emb (ix2 a k) : S4096x128.Idx) 1 = k := Fin.ext (by blk_simp [idx_val t])
  unfold iblk
  rw [View.read_apply, cast_eq]
  refine (V10 m c _).trans ?_
  rw [k0, k1]
theorem blk7 (t : Fin cfg0.N) (a : Fin 1024) (k : Fin 1024) : (iblk m c 7 t : FVec Ideal S1024x1024 .f32) (ix2 a k) = A0 m c (ix3 (bi (pr t a)) (si (pr t a)) k) := by
  have k0 : (((cfg0.win 7).blk t).view.emb (ix2 a k) : S4096x1024.Idx) 0 = pr t a := Fin.ext (by blk_simp [idx_val t])
  have k1 : (((cfg0.win 7).blk t).view.emb (ix2 a k) : S4096x1024.Idx) 1 = k := Fin.ext (by blk_simp [idx_val t])
  unfold iblk
  rw [View.read_apply, cast_eq]
  refine (V12 m c _).trans ?_
  rw [k0, k1]
theorem blk8 (t : Fin cfg0.N) (a : Fin 1024) (k : Fin 1024) : (iblk m c 8 t : FVec Ideal S1024x1024 .f32) (ix2 a k) = A9 m c (ix3 (bi (pr t a)) (si (pr t a)) k) := by
  have k0 : (((cfg0.win 8).blk t).view.emb (ix2 a k) : S4096x1024.Idx) 0 = pr t a := Fin.ext (by blk_simp [idx_val t])
  have k1 : (((cfg0.win 8).blk t).view.emb (ix2 a k) : S4096x1024.Idx) 1 = k := Fin.ext (by blk_simp [idx_val t])
  unfold iblk
  rw [View.read_apply, cast_eq]
  refine (V13 m c _).trans ?_
  rw [k0, k1]
theorem blk6 (t : Fin cfg0.N) (k : Fin 1024) (f : Fin 2304) : (iblk m c 6 t : FVec Ideal S1024x2304 .bf16) (ix2 k f) = A2 m c (ix2 k f) := by
  have k0 : (((cfg0.win 6).blk t).view.emb (ix2 k f) : S1024x2304.Idx) 0 = k := Fin.ext (by blk_simp [idx_val t])
  have k1 : (((cfg0.win 6).blk t).view.emb (ix2 k f) : S1024x2304.Idx) 1 = f := Fin.ext (by blk_simp [idx_val t])
  unfold iblk
  rw [View.read_apply, cast_eq]
  refine (V11 m c _).trans ?_
  rw [k0, k1]
theorem blk9 (t : Fin cfg0.N) (k : Fin 1024) : (iblk m c 9 t : FVec Ideal S1x1024 .f32) (ix2 0 k) = A1 m c (ix1 k) := by
  have k1 : (((cfg0.win 9).blk t).view.emb (ix2 0 k) : S1x1024.Idx) 1 = k := Fin.ext (by blk_simp [idx_val t])
  unfold iblk
  rw [View.read_apply, cast_eq]
  refine (V14 m c _).trans ?_
  rw [k1]

/-- The four points' sums are the sum over all rows. -/
theorem four (F : Fin 4096 → ℝ) (q : ℕ) (hq : q = 0) (hl : ∀ s : Fin 4, 4 * q + s.val < cfg0.N) :
    (0 : EReal) + ∑ s : Fin 4, ((∑ a : Fin 1024, F (pr ⟨4 * q + s.val, hl s⟩ a) : ℝ) : EReal) = ((∑ r : Fin 4096, F r : ℝ) : EReal) := by
  subst hq
  have e : ∑ s : Fin 4, ∑ a : Fin 1024, F ⟨s.val * 1024 + a.val, by omega⟩ = ∑ r : Fin 4096, F r :=
    Fin.sum_mul_add_congr (fun s a hl => rfl)
  rw [zero_add, Cert.Finite.coe_sum, ← e]
  refine congrArg _ (Finset.sum_congr rfl fun s _ => Finset.sum_congr rfl fun a _ => congrArg F (Fin.ext (by simp)))

variable (X : Fin 2 → Fin 2048 → Fin 1024 → ℝ) (g : Fin 1024 → ℝ) (w : Fin 1024 → Fin 2304 → ℝ) (p : Fin 2 → Fin 2048 → Fin 2304 → ℝ)

/-- What point `t` adds to the gain's gradient. -/
def dgt (t : Fin cfg0.N) (k : Fin 1024) : ℝ := ∑ a : Fin 1024, ndr X (DH p w) k (pr t a)

variable (h0 : ∀ b s k, A0 m c (ix3 b s k) = ((X b s k : ℝ) : EReal)) (h1 : ∀ k, A1 m c (ix1 k) = ((g k : ℝ) : EReal))
  (h2 : ∀ k f, A2 m c (ix2 k f) = ((w k f : ℝ) : EReal))
  (h3 : ∀ b s f, cat (fun z => A3 m c (ix3 b s z)) (fun z => A4 m c (ix3 b s z)) (fun z => A5 m c (ix3 b s z)) (fun z => A6 m c (ix3 b s z)) (fun z => A7 m c (ix3 b s z)) (fun z => A8 m c (ix3 b s z)) f = ((p b s f : ℝ) : EReal))
include h0 h1 h2 h3

theorem b5 (t : Fin cfg0.N) (a k : Fin 1024) :
    (k0_pay5 (F := Ideal) (iblk m c 0 t) (iblk m c 1 t) (iblk m c 2 t) (iblk m c 3 t) (iblk m c 4 t) (iblk m c 5 t) (iblk m c 6 t) : FVec Ideal S1024x1024 .f32) (ix2 a k)
      = ((DH p w (bi (pr t a)) (si (pr t a)) k : ℝ) : EReal) := by
  rw [pay5]
  simp only [blk0, blk1, blk2, blk3, blk4, blk5, blk6, h2, h3, ← EReal.coe_mul, Cert.Finite.coe_sum]
  rfl
theorem b9 (t : Fin cfg0.N) (a : Fin 1024) (z : Fin 1) : (k0_pay9 (F := Ideal) (iblk m c 7 t) : FVec Ideal S1024x1 .f32) (ix2 a z) = ((SS (X (bi (pr t a)) (si (pr t a))) : ℝ) : EReal) :=
  pay9 _ (fun a => X (bi (pr t a)) (si (pr t a))) (fun a k => (blk7 m c t a k).trans (h0 _ _ _)) a z
theorem b10 (t : Fin cfg0.N) (a k : Fin 1024) : (k0_pay10 (F := Ideal) (iblk m c 7 t) : FVec Ideal S1024x1024 .f32) (ix2 a k) = ((XN (X (bi (pr t a)) (si (pr t a))) k : ℝ) : EReal) :=
  pay10 _ (fun a => X (bi (pr t a)) (si (pr t a))) (fun a k => (blk7 m c t a k).trans (h0 _ _ _)) a k
/-- The gradient's block at a point. -/
theorem b1 (t : Fin cfg0.N) (a k : Fin 1024) :
    (k0_pay1 (F := Ideal) (k0_pay5 (F := Ideal) (iblk m c 0 t) (iblk m c 1 t) (iblk m c 2 t) (iblk m c 3 t) (iblk m c 4 t) (iblk m c 5 t) (iblk m c 6 t))
      (k0_pay7 (F := Ideal) (iblk m c 8 t)) (k0_pay8 (F := Ideal) (iblk m c 9 t)) (k0_pay9 (F := Ideal) (iblk m c 7 t)) (k0_pay10 (F := Ideal) (iblk m c 7 t)) : FVec Ideal S1024x1024 .f32) (ix2 a k)
      = NDX X g (DH p w) (A9 m c) (ix2 (pr t a) k) := by
  refine (pay1 (fun a => X (bi (pr t a)) (si (pr t a))) _ _ _ _ _ (fun a => DH p w (bi (pr t a)) (si (pr t a))) g (b5 m c X g w p h0 h1 h2 h3 t) (fun k => ?_) (fun a => b9 m c X g w p h0 h1 h2 h3 t a 0)
    (b10 m c X g w p h0 h1 h2 h3 t) a k).trans ?_
  · rw [← h1, ← blk9 m c t k]; pointwise [k0_pay8]
  · refine congrArg (· + _) (Eq.trans ?_ (blk8 m c t a k))
    pointwise [k0_pay7]
theorem b3 (t : Fin cfg0.N) (k : Fin 1024) :
    (k0_pay3 (F := Ideal) (k0_pay5 (F := Ideal) (iblk m c 0 t) (iblk m c 1 t) (iblk m c 2 t) (iblk m c 3 t) (iblk m c 4 t) (iblk m c 5 t) (iblk m c 6 t))
      (k0_pay10 (F := Ideal) (iblk m c 7 t)) : FVec Ideal S1x1024 .f32) (ix2 0 k) = ((dgt X w p t k : ℝ) : EReal) :=
  pay3 (fun a => X (bi (pr t a)) (si (pr t a))) _ _ (fun a => DH p w (bi (pr t a)) (si (pr t a))) (b5 m c X g w p h0 h1 h2 h3 t) (b10 m c X g w p h0 h1 h2 h3 t) k

theorem outs10 (t : Fin cfg0.N) (a k : Fin 1024) : (outsAt0 m c t.val t.isLt).1 (ix2 a k) = NDX X g (DH p w) (A9 m c) (ix2 (pr t a) k) := by
  have ht := lt_of_lt_of_eq t.isLt N_4
  by_cases h : t.val % 4 = 0
  · rw [outsAt0_A m c t h (by omega)]; frame_out
    exact b1 m c X g w p h0 h1 h2 h3 t a k
  · rw [outsAt0_B m c t h (by omega)]; frame_out
    exact b1 m c X g w p h0 h1 h2 h3 t a k
theorem outs12 (t : Fin cfg0.N) (a k : Fin 1024) : (outsAt0 m c t.val t.isLt).2.2 (ix2 a k) = NDX X g (DH p w) (A9 m c) (ix2 (pr t a) k) := by
  have ht := lt_of_lt_of_eq t.isLt N_4
  by_cases h : t.val % 4 = 0
  · rw [outsAt0_A m c t h (by omega)]; frame_out
    exact (pay2 _ _ _ _ _ a k).trans (b1 m c X g w p h0 h1 h2 h3 t a k)
  · rw [outsAt0_B m c t h (by omega)]; frame_out
    exact (pay2 _ _ _ _ _ a k).trans (b1 m c X g w p h0 h1 h2 h3 t a k)
theorem first11 (t : Fin cfg0.N) (h : t.val % 4 = 0) (k : Fin 1024) : (outsAt0 m c t.val t.isLt).2.1 (ix2 0 k) = 0 + ((dgt X w p t k : ℝ) : EReal) := by
  have ht := lt_of_lt_of_eq t.isLt N_4
  rw [outsAt0_A m c t h (by omega)]; frame_out
  rw [zero_add]
  exact b3 m c X g w p h0 h1 h2 h3 t k
theorem next11 (t : Fin cfg0.N) (h : ¬t.val % 4 = 0) (k : Fin 1024) :
    (outsAt0 m c t.val t.isLt).2.1 (ix2 0 k) = (outsAt0 m c (t.val - 1) (Nat.lt_of_le_of_lt (Nat.sub_le _ _) t.isLt)).2.1 (ix2 0 k) + ((dgt X w p t k : ℝ) : EReal) := by
  rw [outsAt0_B m c t h (by omega)]; frame_out
  rw [← b3 m c X g w p h0 h1 h2 h3 t k]
  exact pay4 _ _ _ k

/-- The arrays the kernel leaves. -/
theorem final10 : (dats m 0 c).arrAt 10 (cfgs 0).N = NDX X g (DH p w) (A9 m c) := by
  refine (dats m 0 c).arrAt_eq_of_covers 10 _ (by decide +kernel) fun t hf y => ?_
  blk_simp; rw [after0_10]
  idx_vars y
  have e : ((View.whole main_v15_0).slice (win0_10.rect t)).emb (ix2 y0 y1) = ix2 (pr t y0) y1 :=
    Cert.Finite.ext2 (by blk_simp [idx_val t] <;> omega) (by blk_simp [idx_val t] <;> omega)
  rw [e]
  exact outs10 m c X g w p h0 h1 h2 h3 t y0 y1
theorem final12 : (dats m 0 c).arrAt 12 (cfgs 0).N = NDX X g (DH p w) (A9 m c) := by
  refine (dats m 0 c).arrAt_eq_of_covers 12 _ (by decide +kernel) fun t hf y => ?_
  blk_simp; rw [after0_12]
  idx_vars y
  have e : ((View.whole main_v15_2).slice (win0_12.rect t)).emb (ix2 y0 y1) = ix2 (pr t y0) y1 :=
    Cert.Finite.ext2 (by blk_simp [idx_val t] <;> omega) (by blk_simp [idx_val t] <;> omega)
  rw [e]
  exact outs12 m c X g w p h0 h1 h2 h3 t y0 y1
theorem final11 : (dats m 0 c).arrAt 11 (cfgs 0).N = NDG X (DH p w) := by
  refine (dats m 0 c).arrAt_eq_of_covers 11 _ (by decide +kernel) fun t hf y => ?_
  blk_simp; rw [after0_11]
  idx_vars y
  have ht : t.val < 4 := lt_of_lt_of_eq t.isLt N_4
  have hr : t.val % 4 = 3 := (flush0_11 t).mp hf
  have z : y0 = 0 := Subsingleton.elim _ _
  subst z
  have e : ((View.whole main_v15_1).slice (win0_11.rect t)).emb (ix2 0 y1) = ix2 0 y1 :=
    Cert.Finite.ext2 (by blk_simp [idx_val t] <;> omega) (by blk_simp [idx_val t] <;> omega)
  rw [e]
  refine (Pipeline.eq_sum_fin_of_reset_step_apply_of_flush (fun n h => (outsAt0 m c n h).2.1) 4 (fun _ => 0) (fun t i => ((dgt X w p t (i 1) : ℝ) : EReal))
    (fun t h i => by idx_vars i; obtain rfl : i0 = 0 := Subsingleton.elim _ _; exact first11 m c X g w p h0 h1 h2 h3 t h i1)
    (fun t h i => by idx_vars i; obtain rfl : i0 = 0 := Subsingleton.elim _ _; exact next11 m c X g w p h0 h1 h2 h3 t h i1) t hr (ix2 0 y1)).trans ?_
  exact four (fun r => ndr X (DH p w) y1 r) (t.val / 4) (by omega) _

end Kernel

section Reference

open Cert.EvdhRIdeal Cert.EvdhRIdeal.Gen Cert.EvdhRIdeal.Read

variable (x0 : FVec Ideal S2x2048x1024 .f32) (x1 : FVec Ideal S1024 .f32) (x2 : FVec Ideal S1024x2304 .f32) (x3 x4 x5 x6 : FVec Ideal S2x2048x512 .f32)
  (x7 x8 : FVec Ideal S2x2048x128 .f32) (x9 : FVec Ideal S2x2048x1024 .f32)
variable (X : Fin 2 → Fin 2048 → Fin 1024 → ℝ) (g : Fin 1024 → ℝ) (w : Fin 1024 → Fin 2304 → ℝ) (p : Fin 2 → Fin 2048 → Fin 2304 → ℝ)

theorem s20 (h2 : ∀ k f, x2 (ix2 k f) = ((w k f : ℝ) : EReal))
    (h3 : ∀ b s f, cat (fun z => x3 (ix3 b s z)) (fun z => x4 (ix3 b s z)) (fun z => x5 (ix3 b s z)) (fun z => x6 (ix3 b s z)) (fun z => x7 (ix3 b s z)) (fun z => x8 (ix3 b s z)) f = ((p b s f : ℝ) : EReal))
    (b : Fin 2) (s : Fin 2048) (k : Fin 1024) :
    (val_main_v20 (F := Ideal) x2 x3 x4 x5 x6 x7 x8 : FVec Ideal S2x2048x1024 .f32) (ix3 b s k) = ((DH p w b s k : ℝ) : EReal) := by
  have e0 : ∀ f, (val_main_v0 (F := Ideal) x3 x4 x5 x6 x7 x8 : FVec Ideal S2x2048x2304 .f32) (ix3 b s f) = ((p b s f : ℝ) : EReal) := fun f => by
    rw [← h3]
    unfold cat
    pointwise [val_main_v0]
  have e : (val_main_v20 (F := Ideal) x2 x3 x4 x5 x6 x7 x8 : FVec Ideal S2x2048x1024 .f32) (ix3 b s k)
      = ∑ f : Fin 2304, (val_main_v0 (F := Ideal) x3 x4 x5 x6 x7 x8 : FVec Ideal S2x2048x2304 .f32) (ix3 b s f) * x2 (ix2 k f) := by
    unfold val_main_v20
    generalize val_main_v0 (F := Ideal) x3 x4 x5 x6 x7 x8 = q
    pointwise
  rw [e]
  simp only [e0, h2, ← EReal.coe_mul, Cert.Finite.coe_sum]
  rfl
theorem host42 : (val_main_v42 (F := Ideal) x0 x1 x2 x3 x4 x5 x6 x7 x8 x9 : FVec Ideal S4096x1024 .f32) = HX x0 x1 (val_main_v20 (F := Ideal) x2 x3 x4 x5 x6 x7 x8) x9 := rfl
theorem host43 : (val_main_v43 (F := Ideal) x0 x2 x3 x4 x5 x6 x7 x8 : FVec Ideal S1x1024 .f32) = HG x0 (val_main_v20 (F := Ideal) x2 x3 x4 x5 x6 x7 x8) := rfl
theorem host44 : (val_main_v44 (F := Ideal) x0 x1 x2 x3 x4 x5 x6 x7 x8 x9 : FVec Ideal S4096x1024 .bf16) = (val_main_v42 (F := Ideal) x0 x1 x2 x3 x4 x5 x6 x7 x8 x9 : FVec Ideal S4096x1024 .f32) := by
  unfold val_main_v44
  generalize val_main_v42 (F := Ideal) x0 x1 x2 x3 x4 x5 x6 x7 x8 x9 = q
  rfl

end Reference

end Cert.Evdh
end
-- ==== Proof.EvdhClaims.lean ====
/- Untrusted: the claims about the even layer's projection gradient. -/
module

public import proofs.«01_k».proof.Defs
public import proofs.«01_k».proof.Proof.Evdh
public import proofs.«01_k».proof.Proof.Gen.EvdhK.Frame
public import proofs.«01_k».proof.Proof.Gen.EvdhRIdeal.Run
public import Idealize.ShloMosaic.Adequacy
public import Idealize.ShloMosaic.Lib.Quiescent

@[expose] public section

noncomputable section

namespace Cert.Evdh

open Idealize.ShloMosaic Idealize.ShloMosaic.TcCoe Idealize.SL.Sem Cert.NormHost

/-- The side conditions of the precondition's operations. -/
theorem preFacts : Cert.Pre_evdh_finite.Facts where
  bcast_S_S2x2048x1024 := by decide
  reducesTo_S2x2048x1024_S_d0_1_2 := by decide
  h_S_ := by decide
  bcast_S_S1024 := by decide
  reducesTo_S1024_S_d0 := by decide
  bcast_S_S1024x2304 := by decide
  reducesTo_S1024x2304_S_d0_1 := by decide
  bcast_S_S2x2048x512 := by decide
  reducesTo_S2x2048x512_S_d0_1_2 := by decide
  bcast_S_S2x2048x128 := by decide
  reducesTo_S2x2048x128_S_d0_1_2 := by decide

instance : Subsingleton Cert.Pre_evdh_finite.S_.Idx := ⟨fun a b => funext fun k => k.elim0⟩

/-- Under the precondition the arguments but the residual's cotangent are arrays of reals. -/
theorem reals [Cert.Pre_evdh_finite.Facts] {x0 : FVec Ideal Cert.Pre_evdh_finite.S2x2048x1024 .f32} {x1 : FVec Ideal Cert.Pre_evdh_finite.S1024 .f32} {x2 : FVec Ideal Cert.Pre_evdh_finite.S1024x2304 .f32} {x3 : FVec Ideal Cert.Pre_evdh_finite.S2x2048x512 .f32} {x4 : FVec Ideal Cert.Pre_evdh_finite.S2x2048x512 .f32} {x5 : FVec Ideal Cert.Pre_evdh_finite.S2x2048x512 .f32} {x6 : FVec Ideal Cert.Pre_evdh_finite.S2x2048x512 .f32} {x7 : FVec Ideal Cert.Pre_evdh_finite.S2x2048x128 .f32} {x8 : FVec Ideal Cert.Pre_evdh_finite.S2x2048x128 .f32} {x9 : FVec Ideal Cert.Pre_evdh_finite.S2x2048x1024 .f32}
    (h : Cert.Pre_evdh_finite.fn (F := Ideal) x0 x1 x2 x3 x4 x5 x6 x7 x8 x9 = fun _ => 1#1) :
    (∃ f : Fin 2 → Fin 2048 → Fin 1024 → ℝ, ∀ b s k, x0 (ix3 b s k) = ((f b s k : ℝ) : EReal))
      ∧ (∃ f : Fin 1024 → ℝ, ∀ k, x1 (ix1 k) = ((f k : ℝ) : EReal))
      ∧ (∃ f : Fin 1024 → Fin 2304 → ℝ, ∀ k j, x2 (ix2 k j) = ((f k j : ℝ) : EReal))
      ∧ (∃ f : Fin 2 → Fin 2048 → Fin 512 → ℝ, ∀ b s k, x3 (ix3 b s k) = ((f b s k : ℝ) : EReal))
      ∧ (∃ f : Fin 2 → Fin 2048 → Fin 512 → ℝ, ∀ b s k, x4 (ix3 b s k) = ((f b s k : ℝ) : EReal))
      ∧ (∃ f : Fin 2 → Fin 2048 → Fin 512 → ℝ, ∀ b s k, x5 (ix3 b s k) = ((f b s k : ℝ) : EReal))
      ∧ (∃ f : Fin 2 → Fin 2048 → Fin 512 → ℝ, ∀ b s k, x6 (ix3 b s k) = ((f b s k : ℝ) : EReal))
      ∧ (∃ f : Fin 2 → Fin 2048 → Fin 128 → ℝ, ∀ b s k, x7 (ix3 b s k) = ((f b s k : ℝ) : EReal))
      ∧ (∃ f : Fin 2 → Fin 2048 → Fin 128 → ℝ, ∀ b s k, x8 (ix3 b s k) = ((f b s k : ℝ) : EReal)) := by
  unfold Cert.Pre_evdh_finite.fn Cert.Pre_evdh_finite.fn_part1 Cert.Pre_evdh_finite.fn_part2 at h
  obtain ⟨h, h8⟩ := Cert.Finite.and_split h
  obtain ⟨h, h7⟩ := Cert.Finite.and_split h
  obtain ⟨h, h6⟩ := Cert.Finite.and_split h
  obtain ⟨h, h5⟩ := Cert.Finite.and_split h
  obtain ⟨h, h4⟩ := Cert.Finite.and_split h
  obtain ⟨h, h3⟩ := Cert.Finite.and_split h
  obtain ⟨h, h2⟩ := Cert.Finite.and_split h
  obtain ⟨h0, h1⟩ := Cert.Finite.and_split h
  obtain ⟨f0, e0⟩ := Cert.Finite.array_real (fun a => a.elim0) h0
  obtain ⟨f1, e1⟩ := Cert.Finite.array_real (fun a => a.elim0) h1
  obtain ⟨f2, e2⟩ := Cert.Finite.array_real (fun a => a.elim0) h2
  obtain ⟨f3, e3⟩ := Cert.Finite.array_real (fun a => a.elim0) h3
  obtain ⟨f4, e4⟩ := Cert.Finite.array_real (fun a => a.elim0) h4
  obtain ⟨f5, e5⟩ := Cert.Finite.array_real (fun a => a.elim0) h5
  obtain ⟨f6, e6⟩ := Cert.Finite.array_real (fun a => a.elim0) h6
  obtain ⟨f7, e7⟩ := Cert.Finite.array_real (fun a => a.elim0) h7
  obtain ⟨f8, e8⟩ := Cert.Finite.array_real (fun a => a.elim0) h8
  exact ⟨⟨fun b s k => f0 (ix3 b s k), fun b s k => congrFun e0 _⟩,
    ⟨fun k => f1 (ix1 k), fun k => congrFun e1 _⟩,
    ⟨fun k j => f2 (ix2 k j), fun k j => congrFun e2 _⟩,
    ⟨fun b s k => f3 (ix3 b s k), fun b s k => congrFun e3 _⟩,
    ⟨fun b s k => f4 (ix3 b s k), fun b s k => congrFun e4 _⟩,
    ⟨fun b s k => f5 (ix3 b s k), fun b s k => congrFun e5 _⟩,
    ⟨fun b s k => f6 (ix3 b s k), fun b s k => congrFun e6 _⟩,
    ⟨fun b s k => f7 (ix3 b s k), fun b s k => congrFun e7 _⟩,
    ⟨fun b s k => f8 (ix3 b s k), fun b s k => congrFun e8 _⟩⟩

/-- Six arrays of reals side by side. -/
theorem pieces (x3 x4 x5 x6 : FVec Ideal Cert.Pre_evdh_finite.S2x2048x512 .f32) (x7 x8 : FVec Ideal Cert.Pre_evdh_finite.S2x2048x128 .f32)
    (p3 p4 p5 p6 : Fin 2 → Fin 2048 → Fin 512 → ℝ) (p7 p8 : Fin 2 → Fin 2048 → Fin 128 → ℝ) (q3 : ∀ b s k, x3 (ix3 b s k) = ((p3 b s k : ℝ) : EReal))
    (q4 : ∀ b s k, x4 (ix3 b s k) = ((p4 b s k : ℝ) : EReal)) (q5 : ∀ b s k, x5 (ix3 b s k) = ((p5 b s k : ℝ) : EReal)) (q6 : ∀ b s k, x6 (ix3 b s k) = ((p6 b s k : ℝ) : EReal))
    (q7 : ∀ b s k, x7 (ix3 b s k) = ((p7 b s k : ℝ) : EReal)) (q8 : ∀ b s k, x8 (ix3 b s k) = ((p8 b s k : ℝ) : EReal)) (b : Fin 2) (s : Fin 2048) (f : Fin 2304) :
    cat (fun z => x3 (ix3 b s z)) (fun z => x4 (ix3 b s z)) (fun z => x5 (ix3 b s z)) (fun z => x6 (ix3 b s z)) (fun z => x7 (ix3 b s z)) (fun z => x8 (ix3 b s z)) f
      = ((cat (p3 b s) (p4 b s) (p5 b s) (p6 b s) (p7 b s) (p8 b s) f : ℝ) : EReal) := by
  simp only [q3, q4, q5, q6, q7, q8]
  exact (cat_map (fun r : ℝ => (r : EReal)) _ _ _ _ _ _ f).symm

/-- The reference's runs end with its counters at zero. -/
theorem quiescentR : quiescent_EvdhRIdeal := fun m ρ _ =>
  (θ_run Cert.EvdhRIdeal.defs _ _).mono (fun r h => ⟨fun c => (h c).2.2.2, sem_eq_zero_of_no_sems (by decide) r.2⟩)
    (Cert.EvdhRIdeal.Value.run (F := Ideal) m ρ)

/-- On finite arguments the kernel's gradients, against the norm's argument (also rounded) and against the gain, are the reference's. -/
theorem algebraic [Cert.Pre_evdh_finite.Facts] : algebraic_EvdhKIdeal_EvdhRIdeal_pre_evdh_finite := by
  intro m ρ m' ρ' hpre hagree
  refine ⟨_, _, _, Cert.EvdhKIdeal.Value.run_blocks (F := Ideal) m ρ, ?_⟩
  refine (θ_run Cert.EvdhRIdeal.defs _ _).mono (fun _ h c => ⟨?_, ?_, ?_, (h c).2.2.2⟩) (Cert.EvdhRIdeal.Value.run (F := Ideal) m' ρ')
  · obtain ⟨⟨X, h0⟩, ⟨g, h1⟩, ⟨w, h2⟩, ⟨p3, q3⟩, ⟨p4, q4⟩, ⟨p5, q5⟩, ⟨p6, q6⟩, ⟨p7, q7⟩, ⟨p8, q8⟩⟩ := reals (hpre c)
    have h3 : ∀ b s f, cat _ _ _ _ _ _ f = ((cat (p3 b s) (p4 b s) (p5 b s) (p6 b s) (p7 b s) (p8 b s) f : ℝ) : EReal) := pieces (A3 m c) (A4 m c) (A5 m c) (A6 m c) (A7 m c) (A8 m c) _ _ _ _ _ _ q3 q4 q5 q6 q7 q8
    refine (h c).1.trans ?_
    rw [Cert.EvdhRIdeal.Read.val_main_v42_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    exact ((host42 (A0 m c) (A1 m c) (A2 m c) (A3 m c) (A4 m c) (A5 m c) (A6 m c) (A7 m c) (A8 m c) (A9 m c)).trans (HX_eq _ _ _ _ X g _ h0 h1 (s20 _ _ _ _ _ _ _ w (fun b s f => cat (p3 b s) (p4 b s) (p5 b s) (p6 b s) (p7 b s) (p8 b s) f) h2 h3))).trans (final10 m c X g w (fun b s f => cat (p3 b s) (p4 b s) (p5 b s) (p6 b s) (p7 b s) (p8 b s) f) h0 h1 h2 h3).symm
  · obtain ⟨⟨X, h0⟩, ⟨g, h1⟩, ⟨w, h2⟩, ⟨p3, q3⟩, ⟨p4, q4⟩, ⟨p5, q5⟩, ⟨p6, q6⟩, ⟨p7, q7⟩, ⟨p8, q8⟩⟩ := reals (hpre c)
    have h3 : ∀ b s f, cat _ _ _ _ _ _ f = ((cat (p3 b s) (p4 b s) (p5 b s) (p6 b s) (p7 b s) (p8 b s) f : ℝ) : EReal) := pieces (A3 m c) (A4 m c) (A5 m c) (A6 m c) (A7 m c) (A8 m c) _ _ _ _ _ _ q3 q4 q5 q6 q7 q8
    refine (h c).2.1.trans ?_
    rw [Cert.EvdhRIdeal.Read.val_main_v43_eq, (hagree c).1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1]
    exact ((host43 (A0 m c) (A2 m c) (A3 m c) (A4 m c) (A5 m c) (A6 m c) (A7 m c) (A8 m c)).trans (HG_eq _ _ X _ h0 (s20 _ _ _ _ _ _ _ w (fun b s f => cat (p3 b s) (p4 b s) (p5 b s) (p6 b s) (p7 b s) (p8 b s) f) h2 h3))).trans (final11 m c X g w (fun b s f => cat (p3 b s) (p4 b s) (p5 b s) (p6 b s) (p7 b s) (p8 b s) f) h0 h1 h2 h3).symm
  · obtain ⟨⟨X, h0⟩, ⟨g, h1⟩, ⟨w, h2⟩, ⟨p3, q3⟩, ⟨p4, q4⟩, ⟨p5, q5⟩, ⟨p6, q6⟩, ⟨p7, q7⟩, ⟨p8, q8⟩⟩ := reals (hpre c)
    have h3 : ∀ b s f, cat _ _ _ _ _ _ f = ((cat (p3 b s) (p4 b s) (p5 b s) (p6 b s) (p7 b s) (p8 b s) f : ℝ) : EReal) := pieces (A3 m c) (A4 m c) (A5 m c) (A6 m c) (A7 m c) (A8 m c) _ _ _ _ _ _ q3 q4 q5 q6 q7 q8
    refine (h c).2.2.1.trans ?_
    rw [Cert.EvdhRIdeal.Read.val_main_v44_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    exact (((host44 (A0 m c) (A1 m c) (A2 m c) (A3 m c) (A4 m c) (A5 m c) (A6 m c) (A7 m c) (A8 m c) (A9 m c)).trans (host42 (A0 m c) (A1 m c) (A2 m c) (A3 m c) (A4 m c) (A5 m c) (A6 m c) (A7 m c) (A8 m c) (A9 m c))).trans (HX_eq _ _ _ _ X g _ h0 h1 (s20 _ _ _ _ _ _ _ w (fun b s f => cat (p3 b s) (p4 b s) (p5 b s) (p6 b s) (p7 b s) (p8 b s) f) h2 h3))).trans (final12 m c X g w (fun b s f => cat (p3 b s) (p4 b s) (p5 b s) (p6 b s) (p7 b s) (p8 b s) f) h0 h1 h2 h3).symm

end Cert.Evdh
end
-- ==== Proof.Oddh.lean ====
/- Untrusted: the values of the kernel that takes the odd layer's projection cotangent back through the projection and the norm. -/
module

public import proofs.«01_k».proof.Proof.Gen.OddhKIdeal.Value
public import proofs.«01_k».proof.Proof.Evdh

@[expose] public section

set_option maxRecDepth 16384

noncomputable section

open Idealize.ShloMosaic Idealize.ShloMosaic.TcCoe Idealize.SL.Sem
open Idealize.ShloMosaic.Pipeline (Dat)
open scoped BigOperators
open Cert.Norm Cert.NormHost

namespace Cert.Oddh

section Kernel

open Cert.OddhKIdeal Cert.OddhKIdeal.Gen

/-- The product with the weight. -/
theorem pay3 (v0 : FVec Ideal S1024x1536 .bf16) (v2 : FVec Ideal S1024x1536 .bf16) (a k : Fin 1024) :
    (k0_pay3 (F := Ideal) v0 v2 : FVec Ideal S1024x1024 .f32) (ix2 a k) = ∑ f : Fin 1536, v0 (ix2 a f) * v2 (ix2 k f) := by
  pointwise [k0_pay3]
/-- The rest of the body is the even layer's. -/
theorem pay7 (v0 v2 : FVec Ideal S1024x1536 .bf16) (v5 v7 : FVec Ideal S1024x1024 .f32) (v9 : FVec Ideal S1x1024 .f32) :
    (k0_pay7 (F := Ideal) v0 v2 v5 v7 v9 : FVec Ideal S1024x1024 .f32) = Cert.EvdhKIdeal.Gen.k0_pay1 (F := Ideal) (k0_pay3 (F := Ideal) v0 v2)
      (Cert.EvdhKIdeal.Gen.k0_pay7 (F := Ideal) v7) (Cert.EvdhKIdeal.Gen.k0_pay8 (F := Ideal) v9) (Cert.EvdhKIdeal.Gen.k0_pay9 (F := Ideal) v5) (Cert.EvdhKIdeal.Gen.k0_pay10 (F := Ideal) v5) := rfl
theorem pay8 (v0 v2 : FVec Ideal S1024x1536 .bf16) (v5 v7 : FVec Ideal S1024x1024 .f32) (v9 : FVec Ideal S1x1024 .f32) (a k : Fin 1024) :
    (k0_pay8 (F := Ideal) v0 v2 v5 v7 v9 : FVec Ideal S1024x1024 .bf16) (ix2 a k) = (k0_pay7 (F := Ideal) v0 v2 v5 v7 v9 : FVec Ideal S1024x1024 .f32) (ix2 a k) := by
  unfold k0_pay8
  generalize k0_pay7 (F := Ideal) v0 v2 v5 v7 v9 = r
  pointwise
theorem pay6 (v : FVec Ideal S1024x1024 .f32) : (k0_pay6 (F := Ideal) v : FVec Ideal S1024x1024 .f32) = Cert.EvdhKIdeal.Gen.k0_pay10 (F := Ideal) v := rfl
theorem pay1 (q n : FVec Ideal S1024x1024 .f32) : (k0_pay1 (F := Ideal) q n : FVec Ideal S1x1024 .f32) = Cert.EvdhKIdeal.Gen.k0_pay3 (F := Ideal) q n := rfl
theorem pay2 (q n : FVec Ideal S1024x1024 .f32) (p : FVec Ideal S1x1024 .f32) : (k0_pay2 (F := Ideal) q n p : FVec Ideal S1x1024 .f32) = Cert.EvdhKIdeal.Gen.k0_pay4 (F := Ideal) q n p := rfl

theorem idx_val : ∀ t : Fin grid0.N, win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![0, 0] ∧ win0_7.index t = ![t.val, 0] :=
  (by decide +kernel : ∀ t : Fin grid0.N, _)

theorem N_4 : cfg0.N = 4 := by decide +kernel

variable (m : (ℓ : Loc nD τ sig) → Buf (Elt Ideal) ℓ) (c : Dev nD)

/-- The arrays that the program is given. -/
abbrev A0 : FVec Ideal S2x2048x1024 .f32 := m ⟨c, Proc.devRef .tc main_arg0⟩
abbrev A1 : FVec Ideal S1024 .f32 := m ⟨c, Proc.devRef .tc main_arg1⟩
abbrev A2 : FVec Ideal S1024x1536 .f32 := m ⟨c, Proc.devRef .tc main_arg2⟩
abbrev A3 : FVec Ideal S2x2048x1536 .f32 := m ⟨c, Proc.devRef .tc main_arg3⟩
abbrev A4 : FVec Ideal S2x2048x1024 .f32 := m ⟨c, Proc.devRef .tc main_arg4⟩

theorem V1 (j : S4096x1536.Idx) : V m c main_v1 j = A3 m c (ix3 (bi (j 0)) (si (j 0)) (j 1)) := by
  entry_read
  pointwise
theorem V3 (j : S4096x1024.Idx) : V m c main_v3 j = A0 m c (ix3 (bi (j 0)) (si (j 0)) (j 1)) := by
  entry_read
  pointwise
theorem V4 (j : S4096x1024.Idx) : V m c main_v4 j = A4 m c (ix3 (bi (j 0)) (si (j 0)) (j 1)) := by
  entry_read
  pointwise
theorem V2 (j : S1024x1536.Idx) : V m c main_v2 j = A2 m c (ix2 (j 0) (j 1)) := by
  entry_read
  pointwise
theorem V5 (j : S1x1024.Idx) : V m c main_v5 j = A1 m c (ix1 (j 1)) := by
  entry_read
  pointwise

/-- The flattened row of row `a` of point `t`'s blocks. -/
abbrev pr (t : Fin cfg0.N) (a : Fin 1024) : Fin 4096 := ⟨t.val * 1024 + a.val, by have := lt_of_lt_of_eq t.isLt N_4; omega⟩

theorem blk0 (t : Fin cfg0.N) (a : Fin 1024) (k : Fin 1536) : (iblk m c 0 t : FVec Ideal S1024x1536 .bf16) (ix2 a k) = A3 m c (ix3 (bi (pr t a)) (si (pr t a)) k) := by
  have k0 : (((cfg0.win 0).blk t).view.emb (ix2 a k) : S4096x1536.Idx) 0 = pr t a := Fin.ext (by blk_simp [idx_val t])
  have k1 : (((cfg0.win 0).blk t).view.emb (ix2 a k) : S4096x1536.Idx) 1 = k := Fin.ext (by blk_simp [idx_val t])
  unfold iblk
  rw [View.read_apply, cast_eq]
  refine (V1 m c _).trans ?_
  rw [k0, k1]
theorem blk2 (t : Fin cfg0.N) (a : Fin 1024) (k : Fin 1024) : (iblk m c 2 t : FVec Ideal S1024x1024 .f32) (ix2 a k) = A0 m c (ix3 (bi (pr t a)) (si (pr t a)) k) := by
  have k0 : (((cfg0.win 2).blk t).view.emb (ix2 a k) : S4096x1024.Idx) 0 = pr t a := Fin.ext (by blk_simp [idx_val t])
  have k1 : (((cfg0.win 2).blk t).view.emb (ix2 a k) : S4096x1024.Idx) 1 = k := Fin.ext (by blk_simp [idx_val t])
  unfold iblk
  rw [View.read_apply, cast_eq]
  refine (V3 m c _).trans ?_
  rw [k0, k1]
theorem blk3 (t : Fin cfg0.N) (a : Fin 1024) (k : Fin 1024) : (iblk m c 3 t : FVec Ideal S1024x1024 .f32) (ix2 a k) = A4 m c (ix3 (bi (pr t a)) (si (pr t a)) k) := by
  have k0 : (((cfg0.win 3).blk t).view.emb (ix2 a k) : S4096x1024.Idx) 0 = pr t a := Fin.ext (by blk_simp [idx_val t])
  have k1 : (((cfg0.win 3).blk t).view.emb (ix2 a k) : S4096x1024.Idx) 1 = k := Fin.ext (by blk_simp [idx_val t])
  unfold iblk
  rw [View.read_apply, cast_eq]
  refine (V4 m c _).trans ?_
  rw [k0, k1]
theorem blk1 (t : Fin cfg0.N) (k : Fin 1024) (f : Fin 1536) : (iblk m c 1 t : FVec Ideal S1024x1536 .bf16) (ix2 k f) = A2 m c (ix2 k f) := by
  have k0 : (((cfg0.win 1).blk t).view.emb (ix2 k f) : S1024x1536.Idx) 0 = k := Fin.ext (by blk_simp [idx_val t])
  have k1 : (((cfg0.win 1).blk t).view.emb (ix2 k f) : S1024x1536.Idx) 1 = f := Fin.ext (by blk_simp [idx_val t])
  unfold iblk
  rw [View.read_apply, cast_eq]
  refine (V2 m c _).trans ?_
  rw [k0, k1]
theorem blk4 (t : Fin cfg0.N) (k : Fin 1024) : (iblk m c 4 t : FVec Ideal S1x1024 .f32) (ix2 0 k) = A1 m c (ix1 k) := by
  have k1 : (((cfg0.win 4).blk t).view.emb (ix2 0 k) : S1x1024.Idx) 1 = k := Fin.ext (by blk_simp [idx_val t])
  unfold iblk
  rw [View.read_apply, cast_eq]
  refine (V5 m c _).trans ?_
  rw [k1]

variable (X : Fin 2 → Fin 2048 → Fin 1024 → ℝ) (g : Fin 1024 → ℝ) (w : Fin 1024 → Fin 1536 → ℝ) (p : Fin 2 → Fin 2048 → Fin 1536 → ℝ)

/-- What point `t` adds to the gain's gradient. -/
def dgt (t : Fin cfg0.N) (k : Fin 1024) : ℝ := ∑ a : Fin 1024, ndr X (DH p w) k (pr t a)

variable (h0 : ∀ b s k, A0 m c (ix3 b s k) = ((X b s k : ℝ) : EReal)) (h1 : ∀ k, A1 m c (ix1 k) = ((g k : ℝ) : EReal))
  (h2 : ∀ k f, A2 m c (ix2 k f) = ((w k f : ℝ) : EReal)) (h3 : ∀ b s f, A3 m c (ix3 b s f) = ((p b s f : ℝ) : EReal))
include h0 h1 h2 h3

theorem b3 (t : Fin cfg0.N) (a k : Fin 1024) :
    (k0_pay3 (F := Ideal) (iblk m c 0 t) (iblk m c 1 t) : FVec Ideal S1024x1024 .f32) (ix2 a k) = ((DH p w (bi (pr t a)) (si (pr t a)) k : ℝ) : EReal) := by
  rw [pay3]
  simp only [blk0, blk1, h2, h3, ← EReal.coe_mul, Cert.Finite.coe_sum]
  rfl
theorem b6 (t : Fin cfg0.N) (a k : Fin 1024) : (k0_pay6 (F := Ideal) (iblk m c 2 t) : FVec Ideal S1024x1024 .f32) (ix2 a k) = ((XN (X (bi (pr t a)) (si (pr t a))) k : ℝ) : EReal) := by
  rw [pay6]
  exact Evdh.pay10 _ (fun a => X (bi (pr t a)) (si (pr t a))) (fun a k => (blk2 m c t a k).trans (h0 _ _ _)) a k
/-- The gradient's block at a point. -/
theorem b7 (t : Fin cfg0.N) (a k : Fin 1024) :
    (k0_pay7 (F := Ideal) (iblk m c 0 t) (iblk m c 1 t) (iblk m c 2 t) (iblk m c 3 t) (iblk m c 4 t) : FVec Ideal S1024x1024 .f32) (ix2 a k)
      = NDX X g (DH p w) (A4 m c) (ix2 (pr t a) k) := by
  rw [pay7]
  refine (Evdh.pay1 (fun a => X (bi (pr t a)) (si (pr t a))) _ _ _ _ _ (fun a => DH p w (bi (pr t a)) (si (pr t a))) g (b3 m c X g w p h0 h1 h2 h3 t) (fun k => ?_)
    (fun a => Evdh.pay9 _ (fun a => X (bi (pr t a)) (si (pr t a))) (fun a k => (blk2 m c t a k).trans (h0 _ _ _)) a 0)
    (Evdh.pay10 _ (fun a => X (bi (pr t a)) (si (pr t a))) (fun a k => (blk2 m c t a k).trans (h0 _ _ _))) a k).trans ?_
  · rw [← h1, ← blk4 m c t k]
    generalize iblk m c 4 t = q
    pointwise [Cert.EvdhKIdeal.Gen.k0_pay8]
  · refine congrArg (· + _) (Eq.trans ?_ (blk3 m c t a k))
    generalize iblk m c 3 t = q
    pointwise [Cert.EvdhKIdeal.Gen.k0_pay7]
theorem b1 (t : Fin cfg0.N) (k : Fin 1024) :
    (k0_pay1 (F := Ideal) (k0_pay3 (F := Ideal) (iblk m c 0 t) (iblk m c 1 t)) (k0_pay6 (F := Ideal) (iblk m c 2 t)) : FVec Ideal S1x1024 .f32) (ix2 0 k) = ((dgt X w p t k : ℝ) : EReal) := by
  rw [pay1]
  exact Evdh.pay3 (fun a => X (bi (pr t a)) (si (pr t a))) _ _ (fun a => DH p w (bi (pr t a)) (si (pr t a))) (b3 m c X g w p h0 h1 h2 h3 t) (b6 m c X g w p h0 h1 h2 h3 t) k

theorem outs5 (t : Fin cfg0.N) (a k : Fin 1024) : (outsAt0 m c t.val t.isLt).1 (ix2 a k) = NDX X g (DH p w) (A4 m c) (ix2 (pr t a) k) := by
  have ht := lt_of_lt_of_eq t.isLt N_4
  by_cases h : t.val % 4 = 0
  · rw [outsAt0_A m c t h (by omega)]; frame_out
    exact b7 m c X g w p h0 h1 h2 h3 t a k
  · rw [outsAt0_B m c t h (by omega)]; frame_out
    exact b7 m c X g w p h0 h1 h2 h3 t a k
theorem outs7 (t : Fin cfg0.N) (a k : Fin 1024) : (outsAt0 m c t.val t.isLt).2.2 (ix2 a k) = NDX X g (DH p w) (A4 m c) (ix2 (pr t a) k) := by
  have ht := lt_of_lt_of_eq t.isLt N_4
  by_cases h : t.val % 4 = 0
  · rw [outsAt0_A m c t h (by omega)]; frame_out
    exact (pay8 _ _ _ _ _ a k).trans (b7 m c X g w p h0 h1 h2 h3 t a k)
  · rw [outsAt0_B m c t h (by omega)]; frame_out
    exact (pay8 _ _ _ _ _ a k).trans (b7 m c X g w p h0 h1 h2 h3 t a k)
theorem first6 (t : Fin cfg0.N) (h : t.val % 4 = 0) (k : Fin 1024) : (outsAt0 m c t.val t.isLt).2.1 (ix2 0 k) = 0 + ((dgt X w p t k : ℝ) : EReal) := by
  have ht := lt_of_lt_of_eq t.isLt N_4
  rw [outsAt0_A m c t h (by omega)]; frame_out
  rw [zero_add]
  exact b1 m c X g w p h0 h1 h2 h3 t k
theorem next6 (t : Fin cfg0.N) (h : ¬t.val % 4 = 0) (k : Fin 1024) :
    (outsAt0 m c t.val t.isLt).2.1 (ix2 0 k) = (outsAt0 m c (t.val - 1) (Nat.lt_of_le_of_lt (Nat.sub_le _ _) t.isLt)).2.1 (ix2 0 k) + ((dgt X w p t k : ℝ) : EReal) := by
  rw [outsAt0_B m c t h (by omega)]; frame_out
  rw [← b1 m c X g w p h0 h1 h2 h3 t k, pay2, pay1]
  exact Evdh.pay4 _ _ _ k

/-- The arrays the kernel leaves. -/
theorem final5 : (dats m 0 c).arrAt 5 (cfgs 0).N = NDX X g (DH p w) (A4 m c) := by
  refine (dats m 0 c).arrAt_eq_of_covers 5 _ (by decide +kernel) fun t hf y => ?_
  blk_simp; rw [after0_5]
  idx_vars y
  have e : ((View.whole main_v6_0).slice (win0_5.rect t)).emb (ix2 y0 y1) = ix2 (pr t y0) y1 :=
    Cert.Finite.ext2 (by blk_simp [idx_val t] <;> omega) (by blk_simp [idx_val t] <;> omega)
  rw [e]
  exact outs5 m c X g w p h0 h1 h2 h3 t y0 y1
theorem final7 : (dats m 0 c).arrAt 7 (cfgs 0).N = NDX X g (DH p w) (A4 m c) := by
  refine (dats m 0 c).arrAt_eq_of_covers 7 _ (by decide +kernel) fun t hf y => ?_
  blk_simp; rw [after0_7]
  idx_vars y
  have e : ((View.whole main_v6_2).slice (win0_7.rect t)).emb (ix2 y0 y1) = ix2 (pr t y0) y1 :=
    Cert.Finite.ext2 (by blk_simp [idx_val t] <;> omega) (by blk_simp [idx_val t] <;> omega)
  rw [e]
  exact outs7 m c X g w p h0 h1 h2 h3 t y0 y1
theorem final6 : (dats m 0 c).arrAt 6 (cfgs 0).N = NDG X (DH p w) := by
  refine (dats m 0 c).arrAt_eq_of_covers 6 _ (by decide +kernel) fun t hf y => ?_
  blk_simp; rw [after0_6]
  idx_vars y
  have ht : t.val < 4 := lt_of_lt_of_eq t.isLt N_4
  have hr : t.val % 4 = 3 := (flush0_6 t).mp hf
  have z : y0 = 0 := Subsingleton.elim _ _
  subst z
  have e : ((View.whole main_v6_1).slice (win0_6.rect t)).emb (ix2 0 y1) = ix2 0 y1 :=
    Cert.Finite.ext2 (by blk_simp [idx_val t] <;> omega) (by blk_simp [idx_val t] <;> omega)
  rw [e]
  refine (Pipeline.eq_sum_fin_of_reset_step_apply_of_flush (fun n h => (outsAt0 m c n h).2.1) 4 (fun _ => 0) (fun t i => ((dgt X w p t (i 1) : ℝ) : EReal))
    (fun t h i => by idx_vars i; obtain rfl : i0 = 0 := Subsingleton.elim _ _; exact first6 m c X g w p h0 h1 h2 h3 t h i1)
    (fun t h i => by idx_vars i; obtain rfl : i0 = 0 := Subsingleton.elim _ _; exact next6 m c X g w p h0 h1 h2 h3 t h i1) t hr (ix2 0 y1)).trans ?_
  exact Evdh.four (fun r => ndr X (DH p w) y1 r) (t.val / 4) (by omega) _

end Kernel

section Reference

open Cert.OddhRIdeal Cert.OddhRIdeal.Gen Cert.OddhRIdeal.Read

variable (x0 : FVec Ideal S2x2048x1024 .f32) (x1 : FVec Ideal S1024 .f32) (x2 : FVec Ideal S1024x1536 .f32) (x3 : FVec Ideal S2x2048x1536 .f32) (x4 : FVec Ideal S2x2048x1024 .f32)
variable (w : Fin 1024 → Fin 1536 → ℝ) (p : Fin 2 → Fin 2048 → Fin 1536 → ℝ)

theorem s19 (h2 : ∀ k f, x2 (ix2 k f) = ((w k f : ℝ) : EReal)) (h3 : ∀ b s f, x3 (ix3 b s f) = ((p b s f : ℝ) : EReal)) (b : Fin 2) (s : Fin 2048) (k : Fin 1024) :
    (val_main_v19 (F := Ideal) x2 x3 : FVec Ideal S2x2048x1024 .f32) (ix3 b s k) = ((DH p w b s k : ℝ) : EReal) := by
  have e : (val_main_v19 (F := Ideal) x2 x3 : FVec Ideal S2x2048x1024 .f32) (ix3 b s k) = ∑ f : Fin 1536, x3 (ix3 b s f) * x2 (ix2 k f) := by
    pointwise [val_main_v19]
  rw [e]
  simp only [h3, h2, ← EReal.coe_mul, Cert.Finite.coe_sum]
  rfl
theorem host41 : (val_main_v41 (F := Ideal) x0 x1 x2 x3 x4 : FVec Ideal S4096x1024 .f32) = HX x0 x1 (val_main_v19 (F := Ideal) x2 x3) x4 := rfl
theorem host42 : (val_main_v42 (F := Ideal) x0 x2 x3 : FVec Ideal S1x1024 .f32) = HG x0 (val_main_v19 (F := Ideal) x2 x3) := rfl
theorem host43 : (val_main_v43 (F := Ideal) x0 x1 x2 x3 x4 : FVec Ideal S4096x1024 .bf16) = (val_main_v41 (F := Ideal) x0 x1 x2 x3 x4 : FVec Ideal S4096x1024 .f32) := by
  unfold val_main_v43
  generalize val_main_v41 (F := Ideal) x0 x1 x2 x3 x4 = q
  rfl

end Reference

end Cert.Oddh
end
-- ==== Proof.OddhClaims.lean ====
/- Untrusted: the claims about the odd layer's projection gradient. -/
module

public import proofs.«01_k».proof.Defs
public import proofs.«01_k».proof.Proof.Oddh
public import proofs.«01_k».proof.Proof.Gen.OddhK.Frame
public import proofs.«01_k».proof.Proof.Gen.OddhRIdeal.Run
public import Idealize.ShloMosaic.Adequacy
public import Idealize.ShloMosaic.Lib.Quiescent

@[expose] public section

noncomputable section

namespace Cert.Oddh

open Idealize.ShloMosaic Idealize.ShloMosaic.TcCoe Idealize.SL.Sem Cert.NormHost

/-- The side conditions of the precondition's operations. -/
theorem preFacts : Cert.Pre_oddh_finite.Facts where
  bcast_S_S2x2048x1024 := by decide
  reducesTo_S2x2048x1024_S_d0_1_2 := by decide
  h_S_ := by decide
  bcast_S_S1024 := by decide
  reducesTo_S1024_S_d0 := by decide
  bcast_S_S1024x1536 := by decide
  reducesTo_S1024x1536_S_d0_1 := by decide
  bcast_S_S2x2048x1536 := by decide
  reducesTo_S2x2048x1536_S_d0_1_2 := by decide

instance : Subsingleton Cert.Pre_oddh_finite.S_.Idx := ⟨fun a b => funext fun k => k.elim0⟩

/-- Under the precondition the arguments but the residual's cotangent are arrays of reals. -/
theorem reals [Cert.Pre_oddh_finite.Facts] {x0 : FVec Ideal Cert.Pre_oddh_finite.S2x2048x1024 .f32} {x1 : FVec Ideal Cert.Pre_oddh_finite.S1024 .f32} {x2 : FVec Ideal Cert.Pre_oddh_finite.S1024x1536 .f32} {x3 : FVec Ideal Cert.Pre_oddh_finite.S2x2048x1536 .f32} {x4 : FVec Ideal Cert.Pre_oddh_finite.S2x2048x1024 .f32}
    (h : Cert.Pre_oddh_finite.fn (F := Ideal) x0 x1 x2 x3 x4 = fun _ => 1#1) :
    (∃ f : Fin 2 → Fin 2048 → Fin 1024 → ℝ, ∀ b s k, x0 (ix3 b s k) = ((f b s k : ℝ) : EReal))
      ∧ (∃ f : Fin 1024 → ℝ, ∀ k, x1 (ix1 k) = ((f k : ℝ) : EReal))
      ∧ (∃ f : Fin 1024 → Fin 1536 → ℝ, ∀ k j, x2 (ix2 k j) = ((f k j : ℝ) : EReal))
      ∧ (∃ f : Fin 2 → Fin 2048 → Fin 1536 → ℝ, ∀ b s k, x3 (ix3 b s k) = ((f b s k : ℝ) : EReal)) := by
  unfold Cert.Pre_oddh_finite.fn Cert.Pre_oddh_finite.fn_part1 at h
  obtain ⟨h, h3⟩ := Cert.Finite.and_split h
  obtain ⟨h, h2⟩ := Cert.Finite.and_split h
  obtain ⟨h0, h1⟩ := Cert.Finite.and_split h
  obtain ⟨f0, e0⟩ := Cert.Finite.array_real (fun a => a.elim0) h0
  obtain ⟨f1, e1⟩ := Cert.Finite.array_real (fun a => a.elim0) h1
  obtain ⟨f2, e2⟩ := Cert.Finite.array_real (fun a => a.elim0) h2
  obtain ⟨f3, e3⟩ := Cert.Finite.array_real (fun a => a.elim0) h3
  exact ⟨⟨fun b s k => f0 (ix3 b s k), fun b s k => congrFun e0 _⟩,
    ⟨fun k => f1 (ix1 k), fun k => congrFun e1 _⟩,
    ⟨fun k j => f2 (ix2 k j), fun k j => congrFun e2 _⟩,
    ⟨fun b s k => f3 (ix3 b s k), fun b s k => congrFun e3 _⟩⟩

/-- The reference's runs end with its counters at zero. -/
theorem quiescentR : quiescent_OddhRIdeal := fun m ρ _ =>
  (θ_run Cert.OddhRIdeal.defs _ _).mono (fun r h => ⟨fun c => (h c).2.2.2, sem_eq_zero_of_no_sems (by decide) r.2⟩)
    (Cert.OddhRIdeal.Value.run (F := Ideal) m ρ)

/-- On finite arguments the kernel's gradients, against the norm's argument (also rounded) and against the gain, are the reference's. -/
theorem algebraic [Cert.Pre_oddh_finite.Facts] : algebraic_OddhKIdeal_OddhRIdeal_pre_oddh_finite := by
  intro m ρ m' ρ' hpre hagree
  refine ⟨_, _, _, Cert.OddhKIdeal.Value.run_blocks (F := Ideal) m ρ, ?_⟩
  refine (θ_run Cert.OddhRIdeal.defs _ _).mono (fun _ h c => ⟨?_, ?_, ?_, (h c).2.2.2⟩) (Cert.OddhRIdeal.Value.run (F := Ideal) m' ρ')
  · obtain ⟨⟨X, h0⟩, ⟨g, h1⟩, ⟨w, h2⟩, ⟨p, h3⟩⟩ := reals (hpre c)
    refine (h c).1.trans ?_
    rw [Cert.OddhRIdeal.Read.val_main_v41_eq, (hagree c).1, (hagree c).2.1, (hagree c).2.2.1, (hagree c).2.2.2.1, (hagree c).2.2.2.2]
    exact ((host41 (A0 m c) (A1 m c) (A2 m c) (A3 m c) (A4 m c)).trans (HX_eq _ _ _ _ X g _ h0 h1 (s19 _ _ w p h2 h3))).trans (final5 m c X g w p h0 h1 h2 h3).symm
  · obtain ⟨⟨X, h0⟩, ⟨g, h1⟩, ⟨w, h2⟩, ⟨p, h3⟩⟩ := reals (hpre c)
    refine (h c).2.1.trans ?_
    rw [Cert.OddhRIdeal.Read.val_main_v42_eq, (hagree c).1, (hagree c).2.2.1, (hagree c).2.2.2.1]
    exact ((host42 (A0 m c) (A2 m c) (A3 m c)).trans (HG_eq _ _ X _ h0 (s19 _ _ w p h2 h3))).trans (final6 m c X g w p h0 h1 h2 h3).symm
  · obtain ⟨⟨X, h0⟩, ⟨g, h1⟩, ⟨w, h2⟩, ⟨p, h3⟩⟩ := reals (hpre c)
    refine (h c).2.2.1.trans ?_
    rw [Cert.OddhRIdeal.Read.val_main_v43_eq, (hagree c).1, (hagree c).2.1, (hagree c).2.2.1, (hagree c).2.2.2.1, (hagree c).2.2.2.2]
    exact (((host43 (A0 m c) (A1 m c) (A2 m c) (A3 m c) (A4 m c)).trans (host41 (A0 m c) (A1 m c) (A2 m c) (A3 m c) (A4 m c))).trans (HX_eq _ _ _ _ X g _ h0 h1 (s19 _ _ w p h2 h3))).trans (final7 m c X g w p h0 h1 h2 h3).symm

end Cert.Oddh
end
-- ==== Proof.Heads.lean ====
/- Untrusted: rows made of heads of 64 lanes, their norm and its gradient, and the gradient of the rotation of lane pairs. -/
module

public import proofs.«01_k».proof.Proof.Norm

@[expose] public section

noncomputable section

open Idealize.ShloMosaic
open scoped BigOperators

namespace Cert.Heads

open Cert.Norm (ep word_ep)

theorem word_64 : (Ideal.ofBits FTy.f32 0x42800000#32 : EReal) = ((64 : ℝ) : EReal) := by
  simp only [Ideal.ofBits, Ideal.ieee]; simp; rw [← EReal.coe_mul]; norm_num
theorem word_64th : (Ideal.ofBits FTy.f32 0x3C800000#32 : EReal) = ((1 / 64 : ℝ) : EReal) := by
  simp only [Ideal.ofBits, Ideal.ieee]; simp; rw [← EReal.coe_mul]; norm_num
theorem word_8th : (Ideal.ofBits FTy.f32 0x3E000000#32 : EReal) = ((1 / 8 : ℝ) : EReal) := by
  simp only [Ideal.ofBits, Ideal.ieee]; simp; rw [← EReal.coe_mul]; norm_num
theorem div_64 (a : ℝ) : Ideal.div ((a : ℝ) : EReal) (Ideal.ofBits FTy.f32 0x42800000#32) = ((a / 64 : ℝ) : EReal) := by
  rw [word_64]; exact Cert.Finite.div_real (by norm_num) a

/-- The sum of a row over the lanes of the head in which lane `l` lies. -/
def hs (y : ℕ → ℝ) (l : ℕ) : ℝ := ∑ e : Fin 64, y (l / 64 * 64 + e.val)

/-- The mean square of a head plus the constant, its inverse root, and the normalised row. -/
def VV (y : ℕ → ℝ) (l : ℕ) : ℝ := hs (fun i => y i * y i) l / 64 + ep
def RS (y : ℕ → ℝ) (l : ℕ) : ℝ := (Real.sqrt (VV y l))⁻¹
def XH (y : ℕ → ℝ) (l : ℕ) : ℝ := y l * RS y l

/-- The gradient of the rotation: `d` the cotangent of a row, `C` and `S` the cosines and sines of the pairs of a head. -/
def DR (d C S : ℕ → ℝ) (l : ℕ) : ℝ := d l * C (l % 64 / 2) + if l % 2 = 0 then d (l + 1) * S (l % 64 / 2) else -(d (l - 1) * S (l % 64 / 2))
/-- The cotangent of the normalised row, with the gain `g`. -/
def GX (d C S g : ℕ → ℝ) (l : ℕ) : ℝ := DR d C S l * g (l % 64)
/-- The gradient through the norm. -/
def OUT (y d C S g : ℕ → ℝ) (l : ℕ) : ℝ := RS y l * (GX d C S g l - XH y l * (hs (fun i => GX d C S g i * XH y i) l / 64))

theorem VV_pos (y : ℕ → ℝ) (l : ℕ) : 0 < VV y l := by
  unfold VV hs ep
  have := Finset.sum_nonneg fun (e : Fin 64) (_ : e ∈ Finset.univ) => mul_self_nonneg (y (l / 64 * 64 + e.val))
  positivity
theorem rsqrt_VV (y : ℕ → ℝ) (l : ℕ) : Ideal.rsqrt ((VV y l : ℝ) : EReal) = ((RS y l : ℝ) : EReal) := by
  rw [Ideal.rsqrt_coe, if_neg (VV_pos y l).le.not_gt, if_neg (VV_pos y l).ne']; rfl
theorem RS_sq (y : ℕ → ℝ) (l : ℕ) : RS y l * RS y l = 1 / VV y l := by
  unfold RS
  rw [← mul_inv, Real.mul_self_sqrt (VV_pos y l).le, one_div]

/-- Quantities of a head are the same at all its lanes. -/
theorem hs_head (y : ℕ → ℝ) {l k : ℕ} (h : l / 64 = k / 64) : hs y l = hs y k := by unfold hs; rw [h]
theorem RS_head (y : ℕ → ℝ) {l k : ℕ} (h : l / 64 = k / 64) : RS y l = RS y k := by unfold RS VV; rw [hs_head _ h]

/-- The gradient through the norm in the form that differentiating the norm line by line takes. -/
theorem OUT_eq (y d C S g : ℕ → ℝ) (l : ℕ) :
    GX d C S g l * RS y l + y l * (hs (fun i => y i * GX d C S g i) l * (-(1 / 2) * (RS y l / VV y l)) / 64)
      + hs (fun i => y i * GX d C S g i) l * (-(1 / 2) * (RS y l / VV y l)) / 64 * y l = OUT y d C S g l := by
  have h : hs (fun i => GX d C S g i * XH y i) l = hs (fun i => y i * GX d C S g i) l * RS y l := by
    unfold hs XH
    rw [Finset.sum_mul]
    refine Finset.sum_congr rfl fun e _ => ?_
    dsimp only
    rw [RS_head y (show (l / 64 * 64 + e.val) / 64 = l / 64 by omega)]
    ring
  unfold OUT
  rw [h, div_eq_mul_one_div (RS y l), ← RS_sq]
  unfold XH
  ring

/-- Sums of reals over the lanes of a head, taken as a product with a 0/1 matrix over 128 lanes in two parts of which the second is zero. -/
theorem hi_lo (y : ℕ → ℝ) (o : ℕ) (ho : o % 128 = 0) (l : Fin 128) (u : Fin 128 → EReal)
    (hu : ∀ x : Fin 128, u x = (((if x.val / 64 = l.val / 64 then 1 else 0 : ℝ)) : EReal)) :
    (∑ x : Fin 128, ((y (o + x.val) : ℝ) : EReal) * u x) + ∑ x : Fin 128, (((y (o + x.val) : ℝ) : EReal) - ((y (o + x.val) : ℝ) : EReal)) * u x
      = ((hs y (o + l.val) : ℝ) : EReal) := by
  simp only [← EReal.coe_sub, sub_self, EReal.coe_zero, zero_mul, Finset.sum_const_zero, add_zero, hu, ← EReal.coe_mul, Cert.Finite.coe_sum]
  refine congrArg (fun r : ℝ => (r : EReal)) ?_
  refine (Fin.sum_univ_add (a := 64) (b := 64) fun x : Fin 128 => y (o + x.val) * (if x.val / 64 = l.val / 64 then 1 else 0 : ℝ)).trans ?_
  unfold hs
  by_cases h : l.val < 64
  · have z : ∑ e : Fin 64, y (o + (Fin.natAdd 64 e).val) * (if (Fin.natAdd 64 e).val / 64 = l.val / 64 then 1 else 0 : ℝ) = 0 :=
      Finset.sum_eq_zero fun e _ => by rw [if_neg (by simp only [Fin.val_natAdd]; omega), mul_zero]
    refine (congrArg (_ + ·) z).trans ((add_zero _).trans (Finset.sum_congr rfl fun e _ => ?_))
    rw [if_pos (by simp only [Fin.val_castAdd]; omega), mul_one]
    exact congrArg y (by simp only [Fin.val_castAdd]; omega)
  · have z : ∑ e : Fin 64, y (o + (Fin.castAdd 64 e).val) * (if (Fin.castAdd 64 e).val / 64 = l.val / 64 then 1 else 0 : ℝ) = 0 :=
      Finset.sum_eq_zero fun e _ => by rw [if_neg (by simp only [Fin.val_castAdd]; omega), mul_zero]
    refine (congrArg (· + _) z).trans ((zero_add _).trans (Finset.sum_congr rfl fun e _ => ?_))
    rw [if_pos (by simp only [Fin.val_natAdd]; omega), mul_one]
    exact congrArg y (by simp only [Fin.val_natAdd]; omega)

/-- Lanes exchanged pair by pair. -/
def SW (y : ℕ → ℝ) (l : ℕ) : ℝ := if l % 2 = 0 then y (l + 1) else y (l - 1)

/-- The gradient of the rotation as a sum over the row times the cosines and the exchanged row times the signed sines. -/
theorem DR_eq (d C S : ℕ → ℝ) (l : ℕ) :
    d l * C (l % 64 / 2) + SW (fun i => d i * ((if i % 2 = 0 then -1 else 1) * S (i % 64 / 2))) l = DR d C S l := by
  unfold DR SW
  rw [add_right_inj]
  by_cases h : l % 2 = 0
  · rw [if_pos h, if_pos h]; dsimp only; rw [if_neg (by omega), one_mul, show (l + 1) % 64 / 2 = l % 64 / 2 by omega]
  · rw [if_neg h, if_neg h]; dsimp only; rw [if_pos (by omega), show (l - 1) % 64 / 2 = l % 64 / 2 by omega]
    ring

end Cert.Heads
-- ==== Proof.QkbHost.lean ====
/- Untrusted: the arrays that the host prepares for the kernel of the query/key norm's gradient, and the tables of the rotation. -/
module

public import proofs.«01_k».proof.Proof.Gen.QkbKIdeal.Value
public import proofs.«01_k».proof.Proof.Gen.QkbRIdeal.Read
public import proofs.«01_k».proof.Proof.Heads
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open scoped BigOperators

namespace Cert.Qkb

section Tables

open Cert.QkbRIdeal Cert.QkbRIdeal.Read

/-- Every angle of the rotation is a real number, and so are the cosines and sines. -/
theorem freq (j : Fin 16) : ∃ r : ℝ, (val_main_v17 (F := Ideal) : FVec Ideal S16 .f32) (ix1 j) = ((r : ℝ) : EReal) := by
  have e : (val_main_v17 (F := Ideal) : FVec Ideal S16 .f32) (ix1 j)
      = Ideal.pow (Ideal.ofBits FTy.f32 0x461C4000#32) (Ideal.div (-FloatOps.sitofp (F := Ideal) FTy.f32 (BitVec.ofNat 32 j.val)) (Ideal.ofBits FTy.f32 0x41800000#32)) := by
    pointwise [val_main_v17, val_main_v16, val_main_cst_0, val_main_v15, val_main_v14, val_main_cst, val_main_v13, val_main_v12]
  have w0 : (Ideal.ofBits FTy.f32 0x461C4000#32 : EReal) = ((10000 : ℝ) : EReal) := by
    simp only [Ideal.ofBits, Ideal.ieee]; simp; rw [← EReal.coe_mul]; norm_num
  have w1 : (Ideal.ofBits FTy.f32 0x41800000#32 : EReal) = ((16 : ℝ) : EReal) := by
    simp only [Ideal.ofBits, Ideal.ieee]; simp; rw [← EReal.coe_mul]; norm_num
  have w2 : (-FloatOps.sitofp (F := Ideal) FTy.f32 (BitVec.ofNat 32 j.val) : EReal) = ((-((BitVec.ofNat 32 j.val).toInt : ℝ) : ℝ) : EReal) := (EReal.coe_neg _).symm
  rw [e, w0, w1, w2, Cert.Finite.div_real (by norm_num)]
  exact ⟨_, rfl⟩
theorem angle (s : Fin 2048) (j : Fin 32) : ∃ r : ℝ, (val_main_v28 (F := Ideal) : FVec Ideal S2048x32 .f32) (ix2 s j) = ((r : ℝ) : EReal) := by
  have h := freq
  have e : (val_main_v28 (F := Ideal) : FVec Ideal S2048x32 .f32) (ix2 s j)
      = if h : j.val < 16 then FloatOps.sitofp (F := Ideal) FTy.f32 (BitVec.ofNat 32 (s.val / 64)) * (val_main_v17 (F := Ideal) : FVec Ideal S16 .f32) (ix1 ⟨j.val, h⟩)
        else FloatOps.sitofp (F := Ideal) FTy.f32 (BitVec.ofNat 32 (s.val % 64)) * (val_main_v17 (F := Ideal) : FVec Ideal S16 .f32) (ix1 ⟨j.val - 16, by omega⟩) := by
    unfold val_main_v28 val_main_v22 val_main_v27 val_main_v21 val_main_v26 val_main_v19 val_main_v24
    generalize val_main_v17 (F := Ideal) = q
    pointwise [val_main_v20, val_main_v25, val_main_v18, val_main_v23, val_main_v9, val_main_v11, val_main_v8, val_main_v10, val_main_v6, val_main_v7, val_main_v4, val_main_v5]
  rw [e]
  by_cases hj : j.val < 16
  · obtain ⟨r, hr⟩ := h ⟨j.val, hj⟩
    rw [dif_pos hj, hr]
    exact ⟨_, (EReal.coe_mul _ _).symm⟩
  · obtain ⟨r, hr⟩ := h ⟨j.val - 16, by omega⟩
    rw [dif_neg hj, hr]
    exact ⟨_, (EReal.coe_mul _ _).symm⟩

/-- The cosines and sines as real numbers. -/
theorem tables : ∃ C S : ℕ → ℕ → ℝ, ∀ (s : Fin 2048) (j : Fin 32), Ideal.cos ((val_main_v28 (F := Ideal) : FVec Ideal S2048x32 .f32) (ix2 s j)) = ((C s.val j.val : ℝ) : EReal)
    ∧ Ideal.sin ((val_main_v28 (F := Ideal) : FVec Ideal S2048x32 .f32) (ix2 s j)) = ((S s.val j.val : ℝ) : EReal) := by
  choose r hr using angle
  refine ⟨fun s j => if h : s < 2048 ∧ j < 32 then Real.cos (r ⟨s, h.1⟩ ⟨j, h.2⟩) else 0, fun s j => if h : s < 2048 ∧ j < 32 then Real.sin (r ⟨s, h.1⟩ ⟨j, h.2⟩) else 0, fun s j => ?_⟩
  dsimp only
  rw [hr, dif_pos ⟨s.isLt, j.isLt⟩, dif_pos ⟨s.isLt, j.isLt⟩]
  exact ⟨Ideal.cos_coe _, Ideal.sin_coe _⟩

end Tables

section Host

open Cert.QkbKIdeal Cert.QkbKIdeal.Gen

variable (m : (ℓ : Loc nD τ sig) → Buf (Elt Ideal) ℓ) (c : Dev nD)

abbrev A0 : FVec Ideal S2x2048x2304 .f32 := m ⟨c, Proc.devRef .tc main_arg0⟩
abbrev A1 : FVec Ideal S64 .f32 := m ⟨c, Proc.devRef .tc main_arg1⟩
abbrev A2 : FVec Ideal S64 .f32 := m ⟨c, Proc.devRef .tc main_arg2⟩
abbrev A3 : FVec Ideal S2x2048x8x64 .f32 := m ⟨c, Proc.devRef .tc main_arg3⟩
abbrev A4 : FVec Ideal S2x2048x2x64 .f32 := m ⟨c, Proc.devRef .tc main_arg4⟩
def W24 : FVec Ideal S2048x32 .f32 := V m c main_v24
def W36 : FVec Ideal S64 .f32 := V m c main_v36
def W39 : FVec Ideal S2048x128 .f32 := V m c main_v39
def W45 : FVec Ideal S2048x128 .f32 := V m c main_v45
def W65 : FVec Ideal S128x128 .bf16 := V m c main_v65

theorem V24 : W24 m c = (Cert.QkbRIdeal.Read.val_main_v28 (F := Ideal) : FVec Ideal S2048x32 .f32) := by
  unfold W24 V; after_reads_simp <;> rfl
theorem V39 : W39 m c = (shapeCast _ (broadcastInDim S1x2048x2x64 ![0, 1, 2, 3] bcast_S1x2048x1x64_S1x2048x2x64_0_1_2_3 (shapeCast _ (shapeCast _ (broadcastInDim S2048x32x2 ![0, 1] bcast_S2048x32_S2048x32x2_0_1
    (Host.cos (W24 m c))) shapeCasts_S2048x32x2_S2048x64 : FVec Ideal S2048x64 .f32) shapeCasts_S2048x64_S1x2048x1x64 : FVec Ideal S1x2048x1x64 .f32)) shapeCasts_S1x2048x2x64_S2048x128 : FVec Ideal S2048x128 .f32) := by
  unfold W39 W24 V; after_reads_simp <;> rfl
theorem V45 : W45 m c = (shapeCast _ (broadcastInDim S1x2048x2x64 ![0, 1, 2, 3] bcast_S1x2048x1x64_S1x2048x2x64_0_1_2_3 (shapeCast _ (mulf (shapeCast _ (broadcastInDim S2048x32x2 ![0, 1] bcast_S2048x32_S2048x32x2_0_1
    (Host.sin (W24 m c))) shapeCasts_S2048x32x2_S2048x64 : FVec Ideal S2048x64 .f32) (broadcastInDim S2048x64 ![0, 1] bcast_S1x64_S2048x64_0_1 (broadcastInDim S1x64 ![1] bcast_S64_S1x64_1 (W36 m c))))
    shapeCasts_S2048x64_S1x2048x1x64 : FVec Ideal S1x2048x1x64 .f32)) shapeCasts_S1x2048x2x64_S2048x128 : FVec Ideal S2048x128 .f32) := by
  unfold W45 W24 W36 V; after_reads_simp <;> rfl

/-- The signs of the lanes, and which lanes lie in the same head. -/
def two : IVec S_ 32 := select (cmpi .eq (constantI S_ 32 2#32) (constantI S_ 32 0#32)) (constantI S_ 32 1#32) (constantI S_ 32 2#32)
def rem2 : IVec S64 32 := Host.remsi (iotaInDim S64 32 0) (broadcastInDim S64 ![] bcast_S_S64 two)
def even : IVec S64 1 :=
  cmpi .eq (select (andi (cmpi .ne (cmpi .slt rem2 (broadcastInDim S64 ![] bcast_S_S64 (constantI S_ 32 0#32))) (broadcastInDim S64 ![] bcast_S_S64 (cmpi .slt two (constantI S_ 32 0#32))))
    (cmpi .ne rem2 (broadcastInDim S64 ![] bcast_S_S64 (constantI S_ 32 0#32)))) (addi rem2 (broadcastInDim S64 ![] bcast_S_S64 two)) rem2)
    (broadcastInDim S64 ![] bcast_S_S64 (constantI S_ 32 0#32))
def quot : IVec S128 32 :=
  select (andi (cmpi .ne (signi (iotaInDim S128 32 0)) (broadcastInDim S128 ![] bcast_S_S128 (signi (constantI S_ 32 64#32))))
    (cmpi .ne (Host.remsi (iotaInDim S128 32 0) (broadcastInDim S128 ![] bcast_S_S128 (constantI S_ 32 64#32))) (broadcastInDim S128 ![] bcast_S_S128 (constantI S_ 32 0#32))))
    (subi (Host.divsi (iotaInDim S128 32 0) (broadcastInDim S128 ![] bcast_S_S128 (constantI S_ 32 64#32))) (broadcastInDim S128 ![] bcast_S_S128 (constantI S_ 32 1#32)))
    (Host.divsi (iotaInDim S128 32 0) (broadcastInDim S128 ![] bcast_S_S128 (constantI S_ 32 64#32)))
theorem V36 : W36 m c = (select even (broadcastInDim S64 ![] bcast_S_S64 (constant S_ .f32 0xBF800000#32 : FVec Ideal S_ .f32)) (broadcastInDim S64 ![] bcast_S_S64 (constant S_ .f32 0x3F800000#32 : FVec Ideal S_ .f32)) : FVec Ideal S64 .f32) := by
  unfold W36 V; after_reads_simp <;> rfl
theorem V65 : W65 m c = (uitofp .bf16 (cmpi .eq (broadcastInDim S128x128 ![0, 1] bcast_S128x1_S128x128_0_1 (broadcastInDim S128x1 ![0] bcast_S128_S128x1_0 quot))
    (broadcastInDim S128x128 ![0, 1] bcast_S1x128_S128x128_0_1 (broadcastInDim S1x128 ![1] bcast_S128_S1x128_1 quot))) : FVec Ideal S128x128 .bf16) := by
  unfold W65 V; after_reads_simp <;> rfl
theorem even_apply : ∀ e : Fin 64, even (ix1 e) = if e.val % 2 = 0 then 1#1 else 0#1 := by decide +kernel
theorem quot_apply : ∀ e : Fin 128, quot (ix1 e) = if e.val < 64 then 0#32 else 1#32 := by decide +kernel
theorem word_minus_one : (Ideal.ofBits FTy.f32 0xBF800000#32 : EReal) = ((-1 : ℝ) : EReal) := by
  simp only [Ideal.ofBits, Ideal.ieee]; simp; rw [← EReal.coe_mul]; norm_num
theorem word_one : (Ideal.ofBits FTy.f32 0x3F800000#32 : EReal) = ((1 : ℝ) : EReal) := by
  simp only [Ideal.ofBits, Ideal.ieee]; simp; rw [← EReal.coe_mul]; norm_num
theorem at36 (e : Fin 64) : W36 m c (ix1 e) = ((if e.val % 2 = 0 then -1 else 1 : ℝ) : EReal) := by
  have t : W36 m c (ix1 e) = Scalar.select (even (ix1 e)) (Ideal.ofBits FTy.f32 0xBF800000#32) (Ideal.ofBits FTy.f32 0x3F800000#32) := by
    rw [V36]
    generalize even = q
    pointwise
  rw [t, even_apply]
  by_cases h : e.val % 2 = 0
  · rw [if_pos h, if_pos h]; exact word_minus_one
  · rw [if_neg h, if_neg h]; exact word_one
theorem at65 (x l : Fin 128) : W65 m c (ix2 x l) = ((if x.val / 64 = l.val / 64 then 1 else 0 : ℝ) : EReal) := by
  have t : W65 m c (ix2 x l) = FloatOps.uitofp (F := Ideal) .bf16 (IntOp.cmpi CmpIPredicate.eq (quot (ix1 x)) (quot (ix1 l))) := by
    rw [V65]
    generalize quot = q
    pointwise
  have u1 : FloatOps.uitofp (F := Ideal) .bf16 (1#1) = ((1 : ℝ) : EReal) := congrArg (fun r : ℝ => (r : EReal)) (by simp)
  have u0 : FloatOps.uitofp (F := Ideal) .bf16 (0#1) = ((0 : ℝ) : EReal) := congrArg (fun r : ℝ => (r : EReal)) (by simp)
  rw [t, quot_apply, quot_apply]
  by_cases hx : x.val < 64 <;> by_cases hl : l.val < 64 <;> simp only [hx, hl, if_true, if_false]
  · rw [if_pos (by omega)]; exact u1
  · rw [if_neg (by omega)]; exact u0
  · rw [if_neg (by omega)]; exact u0
  · rw [if_pos (by omega)]; exact u1

theorem at39 (s : Fin 2048) (l : Fin 128) : W39 m c (ix2 s l) = Ideal.cos (W24 m c (ix2 s ⟨l.val % 64 / 2, by omega⟩)) := by
  rw [V39]
  generalize W24 m c = q
  pointwise
theorem at45 (s : Fin 2048) (l : Fin 128) : W45 m c (ix2 s l) = Ideal.sin (W24 m c (ix2 s ⟨l.val % 64 / 2, by omega⟩)) * W36 m c (ix1 ⟨l.val % 64, by omega⟩) := by
  rw [V45]
  generalize W24 m c = q
  generalize W36 m c = w
  pointwise

/-- The rows, the cotangents and the gains. -/
theorem V47 (j : S4096x2304.Idx) : V m c main_v47 j = A0 m c (ix3 ⟨(j 0).val / 2048, by have h : (j 0).val < 4096 := (j 0).isLt; omega⟩ ⟨(j 0).val % 2048, by omega⟩ (j 1)) := by
  unfold V; after_reads_simp
  pointwise
theorem V48 (j : S4096x512.Idx) : V m c main_v48 j = A3 m c (ix4 ⟨(j 0).val / 2048, by have h : (j 0).val < 4096 := (j 0).isLt; omega⟩ ⟨(j 0).val % 2048, by omega⟩
    ⟨(j 1).val / 64, by have h : (j 1).val < 512 := (j 1).isLt; omega⟩ ⟨(j 1).val % 64, by omega⟩) := by
  unfold V; after_reads_simp
  pointwise
theorem V49 (j : S4096x128.Idx) : V m c main_v49 j = A4 m c (ix4 ⟨(j 0).val / 2048, by have h : (j 0).val < 4096 := (j 0).isLt; omega⟩ ⟨(j 0).val % 2048, by omega⟩
    ⟨(j 1).val / 64, by have h : (j 1).val < 128 := (j 1).isLt; omega⟩ ⟨(j 1).val % 64, by omega⟩) := by
  unfold V; after_reads_simp
  pointwise
theorem V53 (j : S1x512.Idx) : V m c main_v53 j = A1 m c (ix1 ⟨(j 1).val % 64, by omega⟩) := by
  unfold V; after_reads_simp
  pointwise
theorem V57 (j : S1x128.Idx) : V m c main_v57 j = A2 m c (ix1 ⟨(j 1).val % 64, by omega⟩) := by
  unfold V; after_reads_simp
  pointwise

end Host

end Cert.Qkb
-- ==== Proof.QkbBlock.lean ====
/- Untrusted: what the body of the kernel of the query/key norm's gradient computes from its blocks, over the reals. -/
module

public import proofs.«01_k».proof.Proof.Gen.QkbKIdeal.Skeleton
public import proofs.«01_k».proof.Proof.Heads
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators
open Cert.Norm (ep word_ep)
open Cert.Heads

namespace Cert.Qkb

open Cert.QkbKIdeal Cert.QkbKIdeal.Gen

/-- Sums over the heads of 128 lanes, and the exchange of the lanes of a pair. -/
def HSV (o : FVec Ideal S128x128 .bf16) (y : FVec Ideal S512x128 .f32) : FVec Ideal S512x128 .f32 :=
  addf (matmul dot_S512x128_S128x128_S512x128_1_0_0_1_n_n none (truncf .bf16 y bitsLt_bf16_f32) o (constant S512x128 .f32 0x00000000#32))
    (matmul dot_S512x128_S128x128_S512x128_1_0_0_1_n_n none (truncf .bf16 (subf y (extf .f32 (truncf .bf16 y bitsLt_bf16_f32) bitsLt_bf16_f32)) bitsLt_bf16_f32) o
      (constant S512x128 .f32 0x00000000#32))
def evenLane : IVec S512x128 1 :=
  cmpi .eq (select (k0_pay33) (addi k0_pay32 k0_pay34) k0_pay32) (broadcast S512x128 0#32)
def SWV (y : FVec Ideal S512x128 .f32) : FVec Ideal S512x128 .f32 :=
  select evenLane (dynamicRotate 1 127#32 none y rotates_S512x128_d1) (dynamicRotate 1 1#32 none y rotates_S512x128_d1)

theorem HSV_apply (o : FVec Ideal S128x128 .bf16) (ho : ∀ x l : Fin 128, o (ix2 x l) = (((if x.val / 64 = l.val / 64 then 1 else 0 : ℝ)) : EReal))
    (y : FVec Ideal S512x128 .f32) (Y : Fin 512 → ℕ → ℝ) (n : ℕ) (hn : n % 128 = 0) (hy : ∀ a (l : Fin 128), y (ix2 a l) = ((Y a (n + l.val) : ℝ) : EReal)) (a : Fin 512) (l : Fin 128) :
    HSV o y (ix2 a l) = ((hs (Y a) (n + l.val) : ℝ) : EReal) := by
  rw [← hi_lo (Y a) n hn l (fun x => o (ix2 x l)) (fun x => ho x l)]
  simp only [← hy]
  pointwise [HSV]

theorem evenLane_apply (a : Fin 512) (l : Fin 128) : evenLane (ix2 a l) = if l.val % 2 = 0 then 1#1 else 0#1 := by
  have h : ∀ l : Fin 128, (evenLane (ix2 0 l)) = if l.val % 2 = 0 then 1#1 else 0#1 := by decide +kernel
  rw [← h]
  pointwise [evenLane, k0_pay32, k0_pay33, k0_pay34]

theorem SWV_apply (y : FVec Ideal S512x128 .f32) (Y : Fin 512 → ℕ → ℝ) (n : ℕ) (hn : n % 128 = 0) (hy : ∀ a (l : Fin 128), y (ix2 a l) = ((Y a (n + l.val) : ℝ) : EReal)) (a : Fin 512) (l : Fin 128) :
    SWV y (ix2 a l) = ((SW (Y a) (n + l.val) : ℝ) : EReal) := by
  have e : SWV y (ix2 a l) = Scalar.select (evenLane (ix2 a l)) (y (ix2 a ⟨(l.val + 128 - 127) % 128, by omega⟩)) (y (ix2 a ⟨(l.val + 128 - 1) % 128, by omega⟩)) := by
    pointwise [SWV]
  rw [e, evenLane_apply, hy, hy]
  unfold SW
  by_cases h : l.val % 2 = 0
  · rw [if_pos h, if_pos (by omega)]
    exact congrArg (fun i => ((Y a i : ℝ) : EReal)) (by simp only; omega)
  · rw [if_neg h, if_neg (by omega)]
    exact congrArg (fun i => ((Y a i : ℝ) : EReal)) (by simp only; omega)

/-- Four groups of 128 lanes side by side. -/
theorem cat4 (w0 w1 w2 w3 : FVec Ideal S512x128 .f32) (f : Fin 512 → ℕ → ℝ)
    (h0 : ∀ a (l : Fin 128), w0 (ix2 a l) = ((f a (0 + l.val) : ℝ) : EReal)) (h1 : ∀ a (l : Fin 128), w1 (ix2 a l) = ((f a (128 + l.val) : ℝ) : EReal))
    (h2 : ∀ a (l : Fin 128), w2 (ix2 a l) = ((f a (256 + l.val) : ℝ) : EReal)) (h3 : ∀ a (l : Fin 128), w3 (ix2 a l) = ((f a (384 + l.val) : ℝ) : EReal))
    (a : Fin 512) (l : Fin 512) :
    (concatenate S512x512 1 [⟨S512x128, w0⟩, ⟨S512x128, w1⟩, ⟨S512x128, w2⟩, ⟨S512x128, w3⟩] concatenates_S512x128_S512x128_S512x128_S512x128_S512x512_d1 : FVec Ideal S512x512 .f32) (ix2 a l)
      = ((f a l.val : ℝ) : EReal) := by
  have e : (concatenate S512x512 1 [⟨S512x128, w0⟩, ⟨S512x128, w1⟩, ⟨S512x128, w2⟩, ⟨S512x128, w3⟩] concatenates_S512x128_S512x128_S512x128_S512x128_S512x512_d1 : FVec Ideal S512x512 .f32) (ix2 a l)
      = if h : l.val < 128 then w0 (ix2 a ⟨l.val, h⟩) else if h1 : l.val - 128 < 128 then w1 (ix2 a ⟨l.val - 128, h1⟩)
        else if h2 : l.val - 128 - 128 < 128 then w2 (ix2 a ⟨l.val - 128 - 128, h2⟩) else w3 (ix2 a ⟨l.val - 128 - 128 - 128, by omega⟩) := by
    pointwise
  rw [e]
  split_ifs with h h' h''
  · rw [h0]; exact congrArg (fun i => ((f a i : ℝ) : EReal)) (by simp only; omega)
  · rw [h1]; exact congrArg (fun i => ((f a i : ℝ) : EReal)) (by simp only; omega)
  · rw [h2]; exact congrArg (fun i => ((f a i : ℝ) : EReal)) (by simp only; omega)
  · rw [h3]; exact congrArg (fun i => ((f a i : ℝ) : EReal)) (by simp only; omega)

/-- A group of 128 of the 512 lanes. -/
theorem cut0 (y : FVec Ideal S512x512 .f32) (a : Fin 512) (l : Fin 128) :
    (extractStridedSlice S512x128 ![0, 0] y slices_S512x512_o0_0_S512x128 : FVec Ideal S512x128 .f32) (ix2 a l) = y (ix2 a ⟨0 + l.val, by omega⟩) := by
  pointwise
theorem cut1 (y : FVec Ideal S512x512 .f32) (a : Fin 512) (l : Fin 128) :
    (extractStridedSlice S512x128 ![0, 128] y slices_S512x512_o0_128_S512x128 : FVec Ideal S512x128 .f32) (ix2 a l) = y (ix2 a ⟨128 + l.val, by omega⟩) := by
  pointwise
theorem cut2 (y : FVec Ideal S512x512 .f32) (a : Fin 512) (l : Fin 128) :
    (extractStridedSlice S512x128 ![0, 256] y slices_S512x512_o0_256_S512x128 : FVec Ideal S512x128 .f32) (ix2 a l) = y (ix2 a ⟨256 + l.val, by omega⟩) := by
  pointwise
theorem cut3 (y : FVec Ideal S512x512 .f32) (a : Fin 512) (l : Fin 128) :
    (extractStridedSlice S512x128 ![0, 384] y slices_S512x512_o0_384_S512x128 : FVec Ideal S512x128 .f32) (ix2 a l) = y (ix2 a ⟨384 + l.val, by omega⟩) := by
  pointwise

section Wide

variable (o : FVec Ideal S128x128 .bf16) (ho : ∀ x l : Fin 128, o (ix2 x l) = (((if x.val / 64 = l.val / 64 then 1 else 0 : ℝ)) : EReal))
include ho

/-- The sums over the heads of 512 lanes, and the exchange of their pairs. -/
theorem wide_sum (y : FVec Ideal S512x512 .f32) (Y : Fin 512 → ℕ → ℝ) (hy : ∀ a (l : Fin 512), y (ix2 a l) = ((Y a l.val : ℝ) : EReal)) (a : Fin 512) (l : Fin 512) :
    (concatenate S512x512 1 [⟨S512x128, HSV o (extractStridedSlice S512x128 ![0, 0] y slices_S512x512_o0_0_S512x128)⟩, ⟨S512x128, HSV o (extractStridedSlice S512x128 ![0, 128] y slices_S512x512_o0_128_S512x128)⟩,
      ⟨S512x128, HSV o (extractStridedSlice S512x128 ![0, 256] y slices_S512x512_o0_256_S512x128)⟩, ⟨S512x128, HSV o (extractStridedSlice S512x128 ![0, 384] y slices_S512x512_o0_384_S512x128)⟩]
      concatenates_S512x128_S512x128_S512x128_S512x128_S512x512_d1 : FVec Ideal S512x512 .f32) (ix2 a l) = ((hs (Y a) l.val : ℝ) : EReal) :=
  cat4 _ _ _ _ (fun a => hs (Y a))
    (HSV_apply o ho _ Y 0 (by decide) fun a l => (cut0 y a l).trans (hy a _)) (HSV_apply o ho _ Y 128 (by decide) fun a l => (cut1 y a l).trans (hy a _))
    (HSV_apply o ho _ Y 256 (by decide) fun a l => (cut2 y a l).trans (hy a _)) (HSV_apply o ho _ Y 384 (by decide) fun a l => (cut3 y a l).trans (hy a _)) a l
omit ho in
theorem wide_swap (y : FVec Ideal S512x512 .f32) (Y : Fin 512 → ℕ → ℝ) (hy : ∀ a (l : Fin 512), y (ix2 a l) = ((Y a l.val : ℝ) : EReal)) (a : Fin 512) (l : Fin 512) :
    (concatenate S512x512 1 [⟨S512x128, SWV (extractStridedSlice S512x128 ![0, 0] y slices_S512x512_o0_0_S512x128)⟩, ⟨S512x128, SWV (extractStridedSlice S512x128 ![0, 128] y slices_S512x512_o0_128_S512x128)⟩,
      ⟨S512x128, SWV (extractStridedSlice S512x128 ![0, 256] y slices_S512x512_o0_256_S512x128)⟩, ⟨S512x128, SWV (extractStridedSlice S512x128 ![0, 384] y slices_S512x512_o0_384_S512x128)⟩]
      concatenates_S512x128_S512x128_S512x128_S512x128_S512x512_d1 : FVec Ideal S512x512 .f32) (ix2 a l) = ((SW (Y a) l.val : ℝ) : EReal) :=
  cat4 _ _ _ _ (fun a => SW (Y a))
    (SWV_apply _ Y 0 (by decide) fun a l => (cut0 y a l).trans (hy a _)) (SWV_apply _ Y 128 (by decide) fun a l => (cut1 y a l).trans (hy a _))
    (SWV_apply _ Y 256 (by decide) fun a l => (cut2 y a l).trans (hy a _)) (SWV_apply _ Y 384 (by decide) fun a l => (cut3 y a l).trans (hy a _)) a l

variable (v2 : FVec Ideal S512x512 .bf16) (Y : Fin 512 → ℕ → ℝ)

theorem pay2 (x l : Fin 128) : (k0_pay2 (F := Ideal) o : FVec Ideal S128x128 .bf16) (ix2 x l) = (((if x.val / 64 = l.val / 64 then 1 else 0 : ℝ)) : EReal) := by
  rw [← ho]
  pointwise [k0_pay2]
/-- The inverse root mean square of each query head and the normalised rows. -/
theorem pay4 (h2 : ∀ a (l : Fin 512), v2 (ix2 a l) = ((Y a l.val : ℝ) : EReal)) (a l : Fin 512) : (k0_pay4 (F := Ideal) o v2 : FVec Ideal S512x512 .f32) (ix2 a l) = ((RS (Y a) l.val : ℝ) : EReal) := by
  have e3 : ∀ a (l : Fin 512), (mulf (k0_pay3 (F := Ideal) v2) (k0_pay3 (F := Ideal) v2) : FVec Ideal S512x512 .f32) (ix2 a l) = (((fun i => Y a i * Y a i) l.val : ℝ) : EReal) := fun a l => by
    rw [EReal.coe_mul, ← h2]
    pointwise [k0_pay3]
  rw [← rsqrt_VV]
  unfold VV
  rw [EReal.coe_add, ← word_ep, div_eq_mul_one_div, EReal.coe_mul, ← word_64th, ← wide_sum _ (pay2 o ho) _ (fun a i => Y a i * Y a i) e3 a l]
  rfl
theorem pay5 (h2 : ∀ a (l : Fin 512), v2 (ix2 a l) = ((Y a l.val : ℝ) : EReal)) (a l : Fin 512) : (k0_pay5 (F := Ideal) o v2 : FVec Ideal S512x512 .f32) (ix2 a l) = ((XH (Y a) l.val : ℝ) : EReal) := by
  unfold XH
  rw [EReal.coe_mul, ← h2, ← pay4 o ho v2 Y h2]
  unfold k0_pay5
  generalize k0_pay4 (F := Ideal) o v2 = q
  pointwise [k0_pay3]

variable (v45 : FVec Ideal S512x512 .f32) (v49 v53 : FVec Ideal S512x128 .f32) (D C S : Fin 512 → ℕ → ℝ)

omit ho in
/-- The cotangent times the cosines and times the signed sines. -/
theorem pay7 (hd : ∀ a (l : Fin 512), v45 (ix2 a l) * ((1 / 8 : ℝ) : EReal) = ((D a l.val : ℝ) : EReal)) (hc : ∀ a (l : Fin 128), v49 (ix2 a l) = ((C a (l.val % 64 / 2) : ℝ) : EReal)) (a l : Fin 512) :
    (k0_pay7 (F := Ideal) v45 v49 : FVec Ideal S512x512 .f32) (ix2 a l) = ((D a l.val * C a (l.val % 64 / 2) : ℝ) : EReal) := by
  have e : (k0_pay7 (F := Ideal) v45 v49 : FVec Ideal S512x512 .f32) (ix2 a l) = v45 (ix2 a l) * Ideal.ofBits FTy.f32 0x3E000000#32
      * (concatenate S512x512 1 [⟨S512x128, v49⟩, ⟨S512x128, v49⟩, ⟨S512x128, v49⟩, ⟨S512x128, v49⟩] concatenates_S512x128_S512x128_S512x128_S512x128_S512x512_d1 : FVec Ideal S512x512 .f32) (ix2 a l) := by
    pointwise [k0_pay7, k0_pay6]
  rw [e, word_8th, hd, EReal.coe_mul]
  refine congrArg (_ * ·) (cat4 _ _ _ _ (fun a i => C a (i % 64 / 2)) ?_ ?_ ?_ ?_ a l) <;>
    exact fun a l => (hc a l).trans (congrArg (fun i => ((C a i : ℝ) : EReal)) (by omega))
omit ho in
theorem pay8 (hd : ∀ a (l : Fin 512), v45 (ix2 a l) * ((1 / 8 : ℝ) : EReal) = ((D a l.val : ℝ) : EReal))
    (hs : ∀ a (l : Fin 128), v53 (ix2 a l) = (((if l.val % 2 = 0 then -1 else 1) * S a (l.val % 64 / 2) : ℝ) : EReal)) (a l : Fin 512) :
    (k0_pay8 (F := Ideal) v45 v53 : FVec Ideal S512x512 .f32) (ix2 a l) = ((D a l.val * ((if l.val % 2 = 0 then -1 else 1) * S a (l.val % 64 / 2)) : ℝ) : EReal) := by
  have e : (k0_pay8 (F := Ideal) v45 v53 : FVec Ideal S512x512 .f32) (ix2 a l) = v45 (ix2 a l) * Ideal.ofBits FTy.f32 0x3E000000#32
      * (concatenate S512x512 1 [⟨S512x128, v53⟩, ⟨S512x128, v53⟩, ⟨S512x128, v53⟩, ⟨S512x128, v53⟩] concatenates_S512x128_S512x128_S512x128_S512x128_S512x512_d1 : FVec Ideal S512x512 .f32) (ix2 a l) := by
    pointwise [k0_pay8, k0_pay6]
  rw [e, word_8th, hd, EReal.coe_mul]
  refine congrArg (_ * ·) (cat4 _ _ _ _ (fun a i => (if i % 2 = 0 then -1 else 1) * S a (i % 64 / 2)) ?_ ?_ ?_ ?_ a l) <;>
    exact fun a l => (hs a l).trans (congrArg (fun i : ℝ => (i : EReal)) (by congr 2 <;> first | omega | (congr 1; omega) | skip))

/-- The cotangent of the rotated queries taken back through the rotation. -/
def q15 (v45 : FVec Ideal S512x512 .f32) (v49 v53 : FVec Ideal S512x128 .f32) : FVec Ideal S512x512 .f32 :=
  k0_pay15 (F := Ideal) (k0_pay7 v45 v49) (k0_pay9 v45 v53) (k0_pay12 (k0_pay10 v45 v53) (Scalar.select (Scalar.cmpi .eq 2#32 0#32) 1#32 2#32) k0_pay11) (k0_pay13 (k0_pay8 v45 v53))
    (k0_pay14 (k0_pay8 v45 v53)) (iota .tc S512x128 32 [1] iota_S512x128_d1_w32) 2#32 (Scalar.cmpi .eq 2#32 0#32)
omit ho in
theorem q15_apply (hd : ∀ a (l : Fin 512), v45 (ix2 a l) * ((1 / 8 : ℝ) : EReal) = ((D a l.val : ℝ) : EReal)) (hc : ∀ a (l : Fin 128), v49 (ix2 a l) = ((C a (l.val % 64 / 2) : ℝ) : EReal))
    (hs : ∀ a (l : Fin 128), v53 (ix2 a l) = (((if l.val % 2 = 0 then -1 else 1) * S a (l.val % 64 / 2) : ℝ) : EReal)) (a l : Fin 512) :
    q15 v45 v49 v53 (ix2 a l) = ((DR (D a) (C a) (S a) l.val : ℝ) : EReal) := by
  rw [← DR_eq, EReal.coe_add, ← pay7 v45 v49 D C hd hc,
    ← wide_swap _ (fun a i => D a i * ((if i % 2 = 0 then -1 else 1) * S a (i % 64 / 2))) (pay8 v45 v53 D S hd hs) a l]
  rfl

variable (v151 : FVec Ideal S1x512 .f32) (v44 w : FVec Ideal S512x512 .f32) (g : ℕ → ℝ)

/-- The same with the gain, and with the normalised row; and what the two give when taken back through the norm. -/
def q16 (w : FVec Ideal S512x512 .f32) (v151 : FVec Ideal S1x512 .f32) : FVec Ideal S512x512 .f32 :=
  mulf w (broadcastTo S512x512 (shapeCast S1x512 v151 shapeCasts_S1x512_S1x512) broadcasts_S1x512_S512x512)
def q23 (o : FVec Ideal S128x128 .bf16) (v43 v44 v154 : FVec Ideal S512x512 .f32) : FVec Ideal S512x512 .bf16 :=
  k0_pay23 (F := Ideal) o v43 v44 v154 (mulf v154 v44)
    (HSV o (extractStridedSlice S512x128 ![0, 0] (mulf v154 v44) slices_S512x512_o0_0_S512x128))
    (HSV o (extractStridedSlice S512x128 ![0, 128] (mulf v154 v44) slices_S512x512_o0_128_S512x128))
    (truncf .bf16 (extractStridedSlice S512x128 ![0, 256] (mulf v154 v44) slices_S512x512_o0_256_S512x128) bitsLt_bf16_f32)
    (subf (extractStridedSlice S512x128 ![0, 256] (mulf v154 v44) slices_S512x512_o0_256_S512x128)
      (extf .f32 (truncf .bf16 (extractStridedSlice S512x128 ![0, 256] (mulf v154 v44) slices_S512x512_o0_256_S512x128) bitsLt_bf16_f32) bitsLt_bf16_f32))

omit ho in
theorem q16_apply (hw : ∀ a (l : Fin 512), w (ix2 a l) = ((DR (D a) (C a) (S a) l.val : ℝ) : EReal)) (hg : ∀ l : Fin 512, v151 (ix2 0 l) = ((g (l.val % 64) : ℝ) : EReal)) (a l : Fin 512) :
    q16 w v151 (ix2 a l) = ((GX (D a) (C a) (S a) g l.val : ℝ) : EReal) := by
  unfold GX
  rw [EReal.coe_mul, ← hw, ← hg]
  pointwise [q16]

theorem q23_apply (v43 v154 : FVec Ideal S512x512 .f32) (h43 : ∀ a (l : Fin 512), v43 (ix2 a l) = ((RS (Y a) l.val : ℝ) : EReal)) (h44 : ∀ a (l : Fin 512), v44 (ix2 a l) = ((XH (Y a) l.val : ℝ) : EReal))
    (hx : ∀ a (l : Fin 512), v154 (ix2 a l) = ((GX (D a) (C a) (S a) g l.val : ℝ) : EReal)) (a l : Fin 512) :
    q23 o v43 v44 v154 (ix2 a l) = ((OUT (Y a) (D a) (C a) (S a) g l.val : ℝ) : EReal) := by
  have e3 : ∀ a (l : Fin 512), (mulf v154 v44 : FVec Ideal S512x512 .f32) (ix2 a l) = (((fun i => GX (D a) (C a) (S a) g i * XH (Y a) i) l.val : ℝ) : EReal) := fun a l => by
    rw [EReal.coe_mul, ← hx, ← h44]
    pointwise
  unfold OUT
  rw [EReal.coe_mul, EReal.coe_sub, EReal.coe_mul, div_eq_mul_one_div, EReal.coe_mul, ← word_64th, ← h43, ← h44, ← hx,
    ← wide_sum o ho _ (fun a i => GX (D a) (C a) (S a) g i * XH (Y a) i) e3 a l]
  rfl

omit ho in
/-- The rows' part of the gradient of the queries' gain: summed over the rows and then over the heads. -/
theorem pay24 (hw : ∀ a (l : Fin 512), w (ix2 a l) = ((DR (D a) (C a) (S a) l.val : ℝ) : EReal)) (h44 : ∀ a (l : Fin 512), v44 (ix2 a l) = ((XH (Y a) l.val : ℝ) : EReal)) (e : Fin 64) :
    (k0_pay24 (F := Ideal) v44 w : FVec Ideal S1x64 .f32) (ix2 0 e)
      = ((∑ h : Fin 8, ∑ a : Fin 512, DR (D a) (C a) (S a) (h.val * 64 + e.val) * XH (Y a) (h.val * 64 + e.val) : ℝ) : EReal) := by
  have t : (k0_pay24 (F := Ideal) v44 w : FVec Ideal S1x64 .f32) (ix2 0 e) = ∑ h : Fin 8, ∑ a : Fin 512, w (ix2 a ⟨h.val * 64 + e.val, by omega⟩) * v44 (ix2 a ⟨h.val * 64 + e.val, by omega⟩) := by
    rw [Fin.sum_univ_eight]
    pointwise [k0_pay24]
  rw [t]
  simp only [hw, h44, ← EReal.coe_mul, Cert.Finite.coe_sum]
omit ho in
theorem pay25 (v301 : FVec Ideal S1x64 .f32) (e : Fin 64) :
    (k0_pay25 (F := Ideal) v44 w v301 : FVec Ideal S1x64 .f32) (ix2 0 e) = v301 (ix2 0 e) + (k0_pay24 (F := Ideal) v44 w : FVec Ideal S1x64 .f32) (ix2 0 e) := by
  unfold k0_pay25
  generalize k0_pay24 (F := Ideal) v44 w = q
  pointwise

end Wide

section Narrow

variable (o : FVec Ideal S128x128 .bf16) (ho : ∀ x l : Fin 128, o (ix2 x l) = (((if x.val / 64 = l.val / 64 then 1 else 0 : ℝ)) : EReal))
variable (v220 : FVec Ideal S512x128 .bf16) (Y : Fin 512 → ℕ → ℝ)
include ho

theorem narrow_sum (y : FVec Ideal S512x128 .f32) (Y : Fin 512 → ℕ → ℝ) (hy : ∀ a (l : Fin 128), y (ix2 a l) = ((Y a l.val : ℝ) : EReal)) (a : Fin 512) (l : Fin 128) :
    HSV o y (ix2 a l) = ((hs (Y a) l.val : ℝ) : EReal) :=
  (HSV_apply o ho y Y 0 (by decide) (fun a l => (hy a l).trans (by rw [zero_add])) a l).trans (by rw [zero_add])

/-- The same for the keys: the inverse root mean square, the normalised rows, the cotangent taken back through the rotation and through the norm. -/
theorem pay27 (h2 : ∀ a (l : Fin 128), v220 (ix2 a l) = ((Y a l.val : ℝ) : EReal)) (a : Fin 512) (l : Fin 128) : (k0_pay27 (F := Ideal) o v220 : FVec Ideal S512x128 .f32) (ix2 a l) = ((RS (Y a) l.val : ℝ) : EReal) := by
  have e3 : ∀ a (l : Fin 128), (mulf (k0_pay26 (F := Ideal) v220) (k0_pay26 (F := Ideal) v220) : FVec Ideal S512x128 .f32) (ix2 a l) = (((fun i => Y a i * Y a i) l.val : ℝ) : EReal) := fun a l => by
    rw [EReal.coe_mul, ← h2]
    pointwise [k0_pay26]
  rw [← rsqrt_VV]
  unfold VV
  rw [EReal.coe_add, ← word_ep, div_eq_mul_one_div, EReal.coe_mul, ← word_64th, ← narrow_sum o ho _ (fun a i => Y a i * Y a i) e3 a l]
  rfl
theorem pay28 (h2 : ∀ a (l : Fin 128), v220 (ix2 a l) = ((Y a l.val : ℝ) : EReal)) (a : Fin 512) (l : Fin 128) : (k0_pay28 (F := Ideal) o v220 : FVec Ideal S512x128 .f32) (ix2 a l) = ((XH (Y a) l.val : ℝ) : EReal) := by
  unfold XH
  rw [EReal.coe_mul, ← h2, ← pay27 o ho v220 Y h2]
  unfold k0_pay28
  generalize k0_pay27 (F := Ideal) o v220 = q
  pointwise [k0_pay26]

variable (v237 v241 v244 : FVec Ideal S512x128 .f32) (D C S : Fin 512 → ℕ → ℝ)

def k35 (v237 v241 v244 : FVec Ideal S512x128 .f32) : FVec Ideal S512x128 .f32 :=
  k0_pay35 (F := Ideal) (k0_pay30 v237 v241) (k0_pay31 v237 v244) k0_pay32 k0_pay33 k0_pay34
omit ho in
theorem k35_apply (hd : ∀ a (l : Fin 128), v237 (ix2 a l) = ((D a l.val : ℝ) : EReal)) (hc : ∀ a (l : Fin 128), v241 (ix2 a l) = ((C a (l.val % 64 / 2) : ℝ) : EReal))
    (hs : ∀ a (l : Fin 128), v244 (ix2 a l) = (((if l.val % 2 = 0 then -1 else 1) * S a (l.val % 64 / 2) : ℝ) : EReal)) (a : Fin 512) (l : Fin 128) :
    k35 v237 v241 v244 (ix2 a l) = ((DR (D a) (C a) (S a) l.val : ℝ) : EReal) := by
  have e30 : (k0_pay30 (F := Ideal) v237 v241 : FVec Ideal S512x128 .f32) (ix2 a l) = v237 (ix2 a l) * v241 (ix2 a l) := by pointwise [k0_pay30, k0_pay29]
  have e31 : ∀ a (l : Fin 128), (k0_pay31 (F := Ideal) v237 v244 : FVec Ideal S512x128 .f32) (ix2 a l) = (((fun i => D a i * ((if i % 2 = 0 then -1 else 1) * S a (i % 64 / 2))) (0 + l.val) : ℝ) : EReal) := fun a l => by
    rw [zero_add, EReal.coe_mul, ← hd, ← hs]
    pointwise [k0_pay31, k0_pay29]
  have e := SWV_apply _ (fun a i => D a i * ((if i % 2 = 0 then -1 else 1) * S a (i % 64 / 2))) 0 (by decide) e31 a l
  rw [zero_add] at e
  rw [← DR_eq, EReal.coe_add, ← e, EReal.coe_mul, ← hd, ← hc, ← e30]
  rfl

variable (v270 : FVec Ideal S1x128 .f32) (v236 : FVec Ideal S512x128 .f32) (g : ℕ → ℝ)

def k36 (o : FVec Ideal S128x128 .bf16) (v235 v236 v237 v241 v244 : FVec Ideal S512x128 .f32) (v270 : FVec Ideal S1x128 .f32) : FVec Ideal S512x128 .bf16 :=
  k0_pay36 (F := Ideal) o v235 v236 (k0_pay30 v237 v241) (k0_pay31 v237 v244) k0_pay32 k0_pay33 k0_pay34 v270
theorem k36_apply (v235 : FVec Ideal S512x128 .f32) (hw : ∀ a (l : Fin 128), k35 v237 v241 v244 (ix2 a l) = ((DR (D a) (C a) (S a) l.val : ℝ) : EReal))
    (h35 : ∀ a (l : Fin 128), v235 (ix2 a l) = ((RS (Y a) l.val : ℝ) : EReal)) (h36 : ∀ a (l : Fin 128), v236 (ix2 a l) = ((XH (Y a) l.val : ℝ) : EReal))
    (hg : ∀ l : Fin 128, v270 (ix2 0 l) = ((g (l.val % 64) : ℝ) : EReal)) (a : Fin 512) (l : Fin 128) :
    k36 o v235 v236 v237 v241 v244 v270 (ix2 a l) = ((OUT (Y a) (D a) (C a) (S a) g l.val : ℝ) : EReal) := by
  have e2 : ∀ a (l : Fin 128), (mulf (k35 v237 v241 v244) (broadcastTo S512x128 (shapeCast S1x128 v270 shapeCasts_S1x128_S1x128) broadcasts_S1x128_S512x128) : FVec Ideal S512x128 .f32) (ix2 a l)
      = ((GX (D a) (C a) (S a) g l.val : ℝ) : EReal) := fun a l => by
    unfold GX
    rw [EReal.coe_mul, ← hw, ← hg]
    generalize k35 v237 v241 v244 = q
    pointwise
  have e3 : ∀ a (l : Fin 128), (mulf (mulf (k35 v237 v241 v244) (broadcastTo S512x128 (shapeCast S1x128 v270 shapeCasts_S1x128_S1x128) broadcasts_S1x128_S512x128)) v236 : FVec Ideal S512x128 .f32) (ix2 a l)
      = (((fun i => GX (D a) (C a) (S a) g i * XH (Y a) i) l.val : ℝ) : EReal) := fun a l => by
    rw [EReal.coe_mul, ← e2, ← h36]
    rfl
  unfold OUT
  rw [EReal.coe_mul, EReal.coe_sub, EReal.coe_mul, div_eq_mul_one_div, EReal.coe_mul, ← word_64th, ← h35, ← h36, ← e2,
    ← narrow_sum o ho _ (fun a i => GX (D a) (C a) (S a) g i * XH (Y a) i) e3 a l]
  rfl

omit ho in
theorem pay37 (hw : ∀ a (l : Fin 128), k35 v237 v241 v244 (ix2 a l) = ((DR (D a) (C a) (S a) l.val : ℝ) : EReal)) (h36 : ∀ a (l : Fin 128), v236 (ix2 a l) = ((XH (Y a) l.val : ℝ) : EReal)) (e : Fin 64) :
    (k0_pay37 (F := Ideal) v236 (k0_pay30 v237 v241) (k0_pay31 v237 v244) k0_pay32 k0_pay33 k0_pay34 : FVec Ideal S1x64 .f32) (ix2 0 e)
      = ((∑ h : Fin 2, ∑ a : Fin 512, DR (D a) (C a) (S a) (h.val * 64 + e.val) * XH (Y a) (h.val * 64 + e.val) : ℝ) : EReal) := by
  have t : (k0_pay37 (F := Ideal) v236 (k0_pay30 v237 v241) (k0_pay31 v237 v244) k0_pay32 k0_pay33 k0_pay34 : FVec Ideal S1x64 .f32) (ix2 0 e)
      = ∑ h : Fin 2, ∑ a : Fin 512, k35 v237 v241 v244 (ix2 a ⟨h.val * 64 + e.val, by omega⟩) * v236 (ix2 a ⟨h.val * 64 + e.val, by omega⟩) := by
    rw [Fin.sum_univ_two]
    unfold k0_pay37
    rw [show k0_pay35 (F := Ideal) (k0_pay30 v237 v241) (k0_pay31 v237 v244) k0_pay32 k0_pay33 k0_pay34 = k35 v237 v241 v244 from rfl]
    generalize k35 v237 v241 v244 = q
    pointwise
  rw [t]
  simp only [hw, h36, ← EReal.coe_mul, Cert.Finite.coe_sum]
omit ho in
theorem pay1 (p q : FVec Ideal S1x64 .f32) (e : Fin 64) : (k0_pay1 (F := Ideal) q p : FVec Ideal S1x64 .f32) (ix2 0 e) = p (ix2 0 e) + q (ix2 0 e) := by
  pointwise [k0_pay1]

end Narrow

end Cert.Qkb
-- ==== Proof.Qkb.lean ====
/- Untrusted: the values of the kernel that takes the rotation's cotangent back through the query/key norm. -/
module

public import proofs.«01_k».proof.Proof.QkbHost
public import proofs.«01_k».proof.Proof.QkbBlock

@[expose] public section

set_option maxRecDepth 16384

noncomputable section

open Idealize.ShloMosaic Idealize.ShloMosaic.TcCoe Idealize.SL.Sem
open Idealize.ShloMosaic.Pipeline (Dat)
open scoped BigOperators
open Cert.Heads

namespace Cert.Qkb

section Kernel

open Cert.QkbKIdeal Cert.QkbKIdeal.Gen

theorem idx_val : ∀ t : Fin grid0.N, win0_0.index t = ![t.val, 3] ∧ win0_1.index t = ![t.val, 16] ∧ win0_2.index t = ![0, 0] ∧ win0_3.index t = ![0, 0]
    ∧ win0_4.index t = ![t.val % 4, 0] ∧ win0_5.index t = ![t.val % 4, 0] ∧ win0_6.index t = ![0, 0] ∧ win0_7.index t = ![t.val, 0] ∧ win0_8.index t = ![t.val, 0]
    ∧ win0_9.index t = ![t.val, 0] ∧ win0_10.index t = ![t.val, 0] ∧ win0_11.index t = ![0, 0] ∧ win0_12.index t = ![0, 0] :=
  (by decide +kernel : ∀ t : Fin grid0.N, _)

theorem N_8 : cfg0.N = 8 := by decide +kernel

variable (m : (ℓ : Loc nD τ sig) → Buf (Elt Ideal) ℓ) (c : Dev nD)

/-- The flattened row of row `a` of point `t`'s blocks, and the batch and position of a flattened row. -/
abbrev pr (t : Fin cfg0.N) (a : Fin 512) : Fin 4096 := ⟨t.val * 512 + a.val, by have := lt_of_lt_of_eq t.isLt N_8; omega⟩
abbrev bi (r : Fin 4096) : Fin 2 := ⟨r.val / 2048, by omega⟩
abbrev si (r : Fin 4096) : Fin 2048 := ⟨r.val % 2048, by omega⟩

theorem emb0 (t : Fin cfg0.N) (u : ((cfg0.win 0).xblock (cfg0.grid.coords t)).Idx) :
    ((((cfg0.win 0).blk t).view.emb u : S4096x2304.Idx) 0).val = t.val * 512 + (u 0).val ∧ ((((cfg0.win 0).blk t).view.emb u : S4096x2304.Idx) 1).val = 1536 + (u 1).val := by
  have e : ∀ x, win0_0.index t x = (![t.val, 3] : Fin 2 → ℕ) x := fun x => congrFun (idx_val t).1 x
  constructor
  · refine Eq.trans (b := win0_0.index t 0 * 512 + 1 * (u 0).val) rfl ?_
    rw [e 0, one_mul]; rfl
  · refine Eq.trans (b := win0_0.index t 1 * 512 + 1 * (u 1).val) rfl ?_
    rw [e 1, one_mul]; rfl
theorem blk0 (t : Fin cfg0.N) (a l : Fin 512) : (X0_0 m c t : FVec Ideal S512x512 .bf16) (ix2 a l) = A0 m c (ix3 (bi (pr t a)) (si (pr t a)) ⟨1536 + l.val, by omega⟩) := by
  unfold X0_0 Pipeline.Window.fill
  rw [dif_pos (moved0_0 t _)]
  unfold iblk
  rw [View.read_apply, cast_eq]
  exact (congrArg (V m c main_v47 : FVec Ideal S4096x2304 .bf16) (Cert.Finite.ext2 (x := pr t a) (y := (⟨1536 + l.val, by omega⟩ : Fin 2304)) (emb0 t _).1 (emb0 t _).2)).trans (V47 m c _)
theorem blk1 (t : Fin cfg0.N) (a : Fin 512) (l : Fin 128) : (iblk m c 1 t : FVec Ideal S512x128 .bf16) (ix2 a l) = A0 m c (ix3 (bi (pr t a)) (si (pr t a)) ⟨2048 + l.val, by omega⟩) := by
  have e : (((cfg0.win 1).blk t).view.emb (ix2 a l) : S4096x2304.Idx) = ix2 (pr t a) (⟨2048 + l.val, by omega⟩ : Fin 2304) :=
    Cert.Finite.ext2 (by blk_simp [idx_val t]) (by blk_simp [idx_val t])
  unfold iblk
  rw [View.read_apply, cast_eq]
  exact (congrArg (V m c main_v47 : FVec Ideal S4096x2304 .bf16) e).trans (V47 m c _)
theorem blk2 (t : Fin cfg0.N) (l : Fin 512) : (iblk m c 2 t : FVec Ideal S1x512 .f32) (ix2 0 l) = A1 m c (ix1 ⟨l.val % 64, by omega⟩) := by
  have e : (((cfg0.win 2).blk t).view.emb (ix2 0 l) : S1x512.Idx) = ix2 0 l := Cert.Finite.ext2 (by blk_simp [idx_val t]) (by blk_simp [idx_val t])
  unfold iblk
  rw [View.read_apply, cast_eq]
  exact (congrArg (V m c main_v53 : FVec Ideal S1x512 .f32) e).trans (V53 m c _)
theorem blk3 (t : Fin cfg0.N) (l : Fin 128) : (iblk m c 3 t : FVec Ideal S1x128 .f32) (ix2 0 l) = A2 m c (ix1 ⟨l.val % 64, by omega⟩) := by
  have e : (((cfg0.win 3).blk t).view.emb (ix2 0 l) : S1x128.Idx) = ix2 0 l := Cert.Finite.ext2 (by blk_simp [idx_val t]) (by blk_simp [idx_val t])
  unfold iblk
  rw [View.read_apply, cast_eq]
  exact (congrArg (V m c main_v57 : FVec Ideal S1x128 .f32) e).trans (V57 m c _)
/-- The positions of a block of the tables are its rows' positions. -/
theorem pos (t : Fin cfg0.N) (a : Fin 512) : (si (pr t a)).val = t.val % 4 * 512 + a.val := by
  have := lt_of_lt_of_eq t.isLt N_8
  simp only; omega
theorem blk4 (t : Fin cfg0.N) (a : Fin 512) (l : Fin 128) : (iblk m c 4 t : FVec Ideal S512x128 .f32) (ix2 a l) = W39 m c (ix2 (si (pr t a)) l) := by
  have e : (((cfg0.win 4).blk t).view.emb (ix2 a l) : S2048x128.Idx) = ix2 (si (pr t a)) l :=
    Cert.Finite.ext2 ((by blk_simp [idx_val t] : _ = t.val % 4 * 512 + a.val).trans (pos t a).symm) (by blk_simp [idx_val t])
  unfold iblk
  rw [View.read_apply, cast_eq]
  exact congrArg (W39 m c) e
theorem blk5 (t : Fin cfg0.N) (a : Fin 512) (l : Fin 128) : (iblk m c 5 t : FVec Ideal S512x128 .f32) (ix2 a l) = W45 m c (ix2 (si (pr t a)) l) := by
  have e : (((cfg0.win 5).blk t).view.emb (ix2 a l) : S2048x128.Idx) = ix2 (si (pr t a)) l :=
    Cert.Finite.ext2 ((by blk_simp [idx_val t] : _ = t.val % 4 * 512 + a.val).trans (pos t a).symm) (by blk_simp [idx_val t])
  unfold iblk
  rw [View.read_apply, cast_eq]
  exact congrArg (W45 m c) e
theorem blk6 (t : Fin cfg0.N) (x l : Fin 128) : (iblk m c 6 t : FVec Ideal S128x128 .bf16) (ix2 x l) = W65 m c (ix2 x l) := by
  have e : (((cfg0.win 6).blk t).view.emb (ix2 x l) : S128x128.Idx) = ix2 x l := Cert.Finite.ext2 (by blk_simp [idx_val t]) (by blk_simp [idx_val t])
  unfold iblk
  rw [View.read_apply, cast_eq]
  exact congrArg (W65 m c) e
theorem blk7 (t : Fin cfg0.N) (a : Fin 512) (l : Fin 512) : (iblk m c 7 t : FVec Ideal S512x512 .f32) (ix2 a l)
    = A3 m c (ix4 (bi (pr t a)) (si (pr t a)) ⟨l.val / 64, by omega⟩ ⟨l.val % 64, by omega⟩) := by
  have e : (((cfg0.win 7).blk t).view.emb (ix2 a l) : S4096x512.Idx) = ix2 (pr t a) l := Cert.Finite.ext2 (by blk_simp [idx_val t]) (by blk_simp [idx_val t])
  unfold iblk
  rw [View.read_apply, cast_eq]
  exact (congrArg (V m c main_v48 : FVec Ideal S4096x512 .f32) e).trans (V48 m c _)
theorem blk8 (t : Fin cfg0.N) (a : Fin 512) (l : Fin 128) : (iblk m c 8 t : FVec Ideal S512x128 .f32) (ix2 a l)
    = A4 m c (ix4 (bi (pr t a)) (si (pr t a)) ⟨l.val / 64, by omega⟩ ⟨l.val % 64, by omega⟩) := by
  have e : (((cfg0.win 8).blk t).view.emb (ix2 a l) : S4096x128.Idx) = ix2 (pr t a) l := Cert.Finite.ext2 (by blk_simp [idx_val t]) (by blk_simp [idx_val t])
  unfold iblk
  rw [View.read_apply, cast_eq]
  exact (congrArg (V m c main_v49 : FVec Ideal S4096x128 .f32) e).trans (V49 m c _)

/-- The blocks read at a point. -/
abbrev B0 (t : Fin cfg0.N) : FVec Ideal S512x512 .bf16 := X0_0 m c t
abbrev B1 (t : Fin cfg0.N) : FVec Ideal S512x128 .bf16 := iblk m c 1 t
abbrev B2 (t : Fin cfg0.N) : FVec Ideal S1x512 .f32 := iblk m c 2 t
abbrev B3 (t : Fin cfg0.N) : FVec Ideal S1x128 .f32 := iblk m c 3 t
abbrev B4 (t : Fin cfg0.N) : FVec Ideal S512x128 .f32 := iblk m c 4 t
abbrev B5 (t : Fin cfg0.N) : FVec Ideal S512x128 .f32 := iblk m c 5 t
abbrev B6 (t : Fin cfg0.N) : FVec Ideal S128x128 .bf16 := iblk m c 6 t
abbrev B7 (t : Fin cfg0.N) : FVec Ideal S512x512 .f32 := iblk m c 7 t
abbrev B8 (t : Fin cfg0.N) : FVec Ideal S512x128 .f32 := iblk m c 8 t

variable (X : Fin 2 → Fin 2048 → ℕ → ℝ) (g gk : ℕ → ℝ) (Q K : Fin 2 → Fin 2048 → ℕ → ℝ) (C S : ℕ → ℕ → ℝ)

/-- The rows that the norm reads and the cotangents that the rotation gets, by flattened row. -/
def yq (r : Fin 4096) (l : ℕ) : ℝ := X (bi r) (si r) (1536 + l)
def yk (r : Fin 4096) (l : ℕ) : ℝ := X (bi r) (si r) (2048 + l)
def dq (r : Fin 4096) (l : ℕ) : ℝ := Q (bi r) (si r) l * (1 / 8)
def dk (r : Fin 4096) (l : ℕ) : ℝ := K (bi r) (si r) l

/-- The gradients of the rows, and of the gains: sums over all rows and heads. -/
def TQ : FVec Ideal S4096x512 .bf16 := fun i => ((OUT (yq X (i 0)) (dq Q (i 0)) (C (si (i 0))) (S (si (i 0))) g (i 1).val : ℝ) : EReal)
def TK : FVec Ideal S4096x128 .bf16 := fun i => ((OUT (yk X (i 0)) (dk K (i 0)) (C (si (i 0))) (S (si (i 0))) gk (i 1).val : ℝ) : EReal)
def gq (l : ℕ) (r : Fin 4096) : ℝ := ∑ h : Fin 8, DR (dq Q r) (C (si r)) (S (si r)) (h.val * 64 + l) * XH (yq X r) (h.val * 64 + l)
def gkk (l : ℕ) (r : Fin 4096) : ℝ := ∑ h : Fin 2, DR (dk K r) (C (si r)) (S (si r)) (h.val * 64 + l) * XH (yk X r) (h.val * 64 + l)
def TGQ : FVec Ideal S1x64 .f32 := fun i => ((∑ r : Fin 4096, gq X Q C S (i 1).val r : ℝ) : EReal)
def TGK : FVec Ideal S1x64 .f32 := fun i => ((∑ r : Fin 4096, gkk X K C S (i 1).val r : ℝ) : EReal)

variable (h0 : ∀ b s (k : Fin 2304), A0 m c (ix3 b s k) = ((X b s k.val : ℝ) : EReal))
  (h1 : ∀ e : Fin 64, A1 m c (ix1 e) = ((g e.val : ℝ) : EReal)) (h2 : ∀ e : Fin 64, A2 m c (ix1 e) = ((gk e.val : ℝ) : EReal))
  (h3 : ∀ b s (h : Fin 8) (e : Fin 64), A3 m c (ix4 b s h e) = ((Q b s (h.val * 64 + e.val) : ℝ) : EReal))
  (h4 : ∀ b s (h : Fin 2) (e : Fin 64), A4 m c (ix4 b s h e) = ((K b s (h.val * 64 + e.val) : ℝ) : EReal))
  (hcs : ∀ (s : Fin 2048) (j : Fin 32), Ideal.cos ((Cert.QkbRIdeal.Read.val_main_v28 (F := Ideal) : FVec Ideal S2048x32 .f32) (ix2 s j)) = ((C s.val j.val : ℝ) : EReal)
    ∧ Ideal.sin ((Cert.QkbRIdeal.Read.val_main_v28 (F := Ideal) : FVec Ideal S2048x32 .f32) (ix2 s j)) = ((S s.val j.val : ℝ) : EReal))

section Blocks0
include h0
theorem r0 (t : Fin cfg0.N) (a l : Fin 512) : B0 m c t (ix2 a l) = ((yq X (pr t a) l.val : ℝ) : EReal) := by
  unfold B0; rw [blk0, h0]; rfl
theorem r1 (t : Fin cfg0.N) (a : Fin 512) (l : Fin 128) : B1 m c t (ix2 a l) = ((yk X (pr t a) l.val : ℝ) : EReal) := by
  unfold B1; rw [blk1, h0]; rfl
end Blocks0
section Blocks1
include h1
theorem r2 (t : Fin cfg0.N) (l : Fin 512) : B2 m c t (ix2 0 l) = ((g (l.val % 64) : ℝ) : EReal) := by
  unfold B2; rw [blk2, h1]
end Blocks1
section Blocks2
include h2
theorem r3 (t : Fin cfg0.N) (l : Fin 128) : B3 m c t (ix2 0 l) = ((gk (l.val % 64) : ℝ) : EReal) := by
  unfold B3; rw [blk3, h2]
end Blocks2
section Blocks3
include hcs
theorem r4 (t : Fin cfg0.N) (a : Fin 512) (l : Fin 128) : B4 m c t (ix2 a l) = ((C (si (pr t a)) (l.val % 64 / 2) : ℝ) : EReal) := by
  unfold B4; rw [blk4, at39, V24]
  exact (hcs _ _).1
theorem r5 (t : Fin cfg0.N) (a : Fin 512) (l : Fin 128) :
    B5 m c t (ix2 a l) = (((if l.val % 2 = 0 then -1 else 1) * S (si (pr t a)) (l.val % 64 / 2) : ℝ) : EReal) := by
  unfold B5; rw [blk5, at45, V24, (hcs _ _).2, at36, ← EReal.coe_mul, mul_comm]
  have e : l.val % 64 % 2 = l.val % 2 := by omega
  simp only [e]
end Blocks3
theorem r6 (t : Fin cfg0.N) (x l : Fin 128) : B6 m c t (ix2 x l) = ((if x.val / 64 = l.val / 64 then 1 else 0 : ℝ) : EReal) := by
  unfold B6; rw [blk6, at65]
section Blocks4
include h3
theorem r7 (t : Fin cfg0.N) (a l : Fin 512) : B7 m c t (ix2 a l) * ((1 / 8 : ℝ) : EReal) = ((dq Q (pr t a) l.val : ℝ) : EReal) := by
  have e : l.val / 64 * 64 + l.val % 64 = l.val := by omega
  unfold B7; rw [blk7, h3, ← EReal.coe_mul]
  simp only [e]; rfl
end Blocks4
section Blocks5
include h4
theorem r8 (t : Fin cfg0.N) (a : Fin 512) (l : Fin 128) : B8 m c t (ix2 a l) = ((dk K (pr t a) l.val : ℝ) : EReal) := by
  have e : l.val / 64 * 64 + l.val % 64 = l.val := by omega
  unfold B8; rw [blk8, h4]
  simp only [e]; rfl
end Blocks5

/-- The stored blocks, over the blocks read at a point. -/
def oo (t : Fin cfg0.N) : FVec Ideal S128x128 .bf16 := k0_pay2 (F := Ideal) (B6 m c t)
theorem oo_apply (t : Fin cfg0.N) (x l : Fin 128) : oo m c t (ix2 x l) = ((if x.val / 64 = l.val / 64 then 1 else 0 : ℝ) : EReal) :=
  pay2 _ (r6 m c t) x l
def rotq (t : Fin cfg0.N) : FVec Ideal S512x512 .f32 := q15 (B7 m c t) (B4 m c t) (B5 m c t)
def rotk (t : Fin cfg0.N) : FVec Ideal S512x128 .f32 := k35 (B8 m c t) (B4 m c t) (B5 m c t)
def outq (t : Fin cfg0.N) : FVec Ideal S512x512 .bf16 :=
  q23 (oo m c t) (k0_pay4 (F := Ideal) (B6 m c t) (B0 m c t)) (k0_pay5 (F := Ideal) (B6 m c t) (B0 m c t)) (q16 (rotq m c t) (B2 m c t))
def outk (t : Fin cfg0.N) : FVec Ideal S512x128 .bf16 :=
  k36 (oo m c t) (k0_pay27 (F := Ideal) (oo m c t) (B1 m c t)) (k0_pay28 (F := Ideal) (oo m c t) (B1 m c t)) (B8 m c t) (B4 m c t) (B5 m c t) (B3 m c t)
def addq (t : Fin cfg0.N) : FVec Ideal S1x64 .f32 := k0_pay24 (F := Ideal) (k0_pay5 (F := Ideal) (B6 m c t) (B0 m c t)) (rotq m c t)
def addk (t : Fin cfg0.N) : FVec Ideal S1x64 .f32 := k0_pay37 (F := Ideal) (k0_pay28 (F := Ideal) (oo m c t) (B1 m c t)) (k0_pay30 (B8 m c t) (B4 m c t)) (k0_pay31 (B8 m c t) (B5 m c t)) k0_pay32 k0_pay33 k0_pay34

/-- What point `t` adds to the gains' gradients. -/
def dgq (t : Fin cfg0.N) (l : ℕ) : ℝ := ∑ a : Fin 512, gq X Q C S l (pr t a)
def dgk (t : Fin cfg0.N) (l : ℕ) : ℝ := ∑ a : Fin 512, gkk X K C S l (pr t a)

section RowsQ
include h3 hcs
theorem rotq_apply (t : Fin cfg0.N) (a l : Fin 512) : rotq m c t (ix2 a l) = ((DR (dq Q (pr t a)) (C (si (pr t a))) (S (si (pr t a))) l.val : ℝ) : EReal) := by
  unfold rotq
  exact q15_apply (v45 := B7 m c t) (v49 := B4 m c t) (v53 := B5 m c t) (D := fun a => dq Q (pr t a)) (C := fun a => C (si (pr t a))) (S := fun a => S (si (pr t a))) (hd := r7 m c Q h3 t) (hc := r4 m c C S hcs t) (hs := r5 m c C S hcs t) a l
end RowsQ
section RowsQ2
include h0 h3 hcs
theorem addq_apply (t : Fin cfg0.N) (e : Fin 64) : addq m c t (ix2 0 e) = ((dgq X Q C S t e.val : ℝ) : EReal) := by
  unfold addq
  refine (pay24 (w := rotq m c t) (v44 := k0_pay5 (F := Ideal) (B6 m c t) (B0 m c t)) (Y := fun a => yq X (pr t a)) (D := fun a => dq Q (pr t a)) (C := fun a => C (si (pr t a))) (S := fun a => S (si (pr t a))) (hw := rotq_apply m c Q C S h3 hcs t)
    (h44 := pay5 (o := B6 m c t) (v2 := B0 m c t) (ho := r6 m c t) (Y := fun a => yq X (pr t a)) (h2 := r0 m c X h0 t)) e).trans ?_
  rw [Finset.sum_comm]; rfl
end RowsQ2
section RowsQ3
include h0 h1 h3 hcs
theorem outq_apply (t : Fin cfg0.N) (a l : Fin 512) : outq m c t (ix2 a l) = TQ X g Q C S (ix2 (pr t a) l) := by
  unfold outq
  exact q23_apply (o := oo m c t) (v43 := k0_pay4 (F := Ideal) (B6 m c t) (B0 m c t)) (v44 := k0_pay5 (F := Ideal) (B6 m c t) (B0 m c t)) (v154 := q16 (rotq m c t) (B2 m c t)) (ho := oo_apply m c t) (Y := fun a => yq X (pr t a)) (D := fun a => dq Q (pr t a)) (C := fun a => C (si (pr t a))) (S := fun a => S (si (pr t a))) (g := g)
    (h43 := pay4 (o := B6 m c t) (v2 := B0 m c t) (ho := r6 m c t) (Y := fun a => yq X (pr t a)) (h2 := r0 m c X h0 t)) (h44 := pay5 (o := B6 m c t) (v2 := B0 m c t) (ho := r6 m c t) (Y := fun a => yq X (pr t a)) (h2 := r0 m c X h0 t))
    (hx := q16_apply (w := rotq m c t) (v151 := B2 m c t) (D := fun a => dq Q (pr t a)) (C := fun a => C (si (pr t a))) (S := fun a => S (si (pr t a))) (g := g) (hw := rotq_apply m c Q C S h3 hcs t) (hg := r2 m c g h1 t)) a l
end RowsQ3
section RowsK
include h4 hcs
theorem rotk_apply (t : Fin cfg0.N) (a : Fin 512) (l : Fin 128) : rotk m c t (ix2 a l) = ((DR (dk K (pr t a)) (C (si (pr t a))) (S (si (pr t a))) l.val : ℝ) : EReal) := by
  unfold rotk
  exact k35_apply (v237 := B8 m c t) (v241 := B4 m c t) (v244 := B5 m c t) (D := fun a => dk K (pr t a)) (C := fun a => C (si (pr t a))) (S := fun a => S (si (pr t a))) (hd := r8 m c K h4 t) (hc := r4 m c C S hcs t) (hs := r5 m c C S hcs t) a l
end RowsK
section RowsK2
include h0 h4 hcs
theorem addk_apply (t : Fin cfg0.N) (e : Fin 64) : addk m c t (ix2 0 e) = ((dgk X K C S t e.val : ℝ) : EReal) := by
  unfold addk
  refine (pay37 (v236 := k0_pay28 (F := Ideal) (oo m c t) (B1 m c t)) (v237 := B8 m c t) (v241 := B4 m c t) (v244 := B5 m c t) (Y := fun a => yk X (pr t a)) (D := fun a => dk K (pr t a)) (C := fun a => C (si (pr t a))) (S := fun a => S (si (pr t a))) (hw := rotk_apply m c K C S h4 hcs t)
    (h36 := pay28 (o := oo m c t) (v220 := B1 m c t) (ho := oo_apply m c t) (Y := fun a => yk X (pr t a)) (h2 := r1 m c X h0 t)) e).trans ?_
  rw [Finset.sum_comm]; rfl
end RowsK2
section RowsK3
include h0 h2 h4 hcs
theorem outk_apply (t : Fin cfg0.N) (a : Fin 512) (l : Fin 128) : outk m c t (ix2 a l) = TK X gk K C S (ix2 (pr t a) l) := by
  unfold outk
  exact k36_apply (o := oo m c t) (v235 := k0_pay27 (F := Ideal) (oo m c t) (B1 m c t)) (v236 := k0_pay28 (F := Ideal) (oo m c t) (B1 m c t)) (v237 := B8 m c t) (v241 := B4 m c t) (v244 := B5 m c t) (v270 := B3 m c t) (ho := oo_apply m c t) (Y := fun a => yk X (pr t a)) (D := fun a => dk K (pr t a)) (C := fun a => C (si (pr t a))) (S := fun a => S (si (pr t a))) (g := gk)
    (hw := rotk_apply m c K C S h4 hcs t)
    (h35 := pay27 (o := oo m c t) (v220 := B1 m c t) (ho := oo_apply m c t) (Y := fun a => yk X (pr t a)) (h2 := r1 m c X h0 t)) (h36 := pay28 (o := oo m c t) (v220 := B1 m c t) (ho := oo_apply m c t) (Y := fun a => yk X (pr t a)) (h2 := r1 m c X h0 t))
    (hg := r3 m c gk h2 t) a l
end RowsK3

theorem outs9 (t : Fin cfg0.N) : (outsAt0 m c t.val t.isLt).1 = outq m c t := by
  have ht := lt_of_lt_of_eq t.isLt N_8
  by_cases h : t.val % 8 = 0
  · rw [outsAt0_A m c t h (by omega) h (by omega)]; frame_out
    rfl
  · rw [outsAt0_B m c t h (by omega) h (by omega)]; frame_out
    rfl
theorem outs10 (t : Fin cfg0.N) : (outsAt0 m c t.val t.isLt).2.1 = outk m c t := by
  have ht := lt_of_lt_of_eq t.isLt N_8
  by_cases h : t.val % 8 = 0
  · rw [outsAt0_A m c t h (by omega) h (by omega)]; frame_out
    rfl
  · rw [outsAt0_B m c t h (by omega) h (by omega)]; frame_out
    rfl
theorem first11 (t : Fin cfg0.N) (h : t.val % 8 = 0) (e : Fin 64) : (outsAt0 m c t.val t.isLt).2.2.1 (ix2 0 e) = 0 + addq m c t (ix2 0 e) := by
  have ht := lt_of_lt_of_eq t.isLt N_8
  rw [outsAt0_A m c t h (by omega) h (by omega)]; frame_out
  rw [zero_add]; rfl
theorem next11 (t : Fin cfg0.N) (h : ¬t.val % 8 = 0) (e : Fin 64) :
    (outsAt0 m c t.val t.isLt).2.2.1 (ix2 0 e) = (outsAt0 m c (t.val - 1) (Nat.lt_of_le_of_lt (Nat.sub_le _ _) t.isLt)).2.2.1 (ix2 0 e) + addq m c t (ix2 0 e) := by
  rw [outsAt0_B m c t h (by omega) h (by omega)]; frame_out
  exact pay25 (v44 := _) (w := _) (v301 := _) e
theorem first12 (t : Fin cfg0.N) (h : t.val % 8 = 0) (e : Fin 64) : (outsAt0 m c t.val t.isLt).2.2.2 (ix2 0 e) = 0 + addk m c t (ix2 0 e) := by
  have ht := lt_of_lt_of_eq t.isLt N_8
  rw [outsAt0_A m c t h (by omega) h (by omega)]; frame_out
  rw [zero_add]; rfl
theorem next12 (t : Fin cfg0.N) (h : ¬t.val % 8 = 0) (e : Fin 64) :
    (outsAt0 m c t.val t.isLt).2.2.2 (ix2 0 e) = (outsAt0 m c (t.val - 1) (Nat.lt_of_le_of_lt (Nat.sub_le _ _) t.isLt)).2.2.2 (ix2 0 e) + addk m c t (ix2 0 e) := by
  rw [outsAt0_B m c t h (by omega) h (by omega)]; frame_out
  exact pay1 _ _ e

/-- The eight points' sums are the sum over all rows. -/
theorem eight (F : Fin 4096 → ℝ) (q : ℕ) (hq : q = 0) (hl : ∀ s : Fin 8, 8 * q + s.val < cfg0.N) :
    (0 : EReal) + ∑ s : Fin 8, ((∑ a : Fin 512, F (pr ⟨8 * q + s.val, hl s⟩ a) : ℝ) : EReal) = ((∑ r : Fin 4096, F r : ℝ) : EReal) := by
  subst hq
  have e : ∑ s : Fin 8, ∑ a : Fin 512, F ⟨s.val * 512 + a.val, by omega⟩ = ∑ r : Fin 4096, F r :=
    Fin.sum_mul_add_congr (fun s a hl => rfl)
  rw [zero_add, Cert.Finite.coe_sum, ← e]
  refine congrArg _ (Finset.sum_congr rfl fun s _ => Finset.sum_congr rfl fun a _ => congrArg F (Fin.ext (by simp)))

section F9
include h0 h1 h3 hcs
/-- The array that output 9 leaves. -/
theorem final9 : (dats m 0 c).arrAt 9 (cfgs 0).N = TQ X g Q C S := by
  refine (dats m 0 c).arrAt_eq_of_covers 9 _ (by decide +kernel) fun t hf y => ?_
  blk_simp; rw [after0_9]
  idx_vars y
  have e : ((View.whole main_v66_0).slice (win0_9.rect t)).emb (ix2 y0 y1) = ix2 (pr t y0) y1 :=
    Cert.Finite.ext2 (by blk_simp [idx_val t] <;> omega) (by blk_simp [idx_val t] <;> omega)
  rw [e]
  exact (congrFun (outs9 m c t) (ix2 y0 y1)).trans (outq_apply m c X g Q C S h0 h1 h3 hcs t y0 y1)
end F9
section F10
include h0 h2 h4 hcs
/-- The array that output 10 leaves. -/
theorem final10 : (dats m 0 c).arrAt 10 (cfgs 0).N = TK X gk K C S := by
  refine (dats m 0 c).arrAt_eq_of_covers 10 _ (by decide +kernel) fun t hf y => ?_
  blk_simp; rw [after0_10]
  idx_vars y
  have e : ((View.whole main_v66_1).slice (win0_10.rect t)).emb (ix2 y0 y1) = ix2 (pr t y0) y1 :=
    Cert.Finite.ext2 (by blk_simp [idx_val t] <;> omega) (by blk_simp [idx_val t] <;> omega)
  rw [e]
  exact (congrFun (outs10 m c t) (ix2 y0 y1)).trans (outk_apply m c X gk K C S h0 h2 h4 hcs t y0 y1)
end F10
section F11
include h0 h3 hcs
/-- The array that output 11 leaves. -/
theorem final11 : (dats m 0 c).arrAt 11 (cfgs 0).N = TGQ X Q C S := by
  refine (dats m 0 c).arrAt_eq_of_covers 11 _ (by decide +kernel) fun t hf y => ?_
  blk_simp; rw [after0_11]
  idx_vars y
  have ht : t.val < 8 := lt_of_lt_of_eq t.isLt N_8
  have hr : t.val % 8 = 7 := (flush0_11 t).mp hf
  have z : y0 = 0 := Subsingleton.elim _ _
  subst z
  have e : ((View.whole main_v66_2).slice (win0_11.rect t)).emb (ix2 0 y1) = ix2 0 y1 :=
    Cert.Finite.ext2 (by blk_simp [idx_val t] <;> omega) (by blk_simp [idx_val t] <;> omega)
  rw [e]
  refine (Pipeline.eq_sum_fin_of_reset_step_apply_of_flush (fun n h => (outsAt0 m c n h).2.2.1) 8 (fun _ => 0) (fun t i => ((dgq X Q C S t (i 1).val : ℝ) : EReal))
    (fun t h i => by idx_vars i; obtain rfl : i0 = 0 := Subsingleton.elim _ _; exact (first11 m c t h i1).trans (congrArg (0 + ·) (addq_apply m c X Q C S h0 h3 hcs t i1)))
    (fun t h i => by idx_vars i; obtain rfl : i0 = 0 := Subsingleton.elim _ _; exact (next11 m c t h i1).trans (congrArg (_ + ·) (addq_apply m c X Q C S h0 h3 hcs t i1))) t hr (ix2 0 y1)).trans ?_
  exact eight (fun r => gq X Q C S y1.val r) (t.val / 8) (by omega) _
end F11
section F12
include h0 h4 hcs
/-- The array that output 12 leaves. -/
theorem final12 : (dats m 0 c).arrAt 12 (cfgs 0).N = TGK X K C S := by
  refine (dats m 0 c).arrAt_eq_of_covers 12 _ (by decide +kernel) fun t hf y => ?_
  blk_simp; rw [after0_12]
  idx_vars y
  have ht : t.val < 8 := lt_of_lt_of_eq t.isLt N_8
  have hr : t.val % 8 = 7 := (flush0_12 t).mp hf
  have z : y0 = 0 := Subsingleton.elim _ _
  subst z
  have e : ((View.whole main_v66_3).slice (win0_12.rect t)).emb (ix2 0 y1) = ix2 0 y1 :=
    Cert.Finite.ext2 (by blk_simp [idx_val t] <;> omega) (by blk_simp [idx_val t] <;> omega)
  rw [e]
  refine (Pipeline.eq_sum_fin_of_reset_step_apply_of_flush (fun n h => (outsAt0 m c n h).2.2.2) 8 (fun _ => 0) (fun t i => ((dgk X K C S t (i 1).val : ℝ) : EReal))
    (fun t h i => by idx_vars i; obtain rfl : i0 = 0 := Subsingleton.elim _ _; exact (first12 m c t h i1).trans (congrArg (0 + ·) (addk_apply m c X K C S h0 h4 hcs t i1)))
    (fun t h i => by idx_vars i; obtain rfl : i0 = 0 := Subsingleton.elim _ _; exact (next12 m c t h i1).trans (congrArg (_ + ·) (addk_apply m c X K C S h0 h4 hcs t i1))) t hr (ix2 0 y1)).trans ?_
  exact eight (fun r => gkk X K C S y1.val r) (t.val / 8) (by omega) _
end F12

end Kernel

end Cert.Qkb
-- ==== Proof.QkbRef.lean ====
/- Untrusted: the reference's gradient of the query/key norm and rotation, line by line. -/
module

public import proofs.«01_k».proof.Proof.Gen.QkbRIdeal.Read
public import proofs.«01_k».proof.Proof.Heads
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem
open Idealize.ShloMosaic.Pipeline (Dat)
open scoped BigOperators
open Cert.Heads
open Cert.Norm (ep word_ep word_minus_half)

namespace Cert.QkbRef

/-- The sum over the three leading axes. -/
theorem sum_heads {a b n k : ℕ} (h : (⟨4, ![a, b, n, k]⟩ : Shape).ReducesTo [0, 1, 2] ⟨1, ![k]⟩)
    (v : (⟨4, ![a, b, n, k]⟩ : Shape).Idx → EReal) (init : EReal) (j : (⟨1, ![k]⟩ : Shape).Idx) :
    Ideal.hostReduceAdd h v init j = init + ∑ x : Fin a, ∑ y : Fin b, ∑ z : Fin n, v (ix4 x y z (j 0)) := by
  unfold Ideal.hostReduceAdd
  refine congrArg (init + ·) ?_
  have at0 : ∀ i : (⟨4, ![a, b, n, k]⟩ : Shape).Idx, (h.drop i 0).val = (i 3).val := fun i => rfl
  have e : ∑ x : Fin a, ∑ y : Fin b, ∑ z : Fin n, v (ix4 x y z (j 0)) = ∑ p : Fin a × Fin b × Fin n, v (ix4 p.1 p.2.1 p.2.2 (j 0)) := by
    rw [Fintype.sum_prod_type]
    exact Finset.sum_congr rfl fun x _ => (Fintype.sum_prod_type (fun p : Fin b × Fin n => v (ix4 x p.1 p.2 (j 0)))).symm
  rw [e]
  symm
  refine Finset.sum_bij (fun p _ => ix4 p.1 p.2.1 p.2.2 (j 0)) ?_ ?_ ?_ fun _ _ => rfl
  · intro p _
    rw [Finset.mem_filter]
    refine ⟨Finset.mem_univ _, funext fun c => ?_⟩
    match c with
    | ⟨0, _⟩ => exact Fin.ext (at0 _)
  · intro p _ l _ e
    exact Prod.ext (congrFun e 0) (Prod.ext (congrFun e 1) (congrFun e 2))
  · intro i hi
    rw [Finset.mem_filter] at hi
    refine ⟨(i 0, i 1, i 2), Finset.mem_univ _, ?_⟩
    funext c
    match c with
    | ⟨0, _⟩ => rfl
    | ⟨1, _⟩ => rfl
    | ⟨2, _⟩ => rfl
    | ⟨3, _⟩ => exact Fin.ext ((congrArg (fun q => (q 0).val) hi.2).symm.trans (at0 i))

/-- Two halves of pairs put side by side by padding. -/
theorem pad_second {n : ℕ} {u : Shape} (x : (⟨5, ![2, 2048, n, 32, 1]⟩ : Shape).Idx → EReal) (v : u.Idx → EReal)
    (h : (⟨5, ![2, 2048, n, 32, 1]⟩ : Shape).Pads ![0, 0, 0, 0, 1] ![0, 0, 0, 0, 0] ![0, 0, 0, 0, 0] ⟨5, ![2, 2048, n, 32, 2]⟩) (hu : 0 < u.numel)
    (b : Fin 2) (s : Fin 2048) (k : Fin n) (j : Fin 32) :
    pad (⟨5, ![2, 2048, n, 32, 2]⟩ : Shape) ![0, 0, 0, 0, 1] ![0, 0, 0, 0, 0] ![0, 0, 0, 0, 0] x v h hu (ix5 b s k j 1) = x (ix5 b s k j 0)
      ∧ pad (⟨5, ![2, 2048, n, 32, 2]⟩ : Shape) ![0, 0, 0, 0, 1] ![0, 0, 0, 0, 0] ![0, 0, 0, 0, 0] x v h hu (ix5 b s k j 0) = v (Shape.Idx.first hu) :=
  ⟨pad_apply_of_inside _ _ _ x v h hu _ _ (fun a => match a with
    | ⟨0, _⟩ => by simp [ix5]
    | ⟨1, _⟩ => by simp [ix5]
    | ⟨2, _⟩ => by simp [ix5]
    | ⟨3, _⟩ => by simp [ix5]
    | ⟨4, _⟩ => rfl), pad_apply_of_not_inside _ _ _ x v h hu _ 4 (fun c => absurd (show 1 ≤ 0 from c.1) (by decide))⟩
theorem pad_first {n : ℕ} {u : Shape} (x : (⟨5, ![2, 2048, n, 32, 1]⟩ : Shape).Idx → EReal) (v : u.Idx → EReal)
    (h : (⟨5, ![2, 2048, n, 32, 1]⟩ : Shape).Pads ![0, 0, 0, 0, 0] ![0, 0, 0, 0, 1] ![0, 0, 0, 0, 0] ⟨5, ![2, 2048, n, 32, 2]⟩) (hu : 0 < u.numel)
    (b : Fin 2) (s : Fin 2048) (k : Fin n) (j : Fin 32) :
    pad (⟨5, ![2, 2048, n, 32, 2]⟩ : Shape) ![0, 0, 0, 0, 0] ![0, 0, 0, 0, 1] ![0, 0, 0, 0, 0] x v h hu (ix5 b s k j 0) = x (ix5 b s k j 0)
      ∧ pad (⟨5, ![2, 2048, n, 32, 2]⟩ : Shape) ![0, 0, 0, 0, 0] ![0, 0, 0, 0, 1] ![0, 0, 0, 0, 0] x v h hu (ix5 b s k j 1) = v (Shape.Idx.first hu) :=
  ⟨pad_apply_of_inside _ _ _ x v h hu _ _ (fun a => match a with
    | ⟨0, _⟩ => by simp [ix5]
    | ⟨1, _⟩ => by simp [ix5]
    | ⟨2, _⟩ => by simp [ix5]
    | ⟨3, _⟩ => by simp [ix5]
    | ⟨4, _⟩ => rfl), pad_apply_of_not_inside _ _ _ x v h hu _ 4 (fun c => absurd (show (1 - 0) / (0 + 1) < 1 from c.2.2) (by decide))⟩

theorem lane (h e : ℕ) (he : e < 64) : (h * 64 + e) / 64 = h ∧ (h * 64 + e) % 64 = e := by omega
/-- A head's sum, from its own lanes. -/
theorem hs_lane (y : ℕ → ℝ) (h e : ℕ) (he : e < 64) : hs y (h * 64 + e) = ∑ k : Fin 64, y (h * 64 + k.val) := by
  unfold hs; rw [(lane h e he).1]
/-- The gradient of the rotation at an even and at an odd lane. -/
theorem DR_even (d C S : ℕ → ℝ) (h j : ℕ) (hj : j < 32) : DR d C S (h * 64 + 2 * j) = d (h * 64 + (2 * j + 1)) * S j + d (h * 64 + 2 * j) * C j := by
  unfold DR
  rw [if_pos (by omega), show (h * 64 + 2 * j) % 64 / 2 = j by omega, add_comm, add_assoc]
theorem DR_odd (d C S : ℕ → ℝ) (h j : ℕ) (hj : j < 32) : DR d C S (h * 64 + (2 * j + 1)) = d (h * 64 + (2 * j + 1)) * C j + -d (h * 64 + 2 * j) * S j := by
  unfold DR
  rw [if_neg (by omega), show (h * 64 + (2 * j + 1)) % 64 / 2 = j by omega, show h * 64 + (2 * j + 1) - 1 = h * 64 + 2 * j by omega, neg_mul]

/-- The batch and position of a flattened row. -/
abbrev bi (r : Fin 4096) : Fin 2 := ⟨r.val / 2048, by omega⟩
abbrev si (r : Fin 4096) : Fin 2048 := ⟨r.val % 2048, by omega⟩
/-- A sum over rows is the sum over batches and positions. -/
theorem rows (F : Fin 2 → Fin 2048 → ℝ) : ∑ b : Fin 2, ∑ s : Fin 2048, F b s = ∑ r : Fin 4096, F (bi r) (si r) :=
  Fin.sum_mul_add_congr (fun b s hl => congrArg₂ F (Fin.ext (by simp only; omega)) (Fin.ext (by simp only; omega)))

open Cert.QkbRIdeal Cert.QkbRIdeal.Gen Cert.QkbRIdeal.Read

section Q

variable (x0 : FVec Ideal S2x2048x2304 .f32) (x1 : FVec Ideal S64 .f32) (x3 : FVec Ideal S2x2048x8x64 .f32)
variable (X : Fin 2 → Fin 2048 → ℕ → ℝ) (g : ℕ → ℝ) (Dt : Fin 2 → Fin 2048 → ℕ → ℝ) (C S : ℕ → ℕ → ℝ)

section Norm
variable (h0 : ∀ b s (k : Fin 2304), x0 (ix3 b s k) = ((X b s k.val : ℝ) : EReal))
include h0

/-- The rows of a head, their mean square, and the normalised rows. -/
theorem Qrows (b : Fin 2) (s : Fin 2048) (h : Fin 8) (e : Fin 64) :
    (val_main_v31 (F := Ideal) x0 : FVec Ideal S2x2048x8x64 .f32) (ix4 b s h e) = ((X b s (1536 + (h.val * 64 + e.val)) : ℝ) : EReal) := by
  have t : (val_main_v31 (F := Ideal) x0 : FVec Ideal S2x2048x8x64 .f32) (ix4 b s h e) = x0 (ix3 b s ⟨1536 + (h.val * 64 + e.val), by omega⟩) := by
    unfold val_main_v31 val_main_v1
    pointwise
  rw [t, h0]
theorem Qmean (b : Fin 2) (s : Fin 2048) (h : Fin 8) (z : Fin 1) (e : Fin 64) :
    (val_main_v38 (F := Ideal) x0 : FVec Ideal S2x2048x8x1 .f32) (ix4 b s h z) = ((VV (fun l => X b s (1536 + l)) (h.val * 64 + e.val) : ℝ) : EReal) := by
  have t : (val_main_v38 (F := Ideal) x0 : FVec Ideal S2x2048x8x1 .f32) (ix4 b s h z)
      = Ideal.div (∑ k : Fin 64, (val_main_v31 (F := Ideal) x0 : FVec Ideal S2x2048x8x64 .f32) (ix4 b s h k) * (val_main_v31 (F := Ideal) x0 : FVec Ideal S2x2048x8x64 .f32) (ix4 b s h k)) (Ideal.ofBits FTy.f32 0x42800000#32) + Ideal.ofBits FTy.f32 0x358637BD#32 := by
    unfold val_main_v38 val_main_v36 val_main_v37 val_main_v35 val_main_v34 val_main_v33 val_main_v32
    generalize val_main_v31 (F := Ideal) x0 = q
    pointwise [val_main_cst_1, val_main_cst_2, val_main_cst_3]
  rw [t]
  simp only [Qrows x0 X h0, ← EReal.coe_mul, Cert.Finite.coe_sum]
  rw [div_64, word_ep, ← EReal.coe_add]
  unfold VV
  rw [hs_lane _ _ _ e.isLt]
theorem Qrsqrt (b : Fin 2) (s : Fin 2048) (h : Fin 8) (z : Fin 1) (e : Fin 64) :
    (val_main_v39 (F := Ideal) x0 : FVec Ideal S2x2048x8x1 .f32) (ix4 b s h z) = ((RS (fun l => X b s (1536 + l)) (h.val * 64 + e.val) : ℝ) : EReal) := by
  rw [← rsqrt_VV, ← Qmean x0 X h0 b s h z e]
  unfold val_main_v39
  generalize val_main_v38 (F := Ideal) x0 = q
  pointwise
theorem Qslope (b : Fin 2) (s : Fin 2048) (h : Fin 8) (z : Fin 1) (e : Fin 64) :
    (val_main_v42 (F := Ideal) x0 : FVec Ideal S2x2048x8x1 .f32) (ix4 b s h z) = ((-(1 / 2) * (RS (fun l => X b s (1536 + l)) (h.val * 64 + e.val) / VV (fun l => X b s (1536 + l)) (h.val * 64 + e.val)) : ℝ) : EReal) := by
  have t : (val_main_v42 (F := Ideal) x0 : FVec Ideal S2x2048x8x1 .f32) (ix4 b s h z) = Ideal.ofBits FTy.f32 0xBF000000#32
      * Ideal.div ((val_main_v39 (F := Ideal) x0 : FVec Ideal S2x2048x8x1 .f32) (ix4 b s h z)) ((val_main_v38 (F := Ideal) x0 : FVec Ideal S2x2048x8x1 .f32) (ix4 b s h z)) := by
    unfold val_main_v42 val_main_v40 val_main_v41
    generalize val_main_v39 (F := Ideal) x0 = q
    generalize val_main_v38 (F := Ideal) x0 = p
    pointwise [val_main_cst_4]
  rw [t, Qrsqrt x0 X h0 b s h z e, Qmean x0 X h0 b s h z e, word_minus_half, Cert.Finite.div_real (VV_pos _ _).ne', ← EReal.coe_mul]
theorem Qxhat (b : Fin 2) (s : Fin 2048) (h : Fin 8) (e : Fin 64) :
    (val_main_v44 (F := Ideal) x0 : FVec Ideal S2x2048x8x64 .f32) (ix4 b s h e) = ((XH (fun l => X b s (1536 + l)) (h.val * 64 + e.val) : ℝ) : EReal) := by
  have t : (val_main_v44 (F := Ideal) x0 : FVec Ideal S2x2048x8x64 .f32) (ix4 b s h e) = (val_main_v31 (F := Ideal) x0 : FVec Ideal S2x2048x8x64 .f32) (ix4 b s h e) * (val_main_v39 (F := Ideal) x0 : FVec Ideal S2x2048x8x1 .f32) (ix4 b s h 0) := by
    unfold val_main_v44 val_main_v43
    generalize val_main_v39 (F := Ideal) x0 = q
    generalize val_main_v31 (F := Ideal) x0 = p
    pointwise
  rw [t, Qrows x0 X h0, Qrsqrt x0 X h0 b s h 0 e, ← EReal.coe_mul]; rfl
end Norm

section Rotation
variable (hd : ∀ b s (h : Fin 8) (e : Fin 64), (val_main_v110 (F := Ideal) x3 : FVec Ideal S2x2048x8x64 .f32) (ix4 b s h e) = ((Dt b s (h.val * 64 + e.val) : ℝ) : EReal))
  (hcs : ∀ (s : Fin 2048) (j : Fin 32), Ideal.cos ((val_main_v28 (F := Ideal) : FVec Ideal S2048x32 .f32) (ix2 s j)) = ((C s.val j.val : ℝ) : EReal)
    ∧ Ideal.sin ((val_main_v28 (F := Ideal) : FVec Ideal S2048x32 .f32) (ix2 s j)) = ((S s.val j.val : ℝ) : EReal))
include hd hcs

/-- The gradient of the rotation at odd and at even lanes, then at every lane. -/
theorem Qodd (b : Fin 2) (s : Fin 2048) (h : Fin 8) (j : Fin 32) : (val_main_v166 (F := Ideal) x3 : FVec Ideal S2x2048x8x32 .f32) (ix4 b s h j)
    = ((DR (Dt b s) (C s) (S s) (h.val * 64 + (2 * j.val + 1)) : ℝ) : EReal) := by
  have t : (val_main_v166 (F := Ideal) x3 : FVec Ideal S2x2048x8x32 .f32) (ix4 b s h j)
      = (val_main_v110 (F := Ideal) x3 : FVec Ideal S2x2048x8x64 .f32) (ix4 b s h ⟨2 * j.val + 1, by omega⟩) * Ideal.cos ((val_main_v28 (F := Ideal) : FVec Ideal S2048x32 .f32) (ix2 s j))
        + -(val_main_v110 (F := Ideal) x3 : FVec Ideal S2x2048x8x64 .f32) (ix4 b s h ⟨2 * j.val, by omega⟩) * Ideal.sin ((val_main_v28 (F := Ideal) : FVec Ideal S2048x32 .f32) (ix2 s j)) := by
    unfold val_main_v166 val_main_v160 val_main_v165 val_main_v158 val_main_v159 val_main_v163 val_main_v164 val_main_v157 val_main_v156 val_main_v155 val_main_v154 val_main_v53 val_main_v54 val_main_v29 val_main_v30
    generalize val_main_v110 (F := Ideal) x3 = q
    generalize val_main_v28 (F := Ideal) = p
    pointwise
    simp only [mul_comm j.val 2]
  rw [t, hd, hd, (hcs s j).1, (hcs s j).2, DR_odd _ _ _ _ _ j.isLt, EReal.coe_add, EReal.coe_mul, EReal.coe_mul, EReal.coe_neg]
theorem Qeven (b : Fin 2) (s : Fin 2048) (h : Fin 8) (j : Fin 32) : (val_main_v169 (F := Ideal) x3 : FVec Ideal S2x2048x8x32 .f32) (ix4 b s h j)
    = ((DR (Dt b s) (C s) (S s) (h.val * 64 + 2 * j.val) : ℝ) : EReal) := by
  have t : (val_main_v169 (F := Ideal) x3 : FVec Ideal S2x2048x8x32 .f32) (ix4 b s h j)
      = (val_main_v110 (F := Ideal) x3 : FVec Ideal S2x2048x8x64 .f32) (ix4 b s h ⟨2 * j.val + 1, by omega⟩) * Ideal.sin ((val_main_v28 (F := Ideal) : FVec Ideal S2048x32 .f32) (ix2 s j))
        + (val_main_v110 (F := Ideal) x3 : FVec Ideal S2x2048x8x64 .f32) (ix4 b s h ⟨2 * j.val, by omega⟩) * Ideal.cos ((val_main_v28 (F := Ideal) : FVec Ideal S2048x32 .f32) (ix2 s j)) := by
    unfold val_main_v169 val_main_v162 val_main_v168 val_main_v158 val_main_v161 val_main_v167 val_main_v157 val_main_v156 val_main_v155 val_main_v154 val_main_v53 val_main_v54 val_main_v29 val_main_v30
    generalize val_main_v110 (F := Ideal) x3 = q
    generalize val_main_v28 (F := Ideal) = p
    pointwise
    simp only [mul_comm j.val 2]
  rw [t, hd, hd, (hcs s j).1, (hcs s j).2, DR_even _ _ _ _ _ j.isLt, EReal.coe_add, EReal.coe_mul, EReal.coe_mul]
theorem Qrot (b : Fin 2) (s : Fin 2048) (h : Fin 8) (e : Fin 64) : (val_main_v175 (F := Ideal) x3 : FVec Ideal S2x2048x8x64 .f32) (ix4 b s h e)
    = ((DR (Dt b s) (C s) (S s) (h.val * 64 + e.val) : ℝ) : EReal) := by
  have t : (val_main_v175 (F := Ideal) x3 : FVec Ideal S2x2048x8x64 .f32) (ix4 b s h e) = (val_main_v174 (F := Ideal) x3 : FVec Ideal S2x2048x8x32x2 .f32) (ix5 b s h ⟨e.val / 2, by omega⟩ ⟨e.val % 2, by omega⟩) := by
    unfold val_main_v175
    generalize val_main_v174 (F := Ideal) x3 = q
    pointwise
  rw [t, val_main_v174_apply]
  unfold val_main_v171 val_main_v173
  have o : ∀ j : Fin 32, (val_main_v170 (F := Ideal) x3 : FVec Ideal S2x2048x8x32x1 .f32) (ix5 b s h j 0) = ((DR (Dt b s) (C s) (S s) (h.val * 64 + (2 * j.val + 1)) : ℝ) : EReal) := fun j => by
    rw [← Qodd x3 Dt C S hd hcs]
    unfold val_main_v170
    generalize val_main_v166 (F := Ideal) x3 = q
    pointwise
  have n : ∀ j : Fin 32, (val_main_v172 (F := Ideal) x3 : FVec Ideal S2x2048x8x32x1 .f32) (ix5 b s h j 0) = ((DR (Dt b s) (C s) (S s) (h.val * 64 + 2 * j.val) : ℝ) : EReal) := fun j => by
    rw [← Qeven x3 Dt C S hd hcs]
    unfold val_main_v172
    generalize val_main_v169 (F := Ideal) x3 = q
    pointwise
  rcases Nat.mod_two_eq_zero_or_one e.val with he | he
  · rw [show (⟨e.val % 2, by omega⟩ : Fin 2) = 0 from Fin.ext he]
    refine (congrArg₂ (· + ·) (pad_second _ _ _ _ b s h _).2 ((pad_first _ _ _ _ b s h _).1.trans (n _))).trans ?_
    rw [show (val_main_cst_18 (F := Ideal) : FVec Ideal S_ .f32) (Shape.Idx.first h_S_) = 0 from Ideal.ofBits_zero_f32, zero_add]
    simp only [show 2 * (e.val / 2) = e.val by omega]
  · rw [show (⟨e.val % 2, by omega⟩ : Fin 2) = 1 from Fin.ext he]
    refine (congrArg₂ (· + ·) ((pad_second _ _ _ _ b s h _).1.trans (o _)) (pad_first _ _ _ _ b s h _).2).trans ?_
    rw [show (val_main_cst_19 (F := Ideal) : FVec Ideal S_ .f32) (Shape.Idx.first h_S_) = 0 from Ideal.ofBits_zero_f32, add_zero]
    simp only [show 2 * (e.val / 2) + 1 = e.val by omega]

section Gain
variable (h0 : ∀ b s (k : Fin 2304), x0 (ix3 b s k) = ((X b s k.val : ℝ) : EReal))
include h0
/-- The gain's gradient. -/
theorem Qgain (e : Fin 64) : (val_main_v201 (F := Ideal) x0 x3 : FVec Ideal S1x64 .f32) (ix2 0 e)
    = ((∑ r : Fin 4096, ∑ h : Fin 8, DR (Dt (bi r) (si r)) (C (si r)) (S (si r)) (h.val * 64 + e.val) * XH (fun l => X (bi r) (si r) (1536 + l)) (h.val * 64 + e.val) : ℝ) : EReal) := by
  have t : (val_main_v201 (F := Ideal) x0 x3 : FVec Ideal S1x64 .f32) (ix2 0 e) = ∑ b : Fin 2, ∑ s : Fin 2048, ∑ h : Fin 8,
      (val_main_v44 (F := Ideal) x0 : FVec Ideal S2x2048x8x64 .f32) (ix4 b s h e) * (val_main_v175 (F := Ideal) x3 : FVec Ideal S2x2048x8x64 .f32) (ix4 b s h e) := by
    unfold val_main_v201 val_main_v181 val_main_v178 val_main_v177 val_main_v176
    generalize val_main_v44 (F := Ideal) x0 = q
    generalize val_main_v175 (F := Ideal) x3 = p
    pointwise [val_main_cst_20, val_main_cst_21, sum_heads]
    exact (Fin.sum_univ_one _).trans ((Fin.sum_univ_one _).trans (Fin.sum_univ_one _))
  rw [t]
  simp only [Qxhat x0 X h0, Qrot x3 Dt C S hd hcs, ← EReal.coe_mul, Cert.Finite.coe_sum]
  refine congrArg (fun x : ℝ => (x : EReal)) ((rows fun b s => ∑ h : Fin 8, XH (fun l => X b s (1536 + l)) (h.val * 64 + e.val) * DR (Dt b s) (C s) (S s) (h.val * 64 + e.val)).trans ?_)
  exact Finset.sum_congr rfl fun r _ => Finset.sum_congr rfl fun h _ => mul_comm _ _
end Gain

section Rows

variable (h1 : ∀ e : Fin 64, x1 (ix1 e) = ((g e.val : ℝ) : EReal))
include h1
theorem Qscaled (b : Fin 2) (s : Fin 2048) (h : Fin 8) (e : Fin 64) : (val_main_v180 (F := Ideal) x1 x3 : FVec Ideal S2x2048x8x64 .f32) (ix4 b s h e)
    = ((GX (Dt b s) (C s) (S s) g (h.val * 64 + e.val) : ℝ) : EReal) := by
  have t : (val_main_v180 (F := Ideal) x1 x3 : FVec Ideal S2x2048x8x64 .f32) (ix4 b s h e) = (val_main_v175 (F := Ideal) x3 : FVec Ideal S2x2048x8x64 .f32) (ix4 b s h e) * x1 (ix1 e) := by
    unfold val_main_v180 val_main_v179 val_main_v45
    generalize val_main_v175 (F := Ideal) x3 = p
    pointwise
  rw [t, Qrot x3 Dt C S hd hcs, h1, ← EReal.coe_mul]
  unfold GX
  rw [(lane h.val e.val e.isLt).2]
section Back
variable (h0 : ∀ b s (k : Fin 2304), x0 (ix3 b s k) = ((X b s k.val : ℝ) : EReal))
include h0
theorem Qback (b : Fin 2) (s : Fin 2048) (h : Fin 8) (z : Fin 1) (e : Fin 64) : (val_main_v189 (F := Ideal) x0 x1 x3 : FVec Ideal S2x2048x8x1 .f32) (ix4 b s h z)
    = ((hs (fun i => (fun l => X b s (1536 + l)) i * GX (Dt b s) (C s) (S s) g i) (h.val * 64 + e.val) * (-(1 / 2) * (RS (fun l => X b s (1536 + l)) (h.val * 64 + e.val) / VV (fun l => X b s (1536 + l)) (h.val * 64 + e.val))) / 64 : ℝ) : EReal) := by
  have t : (val_main_v189 (F := Ideal) x0 x1 x3 : FVec Ideal S2x2048x8x1 .f32) (ix4 b s h z)
      = Ideal.div ((∑ k : Fin 64, (val_main_v31 (F := Ideal) x0 : FVec Ideal S2x2048x8x64 .f32) (ix4 b s h k) * (val_main_v180 (F := Ideal) x1 x3 : FVec Ideal S2x2048x8x64 .f32) (ix4 b s h k))
        * (val_main_v42 (F := Ideal) x0 : FVec Ideal S2x2048x8x1 .f32) (ix4 b s h z)) (Ideal.ofBits FTy.f32 0x42800000#32) := by
    unfold val_main_v189 val_main_v188 val_main_v187 val_main_v184 val_main_v183 val_main_v182
    generalize val_main_v31 (F := Ideal) x0 = q
    generalize val_main_v42 (F := Ideal) x0 = p
    generalize val_main_v180 (F := Ideal) x1 x3 = o
    pointwise [val_main_cst_22, val_main_cst_23]
  rw [t, Qslope x0 X h0 b s h z e]
  simp only [Qrows x0 X h0, Qscaled x1 x3 g Dt C S hd hcs h1, ← EReal.coe_mul, Cert.Finite.coe_sum]
  rw [div_64, hs_lane _ _ _ e.isLt]
/-- The rows' gradient. -/
theorem Qgrad (i : S4096x512.Idx) : (val_main_v198 (F := Ideal) x0 x1 x3 : FVec Ideal S4096x512 .bf16) i
    = ((OUT (fun l => X (bi (i 0)) (si (i 0)) (1536 + l)) (Dt (bi (i 0)) (si (i 0))) (C (si (i 0))) (S (si (i 0))) g (i 1).val : ℝ) : EReal) := by
  idx_vars i
  have t : (val_main_v198 (F := Ideal) x0 x1 x3 : FVec Ideal S4096x512 .bf16) (ix2 i0 i1)
      = (val_main_v195 (F := Ideal) x0 x1 x3 : FVec Ideal S2x2048x8x64 .f32) (ix4 (bi i0) (si i0) ⟨i1.val / 64, by omega⟩ ⟨i1.val % 64, by omega⟩) := by
    unfold val_main_v198 val_main_v197 val_main_v196
    generalize val_main_v195 (F := Ideal) x0 x1 x3 = o
    pointwise
  have u : ∀ (b : Fin 2) (s : Fin 2048) (h : Fin 8) (e : Fin 64), (val_main_v195 (F := Ideal) x0 x1 x3 : FVec Ideal S2x2048x8x64 .f32) (ix4 b s h e)
      = (val_main_v180 (F := Ideal) x1 x3 : FVec Ideal S2x2048x8x64 .f32) (ix4 b s h e) * (val_main_v39 (F := Ideal) x0 : FVec Ideal S2x2048x8x1 .f32) (ix4 b s h 0)
        + (val_main_v31 (F := Ideal) x0 : FVec Ideal S2x2048x8x64 .f32) (ix4 b s h e) * (val_main_v189 (F := Ideal) x0 x1 x3 : FVec Ideal S2x2048x8x1 .f32) (ix4 b s h 0)
        + (val_main_v189 (F := Ideal) x0 x1 x3 : FVec Ideal S2x2048x8x1 .f32) (ix4 b s h 0) * (val_main_v31 (F := Ideal) x0 : FVec Ideal S2x2048x8x64 .f32) (ix4 b s h e) := fun b s h e => by
    unfold val_main_v195 val_main_v193 val_main_v194 val_main_v192 val_main_v191 val_main_v190 val_main_v186 val_main_v185
    generalize val_main_v31 (F := Ideal) x0 = q
    generalize val_main_v39 (F := Ideal) x0 = p
    generalize val_main_v189 (F := Ideal) x0 x1 x3 = w
    generalize val_main_v180 (F := Ideal) x1 x3 = o
    pointwise [val_main_cst_24]
    simp only [Fin.sum_univ_one]
  rw [t, u, Qscaled x1 x3 g Dt C S hd hcs h1, Qrsqrt x0 X h0 _ _ _ _ ⟨i1.val % 64, by omega⟩, Qrows x0 X h0, Qback x0 x1 x3 X g Dt C S hd hcs h1 h0 _ _ _ _ ⟨i1.val % 64, by omega⟩]
  have l : i1.val / 64 * 64 + i1.val % 64 = i1.val := by omega
  simp only [l, ← EReal.coe_mul, ← EReal.coe_add]
  exact congrArg _ (OUT_eq (fun l => X (bi i0) (si i0) (1536 + l)) (Dt (bi i0) (si i0)) (C (si i0)) (S (si i0)) g i1.val)
end Back
end Rows
end Rotation

end Q

section K

variable (x0 : FVec Ideal S2x2048x2304 .f32) (x2 : FVec Ideal S64 .f32) (x4 : FVec Ideal S2x2048x2x64 .f32)
variable (X : Fin 2 → Fin 2048 → ℕ → ℝ) (g : ℕ → ℝ) (Dt : Fin 2 → Fin 2048 → ℕ → ℝ) (C S : ℕ → ℕ → ℝ)

section Norm
variable (h0 : ∀ b s (k : Fin 2304), x0 (ix3 b s k) = ((X b s k.val : ℝ) : EReal))
include h0

/-- The rows of a head, their mean square, and the normalised rows. -/
theorem Krows (b : Fin 2) (s : Fin 2048) (h : Fin 2) (e : Fin 64) :
    (val_main_v69 (F := Ideal) x0 : FVec Ideal S2x2048x2x64 .f32) (ix4 b s h e) = ((X b s (2048 + (h.val * 64 + e.val)) : ℝ) : EReal) := by
  have t : (val_main_v69 (F := Ideal) x0 : FVec Ideal S2x2048x2x64 .f32) (ix4 b s h e) = x0 (ix3 b s ⟨2048 + (h.val * 64 + e.val), by omega⟩) := by
    unfold val_main_v69 val_main_v2
    pointwise
  rw [t, h0]
theorem Kmean (b : Fin 2) (s : Fin 2048) (h : Fin 2) (z : Fin 1) (e : Fin 64) :
    (val_main_v76 (F := Ideal) x0 : FVec Ideal S2x2048x2x1 .f32) (ix4 b s h z) = ((VV (fun l => X b s (2048 + l)) (h.val * 64 + e.val) : ℝ) : EReal) := by
  have t : (val_main_v76 (F := Ideal) x0 : FVec Ideal S2x2048x2x1 .f32) (ix4 b s h z)
      = Ideal.div (∑ k : Fin 64, (val_main_v69 (F := Ideal) x0 : FVec Ideal S2x2048x2x64 .f32) (ix4 b s h k) * (val_main_v69 (F := Ideal) x0 : FVec Ideal S2x2048x2x64 .f32) (ix4 b s h k)) (Ideal.ofBits FTy.f32 0x42800000#32) + Ideal.ofBits FTy.f32 0x358637BD#32 := by
    unfold val_main_v76 val_main_v74 val_main_v75 val_main_v73 val_main_v72 val_main_v71 val_main_v70
    generalize val_main_v69 (F := Ideal) x0 = q
    pointwise [val_main_cst_5, val_main_cst_6, val_main_cst_7]
  rw [t]
  simp only [Krows x0 X h0, ← EReal.coe_mul, Cert.Finite.coe_sum]
  rw [div_64, word_ep, ← EReal.coe_add]
  unfold VV
  rw [hs_lane _ _ _ e.isLt]
theorem Krsqrt (b : Fin 2) (s : Fin 2048) (h : Fin 2) (z : Fin 1) (e : Fin 64) :
    (val_main_v77 (F := Ideal) x0 : FVec Ideal S2x2048x2x1 .f32) (ix4 b s h z) = ((RS (fun l => X b s (2048 + l)) (h.val * 64 + e.val) : ℝ) : EReal) := by
  rw [← rsqrt_VV, ← Kmean x0 X h0 b s h z e]
  unfold val_main_v77
  generalize val_main_v76 (F := Ideal) x0 = q
  pointwise
theorem Kslope (b : Fin 2) (s : Fin 2048) (h : Fin 2) (z : Fin 1) (e : Fin 64) :
    (val_main_v80 (F := Ideal) x0 : FVec Ideal S2x2048x2x1 .f32) (ix4 b s h z) = ((-(1 / 2) * (RS (fun l => X b s (2048 + l)) (h.val * 64 + e.val) / VV (fun l => X b s (2048 + l)) (h.val * 64 + e.val)) : ℝ) : EReal) := by
  have t : (val_main_v80 (F := Ideal) x0 : FVec Ideal S2x2048x2x1 .f32) (ix4 b s h z) = Ideal.ofBits FTy.f32 0xBF000000#32
      * Ideal.div ((val_main_v77 (F := Ideal) x0 : FVec Ideal S2x2048x2x1 .f32) (ix4 b s h z)) ((val_main_v76 (F := Ideal) x0 : FVec Ideal S2x2048x2x1 .f32) (ix4 b s h z)) := by
    unfold val_main_v80 val_main_v78 val_main_v79
    generalize val_main_v77 (F := Ideal) x0 = q
    generalize val_main_v76 (F := Ideal) x0 = p
    pointwise [val_main_cst_8]
  rw [t, Krsqrt x0 X h0 b s h z e, Kmean x0 X h0 b s h z e, word_minus_half, Cert.Finite.div_real (VV_pos _ _).ne', ← EReal.coe_mul]
theorem Kxhat (b : Fin 2) (s : Fin 2048) (h : Fin 2) (e : Fin 64) :
    (val_main_v82 (F := Ideal) x0 : FVec Ideal S2x2048x2x64 .f32) (ix4 b s h e) = ((XH (fun l => X b s (2048 + l)) (h.val * 64 + e.val) : ℝ) : EReal) := by
  have t : (val_main_v82 (F := Ideal) x0 : FVec Ideal S2x2048x2x64 .f32) (ix4 b s h e) = (val_main_v69 (F := Ideal) x0 : FVec Ideal S2x2048x2x64 .f32) (ix4 b s h e) * (val_main_v77 (F := Ideal) x0 : FVec Ideal S2x2048x2x1 .f32) (ix4 b s h 0) := by
    unfold val_main_v82 val_main_v81
    generalize val_main_v77 (F := Ideal) x0 = q
    generalize val_main_v69 (F := Ideal) x0 = p
    pointwise
  rw [t, Krows x0 X h0, Krsqrt x0 X h0 b s h 0 e, ← EReal.coe_mul]; rfl
end Norm

section Rotation
variable (hd : ∀ b s (h : Fin 2) (e : Fin 64), x4 (ix4 b s h e) = ((Dt b s (h.val * 64 + e.val) : ℝ) : EReal))
  (hcs : ∀ (s : Fin 2048) (j : Fin 32), Ideal.cos ((val_main_v28 (F := Ideal) : FVec Ideal S2048x32 .f32) (ix2 s j)) = ((C s.val j.val : ℝ) : EReal)
    ∧ Ideal.sin ((val_main_v28 (F := Ideal) : FVec Ideal S2048x32 .f32) (ix2 s j)) = ((S s.val j.val : ℝ) : EReal))
include hd hcs

/-- The gradient of the rotation at odd and at even lanes, then at every lane. -/
theorem Kodd (b : Fin 2) (s : Fin 2048) (h : Fin 2) (j : Fin 32) : (val_main_v123 (F := Ideal) x4 : FVec Ideal S2x2048x2x32 .f32) (ix4 b s h j)
    = ((DR (Dt b s) (C s) (S s) (h.val * 64 + (2 * j.val + 1)) : ℝ) : EReal) := by
  have t : (val_main_v123 (F := Ideal) x4 : FVec Ideal S2x2048x2x32 .f32) (ix4 b s h j)
      = x4 (ix4 b s h ⟨2 * j.val + 1, by omega⟩) * Ideal.cos ((val_main_v28 (F := Ideal) : FVec Ideal S2048x32 .f32) (ix2 s j))
        + -x4 (ix4 b s h ⟨2 * j.val, by omega⟩) * Ideal.sin ((val_main_v28 (F := Ideal) : FVec Ideal S2048x32 .f32) (ix2 s j)) := by
    unfold val_main_v123 val_main_v117 val_main_v122 val_main_v115 val_main_v116 val_main_v120 val_main_v121 val_main_v114 val_main_v113 val_main_v112 val_main_v111 val_main_v91 val_main_v92 val_main_v29 val_main_v30
    skip
    generalize val_main_v28 (F := Ideal) = p
    pointwise
    simp only [mul_comm j.val 2]
  rw [t, hd, hd, (hcs s j).1, (hcs s j).2, DR_odd _ _ _ _ _ j.isLt, EReal.coe_add, EReal.coe_mul, EReal.coe_mul, EReal.coe_neg]
theorem Keven (b : Fin 2) (s : Fin 2048) (h : Fin 2) (j : Fin 32) : (val_main_v126 (F := Ideal) x4 : FVec Ideal S2x2048x2x32 .f32) (ix4 b s h j)
    = ((DR (Dt b s) (C s) (S s) (h.val * 64 + 2 * j.val) : ℝ) : EReal) := by
  have t : (val_main_v126 (F := Ideal) x4 : FVec Ideal S2x2048x2x32 .f32) (ix4 b s h j)
      = x4 (ix4 b s h ⟨2 * j.val + 1, by omega⟩) * Ideal.sin ((val_main_v28 (F := Ideal) : FVec Ideal S2048x32 .f32) (ix2 s j))
        + x4 (ix4 b s h ⟨2 * j.val, by omega⟩) * Ideal.cos ((val_main_v28 (F := Ideal) : FVec Ideal S2048x32 .f32) (ix2 s j)) := by
    unfold val_main_v126 val_main_v119 val_main_v125 val_main_v115 val_main_v118 val_main_v124 val_main_v114 val_main_v113 val_main_v112 val_main_v111 val_main_v91 val_main_v92 val_main_v29 val_main_v30
    skip
    generalize val_main_v28 (F := Ideal) = p
    pointwise
    simp only [mul_comm j.val 2]
  rw [t, hd, hd, (hcs s j).1, (hcs s j).2, DR_even _ _ _ _ _ j.isLt, EReal.coe_add, EReal.coe_mul, EReal.coe_mul]
theorem Krot (b : Fin 2) (s : Fin 2048) (h : Fin 2) (e : Fin 64) : (val_main_v132 (F := Ideal) x4 : FVec Ideal S2x2048x2x64 .f32) (ix4 b s h e)
    = ((DR (Dt b s) (C s) (S s) (h.val * 64 + e.val) : ℝ) : EReal) := by
  have t : (val_main_v132 (F := Ideal) x4 : FVec Ideal S2x2048x2x64 .f32) (ix4 b s h e) = (val_main_v131 (F := Ideal) x4 : FVec Ideal S2x2048x2x32x2 .f32) (ix5 b s h ⟨e.val / 2, by omega⟩ ⟨e.val % 2, by omega⟩) := by
    unfold val_main_v132
    generalize val_main_v131 (F := Ideal) x4 = q
    pointwise
  rw [t, val_main_v131_apply]
  unfold val_main_v128 val_main_v130
  have o : ∀ j : Fin 32, (val_main_v127 (F := Ideal) x4 : FVec Ideal S2x2048x2x32x1 .f32) (ix5 b s h j 0) = ((DR (Dt b s) (C s) (S s) (h.val * 64 + (2 * j.val + 1)) : ℝ) : EReal) := fun j => by
    rw [← Kodd x4 Dt C S hd hcs]
    unfold val_main_v127
    generalize val_main_v123 (F := Ideal) x4 = q
    pointwise
  have n : ∀ j : Fin 32, (val_main_v129 (F := Ideal) x4 : FVec Ideal S2x2048x2x32x1 .f32) (ix5 b s h j 0) = ((DR (Dt b s) (C s) (S s) (h.val * 64 + 2 * j.val) : ℝ) : EReal) := fun j => by
    rw [← Keven x4 Dt C S hd hcs]
    unfold val_main_v129
    generalize val_main_v126 (F := Ideal) x4 = q
    pointwise
  rcases Nat.mod_two_eq_zero_or_one e.val with he | he
  · rw [show (⟨e.val % 2, by omega⟩ : Fin 2) = 0 from Fin.ext he]
    refine (congrArg₂ (· + ·) (pad_second _ _ _ _ b s h _).2 ((pad_first _ _ _ _ b s h _).1.trans (n _))).trans ?_
    rw [show (val_main_cst_11 (F := Ideal) : FVec Ideal S_ .f32) (Shape.Idx.first h_S_) = 0 from Ideal.ofBits_zero_f32, zero_add]
    simp only [show 2 * (e.val / 2) = e.val by omega]
  · rw [show (⟨e.val % 2, by omega⟩ : Fin 2) = 1 from Fin.ext he]
    refine (congrArg₂ (· + ·) ((pad_second _ _ _ _ b s h _).1.trans (o _)) (pad_first _ _ _ _ b s h _).2).trans ?_
    rw [show (val_main_cst_12 (F := Ideal) : FVec Ideal S_ .f32) (Shape.Idx.first h_S_) = 0 from Ideal.ofBits_zero_f32, add_zero]
    simp only [show 2 * (e.val / 2) + 1 = e.val by omega]

section Gain
variable (h0 : ∀ b s (k : Fin 2304), x0 (ix3 b s k) = ((X b s k.val : ℝ) : EReal))
include h0
/-- The gain's gradient. -/
theorem Kgain (e : Fin 64) : (val_main_v202 (F := Ideal) x0 x4 : FVec Ideal S1x64 .f32) (ix2 0 e)
    = ((∑ r : Fin 4096, ∑ h : Fin 2, DR (Dt (bi r) (si r)) (C (si r)) (S (si r)) (h.val * 64 + e.val) * XH (fun l => X (bi r) (si r) (2048 + l)) (h.val * 64 + e.val) : ℝ) : EReal) := by
  have t : (val_main_v202 (F := Ideal) x0 x4 : FVec Ideal S1x64 .f32) (ix2 0 e) = ∑ b : Fin 2, ∑ s : Fin 2048, ∑ h : Fin 2,
      (val_main_v82 (F := Ideal) x0 : FVec Ideal S2x2048x2x64 .f32) (ix4 b s h e) * (val_main_v132 (F := Ideal) x4 : FVec Ideal S2x2048x2x64 .f32) (ix4 b s h e) := by
    unfold val_main_v202 val_main_v138 val_main_v135 val_main_v134 val_main_v133
    generalize val_main_v82 (F := Ideal) x0 = q
    generalize val_main_v132 (F := Ideal) x4 = p
    pointwise [val_main_cst_13, val_main_cst_14, sum_heads]
    exact (Fin.sum_univ_one _).trans ((Fin.sum_univ_one _).trans (Fin.sum_univ_one _))
  rw [t]
  simp only [Kxhat x0 X h0, Krot x4 Dt C S hd hcs, ← EReal.coe_mul, Cert.Finite.coe_sum]
  refine congrArg (fun x : ℝ => (x : EReal)) ((rows fun b s => ∑ h : Fin 2, XH (fun l => X b s (2048 + l)) (h.val * 64 + e.val) * DR (Dt b s) (C s) (S s) (h.val * 64 + e.val)).trans ?_)
  exact Finset.sum_congr rfl fun r _ => Finset.sum_congr rfl fun h _ => mul_comm _ _
end Gain

section Rows

variable (h1 : ∀ e : Fin 64, x2 (ix1 e) = ((g e.val : ℝ) : EReal))
include h1
theorem Kscaled (b : Fin 2) (s : Fin 2048) (h : Fin 2) (e : Fin 64) : (val_main_v137 (F := Ideal) x2 x4 : FVec Ideal S2x2048x2x64 .f32) (ix4 b s h e)
    = ((GX (Dt b s) (C s) (S s) g (h.val * 64 + e.val) : ℝ) : EReal) := by
  have t : (val_main_v137 (F := Ideal) x2 x4 : FVec Ideal S2x2048x2x64 .f32) (ix4 b s h e) = (val_main_v132 (F := Ideal) x4 : FVec Ideal S2x2048x2x64 .f32) (ix4 b s h e) * x2 (ix1 e) := by
    unfold val_main_v137 val_main_v136 val_main_v83
    generalize val_main_v132 (F := Ideal) x4 = p
    pointwise
  rw [t, Krot x4 Dt C S hd hcs, h1, ← EReal.coe_mul]
  unfold GX
  rw [(lane h.val e.val e.isLt).2]
section Back
variable (h0 : ∀ b s (k : Fin 2304), x0 (ix3 b s k) = ((X b s k.val : ℝ) : EReal))
include h0
theorem Kback (b : Fin 2) (s : Fin 2048) (h : Fin 2) (z : Fin 1) (e : Fin 64) : (val_main_v146 (F := Ideal) x0 x2 x4 : FVec Ideal S2x2048x2x1 .f32) (ix4 b s h z)
    = ((hs (fun i => (fun l => X b s (2048 + l)) i * GX (Dt b s) (C s) (S s) g i) (h.val * 64 + e.val) * (-(1 / 2) * (RS (fun l => X b s (2048 + l)) (h.val * 64 + e.val) / VV (fun l => X b s (2048 + l)) (h.val * 64 + e.val))) / 64 : ℝ) : EReal) := by
  have t : (val_main_v146 (F := Ideal) x0 x2 x4 : FVec Ideal S2x2048x2x1 .f32) (ix4 b s h z)
      = Ideal.div ((∑ k : Fin 64, (val_main_v69 (F := Ideal) x0 : FVec Ideal S2x2048x2x64 .f32) (ix4 b s h k) * (val_main_v137 (F := Ideal) x2 x4 : FVec Ideal S2x2048x2x64 .f32) (ix4 b s h k))
        * (val_main_v80 (F := Ideal) x0 : FVec Ideal S2x2048x2x1 .f32) (ix4 b s h z)) (Ideal.ofBits FTy.f32 0x42800000#32) := by
    unfold val_main_v146 val_main_v145 val_main_v144 val_main_v141 val_main_v140 val_main_v139
    generalize val_main_v69 (F := Ideal) x0 = q
    generalize val_main_v80 (F := Ideal) x0 = p
    generalize val_main_v137 (F := Ideal) x2 x4 = o
    pointwise [val_main_cst_15, val_main_cst_16]
  rw [t, Kslope x0 X h0 b s h z e]
  simp only [Krows x0 X h0, Kscaled x2 x4 g Dt C S hd hcs h1, ← EReal.coe_mul, Cert.Finite.coe_sum]
  rw [div_64, hs_lane _ _ _ e.isLt]
/-- The rows' gradient. -/
theorem Kgrad (i : S4096x128.Idx) : (val_main_v200 (F := Ideal) x0 x2 x4 : FVec Ideal S4096x128 .bf16) i
    = ((OUT (fun l => X (bi (i 0)) (si (i 0)) (2048 + l)) (Dt (bi (i 0)) (si (i 0))) (C (si (i 0))) (S (si (i 0))) g (i 1).val : ℝ) : EReal) := by
  idx_vars i
  have t : (val_main_v200 (F := Ideal) x0 x2 x4 : FVec Ideal S4096x128 .bf16) (ix2 i0 i1)
      = (val_main_v152 (F := Ideal) x0 x2 x4 : FVec Ideal S2x2048x2x64 .f32) (ix4 (bi i0) (si i0) ⟨i1.val / 64, by omega⟩ ⟨i1.val % 64, by omega⟩) := by
    unfold val_main_v200 val_main_v199 val_main_v153
    generalize val_main_v152 (F := Ideal) x0 x2 x4 = o
    pointwise
  have u : ∀ (b : Fin 2) (s : Fin 2048) (h : Fin 2) (e : Fin 64), (val_main_v152 (F := Ideal) x0 x2 x4 : FVec Ideal S2x2048x2x64 .f32) (ix4 b s h e)
      = (val_main_v137 (F := Ideal) x2 x4 : FVec Ideal S2x2048x2x64 .f32) (ix4 b s h e) * (val_main_v77 (F := Ideal) x0 : FVec Ideal S2x2048x2x1 .f32) (ix4 b s h 0)
        + (val_main_v69 (F := Ideal) x0 : FVec Ideal S2x2048x2x64 .f32) (ix4 b s h e) * (val_main_v146 (F := Ideal) x0 x2 x4 : FVec Ideal S2x2048x2x1 .f32) (ix4 b s h 0)
        + (val_main_v146 (F := Ideal) x0 x2 x4 : FVec Ideal S2x2048x2x1 .f32) (ix4 b s h 0) * (val_main_v69 (F := Ideal) x0 : FVec Ideal S2x2048x2x64 .f32) (ix4 b s h e) := fun b s h e => by
    unfold val_main_v152 val_main_v150 val_main_v151 val_main_v149 val_main_v148 val_main_v147 val_main_v143 val_main_v142
    generalize val_main_v69 (F := Ideal) x0 = q
    generalize val_main_v77 (F := Ideal) x0 = p
    generalize val_main_v146 (F := Ideal) x0 x2 x4 = w
    generalize val_main_v137 (F := Ideal) x2 x4 = o
    pointwise [val_main_cst_17]
    simp only [Fin.sum_univ_one]
  rw [t, u, Kscaled x2 x4 g Dt C S hd hcs h1, Krsqrt x0 X h0 _ _ _ _ ⟨i1.val % 64, by omega⟩, Krows x0 X h0, Kback x0 x2 x4 X g Dt C S hd hcs h1 h0 _ _ _ _ ⟨i1.val % 64, by omega⟩]
  have l : i1.val / 64 * 64 + i1.val % 64 = i1.val := by omega
  simp only [l, ← EReal.coe_mul, ← EReal.coe_add]
  exact congrArg _ (OUT_eq (fun l => X (bi i0) (si i0) (2048 + l)) (Dt (bi i0) (si i0)) (C (si i0)) (S (si i0)) g i1.val)
end Back
end Rows
end Rotation

end K

end Cert.QkbRef
-- ==== Proof.QkbClaims.lean ====
/- Untrusted: the claims about the gradient of the query/key norm and rotation. -/
module

public import proofs.«01_k».proof.Defs
public import proofs.«01_k».proof.Proof.Qkb
public import proofs.«01_k».proof.Proof.QkbRef
public import proofs.«01_k».proof.Proof.Gen.QkbK.Frame
public import proofs.«01_k».proof.Proof.Gen.QkbRIdeal.Run
public import Idealize.ShloMosaic.Adequacy
public import Idealize.ShloMosaic.Lib.Quiescent

@[expose] public section

noncomputable section

namespace Cert.Qkb

open Idealize.ShloMosaic Idealize.ShloMosaic.TcCoe Idealize.SL.Sem

/-- The side conditions of the precondition's operations. -/
theorem preFacts : Cert.Pre_qkb_finite.Facts where
  bcast_S_S2x2048x2304 := by decide
  reducesTo_S2x2048x2304_S_d0_1_2 := by decide
  h_S_ := by decide
  bcast_S_S64 := by decide
  reducesTo_S64_S_d0 := by decide
  bcast_S_S2x2048x8x64 := by decide
  reducesTo_S2x2048x8x64_S_d0_1_2_3 := by decide
  bcast_S_S2x2048x2x64 := by decide
  reducesTo_S2x2048x2x64_S_d0_1_2_3 := by decide

instance : Subsingleton Cert.Pre_qkb_finite.S_.Idx := ⟨fun a b => funext fun k => k.elim0⟩

/-- The head and the lane inside it name a lane of the row. -/
theorem head_lane (n : ℕ) (h : Fin n) (e : Fin 64) (f : Fin n → Fin 64 → ℝ) :
    (if p : h.val * 64 + e.val < n * 64 then f ⟨(h.val * 64 + e.val) / 64, by omega⟩ ⟨(h.val * 64 + e.val) % 64, by omega⟩ else 0) = f h e := by
  rw [dif_pos (by omega)]
  exact congrArg₂ f (Fin.ext (by simp only; omega)) (Fin.ext (by simp only; omega))

/-- Under the precondition the arguments are arrays of reals. -/
theorem reals [Cert.Pre_qkb_finite.Facts] {x0 : FVec Ideal Cert.Pre_qkb_finite.S2x2048x2304 .f32} {x1 x2 : FVec Ideal Cert.Pre_qkb_finite.S64 .f32}
    {x3 : FVec Ideal Cert.Pre_qkb_finite.S2x2048x8x64 .f32} {x4 : FVec Ideal Cert.Pre_qkb_finite.S2x2048x2x64 .f32}
    (h : Cert.Pre_qkb_finite.fn (F := Ideal) x0 x1 x2 x3 x4 = fun _ => 1#1) :
    (∃ f : Fin 2 → Fin 2048 → ℕ → ℝ, ∀ b s (k : Fin 2304), x0 (ix3 b s k) = ((f b s k.val : ℝ) : EReal))
      ∧ (∃ f : ℕ → ℝ, ∀ e : Fin 64, x1 (ix1 e) = ((f e.val : ℝ) : EReal)) ∧ (∃ f : ℕ → ℝ, ∀ e : Fin 64, x2 (ix1 e) = ((f e.val : ℝ) : EReal))
      ∧ (∃ f : Fin 2 → Fin 2048 → ℕ → ℝ, ∀ b s (h : Fin 8) (e : Fin 64), x3 (ix4 b s h e) = ((f b s (h.val * 64 + e.val) : ℝ) : EReal))
      ∧ (∃ f : Fin 2 → Fin 2048 → ℕ → ℝ, ∀ b s (h : Fin 2) (e : Fin 64), x4 (ix4 b s h e) = ((f b s (h.val * 64 + e.val) : ℝ) : EReal)) := by
  unfold Cert.Pre_qkb_finite.fn Cert.Pre_qkb_finite.fn_part1 at h
  obtain ⟨h, h4⟩ := Cert.Finite.and_split h
  obtain ⟨h, h3⟩ := Cert.Finite.and_split h
  obtain ⟨h, h2⟩ := Cert.Finite.and_split h
  obtain ⟨h0, h1⟩ := Cert.Finite.and_split h
  obtain ⟨f0, e0⟩ := Cert.Finite.array_real (fun a => a.elim0) h0
  obtain ⟨f1, e1⟩ := Cert.Finite.array_real (fun a => a.elim0) h1
  obtain ⟨f2, e2⟩ := Cert.Finite.array_real (fun a => a.elim0) h2
  obtain ⟨f3, e3⟩ := Cert.Finite.array_real (fun a => a.elim0) h3
  obtain ⟨f4, e4⟩ := Cert.Finite.array_real (fun a => a.elim0) h4
  refine ⟨⟨fun b s k => if p : k < 2304 then f0 (ix3 b s ⟨k, p⟩) else 0, fun b s k => (congrFun e0 _).trans ?_⟩,
    ⟨fun k => if p : k < 64 then f1 (ix1 ⟨k, p⟩) else 0, fun k => (congrFun e1 _).trans ?_⟩,
    ⟨fun k => if p : k < 64 then f2 (ix1 ⟨k, p⟩) else 0, fun k => (congrFun e2 _).trans ?_⟩,
    ⟨fun b s l => if p : l < 8 * 64 then f3 (ix4 b s ⟨l / 64, by omega⟩ ⟨l % 64, by omega⟩) else 0, fun b s h e => (congrFun e3 _).trans ?_⟩,
    ⟨fun b s l => if p : l < 2 * 64 then f4 (ix4 b s ⟨l / 64, by omega⟩ ⟨l % 64, by omega⟩) else 0, fun b s h e => (congrFun e4 _).trans ?_⟩⟩
  · dsimp only; rw [dif_pos k.isLt]
  · dsimp only; rw [dif_pos k.isLt]
  · dsimp only; rw [dif_pos k.isLt]
  · exact congrArg _ (head_lane 8 h e fun h e => f3 (ix4 b s h e)).symm
  · exact congrArg _ (head_lane 2 h e fun h e => f4 (ix4 b s h e)).symm

/-- The query cotangent under the logits' scale. -/
theorem scaled (x3 : FVec Ideal Cert.QkbRIdeal.S2x2048x8x64 .f32) (Q : Fin 2 → Fin 2048 → ℕ → ℝ)
    (h3 : ∀ b s (h : Fin 8) (e : Fin 64), x3 (ix4 b s h e) = ((Q b s (h.val * 64 + e.val) : ℝ) : EReal)) (b : Fin 2) (s : Fin 2048) (h : Fin 8) (e : Fin 64) :
    (Cert.QkbRIdeal.Read.val_main_v110 (F := Ideal) x3 : FVec Ideal Cert.QkbRIdeal.S2x2048x8x64 .f32) (ix4 b s h e) = (((fun b s l => Q b s l * (1 / 8)) b s (h.val * 64 + e.val) : ℝ) : EReal) := by
  dsimp only
  rw [EReal.coe_mul, ← h3, ← Cert.Heads.word_8th]
  pointwise [Cert.QkbRIdeal.Read.val_main_v110, Cert.QkbRIdeal.Read.val_main_v109, Cert.QkbRIdeal.Read.val_main_cst_10]

/-- The reference's gradients against the two gains. -/
theorem gain_q (x0 : FVec Ideal Cert.QkbRIdeal.S2x2048x2304 .f32) (x3 : FVec Ideal Cert.QkbRIdeal.S2x2048x8x64 .f32) (X Q : Fin 2 → Fin 2048 → ℕ → ℝ) (C S : ℕ → ℕ → ℝ)
    (h0 : ∀ b s (k : Fin 2304), x0 (ix3 b s k) = ((X b s k.val : ℝ) : EReal)) (h3 : ∀ b s (h : Fin 8) (e : Fin 64), x3 (ix4 b s h e) = ((Q b s (h.val * 64 + e.val) : ℝ) : EReal))
    (hcs : ∀ (s : Fin 2048) (j : Fin 32), Ideal.cos ((Cert.QkbRIdeal.Read.val_main_v28 (F := Ideal) : FVec Ideal Cert.QkbRIdeal.S2048x32 .f32) (ix2 s j)) = ((C s.val j.val : ℝ) : EReal)
    ∧ Ideal.sin ((Cert.QkbRIdeal.Read.val_main_v28 (F := Ideal) : FVec Ideal Cert.QkbRIdeal.S2048x32 .f32) (ix2 s j)) = ((S s.val j.val : ℝ) : EReal)) : (Cert.QkbRIdeal.Read.val_main_v201 (F := Ideal) x0 x3 : FVec Ideal Cert.QkbRIdeal.S1x64 .f32) = TGQ X Q C S := by
  funext i
  idx_vars i
  obtain rfl : i0 = 0 := Subsingleton.elim _ _
  have key := QkbRef.Qgain x0 x3 X (fun b s l => Q b s l * (1 / 8)) C S (scaled x3 Q h3) hcs h0 i1
  unfold TGQ gq yq dq
  exact key
theorem gain_k (x0 : FVec Ideal Cert.QkbRIdeal.S2x2048x2304 .f32) (x4 : FVec Ideal Cert.QkbRIdeal.S2x2048x2x64 .f32) (X K : Fin 2 → Fin 2048 → ℕ → ℝ) (C S : ℕ → ℕ → ℝ)
    (h0 : ∀ b s (k : Fin 2304), x0 (ix3 b s k) = ((X b s k.val : ℝ) : EReal)) (h4 : ∀ b s (h : Fin 2) (e : Fin 64), x4 (ix4 b s h e) = ((K b s (h.val * 64 + e.val) : ℝ) : EReal))
    (hcs : ∀ (s : Fin 2048) (j : Fin 32), Ideal.cos ((Cert.QkbRIdeal.Read.val_main_v28 (F := Ideal) : FVec Ideal Cert.QkbRIdeal.S2048x32 .f32) (ix2 s j)) = ((C s.val j.val : ℝ) : EReal)
    ∧ Ideal.sin ((Cert.QkbRIdeal.Read.val_main_v28 (F := Ideal) : FVec Ideal Cert.QkbRIdeal.S2048x32 .f32) (ix2 s j)) = ((S s.val j.val : ℝ) : EReal)) : (Cert.QkbRIdeal.Read.val_main_v202 (F := Ideal) x0 x4 : FVec Ideal Cert.QkbRIdeal.S1x64 .f32) = TGK X K C S := by
  funext i
  idx_vars i
  obtain rfl : i0 = 0 := Subsingleton.elim _ _
  have key := QkbRef.Kgain x0 x4 X K C S h4 hcs h0 i1
  unfold TGK gkk yk dk
  exact key

/-- The reference's gradients against the query and key rows. -/
theorem grad_q (x0 : FVec Ideal Cert.QkbRIdeal.S2x2048x2304 .f32) (x1 : FVec Ideal Cert.QkbRIdeal.S64 .f32) (x3 : FVec Ideal Cert.QkbRIdeal.S2x2048x8x64 .f32) (X Q : Fin 2 → Fin 2048 → ℕ → ℝ) (g : ℕ → ℝ) (C S : ℕ → ℕ → ℝ)
    (h0 : ∀ b s (k : Fin 2304), x0 (ix3 b s k) = ((X b s k.val : ℝ) : EReal)) (h1 : ∀ e : Fin 64, x1 (ix1 e) = ((g e.val : ℝ) : EReal))
    (h3 : ∀ b s (h : Fin 8) (e : Fin 64), x3 (ix4 b s h e) = ((Q b s (h.val * 64 + e.val) : ℝ) : EReal))
    (hcs : ∀ (s : Fin 2048) (j : Fin 32), Ideal.cos ((Cert.QkbRIdeal.Read.val_main_v28 (F := Ideal) : FVec Ideal Cert.QkbRIdeal.S2048x32 .f32) (ix2 s j)) = ((C s.val j.val : ℝ) : EReal)
    ∧ Ideal.sin ((Cert.QkbRIdeal.Read.val_main_v28 (F := Ideal) : FVec Ideal Cert.QkbRIdeal.S2048x32 .f32) (ix2 s j)) = ((S s.val j.val : ℝ) : EReal)) : (Cert.QkbRIdeal.Read.val_main_v198 (F := Ideal) x0 x1 x3 : FVec Ideal Cert.QkbRIdeal.S4096x512 .bf16) = TQ X g Q C S := by
  funext i
  have key := QkbRef.Qgrad x0 x1 x3 X g (fun b s l => Q b s l * (1 / 8)) C S (scaled x3 Q h3) hcs h1 h0 i
  unfold TQ yq dq
  exact key
theorem grad_k (x0 : FVec Ideal Cert.QkbRIdeal.S2x2048x2304 .f32) (x2 : FVec Ideal Cert.QkbRIdeal.S64 .f32) (x4 : FVec Ideal Cert.QkbRIdeal.S2x2048x2x64 .f32) (X K : Fin 2 → Fin 2048 → ℕ → ℝ) (g : ℕ → ℝ) (C S : ℕ → ℕ → ℝ)
    (h0 : ∀ b s (k : Fin 2304), x0 (ix3 b s k) = ((X b s k.val : ℝ) : EReal)) (h2 : ∀ e : Fin 64, x2 (ix1 e) = ((g e.val : ℝ) : EReal))
    (h4 : ∀ b s (h : Fin 2) (e : Fin 64), x4 (ix4 b s h e) = ((K b s (h.val * 64 + e.val) : ℝ) : EReal))
    (hcs : ∀ (s : Fin 2048) (j : Fin 32), Ideal.cos ((Cert.QkbRIdeal.Read.val_main_v28 (F := Ideal) : FVec Ideal Cert.QkbRIdeal.S2048x32 .f32) (ix2 s j)) = ((C s.val j.val : ℝ) : EReal)
    ∧ Ideal.sin ((Cert.QkbRIdeal.Read.val_main_v28 (F := Ideal) : FVec Ideal Cert.QkbRIdeal.S2048x32 .f32) (ix2 s j)) = ((S s.val j.val : ℝ) : EReal)) : (Cert.QkbRIdeal.Read.val_main_v200 (F := Ideal) x0 x2 x4 : FVec Ideal Cert.QkbRIdeal.S4096x128 .bf16) = TK X g K C S := by
  funext i
  have key := QkbRef.Kgrad x0 x2 x4 X g K C S h4 hcs h2 h0 i
  unfold TK yk dk
  exact key

/-- The reference's runs end with its counters at zero. -/
theorem quiescentR : quiescent_QkbRIdeal := fun m ρ _ =>
  (θ_run Cert.QkbRIdeal.defs _ _).mono (fun r h => ⟨fun c => (h c).2.2.2.2, sem_eq_zero_of_no_sems (by decide) r.2⟩)
    (Cert.QkbRIdeal.Value.run (F := Ideal) m ρ)

/-- The reference starts from the kernel's arguments. -/
theorem a0 (m : (ℓ : Loc Cert.QkbKIdeal.nD Cert.QkbKIdeal.τ Cert.QkbKIdeal.sig) → Buf (Elt Ideal) ℓ) (m' : (ℓ : Loc Cert.QkbRIdeal.nD Cert.QkbRIdeal.τ Cert.QkbRIdeal.sig) → Buf (Elt Ideal) ℓ)
    (c : Dev Cert.QkbKIdeal.nD) (h : m' (c.tc.loc Cert.QkbRIdeal.main_arg0) = m (c.tc.loc Cert.QkbKIdeal.main_arg0)) :
    StableHlo.launchContents m' c (Proc.tc.devRef Cert.QkbRIdeal.main_arg0) = A0 m c := h
theorem a1 (m : (ℓ : Loc Cert.QkbKIdeal.nD Cert.QkbKIdeal.τ Cert.QkbKIdeal.sig) → Buf (Elt Ideal) ℓ) (m' : (ℓ : Loc Cert.QkbRIdeal.nD Cert.QkbRIdeal.τ Cert.QkbRIdeal.sig) → Buf (Elt Ideal) ℓ)
    (c : Dev Cert.QkbKIdeal.nD) (h : m' (c.tc.loc Cert.QkbRIdeal.main_arg1) = m (c.tc.loc Cert.QkbKIdeal.main_arg1)) :
    StableHlo.launchContents m' c (Proc.tc.devRef Cert.QkbRIdeal.main_arg1) = A1 m c := h
theorem a2 (m : (ℓ : Loc Cert.QkbKIdeal.nD Cert.QkbKIdeal.τ Cert.QkbKIdeal.sig) → Buf (Elt Ideal) ℓ) (m' : (ℓ : Loc Cert.QkbRIdeal.nD Cert.QkbRIdeal.τ Cert.QkbRIdeal.sig) → Buf (Elt Ideal) ℓ)
    (c : Dev Cert.QkbKIdeal.nD) (h : m' (c.tc.loc Cert.QkbRIdeal.main_arg2) = m (c.tc.loc Cert.QkbKIdeal.main_arg2)) :
    StableHlo.launchContents m' c (Proc.tc.devRef Cert.QkbRIdeal.main_arg2) = A2 m c := h
theorem a3 (m : (ℓ : Loc Cert.QkbKIdeal.nD Cert.QkbKIdeal.τ Cert.QkbKIdeal.sig) → Buf (Elt Ideal) ℓ) (m' : (ℓ : Loc Cert.QkbRIdeal.nD Cert.QkbRIdeal.τ Cert.QkbRIdeal.sig) → Buf (Elt Ideal) ℓ)
    (c : Dev Cert.QkbKIdeal.nD) (h : m' (c.tc.loc Cert.QkbRIdeal.main_arg3) = m (c.tc.loc Cert.QkbKIdeal.main_arg3)) :
    StableHlo.launchContents m' c (Proc.tc.devRef Cert.QkbRIdeal.main_arg3) = A3 m c := h
theorem a4 (m : (ℓ : Loc Cert.QkbKIdeal.nD Cert.QkbKIdeal.τ Cert.QkbKIdeal.sig) → Buf (Elt Ideal) ℓ) (m' : (ℓ : Loc Cert.QkbRIdeal.nD Cert.QkbRIdeal.τ Cert.QkbRIdeal.sig) → Buf (Elt Ideal) ℓ)
    (c : Dev Cert.QkbKIdeal.nD) (h : m' (c.tc.loc Cert.QkbRIdeal.main_arg4) = m (c.tc.loc Cert.QkbKIdeal.main_arg4)) :
    StableHlo.launchContents m' c (Proc.tc.devRef Cert.QkbRIdeal.main_arg4) = A4 m c := h

set_option maxHeartbeats 1600000 in
/-- On finite arguments the kernel's gradients, against the query and key rows and against the two gains, are the reference's. -/
theorem algebraic [Cert.Pre_qkb_finite.Facts] : algebraic_QkbKIdeal_QkbRIdeal_pre_qkb_finite := by
  intro m ρ m' ρ' hpre hagree
  refine ⟨_, _, _, _, Cert.QkbKIdeal.Value.run_blocks (F := Ideal) m ρ, ?_⟩
  refine (θ_run Cert.QkbRIdeal.defs _ _).mono (fun _ h c => ⟨?_, ?_, ?_, ?_, (h c).2.2.2.2⟩) (Cert.QkbRIdeal.Value.run (F := Ideal) m' ρ')
  · obtain ⟨⟨X, h0⟩, ⟨g, h1⟩, ⟨gk, h2⟩, ⟨Q, h3⟩, ⟨K, h4⟩⟩ := reals (hpre c)
    obtain ⟨C, S, hcs⟩ := tables
    refine (h c).1.trans ?_
    rw [Cert.QkbRIdeal.Read.val_main_v198_eq, a0 m m' c (hagree c).1, a1 m m' c (hagree c).2.1, a3 m m' c (hagree c).2.2.2.1]
    exact (grad_q (A0 m c) (A1 m c) (A3 m c) X Q g C S h0 h1 h3 hcs).trans (final9 m c X g Q C S h0 h1 h3 hcs).symm
  · obtain ⟨⟨X, h0⟩, ⟨g, h1⟩, ⟨gk, h2⟩, ⟨Q, h3⟩, ⟨K, h4⟩⟩ := reals (hpre c)
    obtain ⟨C, S, hcs⟩ := tables
    refine (h c).2.1.trans ?_
    rw [Cert.QkbRIdeal.Read.val_main_v200_eq, a0 m m' c (hagree c).1, a2 m m' c (hagree c).2.2.1, a4 m m' c (hagree c).2.2.2.2]
    exact (grad_k (A0 m c) (A2 m c) (A4 m c) X K gk C S h0 h2 h4 hcs).trans (final10 m c X gk K C S h0 h2 h4 hcs).symm
  · obtain ⟨⟨X, h0⟩, ⟨g, h1⟩, ⟨gk, h2⟩, ⟨Q, h3⟩, ⟨K, h4⟩⟩ := reals (hpre c)
    obtain ⟨C, S, hcs⟩ := tables
    refine (h c).2.2.1.trans ?_
    rw [Cert.QkbRIdeal.Read.val_main_v201_eq, a0 m m' c (hagree c).1, a3 m m' c (hagree c).2.2.2.1]
    exact (gain_q (A0 m c) (A3 m c) X Q C S h0 h3 hcs).trans (final11 m c X Q C S h0 h3 hcs).symm
  · obtain ⟨⟨X, h0⟩, ⟨g, h1⟩, ⟨gk, h2⟩, ⟨Q, h3⟩, ⟨K, h4⟩⟩ := reals (hpre c)
    obtain ⟨C, S, hcs⟩ := tables
    refine (h c).2.2.2.1.trans ?_
    rw [Cert.QkbRIdeal.Read.val_main_v202_eq, a0 m m' c (hagree c).1, a4 m m' c (hagree c).2.2.2.2]
    exact (gain_k (A0 m c) (A4 m c) X K C S h0 h4 hcs).trans (final12 m c X K C S h0 h4 hcs).symm

end Cert.Qkb
end
-- ==== Proof.Attf.lean ====
/- Untrusted: the attention kernel on arrays of reals: its output and each row's log-sum. -/
module

public import proofs.«01_k».proof.Proof.Finite
public import proofs.«01_k».proof.Proof.Softmax
public import proofs.«01_k».proof.Proof.Gen.AttfKIdeal.Value
public import proofs.«01_k».proof.Proof.Gen.AttfRIdeal.Read
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open scoped BigOperators

namespace Cert.Attf

/-- The query head of a key head's four, its key head, and its place among the four. -/
abbrev hd (k : Fin 2) (g : Fin 4) : Fin 8 := ⟨k.val * 4 + g.val, by omega⟩
abbrev kh (h : Fin 8) : Fin 2 := ⟨h.val / 4, by omega⟩
abbrev gh (h : Fin 8) : Fin 4 := ⟨h.val % 4, by omega⟩
/-- The projections' column that holds value `e` of key head `k`. -/
abbrev vc (k : Fin 2) (e : Fin 64) : Fin 2304 := ⟨2176 + (k.val * 64 + e.val), by omega⟩
/-- The batch and the position of a flattened row, the head and the place of a flattened column. -/
abbrev bi (r : Fin 4096) : Fin 2 := ⟨r.val / 2048, by omega⟩
abbrev si (r : Fin 4096) : Fin 2048 := ⟨r.val % 2048, by omega⟩
abbrev hi (y : Fin 512) : Fin 8 := ⟨y.val / 64, by omega⟩
abbrev ei (y : Fin 512) : Fin 64 := ⟨y.val % 64, by omega⟩

section Math

variable (f0 : Fin 2 → Fin 2048 → Fin 8 → Fin 64 → ℝ) (f1 : Fin 2 → Fin 2048 → Fin 2 → Fin 64 → ℝ) (f2 : Fin 2 → Fin 2048 → Fin 2304 → ℝ)

/-- The scores of a query's row. -/
def SC (b : Fin 2) (h : Fin 8) (r t : Fin 2048) : ℝ := ∑ e : Fin 64, f1 b t (kh h) e * f0 b r h e
/-- The row's output, and its log-sum. -/
def O (b : Fin 2) (r : Fin 2048) (h : Fin 8) (e : Fin 64) : ℝ := ∑ t : Fin 2048, Soft.P (SC f0 f1 b h r) t * f2 b t (vc (kh h) e)
def L (b : Fin 2) (r : Fin 2048) (h : Fin 8) : ℝ := Real.log (∑ t : Fin 2048, Real.exp (SC f0 f1 b h r t))
/-- The arrays that hold them. -/
def RO : (⟨2, ![4096, 512]⟩ : Shape).Idx → EReal := fun j => ((O f0 f1 f2 (bi (j 0)) (si (j 0)) (hi (j 1)) (ei (j 1)) : ℝ) : EReal)
def RL : (⟨2, ![4096, 8]⟩ : Shape).Idx → EReal := fun j => ((L f0 f1 (bi (j 0)) (si (j 0)) (j 1) : ℝ) : EReal)

/-- A row's log-sum does not depend on what is taken off its scores first. -/
theorem log_sum (s : Fin 2048 → ℝ) (M : ℝ) : M + Real.log (∑ t, Real.exp (s t - M)) = Real.log (∑ t, Real.exp (s t)) := by
  have e : ∀ t, Real.exp (s t) = Real.exp M * Real.exp (s t - M) := fun t => by rw [← Real.exp_add]; ring_nf
  simp only [e]
  rw [← Finset.mul_sum, Real.log_mul (Real.exp_pos _).ne' (Soft.sum_pos s M).ne', Real.log_exp]

end Math

section Kernel

open Cert.AttfKIdeal Cert.AttfKIdeal.Gen

/-- Column `e` of query head `h`, and of the key head that it reads. -/
abbrev qc (h : Fin 8) (e : Fin 64) : Fin 512 := ⟨64 * h.val + e.val, by omega⟩
abbrev kc (h : Fin 8) (e : Fin 64) : Fin 128 := ⟨64 * (h.val / 4) + e.val, by omega⟩

section Block

variable (q : FVec Ideal S512x512 .bf16) (k v : FVec Ideal S2048x128 .bf16)

/-- A block's scores, and a row's largest. -/
def SB (h : Fin 8) (r : Fin 512) (t : Fin 2048) : EReal := ∑ e : Fin 64, q (ix2 r (qc h e)) * k (ix2 t (kc h e))
def MB (h : Fin 8) (r : Fin 512) : EReal := Finset.univ.fold max ⊥ fun t : Fin 2048 => SB q k h r t

/-- What the body stores of a head's outputs, head by head. -/
def OB (h : Fin 8) : FVec Ideal S512x64 .bf16 :=
  match h with
  | 0 => k0_pay15 q k v
  | 1 => k0_pay21 (k0_pay10 v) (k0_pay19 q k) (k0_pay20 q k)
  | 2 => k0_pay27 (k0_pay8 q) (k0_pay9 k) (k0_pay10 v)
  | 3 => k0_pay33 (k0_pay10 v) (k0_pay29 (k0_pay8 q) (k0_pay9 k)) (k0_pay30 (k0_pay8 q) (k0_pay9 k))
  | 4 => k0_pay39 (k0_pay8 q) (k0_pay9 k) (k0_pay10 v)
  | 5 => k0_pay46 (k0_pay9 k) (k0_pay10 v) (k0_pay41 (k0_pay8 q))
  | 6 => k0_pay52 (k0_pay8 q) (k0_pay9 k) (k0_pay10 v)
  | 7 => k0_pay6 (k0_pay8 q) (k0_pay9 k) (k0_pay10 v)

/-- What the body stores of a head's log-sums, head by head. -/
def LB (h : Fin 8) : FVec Ideal S512x1 .f32 :=
  match h with
  | 0 => k0_pay16 q k
  | 1 => k0_pay22 (k0_pay18 q k) (k0_pay20 q k)
  | 2 => k0_pay28 (k0_pay8 q) (k0_pay9 k)
  | 3 => k0_pay34 (k0_pay29 (k0_pay8 q) (k0_pay9 k)) (k0_pay30 (k0_pay8 q) (k0_pay9 k))
  | 4 => k0_pay40 (k0_pay8 q) (k0_pay9 k)
  | 5 => k0_pay47 (k0_pay9 k) (k0_pay41 (k0_pay8 q))
  | 6 => k0_pay1 (k0_pay49 (k0_pay8 q) (k0_pay9 k)) (k0_pay53 (k0_pay8 q) (k0_pay9 k))
  | 7 => k0_pay7 (k0_pay8 q) (k0_pay9 k)

theorem OB_apply (h : Fin 8) (r : Fin 512) (e : Fin 64) : OB q k v h (ix2 r e)
    = (∑ t : Fin 2048, Ideal.exp (SB q k h r t - MB q k h r) * v (ix2 t (kc h e))) * Ideal.div 1 (∑ t : Fin 2048, Ideal.exp (SB q k h r t - MB q k h r)) := by
  unfold OB MB SB
  rw [← Soft.word_ninf]
  match h with
  | 0 | 1 | 2 | 3 | 4 | 5 | 6 | 7 =>
    open_payloads
    pointwise
    simp [qc, kc]

theorem LB_apply (h : Fin 8) (r : Fin 512) : LB q k h (ix2 r 0)
    = MB q k h r + Ideal.log (∑ t : Fin 2048, Ideal.exp (SB q k h r t - MB q k h r)) := by
  unfold LB MB SB
  rw [← Soft.word_ninf]
  match h with
  | 0 | 1 | 2 | 3 | 4 | 5 | 6 | 7 =>
    open_payloads
    pointwise
    simp [qc, kc]

end Block

variable (m : (ℓ : Loc nD τ sig) → Buf (Elt Ideal) ℓ) (c : Dev nD)

/-- The queries, the keys and the projections that the program is given. -/
abbrev A0 : FVec Ideal S2x2048x8x64 .f32 := m ⟨c, Proc.devRef .tc main_arg0⟩
abbrev A1 : FVec Ideal S2x2048x2x64 .f32 := m ⟨c, Proc.devRef .tc main_arg1⟩
abbrev A2 : FVec Ideal S2x2048x2304 .f32 := m ⟨c, Proc.devRef .tc main_arg2⟩

theorem ext4 {a b c d : ℕ} {p p' : Fin a} {q q' : Fin b} {r r' : Fin c} {s s' : Fin d} (h0 : p.val = p'.val) (h1 : q.val = q'.val) (h2 : r.val = r'.val)
    (h3 : s.val = s'.val) : ix4 p q r s = ix4 p' q' r' s' := by
  rw [Fin.ext h0, Fin.ext h1, Fin.ext h2, Fin.ext h3]

theorem V1 (r : Fin 4096) (h : Fin 8) (e : Fin 64) : (V m c main_v1 : FVec Ideal S4096x512 .bf16) (ix2 r (qc h e)) = A0 m c (ix4 (bi r) (si r) h e) := by
  unfold V; after_reads_simp
  pointwise
  exact congrArg (A0 m c) (ext4 (by simp only <;> omega) (by simp only <;> omega) (by simp only <;> omega) (by simp only <;> omega))
theorem V3 (r : Fin 4096) (h : Fin 8) (e : Fin 64) : (V m c main_v3 : FVec Ideal S4096x128 .bf16) (ix2 r (kc h e)) = A1 m c (ix4 (bi r) (si r) (kh h) e) := by
  unfold V; after_reads_simp
  pointwise
  exact congrArg (A1 m c) (ext4 (by simp only <;> omega) (by simp only <;> omega) (by simp only <;> omega) (by simp only <;> omega))
theorem V5 (r : Fin 4096) (x : Fin 2304) : (V m c main_v5 : FVec Ideal S4096x2304 .bf16) (ix2 r x) = A2 m c (ix3 (bi r) (si r) x) := by
  unfold V; after_reads_simp
  pointwise

theorem idx_val : ∀ t : Fin grid0.N, win0_0.index t = ![t.val, 0] ∧ win0_1.index t = ![t.val / 4, 0] ∧ win0_2.index t = ![t.val / 4, 17]
    ∧ win0_3.index t = ![t.val, 0] ∧ win0_4.index t = ![t.val, 0] :=
  (by decide +kernel : ∀ t : Fin grid0.N, _)

theorem N_8 : cfg0.N = 8 := by decide +kernel

/-- The flattened row that row `r` of point `t`'s block of queries is, and that row `s` of its block of keys is. -/
abbrev qr (t : Fin cfg0.N) (r : Fin 512) : Fin 4096 := ⟨t.val * 512 + r.val, by have := lt_of_lt_of_eq t.isLt N_8; omega⟩
abbrev kr (t : Fin cfg0.N) (s : Fin 2048) : Fin 4096 := ⟨t.val / 4 * 2048 + s.val, by have := lt_of_lt_of_eq t.isLt N_8; omega⟩

theorem kr_bi (t : Fin cfg0.N) (r : Fin 512) (s : Fin 2048) : bi (kr t s) = bi (qr t r) := Fin.ext (by simp only; omega)
theorem kr_si (t : Fin cfg0.N) (s : Fin 2048) : si (kr t s) = s := Fin.ext (by simp only; omega)

theorem blk0 (t : Fin cfg0.N) (r : Fin 512) (h : Fin 8) (e : Fin 64) : (iblk m c 0 t : FVec Ideal S512x512 .bf16) (ix2 r (qc h e)) = A0 m c (ix4 (bi (qr t r)) (si (qr t r)) h e) := by
  have e' : ((cfg0.win 0).blk t).view.emb (ix2 r (qc h e)) = (ix2 (qr t r) (qc h e) : S4096x512.Idx) :=
    Cert.Finite.ext2 (by blk_simp [idx_val t]) (by blk_simp [idx_val t])
  unfold iblk
  rw [View.read_apply, cast_eq, e']
  exact V1 m c (qr t r) h e
theorem blk1 (t : Fin cfg0.N) (r : Fin 2048) (h : Fin 8) (e : Fin 64) : (iblk m c 1 t : FVec Ideal S2048x128 .bf16) (ix2 r (kc h e)) = A1 m c (ix4 (bi (kr t r)) (si (kr t r)) (kh h) e) := by
  have e' : ((cfg0.win 1).blk t).view.emb (ix2 r (kc h e)) = (ix2 (kr t r) (kc h e) : S4096x128.Idx) :=
    Cert.Finite.ext2 (by blk_simp [idx_val t]) (by blk_simp [idx_val t])
  unfold iblk
  rw [View.read_apply, cast_eq, e']
  exact V3 m c (kr t r) h e
theorem blk2 (t : Fin cfg0.N) (r : Fin 2048) (h : Fin 8) (e : Fin 64) : (iblk m c 2 t : FVec Ideal S2048x128 .bf16) (ix2 r (kc h e)) = A2 m c (ix3 (bi (kr t r)) (si (kr t r)) (vc (kh h) e)) := by
  have e' : ((cfg0.win 2).blk t).view.emb (ix2 r (kc h e)) = (ix2 (kr t r) (vc (kh h) e) : S4096x2304.Idx) :=
    Cert.Finite.ext2 (by blk_simp [idx_val t]) (by blk_simp [idx_val t]; simp only [vc, kc, kh]; omega)
  unfold iblk
  rw [View.read_apply, cast_eq, e']
  exact V5 m c (kr t r) (vc (kh h) e)

variable {f0 : Fin 2 → Fin 2048 → Fin 8 → Fin 64 → ℝ} {f1 : Fin 2 → Fin 2048 → Fin 2 → Fin 64 → ℝ} {f2 : Fin 2 → Fin 2048 → Fin 2304 → ℝ}
  (h0 : ∀ b r h e, A0 m c (ix4 b r h e) = (f0 b r h e : ℝ)) (h1 : ∀ b r h e, A1 m c (ix4 b r h e) = (f1 b r h e : ℝ))

include h0 h1

theorem SB_real (t : Fin cfg0.N) (h : Fin 8) (r : Fin 512) (s : Fin 2048) :
    SB (iblk m c 0 t) (iblk m c 1 t) h r s = (SC f0 f1 (bi (qr t r)) h (si (qr t r)) s : ℝ) := by
  unfold SB SC
  simp only [blk0, blk1, h0, h1, kr_bi t r, kr_si, ← EReal.coe_mul, Cert.Finite.coe_sum]
  exact congrArg (fun x : ℝ => (x : EReal)) (Finset.sum_congr rfl fun e _ => mul_comm _ _)

theorem MB_real (t : Fin cfg0.N) (h : Fin 8) (r : Fin 512) : ∃ M : ℝ, MB (iblk m c 0 t) (iblk m c 1 t) h r = (M : EReal) := by
  unfold MB
  simp only [SB_real m c h0 h1]
  exact Soft.fold_max_real _

theorem OB_real (h2 : ∀ b r x, A2 m c (ix3 b r x) = (f2 b r x : ℝ)) (t : Fin cfg0.N) (h : Fin 8) (r : Fin 512) (e : Fin 64) :
    OB (iblk m c 0 t) (iblk m c 1 t) (iblk m c 2 t) h (ix2 r e) = (O f0 f1 f2 (bi (qr t r)) (si (qr t r)) h e : ℝ) := by
  obtain ⟨M, hM⟩ := MB_real m c h0 h1 t h r
  rw [OB_apply, hM, ← EReal.coe_one]
  simp only [SB_real m c h0 h1, blk2, h2, kr_bi t r, kr_si, ← EReal.coe_sub, Ideal.exp_coe, ← EReal.coe_mul, Cert.Finite.coe_sum]
  rw [Ideal.div_coe (Soft.sum_pos _ M).ne', ← EReal.coe_mul]
  refine congrArg (fun x : ℝ => (x : EReal)) ?_
  unfold O
  rw [Finset.sum_mul]
  refine Finset.sum_congr rfl fun s _ => ?_
  rw [← Soft.share _ M]
  ring

theorem LB_real (t : Fin cfg0.N) (h : Fin 8) (r : Fin 512) :
    LB (iblk m c 0 t) (iblk m c 1 t) h (ix2 r 0) = (L f0 f1 (bi (qr t r)) (si (qr t r)) h : ℝ) := by
  obtain ⟨M, hM⟩ := MB_real m c h0 h1 t h r
  rw [LB_apply, hM]
  simp only [SB_real m c h0 h1, ← EReal.coe_sub, Ideal.exp_coe, Cert.Finite.coe_sum]
  rw [Ideal.log_coe, if_neg (Soft.sum_pos _ M).not_ge, ← EReal.coe_add, log_sum]
  rfl

set_option maxHeartbeats 1600000 in
/-- The attention's output as the kernel leaves it. -/
theorem final3 (h2 : ∀ b r x, A2 m c (ix3 b r x) = (f2 b r x : ℝ)) : (dats m 0 c).arrAt 3 (cfgs 0).N = RO f0 f1 f2 := by
  refine (dats m 0 c).arrAt_eq_of_covers 3 _ (by decide +kernel) fun t hf y => ?_
  blk_simp; rw [after0_3]
  idx_vars y
  have ht : t.val < 8 := lt_of_lt_of_eq t.isLt N_0
  have e : ((View.whole main_v6_0).slice (win0_3.rect t)).emb (ix2 y0 y1) = ix2 (qr t y0) y1 :=
    Cert.Finite.ext2 (by blk_simp [idx_val t] <;> omega) (by blk_simp [idx_val t] <;> omega)
  rw [e]; unfold RO
  have key : ∀ (h : Fin 8) (i : S512x64.Idx) (h0' : y0.val = (i 0).val) (h1' : y1.val = h.val * 64 + (i 1).val),
      OB (iblk m c 0 t) (iblk m c 1 t) (iblk m c 2 t) h i = ((O f0 f1 f2 (bi (qr t y0)) (si (qr t y0)) (hi y1) (ei y1) : ℝ) : EReal) := fun h i a b => by
    idx_vars i
    have a' : y0 = i0 := Fin.ext a
    have b' : y1.val = h.val * 64 + i1.val := b
    have c' : i1.val < 64 := i1.isLt
    rw [OB_real m c h0 h1 h2, a', show hi y1 = h from Fin.ext (by simp only; omega), show ei y1 = i1 from Fin.ext (by simp only; omega)]
  unfold_out out0_3
  frame_out
  canon_tiles x hx
  · exact key 7 x (by simpa using hx0) (by simpa using hx1)
  · exact key 6 x (by simpa using hx0) (by simpa using hx1)
  · exact key 5 x (by simpa using hx0) (by simpa using hx1)
  · exact key 4 x (by simpa using hx0) (by simpa using hx1)
  · exact key 3 x (by simpa using hx0) (by simpa using hx1)
  · exact key 2 x (by simpa using hx0) (by simpa using hx1)
  · exact key 1 x (by simpa using hx0) (by simpa using hx1)
  · exact key 0 x (by simpa using hx0) (by simpa using hx1)

set_option maxHeartbeats 1600000 in
/-- The rows' log-sums as the kernel leaves them. -/
theorem final4 : (dats m 0 c).arrAt 4 (cfgs 0).N = RL f0 f1 := by
  refine (dats m 0 c).arrAt_eq_of_covers 4 _ (by decide +kernel) fun t hf y => ?_
  blk_simp; rw [after0_4]
  idx_vars y
  have ht : t.val < 8 := lt_of_lt_of_eq t.isLt N_0
  have e : ((View.whole main_v6_1).slice (win0_4.rect t)).emb (ix2 y0 y1) = ix2 (qr t y0) y1 :=
    Cert.Finite.ext2 (by blk_simp [idx_val t] <;> omega) (by blk_simp [idx_val t] <;> omega)
  rw [e]; unfold RL
  have key : ∀ (h : Fin 8) (i : S512x1.Idx) (h0' : y0.val = (i 0).val) (h1' : y1.val = h.val),
      LB (iblk m c 0 t) (iblk m c 1 t) h i = ((L f0 f1 (bi (qr t y0)) (si (qr t y0)) y1 : ℝ) : EReal) := fun h i a b => by
    idx_vars i
    have a' : y0 = i0 := Fin.ext a
    obtain rfl : i1 = 0 := Subsingleton.elim _ _
    rw [LB_real m c h0 h1, a', show y1 = h from Fin.ext b]
  unfold_out out0_4
  frame_out
  canon_tiles x hx
  · exact key 7 x (by simpa using hx0) (by simp at hx1 ⊢; omega)
  · exact key 6 x (by simpa using hx0) (by simp at hx1 ⊢; omega)
  · exact key 5 x (by simpa using hx0) (by simp at hx1 ⊢; omega)
  · exact key 4 x (by simpa using hx0) (by simp at hx1 ⊢; omega)
  · exact key 3 x (by simpa using hx0) (by simp at hx1 ⊢; omega)
  · exact key 2 x (by simpa using hx0) (by simp at hx1 ⊢; omega)
  · exact key 1 x (by simpa using hx0) (by simp at hx1 ⊢; omega)
  · exact key 0 x (by simpa using hx0) (by simp at hx1 ⊢; omega)

end Kernel
end Cert.Attf
end
-- ==== Proof.AttfRef.lean ====
/- Untrusted: what the attention's reference computes on arrays of reals. -/
module

public import proofs.«01_k».proof.Proof.Attf
public import proofs.«01_k».proof.Proof.Gen.AttfRIdeal.Read

@[expose] public section

set_option maxRecDepth 16384

noncomputable section

open Idealize.ShloMosaic Idealize.ShloMosaic.TcCoe Idealize.SL.Sem
open scoped BigOperators

namespace Cert.Attf

section Reference

open Cert.AttfRIdeal Cert.AttfRIdeal.Gen Cert.AttfRIdeal.Read

theorem ext5 {a b c d e : ℕ} {p p' : Fin a} {q q' : Fin b} {r r' : Fin c} {s s' : Fin d} {t t' : Fin e} (h0 : p.val = p'.val) (h1 : q.val = q'.val)
    (h2 : r.val = r'.val) (h3 : s.val = s'.val) (h4 : t.val = t'.val) : ix5 p q r s t = ix5 p' q' r' s' t' := by
  rw [Fin.ext h0, Fin.ext h1, Fin.ext h2, Fin.ext h3, Fin.ext h4]

variable (x0 : FVec Ideal S2x2048x8x64 .f32) (x1 : FVec Ideal S2x2048x2x64 .f32) (x2 : FVec Ideal S2x2048x2304 .f32)

theorem s1 (b k : Fin 2) (t : Fin 2048) (e : Fin 64) : (val_main_v1 (F := Ideal) x2 : FVec Ideal S2x2048x2x64 .f32) (ix4 b t k e) = x2 (ix3 b t (vc k e)) := by
  unfold val_main_v1 val_main_v0
  pointwise

theorem s2 (b k : Fin 2) (t : Fin 2048) (g : Fin 4) (e : Fin 64) : (val_main_v2 (F := Ideal) x0 : FVec Ideal S2x2048x2x4x64 .f32) (ix5 b t k g e) = x0 (ix4 b t (hd k g) e) := by
  unfold val_main_v2
  pointwise

theorem s4 (b k : Fin 2) (g : Fin 4) (r t : Fin 2048) : (val_main_v4 (F := Ideal) x0 x1 : FVec Ideal S2x2x4x2048x2048 .f32) (ix5 b k g r t)
    = ∑ e : Fin 64, x1 (ix4 b t k e) * x0 (ix4 b r (hd k g) e) := by
  simp only [← s2]
  unfold val_main_v4 val_main_v3
  generalize val_main_v2 (F := Ideal) x0 = p
  pointwise

/-- The largest of a row's scores, and the larger of it and nothing. -/
theorem s5 (b k : Fin 2) (g : Fin 4) (r : Fin 2048) : (val_main_v5 (F := Ideal) x0 x1 : FVec Ideal S2x2x4x2048 .f32) (ix4 b k g r)
    = Finset.univ.fold max ⊥ fun t : Fin 2048 => (val_main_v4 (F := Ideal) x0 x1 : FVec Ideal S2x2x4x2048x2048 .f32) (ix5 b k g r t) := by
  unfold val_main_v5 val_main_cst
  generalize val_main_v4 (F := Ideal) x0 x1 = q
  pointwise; rw [Cert.Soft.word_ninf]

theorem s7 (b k : Fin 2) (g : Fin 4) (r : Fin 2048) : (val_main_v7 (F := Ideal) x0 x1 : FVec Ideal S2x2x4x2048 .f32) (ix4 b k g r) = (val_main_v5 (F := Ideal) x0 x1 : FVec Ideal S2x2x4x2048 .f32) (ix4 b k g r) := by
  have e : (val_main_v6 (F := Ideal) : FVec Ideal S2x2x4x2048 .f32) (ix4 b k g r) = (⊥ : EReal) := by
    pointwise [val_main_v6, val_main_cst_0]; exact Cert.Soft.word_ninf
  rw [val_main_v7_apply, e]
  generalize val_main_v5 (F := Ideal) x0 x1 (ix4 b k g r) = q
  exact max_eq_right bot_le

theorem s11 (b k : Fin 2) (g : Fin 4) (r t : Fin 2048) : (val_main_v11 (F := Ideal) x0 x1 : FVec Ideal S2x2x4x2048x2048 .f32) (ix5 b k g r t)
    = Ideal.exp ((val_main_v4 (F := Ideal) x0 x1 : FVec Ideal S2x2x4x2048x2048 .f32) (ix5 b k g r t) - (val_main_v5 (F := Ideal) x0 x1 : FVec Ideal S2x2x4x2048 .f32) (ix4 b k g r)) := by
  rw [← s7]
  unfold val_main_v11 val_main_v10 val_main_v9 val_main_v8
  generalize val_main_v7 (F := Ideal) x0 x1 = p
  generalize val_main_v4 (F := Ideal) x0 x1 = q
  pointwise

theorem s12 (b k : Fin 2) (g : Fin 4) (r : Fin 2048) : (val_main_v12 (F := Ideal) x0 x1 : FVec Ideal S2x2x4x2048 .f32) (ix4 b k g r)
    = ∑ t : Fin 2048, (val_main_v11 (F := Ideal) x0 x1 : FVec Ideal S2x2x4x2048x2048 .f32) (ix5 b k g r t) := by
  unfold val_main_v12
  generalize val_main_v11 (F := Ideal) x0 x1 = p
  pointwise [val_main_cst_1]

theorem s15 (b k : Fin 2) (g : Fin 4) (r t : Fin 2048) : (val_main_v15 (F := Ideal) x0 x1 : FVec Ideal S2x2x4x2048x2048 .f32) (ix5 b k g r t)
    = Ideal.div ((val_main_v11 (F := Ideal) x0 x1 : FVec Ideal S2x2x4x2048x2048 .f32) (ix5 b k g r t)) ((val_main_v12 (F := Ideal) x0 x1 : FVec Ideal S2x2x4x2048 .f32) (ix4 b k g r)) := by
  unfold val_main_v15 val_main_v14 val_main_v13
  generalize val_main_v12 (F := Ideal) x0 x1 = p
  generalize val_main_v11 (F := Ideal) x0 x1 = q
  pointwise

theorem s18 (b k : Fin 2) (g : Fin 4) (r : Fin 2048) : (val_main_v18 (F := Ideal) x0 x1 : FVec Ideal S2x2x4x2048 .f32) (ix4 b k g r)
    = Ideal.log (∑ t : Fin 2048, Ideal.exp ((val_main_v4 (F := Ideal) x0 x1 : FVec Ideal S2x2x4x2048x2048 .f32) (ix5 b k g r t))) := by
  unfold val_main_v18 val_main_v17 val_main_v16
  generalize val_main_v4 (F := Ideal) x0 x1 = p
  pointwise [val_main_cst_2]

theorem s19 (b k : Fin 2) (e : Fin 64) (g : Fin 4) (r : Fin 2048) : (val_main_v19 (F := Ideal) x0 x1 x2 : FVec Ideal S2x2x64x4x2048 .f32) (ix5 b k e g r)
    = ∑ t : Fin 2048, x2 (ix3 b t (vc k e)) * (val_main_v15 (F := Ideal) x0 x1 : FVec Ideal S2x2x4x2048x2048 .f32) (ix5 b k g r t) := by
  simp only [← s1]
  unfold val_main_v19
  generalize val_main_v15 (F := Ideal) x0 x1 = p
  generalize val_main_v1 (F := Ideal) x2 = q
  pointwise

theorem s24 (r : Fin 4096) (y : Fin 512) : (val_main_v24 (F := Ideal) x0 x1 x2 : FVec Ideal S4096x512 .bf16) (ix2 r y)
    = (val_main_v19 (F := Ideal) x0 x1 x2 : FVec Ideal S2x2x64x4x2048 .f32) (ix5 (bi r) (kh (hi y)) (ei y) (gh (hi y)) (si r)) := by
  unfold val_main_v24 val_main_v23 val_main_v21 val_main_v20
  generalize val_main_v19 (F := Ideal) x0 x1 x2 = p
  pointwise
  exact congrArg p (ext5 (by first | rfl | omega) (by first | rfl | (simp only; omega)) (by first | rfl | (simp only; omega)) (by first | rfl | (simp only; omega)) (by first | rfl | (simp only; omega)))

theorem s25 (r : Fin 4096) (h : Fin 8) : (val_main_v25 (F := Ideal) x0 x1 : FVec Ideal S4096x8 .f32) (ix2 r h)
    = (val_main_v18 (F := Ideal) x0 x1 : FVec Ideal S2x2x4x2048 .f32) (ix4 (bi r) (kh h) (gh h) (si r)) := by
  unfold val_main_v25 val_main_v22
  generalize val_main_v18 (F := Ideal) x0 x1 = p
  pointwise

variable {x0 x1 x2}
variable {f0 : Fin 2 → Fin 2048 → Fin 8 → Fin 64 → ℝ} {f1 : Fin 2 → Fin 2048 → Fin 2 → Fin 64 → ℝ} {f2 : Fin 2 → Fin 2048 → Fin 2304 → ℝ}

/-- A query head as a key head and its place. -/
theorem hd_kh (h : Fin 8) : hd (kh h) (gh h) = h := Fin.ext (by simp only; omega)
theorem kh_hd (k : Fin 2) (g : Fin 4) : kh (hd k g) = k := Fin.ext (by simp only; omega)

theorem r4 (h0 : ∀ b r h e, x0 (ix4 b r h e) = (f0 b r h e : ℝ)) (h1 : ∀ b r h e, x1 (ix4 b r h e) = (f1 b r h e : ℝ)) (b k : Fin 2) (g : Fin 4) (r t : Fin 2048) :
    (val_main_v4 (F := Ideal) x0 x1 : FVec Ideal S2x2x4x2048x2048 .f32) (ix5 b k g r t) = (SC f0 f1 b (hd k g) r t : ℝ) := by
  rw [s4]
  simp only [h0, h1, ← EReal.coe_mul, Cert.Finite.coe_sum]
  unfold SC
  rw [kh_hd]

theorem r15 (h0 : ∀ b r h e, x0 (ix4 b r h e) = (f0 b r h e : ℝ)) (h1 : ∀ b r h e, x1 (ix4 b r h e) = (f1 b r h e : ℝ)) (b k : Fin 2) (g : Fin 4) (r t : Fin 2048) :
    (val_main_v15 (F := Ideal) x0 x1 : FVec Ideal S2x2x4x2048x2048 .f32) (ix5 b k g r t) = (Soft.P (SC f0 f1 b (hd k g) r) t : ℝ) := by
  obtain ⟨M, hM⟩ : ∃ M : ℝ, (val_main_v5 (F := Ideal) x0 x1 : FVec Ideal S2x2x4x2048 .f32) (ix4 b k g r) = (M : EReal) := by
    rw [s5]
    simp only [r4 h0 h1]
    exact Soft.fold_max_real _
  have a11 : ∀ t, (val_main_v11 (F := Ideal) x0 x1 : FVec Ideal S2x2x4x2048x2048 .f32) (ix5 b k g r t) = (Real.exp (SC f0 f1 b (hd k g) r t - M) : ℝ) := fun t => by
    rw [s11, r4 h0 h1, hM, ← EReal.coe_sub, Ideal.exp_coe]
  rw [s15, s12]
  simp only [a11, Cert.Finite.coe_sum]
  rw [Cert.Finite.div_real (Soft.sum_pos _ M).ne', Soft.share]

/-- The output and the log-sums of the reference. -/
theorem ref24 (h0 : ∀ b r h e, x0 (ix4 b r h e) = (f0 b r h e : ℝ)) (h1 : ∀ b r h e, x1 (ix4 b r h e) = (f1 b r h e : ℝ)) (h2 : ∀ b r x, x2 (ix3 b r x) = (f2 b r x : ℝ)) :
    (val_main_v24 (F := Ideal) x0 x1 x2 : FVec Ideal S4096x512 .bf16) = RO f0 f1 f2 := by
  funext j
  idx_vars j
  rw [s24, s19]
  simp only [r15 h0 h1, h2, hd_kh, ← EReal.coe_mul, Cert.Finite.coe_sum]
  refine congrArg (fun x : ℝ => (x : EReal)) ?_
  unfold O
  exact Finset.sum_congr rfl fun t _ => mul_comm _ _

theorem ref25 (h0 : ∀ b r h e, x0 (ix4 b r h e) = (f0 b r h e : ℝ)) (h1 : ∀ b r h e, x1 (ix4 b r h e) = (f1 b r h e : ℝ)) :
    (val_main_v25 (F := Ideal) x0 x1 : FVec Ideal S4096x8 .f32) = RL f0 f1 := by
  funext j
  idx_vars j
  rw [s25, s18]
  simp only [r4 h0 h1, hd_kh, Ideal.exp_coe, Cert.Finite.coe_sum]
  have hp : 0 < ∑ t : Fin 2048, Real.exp (SC f0 f1 (bi j0) j1 (si j0) t) := Finset.sum_pos (fun u _ => Real.exp_pos _) ⟨0, Finset.mem_univ _⟩
  rw [Ideal.log_coe, if_neg hp.not_ge]
  rfl

end Reference
end Cert.Attf
end
-- ==== Proof.AttfClaims.lean ====
/- Untrusted: the claims about the attention. -/
module

public import proofs.«01_k».proof.Defs
public import proofs.«01_k».proof.Proof.AttfRef
public import proofs.«01_k».proof.Proof.Gen.AttfK.Frame
public import proofs.«01_k».proof.Proof.Gen.AttfRIdeal.Run
public import Idealize.ShloMosaic.Adequacy
public import Idealize.ShloMosaic.Lib.Quiescent

@[expose] public section

noncomputable section

namespace Cert.Attf

open Idealize.ShloMosaic Idealize.ShloMosaic.TcCoe Idealize.SL.Sem

/-- The side conditions of the precondition's operations. -/
theorem preFacts : Cert.Pre_attf_finite.Facts where
  bcast_S_S2x2048x8x64 := by decide
  reducesTo_S2x2048x8x64_S_d0_1_2_3 := by decide
  h_S_ := by decide
  bcast_S_S2x2048x2x64 := by decide
  reducesTo_S2x2048x2x64_S_d0_1_2_3 := by decide
  bcast_S_S2x2048x2304 := by decide
  reducesTo_S2x2048x2304_S_d0_1_2 := by decide

instance : Subsingleton Cert.Pre_attf_finite.S_.Idx := ⟨fun a b => funext fun k => k.elim0⟩

/-- Under the precondition the three arguments are arrays of reals. -/
theorem reals [Cert.Pre_attf_finite.Facts] {x0 : FVec Ideal Cert.Pre_attf_finite.S2x2048x8x64 .f32} {x1 : FVec Ideal Cert.Pre_attf_finite.S2x2048x2x64 .f32}
    {x2 : FVec Ideal Cert.Pre_attf_finite.S2x2048x2304 .f32} (h : Cert.Pre_attf_finite.fn (F := Ideal) x0 x1 x2 = fun _ => 1#1) :
    (∃ f : Fin 2 → Fin 2048 → Fin 8 → Fin 64 → ℝ, ∀ b r h e, x0 (ix4 b r h e) = ((f b r h e : ℝ) : EReal))
      ∧ (∃ f : Fin 2 → Fin 2048 → Fin 2 → Fin 64 → ℝ, ∀ b r h e, x1 (ix4 b r h e) = ((f b r h e : ℝ) : EReal))
      ∧ ∃ f : Fin 2 → Fin 2048 → Fin 2304 → ℝ, ∀ b r x, x2 (ix3 b r x) = ((f b r x : ℝ) : EReal) := by
  unfold Cert.Pre_attf_finite.fn at h
  obtain ⟨h, h2⟩ := Cert.Finite.and_split h
  obtain ⟨h0, h1⟩ := Cert.Finite.and_split h
  obtain ⟨f0, e0⟩ := Cert.Finite.array_real (fun a => a.elim0) h0
  obtain ⟨f1, e1⟩ := Cert.Finite.array_real (fun a => a.elim0) h1
  obtain ⟨f2, e2⟩ := Cert.Finite.array_real (fun a => a.elim0) h2
  exact ⟨⟨fun b r h e => f0 (ix4 b r h e), fun b r h e => congrFun e0 _⟩, ⟨fun b r h e => f1 (ix4 b r h e), fun b r h e => congrFun e1 _⟩,
    ⟨fun b r x => f2 (ix3 b r x), fun b r x => congrFun e2 _⟩⟩

/-- The reference's runs end with its counters at zero. -/
theorem quiescentR : quiescent_AttfRIdeal := fun m ρ _ =>
  (θ_run Cert.AttfRIdeal.defs _ _).mono (fun r h => ⟨fun c => (h c).2.2, sem_eq_zero_of_no_sems (by decide) r.2⟩)
    (Cert.AttfRIdeal.Value.run (F := Ideal) m ρ)

/-- On finite arguments the kernel's output and its rows' log-sums are the reference's. -/
theorem algebraic [Cert.Pre_attf_finite.Facts] : algebraic_AttfKIdeal_AttfRIdeal_pre_attf_finite := by
  intro m ρ m' ρ' hpre hagree
  refine ⟨_, _, Cert.AttfKIdeal.Value.run_blocks (F := Ideal) m ρ, ?_⟩
  refine (θ_run Cert.AttfRIdeal.defs _ _).mono (fun _ h c => ⟨?_, ?_, (h c).2.2⟩) (Cert.AttfRIdeal.Value.run (F := Ideal) m' ρ')
  · obtain ⟨⟨f0, h0⟩, ⟨f1, h1⟩, ⟨f2, h2⟩⟩ := reals (hpre c)
    refine (h c).1.trans ?_
    rw [Cert.AttfRIdeal.Read.val_main_v24_eq, (hagree c).1, (hagree c).2.1, (hagree c).2.2]
    exact (ref24 h0 h1 h2).trans (final3 m c h0 h1 h2).symm
  · obtain ⟨⟨f0, h0⟩, ⟨f1, h1⟩, -⟩ := reals (hpre c)
    refine (h c).2.1.trans ?_
    rw [Cert.AttfRIdeal.Read.val_main_v25_eq, (hagree c).1, (hagree c).2.1]
    exact (ref25 h0 h1).trans (final4 m c h0 h1).symm

end Cert.Attf
end
-- ==== Proof.Convf.lean ====
/- Untrusted: the value of the short convolution's kernel, and of its reference, at one index. -/
module

public import proofs.«01_k».proof.Proof.Conv
public import proofs.«01_k».proof.Proof.Gen.ConvfKIdeal.Value
public import proofs.«01_k».proof.Proof.Gen.ConvfRIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Convf

open Cert.ConvfKIdeal Cert.ConvfKIdeal.Gen
open Cert.Conv (halo halo_one bi si row bi_row si_row cb cc ch cg cv)

variable (m : (ℓ : Loc nD τ sig) → Buf (Elt Ideal) ℓ)

/-- Every window's block index at a grid point. -/
theorem idx_val : ∀ t : Fin cfg0.N, win0_0.index t = ![t.val / 4, t.val % 4]
    ∧ win0_1.index t = ![t.val / 4, 4 + (t.val % 4)]
    ∧ win0_2.index t = ![t.val / 4, 8 + (t.val % 4)]
    ∧ win0_3.index t = ![0, t.val % 4]
    ∧ win0_4.index t = ![t.val / 4, t.val % 4] :=
  (by decide +kernel : ∀ t : Fin grid0.N, _)

/-- The result: each gate times the convolution of the gated values. -/
def RA (p : FVec Ideal S2x2048x2304 .f32) (w : FVec Ideal S3x512 .f32) : FVec Ideal S4096x512 .bf16 :=
  fun i => p (ix3 (bi (i 0)) (si (i 0)) (cb (i 1))) * cv p w (bi (i 0)) (i 1) (si (i 0))

theorem RA_row (p : FVec Ideal S2x2048x2304 .f32) (w : FVec Ideal S3x512 .f32) (b : Fin 2) (s : Fin 2048) (k : Fin 512) :
    RA p w (ix2 (row b s) k) = p (ix3 b s (cb k)) * cv p w b k s := by
  show p (ix3 (bi (row b s)) (si (row b s)) (cb k)) * cv p w (bi (row b s)) k (si (row b s)) = _
  rw [bi_row, si_row]

/-- The padded scratch, seen by a load that starts `1 - k` rows before the inner rows. -/
theorem pad (X : Vec Ideal S2048x128 .f32) (i : S2064x128.Idx) (k : ℕ) (s : Fin 2048) (l : Fin 128) (h : (i 0).val = s.val + k + 7) (hl : i 1 = l) :
    View.canon ([⟨Rect.unit ![8, 0] ![2048, 128] inb_S2064x128_S2048x128_8_0, X⟩,
      ⟨Rect.unit ![2056, 0] ![8, 128] inb_S2064x128_S8x128_2056_0, k0_pay3 (F := Ideal)⟩,
      ⟨Rect.unit ![0, 0] ![8, 128] inb_S2064x128_S8x128_0_0, k0_pay2 (F := Ideal)⟩] : List (View.Piece (Elt Ideal) S2064x128 .f32)) i
      = halo (fun s => X (ix2 s l)) k s :=
  Cert.Conv.pad1 X i k s l h hl

section Core

variable {p : FVec Ideal S2x2048x2304 .f32} {w : FVec Ideal S3x512 .f32}
  {v7 v10 v31 : Vec Ideal S2048x128 .bf16} {v19 : Vec Ideal S3x128 .f32} {v17 v18 : Vec Ideal S2048x128 .f32}
  {l : Fin 128} {b : Fin 2} {c : Fin 512}

/-- The column of gated values the scratch holds. -/
theorem col5 (hc : ∀ s, v7 (ix2 s l) = p (ix3 b s (cc c))) (hh : ∀ s, v10 (ix2 s l) = p (ix3 b s (ch c))) :
    (fun s => k0_pay5 v7 v10 (ix2 s l)) = cg p b c := by
  funext s
  unfold cg
  pointwise [k0_pay5, k0_pay4]
  rw [hc, hh]

/-- The result at an index. -/
theorem core6 (s : Fin 2048) (hc : ∀ s, v7 (ix2 s l) = p (ix3 b s (cc c))) (hh : ∀ s, v10 (ix2 s l) = p (ix3 b s (ch c)))
    (hg : ∀ s, v31 (ix2 s l) = p (ix3 b s (cb c))) (hw : ∀ k, v19 (ix2 k l) = w (ix2 k c))
    (h17 : v17 (ix2 s l) = halo (fun s => k0_pay5 v7 v10 (ix2 s l)) 0 s) (h18 : v18 (ix2 s l) = halo (fun s => k0_pay5 v7 v10 (ix2 s l)) 2 s) :
    k0_pay6 v7 v10 v17 v18 v19 v31 (ix2 s l) = p (ix3 b s (cb c)) * cv p w b c s := by
  rw [col5 hc hh] at h17 h18
  unfold cv
  pointwise [k0_pay6, k0_pay4]
  simp only [hc, hh, hg, hw, h17, h18]
  rfl

end Core

/-- The flattened projection at an index. -/
theorem V1 (c : Dev nD) (r : Fin 4096) (x : Fin 2304) :
    V m c main_v1 (ix2 r x) = m ((c : Thread nD τ).loc main_arg0) (ix3 (bi r) (si r) x) := by
  entry_read
  pointwise

/-- The first gate's rows as point `t` reads them; -/
theorem blk0 (c : Dev nD) (t : Fin cfg0.N) (s : Fin 2048) (l : Fin 128) (b : Fin 2) (k : Fin 512) (hb : b.val = t.val / 4) (hk : k.val = t.val % 4 * 128 + l) :
    (iblk m c 0 t : Vec Ideal S2048x128 .bf16) (ix2 s l) = m ((c : Thread nD τ).loc main_arg0) (ix3 b s (cb k)) := by
  have e : (((cfg0.win 0).blk t).view.emb (ix2 s l) : S4096x2304.Idx) = ix2 (row b s) (cb k) :=
    Cert.Finite.ext2 (by simp only [row]; blk_simp [idx_val t]; omega) (by simp only [cb]; blk_simp [idx_val t]; omega)
  unfold iblk
  rw [View.read_apply, cast_eq, e]
  refine (V1 m c _ _).trans ?_
  rw [bi_row, si_row]

/-- the second gate's; -/
theorem blk1 (c : Dev nD) (t : Fin cfg0.N) (s : Fin 2048) (l : Fin 128) (b : Fin 2) (k : Fin 512) (hb : b.val = t.val / 4) (hk : k.val = t.val % 4 * 128 + l) :
    (iblk m c 1 t : Vec Ideal S2048x128 .bf16) (ix2 s l) = m ((c : Thread nD τ).loc main_arg0) (ix3 b s (cc k)) := by
  have e : (((cfg0.win 1).blk t).view.emb (ix2 s l) : S4096x2304.Idx) = ix2 (row b s) (cc k) :=
    Cert.Finite.ext2 (by simp only [row]; blk_simp [idx_val t]; omega) (by simp only [cc]; blk_simp [idx_val t]; omega)
  unfold iblk
  rw [View.read_apply, cast_eq, e]
  refine (V1 m c _ _).trans ?_
  rw [bi_row, si_row]

/-- the convolved values'; -/
theorem blk2 (c : Dev nD) (t : Fin cfg0.N) (s : Fin 2048) (l : Fin 128) (b : Fin 2) (k : Fin 512) (hb : b.val = t.val / 4) (hk : k.val = t.val % 4 * 128 + l) :
    (iblk m c 2 t : Vec Ideal S2048x128 .bf16) (ix2 s l) = m ((c : Thread nD τ).loc main_arg0) (ix3 b s (ch k)) := by
  have e : (((cfg0.win 2).blk t).view.emb (ix2 s l) : S4096x2304.Idx) = ix2 (row b s) (ch k) :=
    Cert.Finite.ext2 (by simp only [row]; blk_simp [idx_val t]; omega) (by simp only [ch]; blk_simp [idx_val t]; omega)
  unfold iblk
  rw [View.read_apply, cast_eq, e]
  refine (V1 m c _ _).trans ?_
  rw [bi_row, si_row]

/-- and the taps. -/
theorem blk3 (c : Dev nD) (t : Fin cfg0.N) (a : Fin 3) (l : Fin 128) (k : Fin 512) (hk : k.val = t.val % 4 * 128 + l) :
    (iblk m c 3 t : Vec Ideal S3x128 .f32) (ix2 a l) = m ((c : Thread nD τ).loc main_arg1) (ix2 a k) := by
  have e : (((cfg0.win 3).blk t).view.emb (ix2 a l) : S3x512.Idx) = ix2 a k :=
    Cert.Finite.ext2 (by blk_simp [idx_val t]) (by blk_simp [idx_val t]; omega)
  unfold iblk
  rw [View.read_apply, cast_eq, e]
  rfl

set_option maxHeartbeats 1600000 in
/-- The result as the kernel leaves it. -/
theorem final4 (c : Dev nD) : (dats m 0 c).arrAt 4 (cfgs 0).N = RA (m ((c : Thread nD τ).loc main_arg0)) (m ((c : Thread nD τ).loc main_arg1)) := by
  refine (dats m 0 c).arrAt_eq_of_covers 4 _ (by decide +kernel) fun t hf y => ?_
  blk_simp; rw [after0_4]
  idx_vars y
  have ht : t.val < 8 := lt_of_lt_of_eq t.isLt N_0
  obtain ⟨b, hb⟩ : ∃ b : Fin 2, b.val = t.val / 4 := ⟨⟨t.val / 4, by omega⟩, rfl⟩
  obtain ⟨k, hk⟩ : ∃ k : Fin 512, k.val = t.val % 4 * 128 + y1 := ⟨⟨t.val % 4 * 128 + y1, by omega⟩, rfl⟩
  have e : ((View.whole main_v2).slice (win0_4.rect t)).emb (ix2 y0 y1) = ix2 (row b y0) k :=
    Cert.Conv.ix_row _ _ _ _ (by blk_simp [idx_val t] <;> omega) (by blk_simp [idx_val t] <;> omega)
  rw [e, RA_row]
  unfold outsAt0
  frame_out
  simp only [View.readCov_eq_canon']
  exact core6 (p := m ((c : Thread nD τ).loc main_arg0)) (w := m ((c : Thread nD τ).loc main_arg1)) y0 (fun s => blk1 m c t s y1 b k hb hk) (fun s => blk2 m c t s y1 b k hb hk)
    (fun s => blk0 m c t s y1 b k hb hk) (fun a => blk3 m c t a y1 k hk)
    (pad _ _ 0 y0 y1 (by simp; omega) (Fin.ext (by simp))) (pad _ _ 2 y0 y1 (by simp; omega) (Fin.ext (by simp)))

section Reference

open Cert.ConvfRIdeal.Read

variable (p : FVec Ideal S2x2048x2304 .f32) (w : FVec Ideal S3x512 .f32)

/-- The gated values the reference convolves, between two rows of zeros. -/
theorem ref_pad (b : Fin 2) (r : Fin 2050) (c : Fin 512) (k : ℕ) (s : Fin 2048) (h : r.val = s.val + k) :
    (val_main_v7 (F := Ideal) p : FVec Ideal Cert.ConvfRIdeal.S2x2050x512 .f32) (ix3 b r c) = halo (cg p b c) k s :=
  Cert.Conv.ref_pad p b r c k s h

/-- The padded values seen one row back, in place, and one row on. -/
theorem ref_v8 (b : Fin 2) (s : Fin 2048) (c : Fin 512) : (val_main_v8 (F := Ideal) p : FVec Ideal Cert.ConvfRIdeal.S2x2048x512 .f32) (ix3 b s c) = halo (cg p b c) 0 s :=
  Cert.Conv.ref_v10 p b s c
theorem ref_v14 (b : Fin 2) (s : Fin 2048) (c : Fin 512) : (val_main_v14 (F := Ideal) p : FVec Ideal Cert.ConvfRIdeal.S2x2048x512 .f32) (ix3 b s c) = cg p b c s :=
  Cert.Conv.ref_v16 p b s c
theorem ref_v21 (b : Fin 2) (s : Fin 2048) (c : Fin 512) : (val_main_v21 (F := Ideal) p : FVec Ideal Cert.ConvfRIdeal.S2x2048x512 .f32) (ix3 b s c) = halo (cg p b c) 2 s :=
  Cert.Conv.ref_v23 p b s c

/-- The result of the reference. -/
theorem ref30 : (val_main_v30 (F := Ideal) p w : FVec Ideal S4096x512 .bf16) = RA p w := by
  funext j
  idx_vars j
  have e : (val_main_v27 (F := Ideal) p w : FVec Ideal Cert.ConvfRIdeal.S2x2048x512 .f32) (ix3 (bi j0) (si j0) j1) = cv p w (bi j0) j1 (si j0) := by
    unfold val_main_v27 val_main_v20 val_main_v26 val_main_v19 val_main_v13 cv
    rw [← ref_v8, ← ref_v14, ← ref_v21]
    generalize val_main_v8 (F := Ideal) p = q8
    generalize val_main_v14 (F := Ideal) p = q14
    generalize val_main_v21 (F := Ideal) p = q21
    pointwise [val_main_v12, val_main_v11, val_main_v10, val_main_v9, val_main_v18, val_main_v17, val_main_v16, val_main_v15,
      val_main_v25, val_main_v24, val_main_v23, val_main_v22]
  show _ = p (ix3 (bi j0) (si j0) (cb j1)) * cv p w (bi j0) j1 (si j0)
  rw [← e]
  unfold val_main_v30 val_main_v29 val_main_v28
  generalize val_main_v27 (F := Ideal) p w = q
  pointwise [val_main_v0]

end Reference

end Cert.Convf
-- ==== Proof.ConvfClaims.lean ====
/- Untrusted: the claims about the gated short convolution. -/
module

public import proofs.«01_k».proof.Defs
public import proofs.«01_k».proof.Proof.Convf
public import proofs.«01_k».proof.Proof.Gen.ConvfK.Frame
public import proofs.«01_k».proof.Proof.Gen.ConvfRIdeal.Run
public import Idealize.ShloMosaic.Adequacy
public import Idealize.ShloMosaic.Lib.Quiescent

@[expose] public section

noncomputable section

namespace Cert.Convf

open Idealize.ShloMosaic Idealize.ShloMosaic.TcCoe Idealize.SL.Sem

/-- The reference's runs end with its counters at zero. -/
theorem quiescentR : quiescent_ConvfRIdeal := fun m ρ _ =>
  (θ_run Cert.ConvfRIdeal.defs _ _).mono (fun r h => ⟨fun c => (h c).2, sem_eq_zero_of_no_sems (by decide) r.2⟩)
    (Cert.ConvfRIdeal.Value.run (F := Ideal) m ρ)

/-- The kernel's gated convolution is the reference's. -/
theorem algebraic : algebraic_ConvfKIdeal_ConvfRIdeal := by
  intro m ρ m' ρ' _ hagree
  refine ⟨_, Cert.ConvfKIdeal.Value.run_blocks (F := Ideal) m ρ, ?_⟩
  refine (θ_run Cert.ConvfRIdeal.defs _ _).mono (fun _ h c => ⟨?_, (h c).2⟩) (Cert.ConvfRIdeal.Value.run (F := Ideal) m' ρ')
  refine (h c).1.trans ?_
  rw [Cert.ConvfRIdeal.Read.val_main_v30_eq, (hagree c).1, (hagree c).2]
  exact (ref30 _ _).trans (final4 m c).symm

end Cert.Convf
end
-- ==== Proof.Ffnin.lean ====
/- Untrusted: the values of the kernel that normalises rows and takes them through the feed-forward's first product, and of its reference. -/
module

public import proofs.«01_k».proof.Proof.Finite
public import proofs.«01_k».proof.Proof.Gen.FfninKIdeal.Value
public import proofs.«01_k».proof.Proof.Gen.FfninRIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Ffnin

/-- The batch and the position of a flattened row. -/
abbrev bi (r : Fin 4096) : Fin 2 := ⟨r.val / 2048, by omega⟩
abbrev si (r : Fin 4096) : Fin 2048 := ⟨r.val % 2048, by omega⟩
/-- Column `y` of the gate's half or of the other among the product's columns. -/
abbrev co (z : Fin 2) (y : Fin 2816) : Fin 5632 := ⟨z.val * 2816 + y.val, by omega⟩

/-- Entry `k` of a row over the root of its mean square, times the gain. -/
def nrm (x : Fin 1024 → EReal) (g : EReal) (k : Fin 1024) : EReal :=
  x k * Ideal.rsqrt (Ideal.div (∑ l : Fin 1024, x l * x l) (Ideal.ofBits FTy.f32 0x44800000#32) + Ideal.ofBits FTy.f32 0x358637BD#32) * g

section Targets

variable (x0 : (⟨3, ![2, 2048, 1024]⟩ : Shape).Idx → EReal) (x1 : (⟨1, ![1024]⟩ : Shape).Idx → EReal) (x2 : (⟨2, ![1024, 5632]⟩ : Shape).Idx → EReal)

/-- The normalised rows. -/
def H (b : Fin 2) (s : Fin 2048) (k : Fin 1024) : EReal := nrm (fun l => x0 (ix3 b s l)) (x1 (ix1 k)) k
/-- Their product with the weight, its halves one behind the other, and they themselves. -/
def RP : (⟨3, ![2, 4096, 2816]⟩ : Shape).Idx → EReal := fun i => ∑ k : Fin 1024, H x0 x1 (bi (i 1)) (si (i 1)) k * x2 (ix2 k (co (i 0) (i 2)))
def RH : (⟨2, ![4096, 1024]⟩ : Shape).Idx → EReal := fun i => H x0 x1 (bi (i 0)) (si (i 0)) (i 1)

end Targets

section Kernel

open Cert.FfninKIdeal Cert.FfninKIdeal.Gen

theorem pay2 (v0 : FVec Ideal S1024x1024 .f32) (v2 : FVec Ideal S1x1024 .f32) (a k : Fin 1024) :
    (k0_pay2 (F := Ideal) v0 v2 : FVec Ideal S1024x1024 .bf16) (ix2 a k) = nrm (fun l => v0 (ix2 a l)) (v2 (ix2 0 k)) k := by
  unfold nrm
  pointwise [k0_pay2, k0_pay1]
theorem pay3 (v0 : FVec Ideal S1024x1024 .f32) (v2 : FVec Ideal S1x1024 .f32) (v18 : FVec Ideal S1x1024x1408 .bf16) (z : Fin 1) (a : Fin 1024) (f : Fin 1408) :
    (k0_pay3 (F := Ideal) v0 v2 v18 : FVec Ideal S1x1024x1408 .bf16) (ix3 z a f) = ∑ k : Fin 1024, nrm (fun l => v0 (ix2 a l)) (v2 (ix2 0 k)) k * v18 (ix3 0 k f) := by
  simp only [← pay2]
  unfold k0_pay3 k0_pay2
  generalize k0_pay1 (F := Ideal) v0 v2 = q
  pointwise

theorem idx_val : ∀ t : Fin cfg0.N, win0_0.index t = ![t.val / 4, 0] ∧ win0_1.index t = ![0, 0] ∧ win0_2.index t = ![t.val % 4, 0, 0]
    ∧ win0_3.index t = ![t.val % 4 / 2, t.val / 4, t.val % 2] ∧ win0_4.index t = ![t.val / 4, 0] :=
  (by decide +kernel : ∀ t : Fin grid0.N, _)

theorem lt16 (t : Fin cfg0.N) : t.val < 16 := lt_of_lt_of_eq t.isLt N_0

variable (m : (ℓ : Loc nD τ sig) → Buf (Elt Ideal) ℓ) (c : Dev nD)

/-- The arrays that the program is given. -/
abbrev A0 : FVec Ideal S2x2048x1024 .f32 := m ⟨c, Proc.devRef .tc main_arg0⟩
abbrev A1 : FVec Ideal S1024 .f32 := m ⟨c, Proc.devRef .tc main_arg1⟩
abbrev A2 : FVec Ideal S1024x5632 .f32 := m ⟨c, Proc.devRef .tc main_arg2⟩

theorem V0 (r : Fin 4096) (k : Fin 1024) : V m c main_v0 (ix2 r k) = A0 m c (ix3 (bi r) (si r) k) := by
  entry_read
  pointwise
theorem V4 (z : Fin 1) (k : Fin 1024) : V m c main_v4 (ix2 z k) = A1 m c (ix1 k) := by
  entry_read
  pointwise
theorem V3 (q : Fin 4) (k : Fin 1024) (f : Fin 1408) : V m c main_v3 (ix3 q k f) = A2 m c (ix2 k ⟨q.val * 1408 + f.val, by omega⟩) := by
  entry_read
  pointwise

/-- The flattened row of row `a` of point `t`'s blocks. -/
abbrev pr (t : Fin cfg0.N) (a : Fin 1024) : Fin 4096 := ⟨t.val / 4 * 1024 + a.val, by have := lt16 t; omega⟩
/-- The half a point's columns belong to, and column `f` of them in it. -/
abbrev pz (t : Fin cfg0.N) : Fin 2 := ⟨t.val % 4 / 2, by omega⟩
abbrev py (t : Fin cfg0.N) (f : Fin 1408) : Fin 2816 := ⟨t.val % 2 * 1408 + f.val, by omega⟩

theorem blk0 (t : Fin cfg0.N) (a k : Fin 1024) : (iblk m c 0 t : FVec Ideal S1024x1024 .f32) (ix2 a k) = A0 m c (ix3 (bi (pr t a)) (si (pr t a)) k) := by
  have e : (((cfg0.win 0).blk t).view.emb (ix2 a k) : S4096x1024.Idx) = ix2 (pr t a) k :=
    Cert.Finite.ext2 (by blk_simp [idx_val t]) (by blk_simp [idx_val t])
  unfold iblk
  rw [View.read_apply, cast_eq, e]
  exact V0 m c _ _
theorem blk1 (t : Fin cfg0.N) (k : Fin 1024) : (iblk m c 1 t : FVec Ideal S1x1024 .f32) (ix2 0 k) = A1 m c (ix1 k) := by
  have e : (((cfg0.win 1).blk t).view.emb (ix2 0 k) : S1x1024.Idx) = ix2 0 k :=
    Cert.Finite.ext2 (by blk_simp [idx_val t]) (by blk_simp [idx_val t])
  unfold iblk
  rw [View.read_apply, cast_eq, e]
  exact V4 m c _ _
theorem blk2 (t : Fin cfg0.N) (k : Fin 1024) (f : Fin 1408) : (iblk m c 2 t : FVec Ideal S1x1024x1408 .bf16) (ix3 0 k f) = A2 m c (ix2 k (co (pz t) (py t f))) := by
  have e : (((cfg0.win 2).blk t).view.emb (ix3 0 k f) : S4x1024x1408.Idx) = ix3 (⟨t.val % 4, by omega⟩ : Fin 4) k f :=
    Cert.Finite.ext3 (by blk_simp [idx_val t]; rfl) (by blk_simp [idx_val t]) (by blk_simp [idx_val t])
  unfold iblk
  rw [View.read_apply, cast_eq, e]
  refine (V3 m c _ _ _).trans (congrArg (fun q => A2 m c (ix2 k q)) (Fin.ext ?_))
  simp only [co, pz, py]
  omega

/-- The product as the kernel leaves it. -/
theorem final3 : (dats m 0 c).arrAt 3 (cfgs 0).N = RP (A0 m c) (A1 m c) (A2 m c) := by
  refine (dats m 0 c).arrAt_eq_of_covers 3 _ (by decide +kernel) fun t hf y => ?_
  blk_simp; rw [after0_3]
  idx_vars y
  have e : ((View.whole main_v5_0).slice (win0_3.rect t)).emb (ix3 y0 y1 y2) = ix3 (pz t) (pr t y1) (py t y2) :=
    Cert.Finite.ext3 (by blk_simp [idx_val t] <;> omega) (by blk_simp [idx_val t] <;> omega) (by blk_simp [idx_val t] <;> omega)
  rw [e]
  frame_out
  rw [pay3]
  simp only [blk0, blk1, blk2]
  rfl
/-- The normalised rows as the kernel leaves them. -/
theorem final4 : (dats m 0 c).arrAt 4 (cfgs 0).N = RH (A0 m c) (A1 m c) := by
  refine (dats m 0 c).arrAt_eq_of_covers 4 _ (by decide +kernel) fun t hf y => ?_
  blk_simp; rw [after0_4]
  idx_vars y
  have e : ((View.whole main_v5_1).slice (win0_4.rect t)).emb (ix2 y0 y1) = ix2 (pr t y0) y1 :=
    Cert.Finite.ext2 (by blk_simp [idx_val t] <;> omega) (by blk_simp [idx_val t] <;> omega)
  rw [e]
  frame_out
  rw [pay2]
  simp only [blk0, blk1]
  rfl

end Kernel

section Reference

open Cert.FfninRIdeal Cert.FfninRIdeal.Gen Cert.FfninRIdeal.Read

variable (x0 : FVec Ideal S2x2048x1024 .f32) (x1 : FVec Ideal S1024 .f32) (x2 : FVec Ideal S1024x5632 .f32)

theorem s7 (b : Fin 2) (s : Fin 2048) (z : Fin 1) : (val_main_v7 (F := Ideal) x0 : FVec Ideal S2x2048x1 .f32) (ix3 b s z)
    = Ideal.rsqrt (Ideal.div (∑ l : Fin 1024, x0 (ix3 b s l) * x0 (ix3 b s l)) (Ideal.ofBits FTy.f32 0x44800000#32) + Ideal.ofBits FTy.f32 0x358637BD#32) := by
  unfold val_main_v7 val_main_v6 val_main_v5 val_main_v4 val_main_v3 val_main_v2 val_main_v1 val_main_v0
  pointwise [val_main_cst, val_main_cst_0, val_main_cst_1]
theorem s12 (b : Fin 2) (s : Fin 2048) (k : Fin 1024) : (val_main_v12 (F := Ideal) x0 x1 : FVec Ideal S2x2048x1024 .f32) (ix3 b s k) = H x0 x1 b s k := by
  unfold H nrm
  rw [← s7 x0 b s 0]
  unfold val_main_v12 val_main_v11 val_main_v10 val_main_v9 val_main_v8
  generalize val_main_v7 (F := Ideal) x0 = q
  pointwise
theorem s13 (b : Fin 2) (s : Fin 2048) (f : Fin 5632) : (val_main_v13 (F := Ideal) x0 x1 x2 : FVec Ideal S2x2048x5632 .f32) (ix3 b s f)
    = ∑ k : Fin 1024, H x0 x1 b s k * x2 (ix2 k f) := by
  simp only [← s12]
  unfold val_main_v13
  generalize val_main_v12 (F := Ideal) x0 x1 = q
  pointwise
theorem ref20 : (val_main_v20 (F := Ideal) x0 x1 x2 : FVec Ideal S2x4096x2816 .bf16) = RP x0 x1 x2 := by
  funext j
  idx_vars j
  refine Eq.trans ?_ (s13 x0 x1 x2 (bi j1) (si j1) (co j0 j2))
  unfold val_main_v20 val_main_v19 val_main_v18 val_main_v17 val_main_v16 val_main_v15 val_main_v14
  generalize val_main_v13 (F := Ideal) x0 x1 x2 = q
  match j0 with
  | 0 =>
    pointwise
    exact congrArg (fun k => q (ix3 (bi j1) (si j1) k)) (Fin.ext (by simp [co]))
  | 1 =>
    pointwise
    exact congrArg (fun k => q (ix3 (bi j1) (si j1) k)) (Fin.ext (by simp [co]))
theorem ref22 : (val_main_v22 (F := Ideal) x0 x1 : FVec Ideal S4096x1024 .bf16) = RH x0 x1 := by
  funext j
  idx_vars j
  refine Eq.trans ?_ (s12 x0 x1 (bi j0) (si j0) j1)
  unfold val_main_v22 val_main_v21
  generalize val_main_v12 (F := Ideal) x0 x1 = q
  pointwise

end Reference

end Cert.Ffnin
-- ==== Proof.FfninClaims.lean ====
/- Untrusted: the claims about the feed-forward's normalised first product. -/
module

public import proofs.«01_k».proof.Defs
public import proofs.«01_k».proof.Proof.Ffnin
public import proofs.«01_k».proof.Proof.Gen.FfninK.Frame
public import proofs.«01_k».proof.Proof.Gen.FfninRIdeal.Run
public import Idealize.ShloMosaic.Adequacy
public import Idealize.ShloMosaic.Lib.Quiescent

@[expose] public section

noncomputable section

namespace Cert.Ffnin

open Idealize.ShloMosaic Idealize.ShloMosaic.TcCoe Idealize.SL.Sem

/-- The reference's runs end with its counters at zero. -/
theorem quiescentR : quiescent_FfninRIdeal := fun m ρ _ =>
  (θ_run Cert.FfninRIdeal.defs _ _).mono (fun r h => ⟨fun c => (h c).2.2, sem_eq_zero_of_no_sems (by decide) r.2⟩)
    (Cert.FfninRIdeal.Value.run (F := Ideal) m ρ)

/-- The kernel's product and its normalised rows are the reference's. -/
theorem algebraic : algebraic_FfninKIdeal_FfninRIdeal := by
  intro m ρ m' ρ' _ hagree
  refine ⟨_, _, Cert.FfninKIdeal.Value.run_blocks (F := Ideal) m ρ, ?_⟩
  refine (θ_run Cert.FfninRIdeal.defs _ _).mono (fun _ h c => ⟨?_, ?_, (h c).2.2⟩) (Cert.FfninRIdeal.Value.run (F := Ideal) m' ρ')
  · refine (h c).1.trans ?_
    rw [Cert.FfninRIdeal.Read.val_main_v20_eq, (hagree c).1, (hagree c).2.1, (hagree c).2.2]
    exact (ref20 _ _ _).trans (final3 m c).symm
  · refine (h c).2.1.trans ?_
    rw [Cert.FfninRIdeal.Read.val_main_v22_eq, (hagree c).1, (hagree c).2.1]
    exact (ref22 _ _).trans (final4 m c).symm

end Cert.Ffnin
end
-- ==== Proof.Ffnout.lean ====
/- Untrusted: the values of the kernel of the feed-forward's second product with its gate, and of its reference. -/
module

public import proofs.«01_k».proof.Proof.Finite
public import proofs.«01_k».proof.Proof.Gen.FfnoutKIdeal.Value
public import proofs.«01_k».proof.Proof.Gen.FfnoutRIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Ffnout

/-- The batch and the position of a flattened row. -/
abbrev bi (r : Fin 4096) : Fin 2 := ⟨r.val / 2048, by omega⟩
abbrev si (r : Fin 4096) : Fin 2048 := ⟨r.val % 2048, by omega⟩

/-- The sigmoid, as the kernel's body computes it. -/
def sg (x : EReal) : EReal := Ideal.div 1 (1 + Ideal.exp (0 - x))

/-- What the product adds: the gate's output times the weight, summed over the features. -/
def prod (g u : Fin 2816 → EReal) (w : Fin 2816 → EReal) : EReal := ∑ f : Fin 2816, g f * sg (g f) * u f * w f

/-- The rows plus half the product. -/
def REF (x : (⟨3, ![2, 2048, 1024]⟩ : Shape).Idx → EReal) (g u : (⟨3, ![2, 2048, 2816]⟩ : Shape).Idx → EReal) (w : (⟨2, ![2816, 1024]⟩ : Shape).Idx → EReal) :
    (⟨2, ![4096, 1024]⟩ : Shape).Idx → EReal := fun i =>
  x (ix3 (bi (i 0)) (si (i 0)) (i 1)) + Ideal.ofBits FTy.f32 0x3F000000#32
    * prod (fun f => g (ix3 (bi (i 0)) (si (i 0)) f)) (fun f => u (ix3 (bi (i 0)) (si (i 0)) f)) fun f => w (ix2 f (i 1))

section Kernel

open Cert.FfnoutKIdeal Cert.FfnoutKIdeal.Gen

theorem pay1 (v0 v2 : FVec Ideal S1x512x2816 .bf16) (v13 : FVec Ideal S2816x1024 .bf16) (v16 : FVec Ideal S512x1024 .f32) (a : Fin 512) (k : Fin 1024) :
    (k0_pay1 (F := Ideal) v0 v2 v13 v16 : FVec Ideal S512x1024 .f32) (ix2 a k)
      = v16 (ix2 a k) + Ideal.ofBits FTy.f32 0x3F000000#32 * prod (fun f => v0 (ix3 0 a f)) (fun f => v2 (ix3 0 a f)) fun f => v13 (ix2 f k) := by
  unfold prod sg
  pointwise [k0_pay1]

theorem idx_val : ∀ t : Fin cfg0.N, win0_0.index t = ![0, t.val, 0] ∧ win0_1.index t = ![1, t.val, 0] ∧ win0_2.index t = ![0, 0]
    ∧ win0_3.index t = ![t.val, 0] ∧ win0_4.index t = ![t.val, 0] :=
  (by decide +kernel : ∀ t : Fin grid0.N, _)

theorem lt8 (t : Fin cfg0.N) : t.val < 8 := lt_of_lt_of_eq t.isLt N_0

variable (m : (ℓ : Loc nD τ sig) → Buf (Elt Ideal) ℓ) (c : Dev nD)

/-- The arrays that the program is given. -/
abbrev A0 : FVec Ideal S2x2048x1024 .f32 := m ⟨c, Proc.devRef .tc main_arg0⟩
abbrev A1 : FVec Ideal S2x2048x2816 .f32 := m ⟨c, Proc.devRef .tc main_arg1⟩
abbrev A2 : FVec Ideal S2x2048x2816 .f32 := m ⟨c, Proc.devRef .tc main_arg2⟩
abbrev A3 : FVec Ideal S2816x1024 .f32 := m ⟨c, Proc.devRef .tc main_arg3⟩

/-- The two planes that the kernel reads, as the host stacks them, the rows and the weight. -/
theorem V4_0 (r : Fin 4096) (f : Fin 2816) : V m c main_v4 (ix3 0 r f) = A1 m c (ix3 (bi r) (si r) f) := by
  entry_read
  pointwise
theorem V4_1 (r : Fin 4096) (f : Fin 2816) : V m c main_v4 (ix3 1 r f) = A2 m c (ix3 (bi r) (si r) f) := by
  entry_read
  pointwise
theorem V5 (r : Fin 4096) (k : Fin 1024) : V m c main_v5 (ix2 r k) = A0 m c (ix3 (bi r) (si r) k) := by
  entry_read
  pointwise
theorem V6 (f : Fin 2816) (k : Fin 1024) : V m c main_v6 (ix2 f k) = A3 m c (ix2 f k) := by
  entry_read
  pointwise

/-- The flattened row of row `a` of point `t`'s blocks. -/
abbrev pr (t : Fin cfg0.N) (a : Fin 512) : Fin 4096 := ⟨t.val * 512 + a.val, by have := lt8 t; omega⟩

theorem blk0 (t : Fin cfg0.N) (a : Fin 512) (f : Fin 2816) : (iblk m c 0 t : FVec Ideal S1x512x2816 .bf16) (ix3 0 a f) = A1 m c (ix3 (bi (pr t a)) (si (pr t a)) f) := by
  have e : (((cfg0.win 0).blk t).view.emb (ix3 0 a f) : S2x4096x2816.Idx) = ix3 0 (pr t a) f :=
    Cert.Finite.ext3 (by blk_simp [idx_val t] <;> rfl) (by blk_simp [idx_val t]) (by blk_simp [idx_val t])
  unfold iblk
  rw [View.read_apply, cast_eq, e]
  exact V4_0 m c _ _
theorem blk1 (t : Fin cfg0.N) (a : Fin 512) (f : Fin 2816) : (iblk m c 1 t : FVec Ideal S1x512x2816 .bf16) (ix3 0 a f) = A2 m c (ix3 (bi (pr t a)) (si (pr t a)) f) := by
  have e : (((cfg0.win 1).blk t).view.emb (ix3 0 a f) : S2x4096x2816.Idx) = ix3 1 (pr t a) f :=
    Cert.Finite.ext3 (by blk_simp [idx_val t] <;> rfl) (by blk_simp [idx_val t]) (by blk_simp [idx_val t])
  unfold iblk
  rw [View.read_apply, cast_eq, e]
  exact V4_1 m c _ _
theorem blk2 (t : Fin cfg0.N) (f : Fin 2816) (k : Fin 1024) : (iblk m c 2 t : FVec Ideal S2816x1024 .bf16) (ix2 f k) = A3 m c (ix2 f k) := by
  have e : (((cfg0.win 2).blk t).view.emb (ix2 f k) : S2816x1024.Idx) = ix2 f k :=
    Cert.Finite.ext2 (by blk_simp [idx_val t]) (by blk_simp [idx_val t])
  unfold iblk
  rw [View.read_apply, cast_eq, e]
  exact V6 m c _ _
theorem blk3 (t : Fin cfg0.N) (a : Fin 512) (k : Fin 1024) : (iblk m c 3 t : FVec Ideal S512x1024 .f32) (ix2 a k) = A0 m c (ix3 (bi (pr t a)) (si (pr t a)) k) := by
  have e : (((cfg0.win 3).blk t).view.emb (ix2 a k) : S4096x1024.Idx) = ix2 (pr t a) k :=
    Cert.Finite.ext2 (by blk_simp [idx_val t]) (by blk_simp [idx_val t])
  unfold iblk
  rw [View.read_apply, cast_eq, e]
  exact V5 m c _ _

/-- The rows as the kernel leaves them. -/
theorem final4 : (dats m 0 c).arrAt 4 (cfgs 0).N = REF (A0 m c) (A1 m c) (A2 m c) (A3 m c) := by
  refine (dats m 0 c).arrAt_eq_of_covers 4 _ (by decide +kernel) fun t hf y => ?_
  blk_simp; rw [after0_4]
  idx_vars y
  have e : ((View.whole main_v7).slice (win0_4.rect t)).emb (ix2 y0 y1) = ix2 (pr t y0) y1 :=
    Cert.Finite.ext2 (by blk_simp [idx_val t] <;> omega) (by blk_simp [idx_val t] <;> omega)
  rw [e]
  frame_out
  rw [pay1]
  simp only [blk0, blk1, blk2, blk3]
  rfl

end Kernel

section Reference

open Cert.FfnoutRIdeal Cert.FfnoutRIdeal.Gen Cert.FfnoutRIdeal.Read

variable (x0 : FVec Ideal S2x2048x1024 .f32) (x1 x2 : FVec Ideal S2x2048x2816 .f32) (x3 : FVec Ideal S2816x1024 .f32)

theorem s1 (b : Fin 2) (s : Fin 2048) (f : Fin 2816) : (val_main_v1 (F := Ideal) x1 x2 : FVec Ideal S2x2048x2816 .f32) (ix3 b s f)
    = x1 (ix3 b s f) * sg (x1 (ix3 b s f)) * x2 (ix3 b s f) := by
  unfold sg
  rw [zero_sub]
  unfold val_main_v1 val_main_v0 val_main_call0_v5 val_main_call0_v4 val_main_call0_v3 val_main_call0_v2 val_main_call0_v1 val_main_call0_v0
  pointwise [val_main_call0_cst, val_main_call0_cst_0]
theorem s2 (b : Fin 2) (s : Fin 2048) (k : Fin 1024) : (val_main_v2 (F := Ideal) x1 x2 x3 : FVec Ideal S2x2048x1024 .f32) (ix3 b s k)
    = prod (fun f => x1 (ix3 b s f)) (fun f => x2 (ix3 b s f)) fun f => x3 (ix2 f k) := by
  unfold prod
  simp only [← s1]
  unfold val_main_v2
  generalize val_main_v1 (F := Ideal) x1 x2 = q
  pointwise
theorem ref6 : (val_main_v6 (F := Ideal) x0 x1 x2 x3 : FVec Ideal S4096x1024 .f32) = REF x0 x1 x2 x3 := by
  funext j
  idx_vars j
  refine Eq.trans ?_ (congrArg (fun q => x0 (ix3 (bi j0) (si j0) j1) + Ideal.ofBits FTy.f32 0x3F000000#32 * q) (s2 x1 x2 x3 (bi j0) (si j0) j1))
  unfold val_main_v6 val_main_v5 val_main_v4 val_main_v3
  generalize val_main_v2 (F := Ideal) x1 x2 x3 = q
  pointwise [val_main_cst]

end Reference

end Cert.Ffnout
-- ==== Proof.FfnoutClaims.lean ====
/- Untrusted: the claims about the feed-forward's gated second product. -/
module

public import proofs.«01_k».proof.Defs
public import proofs.«01_k».proof.Proof.Ffnout
public import proofs.«01_k».proof.Proof.Gen.FfnoutK.Frame
public import proofs.«01_k».proof.Proof.Gen.FfnoutRIdeal.Run
public import Idealize.ShloMosaic.Adequacy
public import Idealize.ShloMosaic.Lib.Quiescent

@[expose] public section

noncomputable section

namespace Cert.Ffnout

open Idealize.ShloMosaic Idealize.ShloMosaic.TcCoe Idealize.SL.Sem

/-- The reference's runs end with its counters at zero. -/
theorem quiescentR : quiescent_FfnoutRIdeal := fun m ρ _ =>
  (θ_run Cert.FfnoutRIdeal.defs _ _).mono (fun r h => ⟨fun c => (h c).2, sem_eq_zero_of_no_sems (by decide) r.2⟩)
    (Cert.FfnoutRIdeal.Value.run (F := Ideal) m ρ)

/-- The kernel's rows are the reference's. -/
theorem algebraic : algebraic_FfnoutKIdeal_FfnoutRIdeal := by
  intro m ρ m' ρ' _ hagree
  refine ⟨_, Cert.FfnoutKIdeal.Value.run_blocks (F := Ideal) m ρ, ?_⟩
  refine (θ_run Cert.FfnoutRIdeal.defs _ _).mono (fun _ h c => ⟨?_, (h c).2⟩) (Cert.FfnoutRIdeal.Value.run (F := Ideal) m' ρ')
  refine (h c).1.trans ?_
  rw [Cert.FfnoutRIdeal.Read.val_main_v6_eq, (hagree c).1, (hagree c).2.1, (hagree c).2.2.1, (hagree c).2.2.2]
  exact (ref6 _ _ _ _).trans (final4 m c).symm

end Cert.Ffnout
end
-- ==== Proof.Rmsf.lean ====
/- Untrusted: the values of the kernel of the mixers' row norm, and of its reference. -/
module

public import proofs.«01_k».proof.Proof.Finite
public import proofs.«01_k».proof.Proof.Gen.RmsfKIdeal.Value
public import proofs.«01_k».proof.Proof.Gen.RmsfRIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Rmsf

/-- The batch and the position of a flattened row. -/
abbrev bi (r : Fin 4096) : Fin 2 := ⟨r.val / 2048, by omega⟩
abbrev si (r : Fin 4096) : Fin 2048 := ⟨r.val % 2048, by omega⟩

/-- Entry `k` of a row over the root of its mean square, times the gain. -/
def nrm (x : Fin 1024 → EReal) (g : EReal) (k : Fin 1024) : EReal :=
  x k * Ideal.rsqrt (Ideal.div (∑ l : Fin 1024, x l * x l) (Ideal.ofBits FTy.f32 0x44800000#32) + Ideal.ofBits FTy.f32 0x358637BD#32) * g

/-- The normalised rows. -/
def REF (x : (⟨3, ![2, 2048, 1024]⟩ : Shape).Idx → EReal) (g : (⟨1, ![1024]⟩ : Shape).Idx → EReal) : (⟨2, ![4096, 1024]⟩ : Shape).Idx → EReal := fun i =>
  nrm (fun l => x (ix3 (bi (i 0)) (si (i 0)) l)) (g (ix1 (i 1))) (i 1)

section Kernel

open Cert.RmsfKIdeal Cert.RmsfKIdeal.Gen

theorem pay1 (v0 : FVec Ideal S512x1024 .f32) (v2 : FVec Ideal S1x1024 .f32) (a : Fin 512) (k : Fin 1024) :
    (k0_pay1 (F := Ideal) v0 v2 : FVec Ideal S512x1024 .bf16) (ix2 a k) = nrm (fun l => v0 (ix2 a l)) (v2 (ix2 0 k)) k := by
  unfold nrm
  pointwise [k0_pay1]

theorem idx_val : ∀ t : Fin cfg0.N, win0_0.index t = ![t.val, 0] ∧ win0_1.index t = ![0, 0] ∧ win0_2.index t = ![t.val, 0] :=
  (by decide +kernel : ∀ t : Fin grid0.N, _)

theorem lt8 (t : Fin cfg0.N) : t.val < 8 := lt_of_lt_of_eq t.isLt N_0

variable (m : (ℓ : Loc nD τ sig) → Buf (Elt Ideal) ℓ) (c : Dev nD)

/-- The rows and the gain that the program is given. -/
abbrev A0 : FVec Ideal S2x2048x1024 .f32 := m ⟨c, Proc.devRef .tc main_arg0⟩
abbrev A1 : FVec Ideal S1024 .f32 := m ⟨c, Proc.devRef .tc main_arg1⟩

theorem V0 (r : Fin 4096) (k : Fin 1024) : V m c main_v0 (ix2 r k) = A0 m c (ix3 (bi r) (si r) k) := by
  entry_read
  pointwise
theorem V1 (z : Fin 1) (k : Fin 1024) : V m c main_v1 (ix2 z k) = A1 m c (ix1 k) := by
  entry_read
  pointwise

/-- The flattened row of row `a` of point `t`'s blocks. -/
abbrev pr (t : Fin cfg0.N) (a : Fin 512) : Fin 4096 := ⟨t.val * 512 + a.val, by have := lt8 t; omega⟩

theorem blk0 (t : Fin cfg0.N) (a : Fin 512) (k : Fin 1024) : (iblk m c 0 t : FVec Ideal S512x1024 .f32) (ix2 a k) = A0 m c (ix3 (bi (pr t a)) (si (pr t a)) k) := by
  have e : (((cfg0.win 0).blk t).view.emb (ix2 a k) : S4096x1024.Idx) = ix2 (pr t a) k :=
    Cert.Finite.ext2 (by blk_simp [idx_val t]) (by blk_simp [idx_val t])
  unfold iblk
  rw [View.read_apply, cast_eq, e]
  exact V0 m c _ _
theorem blk1 (t : Fin cfg0.N) (k : Fin 1024) : (iblk m c 1 t : FVec Ideal S1x1024 .f32) (ix2 0 k) = A1 m c (ix1 k) := by
  have e : (((cfg0.win 1).blk t).view.emb (ix2 0 k) : S1x1024.Idx) = ix2 0 k :=
    Cert.Finite.ext2 (by blk_simp [idx_val t]) (by blk_simp [idx_val t])
  unfold iblk
  rw [View.read_apply, cast_eq, e]
  exact V1 m c _ _

/-- The normalised rows as the kernel leaves them. -/
theorem final2 : (dats m 0 c).arrAt 2 (cfgs 0).N = REF (A0 m c) (A1 m c) := by
  refine (dats m 0 c).arrAt_eq_of_covers 2 _ (by decide +kernel) fun t hf y => ?_
  blk_simp; rw [after0_2]
  idx_vars y
  have e : ((View.whole main_v2).slice (win0_2.rect t)).emb (ix2 y0 y1) = ix2 (pr t y0) y1 :=
    Cert.Finite.ext2 (by blk_simp [idx_val t] <;> omega) (by blk_simp [idx_val t] <;> omega)
  rw [e]
  frame_out
  rw [pay1]
  simp only [blk0, blk1]
  rfl

end Kernel

section Reference

open Cert.RmsfRIdeal Cert.RmsfRIdeal.Gen Cert.RmsfRIdeal.Read

variable (x0 : FVec Ideal S2x2048x1024 .f32) (x1 : FVec Ideal S1024 .f32)

theorem s7 (b : Fin 2) (s : Fin 2048) (z : Fin 1) : (val_main_v7 (F := Ideal) x0 : FVec Ideal S2x2048x1 .f32) (ix3 b s z)
    = Ideal.rsqrt (Ideal.div (∑ l : Fin 1024, x0 (ix3 b s l) * x0 (ix3 b s l)) (Ideal.ofBits FTy.f32 0x44800000#32) + Ideal.ofBits FTy.f32 0x358637BD#32) := by
  unfold val_main_v7 val_main_v6 val_main_v5 val_main_v4 val_main_v3 val_main_v2 val_main_v1 val_main_v0
  pointwise [val_main_cst, val_main_cst_0, val_main_cst_1]
theorem ref14 : (val_main_v14 (F := Ideal) x0 x1 : FVec Ideal S4096x1024 .bf16) = REF x0 x1 := by
  funext j
  idx_vars j
  unfold REF nrm
  refine Eq.trans ?_ (congrArg (fun q => x0 (ix3 (bi j0) (si j0) j1) * q * x1 (ix1 j1)) (s7 x0 (bi j0) (si j0) 0))
  unfold val_main_v14 val_main_v13 val_main_v12 val_main_v11 val_main_v10 val_main_v9 val_main_v8
  generalize val_main_v7 (F := Ideal) x0 = q
  pointwise

end Reference

end Cert.Rmsf
-- ==== Proof.RmsfClaims.lean ====
/- Untrusted: the claims about the mixers' row norm. -/
module

public import proofs.«01_k».proof.Defs
public import proofs.«01_k».proof.Proof.Rmsf
public import proofs.«01_k».proof.Proof.Gen.RmsfK.Frame
public import proofs.«01_k».proof.Proof.Gen.RmsfRIdeal.Run
public import Idealize.ShloMosaic.Adequacy
public import Idealize.ShloMosaic.Lib.Quiescent

@[expose] public section

noncomputable section

namespace Cert.Rmsf

open Idealize.ShloMosaic Idealize.ShloMosaic.TcCoe Idealize.SL.Sem

/-- The reference's runs end with its counters at zero. -/
theorem quiescentR : quiescent_RmsfRIdeal := fun m ρ _ =>
  (θ_run Cert.RmsfRIdeal.defs _ _).mono (fun r h => ⟨fun c => (h c).2, sem_eq_zero_of_no_sems (by decide) r.2⟩)
    (Cert.RmsfRIdeal.Value.run (F := Ideal) m ρ)

/-- The kernel's normalised rows are the reference's. -/
theorem algebraic : algebraic_RmsfKIdeal_RmsfRIdeal := by
  intro m ρ m' ρ' _ hagree
  refine ⟨_, Cert.RmsfKIdeal.Value.run_blocks (F := Ideal) m ρ, ?_⟩
  refine (θ_run Cert.RmsfRIdeal.defs _ _).mono (fun _ h c => ⟨?_, (h c).2⟩) (Cert.RmsfRIdeal.Value.run (F := Ideal) m' ρ')
  refine (h c).1.trans ?_
  rw [Cert.RmsfRIdeal.Read.val_main_v14_eq, (hagree c).1, (hagree c).2]
  exact (ref14 _ _).trans (final2 m c).symm

end Cert.Rmsf
end
-- ==== Proof.QkfHost.lean ====
/- Untrusted: the arrays that the host prepares for the kernel of the query/key norm and rotation. -/
module

public import proofs.«01_k».proof.Proof.Gen.QkfKIdeal.Value
public import proofs.«01_k».proof.Proof.QkbHost

@[expose] public section

set_option maxRecDepth 16384

noncomputable section

open Idealize.ShloMosaic Idealize.ShloMosaic.TcCoe Idealize.SL.Sem
open Idealize.ShloMosaic.Pipeline (Dat)
open scoped BigOperators
open Cert.Qkb (two rem2 even quot even_apply quot_apply word_minus_one word_one)

namespace Cert.Qkf

section Host

open Cert.QkfKIdeal Cert.QkfKIdeal.Gen

variable (m : (ℓ : Loc nD τ sig) → Buf (Elt Ideal) ℓ) (c : Dev nD)

abbrev A0 : FVec Ideal S2x2048x2304 .f32 := m ⟨c, Proc.devRef .tc main_arg0⟩
abbrev A1 : FVec Ideal S64 .f32 := m ⟨c, Proc.devRef .tc main_arg1⟩
abbrev A2 : FVec Ideal S64 .f32 := m ⟨c, Proc.devRef .tc main_arg2⟩
def W24 : FVec Ideal S2048x32 .f32 := V m c main_v24
def W36 : FVec Ideal S64 .f32 := V m c main_v36
def W39 : FVec Ideal S2048x128 .f32 := V m c main_v39
def W45 : FVec Ideal S2048x128 .f32 := V m c main_v45
def W63 : FVec Ideal S128x128 .bf16 := V m c main_v63

theorem V24 : W24 m c = (Cert.QkbRIdeal.Read.val_main_v28 (F := Ideal) : FVec Ideal S2048x32 .f32) := by
  unfold W24 V; after_reads_simp <;> rfl
theorem V39 : W39 m c = (shapeCast _ (broadcastInDim S1x2048x2x64 ![0, 1, 2, 3] bcast_S1x2048x1x64_S1x2048x2x64_0_1_2_3 (shapeCast _ (shapeCast _ (broadcastInDim S2048x32x2 ![0, 1] bcast_S2048x32_S2048x32x2_0_1
    (Host.cos (W24 m c))) shapeCasts_S2048x32x2_S2048x64 : FVec Ideal S2048x64 .f32) shapeCasts_S2048x64_S1x2048x1x64 : FVec Ideal S1x2048x1x64 .f32)) shapeCasts_S1x2048x2x64_S2048x128 : FVec Ideal S2048x128 .f32) := by
  unfold W39 W24 V; after_reads_simp <;> rfl
theorem V45 : W45 m c = (shapeCast _ (broadcastInDim S1x2048x2x64 ![0, 1, 2, 3] bcast_S1x2048x1x64_S1x2048x2x64_0_1_2_3 (shapeCast _ (mulf (shapeCast _ (broadcastInDim S2048x32x2 ![0, 1] bcast_S2048x32_S2048x32x2_0_1
    (Host.sin (W24 m c))) shapeCasts_S2048x32x2_S2048x64 : FVec Ideal S2048x64 .f32) (broadcastInDim S2048x64 ![0, 1] bcast_S1x64_S2048x64_0_1 (broadcastInDim S1x64 ![1] bcast_S64_S1x64_1 (W36 m c))))
    shapeCasts_S2048x64_S1x2048x1x64 : FVec Ideal S1x2048x1x64 .f32)) shapeCasts_S1x2048x2x64_S2048x128 : FVec Ideal S2048x128 .f32) := by
  unfold W45 W24 W36 V; after_reads_simp <;> rfl

theorem V36 : W36 m c = (select even (broadcastInDim S64 ![] bcast_S_S64 (constant S_ .f32 0xBF800000#32 : FVec Ideal S_ .f32)) (broadcastInDim S64 ![] bcast_S_S64 (constant S_ .f32 0x3F800000#32 : FVec Ideal S_ .f32)) : FVec Ideal S64 .f32) := by
  unfold W36 V; after_reads_simp <;> rfl
theorem V63 : W63 m c = (uitofp .bf16 (cmpi .eq (broadcastInDim S128x128 ![0, 1] bcast_S128x1_S128x128_0_1 (broadcastInDim S128x1 ![0] bcast_S128_S128x1_0 quot))
    (broadcastInDim S128x128 ![0, 1] bcast_S1x128_S128x128_0_1 (broadcastInDim S1x128 ![1] bcast_S128_S1x128_1 quot))) : FVec Ideal S128x128 .bf16) := by
  unfold W63 V; after_reads_simp <;> rfl
theorem at36 (e : Fin 64) : W36 m c (ix1 e) = ((if e.val % 2 = 0 then -1 else 1 : ℝ) : EReal) := by
  have t : W36 m c (ix1 e) = Scalar.select (even (ix1 e)) (Ideal.ofBits FTy.f32 0xBF800000#32) (Ideal.ofBits FTy.f32 0x3F800000#32) := by
    rw [V36]
    generalize even = q
    pointwise
  rw [t, even_apply]
  by_cases h : e.val % 2 = 0
  · rw [if_pos h, if_pos h]; exact word_minus_one
  · rw [if_neg h, if_neg h]; exact word_one
theorem at63 (x l : Fin 128) : W63 m c (ix2 x l) = ((if x.val / 64 = l.val / 64 then 1 else 0 : ℝ) : EReal) := by
  have t : W63 m c (ix2 x l) = FloatOps.uitofp (F := Ideal) .bf16 (IntOp.cmpi CmpIPredicate.eq (quot (ix1 x)) (quot (ix1 l))) := by
    rw [V63]
    generalize quot = q
    pointwise
  have u1 : FloatOps.uitofp (F := Ideal) .bf16 (1#1) = ((1 : ℝ) : EReal) := congrArg (fun r : ℝ => (r : EReal)) (by simp)
  have u0 : FloatOps.uitofp (F := Ideal) .bf16 (0#1) = ((0 : ℝ) : EReal) := congrArg (fun r : ℝ => (r : EReal)) (by simp)
  rw [t, quot_apply, quot_apply]
  by_cases hx : x.val < 64 <;> by_cases hl : l.val < 64 <;> simp only [hx, hl, if_true, if_false]
  · rw [if_pos (by omega)]; exact u1
  · rw [if_neg (by omega)]; exact u0
  · rw [if_neg (by omega)]; exact u0
  · rw [if_pos (by omega)]; exact u1

theorem at39 (s : Fin 2048) (l : Fin 128) : W39 m c (ix2 s l) = Ideal.cos (W24 m c (ix2 s ⟨l.val % 64 / 2, by omega⟩)) := by
  rw [V39]
  generalize W24 m c = q
  pointwise
theorem at45 (s : Fin 2048) (l : Fin 128) : W45 m c (ix2 s l) = Ideal.sin (W24 m c (ix2 s ⟨l.val % 64 / 2, by omega⟩)) * W36 m c (ix1 ⟨l.val % 64, by omega⟩) := by
  rw [V45]
  generalize W24 m c = q
  generalize W36 m c = w
  pointwise

/-- The rows, the cotangents and the gains. -/
theorem V47 (j : S4096x2304.Idx) : V m c main_v47 j = A0 m c (ix3 ⟨(j 0).val / 2048, by have h : (j 0).val < 4096 := (j 0).isLt; omega⟩ ⟨(j 0).val % 2048, by omega⟩ (j 1)) := by
  unfold V; after_reads_simp
  pointwise
theorem V51 (j : S1x512.Idx) : V m c main_v51 j = A1 m c (ix1 ⟨(j 1).val % 64, by omega⟩) := by
  unfold V; after_reads_simp
  pointwise
theorem V55 (j : S1x128.Idx) : V m c main_v55 j = A2 m c (ix1 ⟨(j 1).val % 64, by omega⟩) := by
  unfold V; after_reads_simp
  pointwise

end Host

end Cert.Qkf
-- ==== Proof.Qkf.lean ====
/- Untrusted: the values of the kernel of the query/key norm and rotation. -/
module

public import proofs.«01_k».proof.Proof.QkfHost
public import proofs.«01_k».proof.Proof.QkbBlock

@[expose] public section

set_option maxRecDepth 16384

noncomputable section

open Idealize.ShloMosaic Idealize.ShloMosaic.TcCoe Idealize.SL.Sem
open Idealize.ShloMosaic.Pipeline (Dat)
open scoped BigOperators
open Cert.Heads
open Cert.Qkb (SWV evenLane evenLane_apply cut0 cut1 cut2 cut3 word_one)

namespace Cert.Qkf

/-- Lanes exchanged pair by pair, and the rotation of a row: `C` and `S` are the cosines and sines of the pairs of a head. -/
def SE (z : ℕ → EReal) (l : ℕ) : EReal := if l % 2 = 0 then z (l + 1) else z (l - 1)
def ROT (z : ℕ → EReal) (C S : ℕ → ℝ) (l : ℕ) : EReal :=
  z l * ((C (l % 64 / 2) : ℝ) : EReal) + SE z l * (((if l % 2 = 0 then -1 else 1) * S (l % 64 / 2) : ℝ) : EReal)
/-- The rotation at the two lanes of a pair. -/
theorem ROT_even (z : ℕ → EReal) (C S : ℕ → ℝ) (h j : ℕ) (hj : j < 32) :
    ROT z C S (h * 64 + 2 * j) = z (h * 64 + 2 * j) * ((C j : ℝ) : EReal) - z (h * 64 + (2 * j + 1)) * ((S j : ℝ) : EReal) := by
  unfold ROT SE
  rw [if_pos (by omega), if_pos (by omega), show (h * 64 + 2 * j) % 64 / 2 = j by omega, neg_one_mul, EReal.coe_neg, mul_neg, sub_eq_add_neg]
  rfl
theorem ROT_odd (z : ℕ → EReal) (C S : ℕ → ℝ) (h j : ℕ) (hj : j < 32) :
    ROT z C S (h * 64 + (2 * j + 1)) = z (h * 64 + 2 * j) * ((S j : ℝ) : EReal) + z (h * 64 + (2 * j + 1)) * ((C j : ℝ) : EReal) := by
  unfold ROT SE
  rw [if_neg (by omega), if_neg (by omega), show (h * 64 + (2 * j + 1)) % 64 / 2 = j by omega, show h * 64 + (2 * j + 1) - 1 = h * 64 + 2 * j by omega, one_mul, add_comm]

open Cert.QkfKIdeal Cert.QkfKIdeal.Gen

section Block

theorem sgn (S : ℕ → ℝ) (i j : ℕ) (h : i % 2 = j % 2) (h' : i % 64 / 2 = j % 64 / 2) :
    (((if i % 2 = 0 then -1 else 1) * S (i % 64 / 2) : ℝ) : EReal) = (((if j % 2 = 0 then -1 else 1) * S (j % 64 / 2) : ℝ) : EReal) := by
  rw [h, h']
theorem SWV_at (y : FVec Ideal S512x128 .f32) (Y : Fin 512 → ℕ → EReal) (n : ℕ) (hn : n % 128 = 0) (hy : ∀ a (l : Fin 128), y (ix2 a l) = Y a (n + l.val)) (a : Fin 512) (l : Fin 128) :
    SWV y (ix2 a l) = SE (Y a) (n + l.val) := by
  have e : SWV y (ix2 a l) = Scalar.select (evenLane (ix2 a l)) (y (ix2 a ⟨(l.val + 128 - 127) % 128, by omega⟩)) (y (ix2 a ⟨(l.val + 128 - 1) % 128, by omega⟩)) := by
    pointwise [SWV]
  rw [e, evenLane_apply, hy, hy]
  unfold SE
  by_cases h : l.val % 2 = 0
  · rw [if_pos h, if_pos (by omega)]
    exact congrArg (Y a) (by simp only; omega)
  · rw [if_neg h, if_neg (by omega)]
    exact congrArg (Y a) (by simp only; omega)

/-- Four groups of 128 lanes side by side. -/
theorem four (w0 w1 w2 w3 : FVec Ideal S512x128 .f32) (f : Fin 512 → ℕ → EReal)
    (h0 : ∀ a (l : Fin 128), w0 (ix2 a l) = f a (0 + l.val)) (h1 : ∀ a (l : Fin 128), w1 (ix2 a l) = f a (128 + l.val))
    (h2 : ∀ a (l : Fin 128), w2 (ix2 a l) = f a (256 + l.val)) (h3 : ∀ a (l : Fin 128), w3 (ix2 a l) = f a (384 + l.val)) (a : Fin 512) (l : Fin 512) :
    (concatenate S512x512 1 [⟨S512x128, w0⟩, ⟨S512x128, w1⟩, ⟨S512x128, w2⟩, ⟨S512x128, w3⟩] concatenates_S512x128_S512x128_S512x128_S512x128_S512x512_d1 : FVec Ideal S512x512 .f32) (ix2 a l)
      = f a l.val := by
  have e : (concatenate S512x512 1 [⟨S512x128, w0⟩, ⟨S512x128, w1⟩, ⟨S512x128, w2⟩, ⟨S512x128, w3⟩] concatenates_S512x128_S512x128_S512x128_S512x128_S512x512_d1 : FVec Ideal S512x512 .f32) (ix2 a l)
      = if h : l.val < 128 then w0 (ix2 a ⟨l.val, h⟩) else if h1 : l.val - 128 < 128 then w1 (ix2 a ⟨l.val - 128, h1⟩)
        else if h2 : l.val - 128 - 128 < 128 then w2 (ix2 a ⟨l.val - 128 - 128, h2⟩) else w3 (ix2 a ⟨l.val - 128 - 128 - 128, by omega⟩) := by
    pointwise
  rw [e]
  split_ifs with h h' h''
  · rw [h0]; exact congrArg (f a) (by simp only; omega)
  · rw [h1]; exact congrArg (f a) (by simp only; omega)
  · rw [h2]; exact congrArg (f a) (by simp only; omega)
  · rw [h3]; exact congrArg (f a) (by simp only; omega)

variable (o : FVec Ideal S128x128 .bf16) (ho : ∀ x l : Fin 128, o (ix2 x l) = (((if x.val / 64 = l.val / 64 then 1 else 0 : ℝ)) : EReal))

/-- The normalised query rows, and those times the gain. -/
theorem pay3 (v2 : FVec Ideal S512x512 .bf16) (Y : Fin 512 → ℕ → ℝ) (h2 : ∀ a (l : Fin 512), v2 (ix2 a l) = ((Y a l.val : ℝ) : EReal)) (ho : ∀ x l : Fin 128, o (ix2 x l) = (((if x.val / 64 = l.val / 64 then 1 else 0 : ℝ)) : EReal)) (a l : Fin 512) :
    (k0_pay3 (F := Ideal) o v2 : FVec Ideal S512x512 .f32) (ix2 a l) = ((XH (Y a) l.val : ℝ) : EReal) :=
  Cert.Qkb.pay5 o ho v2 Y h2 a l
theorem pay4 (w : FVec Ideal S512x512 .f32) (g : FVec Ideal S1x512 .f32) (a l : Fin 512) : (k0_pay4 (F := Ideal) w g : FVec Ideal S512x512 .f32) (ix2 a l) = w (ix2 a l) * g (ix2 0 l) := by
  pointwise [k0_pay4]
/-- The same for the keys. -/
theorem pay17 (v : FVec Ideal S512x128 .bf16) (Y : Fin 512 → ℕ → ℝ) (h2 : ∀ a (l : Fin 128), v (ix2 a l) = ((Y a l.val : ℝ) : EReal)) (ho : ∀ x l : Fin 128, o (ix2 x l) = (((if x.val / 64 = l.val / 64 then 1 else 0 : ℝ)) : EReal)) (a : Fin 512) (l : Fin 128) :
    (k0_pay17 (F := Ideal) o v : FVec Ideal S512x128 .f32) (ix2 a l) = ((XH (Y a) l.val : ℝ) : EReal) :=
  Cert.Qkb.pay28 o ho v Y h2 a l
theorem pay2 (a b : Fin 128) : (k0_pay2 (F := Ideal) o : FVec Ideal S128x128 .bf16) (ix2 a b) = o (ix2 a b) := by
  pointwise [k0_pay2]

/-- What is stored of the queries: the rotation of rows `z`, times the logits' scale. -/
def qv (z : FVec Ideal S512x512 .f32) (c s : FVec Ideal S512x128 .f32) : FVec Ideal S512x512 .bf16 :=
  truncf .bf16 (mulf (addf (mulf z (concatenate S512x512 1 [⟨S512x128, c⟩, ⟨S512x128, c⟩, ⟨S512x128, c⟩, ⟨S512x128, c⟩] concatenates_S512x128_S512x128_S512x128_S512x128_S512x512_d1))
    (mulf (concatenate S512x512 1 [⟨S512x128, SWV (extractStridedSlice S512x128 ![0, 0] z slices_S512x512_o0_0_S512x128)⟩, ⟨S512x128, SWV (extractStridedSlice S512x128 ![0, 128] z slices_S512x512_o0_128_S512x128)⟩,
      ⟨S512x128, SWV (extractStridedSlice S512x128 ![0, 256] z slices_S512x512_o0_256_S512x128)⟩, ⟨S512x128, SWV (extractStridedSlice S512x128 ![0, 384] z slices_S512x512_o0_384_S512x128)⟩]
      concatenates_S512x128_S512x128_S512x128_S512x128_S512x512_d1) (concatenate S512x512 1 [⟨S512x128, s⟩, ⟨S512x128, s⟩, ⟨S512x128, s⟩, ⟨S512x128, s⟩] concatenates_S512x128_S512x128_S512x128_S512x128_S512x512_d1)))
    (broadcast S512x512 (Scalar.ofBits .f32 0x3E000000#32))) bitsLt_bf16_f32
/-- The kernel's lines are these. -/
theorem q6 (w : FVec Ideal S512x512 .f32) (g : FVec Ideal S1x512 .f32) : k0_pay6 (F := Ideal) w g = SWV (extractStridedSlice S512x128 ![0, 0] (k0_pay4 w g) slices_S512x512_o0_0_S512x128) := rfl
theorem q11 (y : FVec Ideal S512x128 .f32) : k0_pay11 (F := Ideal) y (Scalar.select (Scalar.cmpi .eq 2#32 0#32) 1#32 2#32) k0_pay8 k0_pay9 k0_pay10 0#32 = SWV y := rfl
theorem q12 (z : FVec Ideal S512x512 .f32) : k0_pay12 (F := Ideal) z = SWV (extractStridedSlice S512x128 ![0, 256] z slices_S512x512_o0_256_S512x128) := rfl
theorem payq (w : FVec Ideal S512x512 .f32) (g : FVec Ideal S1x512 .f32) (c s : FVec Ideal S512x128 .f32) :
    k0_pay16 (F := Ideal) (k0_pay5 w g c) (k0_pay6 w g) (k0_pay11 (k0_pay7 w g) (Scalar.select (Scalar.cmpi .eq 2#32 0#32) 1#32 2#32) k0_pay8 k0_pay9 k0_pay10 0#32) (k0_pay12 (k0_pay4 w g)) (k0_pay13 (k0_pay4 w g))
      (Scalar.select (Scalar.cmpi .eq 2#32 0#32) 1#32 2#32) k0_pay14 k0_pay15 s = qv (k0_pay4 w g) (shapeCast S512x128 c shapeCasts_S512x128_S512x128) (shapeCast S512x128 s shapeCasts_S512x128_S512x128) := by
  rw [q6, q11, q12]
  unfold k0_pay5 k0_pay7
  generalize k0_pay4 w g = z
  generalize hy : SWV (extractStridedSlice S512x128 ![0, 0] z slices_S512x512_o0_0_S512x128) = y0
  generalize hy1 : SWV (extractStridedSlice S512x128 ![0, 256] z slices_S512x512_o0_256_S512x128) = y2
  unfold qv
  rw [hy, hy1]
  rfl
/-- A cast to the same shape changes nothing. -/
theorem same (x : FVec Ideal S512x128 .f32) (a : Fin 512) (l : Fin 128) : shapeCast S512x128 x shapeCasts_S512x128_S512x128 (ix2 a l) = x (ix2 a l) := by
  pointwise
theorem qv_apply (z : FVec Ideal S512x512 .f32) (c s : FVec Ideal S512x128 .f32) (Z : Fin 512 → ℕ → EReal) (C S : Fin 512 → ℕ → ℝ) (hz : ∀ a (l : Fin 512), z (ix2 a l) = Z a l.val)
    (hc : ∀ a (l : Fin 128), c (ix2 a l) = ((C a (l.val % 64 / 2) : ℝ) : EReal)) (hs : ∀ a (l : Fin 128), s (ix2 a l) = (((if l.val % 2 = 0 then -1 else 1) * S a (l.val % 64 / 2) : ℝ) : EReal)) (a l : Fin 512) :
    qv z c s (ix2 a l) = ROT (Z a) (C a) (S a) l.val * ((1 / 8 : ℝ) : EReal) := by
  unfold ROT
  rw [← hz, ← word_8th,
    ← four c c c c (fun a i => ((C a (i % 64 / 2) : ℝ) : EReal)) (fun a l => (hc a l).trans (congrArg (fun i => ((C a i : ℝ) : EReal)) (by omega))) (fun a l => (hc a l).trans (congrArg (fun i => ((C a i : ℝ) : EReal)) (by omega)))
      (fun a l => (hc a l).trans (congrArg (fun i => ((C a i : ℝ) : EReal)) (by omega))) (fun a l => (hc a l).trans (congrArg (fun i => ((C a i : ℝ) : EReal)) (by omega))) a l,
    ← four s s s s (fun a i => (((if i % 2 = 0 then -1 else 1) * S a (i % 64 / 2) : ℝ) : EReal)) (fun a l => (hs a l).trans (sgn (S a) _ _ (by omega) (by omega))) (fun a l => (hs a l).trans (sgn (S a) _ _ (by omega) (by omega)))
      (fun a l => (hs a l).trans (sgn (S a) _ _ (by omega) (by omega))) (fun a l => (hs a l).trans (sgn (S a) _ _ (by omega) (by omega))) a l,
    ← four _ _ _ _ (fun a => SE (Z a)) (SWV_at _ Z 0 (by decide) fun a l => (cut0 z a l).trans (hz a _)) (SWV_at _ Z 128 (by decide) fun a l => (cut1 z a l).trans (hz a _))
      (SWV_at _ Z 256 (by decide) fun a l => (cut2 z a l).trans (hz a _)) (SWV_at _ Z 384 (by decide) fun a l => (cut3 z a l).trans (hz a _)) a l]
  rfl
/-- What is stored of the keys: the rotation of the normalised rows times the gain. -/
theorem pay1 (w : FVec Ideal S512x128 .f32) (g : FVec Ideal S1x128 .f32) (c s : FVec Ideal S512x128 .f32) (Z : Fin 512 → ℕ → EReal) (C S : Fin 512 → ℕ → ℝ) (hz : ∀ a (l : Fin 128), w (ix2 a l) * g (ix2 0 l) = Z a l.val)
    (hc : ∀ a (l : Fin 128), c (ix2 a l) = ((C a (l.val % 64 / 2) : ℝ) : EReal)) (hs : ∀ a (l : Fin 128), s (ix2 a l) = (((if l.val % 2 = 0 then -1 else 1) * S a (l.val % 64 / 2) : ℝ) : EReal)) (a : Fin 512) (l : Fin 128) :
    (k0_pay1 (F := Ideal) w g c s : FVec Ideal S512x128 .bf16) (ix2 a l) = ROT (Z a) (C a) (S a) l.val := by
  have ez : ∀ a (l : Fin 128), (mulf w (broadcastTo S512x128 (shapeCast S1x128 g shapeCasts_S1x128_S1x128) broadcasts_S1x128_S512x128) : FVec Ideal S512x128 .f32) (ix2 a l) = Z a (0 + l.val) := fun a l => by
    rw [zero_add, ← hz]
    pointwise
  have e := SWV_at _ Z 0 (by decide) ez a l
  have e0 := ez a l
  rw [zero_add] at e e0
  unfold ROT
  rw [← mul_one (_ + _), ← e, ← e0, ← hc, ← hs, ← EReal.coe_one, ← word_one]
  have h : ∀ p : FVec Ideal S512x128 .f32, (truncf .bf16 (mulf (addf (mulf p (shapeCast S512x128 c shapeCasts_S512x128_S512x128)) (mulf (SWV p) (shapeCast S512x128 s shapeCasts_S512x128_S512x128))) (broadcast S512x128 (Scalar.ofBits .f32 0x3F800000#32))) bitsLt_bf16_f32 : FVec Ideal S512x128 .bf16) (ix2 a l)
      = (p (ix2 a l) * c (ix2 a l) + SWV p (ix2 a l) * s (ix2 a l)) * Ideal.ofBits FTy.f32 0x3F800000#32 := fun p => by
    generalize SWV p = q
    pointwise
  exact h _

end Block

theorem idx_val : ∀ t : Fin grid0.N, win0_0.index t = ![t.val, 3] ∧ win0_1.index t = ![t.val, 16] ∧ win0_2.index t = ![0, 0] ∧ win0_3.index t = ![0, 0]
    ∧ win0_4.index t = ![t.val % 4, 0] ∧ win0_5.index t = ![t.val % 4, 0] ∧ win0_6.index t = ![0, 0] ∧ win0_7.index t = ![t.val, 0] ∧ win0_8.index t = ![t.val, 0] :=
  (by decide +kernel : ∀ t : Fin grid0.N, _)

theorem N_8 : cfg0.N = 8 := by decide +kernel

variable (m : (ℓ : Loc nD τ sig) → Buf (Elt Ideal) ℓ) (c : Dev nD)

/-- The flattened row of row `a` of point `t`'s blocks, and the batch and position of a flattened row. -/
abbrev pr (t : Fin cfg0.N) (a : Fin 512) : Fin 4096 := ⟨t.val * 512 + a.val, by have := lt_of_lt_of_eq t.isLt N_8; omega⟩
abbrev bi (r : Fin 4096) : Fin 2 := ⟨r.val / 2048, by omega⟩
abbrev si (r : Fin 4096) : Fin 2048 := ⟨r.val % 2048, by omega⟩

theorem emb0 (t : Fin cfg0.N) (u : ((cfg0.win 0).xblock (cfg0.grid.coords t)).Idx) :
    ((((cfg0.win 0).blk t).view.emb u : S4096x2304.Idx) 0).val = t.val * 512 + (u 0).val ∧ ((((cfg0.win 0).blk t).view.emb u : S4096x2304.Idx) 1).val = 1536 + (u 1).val := by
  have e : ∀ x, win0_0.index t x = (![t.val, 3] : Fin 2 → ℕ) x := fun x => congrFun (idx_val t).1 x
  constructor
  · refine Eq.trans (b := win0_0.index t 0 * 512 + 1 * (u 0).val) rfl ?_
    rw [e 0, one_mul]; rfl
  · refine Eq.trans (b := win0_0.index t 1 * 512 + 1 * (u 1).val) rfl ?_
    rw [e 1, one_mul]; rfl
theorem blk0 (t : Fin cfg0.N) (a l : Fin 512) : (X0_0 m c t : FVec Ideal S512x512 .bf16) (ix2 a l) = A0 m c (ix3 (bi (pr t a)) (si (pr t a)) ⟨1536 + l.val, by omega⟩) := by
  unfold X0_0 Pipeline.Window.fill
  rw [dif_pos (moved0_0 t _)]
  unfold iblk
  rw [View.read_apply, cast_eq]
  exact (congrArg (V m c main_v47 : FVec Ideal S4096x2304 .bf16) (Cert.Finite.ext2 (x := pr t a) (y := (⟨1536 + l.val, by omega⟩ : Fin 2304)) (emb0 t _).1 (emb0 t _).2)).trans (V47 m c _)
theorem blk1 (t : Fin cfg0.N) (a : Fin 512) (l : Fin 128) : (iblk m c 1 t : FVec Ideal S512x128 .bf16) (ix2 a l) = A0 m c (ix3 (bi (pr t a)) (si (pr t a)) ⟨2048 + l.val, by omega⟩) := by
  have e : (((cfg0.win 1).blk t).view.emb (ix2 a l) : S4096x2304.Idx) = ix2 (pr t a) (⟨2048 + l.val, by omega⟩ : Fin 2304) :=
    Cert.Finite.ext2 (by blk_simp [idx_val t]) (by blk_simp [idx_val t])
  unfold iblk
  rw [View.read_apply, cast_eq]
  exact (congrArg (V m c main_v47 : FVec Ideal S4096x2304 .bf16) e).trans (V47 m c _)
theorem blk2 (t : Fin cfg0.N) (l : Fin 512) : (iblk m c 2 t : FVec Ideal S1x512 .f32) (ix2 0 l) = A1 m c (ix1 ⟨l.val % 64, by omega⟩) := by
  have e : (((cfg0.win 2).blk t).view.emb (ix2 0 l) : S1x512.Idx) = ix2 0 l := Cert.Finite.ext2 (by blk_simp [idx_val t]) (by blk_simp [idx_val t])
  unfold iblk
  rw [View.read_apply, cast_eq]
  exact (congrArg (V m c main_v51 : FVec Ideal S1x512 .f32) e).trans (V51 m c _)
theorem blk3 (t : Fin cfg0.N) (l : Fin 128) : (iblk m c 3 t : FVec Ideal S1x128 .f32) (ix2 0 l) = A2 m c (ix1 ⟨l.val % 64, by omega⟩) := by
  have e : (((cfg0.win 3).blk t).view.emb (ix2 0 l) : S1x128.Idx) = ix2 0 l := Cert.Finite.ext2 (by blk_simp [idx_val t]) (by blk_simp [idx_val t])
  unfold iblk
  rw [View.read_apply, cast_eq]
  exact (congrArg (V m c main_v55 : FVec Ideal S1x128 .f32) e).trans (V55 m c _)
/-- The positions of a block of the tables are its rows' positions. -/
theorem pos (t : Fin cfg0.N) (a : Fin 512) : (si (pr t a)).val = t.val % 4 * 512 + a.val := by
  have := lt_of_lt_of_eq t.isLt N_8
  simp only; omega
theorem blk4 (t : Fin cfg0.N) (a : Fin 512) (l : Fin 128) : (iblk m c 4 t : FVec Ideal S512x128 .f32) (ix2 a l) = W39 m c (ix2 (si (pr t a)) l) := by
  have e : (((cfg0.win 4).blk t).view.emb (ix2 a l) : S2048x128.Idx) = ix2 (si (pr t a)) l :=
    Cert.Finite.ext2 ((by blk_simp [idx_val t] : _ = t.val % 4 * 512 + a.val).trans (pos t a).symm) (by blk_simp [idx_val t])
  unfold iblk
  rw [View.read_apply, cast_eq]
  exact congrArg (W39 m c) e
theorem blk5 (t : Fin cfg0.N) (a : Fin 512) (l : Fin 128) : (iblk m c 5 t : FVec Ideal S512x128 .f32) (ix2 a l) = W45 m c (ix2 (si (pr t a)) l) := by
  have e : (((cfg0.win 5).blk t).view.emb (ix2 a l) : S2048x128.Idx) = ix2 (si (pr t a)) l :=
    Cert.Finite.ext2 ((by blk_simp [idx_val t] : _ = t.val % 4 * 512 + a.val).trans (pos t a).symm) (by blk_simp [idx_val t])
  unfold iblk
  rw [View.read_apply, cast_eq]
  exact congrArg (W45 m c) e
theorem blk6 (t : Fin cfg0.N) (x l : Fin 128) : (iblk m c 6 t : FVec Ideal S128x128 .bf16) (ix2 x l) = W63 m c (ix2 x l) := by
  have e : (((cfg0.win 6).blk t).view.emb (ix2 x l) : S128x128.Idx) = ix2 x l := Cert.Finite.ext2 (by blk_simp [idx_val t]) (by blk_simp [idx_val t])
  unfold iblk
  rw [View.read_apply, cast_eq]
  exact congrArg (W63 m c) e

/-- The blocks read at a point. -/
abbrev B0 (t : Fin cfg0.N) : FVec Ideal S512x512 .bf16 := X0_0 m c t
abbrev B1 (t : Fin cfg0.N) : FVec Ideal S512x128 .bf16 := iblk m c 1 t
abbrev B2 (t : Fin cfg0.N) : FVec Ideal S1x512 .f32 := iblk m c 2 t
abbrev B3 (t : Fin cfg0.N) : FVec Ideal S1x128 .f32 := iblk m c 3 t
abbrev B4 (t : Fin cfg0.N) : FVec Ideal S512x128 .f32 := iblk m c 4 t
abbrev B5 (t : Fin cfg0.N) : FVec Ideal S512x128 .f32 := iblk m c 5 t
abbrev B6 (t : Fin cfg0.N) : FVec Ideal S128x128 .bf16 := iblk m c 6 t

variable (X : Fin 2 → Fin 2048 → ℕ → ℝ) (C S : ℕ → ℕ → ℝ)

/-- The normalised rows of queries and keys with their gain, by batch and position. -/
def zq (X : Fin 2 → Fin 2048 → ℕ → ℝ) (g : (⟨1, ![64]⟩ : Shape).Idx → EReal) (b : Fin 2) (s : Fin 2048) (l : ℕ) : EReal :=
  ((XH (fun l => X b s (1536 + l)) l : ℝ) : EReal) * g (ix1 ⟨l % 64, by omega⟩)
def zk (X : Fin 2 → Fin 2048 → ℕ → ℝ) (g : (⟨1, ![64]⟩ : Shape).Idx → EReal) (b : Fin 2) (s : Fin 2048) (l : ℕ) : EReal :=
  ((XH (fun l => X b s (2048 + l)) l : ℝ) : EReal) * g (ix1 ⟨l % 64, by omega⟩)
/-- The rotated queries, scaled, and the rotated keys. -/
def TQ (g : (⟨1, ![64]⟩ : Shape).Idx → EReal) : (⟨2, ![4096, 512]⟩ : Shape).Idx → EReal := fun i =>
  ROT (zq X g (bi (i 0)) (si (i 0))) (C (si (i 0)).val) (S (si (i 0)).val) (i 1).val * ((1 / 8 : ℝ) : EReal)
def TK (g : (⟨1, ![64]⟩ : Shape).Idx → EReal) : (⟨2, ![4096, 128]⟩ : Shape).Idx → EReal := fun i =>
  ROT (zk X g (bi (i 0)) (si (i 0))) (C (si (i 0)).val) (S (si (i 0)).val) (i 1).val

variable (h0 : ∀ b s (k : Fin 2304), A0 m c (ix3 b s k) = ((X b s k.val : ℝ) : EReal))
  (hcs : ∀ (s : Fin 2048) (j : Fin 32), Ideal.cos ((Cert.QkbRIdeal.Read.val_main_v28 (F := Ideal) : FVec Ideal S2048x32 .f32) (ix2 s j)) = ((C s.val j.val : ℝ) : EReal)
    ∧ Ideal.sin ((Cert.QkbRIdeal.Read.val_main_v28 (F := Ideal) : FVec Ideal S2048x32 .f32) (ix2 s j)) = ((S s.val j.val : ℝ) : EReal))

theorem r6 (t : Fin cfg0.N) (x l : Fin 128) : B6 m c t (ix2 x l) = ((if x.val / 64 = l.val / 64 then 1 else 0 : ℝ) : EReal) := by
  unfold B6; rw [blk6, at63]
section Blocks3
include hcs
theorem r4 (t : Fin cfg0.N) (a : Fin 512) (l : Fin 128) : B4 m c t (ix2 a l) = ((C (si (pr t a)) (l.val % 64 / 2) : ℝ) : EReal) := by
  unfold B4; rw [blk4, at39, V24]
  exact (hcs _ _).1
theorem r5 (t : Fin cfg0.N) (a : Fin 512) (l : Fin 128) :
    B5 m c t (ix2 a l) = (((if l.val % 2 = 0 then -1 else 1) * S (si (pr t a)) (l.val % 64 / 2) : ℝ) : EReal) := by
  unfold B5; rw [blk5, at45, V24, (hcs _ _).2, at36, ← EReal.coe_mul, mul_comm]
  have e : l.val % 64 % 2 = l.val % 2 := by omega
  simp only [e]
end Blocks3

section Rows
include h0
theorem rq (t : Fin cfg0.N) (a l : Fin 512) : (k0_pay4 (F := Ideal) (k0_pay3 (B6 m c t) (B0 m c t)) (B2 m c t) : FVec Ideal S512x512 .f32) (ix2 a l) = zq X (A1 m c) (bi (pr t a)) (si (pr t a)) l.val := by
  rw [pay4, pay3 (B6 m c t) (B0 m c t) (fun a l => X (bi (pr t a)) (si (pr t a)) (1536 + l)) (fun a l => by unfold B0; rw [blk0, h0]) (r6 m c t)]
  unfold B2; rw [blk2]; rfl
theorem rk (t : Fin cfg0.N) (a : Fin 512) (l : Fin 128) : (k0_pay17 (F := Ideal) (k0_pay2 (B6 m c t)) (B1 m c t) : FVec Ideal S512x128 .f32) (ix2 a l) * B3 m c t (ix2 0 l) = zk X (A2 m c) (bi (pr t a)) (si (pr t a)) l.val := by
  rw [pay17 (k0_pay2 (F := Ideal) (B6 m c t)) (B1 m c t) (fun a l => X (bi (pr t a)) (si (pr t a)) (2048 + l)) (fun a l => by unfold B1; rw [blk1, h0]) (fun x l => (pay2 _ x l).trans (r6 m c t x l))]
  unfold B3; rw [blk3]; rfl
end Rows

theorem outs7 (t : Fin cfg0.N) : (outsAt0 m c t).1 = qv (k0_pay4 (F := Ideal) (k0_pay3 (B6 m c t) (B0 m c t)) (B2 m c t)) (shapeCast S512x128 (B4 m c t) shapeCasts_S512x128_S512x128) (shapeCast S512x128 (B5 m c t) shapeCasts_S512x128_S512x128) := by
  unfold outsAt0; frame_out
  exact payq _ _ _ _
theorem outs8 (t : Fin cfg0.N) : (outsAt0 m c t).2 = k0_pay1 (F := Ideal) (k0_pay17 (k0_pay2 (B6 m c t)) (B1 m c t)) (B3 m c t) (B4 m c t) (B5 m c t) := by
  unfold outsAt0; frame_out

include h0 hcs
/-- The rotated queries and keys as the kernel leaves them. -/
theorem final7 : (dats m 0 c).arrAt 7 (cfgs 0).N = TQ X C S (A1 m c) := by
  refine (dats m 0 c).arrAt_eq_of_covers 7 _ (by decide +kernel) fun t hf y => ?_
  blk_simp; rw [after0_7]
  idx_vars y
  have e : ((View.whole main_v64_0).slice (win0_7.rect t)).emb (ix2 y0 y1) = ix2 (pr t y0) y1 :=
    Cert.Finite.ext2 (by blk_simp [idx_val t] <;> omega) (by blk_simp [idx_val t] <;> omega)
  rw [e]
  exact (congrFun (outs7 m c t) (ix2 y0 y1)).trans (qv_apply _ _ _ (fun a => zq X (A1 m c) (bi (pr t a)) (si (pr t a))) (fun a => C (si (pr t a)).val) (fun a => S (si (pr t a)).val)
    (rq m c X h0 t) (fun a l => (same _ a l).trans (r4 m c C S hcs t a l)) (fun a l => (same _ a l).trans (r5 m c C S hcs t a l)) y0 y1)
theorem final8 : (dats m 0 c).arrAt 8 (cfgs 0).N = TK X C S (A2 m c) := by
  refine (dats m 0 c).arrAt_eq_of_covers 8 _ (by decide +kernel) fun t hf y => ?_
  blk_simp; rw [after0_8]
  idx_vars y
  have e : ((View.whole main_v64_1).slice (win0_8.rect t)).emb (ix2 y0 y1) = ix2 (pr t y0) y1 :=
    Cert.Finite.ext2 (by blk_simp [idx_val t] <;> omega) (by blk_simp [idx_val t] <;> omega)
  rw [e]
  exact (congrFun (outs8 m c t) (ix2 y0 y1)).trans (pay1 _ _ _ _ (fun a => zk X (A2 m c) (bi (pr t a)) (si (pr t a))) (fun a => C (si (pr t a)).val) (fun a => S (si (pr t a)).val)
    (rk m c X h0 t) (r4 m c C S hcs t) (r5 m c C S hcs t) y0 y1)

end Cert.Qkf
-- ==== Proof.QkfRef.lean ====
/- Untrusted: the reference's normalised and rotated queries and keys, line by line. -/
module

public import proofs.«01_k».proof.Proof.Gen.QkfRIdeal.Read
public import proofs.«01_k».proof.Proof.QkbRef
public import proofs.«01_k».proof.Proof.Qkf

@[expose] public section

set_option maxRecDepth 16384

noncomputable section

open Idealize.ShloMosaic Idealize.ShloMosaic.TcCoe Idealize.SL.Sem
open scoped BigOperators
open Cert.Heads

namespace Cert.QkfRef

open Cert.Qkf (ROT ROT_even ROT_odd zq zk TQ TK bi si)
open Cert.QkfRIdeal Cert.QkfRIdeal.Gen Cert.QkfRIdeal.Read

variable (x0 : FVec Ideal S2x2048x2304 .f32) (x1 x2 : FVec Ideal S64 .f32)
variable (X : Fin 2 → Fin 2048 → ℕ → ℝ) (C S : ℕ → ℕ → ℝ)

/-- The cosines and sines are those of the gradient's reference. -/
theorem angles : (val_main_v28 (F := Ideal) : FVec Ideal S2048x32 .f32) = Cert.QkbRIdeal.Read.val_main_v28 := rfl

section Norm
variable (h0 : ∀ b s (k : Fin 2304), x0 (ix3 b s k) = ((X b s k.val : ℝ) : EReal))
include h0
theorem Qz (b : Fin 2) (s : Fin 2048) (h : Fin 8) (e : Fin 64) :
    (val_main_v44 (F := Ideal) x0 x1 : FVec Ideal S2x2048x8x64 .f32) (ix4 b s h e) = zq X x1 b s (h.val * 64 + e.val) := by
  have t : (val_main_v44 (F := Ideal) x0 x1 : FVec Ideal S2x2048x8x64 .f32) (ix4 b s h e) = (val_main_v41 (F := Ideal) x0 : FVec Ideal S2x2048x8x64 .f32) (ix4 b s h e) * x1 (ix1 e) := by
    unfold val_main_v44 val_main_v43 val_main_v42
    generalize val_main_v41 (F := Ideal) x0 = q
    pointwise
  have q : (val_main_v41 (F := Ideal) x0 : FVec Ideal S2x2048x8x64 .f32) = Cert.QkbRIdeal.Read.val_main_v44 (F := Ideal) x0 := rfl
  rw [t, q, Cert.QkbRef.Qxhat x0 X h0]
  unfold zq
  exact congrArg (fun i => _ * x1 (ix1 i)) (Fin.ext (Cert.QkbRef.lane h.val e.val e.isLt).2.symm)
theorem Kz (b : Fin 2) (s : Fin 2048) (h : Fin 2) (e : Fin 64) :
    (val_main_v79 (F := Ideal) x0 x2 : FVec Ideal S2x2048x2x64 .f32) (ix4 b s h e) = zk X x2 b s (h.val * 64 + e.val) := by
  have t : (val_main_v79 (F := Ideal) x0 x2 : FVec Ideal S2x2048x2x64 .f32) (ix4 b s h e) = (val_main_v76 (F := Ideal) x0 : FVec Ideal S2x2048x2x64 .f32) (ix4 b s h e) * x2 (ix1 e) := by
    unfold val_main_v79 val_main_v78 val_main_v77
    generalize val_main_v76 (F := Ideal) x0 = q
    pointwise
  have q : (val_main_v76 (F := Ideal) x0 : FVec Ideal S2x2048x2x64 .f32) = Cert.QkbRIdeal.Read.val_main_v82 (F := Ideal) x0 := rfl
  rw [t, q, Cert.QkbRef.Kxhat x0 X h0]
  unfold zk
  exact congrArg (fun i => _ * x2 (ix1 i)) (Fin.ext (Cert.QkbRef.lane h.val e.val e.isLt).2.symm)

section Rotation
variable (hcs : ∀ (s : Fin 2048) (j : Fin 32), Ideal.cos ((Cert.QkbRIdeal.Read.val_main_v28 (F := Ideal) : FVec Ideal S2048x32 .f32) (ix2 s j)) = ((C s.val j.val : ℝ) : EReal)
    ∧ Ideal.sin ((Cert.QkbRIdeal.Read.val_main_v28 (F := Ideal) : FVec Ideal S2048x32 .f32) (ix2 s j)) = ((S s.val j.val : ℝ) : EReal))
include hcs
theorem Qrot (b : Fin 2) (s : Fin 2048) (h : Fin 8) (e : Fin 64) :
    (val_main_v65 (F := Ideal) x0 x1 : FVec Ideal S2x2048x8x64 .f32) (ix4 b s h e) = ROT (zq X x1 b s) (C s.val) (S s.val) (h.val * 64 + e.val) := by
  have t : (val_main_v65 (F := Ideal) x0 x1 : FVec Ideal S2x2048x8x64 .f32) (ix4 b s h e)
      = if e.val % 2 < 1 then (val_main_v56 (F := Ideal) x0 x1 : FVec Ideal S2x2048x8x32 .f32) (ix4 b s h ⟨e.val / 2, by omega⟩) else (val_main_v61 (F := Ideal) x0 x1 : FVec Ideal S2x2048x8x32 .f32) (ix4 b s h ⟨e.val / 2, by omega⟩) := by
    unfold val_main_v65 val_main_v64 val_main_v63 val_main_v62
    generalize val_main_v56 (F := Ideal) x0 x1 = q
    generalize val_main_v61 (F := Ideal) x0 x1 = p
    pointwise
    rfl
  have ev : ∀ j : Fin 32, (val_main_v56 (F := Ideal) x0 x1 : FVec Ideal S2x2048x8x32 .f32) (ix4 b s h j) = ROT (zq X x1 b s) (C s.val) (S s.val) (h.val * 64 + 2 * j.val) := fun j => by
    rw [ROT_even _ _ _ _ _ j.isLt, ← (hcs s j).1, ← (hcs s j).2, ← angles]
    refine Eq.trans ?_ (congrArg₂ (fun p q => p * Ideal.cos _ - q * Ideal.sin _) (Qz x0 x1 X h0 b s h ⟨2 * j.val, by omega⟩) (Qz x0 x1 X h0 b s h ⟨2 * j.val + 1, by omega⟩))
    unfold val_main_v56 val_main_v55 val_main_v54 val_main_v53 val_main_v52 val_main_v51 val_main_v50 val_main_v49 val_main_v48 val_main_v47 val_main_v46 val_main_v45 val_main_v30 val_main_v29
    generalize val_main_v44 (F := Ideal) x0 x1 = q
    generalize val_main_v28 (F := Ideal) = p
    pointwise
    simp only [mul_comm j.val 2]
  have od : ∀ j : Fin 32, (val_main_v61 (F := Ideal) x0 x1 : FVec Ideal S2x2048x8x32 .f32) (ix4 b s h j) = ROT (zq X x1 b s) (C s.val) (S s.val) (h.val * 64 + (2 * j.val + 1)) := fun j => by
    rw [ROT_odd _ _ _ _ _ j.isLt, ← (hcs s j).1, ← (hcs s j).2, ← angles]
    refine Eq.trans ?_ (congrArg₂ (fun p q => p * Ideal.sin _ + q * Ideal.cos _) (Qz x0 x1 X h0 b s h ⟨2 * j.val, by omega⟩) (Qz x0 x1 X h0 b s h ⟨2 * j.val + 1, by omega⟩))
    unfold val_main_v61 val_main_v60 val_main_v59 val_main_v58 val_main_v57 val_main_v51 val_main_v50 val_main_v49 val_main_v48 val_main_v47 val_main_v46 val_main_v45 val_main_v30 val_main_v29
    generalize val_main_v44 (F := Ideal) x0 x1 = q
    generalize val_main_v28 (F := Ideal) = p
    pointwise
    simp only [mul_comm j.val 2]
  rw [t]
  rcases Nat.mod_two_eq_zero_or_one e.val with he | he
  · rw [if_pos (by omega), ev]
    exact congrArg _ (by simp only; omega)
  · rw [if_neg (by omega), od]
    exact congrArg _ (by simp only; omega)
theorem Krot (b : Fin 2) (s : Fin 2048) (h : Fin 2) (e : Fin 64) :
    (val_main_v100 (F := Ideal) x0 x2 : FVec Ideal S2x2048x2x64 .f32) (ix4 b s h e) = ROT (zk X x2 b s) (C s.val) (S s.val) (h.val * 64 + e.val) := by
  have t : (val_main_v100 (F := Ideal) x0 x2 : FVec Ideal S2x2048x2x64 .f32) (ix4 b s h e)
      = if e.val % 2 < 1 then (val_main_v91 (F := Ideal) x0 x2 : FVec Ideal S2x2048x2x32 .f32) (ix4 b s h ⟨e.val / 2, by omega⟩) else (val_main_v96 (F := Ideal) x0 x2 : FVec Ideal S2x2048x2x32 .f32) (ix4 b s h ⟨e.val / 2, by omega⟩) := by
    unfold val_main_v100 val_main_v99 val_main_v98 val_main_v97
    generalize val_main_v91 (F := Ideal) x0 x2 = q
    generalize val_main_v96 (F := Ideal) x0 x2 = p
    pointwise
    rfl
  have ev : ∀ j : Fin 32, (val_main_v91 (F := Ideal) x0 x2 : FVec Ideal S2x2048x2x32 .f32) (ix4 b s h j) = ROT (zk X x2 b s) (C s.val) (S s.val) (h.val * 64 + 2 * j.val) := fun j => by
    rw [ROT_even _ _ _ _ _ j.isLt, ← (hcs s j).1, ← (hcs s j).2, ← angles]
    refine Eq.trans ?_ (congrArg₂ (fun p q => p * Ideal.cos _ - q * Ideal.sin _) (Kz x0 x2 X h0 b s h ⟨2 * j.val, by omega⟩) (Kz x0 x2 X h0 b s h ⟨2 * j.val + 1, by omega⟩))
    unfold val_main_v91 val_main_v90 val_main_v89 val_main_v88 val_main_v87 val_main_v86 val_main_v85 val_main_v84 val_main_v83 val_main_v82 val_main_v81 val_main_v80 val_main_v30 val_main_v29
    generalize val_main_v79 (F := Ideal) x0 x2 = q
    generalize val_main_v28 (F := Ideal) = p
    pointwise
    simp only [mul_comm j.val 2]
  have od : ∀ j : Fin 32, (val_main_v96 (F := Ideal) x0 x2 : FVec Ideal S2x2048x2x32 .f32) (ix4 b s h j) = ROT (zk X x2 b s) (C s.val) (S s.val) (h.val * 64 + (2 * j.val + 1)) := fun j => by
    rw [ROT_odd _ _ _ _ _ j.isLt, ← (hcs s j).1, ← (hcs s j).2, ← angles]
    refine Eq.trans ?_ (congrArg₂ (fun p q => p * Ideal.sin _ + q * Ideal.cos _) (Kz x0 x2 X h0 b s h ⟨2 * j.val, by omega⟩) (Kz x0 x2 X h0 b s h ⟨2 * j.val + 1, by omega⟩))
    unfold val_main_v96 val_main_v95 val_main_v94 val_main_v93 val_main_v92 val_main_v86 val_main_v85 val_main_v84 val_main_v83 val_main_v82 val_main_v81 val_main_v80 val_main_v30 val_main_v29
    generalize val_main_v79 (F := Ideal) x0 x2 = q
    generalize val_main_v28 (F := Ideal) = p
    pointwise
    simp only [mul_comm j.val 2]
  rw [t]
  rcases Nat.mod_two_eq_zero_or_one e.val with he | he
  · rw [if_pos (by omega), ev]
    exact congrArg _ (by simp only; omega)
  · rw [if_neg (by omega), od]
    exact congrArg _ (by simp only; omega)
theorem refq : (val_main_v104 (F := Ideal) x0 x1 : FVec Ideal S4096x512 .bf16) = TQ X C S x1 := by
  funext i
  idx_vars i
  have t : (val_main_v104 (F := Ideal) x0 x1 : FVec Ideal S4096x512 .bf16) (ix2 i0 i1) = (val_main_v65 (F := Ideal) x0 x1 : FVec Ideal S2x2048x8x64 .f32) (ix4 (bi i0) (si i0) ⟨i1.val / 64, by omega⟩ ⟨i1.val % 64, by omega⟩) * Ideal.ofBits FTy.f32 0x3E000000#32 := by
    unfold val_main_v104 val_main_v103 val_main_v102 val_main_v101
    generalize val_main_v65 (F := Ideal) x0 x1 = q
    pointwise [val_main_cst_7]
  rw [t, Qrot x0 x1 X C S h0 hcs, word_8th]
  unfold TQ
  have e : i1.val / 64 * 64 + i1.val % 64 = i1.val := by omega
  exact congrArg (ROT _ _ _ · * _) e
theorem refk : (val_main_v106 (F := Ideal) x0 x2 : FVec Ideal S4096x128 .bf16) = TK X C S x2 := by
  funext i
  idx_vars i
  have t : (val_main_v106 (F := Ideal) x0 x2 : FVec Ideal S4096x128 .bf16) (ix2 i0 i1) = (val_main_v100 (F := Ideal) x0 x2 : FVec Ideal S2x2048x2x64 .f32) (ix4 (bi i0) (si i0) ⟨i1.val / 64, by omega⟩ ⟨i1.val % 64, by omega⟩) := by
    unfold val_main_v106 val_main_v105
    generalize val_main_v100 (F := Ideal) x0 x2 = q
    pointwise
  rw [t, Krot x0 x2 X C S h0 hcs]
  unfold TK
  have e : i1.val / 64 * 64 + i1.val % 64 = i1.val := by omega
  exact congrArg (ROT _ _ _ ·) e
end Rotation
end Norm

end Cert.QkfRef
-- ==== Proof.QkfClaims.lean ====
/- Untrusted: the claims about the query/key norm and rotation. -/
module

public import proofs.«01_k».proof.Defs
public import proofs.«01_k».proof.Proof.QkfRef
public import proofs.«01_k».proof.Proof.Gen.QkfK.Frame
public import proofs.«01_k».proof.Proof.Gen.QkfRIdeal.Run
public import Idealize.ShloMosaic.Adequacy
public import Idealize.ShloMosaic.Lib.Quiescent

@[expose] public section

noncomputable section

namespace Cert.Qkf

open Idealize.ShloMosaic Idealize.ShloMosaic.TcCoe Idealize.SL.Sem

/-- The side conditions of the precondition's operations. -/
theorem preFacts : Cert.Pre_qkf_finite.Facts where
  bcast_S_S2x2048x2304 := by decide
  reducesTo_S2x2048x2304_S_d0_1_2 := by decide
  h_S_ := by decide

instance : Subsingleton Cert.Pre_qkf_finite.S_.Idx := ⟨fun a b => funext fun k => k.elim0⟩

/-- Under the precondition the rows are reals. -/
theorem reals [Cert.Pre_qkf_finite.Facts] {x0 : FVec Ideal Cert.Pre_qkf_finite.S2x2048x2304 .f32} {x1 x2 : FVec Ideal Cert.Pre_qkf_finite.S64 .f32}
    (h : Cert.Pre_qkf_finite.fn (F := Ideal) x0 x1 x2 = fun _ => 1#1) : ∃ f : Fin 2 → Fin 2048 → ℕ → ℝ, ∀ b s (k : Fin 2304), x0 (ix3 b s k) = ((f b s k.val : ℝ) : EReal) := by
  unfold Cert.Pre_qkf_finite.fn at h
  obtain ⟨f0, e0⟩ := Cert.Finite.array_real (fun a => a.elim0) h
  refine ⟨fun b s k => if p : k < 2304 then f0 (ix3 b s ⟨k, p⟩) else 0, fun b s k => (congrFun e0 _).trans ?_⟩
  dsimp only; rw [dif_pos k.isLt]

/-- The reference's runs end with its counters at zero. -/
theorem quiescentR : quiescent_QkfRIdeal := fun m ρ _ =>
  (θ_run Cert.QkfRIdeal.defs _ _).mono (fun r h => ⟨fun c => (h c).2.2, sem_eq_zero_of_no_sems (by decide) r.2⟩)
    (Cert.QkfRIdeal.Value.run (F := Ideal) m ρ)

set_option maxHeartbeats 1600000 in
/-- On finite rows the kernel's rotated queries and keys are the reference's. -/
theorem algebraic [Cert.Pre_qkf_finite.Facts] : algebraic_QkfKIdeal_QkfRIdeal_pre_qkf_finite := by
  intro m ρ m' ρ' hpre hagree
  refine ⟨_, _, Cert.QkfKIdeal.Value.run_blocks (F := Ideal) m ρ, ?_⟩
  refine (θ_run Cert.QkfRIdeal.defs _ _).mono (fun _ h c => ⟨?_, ?_, (h c).2.2⟩) (Cert.QkfRIdeal.Value.run (F := Ideal) m' ρ')
  · obtain ⟨X, h0⟩ := reals (hpre c)
    obtain ⟨C, S, hcs⟩ := Cert.Qkb.tables
    refine (h c).1.trans ?_
    rw [Cert.QkfRIdeal.Read.val_main_v104_eq, (hagree c).1, (hagree c).2.1]
    exact (Cert.QkfRef.refq (A0 m c) (A1 m c) X C S h0 hcs).trans (final7 m c X C S h0 hcs).symm
  · obtain ⟨X, h0⟩ := reals (hpre c)
    obtain ⟨C, S, hcs⟩ := Cert.Qkb.tables
    refine (h c).2.1.trans ?_
    rw [Cert.QkfRIdeal.Read.val_main_v106_eq, (hagree c).1, (hagree c).2.2]
    exact (Cert.QkfRef.refk (A0 m c) (A2 m c) X C S h0 hcs).trans (final8 m c X C S h0 hcs).symm

end Cert.Qkf
end
-- ==== Proof.Pin.lean ====
/- Untrusted: the values of the kernel of the mixer's first product, and of its reference. -/
module

public import proofs.«01_k».proof.Proof.Finite
public import proofs.«01_k».proof.Proof.Gen.PinKIdeal.Value
public import proofs.«01_k».proof.Proof.Gen.PinRIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Pin

/-- The batch and the position of a flattened row. -/
abbrev bi (r : Fin 4096) : Fin 2 := ⟨r.val / 2048, by omega⟩
abbrev si (r : Fin 4096) : Fin 2048 := ⟨r.val % 2048, by omega⟩

/-- The product of a row with the weight. -/
def REF (h : (⟨3, ![2, 2048, 1024]⟩ : Shape).Idx → EReal) (w : (⟨2, ![1024, 2304]⟩ : Shape).Idx → EReal) : (⟨2, ![4096, 2304]⟩ : Shape).Idx → EReal := fun i =>
  ∑ k : Fin 1024, h (ix3 (bi (i 0)) (si (i 0)) k) * w (ix2 k (i 1))

section Kernel

open Cert.PinKIdeal Cert.PinKIdeal.Gen

theorem pay1 (v0 : FVec Ideal S1024x1024 .bf16) (v2 : FVec Ideal S1024x2304 .bf16) (a : Fin 1024) (n : Fin 2304) :
    (k0_pay1 (F := Ideal) v0 v2 : FVec Ideal S1024x2304 .bf16) (ix2 a n) = ∑ k : Fin 1024, v0 (ix2 a k) * v2 (ix2 k n) := by
  pointwise [k0_pay1]

theorem idx_val : ∀ t : Fin grid0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The arrays that the program is given. -/
abbrev A0 : FVec Ideal S2x2048x1024 .f32 := m ⟨c, Proc.devRef .tc main_arg0⟩
abbrev A1 : FVec Ideal S1024x2304 .f32 := m ⟨c, Proc.devRef .tc main_arg1⟩
theorem V1 (r : Fin 4096) (k : Fin 1024) : V m c main_v1 (ix2 r k) = A0 m c (ix3 (bi r) (si r) k) := by
  entry_read
  pointwise
theorem V2 (r : Fin 1024) (k : Fin 2304) : V m c main_v2 (ix2 r k) = A1 m c (ix2 r k) := by
  entry_read
  pointwise
/-- The flattened row of row `a` of point `t`'s blocks. -/
abbrev pr (t : Fin cfg0.N) (a : Fin 1024) : Fin 4096 := ⟨t.val * 1024 + a.val, by have := lt_of_lt_of_eq t.isLt N_0; omega⟩

theorem blk0 (t : Fin cfg0.N) (a : Fin 1024) (k : Fin 1024) : (iblk m c 0 t : FVec Ideal S1024x1024 .bf16) (ix2 a k) = A0 m c (ix3 (bi (pr t a)) (si (pr t a)) k) := by
  have e : (((cfg0.win 0).blk t).view.emb (ix2 a k) : S4096x1024.Idx) = ix2 (pr t a) k :=
    Cert.Finite.ext2 (by blk_simp [idx_val t]) (by blk_simp [idx_val t])
  unfold iblk
  rw [View.read_apply, cast_eq, e]
  exact V1 m c _ _
theorem blk1 (t : Fin cfg0.N) (a : Fin 1024) (k : Fin 2304) : (iblk m c 1 t : FVec Ideal S1024x2304 .bf16) (ix2 a k) = A1 m c (ix2 a k) := by
  have e : (((cfg0.win 1).blk t).view.emb (ix2 a k) : S1024x2304.Idx) = ix2 a k :=
    Cert.Finite.ext2 (by blk_simp [idx_val t]) (by blk_simp [idx_val t])
  unfold iblk
  rw [View.read_apply, cast_eq, e]
  exact V2 m c _ _
/-- The product as the kernel leaves it. -/
theorem final : (dats m 0 c).arrAt 2 (cfgs 0).N = REF (A0 m c) (A1 m c) := by
  refine (dats m 0 c).arrAt_eq_of_covers 2 _ (by decide +kernel) fun t hf y => ?_
  blk_simp; rw [after0_2]
  idx_vars y
  have e : ((View.whole main_v3).slice (win0_2.rect t)).emb (ix2 y0 y1) = ix2 (pr t y0) y1 :=
    Cert.Finite.ext2 (by blk_simp [idx_val t] <;> omega) (by blk_simp [idx_val t] <;> omega)
  rw [e]
  frame_out
  rw [pay1]
  simp only [blk0, blk1]
  rfl

end Kernel

section Reference

open Cert.PinRIdeal Cert.PinRIdeal.Gen Cert.PinRIdeal.Read

theorem ref (x0 : FVec Ideal S2x2048x1024 .f32) (x1 : FVec Ideal S1024x2304 .f32) : (val_main_v2 (F := Ideal) x0 x1 : FVec Ideal S4096x2304 .bf16) = REF x0 x1 := by
  funext j
  idx_vars j
  unfold val_main_v2 val_main_v1 val_main_v0 REF
  pointwise

end Reference

end Cert.Pin
end
-- ==== Proof.PinClaims.lean ====
/- Untrusted: the claims about the mixer's first product. -/
module

public import proofs.«01_k».proof.Defs
public import proofs.«01_k».proof.Proof.Pin
public import proofs.«01_k».proof.Proof.Gen.PinK.Frame
public import proofs.«01_k».proof.Proof.Gen.PinRIdeal.Run
public import Idealize.ShloMosaic.Adequacy
public import Idealize.ShloMosaic.Lib.Quiescent

@[expose] public section

noncomputable section

namespace Cert.Pin

open Idealize.ShloMosaic Idealize.ShloMosaic.TcCoe Idealize.SL.Sem

/-- The reference's runs end with its counters at zero. -/
theorem quiescentR : quiescent_PinRIdeal := fun m ρ _ =>
  (θ_run Cert.PinRIdeal.defs _ _).mono (fun r h => ⟨fun c => (h c).2, sem_eq_zero_of_no_sems (by decide) r.2⟩)
    (Cert.PinRIdeal.Value.run (F := Ideal) m ρ)

/-- The kernel's product is the reference's, on every argument. -/
theorem algebraic : algebraic_PinKIdeal_PinRIdeal := by
  intro m ρ m' ρ' _ hagree
  refine ⟨_, Cert.PinKIdeal.Value.run_blocks (F := Ideal) m ρ, ?_⟩
  refine (θ_run Cert.PinRIdeal.defs _ _).mono (fun _ h c => ⟨?_, (h c).2⟩) (Cert.PinRIdeal.Value.run (F := Ideal) m' ρ')
  refine (h c).1.trans ?_
  rw [Cert.PinRIdeal.Read.val_main_v2_eq, (hagree c).1, (hagree c).2]
  exact (ref _ _).trans (final m c).symm

end Cert.Pin
end
-- ==== Proof.Pout.lean ====
/- Untrusted: the values of the kernel of the mixer's second product, and of its reference. -/
module

public import proofs.«01_k».proof.Proof.Finite
public import proofs.«01_k».proof.Proof.Gen.PoutKIdeal.Value
public import proofs.«01_k».proof.Proof.Gen.PoutRIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Pout

/-- The batch and the position of a flattened row. -/
abbrev bi (r : Fin 4096) : Fin 2 := ⟨r.val / 2048, by omega⟩
abbrev si (r : Fin 4096) : Fin 2048 := ⟨r.val % 2048, by omega⟩

/-- Two groups of lanes side by side. -/
def C2 (p q : Fin 512 → EReal) (k : Fin 1024) : EReal := if h : k.val < 512 then p ⟨k.val, h⟩ else q ⟨k.val - 512, by omega⟩

/-- The rows plus the product of the two parts with the weight. -/
def REF (x : (⟨3, ![2, 2048, 1024]⟩ : Shape).Idx → EReal) (a o : (⟨3, ![2, 2048, 512]⟩ : Shape).Idx → EReal) (w : (⟨2, ![1024, 1024]⟩ : Shape).Idx → EReal) :
    (⟨2, ![4096, 1024]⟩ : Shape).Idx → EReal := fun i =>
  x (ix3 (bi (i 0)) (si (i 0)) (i 1)) + ∑ k : Fin 1024, C2 (fun l => a (ix3 (bi (i 0)) (si (i 0)) l)) (fun l => o (ix3 (bi (i 0)) (si (i 0)) l)) k * w (ix2 k (i 1))

section Kernel

open Cert.PoutKIdeal Cert.PoutKIdeal.Gen

theorem pay1 (v0 v2 : FVec Ideal S1024x512 .bf16) (v5 : FVec Ideal S1024x1024 .bf16) (v8 : FVec Ideal S1024x1024 .f32) (a n : Fin 1024) :
    (k0_pay1 (F := Ideal) v0 v2 v5 v8 : FVec Ideal S1024x1024 .f32) (ix2 a n) = v8 (ix2 a n) + ∑ k : Fin 1024, C2 (fun l => v0 (ix2 a l)) (fun l => v2 (ix2 a l)) k * v5 (ix2 k n) := by
  unfold C2
  pointwise [k0_pay1]

theorem idx_val : ∀ t : Fin grid0.N, win0_0.index t = ![t.val, 0] ∧ win0_1.index t = ![t.val, 0] ∧ win0_2.index t = ![0, 0] ∧ win0_3.index t = ![t.val, 0] ∧ win0_4.index t = ![t.val, 0] :=
  (by decide +kernel : ∀ t : Fin grid0.N, _)

variable (m : (ℓ : Loc nD τ sig) → Buf (Elt Ideal) ℓ) (c : Dev nD)

/-- The arrays that the program is given. -/
abbrev A0 : FVec Ideal S2x2048x1024 .f32 := m ⟨c, Proc.devRef .tc main_arg0⟩
abbrev A1 : FVec Ideal S2x2048x512 .f32 := m ⟨c, Proc.devRef .tc main_arg1⟩
abbrev A2 : FVec Ideal S2x2048x512 .f32 := m ⟨c, Proc.devRef .tc main_arg2⟩
abbrev A3 : FVec Ideal S1024x1024 .f32 := m ⟨c, Proc.devRef .tc main_arg3⟩
theorem V0 (r : Fin 4096) (k : Fin 1024) : V m c main_v0 (ix2 r k) = A0 m c (ix3 (bi r) (si r) k) := by
  entry_read
  pointwise
theorem V2 (r : Fin 4096) (k : Fin 512) : V m c main_v2 (ix2 r k) = A1 m c (ix3 (bi r) (si r) k) := by
  entry_read
  pointwise
theorem V4 (r : Fin 4096) (k : Fin 512) : V m c main_v4 (ix2 r k) = A2 m c (ix3 (bi r) (si r) k) := by
  entry_read
  pointwise
theorem V5 (r : Fin 1024) (k : Fin 1024) : V m c main_v5 (ix2 r k) = A3 m c (ix2 r k) := by
  entry_read
  pointwise
/-- The flattened row of row `a` of point `t`'s blocks. -/
abbrev pr (t : Fin cfg0.N) (a : Fin 1024) : Fin 4096 := ⟨t.val * 1024 + a.val, by have := lt_of_lt_of_eq t.isLt N_0; omega⟩

theorem blk0 (t : Fin cfg0.N) (a : Fin 1024) (k : Fin 512) : (iblk m c 0 t : FVec Ideal S1024x512 .bf16) (ix2 a k) = A1 m c (ix3 (bi (pr t a)) (si (pr t a)) k) := by
  have e : (((cfg0.win 0).blk t).view.emb (ix2 a k) : S4096x512.Idx) = ix2 (pr t a) k :=
    Cert.Finite.ext2 (by blk_simp [idx_val t]) (by blk_simp [idx_val t])
  unfold iblk
  rw [View.read_apply, cast_eq, e]
  exact V2 m c _ _
theorem blk1 (t : Fin cfg0.N) (a : Fin 1024) (k : Fin 512) : (iblk m c 1 t : FVec Ideal S1024x512 .bf16) (ix2 a k) = A2 m c (ix3 (bi (pr t a)) (si (pr t a)) k) := by
  have e : (((cfg0.win 1).blk t).view.emb (ix2 a k) : S4096x512.Idx) = ix2 (pr t a) k :=
    Cert.Finite.ext2 (by blk_simp [idx_val t]) (by blk_simp [idx_val t])
  unfold iblk
  rw [View.read_apply, cast_eq, e]
  exact V4 m c _ _
theorem blk2 (t : Fin cfg0.N) (a : Fin 1024) (k : Fin 1024) : (iblk m c 2 t : FVec Ideal S1024x1024 .bf16) (ix2 a k) = A3 m c (ix2 a k) := by
  have e : (((cfg0.win 2).blk t).view.emb (ix2 a k) : S1024x1024.Idx) = ix2 a k :=
    Cert.Finite.ext2 (by blk_simp [idx_val t]) (by blk_simp [idx_val t])
  unfold iblk
  rw [View.read_apply, cast_eq, e]
  exact V5 m c _ _
theorem blk3 (t : Fin cfg0.N) (a : Fin 1024) (k : Fin 1024) : (iblk m c 3 t : FVec Ideal S1024x1024 .f32) (ix2 a k) = A0 m c (ix3 (bi (pr t a)) (si (pr t a)) k) := by
  have e : (((cfg0.win 3).blk t).view.emb (ix2 a k) : S4096x1024.Idx) = ix2 (pr t a) k :=
    Cert.Finite.ext2 (by blk_simp [idx_val t]) (by blk_simp [idx_val t])
  unfold iblk
  rw [View.read_apply, cast_eq, e]
  exact V0 m c _ _
/-- The rows as the kernel leaves them. -/
theorem final : (dats m 0 c).arrAt 4 (cfgs 0).N = REF (A0 m c) (A1 m c) (A2 m c) (A3 m c) := by
  refine (dats m 0 c).arrAt_eq_of_covers 4 _ (by decide +kernel) fun t hf y => ?_
  blk_simp; rw [after0_4]
  idx_vars y
  have e : ((View.whole main_v6).slice (win0_4.rect t)).emb (ix2 y0 y1) = ix2 (pr t y0) y1 :=
    Cert.Finite.ext2 (by blk_simp [idx_val t] <;> omega) (by blk_simp [idx_val t] <;> omega)
  rw [e]
  frame_out
  rw [pay1]
  simp only [blk0, blk1, blk2, blk3]
  rfl

end Kernel

section Reference

open Cert.PoutRIdeal Cert.PoutRIdeal.Gen Cert.PoutRIdeal.Read

theorem ref (x0 : FVec Ideal S2x2048x1024 .f32) (x1 x2 : FVec Ideal S2x2048x512 .f32) (x3 : FVec Ideal S1024x1024 .f32) :
    (val_main_v3 (F := Ideal) x0 x1 x2 x3 : FVec Ideal S4096x1024 .f32) = REF x0 x1 x2 x3 := by
  funext j
  idx_vars j
  unfold val_main_v3 val_main_v2 val_main_v1 val_main_v0 REF C2
  pointwise

end Reference

end Cert.Pout
end
-- ==== Proof.PoutClaims.lean ====
/- Untrusted: the claims about the mixer's second product. -/
module

public import proofs.«01_k».proof.Defs
public import proofs.«01_k».proof.Proof.Pout
public import proofs.«01_k».proof.Proof.Gen.PoutK.Frame
public import proofs.«01_k».proof.Proof.Gen.PoutRIdeal.Run
public import Idealize.ShloMosaic.Adequacy
public import Idealize.ShloMosaic.Lib.Quiescent

@[expose] public section

noncomputable section

namespace Cert.Pout

open Idealize.ShloMosaic Idealize.ShloMosaic.TcCoe Idealize.SL.Sem

/-- The reference's runs end with its counters at zero. -/
theorem quiescentR : quiescent_PoutRIdeal := fun m ρ _ =>
  (θ_run Cert.PoutRIdeal.defs _ _).mono (fun r h => ⟨fun c => (h c).2, sem_eq_zero_of_no_sems (by decide) r.2⟩)
    (Cert.PoutRIdeal.Value.run (F := Ideal) m ρ)

/-- The kernel's rows are the reference's, on every argument. -/
theorem algebraic : algebraic_PoutKIdeal_PoutRIdeal := by
  intro m ρ m' ρ' _ hagree
  refine ⟨_, Cert.PoutKIdeal.Value.run_blocks (F := Ideal) m ρ, ?_⟩
  refine (θ_run Cert.PoutRIdeal.defs _ _).mono (fun _ h c => ⟨?_, (h c).2⟩) (Cert.PoutRIdeal.Value.run (F := Ideal) m' ρ')
  refine (h c).1.trans ?_
  rw [Cert.PoutRIdeal.Read.val_main_v3_eq, (hagree c).1, (hagree c).2.1, (hagree c).2.2.1, (hagree c).2.2.2]
  exact (ref _ _ _ _).trans (final m c).symm

end Cert.Pout
end
-- ==== Proof.Dmix.lean ====
/- Untrusted: the values of the kernel of the gradient of the mixer's second product in its rows, and of its reference. -/
module

public import proofs.«01_k».proof.Proof.Finite
public import proofs.«01_k».proof.Proof.Gen.DmixKIdeal.Value
public import proofs.«01_k».proof.Proof.Gen.DmixRIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Dmix

/-- The batch and the position of a flattened row. -/
abbrev bi (r : Fin 4096) : Fin 2 := ⟨r.val / 2048, by omega⟩
abbrev si (r : Fin 4096) : Fin 2048 := ⟨r.val % 2048, by omega⟩

/-- The product of a row of the cotangent with the weight's transpose. -/
def REF (d : (⟨3, ![2, 2048, 1024]⟩ : Shape).Idx → EReal) (w : (⟨2, ![1024, 1024]⟩ : Shape).Idx → EReal) : (⟨2, ![4096, 1024]⟩ : Shape).Idx → EReal := fun i =>
  ∑ k : Fin 1024, d (ix3 (bi (i 0)) (si (i 0)) k) * w (ix2 (i 1) k)

section Kernel

open Cert.DmixKIdeal Cert.DmixKIdeal.Gen

theorem pay1 (v0 v2 : FVec Ideal S1024x1024 .bf16) (a n : Fin 1024) :
    (k0_pay1 (F := Ideal) v0 v2 : FVec Ideal S1024x1024 .f32) (ix2 a n) = ∑ k : Fin 1024, v0 (ix2 a k) * v2 (ix2 n k) := by
  pointwise [k0_pay1]

theorem idx_val : ∀ t : Fin grid0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The arrays that the program is given. -/
abbrev A1 : FVec Ideal S1024x1024 .f32 := m ⟨c, Proc.devRef .tc main_arg1⟩
abbrev A2 : FVec Ideal S2x2048x1024 .f32 := m ⟨c, Proc.devRef .tc main_arg2⟩
theorem V1 (r : Fin 4096) (k : Fin 1024) : V m c main_v1 (ix2 r k) = A2 m c (ix3 (bi r) (si r) k) := by
  entry_read
  pointwise
theorem V2 (r : Fin 1024) (k : Fin 1024) : V m c main_v2 (ix2 r k) = A1 m c (ix2 r k) := by
  entry_read
  pointwise
/-- The flattened row of row `a` of point `t`'s blocks. -/
abbrev pr (t : Fin cfg0.N) (a : Fin 1024) : Fin 4096 := ⟨t.val * 1024 + a.val, by have := lt_of_lt_of_eq t.isLt N_0; omega⟩

theorem blk0 (t : Fin cfg0.N) (a : Fin 1024) (k : Fin 1024) : (iblk m c 0 t : FVec Ideal S1024x1024 .bf16) (ix2 a k) = A2 m c (ix3 (bi (pr t a)) (si (pr t a)) k) := by
  have e : (((cfg0.win 0).blk t).view.emb (ix2 a k) : S4096x1024.Idx) = ix2 (pr t a) k :=
    Cert.Finite.ext2 (by blk_simp [idx_val t]) (by blk_simp [idx_val t])
  unfold iblk
  rw [View.read_apply, cast_eq, e]
  exact V1 m c _ _
theorem blk1 (t : Fin cfg0.N) (a : Fin 1024) (k : Fin 1024) : (iblk m c 1 t : FVec Ideal S1024x1024 .bf16) (ix2 a k) = A1 m c (ix2 a k) := by
  have e : (((cfg0.win 1).blk t).view.emb (ix2 a k) : S1024x1024.Idx) = ix2 a k :=
    Cert.Finite.ext2 (by blk_simp [idx_val t]) (by blk_simp [idx_val t])
  unfold iblk
  rw [View.read_apply, cast_eq, e]
  exact V2 m c _ _
/-- The gradient as the kernel leaves it. -/
theorem final : (dats m 0 c).arrAt 2 (cfgs 0).N = REF (A2 m c) (A1 m c) := by
  refine (dats m 0 c).arrAt_eq_of_covers 2 _ (by decide +kernel) fun t hf y => ?_
  blk_simp; rw [after0_2]
  idx_vars y
  have e : ((View.whole main_v3).slice (win0_2.rect t)).emb (ix2 y0 y1) = ix2 (pr t y0) y1 :=
    Cert.Finite.ext2 (by blk_simp [idx_val t] <;> omega) (by blk_simp [idx_val t] <;> omega)
  rw [e]
  frame_out
  rw [pay1]
  simp only [blk0, blk1]
  rfl

end Kernel

section Reference

open Cert.DmixRIdeal Cert.DmixRIdeal.Gen Cert.DmixRIdeal.Read

theorem ref (x1 : FVec Ideal S1024x1024 .f32) (x2 : FVec Ideal S2x2048x1024 .f32) : (val_main_v4 (F := Ideal) x1 x2 : FVec Ideal S4096x1024 .f32) = REF x2 x1 := by
  funext j
  idx_vars j
  unfold val_main_v4 val_main_v3 REF
  pointwise

end Reference

end Cert.Dmix
end
-- ==== Proof.DmixClaims.lean ====
/- Untrusted: the claims about the gradient of the mixer's second product in its rows. -/
module

public import proofs.«01_k».proof.Defs
public import proofs.«01_k».proof.Proof.Dmix
public import proofs.«01_k».proof.Proof.Gen.DmixK.Frame
public import proofs.«01_k».proof.Proof.Gen.DmixRIdeal.Run
public import Idealize.ShloMosaic.Adequacy
public import Idealize.ShloMosaic.Lib.Quiescent

@[expose] public section

noncomputable section

namespace Cert.Dmix

open Idealize.ShloMosaic Idealize.ShloMosaic.TcCoe Idealize.SL.Sem

/-- The reference's runs end with its counters at zero. -/
theorem quiescentR : quiescent_DmixRIdeal := fun m ρ _ =>
  (θ_run Cert.DmixRIdeal.defs _ _).mono (fun r h => ⟨fun c => (h c).2, sem_eq_zero_of_no_sems (by decide) r.2⟩)
    (Cert.DmixRIdeal.Value.run (F := Ideal) m ρ)

/-- The kernel's gradient is the reference's derivative, on every argument. -/
theorem algebraic : algebraic_DmixKIdeal_DmixRIdeal := by
  intro m ρ m' ρ' _ hagree
  refine ⟨_, Cert.DmixKIdeal.Value.run_blocks (F := Ideal) m ρ, ?_⟩
  refine (θ_run Cert.DmixRIdeal.defs _ _).mono (fun _ h c => ⟨?_, (h c).2⟩) (Cert.DmixRIdeal.Value.run (F := Ideal) m' ρ')
  refine (h c).1.trans ?_
  rw [Cert.DmixRIdeal.Read.val_main_v4_eq, (hagree c).2.1, (hagree c).2.2]
  exact (ref _ _).trans (final m c).symm

end Cert.Dmix
end
-- ==== Proof.Mdw.lean ====
/- Untrusted: the values of the kernel of the gradient of the mixer's output weight, and of its reference. -/
module

public import proofs.«01_k».proof.Proof.Finite
public import proofs.«01_k».proof.Proof.Gen.MdwKIdeal.Value
public import proofs.«01_k».proof.Proof.Gen.MdwRIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Mdw

/-- The batch and the position of a flattened row. -/
abbrev bi (r : Fin 4096) : Fin 2 := ⟨r.val / 2048, by omega⟩
abbrev si (r : Fin 4096) : Fin 2048 := ⟨r.val % 2048, by omega⟩

/-- Two groups of lanes side by side. -/
def C2 (p q : Fin 512 → EReal) (k : Fin 1024) : EReal := if h : k.val < 512 then p ⟨k.val, h⟩ else q ⟨k.val - 512, by omega⟩

/-- What a row adds to the weight's gradient. -/
def row (a o : (⟨3, ![2, 2048, 512]⟩ : Shape).Idx → EReal) (d : (⟨3, ![2, 2048, 1024]⟩ : Shape).Idx → EReal) (b : Fin 2) (s : Fin 2048) (f n : Fin 1024) : EReal :=
  C2 (fun l => a (ix3 b s l)) (fun l => o (ix3 b s l)) f * d (ix3 b s n)

/-- The gradient: the sum over the rows. -/
def REF (a o : (⟨3, ![2, 2048, 512]⟩ : Shape).Idx → EReal) (d : (⟨3, ![2, 2048, 1024]⟩ : Shape).Idx → EReal) : (⟨2, ![1024, 1024]⟩ : Shape).Idx → EReal := fun i =>
  ∑ b : Fin 2, ∑ s : Fin 2048, row a o d b s (i 0) (i 1)

section Kernel

open Cert.MdwKIdeal Cert.MdwKIdeal.Gen

theorem idx_val : ∀ t : Fin grid0.N, win0_0.index t = ![t.val, 0] ∧ win0_1.index t = ![t.val, 0] ∧ win0_2.index t = ![t.val, 0] ∧ win0_3.index t = ![0, 0] :=
  (by decide +kernel : ∀ t : Fin grid0.N, _)

variable (m : (ℓ : Loc nD τ sig) → Buf (Elt Ideal) ℓ) (c : Dev nD)

/-- The arrays that the program is given. -/
abbrev A0 : FVec Ideal S2x2048x512 .f32 := m ⟨c, Proc.devRef .tc main_arg0⟩
abbrev A1 : FVec Ideal S2x2048x512 .f32 := m ⟨c, Proc.devRef .tc main_arg1⟩
abbrev A3 : FVec Ideal S2x2048x1024 .f32 := m ⟨c, Proc.devRef .tc main_arg3⟩
theorem V1 (r : Fin 4096) (k : Fin 1024) : V m c main_v1 (ix2 r k) = A3 m c (ix3 (bi r) (si r) k) := by
  entry_read
  pointwise
theorem V3 (r : Fin 4096) (k : Fin 512) : V m c main_v3 (ix2 r k) = A0 m c (ix3 (bi r) (si r) k) := by
  entry_read
  pointwise
theorem V5 (r : Fin 4096) (k : Fin 512) : V m c main_v5 (ix2 r k) = A1 m c (ix3 (bi r) (si r) k) := by
  entry_read
  pointwise
/-- The flattened row of row `a` of point `t`'s blocks. -/
abbrev pr (t : Fin cfg0.N) (a : Fin 2048) : Fin 4096 := ⟨t.val * 2048 + a.val, by have := lt_of_lt_of_eq t.isLt N_0; omega⟩

theorem blk0 (t : Fin cfg0.N) (a : Fin 2048) (k : Fin 512) : (iblk m c 0 t : FVec Ideal S2048x512 .bf16) (ix2 a k) = A0 m c (ix3 (bi (pr t a)) (si (pr t a)) k) := by
  have e : (((cfg0.win 0).blk t).view.emb (ix2 a k) : S4096x512.Idx) = ix2 (pr t a) k :=
    Cert.Finite.ext2 (by blk_simp [idx_val t]) (by blk_simp [idx_val t])
  unfold iblk
  rw [View.read_apply, cast_eq, e]
  exact V3 m c _ _
theorem blk1 (t : Fin cfg0.N) (a : Fin 2048) (k : Fin 512) : (iblk m c 1 t : FVec Ideal S2048x512 .bf16) (ix2 a k) = A1 m c (ix3 (bi (pr t a)) (si (pr t a)) k) := by
  have e : (((cfg0.win 1).blk t).view.emb (ix2 a k) : S4096x512.Idx) = ix2 (pr t a) k :=
    Cert.Finite.ext2 (by blk_simp [idx_val t]) (by blk_simp [idx_val t])
  unfold iblk
  rw [View.read_apply, cast_eq, e]
  exact V5 m c _ _
theorem blk2 (t : Fin cfg0.N) (a : Fin 2048) (k : Fin 1024) : (iblk m c 2 t : FVec Ideal S2048x1024 .bf16) (ix2 a k) = A3 m c (ix3 (bi (pr t a)) (si (pr t a)) k) := by
  have e : (((cfg0.win 2).blk t).view.emb (ix2 a k) : S4096x1024.Idx) = ix2 (pr t a) k :=
    Cert.Finite.ext2 (by blk_simp [idx_val t]) (by blk_simp [idx_val t])
  unfold iblk
  rw [View.read_apply, cast_eq, e]
  exact V1 m c _ _

section Block

variable (v0 v2 : FVec Ideal S2048x512 .bf16) (v5 : FVec Ideal S2048x1024 .bf16) (x : FVec Ideal S1024x1024 .f32)

/-- What one block of rows adds. -/
def T (f n : Fin 1024) : EReal := ∑ a : Fin 2048, C2 (fun l => v0 (ix2 a l)) (fun l => v2 (ix2 a l)) f * v5 (ix2 a n)

theorem pay1 (f n : Fin 1024) : (k0_pay1 (F := Ideal) v0 v2 v5 : FVec Ideal S1024x1024 .f32) (ix2 f n) = T v0 v2 v5 f n := by
  unfold T C2
  pointwise [k0_pay1]
theorem pay2 (f n : Fin 1024) : (k0_pay2 (F := Ideal) v0 v2 v5 : FVec Ideal S1024x1024 .f32) (ix2 f n) = T v0 v2 v5 f n := by
  rw [← pay1]; unfold k0_pay2; generalize k0_pay1 (F := Ideal) v0 v2 v5 = q; pointwise
theorem pay4 (f n : Fin 1024) : (k0_pay4 (F := Ideal) v0 v2 v5 x : FVec Ideal S1024x1024 .bf16) (ix2 f n) = x (ix2 f n) + T v0 v2 v5 f n := by
  rw [← pay1]; unfold k0_pay4; generalize k0_pay1 (F := Ideal) v0 v2 v5 = q; pointwise

end Block

/-- What point `t` adds. -/
theorem term (t : Fin cfg0.N) (f n : Fin 1024) :
    T (iblk m c 0 t) (iblk m c 1 t) (iblk m c 2 t) f n = ∑ a : Fin 2048, row (A0 m c) (A1 m c) (A3 m c) (bi (pr t a)) (si (pr t a)) f n := by
  unfold T row
  simp only [blk0, blk1, blk2]
/-- The first point stores its sum, the second adds its own. -/
theorem first (t : Fin cfg0.N) (h : t.val % 2 = 0) (f n : Fin 1024) : (outsAt0 m c t.val t.isLt).2 (ix2 f n) = T (iblk m c 0 t) (iblk m c 1 t) (iblk m c 2 t) f n := by
  rw [outsAt0_A m c t h (by omega)]; frame_out
  exact pay2 _ _ _ f n
theorem last (t : Fin cfg0.N) (h : t.val % 2 = 1) (f n : Fin 1024) :
    (outsAt0 m c t.val t.isLt).1 (ix2 f n) = (outsAt0 m c (t.val - 1) (Nat.lt_of_le_of_lt (Nat.sub_le _ _) t.isLt)).2 (ix2 f n) + T (iblk m c 0 t) (iblk m c 1 t) (iblk m c 2 t) f n := by
  rw [outsAt0_B m c t (by omega) h]; frame_out
  rw [Memref.IsWhole.read_unread (Memref.isWhole_whole cc0_scratch0)]
  exact pay4 _ _ _ _ f n

/-- The gradient as the kernel leaves it. -/
theorem final : (dats m 0 c).arrAt 3 (cfgs 0).N = REF (A0 m c) (A1 m c) (A3 m c) := by
  refine (dats m 0 c).arrAt_eq_of_covers 3 _ (by decide +kernel) fun t hf y => ?_
  blk_simp; rw [after0_3]
  idx_vars y
  have e : ((View.whole main_v6).slice (win0_3.rect t)).emb (ix2 y0 y1) = ix2 y0 y1 :=
    Cert.Finite.ext2 (by blk_simp [idx_val t] <;> omega) (by blk_simp [idx_val t] <;> omega)
  rw [e]
  have h : t.val % 2 = 1 := (flush0_3 t).mp hf
  have ht : t.val < 2 := lt_of_lt_of_eq t.isLt N_0
  rw [last m c t h, first m c ⟨t.val - 1, lt_of_le_of_lt (by omega) t.isLt⟩ (by simp only; omega), term, term]
  show _ = ∑ b : Fin 2, ∑ s : Fin 2048, row (A0 m c) (A1 m c) (A3 m c) b s y0 y1
  rw [Fin.sum_univ_two]
  exact congrArg₂ (· + ·) (Finset.sum_congr rfl fun a _ => congrArg₂ (fun b s => row _ _ _ b s y0 y1) (Fin.ext (by simp only [Fin.val_zero]; omega)) (Fin.ext (by simp only; omega)))
    (Finset.sum_congr rfl fun a _ => congrArg₂ (fun b s => row _ _ _ b s y0 y1) (Fin.ext (by simp only [Fin.val_one]; omega)) (Fin.ext (by simp only; omega)))

end Kernel

section Reference

open Cert.MdwRIdeal Cert.MdwRIdeal.Gen Cert.MdwRIdeal.Read

theorem ref (x0 x1 : FVec Ideal S2x2048x512 .f32) (x3 : FVec Ideal S2x2048x1024 .f32) : (val_main_v5 (F := Ideal) x0 x1 x3 : FVec Ideal S1024x1024 .bf16) = REF x0 x1 x3 := by
  funext j
  idx_vars j
  show _ = ∑ b : Fin 2, ∑ s : Fin 2048, row x0 x1 x3 b s j0 j1
  unfold row C2
  simp only [mul_comm _ (x3 _)]
  unfold val_main_v5 val_main_v3 val_main_v2 val_main_v0
  pointwise

end Reference

end Cert.Mdw
end
-- ==== Proof.MdwClaims.lean ====
/- Untrusted: the claims about the gradient of the mixer's output weight. -/
module

public import proofs.«01_k».proof.Defs
public import proofs.«01_k».proof.Proof.Mdw
public import proofs.«01_k».proof.Proof.Gen.MdwK.Frame
public import proofs.«01_k».proof.Proof.Gen.MdwRIdeal.Run
public import Idealize.ShloMosaic.Adequacy
public import Idealize.ShloMosaic.Lib.Quiescent

@[expose] public section

noncomputable section

namespace Cert.Mdw

open Idealize.ShloMosaic Idealize.ShloMosaic.TcCoe Idealize.SL.Sem

/-- The reference's runs end with its counters at zero. -/
theorem quiescentR : quiescent_MdwRIdeal := fun m ρ _ =>
  (θ_run Cert.MdwRIdeal.defs _ _).mono (fun r h => ⟨fun c => (h c).2, sem_eq_zero_of_no_sems (by decide) r.2⟩)
    (Cert.MdwRIdeal.Value.run (F := Ideal) m ρ)

/-- The kernel's gradient is the reference's derivative, on every argument. -/
theorem algebraic : algebraic_MdwKIdeal_MdwRIdeal := by
  intro m ρ m' ρ' _ hagree
  refine ⟨_, Cert.MdwKIdeal.Value.run_blocks (F := Ideal) m ρ, ?_⟩
  refine (θ_run Cert.MdwRIdeal.defs _ _).mono (fun _ h c => ⟨?_, (h c).2⟩) (Cert.MdwRIdeal.Value.run (F := Ideal) m' ρ')
  refine (h c).1.trans ?_
  rw [Cert.MdwRIdeal.Read.val_main_v5_eq, (hagree c).1, (hagree c).2.1, (hagree c).2.2.2]
  exact (ref _ _ _).trans (final m c).symm

end Cert.Mdw
end
-- ==== Proof.Mdwin.lean ====
/- Untrusted: the values of the kernel of the gradient of the mixer's input weight, and of its reference. -/
module

public import proofs.«01_k».proof.Proof.Finite
public import proofs.«01_k».proof.Proof.Gen.MdwinKIdeal.Value
public import proofs.«01_k».proof.Proof.Gen.MdwinRIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Mdwin

/-- The batch and the position of a flattened row. -/
abbrev bi (r : Fin 4096) : Fin 2 := ⟨r.val / 2048, by omega⟩
abbrev si (r : Fin 4096) : Fin 2048 := ⟨r.val % 2048, by omega⟩

/-- Six groups of lanes side by side. -/
def C6 (p0 p1 p2 p3 : Fin 512 → EReal) (p4 p5 : Fin 128 → EReal) (k : Fin 2304) : EReal :=
  if h : k.val < 512 then p0 ⟨k.val, h⟩ else if h1 : k.val - 512 < 512 then p1 ⟨k.val - 512, h1⟩ else if h2 : k.val - 512 - 512 < 512 then p2 ⟨k.val - 512 - 512, h2⟩
  else if h3 : k.val - 512 - 512 - 512 < 512 then p3 ⟨k.val - 512 - 512 - 512, h3⟩ else if h4 : k.val - 512 - 512 - 512 - 512 < 128 then p4 ⟨k.val - 512 - 512 - 512 - 512, h4⟩
  else p5 ⟨k.val - 512 - 512 - 512 - 512 - 128, by omega⟩

section Row
variable (h : (⟨3, ![2, 2048, 1024]⟩ : Shape).Idx → EReal) (d0 d1 d2 d3 : (⟨3, ![2, 2048, 512]⟩ : Shape).Idx → EReal) (d4 d5 : (⟨3, ![2, 2048, 128]⟩ : Shape).Idx → EReal)

/-- What a row adds to the weight's gradient. -/
def row (b : Fin 2) (s : Fin 2048) (n : Fin 1024) (k : Fin 2304) : EReal :=
  h (ix3 b s n) * C6 (fun l => d0 (ix3 b s l)) (fun l => d1 (ix3 b s l)) (fun l => d2 (ix3 b s l)) (fun l => d3 (ix3 b s l)) (fun l => d4 (ix3 b s l)) (fun l => d5 (ix3 b s l)) k

/-- The gradient: the sum over the rows. -/
def REF : (⟨2, ![1024, 2304]⟩ : Shape).Idx → EReal := fun i =>
  ∑ b : Fin 2, ∑ s : Fin 2048, row h d0 d1 d2 d3 d4 d5 b s (i 0) (i 1)
end Row

section Kernel

open Cert.MdwinKIdeal Cert.MdwinKIdeal.Gen

theorem idx_val : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![0, 0] :=
  (by decide +kernel : ∀ t : Fin grid0.N, _)

variable (m : (ℓ : Loc nD τ sig) → Buf (Elt Ideal) ℓ) (c : Dev nD)

/-- The arrays that the program is given. -/
abbrev A0 : FVec Ideal S2x2048x1024 .f32 := m ⟨c, Proc.devRef .tc main_arg0⟩
abbrev A2 : FVec Ideal S2x2048x512 .f32 := m ⟨c, Proc.devRef .tc main_arg2⟩
abbrev A3 : FVec Ideal S2x2048x512 .f32 := m ⟨c, Proc.devRef .tc main_arg3⟩
abbrev A4 : FVec Ideal S2x2048x512 .f32 := m ⟨c, Proc.devRef .tc main_arg4⟩
abbrev A5 : FVec Ideal S2x2048x512 .f32 := m ⟨c, Proc.devRef .tc main_arg5⟩
abbrev A6 : FVec Ideal S2x2048x128 .f32 := m ⟨c, Proc.devRef .tc main_arg6⟩
abbrev A7 : FVec Ideal S2x2048x128 .f32 := m ⟨c, Proc.devRef .tc main_arg7⟩
theorem V12 (r : Fin 4096) (k : Fin 1024) : V m c main_v12 (ix2 r k) = A0 m c (ix3 (bi r) (si r) k) := by
  entry_read
  pointwise
theorem V1 (r : Fin 4096) (k : Fin 512) : V m c main_v1 (ix2 r k) = A2 m c (ix3 (bi r) (si r) k) := by
  entry_read
  pointwise
theorem V3 (r : Fin 4096) (k : Fin 512) : V m c main_v3 (ix2 r k) = A3 m c (ix3 (bi r) (si r) k) := by
  entry_read
  pointwise
theorem V5 (r : Fin 4096) (k : Fin 512) : V m c main_v5 (ix2 r k) = A4 m c (ix3 (bi r) (si r) k) := by
  entry_read
  pointwise
theorem V7 (r : Fin 4096) (k : Fin 512) : V m c main_v7 (ix2 r k) = A5 m c (ix3 (bi r) (si r) k) := by
  entry_read
  pointwise
theorem V9 (r : Fin 4096) (k : Fin 128) : V m c main_v9 (ix2 r k) = A6 m c (ix3 (bi r) (si r) k) := by
  entry_read
  pointwise
theorem V10 (r : Fin 4096) (k : Fin 128) : V m c main_v10 (ix2 r k) = A7 m c (ix3 (bi r) (si r) k) := by
  entry_read
  pointwise
/-- The flattened row of row `a` of point `t`'s blocks. -/
abbrev pr (t : Fin cfg0.N) (a : Fin 1024) : Fin 4096 := ⟨t.val * 1024 + a.val, by have := lt_of_lt_of_eq t.isLt N_0; omega⟩

theorem blk0 (t : Fin cfg0.N) (a : Fin 1024) (k : Fin 1024) : (iblk m c 0 t : FVec Ideal S1024x1024 .bf16) (ix2 a k) = A0 m c (ix3 (bi (pr t a)) (si (pr t a)) k) := by
  have e : (((cfg0.win 0).blk t).view.emb (ix2 a k) : S4096x1024.Idx) = ix2 (pr t a) k :=
    Cert.Finite.ext2 (by blk_simp [idx_val t]) (by blk_simp [idx_val t])
  unfold iblk
  rw [View.read_apply, cast_eq, e]
  exact V12 m c _ _
theorem blk1 (t : Fin cfg0.N) (a : Fin 1024) (k : Fin 512) : (iblk m c 1 t : FVec Ideal S1024x512 .bf16) (ix2 a k) = A2 m c (ix3 (bi (pr t a)) (si (pr t a)) k) := by
  have e : (((cfg0.win 1).blk t).view.emb (ix2 a k) : S4096x512.Idx) = ix2 (pr t a) k :=
    Cert.Finite.ext2 (by blk_simp [idx_val t]) (by blk_simp [idx_val t])
  unfold iblk
  rw [View.read_apply, cast_eq, e]
  exact V1 m c _ _
theorem blk2 (t : Fin cfg0.N) (a : Fin 1024) (k : Fin 512) : (iblk m c 2 t : FVec Ideal S1024x512 .bf16) (ix2 a k) = A3 m c (ix3 (bi (pr t a)) (si (pr t a)) k) := by
  have e : (((cfg0.win 2).blk t).view.emb (ix2 a k) : S4096x512.Idx) = ix2 (pr t a) k :=
    Cert.Finite.ext2 (by blk_simp [idx_val t]) (by blk_simp [idx_val t])
  unfold iblk
  rw [View.read_apply, cast_eq, e]
  exact V3 m c _ _
theorem blk3 (t : Fin cfg0.N) (a : Fin 1024) (k : Fin 512) : (iblk m c 3 t : FVec Ideal S1024x512 .bf16) (ix2 a k) = A4 m c (ix3 (bi (pr t a)) (si (pr t a)) k) := by
  have e : (((cfg0.win 3).blk t).view.emb (ix2 a k) : S4096x512.Idx) = ix2 (pr t a) k :=
    Cert.Finite.ext2 (by blk_simp [idx_val t]) (by blk_simp [idx_val t])
  unfold iblk
  rw [View.read_apply, cast_eq, e]
  exact V5 m c _ _
theorem blk4 (t : Fin cfg0.N) (a : Fin 1024) (k : Fin 512) : (iblk m c 4 t : FVec Ideal S1024x512 .bf16) (ix2 a k) = A5 m c (ix3 (bi (pr t a)) (si (pr t a)) k) := by
  have e : (((cfg0.win 4).blk t).view.emb (ix2 a k) : S4096x512.Idx) = ix2 (pr t a) k :=
    Cert.Finite.ext2 (by blk_simp [idx_val t]) (by blk_simp [idx_val t])
  unfold iblk
  rw [View.read_apply, cast_eq, e]
  exact V7 m c _ _
theorem blk5 (t : Fin cfg0.N) (a : Fin 1024) (k : Fin 128) : (iblk m c 5 t : FVec Ideal S1024x128 .bf16) (ix2 a k) = A6 m c (ix3 (bi (pr t a)) (si (pr t a)) k) := by
  have e : (((cfg0.win 5).blk t).view.emb (ix2 a k) : S4096x128.Idx) = ix2 (pr t a) k :=
    Cert.Finite.ext2 (by blk_simp [idx_val t]) (by blk_simp [idx_val t])
  unfold iblk
  rw [View.read_apply, cast_eq, e]
  exact V9 m c _ _
theorem blk6 (t : Fin cfg0.N) (a : Fin 1024) (k : Fin 128) : (iblk m c 6 t : FVec Ideal S1024x128 .f32) (ix2 a k) = A7 m c (ix3 (bi (pr t a)) (si (pr t a)) k) := by
  have e : (((cfg0.win 6).blk t).view.emb (ix2 a k) : S4096x128.Idx) = ix2 (pr t a) k :=
    Cert.Finite.ext2 (by blk_simp [idx_val t]) (by blk_simp [idx_val t])
  unfold iblk
  rw [View.read_apply, cast_eq, e]
  exact V10 m c _ _

section Block

variable (v0 : FVec Ideal S1024x1024 .bf16) (v2 v4 v6 v8 : FVec Ideal S1024x512 .bf16) (v10 : FVec Ideal S1024x128 .bf16) (v12 : FVec Ideal S1024x128 .f32) (x : FVec Ideal S1024x2304 .f32)

/-- What one block of rows adds. -/
def T (n : Fin 1024) (k : Fin 2304) : EReal :=
  ∑ a : Fin 1024, v0 (ix2 a n) * C6 (fun l => v2 (ix2 a l)) (fun l => v4 (ix2 a l)) (fun l => v6 (ix2 a l)) (fun l => v8 (ix2 a l)) (fun l => v10 (ix2 a l)) (fun l => v12 (ix2 a l)) k

theorem pay1 (n : Fin 1024) (k : Fin 2304) : (k0_pay1 (F := Ideal) v0 v2 v4 v6 v8 v10 v12 : FVec Ideal S1024x2304 .f32) (ix2 n k) = T v0 v2 v4 v6 v8 v10 v12 n k := by
  unfold T C6
  pointwise [k0_pay1]
theorem pay2 (n : Fin 1024) (k : Fin 2304) : (k0_pay2 (F := Ideal) v0 v2 v4 v6 v8 v10 v12 : FVec Ideal S1024x2304 .f32) (ix2 n k) = T v0 v2 v4 v6 v8 v10 v12 n k := by
  rw [← pay1]; unfold k0_pay2; generalize k0_pay1 (F := Ideal) v0 v2 v4 v6 v8 v10 v12 = q; pointwise
theorem pay3 (n : Fin 1024) (k : Fin 2304) : (k0_pay3 (F := Ideal) v0 v2 v4 v6 v8 v10 v12 x : FVec Ideal S1024x2304 .f32) (ix2 n k) = x (ix2 n k) + T v0 v2 v4 v6 v8 v10 v12 n k := by
  rw [← pay1]; unfold k0_pay3; generalize k0_pay1 (F := Ideal) v0 v2 v4 v6 v8 v10 v12 = q; pointwise
theorem pay4 (n : Fin 1024) (k : Fin 2304) : (k0_pay4 (F := Ideal) v0 v2 v4 v6 v8 v10 v12 x : FVec Ideal S1024x2304 .bf16) (ix2 n k) = x (ix2 n k) + T v0 v2 v4 v6 v8 v10 v12 n k := by
  rw [← pay1]; unfold k0_pay4; generalize k0_pay1 (F := Ideal) v0 v2 v4 v6 v8 v10 v12 = q; pointwise

end Block

/-- What point `t` adds. -/
abbrev TT (t : Fin cfg0.N) (n : Fin 1024) (k : Fin 2304) : EReal :=
  T (iblk m c 0 t) (iblk m c 1 t) (iblk m c 2 t) (iblk m c 3 t) (iblk m c 4 t) (iblk m c 5 t) (iblk m c 6 t) n k
abbrev ROW (b : Fin 2) (s : Fin 2048) (n : Fin 1024) (k : Fin 2304) : EReal := row (A0 m c) (A2 m c) (A3 m c) (A4 m c) (A5 m c) (A6 m c) (A7 m c) b s n k
theorem term (t : Fin cfg0.N) (n : Fin 1024) (k : Fin 2304) : TT m c t n k = ∑ a : Fin 1024, ROW m c (bi (pr t a)) (si (pr t a)) n k := by
  unfold TT T ROW row
  simp only [blk0, blk1, blk2, blk3, blk4, blk5, blk6]
/-- The first of the four points stores its sum, the next two add theirs, the last adds its own. -/
theorem first (t : Fin cfg0.N) (h : t.val % 4 = 0) (n : Fin 1024) (k : Fin 2304) : (outsAt0 m c t.val t.isLt).2 (ix2 n k) = TT m c t n k := by
  rw [outsAt0_A m c t h (by omega) (by omega)]; frame_out
  exact pay2 _ _ _ _ _ _ _ n k
theorem next (t : Fin cfg0.N) (h : 1 ≤ t.val % 4 ∧ t.val % 4 ≤ 2) (n : Fin 1024) (k : Fin 2304) :
    (outsAt0 m c t.val t.isLt).2 (ix2 n k) = (outsAt0 m c (t.val - 1) (Nat.lt_of_le_of_lt (Nat.sub_le _ _) t.isLt)).2 (ix2 n k) + TT m c t n k := by
  rw [outsAt0_B m c t (by omega) h (by omega)]; frame_out
  rw [Memref.IsWhole.read_unread (Memref.isWhole_whole cc0_scratch0)]
  exact pay3 _ _ _ _ _ _ _ _ n k
theorem last (t : Fin cfg0.N) (h : t.val % 4 = 3) (n : Fin 1024) (k : Fin 2304) :
    (outsAt0 m c t.val t.isLt).1 (ix2 n k) = (outsAt0 m c (t.val - 1) (Nat.lt_of_le_of_lt (Nat.sub_le _ _) t.isLt)).2 (ix2 n k) + TT m c t n k := by
  rw [outsAt0_C m c t (by omega) (by omega) h]; frame_out
  rw [Memref.IsWhole.read_unread (Memref.isWhole_whole cc0_scratch0)]
  exact pay4 _ _ _ _ _ _ _ _ n k

/-- A sum over the rows of a batch is the sum of its halves'. -/
theorem halves (F : Fin 2048 → EReal) (G H : Fin 1024 → EReal) (hG : ∀ a, G a = F ⟨a.val, by omega⟩) (hH : ∀ a, H a = F ⟨1024 + a.val, by omega⟩) : ∑ a, G a + ∑ a, H a = ∑ s, F s := by
  have e : ∑ s : Fin 2, ∑ a : Fin 1024, F ⟨s.val * 1024 + a.val, by omega⟩ = ∑ r : Fin 2048, F r :=
    Fin.sum_mul_add_congr (fun s a hl => rfl)
  rw [← e, Fin.sum_univ_two]
  exact congrArg₂ (· + ·) (Finset.sum_congr rfl fun a _ => (hG a).trans (congrArg F (Fin.ext (by simp)))) (Finset.sum_congr rfl fun a _ => (hH a).trans (congrArg F (Fin.ext (by simp))))

/-- The gradient as the kernel leaves it. -/
theorem final : (dats m 0 c).arrAt 7 (cfgs 0).N = REF (A0 m c) (A2 m c) (A3 m c) (A4 m c) (A5 m c) (A6 m c) (A7 m c) := by
  refine (dats m 0 c).arrAt_eq_of_covers 7 _ (by decide +kernel) fun t hf y => ?_
  blk_simp; rw [after0_7]
  idx_vars y
  have e : ((View.whole main_v13).slice (win0_7.rect t)).emb (ix2 y0 y1) = ix2 y0 y1 :=
    Cert.Finite.ext2 (by blk_simp [idx_val t] <;> omega) (by blk_simp [idx_val t] <;> omega)
  rw [e]
  have h : t.val % 4 = 3 := (flush0_7 t).mp hf
  have ht : t.val < 4 := lt_of_lt_of_eq t.isLt N_0
  rw [last m c t h, next m c ⟨t.val - 1, lt_of_le_of_lt (by omega) t.isLt⟩ (by simp only; omega), next m c ⟨t.val - 1 - 1, lt_of_le_of_lt (by omega) t.isLt⟩ (by simp only; omega),
    first m c ⟨t.val - 1 - 1 - 1, lt_of_le_of_lt (by omega) t.isLt⟩ (by simp only; omega)]
  simp only [term]
  show _ = ∑ b : Fin 2, ∑ s : Fin 2048, ROW m c b s y0 y1
  rw [Fin.sum_univ_two, add_assoc]
  exact congrArg₂ (· + ·)
    (halves (fun s => ROW m c 0 s y0 y1) _ _ (fun a => congrArg₂ (fun b s => ROW m c b s y0 y1) (Fin.ext (by simp only [Fin.val_zero]; omega)) (Fin.ext (by simp only; omega)))
      fun a => congrArg₂ (fun b s => ROW m c b s y0 y1) (Fin.ext (by simp only [Fin.val_zero]; omega)) (Fin.ext (by simp only; omega)))
    (halves (fun s => ROW m c 1 s y0 y1) _ _ (fun a => congrArg₂ (fun b s => ROW m c b s y0 y1) (Fin.ext (by simp only [Fin.val_one]; omega)) (Fin.ext (by simp only; omega)))
      fun a => congrArg₂ (fun b s => ROW m c b s y0 y1) (Fin.ext (by simp only [Fin.val_one]; omega)) (Fin.ext (by simp only; omega)))

end Kernel

section Reference

open Cert.MdwinRIdeal Cert.MdwinRIdeal.Gen Cert.MdwinRIdeal.Read

theorem ref (x0 : FVec Ideal S2x2048x1024 .f32) (x2 x3 x4 x5 : FVec Ideal S2x2048x512 .f32) (x6 x7 : FVec Ideal S2x2048x128 .f32) :
    (val_main_v5 (F := Ideal) x0 x2 x3 x4 x5 x6 x7 : FVec Ideal S1024x2304 .bf16) = REF x0 x2 x3 x4 x5 x6 x7 := by
  funext j
  idx_vars j
  show _ = ∑ b : Fin 2, ∑ s : Fin 2048, row x0 x2 x3 x4 x5 x6 x7 b s j0 j1
  unfold row C6
  simp only [mul_comm (x0 _)]
  unfold val_main_v5 val_main_v3 val_main_v2 val_main_v1
  pointwise

end Reference

end Cert.Mdwin
end
-- ==== Proof.MdwinClaims.lean ====
/- Untrusted: the claims about the gradient of the mixer's input weight. -/
module

public import proofs.«01_k».proof.Defs
public import proofs.«01_k».proof.Proof.Mdwin
public import proofs.«01_k».proof.Proof.Gen.MdwinK.Frame
public import proofs.«01_k».proof.Proof.Gen.MdwinRIdeal.Run
public import Idealize.ShloMosaic.Adequacy
public import Idealize.ShloMosaic.Lib.Quiescent

@[expose] public section

noncomputable section

namespace Cert.Mdwin

open Idealize.ShloMosaic Idealize.ShloMosaic.TcCoe Idealize.SL.Sem

/-- The reference's runs end with its counters at zero. -/
theorem quiescentR : quiescent_MdwinRIdeal := fun m ρ _ =>
  (θ_run Cert.MdwinRIdeal.defs _ _).mono (fun r h => ⟨fun c => (h c).2, sem_eq_zero_of_no_sems (by decide) r.2⟩)
    (Cert.MdwinRIdeal.Value.run (F := Ideal) m ρ)

/-- The kernel's gradient is the reference's derivative, on every argument. -/
theorem algebraic : algebraic_MdwinKIdeal_MdwinRIdeal := by
  intro m ρ m' ρ' _ hagree
  refine ⟨_, Cert.MdwinKIdeal.Value.run_blocks (F := Ideal) m ρ, ?_⟩
  refine (θ_run Cert.MdwinRIdeal.defs _ _).mono (fun _ h c => ⟨?_, (h c).2⟩) (Cert.MdwinRIdeal.Value.run (F := Ideal) m' ρ')
  refine (h c).1.trans ?_
  rw [Cert.MdwinRIdeal.Read.val_main_v5_eq, (hagree c).1, (hagree c).2.2.1, (hagree c).2.2.2.1, (hagree c).2.2.2.2.1, (hagree c).2.2.2.2.2.1, (hagree c).2.2.2.2.2.2.1, (hagree c).2.2.2.2.2.2.2]
  exact (ref _ _ _ _ _ _ _).trans (final m c).symm

end Cert.Mdwin
end
-- ==== Proof.Fdwin.lean ====
/- Untrusted: the values of the kernel of the gradient of the feed-forward's input weight, and of its reference. -/
module

public import proofs.«01_k».proof.Proof.Finite
public import proofs.«01_k».proof.Proof.Gen.FdwinKIdeal.Value
public import proofs.«01_k».proof.Proof.Gen.FdwinRIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Fdwin

/-- The batch and the position of a flattened row. -/
abbrev bi (r : Fin 4096) : Fin 2 := ⟨r.val / 2048, by omega⟩
abbrev si (r : Fin 4096) : Fin 2048 := ⟨r.val % 2048, by omega⟩

/-- The gate's lanes and the other factor's side by side. -/
def C2 (p q : Fin 2816 → EReal) (k : Fin 5632) : EReal := if h : k.val < 2816 then p ⟨k.val, h⟩ else q ⟨k.val - 2816, by omega⟩

/-- What a row adds to the weight's gradient. -/
def row (h : (⟨3, ![2, 2048, 1024]⟩ : Shape).Idx → EReal) (g u : (⟨3, ![2, 2048, 2816]⟩ : Shape).Idx → EReal) (b : Fin 2) (s : Fin 2048) (n : Fin 1024) (k : Fin 5632) : EReal :=
  h (ix3 b s n) * C2 (fun l => g (ix3 b s l)) (fun l => u (ix3 b s l)) k

/-- The gradient, its columns in four shares: the sum over the rows. -/
def REF (h : (⟨3, ![2, 2048, 1024]⟩ : Shape).Idx → EReal) (g u : (⟨3, ![2, 2048, 2816]⟩ : Shape).Idx → EReal) : (⟨3, ![4, 1024, 1408]⟩ : Shape).Idx → EReal := fun i =>
  ∑ b : Fin 2, ∑ s : Fin 2048, row h g u b s (i 1) ⟨(i 0).val * 1408 + (i 2).val, by have h0 : (i 0).val < 4 := (i 0).isLt; have h2 : (i 2).val < 1408 := (i 2).isLt; omega⟩

section Kernel

open Cert.FdwinKIdeal Cert.FdwinKIdeal.Gen

theorem idx_val : ∀ t : Fin grid0.N, win0_0.index t = ![t.val % 2, 0] ∧ win0_1.index t = ![t.val / 4, t.val % 2, t.val / 2 % 2] ∧ win0_2.index t = ![t.val / 2, 0, 0] :=
  (by decide +kernel : ∀ t : Fin grid0.N, _)

variable (m : (ℓ : Loc nD τ sig) → Buf (Elt Ideal) ℓ) (c : Dev nD)

/-- The arrays that the program is given. -/
abbrev A0 : FVec Ideal S2x2048x1024 .f32 := m ⟨c, Proc.devRef .tc main_arg0⟩
abbrev A2 : FVec Ideal S2x2048x2816 .f32 := m ⟨c, Proc.devRef .tc main_arg2⟩
abbrev A3 : FVec Ideal S2x2048x2816 .f32 := m ⟨c, Proc.devRef .tc main_arg3⟩
theorem V6 (r : Fin 4096) (k : Fin 1024) : V m c main_v6 (ix2 r k) = A0 m c (ix3 (bi r) (si r) k) := by
  entry_read
  pointwise
/-- The two planes the kernel reads, as the host stacks them. -/
theorem V4_0 (j : S2x4096x2816.Idx) (h : (j 0 : ℕ) = 0) : V m c main_v4 j = A2 m c (ix3 (bi (j 1)) (si (j 1)) (j 2)) := by
  entry_read
  pointwise
  rw [dif_pos (by omega)]
theorem V4_1 (j : S2x4096x2816.Idx) (h : (j 0 : ℕ) = 1) : V m c main_v4 j = A3 m c (ix3 (bi (j 1)) (si (j 1)) (j 2)) := by
  entry_read
  pointwise
  rw [dif_neg (by omega)]
theorem lt8 (t : Fin cfg0.N) : t.val < 8 := lt_of_lt_of_eq t.isLt N_0

/-- The flattened row and the column of an entry of point `t`'s blocks. -/
abbrev pr (t : Fin cfg0.N) (a : Fin 2048) : Fin 4096 := ⟨t.val % 2 * 2048 + a.val, by omega⟩
abbrev pk (t : Fin cfg0.N) (k : Fin 1408) : Fin 5632 := ⟨t.val / 2 * 1408 + k.val, by have := lt8 t; omega⟩

theorem blk0 (t : Fin cfg0.N) (a : Fin 2048) (k : Fin 1024) : (iblk m c 0 t : FVec Ideal S2048x1024 .bf16) (ix2 a k) = A0 m c (ix3 (bi (pr t a)) (si (pr t a)) k) := by
  have e : (((cfg0.win 0).blk t).view.emb (ix2 a k) : S4096x1024.Idx) = ix2 (pr t a) k :=
    Cert.Finite.ext2 (by blk_simp [idx_val t]) (by blk_simp [idx_val t])
  unfold iblk
  rw [View.read_apply, cast_eq, e]
  exact V6 m c _ _
theorem blk1 (t : Fin cfg0.N) (a : Fin 2048) (k : Fin 1408) : (iblk m c 1 t : FVec Ideal S1x2048x1408 .bf16) (ix3 0 a k)
    = C2 (fun l => A2 m c (ix3 (bi (pr t a)) (si (pr t a)) l)) (fun l => A3 m c (ix3 (bi (pr t a)) (si (pr t a)) l)) (pk t k) := by
  have ht := lt8 t
  have k0 : ((((cfg0.win 1).blk t).view.emb (ix3 0 a k) : S2x4096x2816.Idx) 0 : ℕ) = t.val / 4 := by blk_simp [idx_val t] <;> rfl
  have k1 : (((cfg0.win 1).blk t).view.emb (ix3 0 a k) : S2x4096x2816.Idx) 1 = pr t a := Fin.ext (by blk_simp [idx_val t])
  have k2 : (((cfg0.win 1).blk t).view.emb (ix3 0 a k) : S2x4096x2816.Idx) 2 = (⟨t.val / 2 % 2 * 1408 + k.val, by omega⟩ : Fin 2816) := Fin.ext (by blk_simp [idx_val t])
  unfold iblk C2
  rw [View.read_apply, cast_eq]
  by_cases h : t.val / 4 = 0
  · refine (V4_0 m c _ (k0.trans h)).trans ?_
    rw [k1, k2, dif_pos (by simp only; omega)]
    exact congrArg (fun l => A2 m c (ix3 _ _ l)) (Fin.ext (by simp only; omega))
  · refine (V4_1 m c _ (k0.trans (by omega))).trans ?_
    rw [k1, k2, dif_neg (by simp only; omega)]
    exact congrArg (fun l => A3 m c (ix3 _ _ l)) (Fin.ext (by simp only; omega))

section Block

variable (v0 : FVec Ideal S2048x1024 .bf16) (v2 : FVec Ideal S1x2048x1408 .bf16) (x : FVec Ideal S1024x1408 .f32)

/-- What one block of rows adds. -/
def T (n : Fin 1024) (k : Fin 1408) : EReal := ∑ a : Fin 2048, v0 (ix2 a n) * v2 (ix3 0 a k)

theorem pay1 (n : Fin 1024) (k : Fin 1408) : (k0_pay1 (F := Ideal) v0 v2 : FVec Ideal S1024x1408 .f32) (ix2 n k) = T v0 v2 n k := by
  unfold T
  pointwise [k0_pay1]
theorem pay2 (n : Fin 1024) (k : Fin 1408) : (k0_pay2 (F := Ideal) v0 v2 : FVec Ideal S1024x1408 .f32) (ix2 n k) = T v0 v2 n k := by
  rw [← pay1]; unfold k0_pay2; generalize k0_pay1 (F := Ideal) v0 v2 = q; pointwise
theorem pay4 (n : Fin 1024) (k : Fin 1408) : (k0_pay4 (F := Ideal) v0 v2 x : FVec Ideal S1x1024x1408 .bf16) (ix3 0 n k) = x (ix2 n k) + T v0 v2 n k := by
  rw [← pay1]; unfold k0_pay4; generalize k0_pay1 (F := Ideal) v0 v2 = q; pointwise

end Block

/-- What point `t` adds. -/
theorem term (t : Fin cfg0.N) (n : Fin 1024) (k : Fin 1408) :
    T (iblk m c 0 t) (iblk m c 1 t) n k = ∑ a : Fin 2048, row (A0 m c) (A2 m c) (A3 m c) (bi (pr t a)) (si (pr t a)) n (pk t k) := by
  unfold T row
  simp only [blk0, blk1]
/-- The first of two points stores its sum, the second adds its own. -/
theorem first (t : Fin cfg0.N) (h : t.val % 2 = 0) (n : Fin 1024) (k : Fin 1408) : (outsAt0 m c t.val t.isLt).2 (ix2 n k) = T (iblk m c 0 t) (iblk m c 1 t) n k := by
  rw [outsAt0_A m c t h (by omega)]; frame_out
  exact pay2 _ _ n k
theorem last (t : Fin cfg0.N) (h : t.val % 2 = 1) (n : Fin 1024) (k : Fin 1408) :
    (outsAt0 m c t.val t.isLt).1 (ix3 0 n k) = (outsAt0 m c (t.val - 1) (Nat.lt_of_le_of_lt (Nat.sub_le _ _) t.isLt)).2 (ix2 n k) + T (iblk m c 0 t) (iblk m c 1 t) n k := by
  rw [outsAt0_B m c t (by omega) h]; frame_out
  rw [Memref.IsWhole.read_unread (Memref.isWhole_whole cc0_scratch0)]
  exact pay4 _ _ _ n k

/-- The gradient as the kernel leaves it. -/
theorem final : (dats m 0 c).arrAt 2 (cfgs 0).N = REF (A0 m c) (A2 m c) (A3 m c) := by
  refine (dats m 0 c).arrAt_eq_of_covers 2 _ (by decide +kernel) fun t hf y => ?_
  blk_simp; rw [after0_2]
  idx_vars y
  have ht := lt8 t
  have h : t.val % 2 = 1 := (flush0_2 t).mp hf
  obtain rfl : y0 = 0 := Fin.ext (by omega)
  have e : ((View.whole main_v7).slice (win0_2.rect t)).emb (ix3 0 y1 y2) = ix3 ⟨t.val / 2, by omega⟩ y1 y2 :=
    Cert.Finite.ext3 (by blk_simp [idx_val t] <;> rfl) (by blk_simp [idx_val t] <;> omega) (by blk_simp [idx_val t] <;> omega)
  rw [e]
  have e1 : pk ⟨t.val - 1, lt_of_le_of_lt (by omega) t.isLt⟩ y2 = pk t y2 := Fin.ext (by simp only; omega)
  rw [last m c t h, first m c ⟨t.val - 1, lt_of_le_of_lt (by omega) t.isLt⟩ (by simp only; omega), term, term, e1]
  show _ = ∑ b : Fin 2, ∑ s : Fin 2048, row (A0 m c) (A2 m c) (A3 m c) b s y1 (pk t y2)
  rw [Fin.sum_univ_two]
  exact congrArg₂ (· + ·) (Finset.sum_congr rfl fun a _ => congrArg₂ (fun b s => row _ _ _ b s y1 (pk t y2)) (Fin.ext (by simp only [Fin.val_zero]; omega)) (Fin.ext (by simp only; omega)))
    (Finset.sum_congr rfl fun a _ => congrArg₂ (fun b s => row _ _ _ b s y1 (pk t y2)) (Fin.ext (by simp only [Fin.val_one]; omega)) (Fin.ext (by simp only; omega)))

end Kernel

section Reference

open Cert.FdwinRIdeal Cert.FdwinRIdeal.Gen Cert.FdwinRIdeal.Read

theorem ref (x0 : FVec Ideal S2x2048x1024 .f32) (x2 x3 : FVec Ideal S2x2048x2816 .f32) : (val_main_v7 (F := Ideal) x0 x2 x3 : FVec Ideal S4x1024x1408 .bf16) = REF x0 x2 x3 := by
  funext j
  idx_vars j
  show _ = ∑ b : Fin 2, ∑ s : Fin 2048, row x0 x2 x3 b s j1 ⟨j0.val * 1408 + j2.val, by omega⟩
  unfold row C2
  simp only [mul_comm (x0 _)]
  unfold val_main_v7 val_main_v6 val_main_v5 val_main_v3 val_main_v2 val_main_v1
  pointwise

end Reference

end Cert.Fdwin
end
-- ==== Proof.FdwinClaims.lean ====
/- Untrusted: the claims about the gradient of the feed-forward's input weight. -/
module

public import proofs.«01_k».proof.Defs
public import proofs.«01_k».proof.Proof.Fdwin
public import proofs.«01_k».proof.Proof.Gen.FdwinK.Frame
public import proofs.«01_k».proof.Proof.Gen.FdwinRIdeal.Run
public import Idealize.ShloMosaic.Adequacy
public import Idealize.ShloMosaic.Lib.Quiescent

@[expose] public section

noncomputable section

namespace Cert.Fdwin

open Idealize.ShloMosaic Idealize.ShloMosaic.TcCoe Idealize.SL.Sem

/-- The reference's runs end with its counters at zero. -/
theorem quiescentR : quiescent_FdwinRIdeal := fun m ρ _ =>
  (θ_run Cert.FdwinRIdeal.defs _ _).mono (fun r h => ⟨fun c => (h c).2, sem_eq_zero_of_no_sems (by decide) r.2⟩)
    (Cert.FdwinRIdeal.Value.run (F := Ideal) m ρ)

/-- The kernel's gradient is the reference's derivative, on every argument. -/
theorem algebraic : algebraic_FdwinKIdeal_FdwinRIdeal := by
  intro m ρ m' ρ' _ hagree
  refine ⟨_, Cert.FdwinKIdeal.Value.run_blocks (F := Ideal) m ρ, ?_⟩
  refine (θ_run Cert.FdwinRIdeal.defs _ _).mono (fun _ h c => ⟨?_, (h c).2⟩) (Cert.FdwinRIdeal.Value.run (F := Ideal) m' ρ')
  refine (h c).1.trans ?_
  rw [Cert.FdwinRIdeal.Read.val_main_v7_eq, (hagree c).1, (hagree c).2.2.1, (hagree c).2.2.2]
  exact (ref _ _ _).trans (final m c).symm

end Cert.Fdwin
end
-- ==== Proof.OddfClaims.lean ====
/- Untrusted: the frames about the odd core's forward pass. -/
module

public import proofs.«01_k».proof.Defs
public import proofs.«01_k».proof.Proof.Gen.OddfK.Frame
public import proofs.«01_k».proof.Proof.Gen.OddfKIdeal.Frame
public import proofs.«01_k».proof.Proof.Gen.OddfRIdeal.Run
public import Idealize.ShloMosaic.Adequacy
public import Idealize.ShloMosaic.Lib.Quiescent

@[expose] public section

noncomputable section

namespace Cert.Oddf

open Idealize.ShloMosaic Idealize.ShloMosaic.TcCoe Idealize.SL.Sem

/-- The reference's runs end with its counters at zero. -/
theorem quiescentR : quiescent_OddfRIdeal := fun m ρ _ =>
  (θ_run Cert.OddfRIdeal.defs _ _).mono (fun r h => ⟨fun c => (h c).2, sem_eq_zero_of_no_sems (by decide) r.2⟩)
    (Cert.OddfRIdeal.Value.run (F := Ideal) m ρ)

end Cert.Oddf
end
-- ==== Proof.OddbRunA.lean ====
/- Untrusted: a run of the odd core's backward body at the first grid point, without the contents of its outputs. -/
module

public import proofs.«01_k».proof.Proof.Gen.OddbK.Frame.Runs

@[expose] public section

set_option maxRecDepth 16384

noncomputable section

namespace Cert.OddbFrame

open Cert.OddbK Cert.OddbK.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first grid point: it takes the staged inputs back unchanged and leaves the outputs and the scratch at some contents. -/
theorem kernelRun0_A (c : Dev nD) (i : grid0.Coords) (arg1 : Memref sig .tc .vmem S2048x512 .bf16) (harg1 : arg1.IsWhole) (arg2 : Memref sig .tc .vmem S2048x512 .bf16) (harg2 : arg2.IsWhole) (arg3 : Memref sig .tc .vmem S2048x512 .bf16) (harg3 : arg3.IsWhole) (arg4 : Memref sig .tc .vmem S4x128x128 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S4x128x128 .f32) (harg7 : arg7.IsWhole) (arg8 : Memref sig .tc .vmem S128x4 .f32) (harg8 : arg8.IsWhole) (arg9 : Memref sig .tc .vmem S2048x1024 .f32) (harg9 : arg9.IsWhole) (arg10 : Memref sig .tc .vmem S2048x1536 .bf16) (harg10 : arg10.IsWhole) (arg11 : Memref sig .tc .vmem S4x128x128 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S4x128x128 .f32) (harg14 : arg14.IsWhole) (arg15 : Memref sig .tc .vmem S128x4 .f32) (harg15 : arg15.IsWhole) (arg16 : Memref sig .tc .vmem S2064x128 .f32) (harg16 : arg16.IsWhole) (hc0 : cond0_0 i)
    (x0 : Vec F S2048x512 .bf16) (x1 : Vec F S2048x512 .bf16) (x2 : Vec F S2048x512 .bf16) (x3 : Vec F S4x128x128 .f32) (x4 : Vec F S1x512 .f32) (x5 : Vec F S1x512 .f32) (x6 : Vec F S4x128x128 .f32) (x7 : Vec F S128x4 .f32) (x8 : Vec F S2048x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_od_dcore i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_od_dcore_eq_skeleton]; unfold cc0_od_dcore_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact HS0
    ipureintro; rfl

end Cert.OddbFrame

end
-- ==== Proof.OddbRunB.lean ====
/- Untrusted: a run of the odd core's backward body at the later grid point, without the contents of its outputs. -/
module

public import proofs.«01_k».proof.Proof.Gen.OddbK.Frame.Runs

@[expose] public section

set_option maxRecDepth 16384

noncomputable section

namespace Cert.OddbFrame

open Cert.OddbK Cert.OddbK.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a later grid point: it takes the staged inputs back unchanged and leaves the outputs and the scratch at some contents. -/
theorem kernelRun0_B (c : Dev nD) (i : grid0.Coords) (arg1 : Memref sig .tc .vmem S2048x512 .bf16) (harg1 : arg1.IsWhole) (arg2 : Memref sig .tc .vmem S2048x512 .bf16) (harg2 : arg2.IsWhole) (arg3 : Memref sig .tc .vmem S2048x512 .bf16) (harg3 : arg3.IsWhole) (arg4 : Memref sig .tc .vmem S4x128x128 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S4x128x128 .f32) (harg7 : arg7.IsWhole) (arg8 : Memref sig .tc .vmem S128x4 .f32) (harg8 : arg8.IsWhole) (arg9 : Memref sig .tc .vmem S2048x1024 .f32) (harg9 : arg9.IsWhole) (arg10 : Memref sig .tc .vmem S2048x1536 .bf16) (harg10 : arg10.IsWhole) (arg11 : Memref sig .tc .vmem S4x128x128 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S4x128x128 .f32) (harg14 : arg14.IsWhole) (arg15 : Memref sig .tc .vmem S128x4 .f32) (harg15 : arg15.IsWhole) (arg16 : Memref sig .tc .vmem S2064x128 .f32) (harg16 : arg16.IsWhole) (hc0 : ¬cond0_0 i)
    (x0 : Vec F S2048x512 .bf16) (x1 : Vec F S2048x512 .bf16) (x2 : Vec F S2048x512 .bf16) (x3 : Vec F S4x128x128 .f32) (x4 : Vec F S1x512 .f32) (x5 : Vec F S1x512 .f32) (x6 : Vec F S4x128x128 .f32) (x7 : Vec F S128x4 .f32) (x8 : Vec F S2048x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_od_dcore i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_od_dcore_eq_skeleton]; unfold cc0_od_dcore_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact HS0
    ipureintro; rfl

end Cert.OddbFrame

end
-- ==== Proof.OddbFrame.lean ====
/- Untrusted: the frame of the odd core's backward call, without the contents of its outputs. -/
module

public import proofs.«01_k».proof.Proof.OddbRunA
public import proofs.«01_k».proof.Proof.OddbRunB
public import Idealize.ShloMosaic.Lib.Claim

@[expose] public section

set_option maxRecDepth 16384

noncomputable section

namespace Cert.OddbFrame

open Cert.OddbK Cert.OddbK.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- From a run that says what the arrays hold at its end: every argument array ends unchanged. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      (Pipeline.RDat.FramePost.arr_in h c 3 rfl).trans ((hA c 3).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c 6 rfl).trans ((hA c 6).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-- The windows whose contents nothing is said of: the six outputs. -/
def forgets0 : Fin 15 → Bool := fun w => w.val == 9 || w.val == 10 || w.val == 11 || w.val == 12 || w.val == 13 || w.val == 14

/-- The staged windows: an input holds its block at every point, an output something unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

/-- What the body gives back at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

set_option maxHeartbeats 3200000 in
/-- The body is right at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  have hN : t.val < 2 := lt_of_lt_of_eq t.isLt (show cfg0.N = 2 from N_0)
  by_cases h0 : t.val % 2 = 0
  · iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_A c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexact HS0
    iintro ⟨H0, H1, H2, H3, H4, H5, H6, H7, H8, H9, H10, H11, H12, H13, H14, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_B c (grid0.coords t) _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexact HS0
    iintro ⟨H0, H1, H2, H3, H4, H5, H6, H7, H8, H9, H10, H11, H12, H13, H14, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The whole program ends with its inputs as they were and all counters at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The whole program ends with its inputs as they were. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- The frame of the odd core's backward call, at any kind of float. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.OddbFrame

end
-- ==== Proof.OddbIdeal.lean ====
/- Untrusted: the odd core's backward program and its idealisation are the same program under two names. -/
module

public import proofs.«01_k».proof.OddbK
public import proofs.«01_k».proof.OddbKIdeal

@[expose] public section

noncomputable section

namespace Cert.OddbIdeal

open Idealize.ShloMosaic Idealize.ShloMosaic.TcCoe Idealize.SL.Sem

variable {F : FTy → Type} [FloatOps F] [Cert.OddbK.Facts] [Cert.OddbKIdeal.Facts]

/-- The kernels' functions are the same. -/
theorem kernels : @Cert.OddbK.defs₀ F _ _ = @Cert.OddbKIdeal.defs₀ F _ _ := by
  unfold Cert.OddbK.defs₀ Cert.OddbKIdeal.defs₀
  refine congrArg Defs.onTc ?_
  funext l a
  match l, a with
  | ⟨0, _⟩, (_, _) => rfl
  | ⟨n + 1, h⟩, _ => exact absurd h (by omega)

/-- So are the tables of functions. -/
theorem tables : @Cert.OddbK.defs F _ _ = @Cert.OddbKIdeal.defs F _ _ :=
  congrArg (Pipeline.defs Cert.OddbK.pcfgs) (kernels (F := F))

end Cert.OddbIdeal
end
-- ==== Proof.OddbClaims.lean ====
/- Untrusted: the frames about the odd core's backward pass. -/
module

public import proofs.«01_k».proof.Defs
public import proofs.«01_k».proof.Proof.OddbFrame
public import proofs.«01_k».proof.Proof.OddbIdeal
public import proofs.«01_k».proof.Proof.Gen.OddbKIdeal
public import proofs.«01_k».proof.Proof.Gen.OddbRIdeal.Run
public import Idealize.ShloMosaic.Adequacy
public import Idealize.ShloMosaic.Lib.Quiescent

@[expose] public section

noncomputable section

namespace Cert.Oddb

open Idealize.ShloMosaic Idealize.ShloMosaic.TcCoe Idealize.SL.Sem

/-- The reference's runs end with its counters at zero. -/
theorem quiescentR : quiescent_OddbRIdeal := fun m ρ _ =>
  (θ_run Cert.OddbRIdeal.defs _ _).mono (fun r h => ⟨fun c => (h c).2.2.2.2.2.2, sem_eq_zero_of_no_sems (by decide) r.2⟩)
    (Cert.OddbRIdeal.Value.run (F := Ideal) m ρ)

/-- The kernel's frame. -/
theorem quiescentK : quiescent_OddbK := fun m ρ _ => Cert.OddbFrame.frame m ρ

/-- The idealised kernel's frame: the same program, over the extended reals. -/
theorem quiescentKI : quiescent_OddbKIdeal := fun m ρ _ => by
  rw [← Cert.OddbIdeal.tables (F := Ideal)]
  exact Cert.OddbFrame.frame (F := Ideal) m ρ

end Cert.Oddb
end
-- ==== Proof.Adam.lean ====
/- Untrusted: the values of the optimiser's kernel, and of its reference. -/
module

public import proofs.«01_k».proof.Proof.Finite
public import proofs.«01_k».proof.Proof.Gen.AdamKIdeal.Value
public import proofs.«01_k».proof.Proof.Gen.AdamRIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Adam

/-- The layer and the row of a flattened row. -/
abbrev li (r : Fin 4096) : Fin 4 := ⟨r.val / 1024, by omega⟩
abbrev ri (r : Fin 4096) : Fin 1024 := ⟨r.val % 1024, by omega⟩

/-- An array of layers with its rows one after the other. -/
def flat (x : (⟨3, ![4, 1024, 1408]⟩ : Shape).Idx → EReal) : (⟨2, ![4096, 1408]⟩ : Shape).Idx → EReal := fun i =>
  x (ix3 (li (i 0)) (ri (i 0)) (i 1))

/-- The new first moment of an element, from its gradient and its moment. -/
def mom (g m : EReal) : EReal := Ideal.ofBits FTy.f32 0x3F666666#32 * m + Ideal.ofBits FTy.f32 0x3DCCCCCD#32 * g
/-- The new second moment. -/
def sec (g v : EReal) : EReal := Ideal.ofBits FTy.f32 0x3F7FBE77#32 * v + Ideal.ofBits FTy.f32 0x3A83126F#32 * (g * g)
/-- The step of the weight. -/
def del (w g m v : EReal) : EReal :=
  Ideal.ofBits FTy.f32 0xBA83126F#32 * (Ideal.div (Ideal.div (mom g m) (Ideal.ofBits FTy.f32 0x3F26BD02#32))
    (Ideal.sqrt (Ideal.div (sec g v) (Ideal.ofBits FTy.f32 0x3C231ACC#32)) + Ideal.ofBits FTy.f32 0x322BCC77#32)
    + Ideal.ofBits FTy.f32 0x3C23D70A#32 * w)

section Kernel

open Cert.AdamKIdeal Cert.AdamKIdeal.Gen

theorem pay1 (g : FVec Ideal S128x1408 .f32) (i : S128x1408.Idx) : (k0_pay1 (F := Ideal) g : FVec Ideal S128x1408 .f32) i = g i := by
  pointwise [k0_pay1]
theorem pay2 (g v : FVec Ideal S128x1408 .f32) (i : S128x1408.Idx) : (k0_pay2 (F := Ideal) g v : FVec Ideal S128x1408 .f32) i = mom (g i) (v i) := by
  unfold mom
  pointwise [k0_pay2, pay1]
theorem pay3 (g v : FVec Ideal S128x1408 .f32) (i : S128x1408.Idx) : (k0_pay3 (F := Ideal) g v : FVec Ideal S128x1408 .f32) i = sec (g i) (v i) := by
  unfold sec
  pointwise [k0_pay3, pay1]
theorem pay4 (g v2 v9 w : FVec Ideal S128x1408 .f32) (i : S128x1408.Idx) :
    (k0_pay4 (F := Ideal) g v2 v9 w : FVec Ideal S128x1408 .f32) i = del (w i) (g i) (v2 i) (v9 i) := by
  unfold del
  pointwise [k0_pay4, pay2, pay3]

theorem idx_val : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

/-- The arrays that the program is given: weights, gradients, moments. -/
abbrev A0 : FVec Ideal S4x1024x1408 .f32 := m ⟨c, Proc.devRef .tc main_arg0⟩
abbrev A1 : FVec Ideal S4x1024x1408 .f32 := m ⟨c, Proc.devRef .tc main_arg1⟩
abbrev A2 : FVec Ideal S4x1024x1408 .f32 := m ⟨c, Proc.devRef .tc main_arg2⟩
abbrev A3 : FVec Ideal S4x1024x1408 .f32 := m ⟨c, Proc.devRef .tc main_arg3⟩
theorem V0 (r : Fin 4096) (k : Fin 1408) : V m c main_v0 (ix2 r k) = flat (A0 m c) (ix2 r k) := by
  unfold flat
  entry_read
  pointwise
theorem V1 (r : Fin 4096) (k : Fin 1408) : V m c main_v1 (ix2 r k) = flat (A1 m c) (ix2 r k) := by
  unfold flat
  entry_read
  pointwise
theorem V2 (r : Fin 4096) (k : Fin 1408) : V m c main_v2 (ix2 r k) = flat (A2 m c) (ix2 r k) := by
  unfold flat
  entry_read
  pointwise
theorem V3 (r : Fin 4096) (k : Fin 1408) : V m c main_v3 (ix2 r k) = flat (A3 m c) (ix2 r k) := by
  unfold flat
  entry_read
  pointwise
/-- The flattened row of row `a` of point `t`'s blocks. -/
abbrev pr (t : Fin cfg0.N) (a : Fin 128) : Fin 4096 := ⟨t.val * 128 + a.val, by have := lt_of_lt_of_eq t.isLt N_0; omega⟩

theorem blk0 (t : Fin cfg0.N) (a : Fin 128) (k : Fin 1408) : (iblk m c 0 t : FVec Ideal S128x1408 .f32) (ix2 a k) = flat (A0 m c) (ix2 (pr t a) k) := by
  have e : (((cfg0.win 0).blk t).view.emb (ix2 a k) : S4096x1408.Idx) = ix2 (pr t a) k :=
    Cert.Finite.ext2 (by blk_simp [idx_val t]) (by blk_simp [idx_val t])
  unfold iblk
  rw [View.read_apply, cast_eq, e]
  exact V0 m c _ _
theorem blk1 (t : Fin cfg0.N) (a : Fin 128) (k : Fin 1408) : (iblk m c 1 t : FVec Ideal S128x1408 .f32) (ix2 a k) = flat (A1 m c) (ix2 (pr t a) k) := by
  have e : (((cfg0.win 1).blk t).view.emb (ix2 a k) : S4096x1408.Idx) = ix2 (pr t a) k :=
    Cert.Finite.ext2 (by blk_simp [idx_val t]) (by blk_simp [idx_val t])
  unfold iblk
  rw [View.read_apply, cast_eq, e]
  exact V1 m c _ _
theorem blk2 (t : Fin cfg0.N) (a : Fin 128) (k : Fin 1408) : (iblk m c 2 t : FVec Ideal S128x1408 .f32) (ix2 a k) = flat (A2 m c) (ix2 (pr t a) k) := by
  have e : (((cfg0.win 2).blk t).view.emb (ix2 a k) : S4096x1408.Idx) = ix2 (pr t a) k :=
    Cert.Finite.ext2 (by blk_simp [idx_val t]) (by blk_simp [idx_val t])
  unfold iblk
  rw [View.read_apply, cast_eq, e]
  exact V2 m c _ _
theorem blk3 (t : Fin cfg0.N) (a : Fin 128) (k : Fin 1408) : (iblk m c 3 t : FVec Ideal S128x1408 .f32) (ix2 a k) = flat (A3 m c) (ix2 (pr t a) k) := by
  have e : (((cfg0.win 3).blk t).view.emb (ix2 a k) : S4096x1408.Idx) = ix2 (pr t a) k :=
    Cert.Finite.ext2 (by blk_simp [idx_val t]) (by blk_simp [idx_val t])
  unfold iblk
  rw [View.read_apply, cast_eq, e]
  exact V3 m c _ _
/-- The step as the kernel leaves it. -/
theorem final4 : (dats m 0 c).arrAt 4 (cfgs 0).N = (fun i => del (flat (A0 m c) i) (flat (A1 m c) i) (flat (A2 m c) i) (flat (A3 m c) i) : FVec Ideal S4096x1408 .f32) := by
  refine (dats m 0 c).arrAt_eq_of_covers 4 _ (by decide +kernel) fun t hf y => ?_
  blk_simp; rw [after0_4]
  idx_vars y
  have e : ((View.whole main_v4_0).slice (win0_4.rect t)).emb (ix2 y0 y1) = ix2 (pr t y0) y1 :=
    Cert.Finite.ext2 (by blk_simp [idx_val t] <;> omega) (by blk_simp [idx_val t] <;> omega)
  rw [e]
  frame_out
  rw [pay4]
  simp only [blk0, blk1, blk2, blk3]
/-- The new first moment as the kernel leaves it. -/
theorem final5 : (dats m 0 c).arrAt 5 (cfgs 0).N = (fun i => mom (flat (A1 m c) i) (flat (A2 m c) i) : FVec Ideal S4096x1408 .f32) := by
  refine (dats m 0 c).arrAt_eq_of_covers 5 _ (by decide +kernel) fun t hf y => ?_
  blk_simp; rw [after0_5]
  idx_vars y
  have e : ((View.whole main_v4_1).slice (win0_5.rect t)).emb (ix2 y0 y1) = ix2 (pr t y0) y1 :=
    Cert.Finite.ext2 (by blk_simp [idx_val t] <;> omega) (by blk_simp [idx_val t] <;> omega)
  rw [e]
  frame_out
  rw [pay2]
  simp only [blk1, blk2]
/-- The new second moment as the kernel leaves it. -/
theorem final6 : (dats m 0 c).arrAt 6 (cfgs 0).N = (fun i => sec (flat (A1 m c) i) (flat (A3 m c) i) : FVec Ideal S4096x1408 .f32) := by
  refine (dats m 0 c).arrAt_eq_of_covers 6 _ (by decide +kernel) fun t hf y => ?_
  blk_simp; rw [after0_6]
  idx_vars y
  have e : ((View.whole main_v4_2).slice (win0_6.rect t)).emb (ix2 y0 y1) = ix2 (pr t y0) y1 :=
    Cert.Finite.ext2 (by blk_simp [idx_val t] <;> omega) (by blk_simp [idx_val t] <;> omega)
  rw [e]
  frame_out
  rw [pay3]
  simp only [blk1, blk3]
/-- The gradient as the kernel leaves it. -/
theorem final7 : (dats m 0 c).arrAt 7 (cfgs 0).N = flat (A1 m c) := by
  refine (dats m 0 c).arrAt_eq_of_covers 7 _ (by decide +kernel) fun t hf y => ?_
  blk_simp; rw [after0_7]
  idx_vars y
  have e : ((View.whole main_v4_3).slice (win0_7.rect t)).emb (ix2 y0 y1) = ix2 (pr t y0) y1 :=
    Cert.Finite.ext2 (by blk_simp [idx_val t] <;> omega) (by blk_simp [idx_val t] <;> omega)
  rw [e]
  frame_out
  rw [pay1]
  simp only [blk1]

end Kernel

section Reference

open Cert.AdamRIdeal Cert.AdamRIdeal.Gen Cert.AdamRIdeal.Read

variable (x0 x1 x2 x3 : FVec Ideal S4x1024x1408 .f32)

/-- Reading an array of layers at a flattened row. -/
theorem rows (x : FVec Ideal S4x1024x1408 .f32) (i : S4096x1408.Idx) :
    (shapeCast S4096x1408 x shapeCasts_S4x1024x1408_S4096x1408 : FVec Ideal S4096x1408 .f32) i = flat x i := by
  idx_vars i
  unfold flat
  pointwise
theorem ref27 : (val_main_v27 (F := Ideal) x1 : FVec Ideal S4096x1408 .f32) = flat x1 := funext fun i => rows x1 i
theorem ref25 : (val_main_v25 (F := Ideal) x1 x2 : FVec Ideal S4096x1408 .f32) = fun i => mom (flat x1 i) (flat x2 i) :=
  funext fun i => rows (val_main_v4 (F := Ideal) x1 x2) i
theorem ref26 : (val_main_v26 (F := Ideal) x1 x3 : FVec Ideal S4096x1408 .f32) = fun i => sec (flat x1 i) (flat x3 i) :=
  funext fun i => rows (val_main_v10 (F := Ideal) x1 x3) i
theorem ref24 : (val_main_v24 (F := Ideal) x0 x1 x2 x3 : FVec Ideal S4096x1408 .f32)
    = fun i => del (flat x0 i) (flat x1 i) (flat x2 i) (flat x3 i) :=
  funext fun i => rows (val_main_v23 (F := Ideal) x0 x1 x2 x3) i

end Reference

end Cert.Adam
end
-- ==== Proof.AdamClaims.lean ====
/- Untrusted: the claims about the optimiser's kernel. -/
module

public import proofs.«01_k».proof.Defs
public import proofs.«01_k».proof.Proof.Adam
public import proofs.«01_k».proof.Proof.Gen.AdamK.Frame
public import proofs.«01_k».proof.Proof.Gen.AdamRIdeal.Run
public import Idealize.ShloMosaic.Adequacy
public import Idealize.ShloMosaic.Lib.Quiescent

@[expose] public section

noncomputable section

namespace Cert.Adam

open Idealize.ShloMosaic Idealize.ShloMosaic.TcCoe Idealize.SL.Sem

/-- The reference's runs end with its counters at zero. -/
theorem quiescentR : quiescent_AdamRIdeal := fun m ρ _ =>
  (θ_run Cert.AdamRIdeal.defs _ _).mono (fun r h => ⟨fun c => (h c).2.2.2.2, sem_eq_zero_of_no_sems (by decide) r.2⟩)
    (Cert.AdamRIdeal.Value.run (F := Ideal) m ρ)

/-- The kernel's steps, moments and gradients are the reference's, on every argument. -/
theorem algebraic : algebraic_AdamKIdeal_AdamRIdeal := by
  intro m ρ m' ρ' _ hagree
  refine ⟨_, _, _, _, Cert.AdamKIdeal.Value.run_blocks (F := Ideal) m ρ, ?_⟩
  refine (θ_run Cert.AdamRIdeal.defs _ _).mono (fun _ h c => ⟨?_, ?_, ?_, ?_, (h c).2.2.2.2⟩) (Cert.AdamRIdeal.Value.run (F := Ideal) m' ρ')
  · refine (h c).1.trans ?_
    rw [Cert.AdamRIdeal.Read.val_main_v24_eq, (hagree c).1, (hagree c).2.1, (hagree c).2.2.1, (hagree c).2.2.2]
    exact (ref24 _ _ _ _).trans (final4 m c).symm
  · refine (h c).2.1.trans ?_
    rw [Cert.AdamRIdeal.Read.val_main_v25_eq, (hagree c).2.1, (hagree c).2.2.1]
    exact (ref25 _ _).trans (final5 m c).symm
  · refine (h c).2.2.1.trans ?_
    rw [Cert.AdamRIdeal.Read.val_main_v26_eq, (hagree c).2.1, (hagree c).2.2.2]
    exact (ref26 _ _).trans (final6 m c).symm
  · refine (h c).2.2.2.1.trans ?_
    rw [Cert.AdamRIdeal.Read.val_main_v27_eq, (hagree c).2.1]
    exact (ref27 _).trans (final7 m c).symm

end Cert.Adam
end
-- ==== Proof.AddsClaims.lean ====
/- Untrusted: the claims about the sum of two cores' halves. -/
module

public import proofs.«01_k».proof.Defs
public import proofs.«01_k».proof.Proof.Gen.AddsK.Frame
public import proofs.«01_k».proof.Proof.Gen.AddsKIdeal.Value
public import proofs.«01_k».proof.Proof.Gen.AddsRIdeal.Run
public import proofs.«01_k».proof.Proof.Gen.AddsRIdeal.Read
public import Idealize.ShloMosaic.Adequacy
public import Idealize.ShloMosaic.Lib.Quiescent

@[expose] public section

noncomputable section

namespace Cert.Adds

open Idealize.ShloMosaic Idealize.ShloMosaic.TcCoe Idealize.SL.Sem

/-- The reference's runs end with its counters at zero. -/
theorem quiescentR : quiescent_AddsRIdeal := fun m ρ _ =>
  (θ_run Cert.AddsRIdeal.defs _ _).mono (fun r h => ⟨fun c => (h c).2, sem_eq_zero_of_no_sems (by decide) r.2⟩)
    (Cert.AddsRIdeal.Value.run (F := Ideal) m ρ)

/-- The two halves' sum, an element at a time. -/
theorem ref (x0 : FVec Ideal Cert.AddsRIdeal.S4x1024x1408 .bf16) (x1 : FVec Ideal Cert.AddsRIdeal.S4x512x1408 .bf16) :
    (Cert.AddsRIdeal.Read.val_main_v4 (F := Ideal) x0 x1 : FVec Ideal Cert.AddsRIdeal.S4x512x1408 .bf16)
      = Cert.AddsKIdeal.Value.G2 (F := Ideal) x0 x1 := by
  funext i
  rw [Cert.AddsRIdeal.Read.val_main_v4_apply, Cert.AddsRIdeal.Read.val_main_v3_apply, Cert.AddsRIdeal.Read.val_main_v1_apply,
    Cert.AddsRIdeal.Read.val_main_v2_apply, Cert.AddsRIdeal.Read.val_main_v0_apply]
  rfl

/-- The kernel's sums are the reference's, on every argument. -/
theorem algebraic : algebraic_AddsKIdeal_AddsRIdeal := by
  intro m ρ m' ρ' _ hagree
  refine ⟨_, Cert.AddsKIdeal.Value.run (F := Ideal) m ρ, ?_⟩
  refine (θ_run Cert.AddsRIdeal.defs _ _).mono (fun _ h c => ⟨?_, (h c).2⟩) (Cert.AddsRIdeal.Value.run (F := Ideal) m' ρ')
  refine (h c).1.trans ?_
  rw [Cert.AddsRIdeal.Read.val_main_v4_eq, (hagree c).1, (hagree c).2]
  exact ref _ _

end Cert.Adds
end
-- ==== Proof.Addc.lean ====
/- Untrusted: the values of the sum of the chips' parts, and of its reference. -/
module

public import proofs.«01_k».proof.Proof.Finite
public import proofs.«01_k».proof.Proof.Gen.AddcKIdeal.Value
public import proofs.«01_k».proof.Proof.Gen.AddcRIdeal.Read
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.Addc

/-- An element of the four parts' sum: this chip's own, and the three that came from the others. -/
def TOT (a b : (⟨3, ![4, 512, 1408]⟩ : Shape).Idx → EReal) (r : Fin 512) (k : Fin 1408) : EReal :=
  a (ix3 0 r k) + b (ix3 1 r k) + b (ix3 2 r k) + b (ix3 3 r k)

/-- The weight's gradients with the sum in the first half of the first layer. -/
def REF (a b : (⟨3, ![4, 512, 1408]⟩ : Shape).Idx → EReal) (w : (⟨3, ![4, 1024, 1408]⟩ : Shape).Idx → EReal) : (⟨3, ![4, 1024, 1408]⟩ : Shape).Idx → EReal := fun i =>
  if h : (i 0).val = 0 ∧ (i 1).val < 512 then TOT a b ⟨(i 1).val, h.2⟩ (i 2) else w i

section Kernel

open Cert.AddcKIdeal Cert.AddcKIdeal.Gen Cert.AddcKIdeal.Value

theorem pay1 (v0 v3 v7 v11 : FVec Ideal S1x512x1408 .bf16) (z : Fin 1) (r : Fin 512) (k : Fin 1408) :
    (k0_pay1 (F := Ideal) v0 v3 v7 v11 : FVec Ideal S1x512x1408 .f32) (ix3 z r k)
      = v0 (ix3 0 r k) + v3 (ix3 0 r k) + v7 (ix3 0 r k) + v11 (ix3 0 r k) := by
  pointwise [k0_pay1]

theorem idx_val : ∀ t : Fin grid0.N, win0_0.index t = ![0, 0, 0] ∧ win0_1.index t = ![1, 0, 0] ∧ win0_2.index t = ![2, 0, 0]
    ∧ win0_3.index t = ![3, 0, 0] ∧ win0_4.index t = ![0, 0, 0] :=
  (by decide +kernel : ∀ t : Fin grid0.N, _)

variable (m : (ℓ : Loc nD τ sig) → Buf (Elt Ideal) ℓ) (c : Dev nD)

/-- The arrays that the program is given. -/
abbrev A0 : FVec Ideal S4x512x1408 .bf16 := m ⟨c, Proc.devRef .tc main_arg0⟩
abbrev A1 : FVec Ideal S4x512x1408 .bf16 := m ⟨c, Proc.devRef .tc main_arg1⟩
abbrev A2 : FVec Ideal S4x1024x1408 .f32 := m ⟨c, Proc.devRef .tc main_arg2⟩
theorem V0 : V m c main_v0 = A2 m c := by
  entry_read
  rfl

theorem blk0 (t : Fin cfg0.N) (z : Fin 1) (a : Fin 512) (k : Fin 1408) : (iblk m c 0 t : FVec Ideal S1x512x1408 .bf16) (ix3 z a k) = A0 m c (ix3 0 a k) := by
  have e : (((cfg0.win 0).blk t).view.emb (ix3 z a k) : S4x512x1408.Idx) = ix3 0 a k :=
    Cert.Finite.ext3 (by blk_simp [idx_val t] <;> rfl) (by blk_simp [idx_val t]) (by blk_simp [idx_val t])
  unfold iblk
  rw [View.read_apply, cast_eq, e]
  exact congrFun (V_main_arg0 m c) _
theorem blk1 (t : Fin cfg0.N) (z : Fin 1) (a : Fin 512) (k : Fin 1408) : (iblk m c 1 t : FVec Ideal S1x512x1408 .bf16) (ix3 z a k) = A1 m c (ix3 1 a k) := by
  have e : (((cfg0.win 1).blk t).view.emb (ix3 z a k) : S4x512x1408.Idx) = ix3 1 a k :=
    Cert.Finite.ext3 (by blk_simp [idx_val t] <;> rfl) (by blk_simp [idx_val t]) (by blk_simp [idx_val t])
  unfold iblk
  rw [View.read_apply, cast_eq, e]
  exact congrFun (V_main_arg1 m c) _
theorem blk2 (t : Fin cfg0.N) (z : Fin 1) (a : Fin 512) (k : Fin 1408) : (iblk m c 2 t : FVec Ideal S1x512x1408 .bf16) (ix3 z a k) = A1 m c (ix3 2 a k) := by
  have e : (((cfg0.win 2).blk t).view.emb (ix3 z a k) : S4x512x1408.Idx) = ix3 2 a k :=
    Cert.Finite.ext3 (by blk_simp [idx_val t] <;> rfl) (by blk_simp [idx_val t]) (by blk_simp [idx_val t])
  unfold iblk
  rw [View.read_apply, cast_eq, e]
  exact congrFun (V_main_arg1 m c) _
theorem blk3 (t : Fin cfg0.N) (z : Fin 1) (a : Fin 512) (k : Fin 1408) : (iblk m c 3 t : FVec Ideal S1x512x1408 .bf16) (ix3 z a k) = A1 m c (ix3 3 a k) := by
  have e : (((cfg0.win 3).blk t).view.emb (ix3 z a k) : S4x512x1408.Idx) = ix3 3 a k :=
    Cert.Finite.ext3 (by blk_simp [idx_val t] <;> rfl) (by blk_simp [idx_val t]) (by blk_simp [idx_val t])
  unfold iblk
  rw [View.read_apply, cast_eq, e]
  exact congrFun (V_main_arg1 m c) _

theorem outs (t : Fin cfg0.N) (z : Fin 1) (r : Fin 512) (k : Fin 1408) : outsAt0 m c t (ix3 z r k) = TOT (A0 m c) (A1 m c) r k := by
  unfold outsAt0
  frame_out
  rw [pay1]
  simp only [blk0, blk1, blk2, blk3]
  rfl

theorem emb (t : Fin cfg0.N) (z : Fin 1) (r : Fin 512) (k : Fin 1408) :
    (((cfg0.win 4).blk t).view.emb (ix3 z r k) : S4x1024x1408.Idx) = ix3 0 ⟨r.val, by omega⟩ k :=
  Cert.Finite.ext3 (by blk_simp [idx_val t] <;> rfl) (by blk_simp [idx_val t]) (by blk_simp [idx_val t])

/-- The one point of the grid. -/
abbrev first : Fin cfg0.N := ⟨0, by decide +kernel⟩

theorem mem (t : Fin cfg0.N) (i : S4x1024x1408.Idx) (h : i ∈ ((cfg0.win 4).blk t).view.set) : (i 0).val = 0 ∧ (i 1).val < 512 := by
  change i ∈ ((View.whole main_v0).slice (win0_4.rect t)).set at h
  rw [View.set_slice_whole, Rect.mem_set_unit] at h
  obtain ⟨-, -, -, -, e⟩ := idx_val t
  have h0 := (h 0).2
  have h1 := (h 1).2
  have e0 : win0_4.index t (0 : Fin 3) = 0 := congrFun e 0
  have e1 : win0_4.index t (1 : Fin 3) = 0 := congrFun e 1
  change (i 0).val < win0_4.index t (0 : Fin 3) * 1 + 1 at h0
  change (i 1).val < win0_4.index t (1 : Fin 3) * 512 + 512 at h1
  omega

/-- The gradients as the kernel leaves them. -/
theorem final : (dats m 0 c).arrAt 4 cfg0.N = REF (A0 m c) (A1 m c) (A2 m c) := by
  refine funext fun (j : S4x1024x1408.Idx) => ?_
  unfold REF
  by_cases h : (j 0).val = 0 ∧ (j 1).val < 512
  · rw [dif_pos h]
    have e := congrFun (blocks4 m c first (by decide +kernel)) (ix3 0 ⟨(j 1).val, h.2⟩ (j 2) : S1x512x1408.Idx)
    rw [View.read_apply, cast_eq, flushed4] at e
    have ej : (((cfg0.win 4).blk first).view.emb (ix3 0 ⟨(j 1).val, h.2⟩ (j 2)) : S4x1024x1408.Idx) = j :=
      (emb first 0 ⟨(j 1).val, h.2⟩ (j 2)).trans
        (Cert.Finite.ext3 (x := 0) (y := ⟨(j 1).val, by omega⟩) (z := j 2) h.1 rfl rfl).symm
    rw [ej] at e
    exact e.trans (outs m c first 0 ⟨(j 1).val, h.2⟩ (j 2))
  · rw [dif_neg h]
    exact (entry4 m c j fun t _ hj => h (mem t j hj)).trans (congrFun (V0 m c) j)

end Kernel

section Reference

open Cert.AddcRIdeal Cert.AddcRIdeal.Gen Cert.AddcRIdeal.Read

variable (x0 x1 : FVec Ideal S4x512x1408 .bf16) (x2 : FVec Ideal S4x1024x1408 .f32)

theorem part0 (r : Fin 512) (k : Fin 1408) : (val_main_v2 (F := Ideal) x0 x1 : FVec Ideal S4x512x1408 .bf16) (ix3 0 r k) = x0 (ix3 0 r k) := by
  unfold val_main_v2 val_main_v1 val_main_v0
  pointwise
theorem part1 (r : Fin 512) (k : Fin 1408) :
    (val_main_v2 (F := Ideal) x0 x1 : FVec Ideal S4x512x1408 .bf16) (ix3 1 r k) = x1 (ix3 1 r k)
    ∧ (val_main_v2 (F := Ideal) x0 x1 : FVec Ideal S4x512x1408 .bf16) (ix3 2 r k) = x1 (ix3 2 r k)
    ∧ (val_main_v2 (F := Ideal) x0 x1 : FVec Ideal S4x512x1408 .bf16) (ix3 3 r k) = x1 (ix3 3 r k) := by
  unfold val_main_v2 val_main_v1 val_main_v0
  refine ⟨?_, ?_, ?_⟩ <;> pointwise

theorem tot (r : Fin 512) (k : Fin 1408) : (val_main_v4 (F := Ideal) x0 x1 : FVec Ideal S512x1408 .f32) (ix2 r k) = TOT x0 x1 r k := by
  have e (q : Fin 4) : (val_main_v3 (F := Ideal) x0 x1 : FVec Ideal S4x512x1408 .f32) (idx_main_v4 (ix2 r k) q)
      = (val_main_v2 (F := Ideal) x0 x1 : FVec Ideal S4x512x1408 .bf16) (ix3 q r k) :=
    congrArg (val_main_v2 (F := Ideal) x0 x1) (Cert.Finite.ext3 rfl rfl rfl)
  rw [val_main_v4_apply]
  simp only [e, Fin.sum_univ_four]
  rw [part0, (part1 x0 x1 r k).1, (part1 x0 x1 r k).2.1, (part1 x0 x1 r k).2.2]
  unfold val_main_cst TOT
  pointwise

theorem fits : S4x1024x1408.Slices (fun _ => 0) S1x512x1408 := updateFits_S4x1024x1408_S1x512x1408

theorem ref : (val_main_v6 (F := Ideal) x0 x1 x2 : FVec Ideal S4x1024x1408 .f32) = REF x0 x1 x2 := by
  refine funext fun (j : S4x1024x1408.Idx) => ?_
  unfold val_main_v6 REF
  rw [WordCmp.dynamicUpdateSlice_eq_update x2 (val_main_v5 (F := Ideal) x0 x1) _ _ (fun _ => 0) fits
    (fun a => by fin_cases a <;> rfl), updateSlice_apply]
  by_cases h : (j 0).val = 0 ∧ (j 1).val < 512
  · rw [dif_pos h, dif_pos fun a => by
      fin_cases a
      · exact ⟨Nat.zero_le _, show (j 0).val < 0 + 1 by omega⟩
      · exact ⟨Nat.zero_le _, show (j 1).val < 0 + 512 by omega⟩
      · exact ⟨Nat.zero_le _, show (j 2).val < 0 + 1408 from lt_of_lt_of_eq (j 2).isLt (Nat.zero_add 1408).symm⟩]
    rw [val_main_v5_apply]
    exact (congrArg (val_main_v4 (F := Ideal) x0 x1) (Cert.Finite.ext2 rfl rfl)).trans (tot x0 x1 _ _)
  · rw [dif_neg h, dif_neg fun g => h ⟨?_, ?_⟩]
    · have := (g 0).2
      change (j 0).val < 0 + 1 at this
      omega
    · have := (g 1).2
      change (j 1).val < 0 + 512 at this
      omega

end Reference

end Cert.Addc
end
-- ==== Proof.AddcClaims.lean ====
/- Untrusted: the claims about the sum of the chips' parts. -/
module

public import proofs.«01_k».proof.Defs
public import proofs.«01_k».proof.Proof.Addc
public import proofs.«01_k».proof.Proof.Gen.AddcK.Frame
public import proofs.«01_k».proof.Proof.Gen.AddcRIdeal.Run
public import Idealize.ShloMosaic.Adequacy
public import Idealize.ShloMosaic.Lib.Quiescent

@[expose] public section

noncomputable section

namespace Cert.Addc

open Idealize.ShloMosaic Idealize.ShloMosaic.TcCoe Idealize.SL.Sem

/-- The reference's runs end with its counters at zero. -/
theorem quiescentR : quiescent_AddcRIdeal := fun m ρ _ =>
  (θ_run Cert.AddcRIdeal.defs _ _).mono (fun r h => ⟨fun c => (h c).2, sem_eq_zero_of_no_sems (by decide) r.2⟩)
    (Cert.AddcRIdeal.Value.run (F := Ideal) m ρ)

/-- The kernel's sums are the reference's, on every argument. -/
theorem algebraic : algebraic_AddcKIdeal_AddcRIdeal := by
  intro m ρ m' ρ' _ hagree
  refine ⟨_, Cert.AddcKIdeal.Value.run_blocks (F := Ideal) m ρ, ?_⟩
  refine (θ_run Cert.AddcRIdeal.defs _ _).mono (fun _ h c => ⟨?_, (h c).2⟩) (Cert.AddcRIdeal.Value.run (F := Ideal) m' ρ')
  refine ((h c).1.trans (Cert.AddcRIdeal.Read.val_main_v6_eq (F := Ideal) _ _ _)).trans ?_
  rw [(hagree c).1, (hagree c).2.1, (hagree c).2.2]
  exact (ref _ _ _).trans (final m c).symm

end Cert.Addc
end
-- ==== Proof.lean ====
module

public import proofs.«01_k».proof.Defs
public import proofs.«01_k».proof.Proof.DactClaims
public import proofs.«01_k».proof.Proof.ConvClaims
public import proofs.«01_k».proof.Proof.AttbClaims
public import proofs.«01_k».proof.Proof.DwoutClaims
public import proofs.«01_k».proof.Proof.LossClaims
public import proofs.«01_k».proof.Proof.FfndhClaims
public import proofs.«01_k».proof.Proof.EvdhClaims
public import proofs.«01_k».proof.Proof.OddhClaims
public import proofs.«01_k».proof.Proof.QkbClaims
public import proofs.«01_k».proof.Proof.AttfClaims
public import proofs.«01_k».proof.Proof.ConvfClaims
public import proofs.«01_k».proof.Proof.FfninClaims
public import proofs.«01_k».proof.Proof.FfnoutClaims
public import proofs.«01_k».proof.Proof.RmsfClaims
public import proofs.«01_k».proof.Proof.QkfClaims
public import proofs.«01_k».proof.Proof.PinClaims
public import proofs.«01_k».proof.Proof.PoutClaims
public import proofs.«01_k».proof.Proof.DmixClaims
public import proofs.«01_k».proof.Proof.MdwClaims
public import proofs.«01_k».proof.Proof.MdwinClaims
public import proofs.«01_k».proof.Proof.FdwinClaims
public import proofs.«01_k».proof.Proof.OddfClaims
public import proofs.«01_k».proof.Proof.OddbClaims
public import proofs.«01_k».proof.Proof.AdamClaims
public import proofs.«01_k».proof.Proof.AddsClaims
public import proofs.«01_k».proof.Proof.AddcClaims

@[expose] public section

noncomputable section

namespace Cert.Proof

open Idealize.ShloMosaic Idealize.SL.Sem

theorem claim : Cert.Claim := ⟨Cert.DactK.Gen.facts, Cert.DactKIdeal.Gen.facts, Cert.DactRIdeal.Gen.facts,
  Cert.ConvK.Gen.facts, Cert.ConvKIdeal.Gen.facts, Cert.ConvRIdeal.Gen.facts,
  Cert.AttbK.Gen.facts, Cert.AttbKIdeal.Gen.facts, Cert.AttbRIdeal.Gen.facts,
  Cert.DwoutK.Gen.facts, Cert.DwoutKIdeal.Gen.facts, Cert.DwoutRIdeal.Gen.facts,
  Cert.LossK.Gen.facts, Cert.LossKIdeal.Gen.facts, Cert.LossRIdeal.Gen.facts,
  Cert.FfndhK.Gen.facts, Cert.FfndhKIdeal.Gen.facts, Cert.FfndhRIdeal.Gen.facts,
  Cert.EvdhK.Gen.facts, Cert.EvdhKIdeal.Gen.facts, Cert.EvdhRIdeal.Gen.facts,
  Cert.OddhK.Gen.facts, Cert.OddhKIdeal.Gen.facts, Cert.OddhRIdeal.Gen.facts,
  Cert.QkbK.Gen.facts, Cert.QkbKIdeal.Gen.facts, Cert.QkbRIdeal.Gen.facts,
  Cert.AttfK.Gen.facts, Cert.AttfKIdeal.Gen.facts, Cert.AttfRIdeal.Gen.facts,
  Cert.ConvfK.Gen.facts, Cert.ConvfKIdeal.Gen.facts, Cert.ConvfRIdeal.Gen.facts,
  Cert.FfninK.Gen.facts, Cert.FfninKIdeal.Gen.facts, Cert.FfninRIdeal.Gen.facts,
  Cert.FfnoutK.Gen.facts, Cert.FfnoutKIdeal.Gen.facts, Cert.FfnoutRIdeal.Gen.facts,
  Cert.RmsfK.Gen.facts, Cert.RmsfKIdeal.Gen.facts, Cert.RmsfRIdeal.Gen.facts,
  Cert.QkfK.Gen.facts, Cert.QkfKIdeal.Gen.facts, Cert.QkfRIdeal.Gen.facts,
  Cert.PinK.Gen.facts, Cert.PinKIdeal.Gen.facts, Cert.PinRIdeal.Gen.facts,
  Cert.PoutK.Gen.facts, Cert.PoutKIdeal.Gen.facts, Cert.PoutRIdeal.Gen.facts,
  Cert.DmixK.Gen.facts, Cert.DmixKIdeal.Gen.facts, Cert.DmixRIdeal.Gen.facts,
  Cert.MdwK.Gen.facts, Cert.MdwKIdeal.Gen.facts, Cert.MdwRIdeal.Gen.facts,
  Cert.MdwinK.Gen.facts, Cert.MdwinKIdeal.Gen.facts, Cert.MdwinRIdeal.Gen.facts,
  Cert.FdwinK.Gen.facts, Cert.FdwinKIdeal.Gen.facts, Cert.FdwinRIdeal.Gen.facts,
  Cert.OddfK.Gen.facts, Cert.OddfKIdeal.Gen.facts, Cert.OddfRIdeal.Gen.facts,
  Cert.OddbK.Gen.facts, Cert.OddbKIdeal.Gen.facts, Cert.OddbRIdeal.Gen.facts,
  Cert.AdamK.Gen.facts, Cert.AdamKIdeal.Gen.facts, Cert.AdamRIdeal.Gen.facts,
  Cert.AddsK.Gen.facts, Cert.AddsKIdeal.Gen.facts, Cert.AddsRIdeal.Gen.facts,
  Cert.AddcK.Gen.facts, Cert.AddcKIdeal.Gen.facts, Cert.AddcRIdeal.Gen.facts,
  Cert.Dact.preFacts,
  Cert.Attb.preFacts,
  Cert.Loss.preFacts,
  Cert.Ffndh.preFacts,
  Cert.Evdh.preFacts,
  Cert.Oddh.preFacts,
  Cert.Qkb.preFacts,
  Cert.Attf.preFacts,
  Cert.Qkf.preFacts,
  fun m ρ _ => Cert.DactK.Gen.frame m ρ, fun m ρ _ => Cert.DactKIdeal.Gen.frame m ρ, fun m ρ _ => Cert.DactKIdeal.Gen.frame m ρ,
  Cert.Dact.quiescentR, fun m ρ _ => Cert.Dact.quiescentR m ρ trivial,
  fun m ρ _ => Cert.ConvK.Gen.frame m ρ, fun m ρ _ => Cert.ConvKIdeal.Gen.frame m ρ, Cert.Conv.quiescentR,
  fun m ρ _ => Cert.AttbK.Gen.frame m ρ, fun m ρ _ => Cert.AttbKIdeal.Gen.frame m ρ, fun m ρ _ => Cert.AttbKIdeal.Gen.frame m ρ,
  Cert.Attb.quiescentR, fun m ρ _ => Cert.Attb.quiescentR m ρ trivial,
  fun m ρ _ => Cert.DwoutK.Gen.frame m ρ, fun m ρ _ => Cert.DwoutKIdeal.Gen.frame m ρ, Cert.Dwout.quiescentR,
  fun m ρ _ => Cert.LossK.Gen.frame m ρ, fun m ρ _ => Cert.LossKIdeal.Gen.frame m ρ, fun m ρ _ => Cert.LossKIdeal.Gen.frame m ρ,
  Cert.Loss.quiescentR, fun m ρ _ => Cert.Loss.quiescentR m ρ trivial,
  fun m ρ _ => Cert.FfndhK.Gen.frame m ρ, fun m ρ _ => Cert.FfndhKIdeal.Gen.frame m ρ, fun m ρ _ => Cert.FfndhKIdeal.Gen.frame m ρ,
  Cert.Ffndh.quiescentR, fun m ρ _ => Cert.Ffndh.quiescentR m ρ trivial,
  fun m ρ _ => Cert.EvdhK.Gen.frame m ρ, fun m ρ _ => Cert.EvdhKIdeal.Gen.frame m ρ, fun m ρ _ => Cert.EvdhKIdeal.Gen.frame m ρ,
  Cert.Evdh.quiescentR, fun m ρ _ => Cert.Evdh.quiescentR m ρ trivial,
  fun m ρ _ => Cert.OddhK.Gen.frame m ρ, fun m ρ _ => Cert.OddhKIdeal.Gen.frame m ρ, fun m ρ _ => Cert.OddhKIdeal.Gen.frame m ρ,
  Cert.Oddh.quiescentR, fun m ρ _ => Cert.Oddh.quiescentR m ρ trivial,
  fun m ρ _ => Cert.QkbK.Gen.frame m ρ, fun m ρ _ => Cert.QkbKIdeal.Gen.frame m ρ, fun m ρ _ => Cert.QkbKIdeal.Gen.frame m ρ,
  Cert.Qkb.quiescentR, fun m ρ _ => Cert.Qkb.quiescentR m ρ trivial,
  fun m ρ _ => Cert.AttfK.Gen.frame m ρ, fun m ρ _ => Cert.AttfKIdeal.Gen.frame m ρ, fun m ρ _ => Cert.AttfKIdeal.Gen.frame m ρ,
  Cert.Attf.quiescentR, fun m ρ _ => Cert.Attf.quiescentR m ρ trivial,
  fun m ρ _ => Cert.ConvfK.Gen.frame m ρ, fun m ρ _ => Cert.ConvfKIdeal.Gen.frame m ρ, Cert.Convf.quiescentR,
  fun m ρ _ => Cert.FfninK.Gen.frame m ρ, fun m ρ _ => Cert.FfninKIdeal.Gen.frame m ρ, Cert.Ffnin.quiescentR,
  fun m ρ _ => Cert.FfnoutK.Gen.frame m ρ, fun m ρ _ => Cert.FfnoutKIdeal.Gen.frame m ρ, Cert.Ffnout.quiescentR,
  fun m ρ _ => Cert.RmsfK.Gen.frame m ρ, fun m ρ _ => Cert.RmsfKIdeal.Gen.frame m ρ, Cert.Rmsf.quiescentR,
  fun m ρ _ => Cert.QkfK.Gen.frame m ρ, fun m ρ _ => Cert.QkfKIdeal.Gen.frame m ρ, fun m ρ _ => Cert.QkfKIdeal.Gen.frame m ρ,
  Cert.Qkf.quiescentR, fun m ρ _ => Cert.Qkf.quiescentR m ρ trivial,
  fun m ρ _ => Cert.PinK.Gen.frame m ρ, fun m ρ _ => Cert.PinKIdeal.Gen.frame m ρ, Cert.Pin.quiescentR,
  fun m ρ _ => Cert.PoutK.Gen.frame m ρ, fun m ρ _ => Cert.PoutKIdeal.Gen.frame m ρ, Cert.Pout.quiescentR,
  fun m ρ _ => Cert.DmixK.Gen.frame m ρ, fun m ρ _ => Cert.DmixKIdeal.Gen.frame m ρ, Cert.Dmix.quiescentR,
  fun m ρ _ => Cert.MdwK.Gen.frame m ρ, fun m ρ _ => Cert.MdwKIdeal.Gen.frame m ρ, Cert.Mdw.quiescentR,
  fun m ρ _ => Cert.MdwinK.Gen.frame m ρ, fun m ρ _ => Cert.MdwinKIdeal.Gen.frame m ρ, Cert.Mdwin.quiescentR,
  fun m ρ _ => Cert.FdwinK.Gen.frame m ρ, fun m ρ _ => Cert.FdwinKIdeal.Gen.frame m ρ, Cert.Fdwin.quiescentR,
  fun m ρ _ => Cert.OddfK.Gen.frame m ρ, fun m ρ _ => Cert.OddfKIdeal.Gen.frame m ρ, Cert.Oddf.quiescentR,
  Cert.Oddb.quiescentK, Cert.Oddb.quiescentKI, Cert.Oddb.quiescentR,
  fun m ρ _ => Cert.AdamK.Gen.frame m ρ, fun m ρ _ => Cert.AdamKIdeal.Gen.frame m ρ, Cert.Adam.quiescentR,
  fun m ρ _ => Cert.AddsK.Gen.frame m ρ, fun m ρ _ => Cert.AddsKIdeal.Gen.frame m ρ, Cert.Adds.quiescentR,
  fun m ρ _ => Cert.AddcK.Gen.frame m ρ, fun m ρ _ => Cert.AddcKIdeal.Gen.frame m ρ, Cert.Addc.quiescentR,
  (trivial : preserves_DactK_DactKIdeal), @Cert.Dact.algebraic Cert.Dact.preFacts,
  (trivial : preserves_ConvK_ConvKIdeal), Cert.Conv.algebraic,
  (trivial : preserves_AttbK_AttbKIdeal), @Cert.Attb.algebraic Cert.Attb.preFacts,
  (trivial : preserves_DwoutK_DwoutKIdeal), Cert.Dwout.algebraic,
  (trivial : preserves_LossK_LossKIdeal), @Cert.Loss.algebraic Cert.Loss.preFacts,
  (trivial : preserves_FfndhK_FfndhKIdeal), @Cert.Ffndh.algebraic Cert.Ffndh.preFacts,
  (trivial : preserves_EvdhK_EvdhKIdeal), @Cert.Evdh.algebraic Cert.Evdh.preFacts,
  (trivial : preserves_OddhK_OddhKIdeal), @Cert.Oddh.algebraic Cert.Oddh.preFacts,
  (trivial : preserves_QkbK_QkbKIdeal), @Cert.Qkb.algebraic Cert.Qkb.preFacts,
  (trivial : preserves_AttfK_AttfKIdeal), @Cert.Attf.algebraic Cert.Attf.preFacts,
  (trivial : preserves_ConvfK_ConvfKIdeal), Cert.Convf.algebraic,
  (trivial : preserves_FfninK_FfninKIdeal), Cert.Ffnin.algebraic,
  (trivial : preserves_FfnoutK_FfnoutKIdeal), Cert.Ffnout.algebraic,
  (trivial : preserves_RmsfK_RmsfKIdeal), Cert.Rmsf.algebraic,
  (trivial : preserves_QkfK_QkfKIdeal), @Cert.Qkf.algebraic Cert.Qkf.preFacts,
  (trivial : preserves_PinK_PinKIdeal), Cert.Pin.algebraic,
  (trivial : preserves_PoutK_PoutKIdeal), Cert.Pout.algebraic,
  (trivial : preserves_DmixK_DmixKIdeal), Cert.Dmix.algebraic,
  (trivial : preserves_MdwK_MdwKIdeal), Cert.Mdw.algebraic,
  (trivial : preserves_MdwinK_MdwinKIdeal), Cert.Mdwin.algebraic,
  (trivial : preserves_FdwinK_FdwinKIdeal), Cert.Fdwin.algebraic,
  (trivial : preserves_OddfK_OddfKIdeal),
  (trivial : preserves_OddbK_OddbKIdeal),
  (trivial : preserves_AdamK_AdamKIdeal), Cert.Adam.algebraic,
  (trivial : preserves_AddsK_AddsKIdeal), Cert.Adds.algebraic,
  (trivial : preserves_AddcK_AddcKIdeal), Cert.Addc.algebraic⟩

end Cert.Proof

end
